-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_finite_foxb [hPre_finite_foxb : Cert.Pre_finite_foxb.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_finite_foxb.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).1 = (fun _ => 1#1)
    ∧ (Cert.Pre_finite_foxb.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.1 = (fun _ => 1#1)
    ∧ (Cert.Pre_finite_foxb.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.1 = (fun _ => 1#1)
    ∧ (Cert.Pre_finite_foxb.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.1 = (fun _ => 1#1)
    ∧ (Cert.Pre_finite_foxb.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.2 = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_foxb [hPre_finite_foxb : Cert.Pre_finite_foxb.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_foxb.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).1 = (fun _ => 1#1)
    ∧ (Cert.Pre_finite_foxb.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.1 = (fun _ => 1#1)
    ∧ (Cert.Pre_finite_foxb.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.1 = (fun _ => 1#1)
    ∧ (Cert.Pre_finite_foxb.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.2.1 = (fun _ => 1#1)
    ∧ (Cert.Pre_finite_foxb.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.2.2 = (fun _ => 1#1)

def Pre_FoxFwdKernel (m : (ℓ : Loc Cert.FoxFwdKernel.nD Cert.FoxFwdKernel.τ Cert.FoxFwdKernel.sig) → Buf (Elt Bits) ℓ) : Prop :=
  True

def Pre_FoxFwdKernelIdeal (m : (ℓ : Loc Cert.FoxFwdKernelIdeal.nD Cert.FoxFwdKernelIdeal.τ Cert.FoxFwdKernelIdeal.sig) → Buf (Elt Ideal) ℓ) : Prop :=
  True

def Pre_FoxFwdKernelIdeal_finite_foxf [hPre_finite_foxf : Cert.Pre_finite_foxf.Facts] (m : (ℓ : Loc Cert.FoxFwdKernelIdeal.nD Cert.FoxFwdKernelIdeal.τ Cert.FoxFwdKernelIdeal.sig) → Buf (Elt Ideal) ℓ) : Prop :=
  ∀ c : Dev Cert.FoxFwdKernelIdeal.nD,
    (Cert.Pre_finite_foxf.fn (F := Ideal) (m ((c.tc : Thread Cert.FoxFwdKernelIdeal.nD Cert.FoxFwdKernelIdeal.τ).loc Cert.FoxFwdKernelIdeal.main_arg0)) (m ((c.tc : Thread Cert.FoxFwdKernelIdeal.nD Cert.FoxFwdKernelIdeal.τ).loc Cert.FoxFwdKernelIdeal.main_arg1)) (m ((c.tc : Thread Cert.FoxFwdKernelIdeal.nD Cert.FoxFwdKernelIdeal.τ).loc Cert.FoxFwdKernelIdeal.main_arg2)) (m ((c.tc : Thread Cert.FoxFwdKernelIdeal.nD Cert.FoxFwdKernelIdeal.τ).loc Cert.FoxFwdKernelIdeal.main_arg3))).1 = (fun _ => 1#1)
    ∧ (Cert.Pre_finite_foxf.fn (F := Ideal) (m ((c.tc : Thread Cert.FoxFwdKernelIdeal.nD Cert.FoxFwdKernelIdeal.τ).loc Cert.FoxFwdKernelIdeal.main_arg0)) (m ((c.tc : Thread Cert.FoxFwdKernelIdeal.nD Cert.FoxFwdKernelIdeal.τ).loc Cert.FoxFwdKernelIdeal.main_arg1)) (m ((c.tc : Thread Cert.FoxFwdKernelIdeal.nD Cert.FoxFwdKernelIdeal.τ).loc Cert.FoxFwdKernelIdeal.main_arg2)) (m ((c.tc : Thread Cert.FoxFwdKernelIdeal.nD Cert.FoxFwdKernelIdeal.τ).loc Cert.FoxFwdKernelIdeal.main_arg3))).2.1 = (fun _ => 1#1)
    ∧ (Cert.Pre_finite_foxf.fn (F := Ideal) (m ((c.tc : Thread Cert.FoxFwdKernelIdeal.nD Cert.FoxFwdKernelIdeal.τ).loc Cert.FoxFwdKernelIdeal.main_arg0)) (m ((c.tc : Thread Cert.FoxFwdKernelIdeal.nD Cert.FoxFwdKernelIdeal.τ).loc Cert.FoxFwdKernelIdeal.main_arg1)) (m ((c.tc : Thread Cert.FoxFwdKernelIdeal.nD Cert.FoxFwdKernelIdeal.τ).loc Cert.FoxFwdKernelIdeal.main_arg2)) (m ((c.tc : Thread Cert.FoxFwdKernelIdeal.nD Cert.FoxFwdKernelIdeal.τ).loc Cert.FoxFwdKernelIdeal.main_arg3))).2.2.1 = (fun _ => 1#1)
    ∧ (Cert.Pre_finite_foxf.fn (F := Ideal) (m ((c.tc : Thread Cert.FoxFwdKernelIdeal.nD Cert.FoxFwdKernelIdeal.τ).loc Cert.FoxFwdKernelIdeal.main_arg0)) (m ((c.tc : Thread Cert.FoxFwdKernelIdeal.nD Cert.FoxFwdKernelIdeal.τ).loc Cert.FoxFwdKernelIdeal.main_arg1)) (m ((c.tc : Thread Cert.FoxFwdKernelIdeal.nD Cert.FoxFwdKernelIdeal.τ).loc Cert.FoxFwdKernelIdeal.main_arg2)) (m ((c.tc : Thread Cert.FoxFwdKernelIdeal.nD Cert.FoxFwdKernelIdeal.τ).loc Cert.FoxFwdKernelIdeal.main_arg3))).2.2.2 = (fun _ => 1#1)

def Pre_FoxFwdReferenceIdeal (m : (ℓ : Loc Cert.FoxFwdReferenceIdeal.nD Cert.FoxFwdReferenceIdeal.τ Cert.FoxFwdReferenceIdeal.sig) → Buf (Elt Ideal) ℓ) : Prop :=
  True

def Pre_FoxFwdReferenceIdeal_finite_foxf [hPre_finite_foxf : Cert.Pre_finite_foxf.Facts] (m : (ℓ : Loc Cert.FoxFwdReferenceIdeal.nD Cert.FoxFwdReferenceIdeal.τ Cert.FoxFwdReferenceIdeal.sig) → Buf (Elt Ideal) ℓ) : Prop :=
  ∀ c : Dev Cert.FoxFwdReferenceIdeal.nD,
    (Cert.Pre_finite_foxf.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1)) (m ((c.tc : Thread Cert.FoxFwdReferenceIdeal.nD Cert.FoxFwdReferenceIdeal.τ).loc Cert.FoxFwdReferenceIdeal.main_arg2)) (m ((c.tc : Thread Cert.FoxFwdReferenceIdeal.nD Cert.FoxFwdReferenceIdeal.τ).loc Cert.FoxFwdReferenceIdeal.main_arg3))).1 = (fun _ => 1#1)
    ∧ (Cert.Pre_finite_foxf.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1)) (m ((c.tc : Thread Cert.FoxFwdReferenceIdeal.nD Cert.FoxFwdReferenceIdeal.τ).loc Cert.FoxFwdReferenceIdeal.main_arg2)) (m ((c.tc : Thread Cert.FoxFwdReferenceIdeal.nD Cert.FoxFwdReferenceIdeal.τ).loc Cert.FoxFwdReferenceIdeal.main_arg3))).2.1 = (fun _ => 1#1)
    ∧ (Cert.Pre_finite_foxf.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1)) (m ((c.tc : Thread Cert.FoxFwdReferenceIdeal.nD Cert.FoxFwdReferenceIdeal.τ).loc Cert.FoxFwdReferenceIdeal.main_arg2)) (m ((c.tc : Thread Cert.FoxFwdReferenceIdeal.nD Cert.FoxFwdReferenceIdeal.τ).loc Cert.FoxFwdReferenceIdeal.main_arg3))).2.2.1 = (fun _ => 1#1)
    ∧ (Cert.Pre_finite_foxf.fn (F := Ideal) (m ((c.tc : Thread Cert.FoxFwdReferenceIdeal.nD Cert.FoxFwdReferenceIdeal.τ).loc Cert.FoxFwdReferenceIdeal.main_arg0)) (m ((c.tc : Thread Cert.FoxFwdReferenceIdeal.nD Cert.FoxFwdReferenceIdeal.τ).loc Cert.FoxFwdReferenceIdeal.main_arg1)) (m ((c.tc : Thread Cert.FoxFwdReferenceIdeal.nD Cert.FoxFwdReferenceIdeal.τ).loc Cert.FoxFwdReferenceIdeal.main_arg2)) (m ((c.tc : Thread Cert.FoxFwdReferenceIdeal.nD Cert.FoxFwdReferenceIdeal.τ).loc Cert.FoxFwdReferenceIdeal.main_arg3))).2.2.2 = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_finite_norm2 [hPre_finite_norm2 : Cert.Pre_finite_norm2.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_finite_norm2.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).1 = (fun _ => 1#1)
    ∧ (Cert.Pre_finite_norm2.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).2.1 = (fun _ => 1#1)
    ∧ (Cert.Pre_finite_norm2.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).2.2.1 = (fun _ => 1#1)
    ∧ (Cert.Pre_finite_norm2.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1)) (m ((c.tc : Thread Cert.NormKernelIdeal.nD Cert.NormKernelIdeal.τ).loc Cert.NormKernelIdeal.main_arg2)) (m ((c.tc : Thread Cert.NormKernelIdeal.nD Cert.NormKernelIdeal.τ).loc Cert.NormKernelIdeal.main_arg3)) (m ((c.tc : Thread Cert.NormKernelIdeal.nD Cert.NormKernelIdeal.τ).loc Cert.NormKernelIdeal.main_arg4)) (m ((c.tc : Thread Cert.NormKernelIdeal.nD Cert.NormKernelIdeal.τ).loc Cert.NormKernelIdeal.main_arg5))).2.2.2 = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_finite_norm2 [hPre_finite_norm2 : Cert.Pre_finite_norm2.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_finite_norm2.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).1 = (fun _ => 1#1)
    ∧ (Cert.Pre_finite_norm2.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).2.1 = (fun _ => 1#1)
    ∧ (Cert.Pre_finite_norm2.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).2.2.1 = (fun _ => 1#1)
    ∧ (Cert.Pre_finite_norm2.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1)) (m ((c.tc : Thread Cert.NormReferenceIdeal.nD Cert.NormReferenceIdeal.τ).loc Cert.NormReferenceIdeal.main_arg2)) (m ((c.tc : Thread Cert.NormReferenceIdeal.nD Cert.NormReferenceIdeal.τ).loc Cert.NormReferenceIdeal.main_arg3)) (m ((c.tc : Thread Cert.NormReferenceIdeal.nD Cert.NormReferenceIdeal.τ).loc Cert.NormReferenceIdeal.main_arg4)) (m ((c.tc : Thread Cert.NormReferenceIdeal.nD Cert.NormReferenceIdeal.τ).loc Cert.NormReferenceIdeal.main_arg5))).2.2.2 = (fun _ => 1#1)

def Pre_NormInKernel (m : (ℓ : Loc Cert.NormInKernel.nD Cert.NormInKernel.τ Cert.NormInKernel.sig) → Buf (Elt Bits) ℓ) : Prop :=
  True

def Pre_NormInKernelIdeal (m : (ℓ : Loc Cert.NormInKernelIdeal.nD Cert.NormInKernelIdeal.τ Cert.NormInKernelIdeal.sig) → Buf (Elt Ideal) ℓ) : Prop :=
  True

def Pre_NormInKernelIdeal_finite_norm1 [hPre_finite_norm1 : Cert.Pre_finite_norm1.Facts] (m : (ℓ : Loc Cert.NormInKernelIdeal.nD Cert.NormInKernelIdeal.τ Cert.NormInKernelIdeal.sig) → Buf (Elt Ideal) ℓ) : Prop :=
  ∀ c : Dev Cert.NormInKernelIdeal.nD,
    (Cert.Pre_finite_norm1.fn (F := Ideal) (m ((c.tc : Thread Cert.NormInKernelIdeal.nD Cert.NormInKernelIdeal.τ).loc Cert.NormInKernelIdeal.main_arg0)) (m ((c.tc : Thread Cert.NormInKernelIdeal.nD Cert.NormInKernelIdeal.τ).loc Cert.NormInKernelIdeal.main_arg1)) (m ((c.tc : Thread Cert.NormInKernelIdeal.nD Cert.NormInKernelIdeal.τ).loc Cert.NormInKernelIdeal.main_arg2)) (m ((c.tc : Thread Cert.NormInKernelIdeal.nD Cert.NormInKernelIdeal.τ).loc Cert.NormInKernelIdeal.main_arg3)) (m ((c.tc : Thread Cert.NormInKernelIdeal.nD Cert.NormInKernelIdeal.τ).loc Cert.NormInKernelIdeal.main_arg4))).1 = (fun _ => 1#1)
    ∧ (Cert.Pre_finite_norm1.fn (F := Ideal) (m ((c.tc : Thread Cert.NormInKernelIdeal.nD Cert.NormInKernelIdeal.τ).loc Cert.NormInKernelIdeal.main_arg0)) (m ((c.tc : Thread Cert.NormInKernelIdeal.nD Cert.NormInKernelIdeal.τ).loc Cert.NormInKernelIdeal.main_arg1)) (m ((c.tc : Thread Cert.NormInKernelIdeal.nD Cert.NormInKernelIdeal.τ).loc Cert.NormInKernelIdeal.main_arg2)) (m ((c.tc : Thread Cert.NormInKernelIdeal.nD Cert.NormInKernelIdeal.τ).loc Cert.NormInKernelIdeal.main_arg3)) (m ((c.tc : Thread Cert.NormInKernelIdeal.nD Cert.NormInKernelIdeal.τ).loc Cert.NormInKernelIdeal.main_arg4))).2.1 = (fun _ => 1#1)
    ∧ (Cert.Pre_finite_norm1.fn (F := Ideal) (m ((c.tc : Thread Cert.NormInKernelIdeal.nD Cert.NormInKernelIdeal.τ).loc Cert.NormInKernelIdeal.main_arg0)) (m ((c.tc : Thread Cert.NormInKernelIdeal.nD Cert.NormInKernelIdeal.τ).loc Cert.NormInKernelIdeal.main_arg1)) (m ((c.tc : Thread Cert.NormInKernelIdeal.nD Cert.NormInKernelIdeal.τ).loc Cert.NormInKernelIdeal.main_arg2)) (m ((c.tc : Thread Cert.NormInKernelIdeal.nD Cert.NormInKernelIdeal.τ).loc Cert.NormInKernelIdeal.main_arg3)) (m ((c.tc : Thread Cert.NormInKernelIdeal.nD Cert.NormInKernelIdeal.τ).loc Cert.NormInKernelIdeal.main_arg4))).2.2.1 = (fun _ => 1#1)
    ∧ (Cert.Pre_finite_norm1.fn (F := Ideal) (m ((c.tc : Thread Cert.NormInKernelIdeal.nD Cert.NormInKernelIdeal.τ).loc Cert.NormInKernelIdeal.main_arg0)) (m ((c.tc : Thread Cert.NormInKernelIdeal.nD Cert.NormInKernelIdeal.τ).loc Cert.NormInKernelIdeal.main_arg1)) (m ((c.tc : Thread Cert.NormInKernelIdeal.nD Cert.NormInKernelIdeal.τ).loc Cert.NormInKernelIdeal.main_arg2)) (m ((c.tc : Thread Cert.NormInKernelIdeal.nD Cert.NormInKernelIdeal.τ).loc Cert.NormInKernelIdeal.main_arg3)) (m ((c.tc : Thread Cert.NormInKernelIdeal.nD Cert.NormInKernelIdeal.τ).loc Cert.NormInKernelIdeal.main_arg4))).2.2.2 = (fun _ => 1#1)

def Pre_NormInReferenceIdeal (m : (ℓ : Loc Cert.NormInReferenceIdeal.nD Cert.NormInReferenceIdeal.τ Cert.NormInReferenceIdeal.sig) → Buf (Elt Ideal) ℓ) : Prop :=
  True

def Pre_NormInReferenceIdeal_finite_norm1 [hPre_finite_norm1 : Cert.Pre_finite_norm1.Facts] (m : (ℓ : Loc Cert.NormInReferenceIdeal.nD Cert.NormInReferenceIdeal.τ Cert.NormInReferenceIdeal.sig) → Buf (Elt Ideal) ℓ) : Prop :=
  ∀ c : Dev Cert.NormInReferenceIdeal.nD,
    (Cert.Pre_finite_norm1.fn (F := Ideal) (m ((c.tc : Thread Cert.NormInReferenceIdeal.nD Cert.NormInReferenceIdeal.τ).loc Cert.NormInReferenceIdeal.main_arg0)) (m ((c.tc : Thread Cert.NormInReferenceIdeal.nD Cert.NormInReferenceIdeal.τ).loc Cert.NormInReferenceIdeal.main_arg1)) (m ((c.tc : Thread Cert.NormInReferenceIdeal.nD Cert.NormInReferenceIdeal.τ).loc Cert.NormInReferenceIdeal.main_arg2)) (m ((c.tc : Thread Cert.NormInReferenceIdeal.nD Cert.NormInReferenceIdeal.τ).loc Cert.NormInReferenceIdeal.main_arg3)) (m ((c.tc : Thread Cert.NormInReferenceIdeal.nD Cert.NormInReferenceIdeal.τ).loc Cert.NormInReferenceIdeal.main_arg4))).1 = (fun _ => 1#1)
    ∧ (Cert.Pre_finite_norm1.fn (F := Ideal) (m ((c.tc : Thread Cert.NormInReferenceIdeal.nD Cert.NormInReferenceIdeal.τ).loc Cert.NormInReferenceIdeal.main_arg0)) (m ((c.tc : Thread Cert.NormInReferenceIdeal.nD Cert.NormInReferenceIdeal.τ).loc Cert.NormInReferenceIdeal.main_arg1)) (m ((c.tc : Thread Cert.NormInReferenceIdeal.nD Cert.NormInReferenceIdeal.τ).loc Cert.NormInReferenceIdeal.main_arg2)) (m ((c.tc : Thread Cert.NormInReferenceIdeal.nD Cert.NormInReferenceIdeal.τ).loc Cert.NormInReferenceIdeal.main_arg3)) (m ((c.tc : Thread Cert.NormInReferenceIdeal.nD Cert.NormInReferenceIdeal.τ).loc Cert.NormInReferenceIdeal.main_arg4))).2.1 = (fun _ => 1#1)
    ∧ (Cert.Pre_finite_norm1.fn (F := Ideal) (m ((c.tc : Thread Cert.NormInReferenceIdeal.nD Cert.NormInReferenceIdeal.τ).loc Cert.NormInReferenceIdeal.main_arg0)) (m ((c.tc : Thread Cert.NormInReferenceIdeal.nD Cert.NormInReferenceIdeal.τ).loc Cert.NormInReferenceIdeal.main_arg1)) (m ((c.tc : Thread Cert.NormInReferenceIdeal.nD Cert.NormInReferenceIdeal.τ).loc Cert.NormInReferenceIdeal.main_arg2)) (m ((c.tc : Thread Cert.NormInReferenceIdeal.nD Cert.NormInReferenceIdeal.τ).loc Cert.NormInReferenceIdeal.main_arg3)) (m ((c.tc : Thread Cert.NormInReferenceIdeal.nD Cert.NormInReferenceIdeal.τ).loc Cert.NormInReferenceIdeal.main_arg4))).2.2.1 = (fun _ => 1#1)
    ∧ (Cert.Pre_finite_norm1.fn (F := Ideal) (m ((c.tc : Thread Cert.NormInReferenceIdeal.nD Cert.NormInReferenceIdeal.τ).loc Cert.NormInReferenceIdeal.main_arg0)) (m ((c.tc : Thread Cert.NormInReferenceIdeal.nD Cert.NormInReferenceIdeal.τ).loc Cert.NormInReferenceIdeal.main_arg1)) (m ((c.tc : Thread Cert.NormInReferenceIdeal.nD Cert.NormInReferenceIdeal.τ).loc Cert.NormInReferenceIdeal.main_arg2)) (m ((c.tc : Thread Cert.NormInReferenceIdeal.nD Cert.NormInReferenceIdeal.τ).loc Cert.NormInReferenceIdeal.main_arg3)) (m ((c.tc : Thread Cert.NormInReferenceIdeal.nD Cert.NormInReferenceIdeal.τ).loc Cert.NormInReferenceIdeal.main_arg4))).2.2.2 = (fun _ => 1#1)

def Pre_OutProjKernel (m : (ℓ : Loc Cert.OutProjKernel.nD Cert.OutProjKernel.τ Cert.OutProjKernel.sig) → Buf (Elt Bits) ℓ) : Prop :=
  True

def Pre_OutProjKernelIdeal (m : (ℓ : Loc Cert.OutProjKernelIdeal.nD Cert.OutProjKernelIdeal.τ Cert.OutProjKernelIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_InProjKernel (m : (ℓ : Loc Cert.InProjKernel.nD Cert.InProjKernel.τ Cert.InProjKernel.sig) → Buf (Elt Bits) ℓ) : Prop :=
  True

def Pre_InProjKernelIdeal (m : (ℓ : Loc Cert.InProjKernelIdeal.nD Cert.InProjKernelIdeal.τ Cert.InProjKernelIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2.2 = (fun _ => 1#1)

def Pre_UpFfnKernel (m : (ℓ : Loc Cert.UpFfnKernel.nD Cert.UpFfnKernel.τ Cert.UpFfnKernel.sig) → Buf (Elt Bits) ℓ) : Prop :=
  True

def Pre_UpFfnKernelIdeal (m : (ℓ : Loc Cert.UpFfnKernelIdeal.nD Cert.UpFfnKernelIdeal.τ Cert.UpFfnKernelIdeal.sig) → Buf (Elt Ideal) ℓ) : Prop :=
  True

def Pre_UpFfnReferenceIdeal (m : (ℓ : Loc Cert.UpFfnReferenceIdeal.nD Cert.UpFfnReferenceIdeal.τ Cert.UpFfnReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepReferenceIdeal (m : (ℓ : Loc Cert.PrepReferenceIdeal.nD Cert.PrepReferenceIdeal.τ Cert.PrepReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxKernelIdeal_pre_finite_foxb [hFoxKernelIdeal : Cert.FoxKernelIdeal.Facts] [hPre_finite_foxb : Cert.Pre_finite_foxb.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_finite_foxb m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_finite_foxb [hFoxReferenceIdeal : Cert.FoxReferenceIdeal.Facts] [hPre_finite_foxb : Cert.Pre_finite_foxb.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_foxb m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxFwdKernel [hFoxFwdKernel : Cert.FoxFwdKernel.Facts] : Prop :=
  ∀ (m : (ℓ : Loc Cert.FoxFwdKernel.nD Cert.FoxFwdKernel.τ Cert.FoxFwdKernel.sig) → Buf (Elt Bits) ℓ) (g : Dev Cert.FoxFwdKernel.nD → PrngReg), Pre_FoxFwdKernel m →
    θ_run (Cert.FoxFwdKernel.defs (F := Bits)) (onTc (τ := Cert.FoxFwdKernel.τ) (Cert.FoxFwdKernel.main (F := Bits))) ⟨m, fun _ => 0, g⟩ (fun r => (∀ c : Dev Cert.FoxFwdKernel.nD,
      r.2.mem ((c.tc : Thread Cert.FoxFwdKernel.nD Cert.FoxFwdKernel.τ).loc Cert.FoxFwdKernel.main_arg0) = m ((c.tc : Thread Cert.FoxFwdKernel.nD Cert.FoxFwdKernel.τ).loc Cert.FoxFwdKernel.main_arg0)
      ∧ r.2.mem ((c.tc : Thread Cert.FoxFwdKernel.nD Cert.FoxFwdKernel.τ).loc Cert.FoxFwdKernel.main_arg1) = m ((c.tc : Thread Cert.FoxFwdKernel.nD Cert.FoxFwdKernel.τ).loc Cert.FoxFwdKernel.main_arg1)
      ∧ r.2.mem ((c.tc : Thread Cert.FoxFwdKernel.nD Cert.FoxFwdKernel.τ).loc Cert.FoxFwdKernel.main_arg2) = m ((c.tc : Thread Cert.FoxFwdKernel.nD Cert.FoxFwdKernel.τ).loc Cert.FoxFwdKernel.main_arg2)
      ∧ r.2.mem ((c.tc : Thread Cert.FoxFwdKernel.nD Cert.FoxFwdKernel.τ).loc Cert.FoxFwdKernel.main_arg3) = m ((c.tc : Thread Cert.FoxFwdKernel.nD Cert.FoxFwdKernel.τ).loc Cert.FoxFwdKernel.main_arg3))
      ∧ r.2.sem = fun _ => 0)

def quiescent_FoxFwdKernelIdeal [hFoxFwdKernelIdeal : Cert.FoxFwdKernelIdeal.Facts] : Prop :=
  ∀ (m : (ℓ : Loc Cert.FoxFwdKernelIdeal.nD Cert.FoxFwdKernelIdeal.τ Cert.FoxFwdKernelIdeal.sig) → Buf (Elt Ideal) ℓ) (g : Dev Cert.FoxFwdKernelIdeal.nD → PrngReg), Pre_FoxFwdKernelIdeal m →
    θ_run (Cert.FoxFwdKernelIdeal.defs (F := Ideal)) (onTc (τ := Cert.FoxFwdKernelIdeal.τ) (Cert.FoxFwdKernelIdeal.main (F := Ideal))) ⟨m, fun _ => 0, g⟩ (fun r => (∀ c : Dev Cert.FoxFwdKernelIdeal.nD,
      r.2.mem ((c.tc : Thread Cert.FoxFwdKernelIdeal.nD Cert.FoxFwdKernelIdeal.τ).loc Cert.FoxFwdKernelIdeal.main_arg0) = m ((c.tc : Thread Cert.FoxFwdKernelIdeal.nD Cert.FoxFwdKernelIdeal.τ).loc Cert.FoxFwdKernelIdeal.main_arg0)
      ∧ r.2.mem ((c.tc : Thread Cert.FoxFwdKernelIdeal.nD Cert.FoxFwdKernelIdeal.τ).loc Cert.FoxFwdKernelIdeal.main_arg1) = m ((c.tc : Thread Cert.FoxFwdKernelIdeal.nD Cert.FoxFwdKernelIdeal.τ).loc Cert.FoxFwdKernelIdeal.main_arg1)
      ∧ r.2.mem ((c.tc : Thread Cert.FoxFwdKernelIdeal.nD Cert.FoxFwdKernelIdeal.τ).loc Cert.FoxFwdKernelIdeal.main_arg2) = m ((c.tc : Thread Cert.FoxFwdKernelIdeal.nD Cert.FoxFwdKernelIdeal.τ).loc Cert.FoxFwdKernelIdeal.main_arg2)
      ∧ r.2.mem ((c.tc : Thread Cert.FoxFwdKernelIdeal.nD Cert.FoxFwdKernelIdeal.τ).loc Cert.FoxFwdKernelIdeal.main_arg3) = m ((c.tc : Thread Cert.FoxFwdKernelIdeal.nD Cert.FoxFwdKernelIdeal.τ).loc Cert.FoxFwdKernelIdeal.main_arg3))
      ∧ r.2.sem = fun _ => 0)

def quiescent_FoxFwdKernelIdeal_pre_finite_foxf [hFoxFwdKernelIdeal : Cert.FoxFwdKernelIdeal.Facts] [hPre_finite_foxf : Cert.Pre_finite_foxf.Facts] : Prop :=
  ∀ (m : (ℓ : Loc Cert.FoxFwdKernelIdeal.nD Cert.FoxFwdKernelIdeal.τ Cert.FoxFwdKernelIdeal.sig) → Buf (Elt Ideal) ℓ) (g : Dev Cert.FoxFwdKernelIdeal.nD → PrngReg), Pre_FoxFwdKernelIdeal_finite_foxf m →
    θ_run (Cert.FoxFwdKernelIdeal.defs (F := Ideal)) (onTc (τ := Cert.FoxFwdKernelIdeal.τ) (Cert.FoxFwdKernelIdeal.main (F := Ideal))) ⟨m, fun _ => 0, g⟩ (fun r => (∀ c : Dev Cert.FoxFwdKernelIdeal.nD,
      r.2.mem ((c.tc : Thread Cert.FoxFwdKernelIdeal.nD Cert.FoxFwdKernelIdeal.τ).loc Cert.FoxFwdKernelIdeal.main_arg0) = m ((c.tc : Thread Cert.FoxFwdKernelIdeal.nD Cert.FoxFwdKernelIdeal.τ).loc Cert.FoxFwdKernelIdeal.main_arg0)
      ∧ r.2.mem ((c.tc : Thread Cert.FoxFwdKernelIdeal.nD Cert.FoxFwdKernelIdeal.τ).loc Cert.FoxFwdKernelIdeal.main_arg1) = m ((c.tc : Thread Cert.FoxFwdKernelIdeal.nD Cert.FoxFwdKernelIdeal.τ).loc Cert.FoxFwdKernelIdeal.main_arg1)
      ∧ r.2.mem ((c.tc : Thread Cert.FoxFwdKernelIdeal.nD Cert.FoxFwdKernelIdeal.τ).loc Cert.FoxFwdKernelIdeal.main_arg2) = m ((c.tc : Thread Cert.FoxFwdKernelIdeal.nD Cert.FoxFwdKernelIdeal.τ).loc Cert.FoxFwdKernelIdeal.main_arg2)
      ∧ r.2.mem ((c.tc : Thread Cert.FoxFwdKernelIdeal.nD Cert.FoxFwdKernelIdeal.τ).loc Cert.FoxFwdKernelIdeal.main_arg3) = m ((c.tc : Thread Cert.FoxFwdKernelIdeal.nD Cert.FoxFwdKernelIdeal.τ).loc Cert.FoxFwdKernelIdeal.main_arg3))
      ∧ r.2.sem = fun _ => 0)

def quiescent_FoxFwdReferenceIdeal [hFoxFwdReferenceIdeal : Cert.FoxFwdReferenceIdeal.Facts] : Prop :=
  ∀ (m : (ℓ : Loc Cert.FoxFwdReferenceIdeal.nD Cert.FoxFwdReferenceIdeal.τ Cert.FoxFwdReferenceIdeal.sig) → Buf (Elt Ideal) ℓ) (g : Dev Cert.FoxFwdReferenceIdeal.nD → PrngReg), Pre_FoxFwdReferenceIdeal m →
    θ_run (Cert.FoxFwdReferenceIdeal.defs (F := Ideal)) (onTc (τ := Cert.FoxFwdReferenceIdeal.τ) (Cert.FoxFwdReferenceIdeal.main (F := Ideal))) ⟨m, fun _ => 0, g⟩ (fun r => (∀ c : Dev Cert.FoxFwdReferenceIdeal.nD,
      r.2.mem ((c.tc : Thread Cert.FoxFwdReferenceIdeal.nD Cert.FoxFwdReferenceIdeal.τ).loc Cert.FoxFwdReferenceIdeal.main_arg0) = m ((c.tc : Thread Cert.FoxFwdReferenceIdeal.nD Cert.FoxFwdReferenceIdeal.τ).loc Cert.FoxFwdReferenceIdeal.main_arg0)
      ∧ r.2.mem ((c.tc : Thread Cert.FoxFwdReferenceIdeal.nD Cert.FoxFwdReferenceIdeal.τ).loc Cert.FoxFwdReferenceIdeal.main_arg1) = m ((c.tc : Thread Cert.FoxFwdReferenceIdeal.nD Cert.FoxFwdReferenceIdeal.τ).loc Cert.FoxFwdReferenceIdeal.main_arg1)
      ∧ r.2.mem ((c.tc : Thread Cert.FoxFwdReferenceIdeal.nD Cert.FoxFwdReferenceIdeal.τ).loc Cert.FoxFwdReferenceIdeal.main_arg2) = m ((c.tc : Thread Cert.FoxFwdReferenceIdeal.nD Cert.FoxFwdReferenceIdeal.τ).loc Cert.FoxFwdReferenceIdeal.main_arg2)
      ∧ r.2.mem ((c.tc : Thread Cert.FoxFwdReferenceIdeal.nD Cert.FoxFwdReferenceIdeal.τ).loc Cert.FoxFwdReferenceIdeal.main_arg3) = m ((c.tc : Thread Cert.FoxFwdReferenceIdeal.nD Cert.FoxFwdReferenceIdeal.τ).loc Cert.FoxFwdReferenceIdeal.main_arg3))
      ∧ r.2.sem = fun _ => 0)

def quiescent_FoxFwdReferenceIdeal_pre_finite_foxf [hFoxFwdReferenceIdeal : Cert.FoxFwdReferenceIdeal.Facts] [hPre_finite_foxf : Cert.Pre_finite_foxf.Facts] : Prop :=
  ∀ (m : (ℓ : Loc Cert.FoxFwdReferenceIdeal.nD Cert.FoxFwdReferenceIdeal.τ Cert.FoxFwdReferenceIdeal.sig) → Buf (Elt Ideal) ℓ) (g : Dev Cert.FoxFwdReferenceIdeal.nD → PrngReg), Pre_FoxFwdReferenceIdeal_finite_foxf m →
    θ_run (Cert.FoxFwdReferenceIdeal.defs (F := Ideal)) (onTc (τ := Cert.FoxFwdReferenceIdeal.τ) (Cert.FoxFwdReferenceIdeal.main (F := Ideal))) ⟨m, fun _ => 0, g⟩ (fun r => (∀ c : Dev Cert.FoxFwdReferenceIdeal.nD,
      r.2.mem ((c.tc : Thread Cert.FoxFwdReferenceIdeal.nD Cert.FoxFwdReferenceIdeal.τ).loc Cert.FoxFwdReferenceIdeal.main_arg0) = m ((c.tc : Thread Cert.FoxFwdReferenceIdeal.nD Cert.FoxFwdReferenceIdeal.τ).loc Cert.FoxFwdReferenceIdeal.main_arg0)
      ∧ r.2.mem ((c.tc : Thread Cert.FoxFwdReferenceIdeal.nD Cert.FoxFwdReferenceIdeal.τ).loc Cert.FoxFwdReferenceIdeal.main_arg1) = m ((c.tc : Thread Cert.FoxFwdReferenceIdeal.nD Cert.FoxFwdReferenceIdeal.τ).loc Cert.FoxFwdReferenceIdeal.main_arg1)
      ∧ r.2.mem ((c.tc : Thread Cert.FoxFwdReferenceIdeal.nD Cert.FoxFwdReferenceIdeal.τ).loc Cert.FoxFwdReferenceIdeal.main_arg2) = m ((c.tc : Thread Cert.FoxFwdReferenceIdeal.nD Cert.FoxFwdReferenceIdeal.τ).loc Cert.FoxFwdReferenceIdeal.main_arg2)
      ∧ r.2.mem ((c.tc : Thread Cert.FoxFwdReferenceIdeal.nD Cert.FoxFwdReferenceIdeal.τ).loc Cert.FoxFwdReferenceIdeal.main_arg3) = m ((c.tc : Thread Cert.FoxFwdReferenceIdeal.nD Cert.FoxFwdReferenceIdeal.τ).loc Cert.FoxFwdReferenceIdeal.main_arg3))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3)
      ∧ r.2.mem ((c.tc : Thread Cert.NormKernel.nD Cert.NormKernel.τ).loc Cert.NormKernel.main_arg4) = m ((c.tc : Thread Cert.NormKernel.nD Cert.NormKernel.τ).loc Cert.NormKernel.main_arg4)
      ∧ r.2.mem ((c.tc : Thread Cert.NormKernel.nD Cert.NormKernel.τ).loc Cert.NormKernel.main_arg5) = m ((c.tc : Thread Cert.NormKernel.nD Cert.NormKernel.τ).loc Cert.NormKernel.main_arg5))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormKernelIdeal_pre_finite_norm2 [hNormKernelIdeal : Cert.NormKernelIdeal.Facts] [hPre_finite_norm2 : Cert.Pre_finite_norm2.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_finite_norm2 m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
      ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
      ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_NormReferenceIdeal_pre_finite_norm2 [hNormReferenceIdeal : Cert.NormReferenceIdeal.Facts] [hPre_finite_norm2 : Cert.Pre_finite_norm2.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_finite_norm2 m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3)
      ∧ r.2.mem ((c.tc : Thread Cert.NormReferenceIdeal.nD Cert.NormReferenceIdeal.τ).loc Cert.NormReferenceIdeal.main_arg4) = m ((c.tc : Thread Cert.NormReferenceIdeal.nD Cert.NormReferenceIdeal.τ).loc Cert.NormReferenceIdeal.main_arg4)
      ∧ r.2.mem ((c.tc : Thread Cert.NormReferenceIdeal.nD Cert.NormReferenceIdeal.τ).loc Cert.NormReferenceIdeal.main_arg5) = m ((c.tc : Thread Cert.NormReferenceIdeal.nD Cert.NormReferenceIdeal.τ).loc Cert.NormReferenceIdeal.main_arg5))
      ∧ r.2.sem = fun _ => 0)

def quiescent_NormInKernel [hNormInKernel : Cert.NormInKernel.Facts] : Prop :=
  ∀ (m : (ℓ : Loc Cert.NormInKernel.nD Cert.NormInKernel.τ Cert.NormInKernel.sig) → Buf (Elt Bits) ℓ) (g : Dev Cert.NormInKernel.nD → PrngReg), Pre_NormInKernel m →
    θ_run (Cert.NormInKernel.defs (F := Bits)) (onTc (τ := Cert.NormInKernel.τ) (Cert.NormInKernel.main (F := Bits))) ⟨m, fun _ => 0, g⟩ (fun r => (∀ c : Dev Cert.NormInKernel.nD,
      r.2.mem ((c.tc : Thread Cert.NormInKernel.nD Cert.NormInKernel.τ).loc Cert.NormInKernel.main_arg0) = m ((c.tc : Thread Cert.NormInKernel.nD Cert.NormInKernel.τ).loc Cert.NormInKernel.main_arg0)
      ∧ r.2.mem ((c.tc : Thread Cert.NormInKernel.nD Cert.NormInKernel.τ).loc Cert.NormInKernel.main_arg1) = m ((c.tc : Thread Cert.NormInKernel.nD Cert.NormInKernel.τ).loc Cert.NormInKernel.main_arg1)
      ∧ r.2.mem ((c.tc : Thread Cert.NormInKernel.nD Cert.NormInKernel.τ).loc Cert.NormInKernel.main_arg2) = m ((c.tc : Thread Cert.NormInKernel.nD Cert.NormInKernel.τ).loc Cert.NormInKernel.main_arg2)
      ∧ r.2.mem ((c.tc : Thread Cert.NormInKernel.nD Cert.NormInKernel.τ).loc Cert.NormInKernel.main_arg3) = m ((c.tc : Thread Cert.NormInKernel.nD Cert.NormInKernel.τ).loc Cert.NormInKernel.main_arg3)
      ∧ r.2.mem ((c.tc : Thread Cert.NormInKernel.nD Cert.NormInKernel.τ).loc Cert.NormInKernel.main_arg4) = m ((c.tc : Thread Cert.NormInKernel.nD Cert.NormInKernel.τ).loc Cert.NormInKernel.main_arg4))
      ∧ r.2.sem = fun _ => 0)

def quiescent_NormInKernelIdeal [hNormInKernelIdeal : Cert.NormInKernelIdeal.Facts] : Prop :=
  ∀ (m : (ℓ : Loc Cert.NormInKernelIdeal.nD Cert.NormInKernelIdeal.τ Cert.NormInKernelIdeal.sig) → Buf (Elt Ideal) ℓ) (g : Dev Cert.NormInKernelIdeal.nD → PrngReg), Pre_NormInKernelIdeal m →
    θ_run (Cert.NormInKernelIdeal.defs (F := Ideal)) (onTc (τ := Cert.NormInKernelIdeal.τ) (Cert.NormInKernelIdeal.main (F := Ideal))) ⟨m, fun _ => 0, g⟩ (fun r => (∀ c : Dev Cert.NormInKernelIdeal.nD,
      r.2.mem ((c.tc : Thread Cert.NormInKernelIdeal.nD Cert.NormInKernelIdeal.τ).loc Cert.NormInKernelIdeal.main_arg0) = m ((c.tc : Thread Cert.NormInKernelIdeal.nD Cert.NormInKernelIdeal.τ).loc Cert.NormInKernelIdeal.main_arg0)
      ∧ r.2.mem ((c.tc : Thread Cert.NormInKernelIdeal.nD Cert.NormInKernelIdeal.τ).loc Cert.NormInKernelIdeal.main_arg1) = m ((c.tc : Thread Cert.NormInKernelIdeal.nD Cert.NormInKernelIdeal.τ).loc Cert.NormInKernelIdeal.main_arg1)
      ∧ r.2.mem ((c.tc : Thread Cert.NormInKernelIdeal.nD Cert.NormInKernelIdeal.τ).loc Cert.NormInKernelIdeal.main_arg2) = m ((c.tc : Thread Cert.NormInKernelIdeal.nD Cert.NormInKernelIdeal.τ).loc Cert.NormInKernelIdeal.main_arg2)
      ∧ r.2.mem ((c.tc : Thread Cert.NormInKernelIdeal.nD Cert.NormInKernelIdeal.τ).loc Cert.NormInKernelIdeal.main_arg3) = m ((c.tc : Thread Cert.NormInKernelIdeal.nD Cert.NormInKernelIdeal.τ).loc Cert.NormInKernelIdeal.main_arg3)
      ∧ r.2.mem ((c.tc : Thread Cert.NormInKernelIdeal.nD Cert.NormInKernelIdeal.τ).loc Cert.NormInKernelIdeal.main_arg4) = m ((c.tc : Thread Cert.NormInKernelIdeal.nD Cert.NormInKernelIdeal.τ).loc Cert.NormInKernelIdeal.main_arg4))
      ∧ r.2.sem = fun _ => 0)

def quiescent_NormInKernelIdeal_pre_finite_norm1 [hNormInKernelIdeal : Cert.NormInKernelIdeal.Facts] [hPre_finite_norm1 : Cert.Pre_finite_norm1.Facts] : Prop :=
  ∀ (m : (ℓ : Loc Cert.NormInKernelIdeal.nD Cert.NormInKernelIdeal.τ Cert.NormInKernelIdeal.sig) → Buf (Elt Ideal) ℓ) (g : Dev Cert.NormInKernelIdeal.nD → PrngReg), Pre_NormInKernelIdeal_finite_norm1 m →
    θ_run (Cert.NormInKernelIdeal.defs (F := Ideal)) (onTc (τ := Cert.NormInKernelIdeal.τ) (Cert.NormInKernelIdeal.main (F := Ideal))) ⟨m, fun _ => 0, g⟩ (fun r => (∀ c : Dev Cert.NormInKernelIdeal.nD,
      r.2.mem ((c.tc : Thread Cert.NormInKernelIdeal.nD Cert.NormInKernelIdeal.τ).loc Cert.NormInKernelIdeal.main_arg0) = m ((c.tc : Thread Cert.NormInKernelIdeal.nD Cert.NormInKernelIdeal.τ).loc Cert.NormInKernelIdeal.main_arg0)
      ∧ r.2.mem ((c.tc : Thread Cert.NormInKernelIdeal.nD Cert.NormInKernelIdeal.τ).loc Cert.NormInKernelIdeal.main_arg1) = m ((c.tc : Thread Cert.NormInKernelIdeal.nD Cert.NormInKernelIdeal.τ).loc Cert.NormInKernelIdeal.main_arg1)
      ∧ r.2.mem ((c.tc : Thread Cert.NormInKernelIdeal.nD Cert.NormInKernelIdeal.τ).loc Cert.NormInKernelIdeal.main_arg2) = m ((c.tc : Thread Cert.NormInKernelIdeal.nD Cert.NormInKernelIdeal.τ).loc Cert.NormInKernelIdeal.main_arg2)
      ∧ r.2.mem ((c.tc : Thread Cert.NormInKernelIdeal.nD Cert.NormInKernelIdeal.τ).loc Cert.NormInKernelIdeal.main_arg3) = m ((c.tc : Thread Cert.NormInKernelIdeal.nD Cert.NormInKernelIdeal.τ).loc Cert.NormInKernelIdeal.main_arg3)
      ∧ r.2.mem ((c.tc : Thread Cert.NormInKernelIdeal.nD Cert.NormInKernelIdeal.τ).loc Cert.NormInKernelIdeal.main_arg4) = m ((c.tc : Thread Cert.NormInKernelIdeal.nD Cert.NormInKernelIdeal.τ).loc Cert.NormInKernelIdeal.main_arg4))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3)
      ∧ r.2.mem ((c.tc : Thread Cert.NormInReferenceIdeal.nD Cert.NormInReferenceIdeal.τ).loc Cert.NormInReferenceIdeal.main_arg4) = m ((c.tc : Thread Cert.NormInReferenceIdeal.nD Cert.NormInReferenceIdeal.τ).loc Cert.NormInReferenceIdeal.main_arg4))
      ∧ r.2.sem = fun _ => 0)

def quiescent_NormInReferenceIdeal_pre_finite_norm1 [hNormInReferenceIdeal : Cert.NormInReferenceIdeal.Facts] [hPre_finite_norm1 : Cert.Pre_finite_norm1.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal_finite_norm1 m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1)
      ∧ r.2.mem ((c.tc : Thread Cert.NormInReferenceIdeal.nD Cert.NormInReferenceIdeal.τ).loc Cert.NormInReferenceIdeal.main_arg2) = m ((c.tc : Thread Cert.NormInReferenceIdeal.nD Cert.NormInReferenceIdeal.τ).loc Cert.NormInReferenceIdeal.main_arg2)
      ∧ r.2.mem ((c.tc : Thread Cert.NormInReferenceIdeal.nD Cert.NormInReferenceIdeal.τ).loc Cert.NormInReferenceIdeal.main_arg3) = m ((c.tc : Thread Cert.NormInReferenceIdeal.nD Cert.NormInReferenceIdeal.τ).loc Cert.NormInReferenceIdeal.main_arg3)
      ∧ r.2.mem ((c.tc : Thread Cert.NormInReferenceIdeal.nD Cert.NormInReferenceIdeal.τ).loc Cert.NormInReferenceIdeal.main_arg4) = m ((c.tc : Thread Cert.NormInReferenceIdeal.nD Cert.NormInReferenceIdeal.τ).loc Cert.NormInReferenceIdeal.main_arg4))
      ∧ r.2.sem = fun _ => 0)

def quiescent_OutProjKernel [hOutProjKernel : Cert.OutProjKernel.Facts] : Prop :=
  ∀ (m : (ℓ : Loc Cert.OutProjKernel.nD Cert.OutProjKernel.τ Cert.OutProjKernel.sig) → Buf (Elt Bits) ℓ) (g : Dev Cert.OutProjKernel.nD → PrngReg), Pre_OutProjKernel m →
    θ_run (Cert.OutProjKernel.defs (F := Bits)) (onTc (τ := Cert.OutProjKernel.τ) (Cert.OutProjKernel.main (F := Bits))) ⟨m, fun _ => 0, g⟩ (fun r => (∀ c : Dev Cert.OutProjKernel.nD,
      r.2.mem ((c.tc : Thread Cert.OutProjKernel.nD Cert.OutProjKernel.τ).loc Cert.OutProjKernel.main_arg0) = m ((c.tc : Thread Cert.OutProjKernel.nD Cert.OutProjKernel.τ).loc Cert.OutProjKernel.main_arg0)
      ∧ r.2.mem ((c.tc : Thread Cert.OutProjKernel.nD Cert.OutProjKernel.τ).loc Cert.OutProjKernel.main_arg1) = m ((c.tc : Thread Cert.OutProjKernel.nD Cert.OutProjKernel.τ).loc Cert.OutProjKernel.main_arg1)
      ∧ r.2.mem ((c.tc : Thread Cert.OutProjKernel.nD Cert.OutProjKernel.τ).loc Cert.OutProjKernel.main_arg2) = m ((c.tc : Thread Cert.OutProjKernel.nD Cert.OutProjKernel.τ).loc Cert.OutProjKernel.main_arg2)
      ∧ r.2.mem ((c.tc : Thread Cert.OutProjKernel.nD Cert.OutProjKernel.τ).loc Cert.OutProjKernel.main_arg3) = m ((c.tc : Thread Cert.OutProjKernel.nD Cert.OutProjKernel.τ).loc Cert.OutProjKernel.main_arg3)
      ∧ r.2.mem ((c.tc : Thread Cert.OutProjKernel.nD Cert.OutProjKernel.τ).loc Cert.OutProjKernel.main_arg4) = m ((c.tc : Thread Cert.OutProjKernel.nD Cert.OutProjKernel.τ).loc Cert.OutProjKernel.main_arg4))
      ∧ r.2.sem = fun _ => 0)

def quiescent_OutProjKernelIdeal [hOutProjKernelIdeal : Cert.OutProjKernelIdeal.Facts] : Prop :=
  ∀ (m : (ℓ : Loc Cert.OutProjKernelIdeal.nD Cert.OutProjKernelIdeal.τ Cert.OutProjKernelIdeal.sig) → Buf (Elt Ideal) ℓ) (g : Dev Cert.OutProjKernelIdeal.nD → PrngReg), Pre_OutProjKernelIdeal m →
    θ_run (Cert.OutProjKernelIdeal.defs (F := Ideal)) (onTc (τ := Cert.OutProjKernelIdeal.τ) (Cert.OutProjKernelIdeal.main (F := Ideal))) ⟨m, fun _ => 0, g⟩ (fun r => (∀ c : Dev Cert.OutProjKernelIdeal.nD,
      r.2.mem ((c.tc : Thread Cert.OutProjKernelIdeal.nD Cert.OutProjKernelIdeal.τ).loc Cert.OutProjKernelIdeal.main_arg0) = m ((c.tc : Thread Cert.OutProjKernelIdeal.nD Cert.OutProjKernelIdeal.τ).loc Cert.OutProjKernelIdeal.main_arg0)
      ∧ r.2.mem ((c.tc : Thread Cert.OutProjKernelIdeal.nD Cert.OutProjKernelIdeal.τ).loc Cert.OutProjKernelIdeal.main_arg1) = m ((c.tc : Thread Cert.OutProjKernelIdeal.nD Cert.OutProjKernelIdeal.τ).loc Cert.OutProjKernelIdeal.main_arg1)
      ∧ r.2.mem ((c.tc : Thread Cert.OutProjKernelIdeal.nD Cert.OutProjKernelIdeal.τ).loc Cert.OutProjKernelIdeal.main_arg2) = m ((c.tc : Thread Cert.OutProjKernelIdeal.nD Cert.OutProjKernelIdeal.τ).loc Cert.OutProjKernelIdeal.main_arg2)
      ∧ r.2.mem ((c.tc : Thread Cert.OutProjKernelIdeal.nD Cert.OutProjKernelIdeal.τ).loc Cert.OutProjKernelIdeal.main_arg3) = m ((c.tc : Thread Cert.OutProjKernelIdeal.nD Cert.OutProjKernelIdeal.τ).loc Cert.OutProjKernelIdeal.main_arg3)
      ∧ r.2.mem ((c.tc : Thread Cert.OutProjKernelIdeal.nD Cert.OutProjKernelIdeal.τ).loc Cert.OutProjKernelIdeal.main_arg4) = m ((c.tc : Thread Cert.OutProjKernelIdeal.nD Cert.OutProjKernelIdeal.τ).loc Cert.OutProjKernelIdeal.main_arg4))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4))
      ∧ r.2.sem = fun _ => 0)

def quiescent_InProjKernel [hInProjKernel : Cert.InProjKernel.Facts] : Prop :=
  ∀ (m : (ℓ : Loc Cert.InProjKernel.nD Cert.InProjKernel.τ Cert.InProjKernel.sig) → Buf (Elt Bits) ℓ) (g : Dev Cert.InProjKernel.nD → PrngReg), Pre_InProjKernel m →
    θ_run (Cert.InProjKernel.defs (F := Bits)) (onTc (τ := Cert.InProjKernel.τ) (Cert.InProjKernel.main (F := Bits))) ⟨m, fun _ => 0, g⟩ (fun r => (∀ c : Dev Cert.InProjKernel.nD,
      r.2.mem ((c.tc : Thread Cert.InProjKernel.nD Cert.InProjKernel.τ).loc Cert.InProjKernel.main_arg0) = m ((c.tc : Thread Cert.InProjKernel.nD Cert.InProjKernel.τ).loc Cert.InProjKernel.main_arg0)
      ∧ r.2.mem ((c.tc : Thread Cert.InProjKernel.nD Cert.InProjKernel.τ).loc Cert.InProjKernel.main_arg1) = m ((c.tc : Thread Cert.InProjKernel.nD Cert.InProjKernel.τ).loc Cert.InProjKernel.main_arg1)
      ∧ r.2.mem ((c.tc : Thread Cert.InProjKernel.nD Cert.InProjKernel.τ).loc Cert.InProjKernel.main_arg2) = m ((c.tc : Thread Cert.InProjKernel.nD Cert.InProjKernel.τ).loc Cert.InProjKernel.main_arg2))
      ∧ r.2.sem = fun _ => 0)

def quiescent_InProjKernelIdeal [hInProjKernelIdeal : Cert.InProjKernelIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_UpFfnKernel [hUpFfnKernel : Cert.UpFfnKernel.Facts] : Prop :=
  ∀ (m : (ℓ : Loc Cert.UpFfnKernel.nD Cert.UpFfnKernel.τ Cert.UpFfnKernel.sig) → Buf (Elt Bits) ℓ) (g : Dev Cert.UpFfnKernel.nD → PrngReg), Pre_UpFfnKernel m →
    θ_run (Cert.UpFfnKernel.defs (F := Bits)) (onTc (τ := Cert.UpFfnKernel.τ) (Cert.UpFfnKernel.main (F := Bits))) ⟨m, fun _ => 0, g⟩ (fun r => (∀ c : Dev Cert.UpFfnKernel.nD,
      r.2.mem ((c.tc : Thread Cert.UpFfnKernel.nD Cert.UpFfnKernel.τ).loc Cert.UpFfnKernel.main_arg0) = m ((c.tc : Thread Cert.UpFfnKernel.nD Cert.UpFfnKernel.τ).loc Cert.UpFfnKernel.main_arg0)
      ∧ r.2.mem ((c.tc : Thread Cert.UpFfnKernel.nD Cert.UpFfnKernel.τ).loc Cert.UpFfnKernel.main_arg1) = m ((c.tc : Thread Cert.UpFfnKernel.nD Cert.UpFfnKernel.τ).loc Cert.UpFfnKernel.main_arg1)
      ∧ r.2.mem ((c.tc : Thread Cert.UpFfnKernel.nD Cert.UpFfnKernel.τ).loc Cert.UpFfnKernel.main_arg2) = m ((c.tc : Thread Cert.UpFfnKernel.nD Cert.UpFfnKernel.τ).loc Cert.UpFfnKernel.main_arg2)
      ∧ r.2.mem ((c.tc : Thread Cert.UpFfnKernel.nD Cert.UpFfnKernel.τ).loc Cert.UpFfnKernel.main_arg3) = m ((c.tc : Thread Cert.UpFfnKernel.nD Cert.UpFfnKernel.τ).loc Cert.UpFfnKernel.main_arg3))
      ∧ r.2.sem = fun _ => 0)

def quiescent_UpFfnKernelIdeal [hUpFfnKernelIdeal : Cert.UpFfnKernelIdeal.Facts] : Prop :=
  ∀ (m : (ℓ : Loc Cert.UpFfnKernelIdeal.nD Cert.UpFfnKernelIdeal.τ Cert.UpFfnKernelIdeal.sig) → Buf (Elt Ideal) ℓ) (g : Dev Cert.UpFfnKernelIdeal.nD → PrngReg), Pre_UpFfnKernelIdeal m →
    θ_run (Cert.UpFfnKernelIdeal.defs (F := Ideal)) (onTc (τ := Cert.UpFfnKernelIdeal.τ) (Cert.UpFfnKernelIdeal.main (F := Ideal))) ⟨m, fun _ => 0, g⟩ (fun r => (∀ c : Dev Cert.UpFfnKernelIdeal.nD,
      r.2.mem ((c.tc : Thread Cert.UpFfnKernelIdeal.nD Cert.UpFfnKernelIdeal.τ).loc Cert.UpFfnKernelIdeal.main_arg0) = m ((c.tc : Thread Cert.UpFfnKernelIdeal.nD Cert.UpFfnKernelIdeal.τ).loc Cert.UpFfnKernelIdeal.main_arg0)
      ∧ r.2.mem ((c.tc : Thread Cert.UpFfnKernelIdeal.nD Cert.UpFfnKernelIdeal.τ).loc Cert.UpFfnKernelIdeal.main_arg1) = m ((c.tc : Thread Cert.UpFfnKernelIdeal.nD Cert.UpFfnKernelIdeal.τ).loc Cert.UpFfnKernelIdeal.main_arg1)
      ∧ r.2.mem ((c.tc : Thread Cert.UpFfnKernelIdeal.nD Cert.UpFfnKernelIdeal.τ).loc Cert.UpFfnKernelIdeal.main_arg2) = m ((c.tc : Thread Cert.UpFfnKernelIdeal.nD Cert.UpFfnKernelIdeal.τ).loc Cert.UpFfnKernelIdeal.main_arg2)
      ∧ r.2.mem ((c.tc : Thread Cert.UpFfnKernelIdeal.nD Cert.UpFfnKernelIdeal.τ).loc Cert.UpFfnKernelIdeal.main_arg3) = m ((c.tc : Thread Cert.UpFfnKernelIdeal.nD Cert.UpFfnKernelIdeal.τ).loc Cert.UpFfnKernelIdeal.main_arg3))
      ∧ r.2.sem = fun _ => 0)

def quiescent_UpFfnReferenceIdeal [hUpFfnReferenceIdeal : Cert.UpFfnReferenceIdeal.Facts] : Prop :=
  ∀ (m : (ℓ : Loc Cert.UpFfnReferenceIdeal.nD Cert.UpFfnReferenceIdeal.τ Cert.UpFfnReferenceIdeal.sig) → Buf (Elt Ideal) ℓ) (g : Dev Cert.UpFfnReferenceIdeal.nD → PrngReg), Pre_UpFfnReferenceIdeal m →
    θ_run (Cert.UpFfnReferenceIdeal.defs (F := Ideal)) (onTc (τ := Cert.UpFfnReferenceIdeal.τ) (Cert.UpFfnReferenceIdeal.main (F := Ideal))) ⟨m, fun _ => 0, g⟩ (fun r => (∀ c : Dev Cert.UpFfnReferenceIdeal.nD,
      r.2.mem ((c.tc : Thread Cert.UpFfnReferenceIdeal.nD Cert.UpFfnReferenceIdeal.τ).loc Cert.UpFfnReferenceIdeal.main_arg0) = m ((c.tc : Thread Cert.UpFfnReferenceIdeal.nD Cert.UpFfnReferenceIdeal.τ).loc Cert.UpFfnReferenceIdeal.main_arg0)
      ∧ r.2.mem ((c.tc : Thread Cert.UpFfnReferenceIdeal.nD Cert.UpFfnReferenceIdeal.τ).loc Cert.UpFfnReferenceIdeal.main_arg1) = m ((c.tc : Thread Cert.UpFfnReferenceIdeal.nD Cert.UpFfnReferenceIdeal.τ).loc Cert.UpFfnReferenceIdeal.main_arg1)
      ∧ r.2.mem ((c.tc : Thread Cert.UpFfnReferenceIdeal.nD Cert.UpFfnReferenceIdeal.τ).loc Cert.UpFfnReferenceIdeal.main_arg2) = m ((c.tc : Thread Cert.UpFfnReferenceIdeal.nD Cert.UpFfnReferenceIdeal.τ).loc Cert.UpFfnReferenceIdeal.main_arg2)
      ∧ r.2.mem ((c.tc : Thread Cert.UpFfnReferenceIdeal.nD Cert.UpFfnReferenceIdeal.τ).loc Cert.UpFfnReferenceIdeal.main_arg3) = m ((c.tc : Thread Cert.UpFfnReferenceIdeal.nD Cert.UpFfnReferenceIdeal.τ).loc Cert.UpFfnReferenceIdeal.main_arg3))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)) →
    ∃ (v0 : (c : Dev Cert.LossKernelIdeal.nD) → Buf (Elt Ideal) ((c.tc : Thread Cert.LossKernelIdeal.nD Cert.LossKernelIdeal.τ).loc Cert.LossKernelIdeal.main_v3_0)) (v1 : (c : Dev Cert.LossKernelIdeal.nD) → Buf (Elt Ideal) ((c.tc : Thread Cert.LossKernelIdeal.nD Cert.LossKernelIdeal.τ).loc Cert.LossKernelIdeal.main_v3_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3_0) = v0 c
          ∧ r.2.mem ((c.tc : Thread Cert.LossKernelIdeal.nD Cert.LossKernelIdeal.τ).loc Cert.LossKernelIdeal.main_v3_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v20) = v0 c
          ∧ r.2.mem ((c.tc : Thread Cert.LossReferenceIdeal.nD Cert.LossReferenceIdeal.τ).loc Cert.LossReferenceIdeal.main_v24) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3))

def preserves_FoxKernel_FoxKernelIdeal : Prop :=
  IdealRules.named_const.Statement Cert.FoxKernelIdeal.κ "mask" .f32 0xF149F2CA#32 ⊥

def algebraic_FoxKernelIdeal_FoxReferenceIdeal_pre_finite_foxb [hFoxKernelIdeal : Cert.FoxKernelIdeal.Facts] [hFoxReferenceIdeal : Cert.FoxReferenceIdeal.Facts] [hPre_finite_foxb : Cert.Pre_finite_foxb.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_finite_foxb m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)) →
    ∃ (v0 : (c : Dev Cert.FoxKernelIdeal.nD) → Buf (Elt Ideal) ((c.tc : Thread Cert.FoxKernelIdeal.nD Cert.FoxKernelIdeal.τ).loc Cert.FoxKernelIdeal.main_v65_0)) (v1 : (c : Dev Cert.FoxKernelIdeal.nD) → Buf (Elt Ideal) ((c.tc : Thread Cert.FoxKernelIdeal.nD Cert.FoxKernelIdeal.τ).loc Cert.FoxKernelIdeal.main_v65_1)) (v2 : (c : Dev Cert.FoxKernelIdeal.nD) → Buf (Elt Ideal) ((c.tc : Thread Cert.FoxKernelIdeal.nD Cert.FoxKernelIdeal.τ).loc Cert.FoxKernelIdeal.main_v65_2)) (v3 : (c : Dev Cert.FoxKernelIdeal.nD) → Buf (Elt Ideal) ((c.tc : Thread Cert.FoxKernelIdeal.nD Cert.FoxKernelIdeal.τ).loc Cert.FoxKernelIdeal.main_v65_3)) (v4 : (c : Dev Cert.FoxKernelIdeal.nD) → Buf (Elt Ideal) ((c.tc : Thread Cert.FoxKernelIdeal.nD Cert.FoxKernelIdeal.τ).loc Cert.FoxKernelIdeal.main_v65_4)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v65_0) = v0 c
          ∧ r.2.mem ((c.tc : Thread Cert.FoxKernelIdeal.nD Cert.FoxKernelIdeal.τ).loc Cert.FoxKernelIdeal.main_v65_1) = v1 c
          ∧ r.2.mem ((c.tc : Thread Cert.FoxKernelIdeal.nD Cert.FoxKernelIdeal.τ).loc Cert.FoxKernelIdeal.main_v65_2) = v2 c
          ∧ r.2.mem ((c.tc : Thread Cert.FoxKernelIdeal.nD Cert.FoxKernelIdeal.τ).loc Cert.FoxKernelIdeal.main_v65_3) = v3 c
          ∧ r.2.mem ((c.tc : Thread Cert.FoxKernelIdeal.nD Cert.FoxKernelIdeal.τ).loc Cert.FoxKernelIdeal.main_v65_4) = v4 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v84) = v0 c
          ∧ r.2.mem ((c.tc : Thread Cert.FoxReferenceIdeal.nD Cert.FoxReferenceIdeal.τ).loc Cert.FoxReferenceIdeal.main_v86) = v1 c
          ∧ r.2.mem ((c.tc : Thread Cert.FoxReferenceIdeal.nD Cert.FoxReferenceIdeal.τ).loc Cert.FoxReferenceIdeal.main_v88) = v2 c
          ∧ r.2.mem ((c.tc : Thread Cert.FoxReferenceIdeal.nD Cert.FoxReferenceIdeal.τ).loc Cert.FoxReferenceIdeal.main_v91) = v3 c
          ∧ r.2.mem ((c.tc : Thread Cert.FoxReferenceIdeal.nD Cert.FoxReferenceIdeal.τ).loc Cert.FoxReferenceIdeal.main_v94) = v4 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_FoxFwdKernel_FoxFwdKernelIdeal : Prop :=
  IdealRules.named_const.Statement Cert.FoxFwdKernelIdeal.κ "mask" .f32 0xF149F2CA#32 ⊥

def algebraic_FoxFwdKernelIdeal_FoxFwdReferenceIdeal_pre_finite_foxf [hFoxFwdKernelIdeal : Cert.FoxFwdKernelIdeal.Facts] [hFoxFwdReferenceIdeal : Cert.FoxFwdReferenceIdeal.Facts] [hPre_finite_foxf : Cert.Pre_finite_foxf.Facts] : Prop :=
  ∀ (m : (ℓ : Loc Cert.FoxFwdKernelIdeal.nD Cert.FoxFwdKernelIdeal.τ Cert.FoxFwdKernelIdeal.sig) → Buf (Elt Ideal) ℓ) (g : Dev Cert.FoxFwdKernelIdeal.nD → PrngReg)
    (m' : (ℓ : Loc Cert.FoxFwdReferenceIdeal.nD Cert.FoxFwdReferenceIdeal.τ Cert.FoxFwdReferenceIdeal.sig) → Buf (Elt Ideal) ℓ) (g' : Dev Cert.FoxFwdReferenceIdeal.nD → PrngReg), Pre_FoxFwdKernelIdeal_finite_foxf m →
    (∀ c : Dev Cert.FoxFwdKernelIdeal.nD,
      m' ((c.tc : Thread Cert.FoxFwdReferenceIdeal.nD Cert.FoxFwdReferenceIdeal.τ).loc Cert.FoxFwdReferenceIdeal.main_arg0) = m ((c.tc : Thread Cert.FoxFwdKernelIdeal.nD Cert.FoxFwdKernelIdeal.τ).loc Cert.FoxFwdKernelIdeal.main_arg0)
      ∧ m' ((c.tc : Thread Cert.FoxFwdReferenceIdeal.nD Cert.FoxFwdReferenceIdeal.τ).loc Cert.FoxFwdReferenceIdeal.main_arg1) = m ((c.tc : Thread Cert.FoxFwdKernelIdeal.nD Cert.FoxFwdKernelIdeal.τ).loc Cert.FoxFwdKernelIdeal.main_arg1)
      ∧ m' ((c.tc : Thread Cert.FoxFwdReferenceIdeal.nD Cert.FoxFwdReferenceIdeal.τ).loc Cert.FoxFwdReferenceIdeal.main_arg2) = m ((c.tc : Thread Cert.FoxFwdKernelIdeal.nD Cert.FoxFwdKernelIdeal.τ).loc Cert.FoxFwdKernelIdeal.main_arg2)
      ∧ m' ((c.tc : Thread Cert.FoxFwdReferenceIdeal.nD Cert.FoxFwdReferenceIdeal.τ).loc Cert.FoxFwdReferenceIdeal.main_arg3) = m ((c.tc : Thread Cert.FoxFwdKernelIdeal.nD Cert.FoxFwdKernelIdeal.τ).loc Cert.FoxFwdKernelIdeal.main_arg3)) →
    ∃ (v0 : (c : Dev Cert.FoxFwdKernelIdeal.nD) → Buf (Elt Ideal) ((c.tc : Thread Cert.FoxFwdKernelIdeal.nD Cert.FoxFwdKernelIdeal.τ).loc Cert.FoxFwdKernelIdeal.main_v41_0)) (v1 : (c : Dev Cert.FoxFwdKernelIdeal.nD) → Buf (Elt Ideal) ((c.tc : Thread Cert.FoxFwdKernelIdeal.nD Cert.FoxFwdKernelIdeal.τ).loc Cert.FoxFwdKernelIdeal.main_v41_1)) (v2 : (c : Dev Cert.FoxFwdKernelIdeal.nD) → Buf (Elt Ideal) ((c.tc : Thread Cert.FoxFwdKernelIdeal.nD Cert.FoxFwdKernelIdeal.τ).loc Cert.FoxFwdKernelIdeal.main_v41_2)),
      θ_run (Cert.FoxFwdKernelIdeal.defs (F := Ideal)) (onTc (τ := Cert.FoxFwdKernelIdeal.τ) (Cert.FoxFwdKernelIdeal.main (F := Ideal))) ⟨m, fun _ => 0, g⟩ (fun r => ∀ c : Dev Cert.FoxFwdKernelIdeal.nD,
          r.2.mem ((c.tc : Thread Cert.FoxFwdKernelIdeal.nD Cert.FoxFwdKernelIdeal.τ).loc Cert.FoxFwdKernelIdeal.main_v41_0) = v0 c
          ∧ r.2.mem ((c.tc : Thread Cert.FoxFwdKernelIdeal.nD Cert.FoxFwdKernelIdeal.τ).loc Cert.FoxFwdKernelIdeal.main_v41_1) = v1 c
          ∧ r.2.mem ((c.tc : Thread Cert.FoxFwdKernelIdeal.nD Cert.FoxFwdKernelIdeal.τ).loc Cert.FoxFwdKernelIdeal.main_v41_2) = v2 c
          ∧ r.2.mem ((c.tc : Thread Cert.FoxFwdKernelIdeal.nD Cert.FoxFwdKernelIdeal.τ).loc Cert.FoxFwdKernelIdeal.main_arg0) = m ((c.tc : Thread Cert.FoxFwdKernelIdeal.nD Cert.FoxFwdKernelIdeal.τ).loc Cert.FoxFwdKernelIdeal.main_arg0)
          ∧ r.2.mem ((c.tc : Thread Cert.FoxFwdKernelIdeal.nD Cert.FoxFwdKernelIdeal.τ).loc Cert.FoxFwdKernelIdeal.main_arg1) = m ((c.tc : Thread Cert.FoxFwdKernelIdeal.nD Cert.FoxFwdKernelIdeal.τ).loc Cert.FoxFwdKernelIdeal.main_arg1)
          ∧ r.2.mem ((c.tc : Thread Cert.FoxFwdKernelIdeal.nD Cert.FoxFwdKernelIdeal.τ).loc Cert.FoxFwdKernelIdeal.main_arg2) = m ((c.tc : Thread Cert.FoxFwdKernelIdeal.nD Cert.FoxFwdKernelIdeal.τ).loc Cert.FoxFwdKernelIdeal.main_arg2)
          ∧ r.2.mem ((c.tc : Thread Cert.FoxFwdKernelIdeal.nD Cert.FoxFwdKernelIdeal.τ).loc Cert.FoxFwdKernelIdeal.main_arg3) = m ((c.tc : Thread Cert.FoxFwdKernelIdeal.nD Cert.FoxFwdKernelIdeal.τ).loc Cert.FoxFwdKernelIdeal.main_arg3))
      ∧ θ_run (Cert.FoxFwdReferenceIdeal.defs (F := Ideal)) (onTc (τ := Cert.FoxFwdReferenceIdeal.τ) (Cert.FoxFwdReferenceIdeal.main (F := Ideal))) ⟨m', fun _ => 0, g'⟩ (fun r => ∀ c : Dev Cert.FoxFwdReferenceIdeal.nD,
          r.2.mem ((c.tc : Thread Cert.FoxFwdReferenceIdeal.nD Cert.FoxFwdReferenceIdeal.τ).loc Cert.FoxFwdReferenceIdeal.main_v29) = v0 c
          ∧ r.2.mem ((c.tc : Thread Cert.FoxFwdReferenceIdeal.nD Cert.FoxFwdReferenceIdeal.τ).loc Cert.FoxFwdReferenceIdeal.main_v31) = v1 c
          ∧ r.2.mem ((c.tc : Thread Cert.FoxFwdReferenceIdeal.nD Cert.FoxFwdReferenceIdeal.τ).loc Cert.FoxFwdReferenceIdeal.main_v38) = v2 c
          ∧ r.2.mem ((c.tc : Thread Cert.FoxFwdReferenceIdeal.nD Cert.FoxFwdReferenceIdeal.τ).loc Cert.FoxFwdReferenceIdeal.main_arg0) = m' ((c.tc : Thread Cert.FoxFwdReferenceIdeal.nD Cert.FoxFwdReferenceIdeal.τ).loc Cert.FoxFwdReferenceIdeal.main_arg0)
          ∧ r.2.mem ((c.tc : Thread Cert.FoxFwdReferenceIdeal.nD Cert.FoxFwdReferenceIdeal.τ).loc Cert.FoxFwdReferenceIdeal.main_arg1) = m' ((c.tc : Thread Cert.FoxFwdReferenceIdeal.nD Cert.FoxFwdReferenceIdeal.τ).loc Cert.FoxFwdReferenceIdeal.main_arg1)
          ∧ r.2.mem ((c.tc : Thread Cert.FoxFwdReferenceIdeal.nD Cert.FoxFwdReferenceIdeal.τ).loc Cert.FoxFwdReferenceIdeal.main_arg2) = m' ((c.tc : Thread Cert.FoxFwdReferenceIdeal.nD Cert.FoxFwdReferenceIdeal.τ).loc Cert.FoxFwdReferenceIdeal.main_arg2)
          ∧ r.2.mem ((c.tc : Thread Cert.FoxFwdReferenceIdeal.nD Cert.FoxFwdReferenceIdeal.τ).loc Cert.FoxFwdReferenceIdeal.main_arg3) = m' ((c.tc : Thread Cert.FoxFwdReferenceIdeal.nD Cert.FoxFwdReferenceIdeal.τ).loc Cert.FoxFwdReferenceIdeal.main_arg3))

def preserves_NormKernel_NormKernelIdeal : Prop :=
  True

def algebraic_NormKernelIdeal_NormReferenceIdeal_pre_finite_norm2 [hNormKernelIdeal : Cert.NormKernelIdeal.Facts] [hNormReferenceIdeal : Cert.NormReferenceIdeal.Facts] [hPre_finite_norm2 : Cert.Pre_finite_norm2.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_finite_norm2 m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)
      ∧ m' ((c.tc : Thread Cert.NormReferenceIdeal.nD Cert.NormReferenceIdeal.τ).loc Cert.NormReferenceIdeal.main_arg4) = m ((c.tc : Thread Cert.NormKernelIdeal.nD Cert.NormKernelIdeal.τ).loc Cert.NormKernelIdeal.main_arg4)
      ∧ m' ((c.tc : Thread Cert.NormReferenceIdeal.nD Cert.NormReferenceIdeal.τ).loc Cert.NormReferenceIdeal.main_arg5) = m ((c.tc : Thread Cert.NormKernelIdeal.nD Cert.NormKernelIdeal.τ).loc Cert.NormKernelIdeal.main_arg5)) →
    ∃ (v0 : (c : Dev Cert.NormKernelIdeal.nD) → Buf (Elt Ideal) ((c.tc : Thread Cert.NormKernelIdeal.nD Cert.NormKernelIdeal.τ).loc Cert.NormKernelIdeal.main_v12_0)) (v1 : (c : Dev Cert.NormKernelIdeal.nD) → Buf (Elt Ideal) ((c.tc : Thread Cert.NormKernelIdeal.nD Cert.NormKernelIdeal.τ).loc Cert.NormKernelIdeal.main_v12_1)) (v2 : (c : Dev Cert.NormKernelIdeal.nD) → Buf (Elt Ideal) ((c.tc : Thread Cert.NormKernelIdeal.nD Cert.NormKernelIdeal.τ).loc Cert.NormKernelIdeal.main_v12_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v12_0) = v0 c
          ∧ r.2.mem ((c.tc : Thread Cert.NormKernelIdeal.nD Cert.NormKernelIdeal.τ).loc Cert.NormKernelIdeal.main_v12_1) = v1 c
          ∧ r.2.mem ((c.tc : Thread Cert.NormKernelIdeal.nD Cert.NormKernelIdeal.τ).loc Cert.NormKernelIdeal.main_v12_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3)
          ∧ r.2.mem ((c.tc : Thread Cert.NormKernelIdeal.nD Cert.NormKernelIdeal.τ).loc Cert.NormKernelIdeal.main_arg4) = m ((c.tc : Thread Cert.NormKernelIdeal.nD Cert.NormKernelIdeal.τ).loc Cert.NormKernelIdeal.main_arg4)
          ∧ r.2.mem ((c.tc : Thread Cert.NormKernelIdeal.nD Cert.NormKernelIdeal.τ).loc Cert.NormKernelIdeal.main_arg5) = m ((c.tc : Thread Cert.NormKernelIdeal.nD Cert.NormKernelIdeal.τ).loc Cert.NormKernelIdeal.main_arg5))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v41) = v0 c
          ∧ r.2.mem ((c.tc : Thread Cert.NormReferenceIdeal.nD Cert.NormReferenceIdeal.τ).loc Cert.NormReferenceIdeal.main_v40) = v1 c
          ∧ r.2.mem ((c.tc : Thread Cert.NormReferenceIdeal.nD Cert.NormReferenceIdeal.τ).loc Cert.NormReferenceIdeal.main_v44) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3)
          ∧ r.2.mem ((c.tc : Thread Cert.NormReferenceIdeal.nD Cert.NormReferenceIdeal.τ).loc Cert.NormReferenceIdeal.main_arg4) = m' ((c.tc : Thread Cert.NormReferenceIdeal.nD Cert.NormReferenceIdeal.τ).loc Cert.NormReferenceIdeal.main_arg4)
          ∧ r.2.mem ((c.tc : Thread Cert.NormReferenceIdeal.nD Cert.NormReferenceIdeal.τ).loc Cert.NormReferenceIdeal.main_arg5) = m' ((c.tc : Thread Cert.NormReferenceIdeal.nD Cert.NormReferenceIdeal.τ).loc Cert.NormReferenceIdeal.main_arg5))

def preserves_NormInKernel_NormInKernelIdeal : Prop :=
  True

def algebraic_NormInKernelIdeal_NormInReferenceIdeal_pre_finite_norm1 [hNormInKernelIdeal : Cert.NormInKernelIdeal.Facts] [hNormInReferenceIdeal : Cert.NormInReferenceIdeal.Facts] [hPre_finite_norm1 : Cert.Pre_finite_norm1.Facts] : Prop :=
  ∀ (m : (ℓ : Loc Cert.NormInKernelIdeal.nD Cert.NormInKernelIdeal.τ Cert.NormInKernelIdeal.sig) → Buf (Elt Ideal) ℓ) (g : Dev Cert.NormInKernelIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInKernelIdeal_finite_norm1 m →
    (∀ c : Dev Cert.NormInKernelIdeal.nD,
      m' ((c.tc : Thread Cert.NormInReferenceIdeal.nD Cert.NormInReferenceIdeal.τ).loc Cert.NormInReferenceIdeal.main_arg0) = m ((c.tc : Thread Cert.NormInKernelIdeal.nD Cert.NormInKernelIdeal.τ).loc Cert.NormInKernelIdeal.main_arg0)
      ∧ m' ((c.tc : Thread Cert.NormInReferenceIdeal.nD Cert.NormInReferenceIdeal.τ).loc Cert.NormInReferenceIdeal.main_arg1) = m ((c.tc : Thread Cert.NormInKernelIdeal.nD Cert.NormInKernelIdeal.τ).loc Cert.NormInKernelIdeal.main_arg1)
      ∧ m' ((c.tc : Thread Cert.NormInReferenceIdeal.nD Cert.NormInReferenceIdeal.τ).loc Cert.NormInReferenceIdeal.main_arg2) = m ((c.tc : Thread Cert.NormInKernelIdeal.nD Cert.NormInKernelIdeal.τ).loc Cert.NormInKernelIdeal.main_arg2)
      ∧ m' ((c.tc : Thread Cert.NormInReferenceIdeal.nD Cert.NormInReferenceIdeal.τ).loc Cert.NormInReferenceIdeal.main_arg3) = m ((c.tc : Thread Cert.NormInKernelIdeal.nD Cert.NormInKernelIdeal.τ).loc Cert.NormInKernelIdeal.main_arg3)
      ∧ m' ((c.tc : Thread Cert.NormInReferenceIdeal.nD Cert.NormInReferenceIdeal.τ).loc Cert.NormInReferenceIdeal.main_arg4) = m ((c.tc : Thread Cert.NormInKernelIdeal.nD Cert.NormInKernelIdeal.τ).loc Cert.NormInKernelIdeal.main_arg4)) →
    ∃ (v0 : (c : Dev Cert.NormInKernelIdeal.nD) → Buf (Elt Ideal) ((c.tc : Thread Cert.NormInKernelIdeal.nD Cert.NormInKernelIdeal.τ).loc Cert.NormInKernelIdeal.main_v17_0)) (v1 : (c : Dev Cert.NormInKernelIdeal.nD) → Buf (Elt Ideal) ((c.tc : Thread Cert.NormInKernelIdeal.nD Cert.NormInKernelIdeal.τ).loc Cert.NormInKernelIdeal.main_v17_1)),
      θ_run (Cert.NormInKernelIdeal.defs (F := Ideal)) (onTc (τ := Cert.NormInKernelIdeal.τ) (Cert.NormInKernelIdeal.main (F := Ideal))) ⟨m, fun _ => 0, g⟩ (fun r => ∀ c : Dev Cert.NormInKernelIdeal.nD,
          r.2.mem ((c.tc : Thread Cert.NormInKernelIdeal.nD Cert.NormInKernelIdeal.τ).loc Cert.NormInKernelIdeal.main_v17_0) = v0 c
          ∧ r.2.mem ((c.tc : Thread Cert.NormInKernelIdeal.nD Cert.NormInKernelIdeal.τ).loc Cert.NormInKernelIdeal.main_v17_1) = v1 c
          ∧ r.2.mem ((c.tc : Thread Cert.NormInKernelIdeal.nD Cert.NormInKernelIdeal.τ).loc Cert.NormInKernelIdeal.main_arg0) = m ((c.tc : Thread Cert.NormInKernelIdeal.nD Cert.NormInKernelIdeal.τ).loc Cert.NormInKernelIdeal.main_arg0)
          ∧ r.2.mem ((c.tc : Thread Cert.NormInKernelIdeal.nD Cert.NormInKernelIdeal.τ).loc Cert.NormInKernelIdeal.main_arg1) = m ((c.tc : Thread Cert.NormInKernelIdeal.nD Cert.NormInKernelIdeal.τ).loc Cert.NormInKernelIdeal.main_arg1)
          ∧ r.2.mem ((c.tc : Thread Cert.NormInKernelIdeal.nD Cert.NormInKernelIdeal.τ).loc Cert.NormInKernelIdeal.main_arg2) = m ((c.tc : Thread Cert.NormInKernelIdeal.nD Cert.NormInKernelIdeal.τ).loc Cert.NormInKernelIdeal.main_arg2)
          ∧ r.2.mem ((c.tc : Thread Cert.NormInKernelIdeal.nD Cert.NormInKernelIdeal.τ).loc Cert.NormInKernelIdeal.main_arg3) = m ((c.tc : Thread Cert.NormInKernelIdeal.nD Cert.NormInKernelIdeal.τ).loc Cert.NormInKernelIdeal.main_arg3)
          ∧ r.2.mem ((c.tc : Thread Cert.NormInKernelIdeal.nD Cert.NormInKernelIdeal.τ).loc Cert.NormInKernelIdeal.main_arg4) = m ((c.tc : Thread Cert.NormInKernelIdeal.nD Cert.NormInKernelIdeal.τ).loc Cert.NormInKernelIdeal.main_arg4))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v41) = v0 c
          ∧ r.2.mem ((c.tc : Thread Cert.NormInReferenceIdeal.nD Cert.NormInReferenceIdeal.τ).loc Cert.NormInReferenceIdeal.main_v40) = v1 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1)
          ∧ r.2.mem ((c.tc : Thread Cert.NormInReferenceIdeal.nD Cert.NormInReferenceIdeal.τ).loc Cert.NormInReferenceIdeal.main_arg2) = m' ((c.tc : Thread Cert.NormInReferenceIdeal.nD Cert.NormInReferenceIdeal.τ).loc Cert.NormInReferenceIdeal.main_arg2)
          ∧ r.2.mem ((c.tc : Thread Cert.NormInReferenceIdeal.nD Cert.NormInReferenceIdeal.τ).loc Cert.NormInReferenceIdeal.main_arg3) = m' ((c.tc : Thread Cert.NormInReferenceIdeal.nD Cert.NormInReferenceIdeal.τ).loc Cert.NormInReferenceIdeal.main_arg3)
          ∧ r.2.mem ((c.tc : Thread Cert.NormInReferenceIdeal.nD Cert.NormInReferenceIdeal.τ).loc Cert.NormInReferenceIdeal.main_arg4) = m' ((c.tc : Thread Cert.NormInReferenceIdeal.nD Cert.NormInReferenceIdeal.τ).loc Cert.NormInReferenceIdeal.main_arg4))

def preserves_OutProjKernel_OutProjKernelIdeal : Prop :=
  True

def algebraic_OutProjKernelIdeal_OutProjReferenceIdeal [hOutProjKernelIdeal : Cert.OutProjKernelIdeal.Facts] [hOutProjReferenceIdeal : Cert.OutProjReferenceIdeal.Facts] : Prop :=
  ∀ (m : (ℓ : Loc Cert.OutProjKernelIdeal.nD Cert.OutProjKernelIdeal.τ Cert.OutProjKernelIdeal.sig) → Buf (Elt Ideal) ℓ) (g : Dev Cert.OutProjKernelIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjKernelIdeal m →
    (∀ c : Dev Cert.OutProjKernelIdeal.nD,
      m' ((c.tc : Thread Cert.OutProjReferenceIdeal.nD Cert.OutProjReferenceIdeal.τ).loc Cert.OutProjReferenceIdeal.main_arg0) = m ((c.tc : Thread Cert.OutProjKernelIdeal.nD Cert.OutProjKernelIdeal.τ).loc Cert.OutProjKernelIdeal.main_arg0)
      ∧ m' ((c.tc : Thread Cert.OutProjReferenceIdeal.nD Cert.OutProjReferenceIdeal.τ).loc Cert.OutProjReferenceIdeal.main_arg1) = m ((c.tc : Thread Cert.OutProjKernelIdeal.nD Cert.OutProjKernelIdeal.τ).loc Cert.OutProjKernelIdeal.main_arg1)
      ∧ m' ((c.tc : Thread Cert.OutProjReferenceIdeal.nD Cert.OutProjReferenceIdeal.τ).loc Cert.OutProjReferenceIdeal.main_arg2) = m ((c.tc : Thread Cert.OutProjKernelIdeal.nD Cert.OutProjKernelIdeal.τ).loc Cert.OutProjKernelIdeal.main_arg2)
      ∧ m' ((c.tc : Thread Cert.OutProjReferenceIdeal.nD Cert.OutProjReferenceIdeal.τ).loc Cert.OutProjReferenceIdeal.main_arg3) = m ((c.tc : Thread Cert.OutProjKernelIdeal.nD Cert.OutProjKernelIdeal.τ).loc Cert.OutProjKernelIdeal.main_arg3)
      ∧ m' ((c.tc : Thread Cert.OutProjReferenceIdeal.nD Cert.OutProjReferenceIdeal.τ).loc Cert.OutProjReferenceIdeal.main_arg4) = m ((c.tc : Thread Cert.OutProjKernelIdeal.nD Cert.OutProjKernelIdeal.τ).loc Cert.OutProjKernelIdeal.main_arg4)) →
    ∃ (v0 : (c : Dev Cert.OutProjKernelIdeal.nD) → Buf (Elt Ideal) ((c.tc : Thread Cert.OutProjKernelIdeal.nD Cert.OutProjKernelIdeal.τ).loc Cert.OutProjKernelIdeal.main_v4_0)) (v1 : (c : Dev Cert.OutProjKernelIdeal.nD) → Buf (Elt Ideal) ((c.tc : Thread Cert.OutProjKernelIdeal.nD Cert.OutProjKernelIdeal.τ).loc Cert.OutProjKernelIdeal.main_v4_1)) (v2 : (c : Dev Cert.OutProjKernelIdeal.nD) → Buf (Elt Ideal) ((c.tc : Thread Cert.OutProjKernelIdeal.nD Cert.OutProjKernelIdeal.τ).loc Cert.OutProjKernelIdeal.main_v4_2)),
      θ_run (Cert.OutProjKernelIdeal.defs (F := Ideal)) (onTc (τ := Cert.OutProjKernelIdeal.τ) (Cert.OutProjKernelIdeal.main (F := Ideal))) ⟨m, fun _ => 0, g⟩ (fun r => ∀ c : Dev Cert.OutProjKernelIdeal.nD,
          r.2.mem ((c.tc : Thread Cert.OutProjKernelIdeal.nD Cert.OutProjKernelIdeal.τ).loc Cert.OutProjKernelIdeal.main_v4_0) = v0 c
          ∧ r.2.mem ((c.tc : Thread Cert.OutProjKernelIdeal.nD Cert.OutProjKernelIdeal.τ).loc Cert.OutProjKernelIdeal.main_v4_1) = v1 c
          ∧ r.2.mem ((c.tc : Thread Cert.OutProjKernelIdeal.nD Cert.OutProjKernelIdeal.τ).loc Cert.OutProjKernelIdeal.main_v4_2) = v2 c
          ∧ r.2.mem ((c.tc : Thread Cert.OutProjKernelIdeal.nD Cert.OutProjKernelIdeal.τ).loc Cert.OutProjKernelIdeal.main_arg0) = m ((c.tc : Thread Cert.OutProjKernelIdeal.nD Cert.OutProjKernelIdeal.τ).loc Cert.OutProjKernelIdeal.main_arg0)
          ∧ r.2.mem ((c.tc : Thread Cert.OutProjKernelIdeal.nD Cert.OutProjKernelIdeal.τ).loc Cert.OutProjKernelIdeal.main_arg1) = m ((c.tc : Thread Cert.OutProjKernelIdeal.nD Cert.OutProjKernelIdeal.τ).loc Cert.OutProjKernelIdeal.main_arg1)
          ∧ r.2.mem ((c.tc : Thread Cert.OutProjKernelIdeal.nD Cert.OutProjKernelIdeal.τ).loc Cert.OutProjKernelIdeal.main_arg2) = m ((c.tc : Thread Cert.OutProjKernelIdeal.nD Cert.OutProjKernelIdeal.τ).loc Cert.OutProjKernelIdeal.main_arg2)
          ∧ r.2.mem ((c.tc : Thread Cert.OutProjKernelIdeal.nD Cert.OutProjKernelIdeal.τ).loc Cert.OutProjKernelIdeal.main_arg3) = m ((c.tc : Thread Cert.OutProjKernelIdeal.nD Cert.OutProjKernelIdeal.τ).loc Cert.OutProjKernelIdeal.main_arg3)
          ∧ r.2.mem ((c.tc : Thread Cert.OutProjKernelIdeal.nD Cert.OutProjKernelIdeal.τ).loc Cert.OutProjKernelIdeal.main_arg4) = m ((c.tc : Thread Cert.OutProjKernelIdeal.nD Cert.OutProjKernelIdeal.τ).loc Cert.OutProjKernelIdeal.main_arg4))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_v18) = v1 c
          ∧ r.2.mem ((c.tc : Thread Cert.OutProjReferenceIdeal.nD Cert.OutProjReferenceIdeal.τ).loc Cert.OutProjReferenceIdeal.main_v19) = v2 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4))

def preserves_InProjKernel_InProjKernelIdeal : Prop :=
  True

def algebraic_InProjKernelIdeal_InProjReferenceIdeal [hInProjKernelIdeal : Cert.InProjKernelIdeal.Facts] [hInProjReferenceIdeal : Cert.InProjReferenceIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjKernelIdeal m →
    (∀ c : Dev Cert.InProjKernelIdeal.nD,
      m' ((c.tc : Thread Cert.InProjReferenceIdeal.nD Cert.InProjReferenceIdeal.τ).loc Cert.InProjReferenceIdeal.main_arg0) = m ((c.tc : Thread Cert.InProjKernelIdeal.nD Cert.InProjKernelIdeal.τ).loc Cert.InProjKernelIdeal.main_arg0)
      ∧ m' ((c.tc : Thread Cert.InProjReferenceIdeal.nD Cert.InProjReferenceIdeal.τ).loc Cert.InProjReferenceIdeal.main_arg1) = m ((c.tc : Thread Cert.InProjKernelIdeal.nD Cert.InProjKernelIdeal.τ).loc Cert.InProjKernelIdeal.main_arg1)
      ∧ m' ((c.tc : Thread Cert.InProjReferenceIdeal.nD Cert.InProjReferenceIdeal.τ).loc Cert.InProjReferenceIdeal.main_arg2) = m ((c.tc : Thread Cert.InProjKernelIdeal.nD Cert.InProjKernelIdeal.τ).loc Cert.InProjKernelIdeal.main_arg2)) →
    ∃ (v0 : (c : Dev Cert.InProjKernelIdeal.nD) → Buf (Elt Ideal) ((c.tc : Thread Cert.InProjKernelIdeal.nD Cert.InProjKernelIdeal.τ).loc Cert.InProjKernelIdeal.main_v9_0)) (v1 : (c : Dev Cert.InProjKernelIdeal.nD) → Buf (Elt Ideal) ((c.tc : Thread Cert.InProjKernelIdeal.nD Cert.InProjKernelIdeal.τ).loc Cert.InProjKernelIdeal.main_v9_1)),
      θ_run (Cert.InProjKernelIdeal.defs (F := Ideal)) (onTc (τ := Cert.InProjKernelIdeal.τ) (Cert.InProjKernelIdeal.main (F := Ideal))) ⟨m, fun _ => 0, g⟩ (fun r => ∀ c : Dev Cert.InProjKernelIdeal.nD,
          r.2.mem ((c.tc : Thread Cert.InProjKernelIdeal.nD Cert.InProjKernelIdeal.τ).loc Cert.InProjKernelIdeal.main_v9_0) = v0 c
          ∧ r.2.mem ((c.tc : Thread Cert.InProjKernelIdeal.nD Cert.InProjKernelIdeal.τ).loc Cert.InProjKernelIdeal.main_v9_1) = v1 c
          ∧ r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
          ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
          ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v22) = v0 c
          ∧ r.2.mem ((c.tc : Thread Cert.InProjReferenceIdeal.nD Cert.InProjReferenceIdeal.τ).loc Cert.InProjReferenceIdeal.main_v24) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v7_0)) (v1 : (c : Dev Cert.FfnKernelIdeal.nD) → Buf (Elt Ideal) ((c.tc : Thread Cert.FfnKernelIdeal.nD Cert.FfnKernelIdeal.τ).loc Cert.FfnKernelIdeal.main_v7_1)) (v2 : (c : Dev Cert.FfnKernelIdeal.nD) → Buf (Elt Ideal) ((c.tc : Thread Cert.FfnKernelIdeal.nD Cert.FfnKernelIdeal.τ).loc Cert.FfnKernelIdeal.main_v7_2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v7_0) = v0 c
          ∧ r.2.mem ((c.tc : Thread Cert.FfnKernelIdeal.nD Cert.FfnKernelIdeal.τ).loc Cert.FfnKernelIdeal.main_v7_1) = v1 c
          ∧ r.2.mem ((c.tc : Thread Cert.FfnKernelIdeal.nD Cert.FfnKernelIdeal.τ).loc Cert.FfnKernelIdeal.main_v7_2) = v2 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v82) = v0 c
          ∧ r.2.mem ((c.tc : Thread Cert.FfnReferenceIdeal.nD Cert.FfnReferenceIdeal.τ).loc Cert.FfnReferenceIdeal.main_v83) = v1 c
          ∧ r.2.mem ((c.tc : Thread Cert.FfnReferenceIdeal.nD Cert.FfnReferenceIdeal.τ).loc Cert.FfnReferenceIdeal.main_v84) = v2 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_UpFfnKernel_UpFfnKernelIdeal : Prop :=
  True

def algebraic_UpFfnKernelIdeal_UpFfnReferenceIdeal [hUpFfnKernelIdeal : Cert.UpFfnKernelIdeal.Facts] [hUpFfnReferenceIdeal : Cert.UpFfnReferenceIdeal.Facts] : Prop :=
  ∀ (m : (ℓ : Loc Cert.UpFfnKernelIdeal.nD Cert.UpFfnKernelIdeal.τ Cert.UpFfnKernelIdeal.sig) → Buf (Elt Ideal) ℓ) (g : Dev Cert.UpFfnKernelIdeal.nD → PrngReg)
    (m' : (ℓ : Loc Cert.UpFfnReferenceIdeal.nD Cert.UpFfnReferenceIdeal.τ Cert.UpFfnReferenceIdeal.sig) → Buf (Elt Ideal) ℓ) (g' : Dev Cert.UpFfnReferenceIdeal.nD → PrngReg), Pre_UpFfnKernelIdeal m →
    (∀ c : Dev Cert.UpFfnKernelIdeal.nD,
      m' ((c.tc : Thread Cert.UpFfnReferenceIdeal.nD Cert.UpFfnReferenceIdeal.τ).loc Cert.UpFfnReferenceIdeal.main_arg0) = m ((c.tc : Thread Cert.UpFfnKernelIdeal.nD Cert.UpFfnKernelIdeal.τ).loc Cert.UpFfnKernelIdeal.main_arg0)
      ∧ m' ((c.tc : Thread Cert.UpFfnReferenceIdeal.nD Cert.UpFfnReferenceIdeal.τ).loc Cert.UpFfnReferenceIdeal.main_arg1) = m ((c.tc : Thread Cert.UpFfnKernelIdeal.nD Cert.UpFfnKernelIdeal.τ).loc Cert.UpFfnKernelIdeal.main_arg1)
      ∧ m' ((c.tc : Thread Cert.UpFfnReferenceIdeal.nD Cert.UpFfnReferenceIdeal.τ).loc Cert.UpFfnReferenceIdeal.main_arg2) = m ((c.tc : Thread Cert.UpFfnKernelIdeal.nD Cert.UpFfnKernelIdeal.τ).loc Cert.UpFfnKernelIdeal.main_arg2)
      ∧ m' ((c.tc : Thread Cert.UpFfnReferenceIdeal.nD Cert.UpFfnReferenceIdeal.τ).loc Cert.UpFfnReferenceIdeal.main_arg3) = m ((c.tc : Thread Cert.UpFfnKernelIdeal.nD Cert.UpFfnKernelIdeal.τ).loc Cert.UpFfnKernelIdeal.main_arg3)) →
    ∃ (v0 : (c : Dev Cert.UpFfnKernelIdeal.nD) → Buf (Elt Ideal) ((c.tc : Thread Cert.UpFfnKernelIdeal.nD Cert.UpFfnKernelIdeal.τ).loc Cert.UpFfnKernelIdeal.main_v7_0)) (v1 : (c : Dev Cert.UpFfnKernelIdeal.nD) → Buf (Elt Ideal) ((c.tc : Thread Cert.UpFfnKernelIdeal.nD Cert.UpFfnKernelIdeal.τ).loc Cert.UpFfnKernelIdeal.main_v7_1)) (v2 : (c : Dev Cert.UpFfnKernelIdeal.nD) → Buf (Elt Ideal) ((c.tc : Thread Cert.UpFfnKernelIdeal.nD Cert.UpFfnKernelIdeal.τ).loc Cert.UpFfnKernelIdeal.main_v7_2)),
      θ_run (Cert.UpFfnKernelIdeal.defs (F := Ideal)) (onTc (τ := Cert.UpFfnKernelIdeal.τ) (Cert.UpFfnKernelIdeal.main (F := Ideal))) ⟨m, fun _ => 0, g⟩ (fun r => ∀ c : Dev Cert.UpFfnKernelIdeal.nD,
          r.2.mem ((c.tc : Thread Cert.UpFfnKernelIdeal.nD Cert.UpFfnKernelIdeal.τ).loc Cert.UpFfnKernelIdeal.main_v7_0) = v0 c
          ∧ r.2.mem ((c.tc : Thread Cert.UpFfnKernelIdeal.nD Cert.UpFfnKernelIdeal.τ).loc Cert.UpFfnKernelIdeal.main_v7_1) = v1 c
          ∧ r.2.mem ((c.tc : Thread Cert.UpFfnKernelIdeal.nD Cert.UpFfnKernelIdeal.τ).loc Cert.UpFfnKernelIdeal.main_v7_2) = v2 c
          ∧ r.2.mem ((c.tc : Thread Cert.UpFfnKernelIdeal.nD Cert.UpFfnKernelIdeal.τ).loc Cert.UpFfnKernelIdeal.main_arg0) = m ((c.tc : Thread Cert.UpFfnKernelIdeal.nD Cert.UpFfnKernelIdeal.τ).loc Cert.UpFfnKernelIdeal.main_arg0)
          ∧ r.2.mem ((c.tc : Thread Cert.UpFfnKernelIdeal.nD Cert.UpFfnKernelIdeal.τ).loc Cert.UpFfnKernelIdeal.main_arg1) = m ((c.tc : Thread Cert.UpFfnKernelIdeal.nD Cert.UpFfnKernelIdeal.τ).loc Cert.UpFfnKernelIdeal.main_arg1)
          ∧ r.2.mem ((c.tc : Thread Cert.UpFfnKernelIdeal.nD Cert.UpFfnKernelIdeal.τ).loc Cert.UpFfnKernelIdeal.main_arg2) = m ((c.tc : Thread Cert.UpFfnKernelIdeal.nD Cert.UpFfnKernelIdeal.τ).loc Cert.UpFfnKernelIdeal.main_arg2)
          ∧ r.2.mem ((c.tc : Thread Cert.UpFfnKernelIdeal.nD Cert.UpFfnKernelIdeal.τ).loc Cert.UpFfnKernelIdeal.main_arg3) = m ((c.tc : Thread Cert.UpFfnKernelIdeal.nD Cert.UpFfnKernelIdeal.τ).loc Cert.UpFfnKernelIdeal.main_arg3))
      ∧ θ_run (Cert.UpFfnReferenceIdeal.defs (F := Ideal)) (onTc (τ := Cert.UpFfnReferenceIdeal.τ) (Cert.UpFfnReferenceIdeal.main (F := Ideal))) ⟨m', fun _ => 0, g'⟩ (fun r => ∀ c : Dev Cert.UpFfnReferenceIdeal.nD,
          r.2.mem ((c.tc : Thread Cert.UpFfnReferenceIdeal.nD Cert.UpFfnReferenceIdeal.τ).loc Cert.UpFfnReferenceIdeal.main_v39) = v0 c
          ∧ r.2.mem ((c.tc : Thread Cert.UpFfnReferenceIdeal.nD Cert.UpFfnReferenceIdeal.τ).loc Cert.UpFfnReferenceIdeal.main_v34) = v1 c
          ∧ r.2.mem ((c.tc : Thread Cert.UpFfnReferenceIdeal.nD Cert.UpFfnReferenceIdeal.τ).loc Cert.UpFfnReferenceIdeal.main_v40) = v2 c
          ∧ r.2.mem ((c.tc : Thread Cert.UpFfnReferenceIdeal.nD Cert.UpFfnReferenceIdeal.τ).loc Cert.UpFfnReferenceIdeal.main_arg0) = m' ((c.tc : Thread Cert.UpFfnReferenceIdeal.nD Cert.UpFfnReferenceIdeal.τ).loc Cert.UpFfnReferenceIdeal.main_arg0)
          ∧ r.2.mem ((c.tc : Thread Cert.UpFfnReferenceIdeal.nD Cert.UpFfnReferenceIdeal.τ).loc Cert.UpFfnReferenceIdeal.main_arg1) = m' ((c.tc : Thread Cert.UpFfnReferenceIdeal.nD Cert.UpFfnReferenceIdeal.τ).loc Cert.UpFfnReferenceIdeal.main_arg1)
          ∧ r.2.mem ((c.tc : Thread Cert.UpFfnReferenceIdeal.nD Cert.UpFfnReferenceIdeal.τ).loc Cert.UpFfnReferenceIdeal.main_arg2) = m' ((c.tc : Thread Cert.UpFfnReferenceIdeal.nD Cert.UpFfnReferenceIdeal.τ).loc Cert.UpFfnReferenceIdeal.main_arg2)
          ∧ r.2.mem ((c.tc : Thread Cert.UpFfnReferenceIdeal.nD Cert.UpFfnReferenceIdeal.τ).loc Cert.UpFfnReferenceIdeal.main_arg3) = m' ((c.tc : Thread Cert.UpFfnReferenceIdeal.nD Cert.UpFfnReferenceIdeal.τ).loc Cert.UpFfnReferenceIdeal.main_arg3))

def preserves_PrepKernel_PrepKernelIdeal : Prop :=
  True

def algebraic_PrepKernelIdeal_PrepReferenceIdeal [hPrepKernelIdeal : Cert.PrepKernelIdeal.Facts] [hPrepReferenceIdeal : Cert.PrepReferenceIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)) →
    ∃ (v0 : (c : Dev Cert.PrepKernelIdeal.nD) → Buf (Elt Ideal) ((c.tc : Thread Cert.PrepKernelIdeal.nD Cert.PrepKernelIdeal.τ).loc Cert.PrepKernelIdeal.main_v100_0)) (v1 : (c : Dev Cert.PrepKernelIdeal.nD) → Buf (Elt Ideal) ((c.tc : Thread Cert.PrepKernelIdeal.nD Cert.PrepKernelIdeal.τ).loc Cert.PrepKernelIdeal.main_v100_1)) (v2 : (c : Dev Cert.PrepKernelIdeal.nD) → Buf (Elt Ideal) ((c.tc : Thread Cert.PrepKernelIdeal.nD Cert.PrepKernelIdeal.τ).loc Cert.PrepKernelIdeal.main_v100_4)) (v3 : (c : Dev Cert.PrepKernelIdeal.nD) → Buf (Elt Ideal) ((c.tc : Thread Cert.PrepKernelIdeal.nD Cert.PrepKernelIdeal.τ).loc Cert.PrepKernelIdeal.main_v100_5)) (v4 : (c : Dev Cert.PrepKernelIdeal.nD) → Buf (Elt Ideal) ((c.tc : Thread Cert.PrepKernelIdeal.nD Cert.PrepKernelIdeal.τ).loc Cert.PrepKernelIdeal.main_v100_7)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v100_0) = v0 c
          ∧ r.2.mem ((c.tc : Thread Cert.PrepKernelIdeal.nD Cert.PrepKernelIdeal.τ).loc Cert.PrepKernelIdeal.main_v100_1) = v1 c
          ∧ r.2.mem ((c.tc : Thread Cert.PrepKernelIdeal.nD Cert.PrepKernelIdeal.τ).loc Cert.PrepKernelIdeal.main_v100_4) = v2 c
          ∧ r.2.mem ((c.tc : Thread Cert.PrepKernelIdeal.nD Cert.PrepKernelIdeal.τ).loc Cert.PrepKernelIdeal.main_v100_5) = v3 c
          ∧ r.2.mem ((c.tc : Thread Cert.PrepKernelIdeal.nD Cert.PrepKernelIdeal.τ).loc Cert.PrepKernelIdeal.main_v100_7) = v4 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v37) = v0 c
          ∧ r.2.mem ((c.tc : Thread Cert.PrepReferenceIdeal.nD Cert.PrepReferenceIdeal.τ).loc Cert.PrepReferenceIdeal.main_v38) = v1 c
          ∧ r.2.mem ((c.tc : Thread Cert.PrepReferenceIdeal.nD Cert.PrepReferenceIdeal.τ).loc Cert.PrepReferenceIdeal.main_v39) = v2 c
          ∧ r.2.mem ((c.tc : Thread Cert.PrepReferenceIdeal.nD Cert.PrepReferenceIdeal.τ).loc Cert.PrepReferenceIdeal.main_v41) = v3 c
          ∧ r.2.mem ((c.tc : Thread Cert.PrepReferenceIdeal.nD Cert.PrepReferenceIdeal.τ).loc Cert.PrepReferenceIdeal.main_v43) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3))

def Claim : Prop :=
  ∃ (hLossKernel : Cert.LossKernel.Facts) (hLossKernelIdeal : Cert.LossKernelIdeal.Facts) (hLossReferenceIdeal : Cert.LossReferenceIdeal.Facts) (hFoxKernel : Cert.FoxKernel.Facts) (hFoxKernelIdeal : Cert.FoxKernelIdeal.Facts) (hFoxReferenceIdeal : Cert.FoxReferenceIdeal.Facts) (hFoxFwdKernel : Cert.FoxFwdKernel.Facts) (hFoxFwdKernelIdeal : Cert.FoxFwdKernelIdeal.Facts) (hFoxFwdReferenceIdeal : Cert.FoxFwdReferenceIdeal.Facts) (hNormKernel : Cert.NormKernel.Facts) (hNormKernelIdeal : Cert.NormKernelIdeal.Facts) (hNormReferenceIdeal : Cert.NormReferenceIdeal.Facts) (hNormInKernel : Cert.NormInKernel.Facts) (hNormInKernelIdeal : Cert.NormInKernelIdeal.Facts) (hNormInReferenceIdeal : Cert.NormInReferenceIdeal.Facts) (hOutProjKernel : Cert.OutProjKernel.Facts) (hOutProjKernelIdeal : Cert.OutProjKernelIdeal.Facts) (hOutProjReferenceIdeal : Cert.OutProjReferenceIdeal.Facts) (hInProjKernel : Cert.InProjKernel.Facts) (hInProjKernelIdeal : Cert.InProjKernelIdeal.Facts) (hInProjReferenceIdeal : Cert.InProjReferenceIdeal.Facts) (hFfnKernel : Cert.FfnKernel.Facts) (hFfnKernelIdeal : Cert.FfnKernelIdeal.Facts) (hFfnReferenceIdeal : Cert.FfnReferenceIdeal.Facts) (hUpFfnKernel : Cert.UpFfnKernel.Facts) (hUpFfnKernelIdeal : Cert.UpFfnKernelIdeal.Facts) (hUpFfnReferenceIdeal : Cert.UpFfnReferenceIdeal.Facts) (hPrepKernel : Cert.PrepKernel.Facts) (hPrepKernelIdeal : Cert.PrepKernelIdeal.Facts) (hPrepReferenceIdeal : Cert.PrepReferenceIdeal.Facts) (hPre_finite_foxb : Cert.Pre_finite_foxb.Facts) (hPre_finite_foxf : Cert.Pre_finite_foxf.Facts) (hPre_finite_norm2 : Cert.Pre_finite_norm2.Facts) (hPre_finite_norm1 : Cert.Pre_finite_norm1.Facts) (hPre_finite_ffn : Cert.Pre_finite_ffn.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_FoxKernel (hFoxKernel := hFoxKernel)
    ∧ quiescent_FoxKernelIdeal (hFoxKernelIdeal := hFoxKernelIdeal)
    ∧ quiescent_FoxKernelIdeal_pre_finite_foxb (hFoxKernelIdeal := hFoxKernelIdeal) (hPre_finite_foxb := hPre_finite_foxb)
    ∧ quiescent_FoxReferenceIdeal (hFoxReferenceIdeal := hFoxReferenceIdeal)
    ∧ quiescent_FoxReferenceIdeal_pre_finite_foxb (hFoxReferenceIdeal := hFoxReferenceIdeal) (hPre_finite_foxb := hPre_finite_foxb)
    ∧ quiescent_FoxFwdKernel (hFoxFwdKernel := hFoxFwdKernel)
    ∧ quiescent_FoxFwdKernelIdeal (hFoxFwdKernelIdeal := hFoxFwdKernelIdeal)
    ∧ quiescent_FoxFwdKernelIdeal_pre_finite_foxf (hFoxFwdKernelIdeal := hFoxFwdKernelIdeal) (hPre_finite_foxf := hPre_finite_foxf)
    ∧ quiescent_FoxFwdReferenceIdeal (hFoxFwdReferenceIdeal := hFoxFwdReferenceIdeal)
    ∧ quiescent_FoxFwdReferenceIdeal_pre_finite_foxf (hFoxFwdReferenceIdeal := hFoxFwdReferenceIdeal) (hPre_finite_foxf := hPre_finite_foxf)
    ∧ quiescent_NormKernel (hNormKernel := hNormKernel)
    ∧ quiescent_NormKernelIdeal (hNormKernelIdeal := hNormKernelIdeal)
    ∧ quiescent_NormKernelIdeal_pre_finite_norm2 (hNormKernelIdeal := hNormKernelIdeal) (hPre_finite_norm2 := hPre_finite_norm2)
    ∧ quiescent_NormReferenceIdeal (hNormReferenceIdeal := hNormReferenceIdeal)
    ∧ quiescent_NormReferenceIdeal_pre_finite_norm2 (hNormReferenceIdeal := hNormReferenceIdeal) (hPre_finite_norm2 := hPre_finite_norm2)
    ∧ quiescent_NormInKernel (hNormInKernel := hNormInKernel)
    ∧ quiescent_NormInKernelIdeal (hNormInKernelIdeal := hNormInKernelIdeal)
    ∧ quiescent_NormInKernelIdeal_pre_finite_norm1 (hNormInKernelIdeal := hNormInKernelIdeal) (hPre_finite_norm1 := hPre_finite_norm1)
    ∧ quiescent_NormInReferenceIdeal (hNormInReferenceIdeal := hNormInReferenceIdeal)
    ∧ quiescent_NormInReferenceIdeal_pre_finite_norm1 (hNormInReferenceIdeal := hNormInReferenceIdeal) (hPre_finite_norm1 := hPre_finite_norm1)
    ∧ quiescent_OutProjKernel (hOutProjKernel := hOutProjKernel)
    ∧ quiescent_OutProjKernelIdeal (hOutProjKernelIdeal := hOutProjKernelIdeal)
    ∧ quiescent_OutProjReferenceIdeal (hOutProjReferenceIdeal := hOutProjReferenceIdeal)
    ∧ quiescent_InProjKernel (hInProjKernel := hInProjKernel)
    ∧ quiescent_InProjKernelIdeal (hInProjKernelIdeal := hInProjKernelIdeal)
    ∧ quiescent_InProjReferenceIdeal (hInProjReferenceIdeal := hInProjReferenceIdeal)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_UpFfnKernel (hUpFfnKernel := hUpFfnKernel)
    ∧ quiescent_UpFfnKernelIdeal (hUpFfnKernelIdeal := hUpFfnKernelIdeal)
    ∧ quiescent_UpFfnReferenceIdeal (hUpFfnReferenceIdeal := hUpFfnReferenceIdeal)
    ∧ quiescent_PrepKernel (hPrepKernel := hPrepKernel)
    ∧ quiescent_PrepKernelIdeal (hPrepKernelIdeal := hPrepKernelIdeal)
    ∧ quiescent_PrepReferenceIdeal (hPrepReferenceIdeal := hPrepReferenceIdeal)
    ∧ preserves_LossKernel_LossKernelIdeal
    ∧ algebraic_LossKernelIdeal_LossReferenceIdeal (hLossKernelIdeal := hLossKernelIdeal) (hLossReferenceIdeal := hLossReferenceIdeal)
    ∧ preserves_FoxKernel_FoxKernelIdeal
    ∧ algebraic_FoxKernelIdeal_FoxReferenceIdeal_pre_finite_foxb (hFoxKernelIdeal := hFoxKernelIdeal) (hFoxReferenceIdeal := hFoxReferenceIdeal) (hPre_finite_foxb := hPre_finite_foxb)
    ∧ preserves_FoxFwdKernel_FoxFwdKernelIdeal
    ∧ algebraic_FoxFwdKernelIdeal_FoxFwdReferenceIdeal_pre_finite_foxf (hFoxFwdKernelIdeal := hFoxFwdKernelIdeal) (hFoxFwdReferenceIdeal := hFoxFwdReferenceIdeal) (hPre_finite_foxf := hPre_finite_foxf)
    ∧ preserves_NormKernel_NormKernelIdeal
    ∧ algebraic_NormKernelIdeal_NormReferenceIdeal_pre_finite_norm2 (hNormKernelIdeal := hNormKernelIdeal) (hNormReferenceIdeal := hNormReferenceIdeal) (hPre_finite_norm2 := hPre_finite_norm2)
    ∧ preserves_NormInKernel_NormInKernelIdeal
    ∧ algebraic_NormInKernelIdeal_NormInReferenceIdeal_pre_finite_norm1 (hNormInKernelIdeal := hNormInKernelIdeal) (hNormInReferenceIdeal := hNormInReferenceIdeal) (hPre_finite_norm1 := hPre_finite_norm1)
    ∧ preserves_OutProjKernel_OutProjKernelIdeal
    ∧ algebraic_OutProjKernelIdeal_OutProjReferenceIdeal (hOutProjKernelIdeal := hOutProjKernelIdeal) (hOutProjReferenceIdeal := hOutProjReferenceIdeal)
    ∧ preserves_InProjKernel_InProjKernelIdeal
    ∧ algebraic_InProjKernelIdeal_InProjReferenceIdeal (hInProjKernelIdeal := hInProjKernelIdeal) (hInProjReferenceIdeal := hInProjReferenceIdeal)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_UpFfnKernel_UpFfnKernelIdeal
    ∧ algebraic_UpFfnKernelIdeal_UpFfnReferenceIdeal (hUpFfnKernelIdeal := hUpFfnKernelIdeal) (hUpFfnReferenceIdeal := hUpFfnReferenceIdeal)
    ∧ preserves_PrepKernel_PrepKernelIdeal
    ∧ algebraic_PrepKernelIdeal_PrepReferenceIdeal (hPrepKernelIdeal := hPrepKernelIdeal) (hPrepReferenceIdeal := hPrepReferenceIdeal)
-- ==== Pre_finite_ffn.lean ====
abbrev S4096x5632 : Shape := ⟨2, ![4096, 5632]⟩
abbrev S1x3x5632 : Shape := ⟨3, ![1, 3, 5632]⟩
abbrev S1x5632 : Shape := ⟨2, ![1, 5632]⟩
abbrev S4096x2816 : Shape := ⟨2, ![4096, 2816]⟩
abbrev S_ : Shape := ⟨0, ![]⟩

class Facts : Prop where
  bcast_S_S4096x5632 : S_.BroadcastsInDim S4096x5632 (![] : Fin 0 → Fin S4096x5632.rank)
  bcast_S_S1x3x5632 : S_.BroadcastsInDim S1x3x5632 (![] : Fin 0 → Fin S1x3x5632.rank)
  bcast_S_S1x5632 : S_.BroadcastsInDim S1x5632 (![] : Fin 0 → Fin S1x5632.rank)
  bcast_S_S4096x2816 : S_.BroadcastsInDim S4096x2816 (![] : Fin 0 → Fin S4096x2816.rank)

variable [Facts]

def fn {F : FTy → Type} [FloatOps F] (main_arg0 : FVec F S4096x5632 .f32) (main_arg1 : FVec F S1x3x5632 .f32) (main_arg2 : FVec F S1x5632 .f32) (main_arg3 : FVec F S4096x2816 .f32) : IVec S4096x5632 1 × IVec S1x3x5632 1 × IVec S1x5632 1 × IVec S4096x2816 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1x3x5632 .f32 := Host.absf main_arg1
  let main_cst_0 : FVec F S_ .f32 := constant S_ .f32 0x7F800000#32
  let main_v4 : FVec F S1x3x5632 .f32 := broadcastInDim S1x3x5632 ![] bcast_S_S1x3x5632 main_cst_0
  let main_v5 : IVec S1x3x5632 1 := cmpf .olt main_v3 main_v4
  let main_v6 : FVec F S1x5632 .f32 := Host.absf main_arg2
  let main_cst_1 : FVec F S_ .f32 := constant S_ .f32 0x7F800000#32
  let main_v7 : FVec F S1x5632 .f32 := broadcastInDim S1x5632 ![] bcast_S_S1x5632 main_cst_1
  let main_v8 : IVec S1x5632 1 := cmpf .olt main_v6 main_v7
  let main_v9 : FVec F S4096x2816 .f32 := Host.absf main_arg3
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  (main_v2, main_v5, main_v8, main_v11)
-- ==== Pre_finite_foxb.lean ====
abbrev S16x4096x64 : Shape := ⟨3, ![16, 4096, 64]⟩
abbrev S16x4096 : Shape := ⟨2, ![16, 4096]⟩
abbrev S4096x2048 : Shape := ⟨2, ![4096, 2048]⟩
abbrev S4096x1024 : Shape := ⟨2, ![4096, 1024]⟩
abbrev S_ : Shape := ⟨0, ![]⟩

class Facts : Prop where
  slices_S4096x2048_S4096x1024_0_1024 : S4096x2048.Slices ![0, 1024] S4096x1024
  bcast_S_S16x4096x64 : S_.BroadcastsInDim S16x4096x64 (![] : Fin 0 → Fin S16x4096x64.rank)
  bcast_S_S16x4096 : S_.BroadcastsInDim S16x4096 (![] : Fin 0 → Fin S16x4096.rank)
  bcast_S_S4096x1024 : S_.BroadcastsInDim S4096x1024 (![] : Fin 0 → Fin S4096x1024.rank)

variable [Facts]

def fn {F : FTy → Type} [FloatOps F] (main_arg0 : FVec F S16x4096x64 .f32) (main_arg1 : FVec F S16x4096x64 .f32) (main_arg2 : FVec F S16x4096x64 .f32) (main_arg3 : FVec F S16x4096 .f32) (main_arg4 : FVec F S4096x2048 .f32) : IVec S16x4096x64 1 × IVec S16x4096x64 1 × IVec S16x4096x64 1 × IVec S16x4096 1 × IVec S4096x1024 1 :=
  let main_v0 : FVec F S4096x1024 .f32 := (extractStridedSlice S4096x1024 ![0, 1024] · slices_S4096x2048_S4096x1024_0_1024) main_arg4
  let main_v1 : FVec F S16x4096x64 .f32 := Host.absf main_arg0
  let main_cst : FVec F S_ .f32 := constant S_ .f32 0x7F800000#32
  let main_v2 : FVec F S16x4096x64 .f32 := broadcastInDim S16x4096x64 ![] bcast_S_S16x4096x64 main_cst
  let main_v3 : IVec S16x4096x64 1 := cmpf .olt main_v1 main_v2
  let main_v4 : FVec F S16x4096x64 .f32 := Host.absf main_arg1
  let main_cst_0 : FVec F S_ .f32 := constant S_ .f32 0x7F800000#32
  let main_v5 : FVec F S16x4096x64 .f32 := broadcastInDim S16x4096x64 ![] bcast_S_S16x4096x64 main_cst_0
  let main_v6 : IVec S16x4096x64 1 := cmpf .olt main_v4 main_v5
  let main_v7 : FVec F S16x4096x64 .f32 := Host.absf main_arg2
  let main_cst_1 : FVec F S_ .f32 := constant S_ .f32 0x7F800000#32
  let main_v8 : FVec F S16x4096x64 .f32 := broadcastInDim S16x4096x64 ![] bcast_S_S16x4096x64 main_cst_1
  let main_v9 : IVec S16x4096x64 1 := cmpf .olt main_v7 main_v8
  let main_v10 : FVec F S16x4096 .f32 := Host.absf main_arg3
  let main_cst_2 : FVec F S_ .f32 := constant S_ .f32 0x7F800000#32
  let main_v11 : FVec F S16x4096 .f32 := broadcastInDim S16x4096 ![] bcast_S_S16x4096 main_cst_2
  let main_v12 : IVec S16x4096 1 := cmpf .olt main_v10 main_v11
  let main_v13 : FVec F S4096x1024 .f32 := Host.absf main_v0
  let main_cst_3 : FVec F S_ .f32 := constant S_ .f32 0x7F800000#32
  let main_v14 : FVec F S4096x1024 .f32 := broadcastInDim S4096x1024 ![] bcast_S_S4096x1024 main_cst_3
  let main_v15 : IVec S4096x1024 1 := cmpf .olt main_v13 main_v14
  (main_v3, main_v6, main_v9, main_v12, main_v15)
-- ==== Pre_finite_foxf.lean ====
abbrev S16x4096x64 : Shape := ⟨3, ![16, 4096, 64]⟩
abbrev S16x4096 : Shape := ⟨2, ![16, 4096]⟩
abbrev S_ : Shape := ⟨0, ![]⟩

class Facts : Prop where
  bcast_S_S16x4096x64 : S_.BroadcastsInDim S16x4096x64 (![] : Fin 0 → Fin S16x4096x64.rank)
  bcast_S_S16x4096 : S_.BroadcastsInDim S16x4096 (![] : Fin 0 → Fin S16x4096.rank)

variable [Facts]

def fn {F : FTy → Type} [FloatOps F] (main_arg0 : FVec F S16x4096x64 .f32) (main_arg1 : FVec F S16x4096x64 .f32) (main_arg2 : FVec F S16x4096x64 .f32) (main_arg3 : FVec F S16x4096 .f32) : IVec S16x4096x64 1 × IVec S16x4096x64 1 × IVec S16x4096x64 1 × IVec S16x4096 1 :=
  let main_v0 : FVec F S16x4096x64 .f32 := Host.absf main_arg0
  let main_cst : FVec F S_ .f32 := constant S_ .f32 0x7F800000#32
  let main_v1 : FVec F S16x4096x64 .f32 := broadcastInDim S16x4096x64 ![] bcast_S_S16x4096x64 main_cst
  let main_v2 : IVec S16x4096x64 1 := cmpf .olt main_v0 main_v1
  let main_v3 : FVec F S16x4096x64 .f32 := Host.absf main_arg1
  let main_cst_0 : FVec F S_ .f32 := constant S_ .f32 0x7F800000#32
  let main_v4 : FVec F S16x4096x64 .f32 := broadcastInDim S16x4096x64 ![] bcast_S_S16x4096x64 main_cst_0
  let main_v5 : IVec S16x4096x64 1 := cmpf .olt main_v3 main_v4
  let main_v6 : FVec F S16x4096x64 .f32 := Host.absf main_arg2
  let main_cst_1 : FVec F S_ .f32 := constant S_ .f32 0x7F800000#32
  let main_v7 : FVec F S16x4096x64 .f32 := broadcastInDim S16x4096x64 ![] bcast_S_S16x4096x64 main_cst_1
  let main_v8 : IVec S16x4096x64 1 := cmpf .olt main_v6 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  (main_v2, main_v5, main_v8, main_v11)
-- ==== Pre_finite_norm1.lean ====
abbrev S4096x5664 : Shape := ⟨2, ![4096, 5664]⟩
abbrev S1x1024x5664 : Shape := ⟨3, ![1, 1024, 5664]⟩
abbrev S4096x1024 : Shape := ⟨2, ![4096, 1024]⟩
abbrev S1x1024 : Shape := ⟨2, ![1, 1024]⟩
abbrev S_ : Shape := ⟨0, ![]⟩

class Facts : Prop where
  bcast_S_S4096x5664 : S_.BroadcastsInDim S4096x5664 (![] : Fin 0 → Fin S4096x5664.rank)
  bcast_S_S1x1024x5664 : S_.BroadcastsInDim S1x1024x5664 (![] : Fin 0 → Fin S1x1024x5664.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5664 .f32) (main_arg1 : FVec F S1x1024x5664 .f32) (main_arg2 : FVec F S4096x1024 .f32) (main_arg3 : FVec F S1x1024 .f32) (main_arg4 : FVec F S4096x1024 .f32) : IVec S4096x5664 1 × IVec S1x1024x5664 1 × IVec S4096x1024 1 × IVec S1x1024 1 :=
  let main_v0 : FVec F S4096x5664 .f32 := Host.absf main_arg0
  let main_cst : FVec F S_ .f32 := constant S_ .f32 0x7F800000#32
  let main_v1 : FVec F S4096x5664 .f32 := broadcastInDim S4096x5664 ![] bcast_S_S4096x5664 main_cst
  let main_v2 : IVec S4096x5664 1 := cmpf .olt main_v0 main_v1
  let main_v3 : FVec F S1x1024x5664 .f32 := Host.absf main_arg1
  let main_cst_0 : FVec F S_ .f32 := constant S_ .f32 0x7F800000#32
  let main_v4 : FVec F S1x1024x5664 .f32 := broadcastInDim S1x1024x5664 ![] bcast_S_S1x1024x5664 main_cst_0
  let main_v5 : IVec S1x1024x5664 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Pre_finite_norm2.lean ====
abbrev S4096x5632 : Shape := ⟨2, ![4096, 5632]⟩
abbrev S1x1024x5632 : Shape := ⟨3, ![1, 1024, 5632]⟩
abbrev S4096x1024 : Shape := ⟨2, ![4096, 1024]⟩
abbrev S1x1024 : Shape := ⟨2, ![1, 1024]⟩
abbrev S1x2048x1024 : Shape := ⟨3, ![1, 2048, 1024]⟩
abbrev S_ : Shape := ⟨0, ![]⟩

class Facts : Prop where
  bcast_S_S4096x5632 : S_.BroadcastsInDim S4096x5632 (![] : Fin 0 → Fin S4096x5632.rank)
  bcast_S_S1x1024x5632 : S_.BroadcastsInDim S1x1024x5632 (![] : Fin 0 → Fin S1x1024x5632.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x5632 .f32) (main_arg1 : FVec F S1x1024x5632 .f32) (main_arg2 : FVec F S4096x1024 .f32) (main_arg3 : FVec F S1x1024 .f32) (main_arg4 : FVec F S4096x1024 .f32) (main_arg5 : FVec F S1x2048x1024 .f32) : IVec S4096x5632 1 × IVec S1x1024x5632 1 × IVec S4096x1024 1 × IVec S1x1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1x1024x5632 .f32 := Host.absf main_arg1
  let main_cst_0 : FVec F S_ .f32 := constant S_ .f32 0x7F800000#32
  let main_v4 : FVec F S1x1024x5632 .f32 := broadcastInDim S1x1024x5632 ![] bcast_S_S1x1024x5632 main_cst_0
  let main_v5 : IVec S1x1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== LossKernel.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S256x1024 : Shape := ⟨2, ![256, 1024]⟩
abbrev S256x2816 : Shape := ⟨2, ![256, 2816]⟩
abbrev S1024 : Shape := ⟨1, ![1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S4096x1024, .f32⟩
  | .hbm, ⟨4, _⟩ => ⟨S4096x2816, .bf16⟩
  | .hbm, ⟨5, _⟩ => ⟨S2816x1024, .f32⟩
  | .hbm, ⟨6, _⟩ => ⟨S2816x1024, .bf16⟩
  | .hbm, ⟨7, _⟩ => ⟨S4096x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_24 : BitVec 32 := 0#32
  let v35 : BitVec 1 := Scalar.cmpi .ne v34 c0_i32_24
  v35

def k0_cond2 (i : grid0.Coords) : BitVec 1 :=
  let arg0 : BitVec 32 := BitVec.ofNat 32 (i 0).val
  let c0_i32_25 : BitVec 32 := 0#32
  let v36 : BitVec 1 := Scalar.cmpi .sgt arg0 c0_i32_25
  let v37 : BitVec 32 := Scalar.extui v36
  let c0_i32_26 : BitVec 32 := 0#32
  let v38 : BitVec 1 := Scalar.cmpi .ne v37 c0_i32_26
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1x2816x1024, .f32⟩
  | .hbm, ⟨2, _⟩ => ⟨S4096x1024, .f32⟩
  | .hbm, ⟨3, _⟩ => ⟨S4096x1024, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== FoxKernel.lean ====
abbrev S16x4096x64 : Shape := ⟨3, ![16, 4096, 64]⟩
abbrev S16x4096 : Shape := ⟨2, ![16, 4096]⟩
abbrev S4096x2048 : Shape := ⟨2, ![4096, 2048]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16x4096x3 : Shape := ⟨3, ![16, 4096, 3]⟩
abbrev S16x4096x58 : Shape := ⟨3, ![16, 4096, 58]⟩
abbrev S8x2x4096x64 : Shape := ⟨4, ![8, 2, 4096, 64]⟩
abbrev S4096x16x64 : Shape := ⟨3, ![4096, 16, 64]⟩
abbrev S4096x1024 : Shape := ⟨2, ![4096, 1024]⟩
abbrev S1024x4096 : Shape := ⟨2, ![1024, 4096]⟩
abbrev S4096x128 : Shape := ⟨2, ![4096, 128]⟩
abbrev S128x4096 : Shape := ⟨2, ![128, 4096]⟩
abbrev S2x16x256x256 : Shape := ⟨4, ![2, 16, 256, 256]⟩
abbrev S256x128 : Shape := ⟨2, ![256, 128]⟩
abbrev S128x256 : Shape := ⟨2, ![128, 256]⟩
abbrev S256x256 : Shape := ⟨2, ![256, 256]⟩
abbrev S16x256 : Shape := ⟨2, ![16, 256]⟩
abbrev S256 : Shape := ⟨1, ![256]⟩
abbrev S1x256 : Shape := ⟨2, ![1, 256]⟩
abbrev S1x1x256x256 : Shape := ⟨4, ![1, 1, 256, 256]⟩

abbrev nBuf : Space → Nat
  | .hbm => 83
  | .vmem => 24
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096, .f32⟩
  | .hbm, ⟨4, _⟩ => ⟨S4096x2048, .f32⟩
  | .hbm, ⟨5, _⟩ => ⟨S16x4096x4096, .f32⟩
  | .hbm, ⟨6, _⟩ => ⟨S16x4096x1, .f32⟩
  | .hbm, ⟨7, _⟩ => ⟨S16x4096x4096, .f32⟩
  | .hbm, ⟨8, _⟩ => ⟨S16x4096x4096, .f32⟩
  | .hbm, ⟨9, _⟩ => ⟨S16x1x4096, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S16x4096x4096, .i1⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S16x4096, .f32⟩
  | .hbm, ⟨33, _⟩ => ⟨S16x4096, .f32⟩
  | .hbm, ⟨34, _⟩ => ⟨S16x4096, .bf16⟩
  | .hbm, ⟨35, _⟩ => ⟨S16x4096, .f32⟩
  | .hbm, ⟨36, _⟩ => ⟨S16x4096, .f32⟩
  | .hbm, ⟨37, _⟩ => ⟨S16x4096, .bf16⟩
  | .hbm, ⟨38, _⟩ => ⟨S16x4096, .f32⟩
  | .hbm, ⟨39, _⟩ => ⟨S16x4096, .f32⟩
  | .hbm, ⟨40, _⟩ => ⟨S16x4096, .bf16⟩
  | .hbm, ⟨41, _⟩ => ⟨S16x4096, .f32⟩
  | .hbm, ⟨42, _⟩ => ⟨S16x4096, .f32⟩
  | .hbm, ⟨43, _⟩ => ⟨S16x4096, .f32⟩
  | .hbm, ⟨44, _⟩ => ⟨S16x4096x1, .f32⟩
  | .hbm, ⟨45, _⟩ => ⟨S16x4096x1, .f32⟩
  | .hbm, ⟨46, _⟩ => ⟨S16x4096x1, .f32⟩
  | .hbm, ⟨47, _⟩ => ⟨S16x4096x3, .f32⟩
  | .hbm, ⟨48, _⟩ => ⟨S_, .f32⟩
  | .hbm, ⟨49, _⟩ => ⟨S16x4096x3, .f32⟩
  | .hbm, ⟨50, _⟩ => ⟨S_, .f32⟩
  | .hbm, ⟨51, _⟩ => ⟨S16x4096x58, .f32⟩
  | .hbm, ⟨52, _⟩ => ⟨S16x4096x64, .f32⟩
  | .hbm, ⟨53, _⟩ => ⟨S8x2x4096x64, .f32⟩
  | .hbm, ⟨54, _⟩ => ⟨S8x2x4096x64, .f32⟩
  | .hbm, ⟨55, _⟩ => ⟨S16x4096x64, .f32⟩
  | .hbm, ⟨56, _⟩ => ⟨S4096x16x64, .f32⟩
  | .hbm, ⟨57, _⟩ => ⟨S4096x1024, .f32⟩
  | .hbm, ⟨58, _⟩ => ⟨S4096x1024, .bf16⟩
  | .hbm, ⟨59, _⟩ => ⟨S16x4096x3, .f32⟩
  | .hbm, ⟨60, _⟩ => ⟨S16x4096x64, .f32⟩
  | .hbm, ⟨61, _⟩ => ⟨S8x2x4096x64, .f32⟩
  | .hbm, ⟨62, _⟩ => ⟨S8x2x4096x64, .f32⟩
  | .hbm, ⟨63, _⟩ => ⟨S16x4096x64, .f32⟩
  | .hbm, ⟨64, _⟩ => ⟨S4096x16x64, .f32⟩
  | .hbm, ⟨65, _⟩ => ⟨S4096x1024, .f32⟩
  | .hbm, ⟨66, _⟩ => ⟨S4096x1024, .bf16⟩
  | .hbm, ⟨67, _⟩ => ⟨S4096x16x64, .f32⟩
  | .hbm, ⟨68, _⟩ => ⟨S4096x1024, .f32⟩
  | .hbm, ⟨69, _⟩ => ⟨S4096x1024, .bf16⟩
  | .hbm, ⟨70, _⟩ => ⟨S4096x16x64, .f32⟩
  | .hbm, ⟨71, _⟩ => ⟨S4096x1024, .f32⟩
  | .hbm, ⟨72, _⟩ => ⟨S4096x1024, .bf16⟩
  | .hbm, ⟨73, _⟩ => ⟨S4096x16x64, .f32⟩
  | .hbm, ⟨74, _⟩ => ⟨S4096x1024, .f32⟩
  | .hbm, ⟨75, _⟩ => ⟨S4096x1024, .bf16⟩
  | .hbm, ⟨76, _⟩ => ⟨S1024x4096, .bf16⟩
  | .hbm, ⟨77, _⟩ => ⟨S1024x4096, .bf16⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S128x4096, .bf16⟩
  | .local _ .vmem, ⟨9, _⟩ => ⟨S128x4096, .bf16⟩
  | .local _ .vmem, ⟨10, _⟩ => ⟨S128x4096, .bf16⟩
  | .local _ .vmem, ⟨11, _⟩ => ⟨S128x4096, .bf16⟩
  | .local _ .vmem, ⟨12, _⟩ => ⟨S4096x128, .bf16⟩
  | .local _ .vmem, ⟨13, _⟩ => ⟨S4096x128, .bf16⟩
  | .local _ .vmem, ⟨14, _⟩ => ⟨S16x4096, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S2x16x256x256, .f32⟩
  | .local _ .vmem, ⟨23, _⟩ => ⟨S2x16x256x256, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65_0 : Ref sig .tc := ⟨.hbm, 78, rfl⟩
abbrev main_v65_1 : Ref sig .tc := ⟨.hbm, 79, rfl⟩
abbrev main_v65_2 : Ref sig .tc := ⟨.hbm, 80, rfl⟩
abbrev main_v65_3 : Ref sig .tc := ⟨.hbm, 81, rfl⟩
abbrev main_v65_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v17 : BitVec 32 := Scalar.addi c0_i32 c16_i32
  let c1_i32 : BitVec 32 := 1#32
  ⟨c0_i32, v17, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32 : BitVec 32 := 256#32
  let v18 : BitVec 32 := Scalar.muli arg17 c256_i32
  v18
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c256_i32 : BitVec 32 := 256#32
  let v18 : BitVec 32 := Scalar.muli arg17 c256_i32
  let v19 : BitVec 32 := v18
  let v20 : Index := Scalar.indexCast v19
  let c0_12 : Index := 0#32
  ![v20.toNat, 0]
def k0_off2 (k0_t1 : Fin k0_t1_loop.trips) : Fin 2 → Nat :=
  let c0_17 : Index := 0#32
  let c0_i32 : BitVec 32 := 0#32
  let c1_i32 : BitVec 32 := 1#32
  let arg17 : BitVec 32 := Scf.iv c0_i32 c1_i32 k0_t1
  let c256_i32 : BitVec 32 := 256#32
  let v18 : BitVec 32 := Scalar.muli arg17 c256_i32
  let v19 : BitVec 32 := v18
  let v36 : Index := Scalar.indexCast v19
  ![0, v36.toNat]
@[reducible] def k0_t2_loop (k0_t1 : Fin k0_t1_loop.trips) : Scf.Loop 32 :=
  let c0_i32_25 : BitVec 32 := 0#32
  let c0_i32 : BitVec 32 := 0#32
  let c1_i32 : BitVec 32 := 1#32
  let arg17 : BitVec 32 := Scf.iv c0_i32 c1_i32 k0_t1
  let v56 : BitVec 32 := Scalar.subi arg17 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_27 : BitVec 32 := 1#32
  ⟨c0_i32_25, v60, c1_i32_27⟩
def k0_mult2 (k0_t1 : Fin k0_t1_loop.trips) (k0_t2 : Fin (k0_t2_loop k0_t1).trips) : BitVec 32 :=
  let c0_i32_25 : BitVec 32 := 0#32
  let c1_i32_27 : BitVec 32 := 1#32
  let arg18 : BitVec 32 := Scf.iv c0_i32_25 c1_i32_27 k0_t2
  let c256_i32_64 : BitVec 32 := 256#32
  let v140 : BitVec 32 := Scalar.muli arg18 c256_i32_64
  v140
def k0_off3 (k0_t1 : Fin k0_t1_loop.trips) (k0_t2 : Fin (k0_t2_loop k0_t1).trips) : Fin 2 → Nat :=
  let c0_i32_25 : BitVec 32 := 0#32
  let c1_i32_27 : BitVec 32 := 1#32
  let arg18 : BitVec 32 := Scf.iv c0_i32_25 c1_i32_27 k0_t2
  let c256_i32_64 : BitVec 32 := 256#32
  let v140 : BitVec 32 := Scalar.muli arg18 c256_i32_64
  let v141 : BitVec 32 := v140
  let v142 : Index := Scalar.indexCast v141
  let c0_65 : Index := 0#32
  ![v142.toNat, 0]
def k0_mult3 (k0_t1 : Fin k0_t1_loop.trips) (k0_t2 : Fin (k0_t2_loop k0_t1).trips) : BitVec 32 :=
  let c0_i32_25 : BitVec 32 := 0#32
  let c1_i32_27 : BitVec 32 := 1#32
  let arg18 : BitVec 32 := Scf.iv c0_i32_25 c1_i32_27 k0_t2
  let c256_i32_66 : BitVec 32 := 256#32
  let v145 : BitVec 32 := Scalar.muli arg18 c256_i32_66
  v145
def k0_off4 (k0_t1 : Fin k0_t1_loop.trips) (k0_t2 : Fin (k0_t2_loop k0_t1).trips) : Fin 4 → Nat :=
  let c0_73 : Index := 0#32
  let c0_i32_25 : BitVec 32 := 0#32
  let c1_i32_27 : BitVec 32 := 1#32
  let arg18 : BitVec 32 := Scf.iv c0_i32_25 c1_i32_27 k0_t2
  let v165 : Index := Scalar.indexCast arg18
  let c0_74 : Index := 0#32
  let c0_75 : Index := 0#32
  ![0, v165.toNat, 0, 0]
def k0_off5 (k0_t1 : Fin k0_t1_loop.trips) (k0_t2 : Fin (k0_t2_loop k0_t1).trips) : Fin 4 → Nat :=
  let c1_76 : Index := 1#32
  let c0_i32_25 : BitVec 32 := 0#32
  let c1_i32_27 : BitVec 32 := 1#32
  let arg18 : BitVec 32 := Scf.iv c0_i32_25 c1_i32_27 k0_t2
  let v169 : Index := Scalar.indexCast arg18
  let c0_77 : Index := 0#32
  let c0_78 : Index := 0#32
  ![1, v169.toNat, 0, 0]
@[reducible] def k0_t3_loop (k0_t1 : Fin k0_t1_loop.trips) : Scf.Loop 32 :=
  let c0_i32_25 : BitVec 32 := 0#32
  let c0_i32 : BitVec 32 := 0#32
  let c1_i32 : BitVec 32 := 1#32
  let arg17 : BitVec 32 := Scf.iv c0_i32 c1_i32 k0_t1
  let v56 : BitVec 32 := Scalar.subi arg17 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let v57 : BitVec 32 := Scalar.addi c0_i32_25 v56
  let c1_i32_28 : BitVec 32 := 1#32
  ⟨v60, v57, c1_i32_28⟩
def k0_mult4 (k0_t1 : Fin k0_t1_loop.trips) (k0_t3 : Fin (k0_t3_loop k0_t1).trips) : BitVec 32 :=
  let c0_i32_25 : BitVec 32 := 0#32
  let c0_i32 : BitVec 32 := 0#32
  let c1_i32 : BitVec 32 := 1#32
  let arg17 : BitVec 32 := Scf.iv c0_i32 c1_i32 k0_t1
  let v56 : BitVec 32 := Scalar.subi arg17 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_28 : BitVec 32 := 1#32
  let arg18 : BitVec 32 := Scf.iv v60 c1_i32_28 k0_t3
  let c256_i32_64 : BitVec 32 := 256#32
  let v140 : BitVec 32 := Scalar.muli arg18 c256_i32_64
  v140
def k0_off6 (k0_t1 : Fin k0_t1_loop.trips) (k0_t3 : Fin (k0_t3_loop k0_t1).trips) : Fin 2 → Nat :=
  let c0_i32_25 : BitVec 32 := 0#32
  let c0_i32 : BitVec 32 := 0#32
  let c1_i32 : BitVec 32 := 1#32
  let arg17 : BitVec 32 := Scf.iv c0_i32 c1_i32 k0_t1
  let v56 : BitVec 32 := Scalar.subi arg17 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_28 : BitVec 32 := 1#32
  let arg18 : BitVec 32 := Scf.iv v60 c1_i32_28 k0_t3
  let c256_i32_64 : BitVec 32 := 256#32
  let v140 : BitVec 32 := Scalar.muli arg18 c256_i32_64
  let v141 : BitVec 32 := v140
  let v142 : Index := Scalar.indexCast v141
  let c0_65 : Index := 0#32
  ![v142.toNat, 0]
def k0_mult5 (k0_t1 : Fin k0_t1_loop.trips) (k0_t3 : Fin (k0_t3_loop k0_t1).trips) : BitVec 32 :=
  let c0_i32_25 : BitVec 32 := 0#32
  let c0_i32 : BitVec 32 := 0#32
  let c1_i32 : BitVec 32 := 1#32
  let arg17 : BitVec 32 := Scf.iv c0_i32 c1_i32 k0_t1
  let v56 : BitVec 32 := Scalar.subi arg17 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_28 : BitVec 32 := 1#32
  let arg18 : BitVec 32 := Scf.iv v60 c1_i32_28 k0_t3
  let c256_i32_66 : BitVec 32 := 256#32
  let v145 : BitVec 32 := Scalar.muli arg18 c256_i32_66
  v145
def k0_off7 (k0_t1 : Fin k0_t1_loop.trips) (k0_t3 : Fin (k0_t3_loop k0_t1).trips) : Fin 4 → Nat :=
  let c0_73 : Index := 0#32
  let c0_i32_25 : BitVec 32 := 0#32
  let c0_i32 : BitVec 32 := 0#32
  let c1_i32 : BitVec 32 := 1#32
  let arg17 : BitVec 32 := Scf.iv c0_i32 c1_i32 k0_t1
  let v56 : BitVec 32 := Scalar.subi arg17 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_28 : BitVec 32 := 1#32
  let arg18 : BitVec 32 := Scf.iv v60 c1_i32_28 k0_t3
  let v165 : Index := Scalar.indexCast arg18
  let c0_74 : Index := 0#32
  let c0_75 : Index := 0#32
  ![0, v165.toNat, 0, 0]
def k0_off8 (k0_t1 : Fin k0_t1_loop.trips) (k0_t3 : Fin (k0_t3_loop k0_t1).trips) : Fin 4 → Nat :=
  let c1_76 : Index := 1#32
  let c0_i32_25 : BitVec 32 := 0#32
  let c0_i32 : BitVec 32 := 0#32
  let c1_i32 : BitVec 32 := 1#32
  let arg17 : BitVec 32 := Scf.iv c0_i32 c1_i32 k0_t1
  let v56 : BitVec 32 := Scalar.subi arg17 c0_i32_25
  let c1_i32_26 : BitVec 32 := 1#32
  let v58 : BitVec 32 := Scalar.divsi v56 c1_i32_26
  let v59 : BitVec 32 := Scalar.muli v58 c1_i32_26
  let v60 : BitVec 32 := Scalar.addi c0_i32_25 v59
  let c1_i32_28 : BitVec 32 := 1#32
  let arg18 : BitVec 32 := Scf.iv v60 c1_i32_28 k0_t3
  let v169 : Index := Scalar.indexCast arg18
  let c0_77 : Index := 0#32
  let c0_78 : Index := 0#32
  ![1, v169.toNat, 0, 0]
def k0_mult6 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32_29 : BitVec 32 := 256#32
  let v63 : BitVec 32 := Scalar.muli arg17 c256_i32_29
  v63
def k0_mult7 (k0_t1 : Fin k0_t1_loop.trips) : BitVec 32 :=
  let c0_i32 : BitVec 32 := 0#32
  let c1_i32 : BitVec 32 := 1#32
  let arg17 : BitVec 32 := Scf.iv c0_i32 c1_i32 k0_t1
  let c256_i32_31 : BitVec 32 := 256#32
  let v68 : BitVec 32 := Scalar.muli arg17 c256_i32_31
  v68
def k0_off9 (k0_t1 : Fin k0_t1_loop.trips) : Fin 4 → Nat :=
  let c0_40 : Index := 0#32
  let c0_i32 : BitVec 32 := 0#32
  let c1_i32 : BitVec 32 := 1#32
  let arg17 : BitVec 32 := Scf.iv c0_i32 c1_i32 k0_t1
  let v92 : Index := Scalar.indexCast arg17
  let c0_41 : Index := 0#32
  let c0_42 : Index := 0#32
  ![0, v92.toNat, 0, 0]
def k0_off10 (k0_t1 : Fin k0_t1_loop.trips) : Fin 4 → Nat :=
  let c1 : Index := 1#32
  let c0_i32 : BitVec 32 := 0#32
  let c1_i32 : BitVec 32 := 1#32
  let arg17 : BitVec 32 := Scf.iv c0_i32 c1_i32 k0_t1
  let v96 : Index := Scalar.indexCast arg17
  let c0_43 : Index := 0#32
  let c0_44 : Index := 0#32
  ![1, v96.toNat, 0, 0]
@[reducible] def k0_t4_loop (k0_t1 : Fin k0_t1_loop.trips) : Scf.Loop 32 :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v128 : BitVec 32 := Scalar.addi arg17 c1_i32_58
  let v129 : BitVec 32 := Scalar.subi v128 c0_i32_59
  let c1_i32_60 : BitVec 32 := 1#32
  let v131 : BitVec 32 := Scalar.divsi v129 c1_i32_60
  let v132 : BitVec 32 := Scalar.muli v131 c1_i32_60
  let v133 : BitVec 32 := Scalar.addi c0_i32_59 v132
  let c1_i32_61 : BitVec 32 := 1#32
  ⟨c0_i32_59, v133, c1_i32_61⟩
def k0_mult8 (k0_t1 : Fin k0_t1_loop.trips) (k0_t4 : Fin (k0_t4_loop k0_t1).trips) : BitVec 32 :=
  let c0_i32_59 : BitVec 32 := 0#32
  let c1_i32_61 : BitVec 32 := 1#32
  let arg18 : BitVec 32 := Scf.iv c0_i32_59 c1_i32_61 k0_t4
  let c256_i32_64 : BitVec 32 := 256#32
  let v140 : BitVec 32 := Scalar.muli arg18 c256_i32_64
  v140
def k0_off11 (k0_t1 : Fin k0_t1_loop.trips) (k0_t4 : Fin (k0_t4_loop k0_t1).trips) : Fin 4 → Nat :=
  let c0_65 : Index := 0#32
  let c0_i32_59 : BitVec 32 := 0#32
  let c1_i32_61 : BitVec 32 := 1#32
  let arg18 : BitVec 32 := Scf.iv c0_i32_59 c1_i32_61 k0_t4
  let v142 : Index := Scalar.indexCast arg18
  let c0_66 : Index := 0#32
  let c0_67 : Index := 0#32
  ![0, v142.toNat, 0, 0]
def k0_off12 (k0_t1 : Fin k0_t1_loop.trips) (k0_t4 : Fin (k0_t4_loop k0_t1).trips) : Fin 4 → Nat :=
  let c1_68 : Index := 1#32
  let c0_i32_59 : BitVec 32 := 0#32
  let c1_i32_61 : BitVec 32 := 1#32
  let arg18 : BitVec 32 := Scf.iv c0_i32_59 c1_i32_61 k0_t4
  let v145 : Index := Scalar.indexCast arg18
  let c0_69 : Index := 0#32
  let c0_70 : Index := 0#32
  ![1, v145.toNat, 0, 0]
def k0_off13 (k0_t1 : Fin k0_t1_loop.trips) (k0_t4 : Fin (k0_t4_loop k0_t1).trips) : Fin 2 → Nat :=
  let c0_i32_59 : BitVec 32 := 0#32
  let c1_i32_61 : BitVec 32 := 1#32
  let arg18 : BitVec 32 := Scf.iv c0_i32_59 c1_i32_61 k0_t4
  let c256_i32_64 : BitVec 32 := 256#32
  let v140 : BitVec 32 := Scalar.muli arg18 c256_i32_64
  let v141 : BitVec 32 := v140
  let v160 : Index := Scalar.indexCast v141
  let c0_77 : Index := 0#32
  ![v160.toNat, 0]
def k0_off14 (k0_t1 : Fin k0_t1_loop.trips) (k0_t4 : Fin (k0_t4_loop k0_t1).trips) : Fin 2 → Nat :=
  let c0_85 : Index := 0#32
  let c0_i32_59 : BitVec 32 := 0#32
  let c1_i32_61 : BitVec 32 := 1#32
  let arg18 : BitVec 32 := Scf.iv c0_i32_59 c1_i32_61 k0_t4
  let c256_i32_64 : BitVec 32 := 256#32
  let v140 : BitVec 32 := Scalar.muli arg18 c256_i32_64
  let v141 : BitVec 32 := v140
  let v189 : Index := Scalar.indexCast v141
  ![0, v189.toNat]
@[reducible] def k0_t5_loop (k0_t1 : Fin k0_t1_loop.trips) : Scf.Loop 32 :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v128 : BitVec 32 := Scalar.addi arg17 c1_i32_58
  let v129 : BitVec 32 := Scalar.subi v128 c0_i32_59
  let c1_i32_60 : BitVec 32 := 1#32
  let v131 : BitVec 32 := Scalar.divsi v129 c1_i32_60
  let v132 : BitVec 32 := Scalar.muli v131 c1_i32_60
  let v133 : BitVec 32 := Scalar.addi c0_i32_59 v132
  let v130 : BitVec 32 := Scalar.addi c0_i32_59 v129
  let c1_i32_62 : BitVec 32 := 1#32
  ⟨v133, v130, c1_i32_62⟩
def k0_mult9 (k0_t1 : Fin k0_t1_loop.trips) (k0_t5 : Fin (k0_t5_loop k0_t1).trips) : BitVec 32 :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v128 : BitVec 32 := Scalar.addi arg17 c1_i32_58
  let v129 : BitVec 32 := Scalar.subi v128 c0_i32_59
  let c1_i32_60 : BitVec 32 := 1#32
  let v131 : BitVec 32 := Scalar.divsi v129 c1_i32_60
  let v132 : BitVec 32 := Scalar.muli v131 c1_i32_60
  let v133 : BitVec 32 := Scalar.addi c0_i32_59 v132
  let c1_i32_62 : BitVec 32 := 1#32
  let arg18 : BitVec 32 := Scf.iv v133 c1_i32_62 k0_t5
  let c256_i32_64 : BitVec 32 := 256#32
  let v140 : BitVec 32 := Scalar.muli arg18 c256_i32_64
  v140
def k0_off15 (k0_t1 : Fin k0_t1_loop.trips) (k0_t5 : Fin (k0_t5_loop k0_t1).trips) : Fin 4 → Nat :=
  let c0_65 : Index := 0#32
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v128 : BitVec 32 := Scalar.addi arg17 c1_i32_58
  let v129 : BitVec 32 := Scalar.subi v128 c0_i32_59
  let c1_i32_60 : BitVec 32 := 1#32
  let v131 : BitVec 32 := Scalar.divsi v129 c1_i32_60
  let v132 : BitVec 32 := Scalar.muli v131 c1_i32_60
  let v133 : BitVec 32 := Scalar.addi c0_i32_59 v132
  let c1_i32_62 : BitVec 32 := 1#32
  let arg18 : BitVec 32 := Scf.iv v133 c1_i32_62 k0_t5
  let v142 : Index := Scalar.indexCast arg18
  let c0_66 : Index := 0#32
  let c0_67 : Index := 0#32
  ![0, v142.toNat, 0, 0]
def k0_off16 (k0_t1 : Fin k0_t1_loop.trips) (k0_t5 : Fin (k0_t5_loop k0_t1).trips) : Fin 4 → Nat :=
  let c1_68 : Index := 1#32
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v128 : BitVec 32 := Scalar.addi arg17 c1_i32_58
  let v129 : BitVec 32 := Scalar.subi v128 c0_i32_59
  let c1_i32_60 : BitVec 32 := 1#32
  let v131 : BitVec 32 := Scalar.divsi v129 c1_i32_60
  let v132 : BitVec 32 := Scalar.muli v131 c1_i32_60
  let v133 : BitVec 32 := Scalar.addi c0_i32_59 v132
  let c1_i32_62 : BitVec 32 := 1#32
  let arg18 : BitVec 32 := Scf.iv v133 c1_i32_62 k0_t5
  let v145 : Index := Scalar.indexCast arg18
  let c0_69 : Index := 0#32
  let c0_70 : Index := 0#32
  ![1, v145.toNat, 0, 0]
def k0_off17 (k0_t1 : Fin k0_t1_loop.trips) (k0_t5 : Fin (k0_t5_loop k0_t1).trips) : Fin 2 → Nat :=
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v128 : BitVec 32 := Scalar.addi arg17 c1_i32_58
  let v129 : BitVec 32 := Scalar.subi v128 c0_i32_59
  let c1_i32_60 : BitVec 32 := 1#32
  let v131 : BitVec 32 := Scalar.divsi v129 c1_i32_60
  let v132 : BitVec 32 := Scalar.muli v131 c1_i32_60
  let v133 : BitVec 32 := Scalar.addi c0_i32_59 v132
  let c1_i32_62 : BitVec 32 := 1#32
  let arg18 : BitVec 32 := Scf.iv v133 c1_i32_62 k0_t5
  let c256_i32_64 : BitVec 32 := 256#32
  let v140 : BitVec 32 := Scalar.muli arg18 c256_i32_64
  let v141 : BitVec 32 := v140
  let v160 : Index := Scalar.indexCast v141
  let c0_77 : Index := 0#32
  ![v160.toNat, 0]
def k0_off18 (k0_t1 : Fin k0_t1_loop.trips) (k0_t5 : Fin (k0_t5_loop k0_t1).trips) : Fin 2 → Nat :=
  let c0_85 : Index := 0#32
  let c0_i32_59 : BitVec 32 := 0#32
  let c0_i32 : BitVec 32 := 0#32
  let c1_i32 : BitVec 32 := 1#32
  let arg17 : BitVec 32 := Scf.iv c0_i32 c1_i32 k0_t1
  let c1_i32_58 : BitVec 32 := 1#32
  let v128 : BitVec 32 := Scalar.addi arg17 c1_i32_58
  let v129 : BitVec 32 := Scalar.subi v128 c0_i32_59
  let c1_i32_60 : BitVec 32 := 1#32
  let v131 : BitVec 32 := Scalar.divsi v129 c1_i32_60
  let v132 : BitVec 32 := Scalar.muli v131 c1_i32_60
  let v133 : BitVec 32 := Scalar.addi c0_i32_59 v132
  let c1_i32_62 : BitVec 32 := 1#32
  let arg18 : BitVec 32 := Scf.iv v133 c1_i32_62 k0_t5
  let c256_i32_64 : BitVec 32 := 256#32
  let v140 : BitVec 32 := Scalar.muli arg18 c256_i32_64
  let v141 : BitVec 32 := v140
  let v189 : Index := Scalar.indexCast v141
  ![0, v189.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S4096x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== FoxKernelIdeal.lean ====
variable {F : FTy → Type} [FloatOps F] [Named F]
def κ : String → Option EReal := fun
  | "mask" => some ⊥
  | _ => none
-- ==== FoxReferenceIdeal.lean ====
abbrev S16x4096x64 : Shape := ⟨3, ![16, 4096, 64]⟩
abbrev S16x4096 : Shape := ⟨2, ![16, 4096]⟩
abbrev S4096x2048 : Shape := ⟨2, ![4096, 2048]⟩
abbrev S16x1x4096 : Shape := ⟨3, ![16, 1, 4096]⟩
abbrev S16x128x4096 : Shape := ⟨3, ![16, 128, 4096]⟩
abbrev S16x4096x4096 : Shape := ⟨3, ![16, 4096, 4096]⟩
abbrev S16x4096x1 : Shape := ⟨3, ![16, 4096, 1]⟩
abbrev S16x32x128x4096 : Shape := ⟨4, ![16, 32, 128, 4096]⟩
abbrev S16x1x128x4096 : Shape := ⟨4, ![16, 1, 128, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x16x64 : Shape := ⟨3, ![4096, 16, 64]⟩
abbrev S4096x1024 : Shape := ⟨2, ![4096, 1024]⟩
abbrev S16x64x4096 : Shape := ⟨3, ![16, 64, 4096]⟩
abbrev S4096x16x128 : Shape := ⟨3, ![4096, 16, 128]⟩
abbrev S4096x8x2x128 : Shape := ⟨4, ![4096, 8, 2, 128]⟩
abbrev S4096x8x1x128 : Shape := ⟨4, ![4096, 8, 1, 128]⟩
abbrev S4096x8x128 : Shape := ⟨3, ![4096, 8, 128]⟩

abbrev nBuf : Space → Nat
  | .hbm => 124
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096, .f32⟩
  | .hbm, ⟨4, _⟩ => ⟨S4096x2048, .f32⟩
  | .hbm, ⟨5, _⟩ => ⟨S16x1x4096, .f32⟩
  | .hbm, ⟨6, _⟩ => ⟨S16x128x4096, .f32⟩
  | .hbm, ⟨7, _⟩ => ⟨S16x4096x4096, .f32⟩
  | .hbm, ⟨8, _⟩ => ⟨S16x4096x1, .f32⟩
  | .hbm, ⟨9, _⟩ => ⟨S16x4096x4096, .f32⟩
  | .hbm, ⟨10, _⟩ => ⟨S16x4096x4096, .f32⟩
  | .hbm, ⟨11, _⟩ => ⟨S16x32x128x4096, .f32⟩
  | .hbm, ⟨12, _⟩ => ⟨S16x1x128x4096, .f32⟩
  | .hbm, ⟨13, _⟩ => ⟨S16x32x128x4096, .f32⟩
  | .hbm, ⟨14, _⟩ => ⟨S16x32x128x4096, .f32⟩
  | .hbm, ⟨15, _⟩ => ⟨S16x4096x4096, .f32⟩
  | .hbm, ⟨16, _⟩ => ⟨S4096, .i32⟩
  | .hbm, ⟨17, _⟩ => ⟨S4096x1, .i32⟩
  | .hbm, ⟨18, _⟩ => ⟨S4096, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S16x4096x4096, .i1⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S16x4096x4096, .f32⟩
  | .hbm, ⟨30, _⟩ => ⟨S_, .f32⟩
  | .hbm, ⟨31, _⟩ => ⟨S16x4096, .f32⟩
  | .hbm, ⟨32, _⟩ => ⟨S16x4096x1, .f32⟩
  | .hbm, ⟨33, _⟩ => ⟨S16x4096x4096, .f32⟩
  | .hbm, ⟨34, _⟩ => ⟨S16x4096x4096, .i1⟩
  | .hbm, ⟨35, _⟩ => ⟨S16x4096x4096, .f32⟩
  | .hbm, ⟨36, _⟩ => ⟨S_, .f32⟩
  | .hbm, ⟨37, _⟩ => ⟨S16x4096, .f32⟩
  | .hbm, ⟨38, _⟩ => ⟨S_, .f32⟩
  | .hbm, ⟨39, _⟩ => ⟨S16x4096, .f32⟩
  | .hbm, ⟨40, _⟩ => ⟨S16x4096, .f32⟩
  | .hbm, ⟨41, _⟩ => ⟨S_, .f32⟩
  | .hbm, ⟨42, _⟩ => ⟨S16x4096, .f32⟩
  | .hbm, ⟨43, _⟩ => ⟨S16x4096, .i1⟩
  | .hbm, ⟨44, _⟩ => ⟨S_, .f32⟩
  | .hbm, ⟨45, _⟩ => ⟨S16x4096, .f32⟩
  | .hbm, ⟨46, _⟩ => ⟨S16x4096, .i1⟩
  | .hbm, ⟨47, _⟩ => ⟨S_, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S_, .f32⟩
  | .hbm, ⟨52, _⟩ => ⟨S16x4096, .f32⟩
  | .hbm, ⟨53, _⟩ => ⟨S16x4096, .f32⟩
  | .hbm, ⟨54, _⟩ => ⟨S16x4096, .f32⟩
  | .hbm, ⟨55, _⟩ => ⟨S16x4096x1, .f32⟩
  | .hbm, ⟨56, _⟩ => ⟨S16x4096x4096, .f32⟩
  | .hbm, ⟨57, _⟩ => ⟨S16x4096x4096, .f32⟩
  | .hbm, ⟨58, _⟩ => ⟨S16x4096x4096, .f32⟩
  | .hbm, ⟨59, _⟩ => ⟨S_, .f32⟩
  | .hbm, ⟨60, _⟩ => ⟨S16x4096, .f32⟩
  | .hbm, ⟨61, _⟩ => ⟨S16x4096x1, .f32⟩
  | .hbm, ⟨62, _⟩ => ⟨S16x4096x4096, .f32⟩
  | .hbm, ⟨63, _⟩ => ⟨S16x4096x4096, .f32⟩
  | .hbm, ⟨64, _⟩ => ⟨S16x4096x1, .f32⟩
  | .hbm, ⟨65, _⟩ => ⟨S_, .f32⟩
  | .hbm, ⟨66, _⟩ => ⟨S16x4096x1, .f32⟩
  | .hbm, ⟨67, _⟩ => ⟨S16x4096x1, .f32⟩
  | .hbm, ⟨68, _⟩ => ⟨S16x4096x64, .f32⟩
  | .hbm, ⟨69, _⟩ => ⟨S4096x16x64, .f32⟩
  | .hbm, ⟨70, _⟩ => ⟨S4096x1024, .f32⟩
  | .hbm, ⟨71, _⟩ => ⟨S4096x1024, .f32⟩
  | .hbm, ⟨72, _⟩ => ⟨S4096x16x64, .f32⟩
  | .hbm, ⟨73, _⟩ => ⟨S16x4096x64, .f32⟩
  | .hbm, ⟨74, _⟩ => ⟨S16x64x4096, .f32⟩
  | .hbm, ⟨75, _⟩ => ⟨S16x4096x64, .f32⟩
  | .hbm, ⟨76, _⟩ => ⟨S16x4096x4096, .f32⟩
  | .hbm, ⟨77, _⟩ => ⟨S16x4096x4096, .f32⟩
  | .hbm, ⟨78, _⟩ => ⟨S16x4096x4096, .f32⟩
  | .hbm, ⟨79, _⟩ => ⟨S16x4096x4096, .f32⟩
  | .hbm, ⟨80, _⟩ => ⟨S_, .f32⟩
  | .hbm, ⟨81, _⟩ => ⟨S16x4096, .f32⟩
  | .hbm, ⟨82, _⟩ => ⟨S16x4096x1, .f32⟩
  | .hbm, ⟨83, _⟩ => ⟨S16x4096x1, .f32⟩
  | .hbm, ⟨84, _⟩ => ⟨S16x4096x4096, .f32⟩
  | .hbm, ⟨85, _⟩ => ⟨S16x4096x4096, .f32⟩
  | .hbm, ⟨86, _⟩ => ⟨S_, .f32⟩
  | .hbm, ⟨87, _⟩ => ⟨S16x4096, .f32⟩
  | .hbm, ⟨88, _⟩ => ⟨S16x4096x4096, .f32⟩
  | .hbm, ⟨89, _⟩ => ⟨S16x4096x4096, .f32⟩
  | .hbm, ⟨90, _⟩ => ⟨S16x4096x4096, .f32⟩
  | .hbm, ⟨91, _⟩ => ⟨S_, .f32⟩
  | .hbm, ⟨92, _⟩ => ⟨S16x4096x4096, .f32⟩
  | .hbm, ⟨93, _⟩ => ⟨S16x4096x4096, .f32⟩
  | .hbm, ⟨94, _⟩ => ⟨S16x32x128x4096, .f32⟩
  | .hbm, ⟨95, _⟩ => ⟨S16x32x128x4096, .f32⟩
  | .hbm, ⟨96, _⟩ => ⟨S_, .f32⟩
  | .hbm, ⟨97, _⟩ => ⟨S16x128x4096, .f32⟩
  | .hbm, ⟨98, _⟩ => ⟨S16x1x128x4096, .f32⟩
  | .hbm, ⟨99, _⟩ => ⟨S_, .f32⟩
  | .hbm, ⟨100, _⟩ => ⟨S16x128x4096, .f32⟩
  | .hbm, ⟨101, _⟩ => ⟨S16x4096x4096, .f32⟩
  | .hbm, ⟨102, _⟩ => ⟨S_, .f32⟩
  | .hbm, ⟨103, _⟩ => ⟨S16x4096, .f32⟩
  | .hbm, ⟨104, _⟩ => ⟨S16x4096x1, .f32⟩
  | .hbm, ⟨105, _⟩ => ⟨S_, .f32⟩
  | .hbm, ⟨106, _⟩ => ⟨S16x4096, .f32⟩
  | .hbm, ⟨107, _⟩ => ⟨S16x4096x64, .f32⟩
  | .hbm, ⟨108, _⟩ => ⟨S16x4096x64, .f32⟩
  | .hbm, ⟨109, _⟩ => ⟨S4096x16x128, .f32⟩
  | .hbm, ⟨110, _⟩ => ⟨S4096x8x2x128, .f32⟩
  | .hbm, ⟨111, _⟩ => ⟨S4096x8x2x128, .f32⟩
  | .hbm, ⟨112, _⟩ => ⟨S4096x16x64, .f32⟩
  | .hbm, ⟨113, _⟩ => ⟨S4096x1024, .f32⟩
  | .hbm, ⟨114, _⟩ => ⟨S4096x16x64, .f32⟩
  | .hbm, ⟨115, _⟩ => ⟨S4096x1024, .f32⟩
  | .hbm, ⟨116, _⟩ => ⟨S4096x16x64, .f32⟩
  | .hbm, ⟨117, _⟩ => ⟨S4096x1024, .f32⟩
  | .hbm, ⟨118, _⟩ => ⟨S4096x8x1x128, .f32⟩
  | .hbm, ⟨119, _⟩ => ⟨S4096x8x128, .f32⟩
  | .hbm, ⟨120, _⟩ => ⟨S4096x1024, .f32⟩
  | .hbm, ⟨121, _⟩ => ⟨S4096x8x1x128, .f32⟩
  | .hbm, ⟨122, _⟩ => ⟨S4096x8x128, .f32⟩
  | .hbm, ⟨123, _⟩ => ⟨S4096x1024, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_cst : Ref sig .tc := ⟨.hbm, 91, rfl⟩
abbrev main_call1_v0 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== FoxFwdKernel.lean ====
abbrev S16x4096x64 : Shape := ⟨3, ![16, 4096, 64]⟩
abbrev S16x4096 : Shape := ⟨2, ![16, 4096]⟩
abbrev S16x4096x1 : Shape := ⟨3, ![16, 4096, 1]⟩
abbrev S16x4096x3 : Shape := ⟨3, ![16, 4096, 3]⟩
abbrev S_ : Shape := ⟨0, ![]⟩
abbrev S16x4096x58 : Shape := ⟨3, ![16, 4096, 58]⟩
abbrev S8x2x4096x64 : Shape := ⟨4, ![8, 2, 4096, 64]⟩
abbrev S4096x16x64 : Shape := ⟨3, ![4096, 16, 64]⟩
abbrev S4096x1024 : Shape := ⟨2, ![4096, 1024]⟩
abbrev S1024x4096 : Shape := ⟨2, ![1024, 4096]⟩
abbrev S4096x128 : Shape := ⟨2, ![4096, 128]⟩
abbrev S128x4096 : Shape := ⟨2, ![128, 4096]⟩
abbrev S256x128 : Shape := ⟨2, ![256, 128]⟩
abbrev S128x256 : Shape := ⟨2, ![128, 256]⟩
abbrev S256x256 : Shape := ⟨2, ![256, 256]⟩
abbrev S1x256 : Shape := ⟨2, ![1, 256]⟩
abbrev S256 : Shape := ⟨1, ![256]⟩
abbrev S16x256 : Shape := ⟨2, ![16, 256]⟩

abbrev nBuf : Space → Nat
  | .hbm => 50
  | .vmem => 15
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096, .f32⟩
  | .hbm, ⟨4, _⟩ => ⟨S16x4096, .bf16⟩
  | .hbm, ⟨5, _⟩ => ⟨S16x4096, .f32⟩
  | .hbm, ⟨6, _⟩ => ⟨S16x4096, .f32⟩
  | .hbm, ⟨7, _⟩ => ⟨S16x4096, .bf16⟩
  | .hbm, ⟨8, _⟩ => ⟨S16x4096, .f32⟩
  | .hbm, ⟨9, _⟩ => ⟨S16x4096, .f32⟩
  | .hbm, ⟨10, _⟩ => ⟨S16x4096, .bf16⟩
  | .hbm, ⟨11, _⟩ => ⟨S16x4096, .f32⟩
  | .hbm, ⟨12, _⟩ => ⟨S16x4096, .f32⟩
  | .hbm, ⟨13, _⟩ => ⟨S16x4096, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x3, .f32⟩
  | .hbm, ⟨18, _⟩ => ⟨S_, .f32⟩
  | .hbm, ⟨19, _⟩ => ⟨S16x4096x3, .f32⟩
  | .hbm, ⟨20, _⟩ => ⟨S_, .f32⟩
  | .hbm, ⟨21, _⟩ => ⟨S16x4096x58, .f32⟩
  | .hbm, ⟨22, _⟩ => ⟨S16x4096x64, .f32⟩
  | .hbm, ⟨23, _⟩ => ⟨S8x2x4096x64, .f32⟩
  | .hbm, ⟨24, _⟩ => ⟨S8x2x4096x64, .f32⟩
  | .hbm, ⟨25, _⟩ => ⟨S16x4096x64, .f32⟩
  | .hbm, ⟨26, _⟩ => ⟨S4096x16x64, .f32⟩
  | .hbm, ⟨27, _⟩ => ⟨S4096x1024, .f32⟩
  | .hbm, ⟨28, _⟩ => ⟨S4096x1024, .bf16⟩
  | .hbm, ⟨29, _⟩ => ⟨S16x4096x3, .f32⟩
  | .hbm, ⟨30, _⟩ => ⟨S16x4096x64, .f32⟩
  | .hbm, ⟨31, _⟩ => ⟨S8x2x4096x64, .f32⟩
  | .hbm, ⟨32, _⟩ => ⟨S8x2x4096x64, .f32⟩
  | .hbm, ⟨33, _⟩ => ⟨S16x4096x64, .f32⟩
  | .hbm, ⟨34, _⟩ => ⟨S4096x16x64, .f32⟩
  | .hbm, ⟨35, _⟩ => ⟨S4096x1024, .f32⟩
  | .hbm, ⟨36, _⟩ => ⟨S4096x1024, .bf16⟩
  | .hbm, ⟨37, _⟩ => ⟨S4096x16x64, .f32⟩
  | .hbm, ⟨38, _⟩ => ⟨S4096x1024, .f32⟩
  | .hbm, ⟨39, _⟩ => ⟨S4096x1024, .bf16⟩
  | .hbm, ⟨40, _⟩ => ⟨S4096x16x64, .f32⟩
  | .hbm, ⟨41, _⟩ => ⟨S4096x1024, .f32⟩
  | .hbm, ⟨42, _⟩ => ⟨S4096x1024, .bf16⟩
  | .hbm, ⟨43, _⟩ => ⟨S4096x16x64, .f32⟩
  | .hbm, ⟨44, _⟩ => ⟨S4096x1024, .f32⟩
  | .hbm, ⟨45, _⟩ => ⟨S4096x1024, .bf16⟩
  | .hbm, ⟨46, _⟩ => ⟨S1024x4096, .bf16⟩
  | .hbm, ⟨47, _⟩ => ⟨S4096x1024, .bf16⟩
  | .hbm, ⟨48, _⟩ => ⟨S1024x4096, .bf16⟩
  | .hbm, ⟨49, _⟩ => ⟨S16x4096, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S128x4096, .bf16⟩
  | .local _ .vmem, ⟨9, _⟩ => ⟨S128x4096, .bf16⟩
  | .local _ .vmem, ⟨10, _⟩ => ⟨S4096x128, .bf16⟩
  | .local _ .vmem, ⟨11, _⟩ => ⟨S4096x128, .bf16⟩
  | .local _ .vmem, ⟨12, _⟩ => ⟨S128x4096, .bf16⟩
  | .local _ .vmem, ⟨13, _⟩ => ⟨S128x4096, .bf16⟩
  | .local _ .vmem, ⟨14, _⟩ => ⟨S16x4096, .f32⟩
  | _, _ => ⟨S16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41_0 : Ref sig .tc := ⟨.hbm, 47, rfl⟩
abbrev main_v41_1 : Ref sig .tc := ⟨.hbm, 48, rfl⟩
abbrev main_v41_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c16_i32 : BitVec 32 := 16#32
  let v12 : BitVec 32 := Scalar.addi c0_i32_2 c16_i32
  let c1_i32 : BitVec 32 := 1#32
  ⟨c0_i32_2, v12, c1_i32⟩
def k0_mult1 (k0_t1 : Fin k0_t1_loop.trips) : BitVec 32 :=
  let c0_i32_2 : BitVec 32 := 0#32
  let c1_i32 : BitVec 32 := 1#32
  let arg9 : BitVec 32 := Scf.iv c0_i32_2 c1_i32 k0_t1
  let c256_i32 : BitVec 32 := 256#32
  let v13 : BitVec 32 := Scalar.muli arg9 c256_i32
  v13
def k0_off1 (k0_t1 : Fin k0_t1_loop.trips) : Fin 2 → Nat :=
  let c0_i32_2 : BitVec 32 := 0#32
  let c1_i32 : BitVec 32 := 1#32
  let arg9 : BitVec 32 := Scf.iv c0_i32_2 c1_i32 k0_t1
  let c256_i32 : BitVec 32 := 256#32
  let v13 : BitVec 32 := Scalar.muli arg9 c256_i32
  let v14 : BitVec 32 := v13
  let v15 : Index := Scalar.indexCast v14
  let c0 : Index := 0#32
  ![v15.toNat, 0]
def k0_mult2 : BitVec 32 :=
  let c0_i32_9 : BitVec 32 := 0#32
  c0_i32_9
@[reducible] def k0_t2_loop (k0_t1 : Fin k0_t1_loop.trips) : Scf.Loop 32 :=
  let c0_i32_14 : BitVec 32 := 0#32
  let c0_i32_2 : BitVec 32 := 0#32
  let c1_i32 : BitVec 32 := 1#32
  let arg9 : BitVec 32 := Scf.iv c0_i32_2 c1_i32 k0_t1
  let v39 : BitVec 32 := Scalar.subi arg9 c0_i32_14
  let c1_i32_15 : BitVec 32 := 1#32
  let v41 : BitVec 32 := Scalar.divsi v39 c1_i32_15
  let v42 : BitVec 32 := Scalar.muli v41 c1_i32_15
  let v43 : BitVec 32 := Scalar.addi c0_i32_14 v42
  let c1_i32_16 : BitVec 32 := 1#32
  ⟨c0_i32_14, v43, c1_i32_16⟩
def k0_mult3 (k0_t1 : Fin k0_t1_loop.trips) (k0_t2 : Fin (k0_t2_loop k0_t1).trips) : BitVec 32 :=
  let c0_i32_14 : BitVec 32 := 0#32
  let c1_i32_16 : BitVec 32 := 1#32
  let arg10 : BitVec 32 := Scf.iv c0_i32_14 c1_i32_16 k0_t2
  let c1_i32_36 : BitVec 32 := 1#32
  let v133 : BitVec 32 := Scalar.addi arg10 c1_i32_36
  let c256_i32_37 : BitVec 32 := 256#32
  let v134 : BitVec 32 := Scalar.muli v133 c256_i32_37
  v134
def k0_off2 (k0_t1 : Fin k0_t1_loop.trips) (k0_t2 : Fin (k0_t2_loop k0_t1).trips) : Fin 2 → Nat :=
  let c0_i32_14 : BitVec 32 := 0#32
  let c1_i32_16 : BitVec 32 := 1#32
  let arg10 : BitVec 32 := Scf.iv c0_i32_14 c1_i32_16 k0_t2
  let c1_i32_36 : BitVec 32 := 1#32
  let v133 : BitVec 32 := Scalar.addi arg10 c1_i32_36
  let c256_i32_37 : BitVec 32 := 256#32
  let v134 : BitVec 32 := Scalar.muli v133 c256_i32_37
  let v135 : BitVec 32 := v134
  let v136 : Index := Scalar.indexCast v135
  let c0_38 : Index := 0#32
  ![v136.toNat, 0]
def k0_mult4 (k0_t1 : Fin k0_t1_loop.trips) (k0_t2 : Fin (k0_t2_loop k0_t1).trips) : BitVec 32 :=
  let c0_i32_14 : BitVec 32 := 0#32
  let c1_i32_16 : BitVec 32 := 1#32
  let arg10 : BitVec 32 := Scf.iv c0_i32_14 c1_i32_16 k0_t2
  let c256_i32_42 : BitVec 32 := 256#32
  let v146 : BitVec 32 := Scalar.muli arg10 c256_i32_42
  v146
def k0_off3 (k0_t1 : Fin k0_t1_loop.trips) (k0_t2 : Fin (k0_t2_loop k0_t1).trips) : Fin 2 → Nat :=
  let c0_43 : Index := 0#32
  let c0_i32_14 : BitVec 32 := 0#32
  let c1_i32_16 : BitVec 32 := 1#32
  let arg10 : BitVec 32 := Scf.iv c0_i32_14 c1_i32_16 k0_t2
  let c256_i32_42 : BitVec 32 := 256#32
  let v146 : BitVec 32 := Scalar.muli arg10 c256_i32_42
  let v147 : BitVec 32 := v146
  let v148 : Index := Scalar.indexCast v147
  ![0, v148.toNat]
@[reducible] def k0_t3_loop (k0_t1 : Fin k0_t1_loop.trips) : Scf.Loop 32 :=
  let c0_i32_14 : BitVec 32 := 0#32
  let c0_i32_2 : BitVec 32 := 0#32
  let c1_i32 : BitVec 32 := 1#32
  let arg9 : BitVec 32 := Scf.iv c0_i32_2 c1_i32 k0_t1
  let v39 : BitVec 32 := Scalar.subi arg9 c0_i32_14
  let c1_i32_15 : BitVec 32 := 1#32
  let v41 : BitVec 32 := Scalar.divsi v39 c1_i32_15
  let v42 : BitVec 32 := Scalar.muli v41 c1_i32_15
  let v43 : BitVec 32 := Scalar.addi c0_i32_14 v42
  let v40 : BitVec 32 := Scalar.addi c0_i32_14 v39
  let c1_i32_17 : BitVec 32 := 1#32
  ⟨v43, v40, c1_i32_17⟩
def k0_mult5 (k0_t1 : Fin k0_t1_loop.trips) (k0_t3 : Fin (k0_t3_loop k0_t1).trips) : BitVec 32 :=
  let c0_i32_14 : BitVec 32 := 0#32
  let c0_i32_2 : BitVec 32 := 0#32
  let c1_i32 : BitVec 32 := 1#32
  let arg9 : BitVec 32 := Scf.iv c0_i32_2 c1_i32 k0_t1
  let v39 : BitVec 32 := Scalar.subi arg9 c0_i32_14
  let c1_i32_15 : BitVec 32 := 1#32
  let v41 : BitVec 32 := Scalar.divsi v39 c1_i32_15
  let v42 : BitVec 32 := Scalar.muli v41 c1_i32_15
  let v43 : BitVec 32 := Scalar.addi c0_i32_14 v42
  let c1_i32_17 : BitVec 32 := 1#32
  let arg10 : BitVec 32 := Scf.iv v43 c1_i32_17 k0_t3
  let c1_i32_36 : BitVec 32 := 1#32
  let v133 : BitVec 32 := Scalar.addi arg10 c1_i32_36
  let c256_i32_37 : BitVec 32 := 256#32
  let v134 : BitVec 32 := Scalar.muli v133 c256_i32_37
  v134
def k0_off4 (k0_t1 : Fin k0_t1_loop.trips) (k0_t3 : Fin (k0_t3_loop k0_t1).trips) : Fin 2 → Nat :=
  let c0_i32_14 : BitVec 32 := 0#32
  let c0_i32_2 : BitVec 32 := 0#32
  let c1_i32 : BitVec 32 := 1#32
  let arg9 : BitVec 32 := Scf.iv c0_i32_2 c1_i32 k0_t1
  let v39 : BitVec 32 := Scalar.subi arg9 c0_i32_14
  let c1_i32_15 : BitVec 32 := 1#32
  let v41 : BitVec 32 := Scalar.divsi v39 c1_i32_15
  let v42 : BitVec 32 := Scalar.muli v41 c1_i32_15
  let v43 : BitVec 32 := Scalar.addi c0_i32_14 v42
  let c1_i32_17 : BitVec 32 := 1#32
  let arg10 : BitVec 32 := Scf.iv v43 c1_i32_17 k0_t3
  let c1_i32_36 : BitVec 32 := 1#32
  let v133 : BitVec 32 := Scalar.addi arg10 c1_i32_36
  let c256_i32_37 : BitVec 32 := 256#32
  let v134 : BitVec 32 := Scalar.muli v133 c256_i32_37
  let v135 : BitVec 32 := v134
  let v136 : Index := Scalar.indexCast v135
  let c0_38 : Index := 0#32
  ![v136.toNat, 0]
def k0_mult6 (k0_t1 : Fin k0_t1_loop.trips) (k0_t3 : Fin (k0_t3_loop k0_t1).trips) : BitVec 32 :=
  let c0_i32_14 : BitVec 32 := 0#32
  let c0_i32_2 : BitVec 32 := 0#32
  let c1_i32 : BitVec 32 := 1#32
  let arg9 : BitVec 32 := Scf.iv c0_i32_2 c1_i32 k0_t1
  let v39 : BitVec 32 := Scalar.subi arg9 c0_i32_14
  let c1_i32_15 : BitVec 32 := 1#32
  let v41 : BitVec 32 := Scalar.divsi v39 c1_i32_15
  let v42 : BitVec 32 := Scalar.muli v41 c1_i32_15
  let v43 : BitVec 32 := Scalar.addi c0_i32_14 v42
  let c1_i32_17 : BitVec 32 := 1#32
  let arg10 : BitVec 32 := Scf.iv v43 c1_i32_17 k0_t3
  let c256_i32_42 : BitVec 32 := 256#32
  let v146 : BitVec 32 := Scalar.muli arg10 c256_i32_42
  v146
def k0_off5 (k0_t1 : Fin k0_t1_loop.trips) (k0_t3 : Fin (k0_t3_loop k0_t1).trips) : Fin 2 → Nat :=
  let c0_43 : Index := 0#32
  let c0_i32_14 : BitVec 32 := 0#32
  let c0_i32_2 : BitVec 32 := 0#32
  let c1_i32 : BitVec 32 := 1#32
  let arg9 : BitVec 32 := Scf.iv c0_i32_2 c1_i32 k0_t1
  let v39 : BitVec 32 := Scalar.subi arg9 c0_i32_14
  let c1_i32_15 : BitVec 32 := 1#32
  let v41 : BitVec 32 := Scalar.divsi v39 c1_i32_15
  let v42 : BitVec 32 := Scalar.muli v41 c1_i32_15
  let v43 : BitVec 32 := Scalar.addi c0_i32_14 v42
  let c1_i32_17 : BitVec 32 := 1#32
  let arg10 : BitVec 32 := Scf.iv v43 c1_i32_17 k0_t3
  let c256_i32_42 : BitVec 32 := 256#32
  let v146 : BitVec 32 := Scalar.muli arg10 c256_i32_42
  let v147 : BitVec 32 := v146
  let v148 : Index := Scalar.indexCast v147
  ![0, v148.toNat]
def k0_mult7 (k0_t1 : Fin k0_t1_loop.trips) : BitVec 32 :=
  let c0_i32_2 : BitVec 32 := 0#32
  let c1_i32 : BitVec 32 := 1#32
  let arg9 : BitVec 32 := Scf.iv c0_i32_2 c1_i32 k0_t1
  let c256_i32_20 : BitVec 32 := 256#32
  let v50 : BitVec 32 := Scalar.muli arg9 c256_i32_20
  v50
def k0_off6 (k0_t1 : Fin k0_t1_loop.trips) : Fin 2 → Nat :=
  let c0_21 : Index := 0#32
  let c0_i32_2 : BitVec 32 := 0#32
  let c1_i32 : BitVec 32 := 1#32
  let arg9 : BitVec 32 := Scf.iv c0_i32_2 c1_i32 k0_t1
  let c256_i32_20 : BitVec 32 := 256#32
  let v50 : BitVec 32 := Scalar.muli arg9 c256_i32_20
  let v51 : BitVec 32 := v50
  let v52 : Index := Scalar.indexCast v51
  ![0, v52.toNat]
def k0_off7 (k0_t1 : Fin k0_t1_loop.trips) : Fin 2 → Nat :=
  let c0_32 : Index := 0#32
  let c0_i32_2 : BitVec 32 := 0#32
  let c1_i32 : BitVec 32 := 1#32
  let arg9 : BitVec 32 := Scf.iv c0_i32_2 c1_i32 k0_t1
  let c256_i32 : BitVec 32 := 256#32
  let v13 : BitVec 32 := Scalar.muli arg9 c256_i32
  let v14 : BitVec 32 := v13
  let v111 : Index := Scalar.indexCast v14
  ![0, v111.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FoxFwdKernelIdeal.lean ====
variable {F : FTy → Type} [FloatOps F] [Named F]
def κ : String → Option EReal := fun
  | "mask" => some ⊥
  | _ => none
-- ==== FoxFwdReferenceIdeal.lean ====
abbrev S16x4096x64 : Shape := ⟨3, ![16, 4096, 64]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x16x64 : Shape := ⟨3, ![4096, 16, 64]⟩
abbrev S4096x1024 : Shape := ⟨2, ![4096, 1024]⟩
abbrev S1024x4096 : Shape := ⟨2, ![1024, 4096]⟩

abbrev nBuf : Space → Nat
  | .hbm => 52
  | .vmem => 0
  | .smem => 0
  | _ => 0

abbrev bufTy : (tb : Table) → Fin (tcTables nBuf tb) → BufTy
  | .hbm, ⟨0, _⟩ => ⟨S16x4096x64, .f32⟩
  | .hbm, ⟨1, _⟩ => ⟨S16x4096x64, .f32⟩
  | .hbm, ⟨2, _⟩ => ⟨S16x4096x64, .f32⟩
  | .hbm, ⟨3, _⟩ => ⟨S16x4096, .f32⟩
  | .hbm, ⟨4, _⟩ => ⟨S16x4096x4096, .f32⟩
  | .hbm, ⟨5, _⟩ => ⟨S16x4096x1, .f32⟩
  | .hbm, ⟨6, _⟩ => ⟨S16x4096x4096, .f32⟩
  | .hbm, ⟨7, _⟩ => ⟨S16x4096x4096, .f32⟩
  | .hbm, ⟨8, _⟩ => ⟨S16x1x4096, .f32⟩
  | .hbm, ⟨9, _⟩ => ⟨S16x4096x4096, .f32⟩
  | .hbm, ⟨10, _⟩ => ⟨S16x4096x4096, .f32⟩
  | .hbm, ⟨11, _⟩ => ⟨S4096, .i32⟩
  | .hbm, ⟨12, _⟩ => ⟨S4096x1, .i32⟩
  | .hbm, ⟨13, _⟩ => ⟨S4096, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S16x4096x4096, .i1⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096, .f32⟩
  | .hbm, ⟨25, _⟩ => ⟨S_, .f32⟩
  | .hbm, ⟨26, _⟩ => ⟨S16x4096, .f32⟩
  | .hbm, ⟨27, _⟩ => ⟨S16x4096, .f32⟩
  | .hbm, ⟨28, _⟩ => ⟨S16x4096x1, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x64, .f32⟩
  | .hbm, ⟨38, _⟩ => ⟨S4096x16x64, .f32⟩
  | .hbm, ⟨39, _⟩ => ⟨S4096x1024, .f32⟩
  | .hbm, ⟨40, _⟩ => ⟨S4096x1024, .bf16⟩
  | .hbm, ⟨41, _⟩ => ⟨S_, .f32⟩
  | .hbm, ⟨42, _⟩ => ⟨S16x4096, .f32⟩
  | .hbm, ⟨43, _⟩ => ⟨S1024x4096, .bf16⟩
  | .hbm, ⟨44, _⟩ => ⟨S16x4096x1, .f32⟩
  | .hbm, ⟨45, _⟩ => ⟨S16x4096x4096, .f32⟩
  | .hbm, ⟨46, _⟩ => ⟨S16x4096x4096, .f32⟩
  | .hbm, ⟨47, _⟩ => ⟨S16x4096x4096, .f32⟩
  | .hbm, ⟨48, _⟩ => ⟨S_, .f32⟩
  | .hbm, ⟨49, _⟩ => ⟨S16x4096, .f32⟩
  | .hbm, ⟨50, _⟩ => ⟨S16x4096, .f32⟩
  | .hbm, ⟨51, _⟩ => ⟨S16x4096, .f32⟩
  | _, _ => ⟨S16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormKernel.lean ====
abbrev S4096x5632 : Shape := ⟨2, ![4096, 5632]⟩
abbrev S1x1024x5632 : Shape := ⟨3, ![1, 1024, 5632]⟩
abbrev S4096x1024 : Shape := ⟨2, ![4096, 1024]⟩
abbrev S1x1024 : Shape := ⟨2, ![1, 1024]⟩
abbrev S1x2048x1024 : Shape := ⟨3, ![1, 2048, 1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x1024 : Shape := ⟨2, ![2048, 1024]⟩
abbrev S4096x2048 : Shape := ⟨2, ![4096, 2048]⟩
abbrev S2x512x2816 : Shape := ⟨3, ![2, 512, 2816]⟩
abbrev S512x1024 : Shape := ⟨2, ![512, 1024]⟩
abbrev S512x2048 : Shape := ⟨2, ![512, 2048]⟩
abbrev S256x1024 : Shape := ⟨2, ![256, 1024]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S256x2048 : Shape := ⟨2, ![256, 2048]⟩
abbrev S1024 : Shape := ⟨1, ![1024]⟩

abbrev nBuf : Space → Nat
  | .hbm => 21
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S1x1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x2048x1024, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S2x4096x2816, .f32⟩
  | .hbm, ⟨11, _⟩ => ⟨S2x4096x2816, .bf16⟩
  | .hbm, ⟨12, _⟩ => ⟨S1024x5632, .f32⟩
  | .hbm, ⟨13, _⟩ => ⟨S1024x5632, .bf16⟩
  | .hbm, ⟨14, _⟩ => ⟨S1024x4x1408, .bf16⟩
  | .hbm, ⟨15, _⟩ => ⟨S4x1024x1408, .bf16⟩
  | .hbm, ⟨16, _⟩ => ⟨S2048x1024, .f32⟩
  | .hbm, ⟨17, _⟩ => ⟨S2048x1024, .bf16⟩
  | .hbm, ⟨18, _⟩ => ⟨S4096x1024, .f32⟩
  | .hbm, ⟨19, _⟩ => ⟨S1x1024, .f32⟩
  | .hbm, ⟨20, _⟩ => ⟨S4096x2048, .f32⟩
  | .local _ .vmem, ⟨0, _⟩ => ⟨S2x512x2816, .bf16⟩
  | .local _ .vmem, ⟨1, _⟩ => ⟨S2x512x2816, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x2048, .f32⟩
  | .local _ .vmem, ⟨13, _⟩ => ⟨S512x2048, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v119 : BitVec 1 := Scalar.cmpi .eq arg0 c0_i32
  let v120 : BitVec 32 := Scalar.extui v119
  let c0_i32_88 : BitVec 32 := 0#32
  let v121 : BitVec 1 := Scalar.cmpi .ne v120 c0_i32_88
  v121

def k0_cond2 (i : grid0.Coords) : BitVec 1 :=
  let arg0 : BitVec 32 := BitVec.ofNat 32 (i 0).val
  let c0_i32_89 : BitVec 32 := 0#32
  let v122 : BitVec 1 := Scalar.cmpi .sgt arg0 c0_i32_89
  let v123 : BitVec 32 := Scalar.extui v122
  let c0_i32_90 : BitVec 32 := 0#32
  let v124 : BitVec 1 := Scalar.cmpi .ne v123 c0_i32_90
  v124

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormReferenceIdeal.lean ====
abbrev S4096x5632 : Shape := ⟨2, ![4096, 5632]⟩
abbrev S1x1024x5632 : Shape := ⟨3, ![1, 1024, 5632]⟩
abbrev S4096x1024 : Shape := ⟨2, ![4096, 1024]⟩
abbrev S1x1024 : Shape := ⟨2, ![1, 1024]⟩
abbrev S1x2048x1024 : Shape := ⟨3, ![1, 2048, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1x1024x5632, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x2048x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1024x5632, .f32⟩
  | .hbm, ⟨28, _⟩ => ⟨S4096x5632, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S2048x1024, .f32⟩
  | .hbm, ⟨58, _⟩ => ⟨S1024x2048, .f32⟩
  | .hbm, ⟨59, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== NormInKernel.lean ====
abbrev S4096x5664 : Shape := ⟨2, ![4096, 5664]⟩
abbrev S1x1024x5664 : Shape := ⟨3, ![1, 1024, 5664]⟩
abbrev S4096x1024 : Shape := ⟨2, ![4096, 1024]⟩
abbrev S1x1024 : Shape := ⟨2, ![1, 1024]⟩
abbrev S1024x5664 : Shape := ⟨2, ![1024, 5664]⟩
abbrev S1024x2048 : Shape := ⟨2, ![1024, 2048]⟩
abbrev S1024x3072 : Shape := ⟨2, ![1024, 3072]⟩
abbrev S1024x512 : Shape := ⟨2, ![1024, 512]⟩
abbrev S1024x16 : Shape := ⟨2, ![1024, 16]⟩
abbrev S_ : Shape := ⟨0, ![]⟩
abbrev S1024x96 : Shape := ⟨2, ![1024, 96]⟩
abbrev S1024x5760 : Shape := ⟨2, ![1024, 5760]⟩
abbrev S4096x2048 : Shape := ⟨2, ![4096, 2048]⟩
abbrev S4096x3072 : Shape := ⟨2, ![4096, 3072]⟩
abbrev S4096x512 : Shape := ⟨2, ![4096, 512]⟩
abbrev S4096x16 : Shape := ⟨2, ![4096, 16]⟩
abbrev S4096x96 : Shape := ⟨2, ![4096, 96]⟩
abbrev S4096x5760 : Shape := ⟨2, ![4096, 5760]⟩
abbrev S512x5760 : Shape := ⟨2, ![512, 5760]⟩
abbrev S512x1024 : Shape := ⟨2, ![512, 1024]⟩
abbrev S256x5760 : Shape := ⟨2, ![256, 5760]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 26
  | .vmem => 11
  | .smem => 0
  | _ => 0

abbrev bufTy : (tb : Table) → Fin (tcTables nBuf tb) → BufTy
  | .hbm, ⟨0, _⟩ => ⟨S4096x5664, .f32⟩
  | .hbm, ⟨1, _⟩ => ⟨S1x1024x5664, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x5664, .f32⟩
  | .hbm, ⟨6, _⟩ => ⟨S1024x5664, .bf16⟩
  | .hbm, ⟨7, _⟩ => ⟨S1024x2048, .bf16⟩
  | .hbm, ⟨8, _⟩ => ⟨S1024x3072, .bf16⟩
  | .hbm, ⟨9, _⟩ => ⟨S1024x512, .bf16⟩
  | .hbm, ⟨10, _⟩ => ⟨S1024x16, .bf16⟩
  | .hbm, ⟨11, _⟩ => ⟨S1024x16, .bf16⟩
  | .hbm, ⟨12, _⟩ => ⟨S_, .bf16⟩
  | .hbm, ⟨13, _⟩ => ⟨S1024x96, .bf16⟩
  | .hbm, ⟨14, _⟩ => ⟨S1024x5760, .bf16⟩
  | .hbm, ⟨15, _⟩ => ⟨S4096x2048, .f32⟩
  | .hbm, ⟨16, _⟩ => ⟨S4096x3072, .f32⟩
  | .hbm, ⟨17, _⟩ => ⟨S4096x512, .f32⟩
  | .hbm, ⟨18, _⟩ => ⟨S4096x16, .f32⟩
  | .hbm, ⟨19, _⟩ => ⟨S4096x16, .f32⟩
  | .hbm, ⟨20, _⟩ => ⟨S_, .f32⟩
  | .hbm, ⟨21, _⟩ => ⟨S4096x96, .f32⟩
  | .hbm, ⟨22, _⟩ => ⟨S4096x5760, .f32⟩
  | .hbm, ⟨23, _⟩ => ⟨S4096x5760, .bf16⟩
  | .hbm, ⟨24, _⟩ => ⟨S4096x1024, .f32⟩
  | .hbm, ⟨25, _⟩ => ⟨S1x1024, .f32⟩
  | .local _ .vmem, ⟨0, _⟩ => ⟨S512x5760, .bf16⟩
  | .local _ .vmem, ⟨1, _⟩ => ⟨S512x5760, .bf16⟩
  | .local _ .vmem, ⟨2, _⟩ => ⟨S1024x5760, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x5664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v73 : BitVec 1 := Scalar.cmpi .eq arg0 c0_i32
  let v74 : BitVec 32 := Scalar.extui v73
  let c0_i32_36 : BitVec 32 := 0#32
  let v75 : BitVec 1 := Scalar.cmpi .ne v74 c0_i32_36
  v75

def k0_cond2 (i : grid0.Coords) : BitVec 1 :=
  let arg0 : BitVec 32 := BitVec.ofNat 32 (i 0).val
  let c0_i32_37 : BitVec 32 := 0#32
  let v76 : BitVec 1 := Scalar.cmpi .sgt arg0 c0_i32_37
  let v77 : BitVec 32 := Scalar.extui v76
  let c0_i32_38 : BitVec 32 := 0#32
  let v78 : BitVec 1 := Scalar.cmpi .ne v77 c0_i32_38
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5760 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormInReferenceIdeal.lean ====
abbrev S4096x5664 : Shape := ⟨2, ![4096, 5664]⟩
abbrev S1x1024x5664 : Shape := ⟨3, ![1, 1024, 5664]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5664 : Shape := ⟨2, ![1024, 5664]⟩

abbrev nBuf : Space → Nat
  | .hbm => 56
  | .vmem => 0
  | .smem => 0
  | _ => 0

abbrev bufTy : (tb : Table) → Fin (tcTables nBuf tb) → BufTy
  | .hbm, ⟨0, _⟩ => ⟨S4096x5664, .f32⟩
  | .hbm, ⟨1, _⟩ => ⟨S1x1024x5664, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x5664, .f32⟩
  | .hbm, ⟨27, _⟩ => ⟨S4096x5664, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | _, _ => ⟨S4096x5664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== OutProjKernel.lean ====
abbrev S4096x1024 : Shape := ⟨2, ![4096, 1024]⟩
abbrev S1x2048x1024 : Shape := ⟨3, ![1, 2048, 1024]⟩
abbrev S1x1024 : Shape := ⟨2, ![1, 1024]⟩
abbrev S2048x1024 : Shape := ⟨2, ![2048, 1024]⟩
abbrev S1024x4096 : Shape := ⟨2, ![1024, 4096]⟩
abbrev S512x1024 : Shape := ⟨2, ![512, 1024]⟩
abbrev S1024x512 : Shape := ⟨2, ![1024, 512]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1024x256 : Shape := ⟨2, ![1024, 256]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x2048x1024, .f32⟩
  | .hbm, ⟨3, _⟩ => ⟨S4096x1024, .f32⟩
  | .hbm, ⟨4, _⟩ => ⟨S1x1024, .f32⟩
  | .hbm, ⟨5, _⟩ => ⟨S4096x1024, .bf16⟩
  | .hbm, ⟨6, _⟩ => ⟨S4096x1024, .bf16⟩
  | .hbm, ⟨7, _⟩ => ⟨S2048x1024, .f32⟩
  | .hbm, ⟨8, _⟩ => ⟨S2048x1024, .bf16⟩
  | .hbm, ⟨9, _⟩ => ⟨S4096x1024, .f32⟩
  | .hbm, ⟨10, _⟩ => ⟨S4096x1024, .bf16⟩
  | .hbm, ⟨11, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S4096x1024 : Shape := ⟨2, ![4096, 1024]⟩
abbrev S1x2048x1024 : Shape := ⟨3, ![1, 2048, 1024]⟩
abbrev S1x1024 : Shape := ⟨2, ![1, 1024]⟩
abbrev S4096x2048 : Shape := ⟨2, ![4096, 2048]⟩
abbrev S2048x1024 : Shape := ⟨2, ![2048, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x2048x1024, .f32⟩
  | .hbm, ⟨3, _⟩ => ⟨S4096x1024, .f32⟩
  | .hbm, ⟨4, _⟩ => ⟨S1x1024, .f32⟩
  | .hbm, ⟨5, _⟩ => ⟨S4096x2048, .f32⟩
  | .hbm, ⟨6, _⟩ => ⟨S2048x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== InProjKernel.lean ====
abbrev S4096x1024 : Shape := ⟨2, ![4096, 1024]⟩
abbrev S1x1024 : Shape := ⟨2, ![1, 1024]⟩
abbrev S1x1024x5664 : Shape := ⟨3, ![1, 1024, 5664]⟩
abbrev S1024x5664 : Shape := ⟨2, ![1024, 5664]⟩
abbrev S1024x2048 : Shape := ⟨2, ![1024, 2048]⟩
abbrev S1024x3072 : Shape := ⟨2, ![1024, 3072]⟩
abbrev S1024x512 : Shape := ⟨2, ![1024, 512]⟩
abbrev S1024x16 : Shape := ⟨2, ![1024, 16]⟩
abbrev S_ : Shape := ⟨0, ![]⟩
abbrev S1024x96 : Shape := ⟨2, ![1024, 96]⟩
abbrev S1024x5760 : Shape := ⟨2, ![1024, 5760]⟩
abbrev S4096x5760 : Shape := ⟨2, ![4096, 5760]⟩
abbrev S1024x4096 : Shape := ⟨2, ![1024, 4096]⟩
abbrev S512x1024 : Shape := ⟨2, ![512, 1024]⟩
abbrev S512x5760 : Shape := ⟨2, ![512, 5760]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x5760 : Shape := ⟨2, ![256, 5760]⟩

abbrev nBuf : Space → Nat
  | .hbm => 15
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5664, .f32⟩
  | .hbm, ⟨3, _⟩ => ⟨S1024x5664, .f32⟩
  | .hbm, ⟨4, _⟩ => ⟨S1024x5664, .bf16⟩
  | .hbm, ⟨5, _⟩ => ⟨S1024x2048, .bf16⟩
  | .hbm, ⟨6, _⟩ => ⟨S1024x3072, .bf16⟩
  | .hbm, ⟨7, _⟩ => ⟨S1024x512, .bf16⟩
  | .hbm, ⟨8, _⟩ => ⟨S1024x16, .bf16⟩
  | .hbm, ⟨9, _⟩ => ⟨S1024x16, .bf16⟩
  | .hbm, ⟨10, _⟩ => ⟨S_, .bf16⟩
  | .hbm, ⟨11, _⟩ => ⟨S1024x96, .bf16⟩
  | .hbm, ⟨12, _⟩ => ⟨S1024x5760, .bf16⟩
  | .hbm, ⟨13, _⟩ => ⟨S4096x5760, .f32⟩
  | .hbm, ⟨14, _⟩ => ⟨S1024x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5760, .bf16⟩
  | .local _ .vmem, ⟨4, _⟩ => ⟨S512x5760, .f32⟩
  | .local _ .vmem, ⟨5, _⟩ => ⟨S512x5760, .f32⟩
  | .local _ .vmem, ⟨6, _⟩ => ⟨S1024x512, .bf16⟩
  | .local _ .vmem, ⟨7, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5760 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5760 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjReferenceIdeal.lean ====
abbrev S4096x1024 : Shape := ⟨2, ![4096, 1024]⟩
abbrev S1x1024 : Shape := ⟨2, ![1, 1024]⟩
abbrev S1x1024x5664 : Shape := ⟨3, ![1, 1024, 5664]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5664 : Shape := ⟨2, ![1024, 5664]⟩
abbrev S4096x5664 : Shape := ⟨2, ![4096, 5664]⟩
abbrev S4096x2048 : Shape := ⟨2, ![4096, 2048]⟩
abbrev S4096x3072 : Shape := ⟨2, ![4096, 3072]⟩
abbrev S4096x512 : Shape := ⟨2, ![4096, 512]⟩
abbrev S4096x16 : Shape := ⟨2, ![4096, 16]⟩
abbrev S4096x96 : Shape := ⟨2, ![4096, 96]⟩
abbrev S4096x5760 : Shape := ⟨2, ![4096, 5760]⟩
abbrev S1024x4096 : Shape := ⟨2, ![1024, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x5664, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x5664, .f32⟩
  | .hbm, ⟨21, _⟩ => ⟨S4096x5664, .f32⟩
  | .hbm, ⟨22, _⟩ => ⟨S4096x2048, .f32⟩
  | .hbm, ⟨23, _⟩ => ⟨S4096x3072, .f32⟩
  | .hbm, ⟨24, _⟩ => ⟨S4096x512, .f32⟩
  | .hbm, ⟨25, _⟩ => ⟨S4096x16, .f32⟩
  | .hbm, ⟨26, _⟩ => ⟨S4096x16, .f32⟩
  | .hbm, ⟨27, _⟩ => ⟨S_, .f32⟩
  | .hbm, ⟨28, _⟩ => ⟨S4096x96, .f32⟩
  | .hbm, ⟨29, _⟩ => ⟨S4096x5760, .f32⟩
  | .hbm, ⟨30, _⟩ => ⟨S1024x4096, .f32⟩
  | .hbm, ⟨31, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== FfnKernel.lean ====
abbrev S4096x5632 : Shape := ⟨2, ![4096, 5632]⟩
abbrev S1x3x5632 : Shape := ⟨3, ![1, 3, 5632]⟩
abbrev S1x5632 : Shape := ⟨2, ![1, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S3x5632 : Shape := ⟨2, ![3, 5632]⟩
abbrev S_ : Shape := ⟨0, ![]⟩
abbrev S8x5632 : Shape := ⟨2, ![8, 5632]⟩
abbrev S8x2816 : Shape := ⟨2, ![8, 2816]⟩
abbrev S1x1024x256 : Shape := ⟨3, ![1, 1024, 256]⟩
abbrev S1x8x256 : Shape := ⟨3, ![1, 8, 256]⟩
abbrev S1024x256 : Shape := ⟨2, ![1024, 256]⟩
abbrev S8x256 : Shape := ⟨2, ![8, 256]⟩
abbrev S1x256 : Shape := ⟨2, ![1, 256]⟩
abbrev S2x1024x256 : Shape := ⟨3, ![2, 1024, 256]⟩
abbrev S1040x256 : Shape := ⟨2, ![1040, 256]⟩
abbrev S256 : Shape := ⟨1, ![256]⟩

abbrev nBuf : Space → Nat
  | .hbm => 16
  | .vmem => 30
  | .smem => 0
  | _ => 0

abbrev bufTy : (tb : Table) → Fin (tcTables nBuf tb) → BufTy
  | .hbm, ⟨0, _⟩ => ⟨S4096x5632, .f32⟩
  | .hbm, ⟨1, _⟩ => ⟨S1x3x5632, .f32⟩
  | .hbm, ⟨2, _⟩ => ⟨S1x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S1x4096x2816, .f32⟩
  | .hbm, ⟨7, _⟩ => ⟨S1x4096x2816, .f32⟩
  | .hbm, ⟨8, _⟩ => ⟨S2x4096x2816, .f32⟩
  | .hbm, ⟨9, _⟩ => ⟨S3x5632, .f32⟩
  | .hbm, ⟨10, _⟩ => ⟨S_, .i32⟩
  | .hbm, ⟨11, _⟩ => ⟨S_, .f32⟩
  | .hbm, ⟨12, _⟩ => ⟨S8x5632, .f32⟩
  | .hbm, ⟨13, _⟩ => ⟨S2x4096x2816, .bf16⟩
  | .hbm, ⟨14, _⟩ => ⟨S8x2816, .f32⟩
  | .hbm, ⟨15, _⟩ => ⟨S8x2816, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x8x256, .f32⟩
  | .local _ .vmem, ⟨5, _⟩ => ⟨S1x8x256, .f32⟩
  | .local _ .vmem, ⟨6, _⟩ => ⟨S1x8x256, .f32⟩
  | .local _ .vmem, ⟨7, _⟩ => ⟨S1x8x256, .f32⟩
  | .local _ .vmem, ⟨8, _⟩ => ⟨S1x8x256, .f32⟩
  | .local _ .vmem, ⟨9, _⟩ => ⟨S1x8x256, .f32⟩
  | .local _ .vmem, ⟨10, _⟩ => ⟨S1x8x256, .f32⟩
  | .local _ .vmem, ⟨11, _⟩ => ⟨S1x8x256, .f32⟩
  | .local _ .vmem, ⟨12, _⟩ => ⟨S1024x256, .f32⟩
  | .local _ .vmem, ⟨13, _⟩ => ⟨S1024x256, .f32⟩
  | .local _ .vmem, ⟨14, _⟩ => ⟨S8x256, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2x1024x256, .bf16⟩
  | .local _ .vmem, ⟨25, _⟩ => ⟨S2x1024x256, .bf16⟩
  | .local _ .vmem, ⟨26, _⟩ => ⟨S8x256, .f32⟩
  | .local _ .vmem, ⟨27, _⟩ => ⟨S8x256, .f32⟩
  | .local _ .vmem, ⟨28, _⟩ => ⟨S8x256, .f32⟩
  | .local _ .vmem, ⟨29, _⟩ => ⟨S8x256, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![11, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v208 : BitVec 32 := Scalar.extui v0
  let c0_i32_75 : BitVec 32 := 0#32
  let v209 : BitVec 1 := Scalar.cmpi .ne v208 c0_i32_75
  v209

def k0_cond2 (i : grid0.Coords) : BitVec 1 :=
  let arg1 : BitVec 32 := BitVec.ofNat 32 (i 1).val
  let c0_i32_76 : BitVec 32 := 0#32
  let v210 : BitVec 1 := Scalar.cmpi .sgt arg1 c0_i32_76
  let v211 : BitVec 32 := Scalar.extui v210
  let c0_i32_77 : BitVec 32 := 0#32
  let v212 : BitVec 1 := Scalar.cmpi .ne v211 c0_i32_77
  v212

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![c1_i32_0.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  let c0_i32_0 : BitVec 32 := 0#32
  ![c0_i32.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c1_i32_0 : BitVec 32 := 1#32
  let c0_i32 : BitVec 32 := 0#32
  ![c1_i32_0.toNat, v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c511_i32 : BitVec 32 := 511#32
  let v2 : BitVec 32 := Scalar.minsi v1 c511_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnReferenceIdeal.lean ====
abbrev S4096x5632 : Shape := ⟨2, ![4096, 5632]⟩
abbrev S1x3x5632 : Shape := ⟨3, ![1, 3, 5632]⟩
abbrev S1x5632 : Shape := ⟨2, ![1, 5632]⟩
abbrev S4096x2816 : Shape := ⟨2, ![4096, 2816]⟩
abbrev S_ : Shape := ⟨0, ![]⟩
abbrev S2x5632 : Shape := ⟨2, ![2, 5632]⟩
abbrev S4098x5632 : Shape := ⟨2, ![4098, 5632]⟩
abbrev S1x1x5632 : Shape := ⟨3, ![1, 1, 5632]⟩
abbrev S5632 : Shape := ⟨1, ![5632]⟩
abbrev S3x5632 : Shape := ⟨2, ![3, 5632]⟩
abbrev S4x5632 : Shape := ⟨2, ![4, 5632]⟩
abbrev S8x5632 : Shape := ⟨2, ![8, 5632]⟩
abbrev S1x4096x2816 : Shape := ⟨3, ![1, 4096, 2816]⟩
abbrev S2x4096x2816 : Shape := ⟨3, ![2, 4096, 2816]⟩
abbrev S8x2816 : Shape := ⟨2, ![8, 2816]⟩

abbrev nBuf : Space → Nat
  | .hbm => 122
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1x3x5632, .f32⟩
  | .hbm, ⟨2, _⟩ => ⟨S1x5632, .f32⟩
  | .hbm, ⟨3, _⟩ => ⟨S4096x2816, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S_, .f32⟩
  | .hbm, ⟨8, _⟩ => ⟨S2x5632, .f32⟩
  | .hbm, ⟨9, _⟩ => ⟨S1x1x5632, .f32⟩
  | .hbm, ⟨10, _⟩ => ⟨S5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S1x1x5632, .f32⟩
  | .hbm, ⟨19, _⟩ => ⟨S5632, .f32⟩
  | .hbm, ⟨20, _⟩ => ⟨S4096x5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S1x1x5632, .f32⟩
  | .hbm, ⟨26, _⟩ => ⟨S5632, .f32⟩
  | .hbm, ⟨27, _⟩ => ⟨S4096x5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S5632, .f32⟩
  | .hbm, ⟨33, _⟩ => ⟨S1x5632, .f32⟩
  | .hbm, ⟨34, _⟩ => ⟨S4096x5632, .f32⟩
  | .hbm, ⟨35, _⟩ => ⟨S4096x5632, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x5632, .f32⟩
  | .hbm, ⟨59, _⟩ => ⟨S_, .f32⟩
  | .hbm, ⟨60, _⟩ => ⟨S5632, .f32⟩
  | .hbm, ⟨61, _⟩ => ⟨S1x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S4096x5632, .f32⟩
  | .hbm, ⟨66, _⟩ => ⟨S4096x5632, .f32⟩
  | .hbm, ⟨67, _⟩ => ⟨S4096x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S_, .f32⟩
  | .hbm, ⟨72, _⟩ => ⟨S5632, .f32⟩
  | .hbm, ⟨73, _⟩ => ⟨S_, .f32⟩
  | .hbm, ⟨74, _⟩ => ⟨S4098x5632, .f32⟩
  | .hbm, ⟨75, _⟩ => ⟨S1x1x5632, .f32⟩
  | .hbm, ⟨76, _⟩ => ⟨S_, .f32⟩
  | .hbm, ⟨77, _⟩ => ⟨S1x3x5632, .f32⟩
  | .hbm, ⟨78, _⟩ => ⟨S4096x5632, .f32⟩
  | .hbm, ⟨79, _⟩ => ⟨S4096x5632, .f32⟩
  | .hbm, ⟨80, _⟩ => ⟨S4096x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S_, .f32⟩
  | .hbm, ⟨85, _⟩ => ⟨S5632, .f32⟩
  | .hbm, ⟨86, _⟩ => ⟨S_, .f32⟩
  | .hbm, ⟨87, _⟩ => ⟨S4098x5632, .f32⟩
  | .hbm, ⟨88, _⟩ => ⟨S4098x5632, .f32⟩
  | .hbm, ⟨89, _⟩ => ⟨S1x1x5632, .f32⟩
  | .hbm, ⟨90, _⟩ => ⟨S_, .f32⟩
  | .hbm, ⟨91, _⟩ => ⟨S1x3x5632, .f32⟩
  | .hbm, ⟨92, _⟩ => ⟨S1x3x5632, .f32⟩
  | .hbm, ⟨93, _⟩ => ⟨S4096x5632, .f32⟩
  | .hbm, ⟨94, _⟩ => ⟨S4096x5632, .f32⟩
  | .hbm, ⟨95, _⟩ => ⟨S4096x5632, .f32⟩
  | .hbm, ⟨96, _⟩ => ⟨S_, .f32⟩
  | .hbm, ⟨97, _⟩ => ⟨S5632, .f32⟩
  | .hbm, ⟨98, _⟩ => ⟨S1x5632, .f32⟩
  | .hbm, ⟨99, _⟩ => ⟨S_, .f32⟩
  | .hbm, ⟨100, _⟩ => ⟨S5632, .f32⟩
  | .hbm, ⟨101, _⟩ => ⟨S_, .f32⟩
  | .hbm, ⟨102, _⟩ => ⟨S4098x5632, .f32⟩
  | .hbm, ⟨103, _⟩ => ⟨S4098x5632, .f32⟩
  | .hbm, ⟨104, _⟩ => ⟨S1x1x5632, .f32⟩
  | .hbm, ⟨105, _⟩ => ⟨S_, .f32⟩
  | .hbm, ⟨106, _⟩ => ⟨S1x3x5632, .f32⟩
  | .hbm, ⟨107, _⟩ => ⟨S1x3x5632, .f32⟩
  | .hbm, ⟨108, _⟩ => ⟨S2x5632, .f32⟩
  | .hbm, ⟨109, _⟩ => ⟨S4096x5632, .f32⟩
  | .hbm, ⟨110, _⟩ => ⟨S3x5632, .f32⟩
  | .hbm, ⟨111, _⟩ => ⟨S_, .f32⟩
  | .hbm, ⟨112, _⟩ => ⟨S4x5632, .f32⟩
  | .hbm, ⟨113, _⟩ => ⟨S8x5632, .f32⟩
  | .hbm, ⟨114, _⟩ => ⟨S4096x2816, .f32⟩
  | .hbm, ⟨115, _⟩ => ⟨S4096x2816, .f32⟩
  | .hbm, ⟨116, _⟩ => ⟨S1x4096x2816, .f32⟩
  | .hbm, ⟨117, _⟩ => ⟨S1x4096x2816, .f32⟩
  | .hbm, ⟨118, _⟩ => ⟨S2x4096x2816, .f32⟩
  | .hbm, ⟨119, _⟩ => ⟨S2x4096x2816, .bf16⟩
  | .hbm, ⟨120, _⟩ => ⟨S8x2816, .f32⟩
  | .hbm, ⟨121, _⟩ => ⟨S8x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v31_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v31_1 : Ref sig .tc := ⟨.hbm, 49, rfl⟩
abbrev main_v31_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== UpFfnKernel.lean ====
abbrev S4096x1024 : Shape := ⟨2, ![4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S3x5632 : Shape := ⟨2, ![3, 5632]⟩
abbrev S_ : Shape := ⟨0, ![]⟩
abbrev S8x5632 : Shape := ⟨2, ![8, 5632]⟩
abbrev S2x4096x2816 : Shape := ⟨3, ![2, 4096, 2816]⟩
abbrev S4096x2816 : Shape := ⟨2, ![4096, 2816]⟩
abbrev S2816x4096 : Shape := ⟨2, ![2816, 4096]⟩
abbrev S512x1024 : Shape := ⟨2, ![512, 1024]⟩
abbrev S1x1024x1408 : Shape := ⟨3, ![1, 1024, 1408]⟩
abbrev S8x1408 : Shape := ⟨2, ![8, 1408]⟩
abbrev S1x1408 : Shape := ⟨2, ![1, 1408]⟩
abbrev S2x512x1408 : Shape := ⟨3, ![2, 512, 1408]⟩
abbrev S512x1408 : Shape := ⟨2, ![512, 1408]⟩
abbrev S1408x512 : Shape := ⟨2, ![1408, 512]⟩
abbrev S2x2x8x1408 : Shape := ⟨4, ![2, 2, 8, 1408]⟩
abbrev S1x1x8x1408 : Shape := ⟨4, ![1, 1, 8, 1408]⟩
abbrev S256x1024 : Shape := ⟨2, ![256, 1024]⟩
abbrev S1024x1408 : Shape := ⟨2, ![1024, 1408]⟩
abbrev S256x1408 : Shape := ⟨2, ![256, 1408]⟩
abbrev S1x256x1408 : Shape := ⟨3, ![1, 256, 1408]⟩
abbrev S264x1408 : Shape := ⟨2, ![264, 1408]⟩
abbrev S1408x256 : Shape := ⟨2, ![1408, 256]⟩

abbrev nBuf : Space → Nat
  | .hbm => 16
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1024x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S4096x1024, .bf16⟩
  | .hbm, ⟨9, _⟩ => ⟨S3x5632, .f32⟩
  | .hbm, ⟨10, _⟩ => ⟨S_, .i32⟩
  | .hbm, ⟨11, _⟩ => ⟨S_, .f32⟩
  | .hbm, ⟨12, _⟩ => ⟨S8x5632, .f32⟩
  | .hbm, ⟨13, _⟩ => ⟨S2x4096x2816, .f32⟩
  | .hbm, ⟨14, _⟩ => ⟨S4096x2816, .bf16⟩
  | .hbm, ⟨15, _⟩ => ⟨S2816x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S8x1408, .f32⟩
  | .local _ .vmem, ⟨7, _⟩ => ⟨S8x1408, .f32⟩
  | .local _ .vmem, ⟨8, _⟩ => ⟨S8x1408, .f32⟩
  | .local _ .vmem, ⟨9, _⟩ => ⟨S8x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S2x512x1408, .f32⟩
  | .local _ .vmem, ⟨15, _⟩ => ⟨S2x512x1408, .f32⟩
  | .local _ .vmem, ⟨16, _⟩ => ⟨S512x1408, .bf16⟩
  | .local _ .vmem, ⟨17, _⟩ => ⟨S512x1408, .bf16⟩
  | .local _ .vmem, ⟨18, _⟩ => ⟨S1408x512, .bf16⟩
  | .local _ .vmem, ⟨19, _⟩ => ⟨S1408x512, .bf16⟩
  | .local _ .vmem, ⟨20, _⟩ => ⟨S2x2x8x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 2], ![false, false]⟩

def k0_off1 (i : grid0.Coords) : Fin 4 → Nat :=
  let c0 : Index := 0#32
  let arg1 : BitVec 32 := BitVec.ofNat 32 (i 1).val
  let v1 : Index := Scalar.indexCast arg1
  let c0_0 : Index := 0#32
  let c0_1 : Index := 0#32
  ![0, v1.toNat, 0, 0]
def k0_off2 (i : grid0.Coords) : Fin 4 → Nat :=
  let c1 : Index := 1#32
  let arg1 : BitVec 32 := BitVec.ofNat 32 (i 1).val
  let v7 : Index := Scalar.indexCast arg1
  let c0_3 : Index := 0#32
  let c0_4 : Index := 0#32
  ![1, v7.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1408x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpFfnReferenceIdeal.lean ====
abbrev S4096x1024 : Shape := ⟨2, ![4096, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1024x5632 : Shape := ⟨2, ![1024, 5632]⟩
abbrev S4096x5632 : Shape := ⟨2, ![4096, 5632]⟩
abbrev S_ : Shape := ⟨0, ![]⟩
abbrev S2x5632 : Shape := ⟨2, ![2, 5632]⟩
abbrev S4098x5632 : Shape := ⟨2, ![4098, 5632]⟩
abbrev S1x1x5632 : Shape := ⟨3, ![1, 1, 5632]⟩
abbrev S5632 : Shape := ⟨1, ![5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S2816x4096 : Shape := ⟨2, ![2816, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024x5632, .f32⟩
  | .hbm, ⟨2, _⟩ => ⟨S1x3x5632, .f32⟩
  | .hbm, ⟨3, _⟩ => ⟨S1x5632, .f32⟩
  | .hbm, ⟨4, _⟩ => ⟨S1024x5632, .f32⟩
  | .hbm, ⟨5, _⟩ => ⟨S4096x5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S1x1x5632, .f32⟩
  | .hbm, ⟨10, _⟩ => ⟨S5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S1x1x5632, .f32⟩
  | .hbm, ⟨19, _⟩ => ⟨S5632, .f32⟩
  | .hbm, ⟨20, _⟩ => ⟨S4096x5632, .f32⟩
  | .hbm, ⟨21, _⟩ => ⟨S1x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S1x1x5632, .f32⟩
  | .hbm, ⟨26, _⟩ => ⟨S5632, .f32⟩
  | .hbm, ⟨27, _⟩ => ⟨S4096x5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S5632, .f32⟩
  | .hbm, ⟨33, _⟩ => ⟨S1x5632, .f32⟩
  | .hbm, ⟨34, _⟩ => ⟨S4096x5632, .f32⟩
  | .hbm, ⟨35, _⟩ => ⟨S4096x5632, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S_, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .bf16⟩
  | .hbm, ⟨49, _⟩ => ⟨S4096x2816, .f32⟩
  | .hbm, ⟨50, _⟩ => ⟨S4096x2816, .f32⟩
  | .hbm, ⟨51, _⟩ => ⟨S1x4096x2816, .f32⟩
  | .hbm, ⟨52, _⟩ => ⟨S1x4096x2816, .f32⟩
  | .hbm, ⟨53, _⟩ => ⟨S2x4096x2816, .f32⟩
  | .hbm, ⟨54, _⟩ => ⟨S2816x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== PrepKernel.lean ====
abbrev S4096x5664 : Shape := ⟨2, ![4096, 5664]⟩
abbrev S1x16 : Shape := ⟨2, ![1, 16]⟩
abbrev S1x64 : Shape := ⟨2, ![1, 64]⟩
abbrev S4096x2048 : Shape := ⟨2, ![4096, 2048]⟩
abbrev S4096x3072 : Shape := ⟨2, ![4096, 3072]⟩
abbrev S4096x512 : Shape := ⟨2, ![4096, 512]⟩
abbrev S4096x16 : Shape := ⟨2, ![4096, 16]⟩
abbrev S_ : Shape := ⟨0, ![]⟩
abbrev S4096x96 : Shape := ⟨2, ![4096, 96]⟩
abbrev S4096x5760 : Shape := ⟨2, ![4096, 5760]⟩
abbrev S384 : Shape := ⟨1, ![384]⟩
abbrev S16 : Shape := ⟨1, ![16]⟩
abbrev S96 : Shape := ⟨1, ![96]⟩
abbrev S512 : Shape := ⟨1, ![512]⟩
abbrev S1024 : Shape := ⟨1, ![1024]⟩
abbrev S8x128 : Shape := ⟨2, ![8, 128]⟩
abbrev S64 : Shape := ⟨1, ![64]⟩
abbrev S16x64 : Shape := ⟨2, ![16, 64]⟩
abbrev S1x1024 : Shape := ⟨2, ![1, 1024]⟩
abbrev S16x1x1 : Shape := ⟨3, ![16, 1, 1]⟩
abbrev S128 : Shape := ⟨1, ![128]⟩
abbrev S1x1x128 : Shape := ⟨3, ![1, 1, 128]⟩
abbrev S16x1x128 : Shape := ⟨3, ![16, 1, 128]⟩
abbrev S16x64x128 : Shape := ⟨3, ![16, 64, 128]⟩
abbrev S1024x128 : Shape := ⟨2, ![1024, 128]⟩
abbrev S384x1 : Shape := ⟨2, ![384, 1]⟩
abbrev S384x1024 : Shape := ⟨2, ![384, 1024]⟩
abbrev S128x1024 : Shape := ⟨2, ![128, 1024]⟩
abbrev S4096x1024 : Shape := ⟨2, ![4096, 1024]⟩
abbrev S1024x4096 : Shape := ⟨2, ![1024, 4096]⟩
abbrev S256x1024 : Shape := ⟨2, ![256, 1024]⟩
abbrev S256x128 : Shape := ⟨2, ![256, 128]⟩
abbrev S1024x256 : Shape := ⟨2, ![1024, 256]⟩
abbrev S1x128 : Shape := ⟨2, ![1, 128]⟩
abbrev S256x384 : Shape := ⟨2, ![256, 384]⟩

abbrev nBuf : Space → Nat
  | .hbm => 134
  | .vmem => 34
  | .smem => 0
  | _ => 0

abbrev hbmTy0_0 (i : Nat) : BufTy := match i % 128 with
  | 0 => ⟨S4096x5664, .f32⟩
  | 1 => ⟨S1x16, .f32⟩
  | 2 => ⟨S1x64, .f32⟩
  | 3 => ⟨S1x64, .f32⟩
  | 4 => ⟨S4096x2048, .f32⟩
  | 5 => ⟨S4096x3072, .f32⟩
  | 6 => ⟨S4096x512, .f32⟩
  | 7 => ⟨S4096x16, .f32⟩
  | 8 => ⟨S4096x16, .f32⟩
  | 9 => ⟨S_, .f32⟩
  | 10 => ⟨S4096x96, .f32⟩
  | 11 => ⟨S4096x5760, .f32⟩
  | 12 => ⟨S_, .f32⟩
  | 13 => ⟨S384, .f32⟩
  | 14 => ⟨S_, .f32⟩
  | 15 => ⟨S16, .f32⟩
  | 16 => ⟨S16, .f32⟩
  | 17 => ⟨S_, .f32⟩
  | 18 => ⟨S96, .f32⟩
  | 19 => ⟨S_, .f32⟩
  | 20 => ⟨S512, .f32⟩
  | 21 => ⟨S1024, .f32⟩
  | 22 => ⟨S8x128, .f32⟩
  | 23 => ⟨S64, .f32⟩
  | 24 => ⟨S1x64, .f32⟩
  | 25 => ⟨S16x64, .f32⟩
  | 26 => ⟨S1024, .f32⟩
  | 27 => ⟨S1x1024, .f32⟩
  | 28 => ⟨S64, .f32⟩
  | 29 => ⟨S1x64, .f32⟩
  | 30 => ⟨S16x64, .f32⟩
  | 31 => ⟨S1024, .f32⟩
  | 32 => ⟨S1x1024, .f32⟩
  | 33 => ⟨S16, .i32⟩
  | 34 => ⟨S16x1x1, .i32⟩
  | 35 => ⟨S128, .i32⟩
  | 36 => ⟨S1x1x128, .i32⟩
  | 37 => ⟨S16x1x128, .i32⟩
  | 38 => ⟨S16x1x128, .i32⟩
  | 39 => ⟨S16x1x128, .i1⟩
  | 40 => ⟨S16x64x128, .i1⟩
  | 41 => ⟨S1024x128, .i1⟩
  | 42 => ⟨S1024x128, .f32⟩
  | 43 => ⟨S1024x128, .bf16⟩
  | 44 => ⟨S384, .i32⟩
  | 45 => ⟨S_, .i32⟩
  | 46 => ⟨S384, .i32⟩
  | 47 => ⟨S384, .i32⟩
  | 48 => ⟨S_, .i32⟩
  | 49 => ⟨S384, .i32⟩
  | 50 => ⟨S384, .i32⟩
  | 51 => ⟨S_, .i32⟩
  | 52 => ⟨S384, .i32⟩
  | 53 => ⟨S384, .i32⟩
  | 54 => ⟨S_, .i32⟩
  | 55 => ⟨S384, .i32⟩
  | 56 => ⟨S384, .i1⟩
  | 57 => ⟨S_, .i32⟩
  | 58 => ⟨S384, .i32⟩
  | 59 => ⟨S384, .i1⟩
  | 60 => ⟨S384, .i1⟩
  | 61 => ⟨S_, .i32⟩
  | 62 => ⟨S384, .i32⟩
  | 63 => ⟨S384, .i32⟩
  | 64 => ⟨S_, .i32⟩
  | 65 => ⟨S384, .i32⟩
  | 66 => ⟨S384, .i32⟩
  | 67 => ⟨S_, .i32⟩
  | 68 => ⟨S384, .i32⟩
  | 69 => ⟨S384, .i32⟩
  | 70 => ⟨S_, .i32⟩
  | 71 => ⟨S384, .i32⟩
  | 72 => ⟨S384, .i32⟩
  | 73 => ⟨S_, .i32⟩
  | 74 => ⟨S384, .i32⟩
  | 75 => ⟨S384, .i32⟩
  | 76 => ⟨S384, .i32⟩
  | 77 => ⟨S384, .i32⟩
  | 78 => ⟨S1024, .i32⟩
  | 79 => ⟨S384x1, .i1⟩
  | 80 => ⟨S1x1024, .i32⟩
  | 81 => ⟨S384x1, .i32⟩
  | 82 => ⟨S384x1024, .i32⟩
  | 83 => ⟨S384x1024, .i32⟩
  | 84 => ⟨S384x1024, .i1⟩
  | 85 => ⟨S384x1024, .i1⟩
  | 86 => ⟨S384x1024, .i1⟩
  | 87 => ⟨S384x1, .i1⟩
  | 88 => ⟨S1x1024, .i32⟩
  | 89 => ⟨S_, .i32⟩
  | 90 => ⟨S384, .i32⟩
  | 91 => ⟨S384, .i32⟩
  | 92 => ⟨S384x1, .i32⟩
  | 93 => ⟨S384x1024, .i32⟩
  | 94 => ⟨S384x1024, .i32⟩
  | 95 => ⟨S384x1024, .i1⟩
  | 96 => ⟨S384x1024, .i1⟩
  | 97 => ⟨S384x1024, .i1⟩
  | 98 => ⟨S_, .i32⟩
  | 99 => ⟨S1024, .i32⟩
  | 100 => ⟨S1024, .i32⟩
  | 101 => ⟨S_, .i32⟩
  | 102 => ⟨S1024, .i32⟩
  | 103 => ⟨S1024, .i1⟩
  | 104 => ⟨S_, .i32⟩
  | 105 => ⟨S1024, .i32⟩
  | 106 => ⟨S1024, .i32⟩
  | 107 => ⟨S_, .i32⟩
  | 108 => ⟨S1024, .i32⟩
  | 109 => ⟨S1024, .i1⟩
  | 110 => ⟨S1024, .i1⟩
  | 111 => ⟨S1x1024, .i1⟩
  | 112 => ⟨S_, .i32⟩
  | 113 => ⟨S1024, .i32⟩
  | 114 => ⟨S1024, .i32⟩
  | 115 => ⟨S_, .i32⟩
  | 116 => ⟨S1024, .i32⟩
  | 117 => ⟨S1024, .i1⟩
  | 118 => ⟨S1x1024, .i1⟩
  | 119 => ⟨S384x1024, .f32⟩
  | 120 => ⟨S384x1024, .bf16⟩
  | 121 => ⟨S384x1024, .f32⟩
  | 122 => ⟨S384x1024, .bf16⟩
  | 123 => ⟨S1x1024, .f32⟩
  | 124 => ⟨S1x1024, .f32⟩
  | 125 => ⟨S128x1024, .bf16⟩
  | 126 => ⟨S4096x1024, .bf16⟩
  | 127 => ⟨S4096x1024, .bf16⟩
  | _ => ⟨S4096x5664, .f32⟩

abbrev hbmTy0_1 (i : Nat) : BufTy := match i % 128 with
  | 0 => ⟨S4096x1024, .bf16⟩
  | 1 => ⟨S4096x1024, .bf16⟩
  | 2 => ⟨S4096x1024, .bf16⟩
  | 3 => ⟨S1024x4096, .bf16⟩
  | 4 => ⟨S1024x4096, .bf16⟩
  | 5 => ⟨S1024x4096, .bf16⟩
  | _ => ⟨S4096x5664, .f32⟩

abbrev hbmTy (i : Nat) : BufTy := match i / 128 with
  | 0 => hbmTy0_0 i
  | 1 => hbmTy0_1 i
  | _ => ⟨S4096x5664, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S8x128, .f32⟩
  | .local _ .vmem, ⟨9, _⟩ => ⟨S1x1024, .f32⟩
  | .local _ .vmem, ⟨10, _⟩ => ⟨S1x1024, .f32⟩
  | .local _ .vmem, ⟨11, _⟩ => ⟨S1024x128, .bf16⟩
  | .local _ .vmem, ⟨12, _⟩ => ⟨S128x1024, .bf16⟩
  | .local _ .vmem, ⟨13, _⟩ => ⟨S384x1024, .bf16⟩
  | .local _ .vmem, ⟨14, _⟩ => ⟨S384x1024, .bf16⟩
  | .local _ .vmem, ⟨15, _⟩ => ⟨S1x1024, .f32⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x256, .bf16⟩
  | .local _ .vmem, ⟨33, _⟩ => ⟨S1x128, .f32⟩
  | _, _ => ⟨S4096x5664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_c_10 : Ref sig .tc := ⟨.hbm, 67, rfl⟩
abbrev main_v51 : Ref sig .tc := ⟨.hbm, 68, rfl⟩
abbrev main_v52 : Ref sig .tc := ⟨.hbm, 69, rfl⟩
abbrev main_c_11 : Ref sig .tc := ⟨.hbm, 70, rfl⟩
abbrev main_v53 : Ref sig .tc := ⟨.hbm, 71, rfl⟩
abbrev main_v54 : Ref sig .tc := ⟨.hbm, 72, rfl⟩
abbrev main_c_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_14 : Ref sig .tc := ⟨.hbm, 98, rfl⟩
abbrev main_v78 : Ref sig .tc := ⟨.hbm, 99, rfl⟩
abbrev main_v79 : Ref sig .tc := ⟨.hbm, 100, rfl⟩
abbrev main_c_15 : Ref sig .tc := ⟨.hbm, 101, rfl⟩
abbrev main_v80 : Ref sig .tc := ⟨.hbm, 102, rfl⟩
abbrev main_v81 : Ref sig .tc := ⟨.hbm, 103, rfl⟩
abbrev main_c_16 : Ref sig .tc := ⟨.hbm, 104, rfl⟩
abbrev main_v82 : Ref sig .tc := ⟨.hbm, 105, rfl⟩
abbrev main_v83 : Ref sig .tc := ⟨.hbm, 106, rfl⟩
abbrev main_c_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c_18 : Ref sig .tc := ⟨.hbm, 112, rfl⟩
abbrev main_v88 : Ref sig .tc := ⟨.hbm, 113, rfl⟩
abbrev main_v89 : Ref sig .tc := ⟨.hbm, 114, rfl⟩
abbrev main_c_19 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100_0 : Ref sig .tc := ⟨.hbm, 126, rfl⟩
abbrev main_v100_1 : Ref sig .tc := ⟨.hbm, 127, rfl⟩
abbrev main_v100_2 : Ref sig .tc := ⟨.hbm, 128, rfl⟩
abbrev main_v100_3 : Ref sig .tc := ⟨.hbm, 129, rfl⟩
abbrev main_v100_4 : Ref sig .tc := ⟨.hbm, 130, rfl⟩
abbrev main_v100_5 : Ref sig .tc := ⟨.hbm, 131, rfl⟩
abbrev main_v100_6 : Ref sig .tc := ⟨.hbm, 132, rfl⟩
abbrev main_v100_7 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== PrepReferenceIdeal.lean ====
abbrev S4096x5664 : Shape := ⟨2, ![4096, 5664]⟩
abbrev S1x16 : Shape := ⟨2, ![1, 16]⟩
abbrev S1x64 : Shape := ⟨2, ![1, 64]⟩
abbrev S4096x1024 : Shape := ⟨2, ![4096, 1024]⟩
abbrev S4096x16x64 : Shape := ⟨3, ![4096, 16, 64]⟩
abbrev S64 : Shape := ⟨1, ![64]⟩
abbrev S_ : Shape := ⟨0, ![]⟩
abbrev S4096x16 : Shape := ⟨2, ![4096, 16]⟩
abbrev S4096x16x1 : Shape := ⟨3, ![4096, 16, 1]⟩
abbrev S1x1x64 : Shape := ⟨3, ![1, 1, 64]⟩
abbrev S1024x4096 : Shape := ⟨2, ![1024, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x5664, .f32⟩
  | .hbm, ⟨1, _⟩ => ⟨S1x16, .f32⟩
  | .hbm, ⟨2, _⟩ => ⟨S1x64, .f32⟩
  | .hbm, ⟨3, _⟩ => ⟨S1x64, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x16x64, .f32⟩
  | .hbm, ⟨8, _⟩ => ⟨S64, .f32⟩
  | .hbm, ⟨9, _⟩ => ⟨S4096x16x64, .f32⟩
  | .hbm, ⟨10, _⟩ => ⟨S_, .f32⟩
  | .hbm, ⟨11, _⟩ => ⟨S4096x16, .f32⟩
  | .hbm, ⟨12, _⟩ => ⟨S4096x16x1, .f32⟩
  | .hbm, ⟨13, _⟩ => ⟨S_, .f32⟩
  | .hbm, ⟨14, _⟩ => ⟨S4096x16x1, .f32⟩
  | .hbm, ⟨15, _⟩ => ⟨S4096x16x1, .f32⟩
  | .hbm, ⟨16, _⟩ => ⟨S_, .f32⟩
  | .hbm, ⟨17, _⟩ => ⟨S4096x16x1, .f32⟩
  | .hbm, ⟨18, _⟩ => ⟨S4096x16x1, .f32⟩
  | .hbm, ⟨19, _⟩ => ⟨S4096x16x1, .f32⟩
  | .hbm, ⟨20, _⟩ => ⟨S4096x16x64, .f32⟩
  | .hbm, ⟨21, _⟩ => ⟨S4096x16x64, .f32⟩
  | .hbm, ⟨22, _⟩ => ⟨S1x1x64, .f32⟩
  | .hbm, ⟨23, _⟩ => ⟨S4096x16x64, .f32⟩
  | .hbm, ⟨24, _⟩ => ⟨S4096x16x64, .f32⟩
  | .hbm, ⟨25, _⟩ => ⟨S_, .f32⟩
  | .hbm, ⟨26, _⟩ => ⟨S4096x16x64, .f32⟩
  | .hbm, ⟨27, _⟩ => ⟨S4096x16x64, .f32⟩
  | .hbm, ⟨28, _⟩ => ⟨S4096x1024, .f32⟩
  | .hbm, ⟨29, _⟩ => ⟨S4096x16x64, .f32⟩
  | .hbm, ⟨30, _⟩ => ⟨S64, .f32⟩
  | .hbm, ⟨31, _⟩ => ⟨S4096x16x64, .f32⟩
  | .hbm, ⟨32, _⟩ => ⟨S_, .f32⟩
  | .hbm, ⟨33, _⟩ => ⟨S4096x16, .f32⟩
  | .hbm, ⟨34, _⟩ => ⟨S4096x16x1, .f32⟩
  | .hbm, ⟨35, _⟩ => ⟨S_, .f32⟩
  | .hbm, ⟨36, _⟩ => ⟨S4096x16x1, .f32⟩
  | .hbm, ⟨37, _⟩ => ⟨S4096x16x1, .f32⟩
  | .hbm, ⟨38, _⟩ => ⟨S_, .f32⟩
  | .hbm, ⟨39, _⟩ => ⟨S4096x16x1, .f32⟩
  | .hbm, ⟨40, _⟩ => ⟨S4096x16x1, .f32⟩
  | .hbm, ⟨41, _⟩ => ⟨S4096x16x1, .f32⟩
  | .hbm, ⟨42, _⟩ => ⟨S4096x16x64, .f32⟩
  | .hbm, ⟨43, _⟩ => ⟨S4096x16x64, .f32⟩
  | .hbm, ⟨44, _⟩ => ⟨S1x1x64, .f32⟩
  | .hbm, ⟨45, _⟩ => ⟨S4096x16x64, .f32⟩
  | .hbm, ⟨46, _⟩ => ⟨S4096x16x64, .f32⟩
  | .hbm, ⟨47, _⟩ => ⟨S4096x1024, .f32⟩
  | .hbm, ⟨48, _⟩ => ⟨S4096x1024, .bf16⟩
  | .hbm, ⟨49, _⟩ => ⟨S4096x1024, .bf16⟩
  | .hbm, ⟨50, _⟩ => ⟨S4096x1024, .bf16⟩
  | .hbm, ⟨51, _⟩ => ⟨S1024x4096, .f32⟩
  | .hbm, ⟨52, _⟩ => ⟨S1024x4096, .bf16⟩
  | .hbm, ⟨53, _⟩ => ⟨S1024x4096, .f32⟩
  | .hbm, ⟨54, _⟩ => ⟨S1024x4096, .bf16⟩
  | _, _ => ⟨S4096x5664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Proof.Consts.lean ====
/- The float constants that the programs spell, as the real numbers they stand for. -/
module

public import Idealize.ShloMosaic.PureOps.Ideal

@[expose] public section

noncomputable section

namespace Cert.Consts

open Idealize.ShloMosaic

/-- One half. -/
theorem ofBits_half : Ideal.ofBits .f32 0x3F000000#32 = ((1 / 2 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- The model's width. -/
theorem ofBits_1024 : Ideal.ofBits .f32 0x44800000#32 = ((1024 : ℝ) : EReal) := by
  simp [Ideal.ofBits, Ideal.ieee, -EReal.coe_mul]; norm_num

/-- Minus one half. -/
theorem ofBits_neg_half : Ideal.ofBits .f32 0xBF000000#32 = ((-(1 / 2) : ℝ) : EReal) := by
  simp [Ideal.ofBits, Ideal.ieee, -EReal.coe_mul]; norm_num

/-- The small constant under the square root of the norm is a positive number. -/
theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

end Cert.Consts

end
-- ==== Proof.LossValue.lean ====
/- What the loss kernel's two results hold at the real numbers, beside the reference's terms. -/
module

public import proofs.«01_k».proof.Proof.Gen.LossKernelIdeal.Frame
public import proofs.«01_k».proof.Proof.Gen.LossReferenceIdeal
public import proofs.«01_k».proof.Proof.Consts
public import Idealize.ShloMosaic.Lib.Pipeline.Value
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.LossKernelIdeal.Value

open Cert.LossKernelIdeal Cert.LossKernelIdeal.Gen

variable (m : (ℓ : Loc nD τ sig) → Buf (Elt Ideal) ℓ)

/-- The reference's error, one entry per row and column: the residual plus the projection, less the target. -/
abbrev REF_e (a0 : FVec Ideal Cert.LossReferenceIdeal.S4096x2816 .f32) (a1 : FVec Ideal Cert.LossReferenceIdeal.S1x2816x1024 .f32) (a2 : FVec Ideal Cert.LossReferenceIdeal.S4096x1024 .f32) (a3 : FVec Ideal Cert.LossReferenceIdeal.S4096x1024 .f32) : FVec Ideal Cert.LossReferenceIdeal.S4096x1024 .f32 :=
  subf (addf a2 (Host.dotGeneral Cert.LossReferenceIdeal.dot_S4096x2816_S2816x1024_S4096x1024_1_0_0_1_n_n none a0
    (shapeCast _ a1 Cert.LossReferenceIdeal.Gen.shapeCasts_S1x2816x1024_S2816x1024))) a3

/-- The reference's first result: the gradient of the loss by the row, from the error. -/
abbrev REF_dy (e : FVec Ideal Cert.LossReferenceIdeal.S4096x1024 .f32) : FVec Ideal Cert.LossReferenceIdeal.S4096x1024 .f32 :=
  mulf (broadcastInDim Cert.LossReferenceIdeal.S4096x1024 ![0] Cert.LossReferenceIdeal.Gen.bcast_S4096_S4096x1024_0
      (Host.divf (broadcastInDim Cert.LossReferenceIdeal.S4096 ![] Cert.LossReferenceIdeal.Gen.bcast_S_S4096
          (mulf (constant Cert.LossReferenceIdeal.S_ .f32 0x3F000000#32) (constant Cert.LossReferenceIdeal.S_ .f32 0x3F800000#32)))
        (broadcastInDim Cert.LossReferenceIdeal.S4096 ![] Cert.LossReferenceIdeal.Gen.bcast_S_S4096
          (constant Cert.LossReferenceIdeal.S_ .f32 0x44800000#32))))
    (mulf (broadcastInDim Cert.LossReferenceIdeal.S4096x1024 ![] Cert.LossReferenceIdeal.Gen.bcast_S_S4096x1024
        (constant Cert.LossReferenceIdeal.S_ .f32 0x40000000#32)) e)

/-- The reference's second result: the squared error summed over the rows. -/
abbrev REF_sq (e : FVec Ideal Cert.LossReferenceIdeal.S4096x1024 .f32) : FVec Ideal Cert.LossReferenceIdeal.S1x1024 .f32 :=
  broadcastInDim Cert.LossReferenceIdeal.S1x1024 ![1] Cert.LossReferenceIdeal.Gen.bcast_S1024_S1x1024_1
    (Host.reduceAdd (mulf e e) (constant Cert.LossReferenceIdeal.S_ .f32 0x00000000#32)
      Cert.LossReferenceIdeal.Gen.reducesTo_S4096x1024_S1024_d0 Cert.LossReferenceIdeal.Gen.h_S_)

/-- The block each window reads or writes at a grid point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0] :=
  (by decide +kernel : ∀ t : Fin grid0.N, _)

/-- The reference's error of all arguments, as one function of its index. -/
def refErr (c : Dev nD) : FVec Ideal Cert.LossReferenceIdeal.S4096x1024 .f32 :=
  REF_e (m ((c : Thread nD τ).loc main_arg0)) (m ((c : Thread nD τ).loc main_arg1)) (m ((c : Thread nD τ).loc main_arg2)) (m ((c : Thread nD τ).loc main_arg3))

/-- The error that a grid point forms from its blocks. -/
def kErr (c : Dev nD) (t : Fin cfg0.N) (r : Fin 512) (q : Fin 1024) : EReal :=
  (show FVec Ideal S512x1024 .f32 from iblk m c 2 t) (ix2 r q)
    + (∑ k : Fin 2816, (show FVec Ideal S512x2816 .bf16 from iblk m c 0 t) (ix2 r k) * (show FVec Ideal S2816x1024 .bf16 from iblk m c 1 t) (ix2 k q))
    - (show FVec Ideal S512x1024 .f32 from iblk m c 3 t) (ix2 r q)

/-- The error that a grid point forms from its blocks is the reference's, 512 rows to a point. -/
theorem err_at (c : Dev nD) (t : Fin cfg0.N) (r : Fin 512) (q : Fin 1024) (j : S4096x1024.Idx)
    (hj0 : (j 0 : ℕ) = t.val * 512 + r) (hj1 : (j 1 : ℕ) = q) :
    kErr m c t r q = refErr m c j := by
  obtain ⟨i0, i1, i2, i3, i4, i5⟩ := idx t
  have ht : t.val < 8 := lt_of_lt_of_eq t.isLt N_0
  unfold kErr
  pointwise [refErr, REF_e]
  blk_simp [iblk, V, i0, i1, i2, i3]
  entry_read
  pointwise
  refine congrArg₂ (· - ·) (congrArg₂ (· + ·) ?_ (Finset.sum_congr rfl fun k _ => congrArg₂ (· * ·) ?_ ?_)) ?_
  all_goals blk_ext [i0, i1, i2, i3]

/-- Division by 1024 is the reference's product of constants. -/
theorem dy_at (e : FVec Ideal Cert.LossReferenceIdeal.S4096x1024 .f32) (j : S4096x1024.Idx) :
    REF_dy e j = Ideal.div (e j) (Ideal.ofBits .f32 1149239296#32) := by
  pointwise [REF_dy]
  rw [show (1149239296#32) = (0x44800000#32) from rfl, show (1056964608#32) = (0x3F000000#32) from rfl, show (1073741824#32) = (0x40000000#32) from rfl,
    Consts.ofBits_1024, Consts.ofBits_half, Consts.ofBits_two, Ideal.div_coe (by norm_num), Ideal.div_coe (by norm_num), ← EReal.coe_mul, ← mul_assoc,
    ← EReal.coe_mul, mul_comm]
  norm_num

theorem emb_4 (t : Fin cfg0.N) (y : ((cfg0.win 4).xblock (cfg0.grid.coords t)).Idx) :
    ((((cfg0.win 4).blk t).view.emb y 0 : Fin _) : ℕ) = t.val * 512 + (y 0 : ℕ) ∧ ((((cfg0.win 4).blk t).view.emb y 1 : Fin _) : ℕ) = (y 1 : ℕ) := by
  obtain ⟨i0, i1, i2, i3, i4, i5⟩ := idx t
  constructor <;> blk_simp [i4] <;> try omega

theorem point_4 (c : Dev nD) (t : Fin cfg0.N) (y : S512x1024.Idx) : (outsAt0 m c t.val t.isLt).1 y = REF_dy (refErr m c) (((cfg0.win 4).blk t).view.emb y) := by
  have ht : t.val < 8 := lt_of_lt_of_eq t.isLt N_0
  obtain ⟨e0, e1⟩ := emb_4 t y
  by_cases h : t.val % 8 = 0
  on_goal 1 => rw [outsAt0_A m c t h (by omega)]
  on_goal 2 => rw [outsAt0_B m c t h (by omega)]
  all_goals
    frame_out
    canon_tiles x h
    all_goals rw [dy_at]
    · pointwise [k0_pay7, k0_pay6]
      exact congrArg (Ideal.div · _) (err_at m c t ⟨256 + (x 0 : ℕ), by omega⟩ (x 1) _ (e0.trans (by rw [h0])) (e1.trans h1))
    · pointwise [k0_pay4, k0_pay3]
      exact congrArg (Ideal.div · _) (err_at m c t ⟨(x 0 : ℕ), by omega⟩ (x 1) _ (e0.trans (by rw [h0])) (e1.trans h1))

/-- The first result: the gradient of the loss by the row. -/
theorem final_4 (c : Dev nD) : (dats m 0 c).arrAt 4 (cfgs 0).N = REF_dy (refErr m c) := by
  refine (dats m 0 c).arrAt_eq_of_covers 4 _ (by decide +kernel) fun t hf y => ?_
  blk_simp; rw [after0_4]
  exact point_4 m c t y

/-- A grid point's part of the second result: the squared errors of its 512 rows. -/
def part (c : Dev nD) (t : Fin cfg0.N) (j : S1x1024.Idx) : EReal :=
  ∑ r : Fin 512, refErr m c (ix2 ⟨t.val * 512 + r.val, by have := lt_of_lt_of_eq t.isLt N_0; omega⟩ (j 1))
    * refErr m c (ix2 ⟨t.val * 512 + r.val, by have := lt_of_lt_of_eq t.isLt N_0; omega⟩ (j 1))

/-- A point's part, formed in two halves of 256 rows. -/
theorem part_halves (c : Dev nD) (t : Fin cfg0.N) (j : S1x1024.Idx) (e : Fin 512 → EReal)
    (he : ∀ (r : Fin 512) (i : S4096x1024.Idx), (i 0 : ℕ) = t.val * 512 + r → (i 1 : ℕ) = (j 1 : ℕ) → e r = refErr m c i) :
    (∑ x : Fin 256, e ⟨x, by omega⟩ * e ⟨x, by omega⟩) + (∑ x : Fin 256, e ⟨256 + x, by omega⟩ * e ⟨256 + x, by omega⟩) = part m c t j := by
  have hs : part m c t j = ∑ r : Fin (256 + 256), e r * e r :=
    Finset.sum_congr rfl fun r _ => by rw [he r (ix2 ⟨t.val * 512 + r.val, by have := lt_of_lt_of_eq t.isLt N_0; omega⟩ (j 1)) rfl rfl]
  rw [hs, Fin.sum_univ_add]
  rfl

/-- The first point leaves its part. -/
theorem step_A (c : Dev nD) (t : Fin cfg0.N) (h : t.val % 8 = 0) (j : S1x1024.Idx) : (outsAt0 m c t.val t.isLt).2 j = part m c t j := by
  have ht : t.val < 8 := lt_of_lt_of_eq t.isLt N_0
  rw [outsAt0_A m c t h (by omega)]; frame_out
  rw [← part_halves m c t j (fun r => kErr m c t r (j 1)) fun r i h0 h1 => err_at m c t r (j 1) i h0 h1]
  pointwise [k0_pay1, k0_pay5, k0_pay8, k0_pay3, k0_pay6]
  rfl

/-- Every later point adds its part to what the point before it left. -/
theorem step_B (c : Dev nD) (t : Fin cfg0.N) (h : ¬ t.val % 8 = 0) (j : S1x1024.Idx) :
    (outsAt0 m c t.val t.isLt).2 j = (outsAt0 m c (t.val - 1) (Nat.lt_of_le_of_lt (Nat.sub_le _ _) t.isLt)).2 j + part m c t j := by
  have ht : t.val < 8 := lt_of_lt_of_eq t.isLt N_0
  rw [outsAt0_B m c t h (by omega)]; frame_out
  rw [← part_halves m c t j (fun r => kErr m c t r (j 1)) fun r i h0 h1 => err_at m c t r (j 1) i h0 h1]
  pointwise [k0_pay2, k0_pay1, k0_pay5, k0_pay8, k0_pay3, k0_pay6]
  rfl

/-- The second result: the squared errors summed over all rows. -/
theorem final_5 (c : Dev nD) : (dats m 0 c).arrAt 5 (cfgs 0).N = REF_sq (refErr m c) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => 0) (fun t j => part m c t j)
    (fun t h j => (step_A m c t h j).trans (zero_add _).symm) (step_B m c)
    (le_of_eq N_0) t0_7 rfl j, zero_add]
  pointwise [REF_sq]
  unfold part
  refine Fin.sum_mul_add_congr fun t r h => ?_
  rfl

end Cert.LossKernelIdeal.Value

end
-- ==== Proof.FoxTrip.lean ====
/- One pass of the outer loop. -/
module

public import proofs.«01_k».proof.Proof.Gen.FoxKernelIdeal.Frame
public import proofs.«01_k».proof.Proof.Gen.FoxKernelIdeal.Loops

@[expose] public section

set_option maxRecDepth 16384

noncomputable section

namespace Cert.FoxKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxKernelIdeal.Gen

variable {F : FTy → Type} [FloatOps F] [Named F]

local notation "𝕄" => MT nD τ sig Unit (Elt F) ℕ (UR sig nD τ) ℕ

/-- The buffers one trip of the outer loop touches: the nine inputs at `X·` and the five outputs and two scratch buffers at `f·`. -/
abbrev Trip (c : Dev nD) (arg1 : Memref sig .tc .vmem S4096x128 .bf16) (arg2 : Memref sig .tc .vmem S4096x128 .bf16) (arg3 : Memref sig .tc .vmem S4096x128 .bf16) (arg4 : Memref sig .tc .vmem S4096x128 .bf16) (arg5 : Memref sig .tc .vmem S128x4096 .bf16) (arg6 : Memref sig .tc .vmem S128x4096 .bf16) (arg7 : Memref sig .tc .vmem S4096x128 .bf16) (arg8 : Memref sig .tc .vmem S16x4096 .f32) (arg9 : Memref sig .tc .vmem S4096x128 .f32) (arg10 : Memref sig .tc .vmem S4096x128 .f32) (arg11 : Memref sig .tc .vmem S4096x128 .f32) (arg12 : Memref sig .tc .vmem S4096x128 .f32) (arg13 : Memref sig .tc .vmem S4096x128 .f32) (arg14 : Memref sig .tc .vmem S4096x128 .f32) (arg15 : Memref sig .tc .vmem S2x16x256x256 .f32) (arg16 : Memref sig .tc .vmem S2x16x256x256 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16))

set_option maxHeartbeats 4000000 in
@[irreducible] def trip (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) :
    Σ' (C10 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg10.view.ty) (C11 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg11.view.ty) (C12 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg12.view.ty) (C13 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg13.view.ty) (C14 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg14.view.ty) (C15 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg15.view.ty), { C16 : BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg16.view.ty // ∀ (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty),
      Trip (F := F) c arg1 arg2 arg3 arg4 arg5 arg6 arg7 arg8 arg9 arg10 arg11 arg12 arg13 arg14 arg15 arg16 X1 X2 X3 X4 X5 X6 X7 X8 X9 f10 f11 f12 f13 f14 f15 f16
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k ())
          (fun _ => Trip (F := F) c arg1 arg2 arg3 arg4 arg5 arg6 arg7 arg8 arg9 arg10 arg11 arg12 arg13 arg14 arg15 arg16 X1 X2 X3 X4 X5 X6 X7 X8 X9 (C10 f10 f11 f12 f13 f14 f15 f16) (C11 f10 f11 f12 f13 f14 f15 f16) (C12 f10 f11 f12 f13 f14 f15 f16) (C13 f10 f11 f12 f13 f14 f15 f16) (C14 f10 f11 f12 f13 f14 f15 f16) (C15 f10 f11 f12 f13 f14 f15 f16) (C16 f10 f11 f12 f13 f14 f15 f16)) } := by
  refine ⟨?_, ?_, ?_, ?_, ?_, ?_, ?_, fun E f10 f11 f12 f13 f14 f15 f16 => ?run⟩
  case run =>
    unfold k0_t1_body
    simp only [k0_part5_eq_skeleton, k0_part6_eq_skeleton, k0_part7_eq_skeleton]
    iintro ⟨HR1, HR2, HR3, HR4, HR5, HR6, HR7, HR8, HR9, HW10, HW11, HW12, HW13, HW14, HW15, HW16⟩
    sl_exec
    sl_step
    sl_close

end Cert.FoxKernelIdeal.Run

end
-- ==== Proof.FoxTile.lean ====
/- The tiles of the fox backward pass: where its loads and stores lie, and what a load finds after a list of stores. -/
module

public import proofs.«01_k».proof.Proof.Gen.FoxKernelIdeal.Frame
public import proofs.«01_k».proof.Proof.Gen.FoxKernelIdeal.Loops
public import Idealize.ShloMosaic.Lib.VecWindow

@[expose] public section

set_option maxRecDepth 16384

noncomputable section

namespace Cert.FoxKernelIdeal.Run

open Idealize.ShloMosaic Idealize.ShloMosaic.TcCoe Idealize.ShloMosaic.Tactic
open Cert.FoxKernelIdeal.Gen

/-! ## Trip counts and offsets in closed form -/

theorem trips1 : k0_t1_loop.trips = 16 := by decide +kernel
theorem trips2 : ∀ k : Fin k0_t1_loop.trips, (k0_t2_loop k).trips = k.val := by decide +kernel
theorem trips3 : ∀ k : Fin k0_t1_loop.trips, (k0_t3_loop k).trips = 0 := by decide +kernel
theorem trips4 : ∀ k : Fin k0_t1_loop.trips, (k0_t4_loop k).trips = k.val + 1 := by decide +kernel
theorem trips5 : ∀ k : Fin k0_t1_loop.trips, (k0_t5_loop k).trips = 0 := by decide +kernel
theorem off1 : ∀ k : Fin k0_t1_loop.trips, k0_off1 k = ![256 * k.val, 0] := by decide +kernel
theorem off2 : ∀ k : Fin k0_t1_loop.trips, k0_off2 k = ![0, 256 * k.val] := by decide +kernel
theorem off3 : ∀ (k : Fin k0_t1_loop.trips) (j : Fin (k0_t2_loop k).trips), k0_off3 k j = ![256 * j.val, 0] := by decide +kernel
theorem off4 : ∀ (k : Fin k0_t1_loop.trips) (j : Fin (k0_t2_loop k).trips), k0_off4 k j = ![0, j.val, 0, 0] := by decide +kernel
theorem off5 : ∀ (k : Fin k0_t1_loop.trips) (j : Fin (k0_t2_loop k).trips), k0_off5 k j = ![1, j.val, 0, 0] := by decide +kernel
theorem off9 : ∀ k : Fin k0_t1_loop.trips, k0_off9 k = ![0, k.val, 0, 0] := by decide +kernel
theorem off10 : ∀ k : Fin k0_t1_loop.trips, k0_off10 k = ![1, k.val, 0, 0] := by decide +kernel
theorem off11 : ∀ (k : Fin k0_t1_loop.trips) (j : Fin (k0_t4_loop k).trips), k0_off11 k j = ![0, j.val, 0, 0] := by decide +kernel
theorem off12 : ∀ (k : Fin k0_t1_loop.trips) (j : Fin (k0_t4_loop k).trips), k0_off12 k j = ![1, j.val, 0, 0] := by decide +kernel
theorem off13 : ∀ (k : Fin k0_t1_loop.trips) (j : Fin (k0_t4_loop k).trips), k0_off13 k j = ![256 * j.val, 0] := by decide +kernel
theorem off14 : ∀ (k : Fin k0_t1_loop.trips) (j : Fin (k0_t4_loop k).trips), k0_off14 k j = ![0, 256 * j.val] := by decide +kernel

/-! ## Tiles -/

section Tiles

variable {α : Type}

/-- Rows `256 j … 256 j + 255` of a block of 4096 rows. -/
def tile (X : S4096x128.Idx → α) (j : Fin 16) : S256x128.Idx → α :=
  VecWindow.window X ![256 * j.val, 0] S256x128.size (by intro a; fin_cases a <;> simp [S4096x128, S256x128] <;> omega)

/-- Columns `256 j … 256 j + 255` of a block of 4096 columns and 128 rows. -/
def tileT (X : S128x4096.Idx → α) (j : Fin 16) : S128x256.Idx → α :=
  VecWindow.window X ![0, 256 * j.val] S128x256.size (by intro a; fin_cases a <;> simp [S128x4096, S128x256] <;> omega)

/-- Columns `256 j … 256 j + 255` of a block of 4096 columns and 16 rows. -/
def tileR (X : S16x4096.Idx → α) (j : Fin 16) : S16x256.Idx → α :=
  VecWindow.window X ![0, 256 * j.val] S16x256.size (by intro a; fin_cases a <;> simp [S16x4096, S16x256] <;> omega)

/-- Square `(h, j)` of the scratch buffers. -/
def tileS (X : S2x16x256x256.Idx → α) (h : Fin 2) (j : Fin 16) : S1x1x256x256.Idx → α :=
  VecWindow.window X ![h.val, j.val, 0, 0] S1x1x256x256.size (by intro a; fin_cases a <;> simp [S2x16x256x256, S1x1x256x256] <;> omega)

variable {sg : RefSig} {Val : EltTy → Type} {e : EltTy} {sp : Space} {κ : Kind}

theorem readAt_tile (v : View sg κ sp S4096x128 e) (f : v.ty.Contents Val) (j : Fin 16) {off : Fin 2 → ℕ} (inb : ∀ a, off a + S256x128.size a ≤ S4096x128.size a)
    (h : off = ![256 * j.val, 0]) : v.readAt Val (Rect.unit (s := S4096x128) off S256x128.size inb).toLoadRect f = tile (v.read Val f) j :=
  View.readAt_unit v f inb h _

theorem readAt_tileT (v : View sg κ sp S128x4096 e) (f : v.ty.Contents Val) (j : Fin 16) {off : Fin 2 → ℕ} (inb : ∀ a, off a + S128x256.size a ≤ S128x4096.size a)
    (h : off = ![0, 256 * j.val]) : v.readAt Val (Rect.unit (s := S128x4096) off S128x256.size inb).toLoadRect f = tileT (v.read Val f) j :=
  View.readAt_unit v f inb h _

theorem readAt_tileR (v : View sg κ sp S16x4096 e) (f : v.ty.Contents Val) (j : Fin 16) {off : Fin 2 → ℕ} (inb : ∀ a, off a + S16x256.size a ≤ S16x4096.size a)
    (h : off = ![0, 256 * j.val]) : v.readAt Val (Rect.unit (s := S16x4096) off S16x256.size inb).toLoadRect f = tileR (v.read Val f) j :=
  View.readAt_unit v f inb h _

theorem readAt_tileS (v : View sg κ sp S2x16x256x256 e) (f : v.ty.Contents Val) (h : Fin 2) (j : Fin 16) {off : Fin 4 → ℕ}
    (inb : ∀ a, off a + S1x1x256x256.size a ≤ S2x16x256x256.size a)
    (ho : off = ![h.val, j.val, 0, 0]) : v.readAt Val (Rect.unit (s := S2x16x256x256) off S1x1x256x256.size inb).toLoadRect f = tileS (v.read Val f) h j :=
  View.readAt_unit v f inb ho _

/-- A tile after a store of a tile: the payload where it is the tile stored, else what was there. -/
theorem tile_writes (v : View sg κ sp S4096x128 e) (f : v.ty.Contents Val) (j j' : Fin 16) {off : Fin 2 → ℕ}
    (inb : ∀ a, off a + S256x128.size a ≤ S4096x128.size a) (h : off = ![256 * j.val, 0]) (w : S256x128.Idx → Val e) (L : List (View.Piece Val S4096x128 e)) :
    tile (v.read Val (v.writes Val f (⟨Rect.unit (s := S4096x128) off S256x128.size inb, w⟩ :: L))) j' = if j' = j then w else tile (v.read Val (v.writes Val f L)) j' := by
  rw [View.read_writes_cons_put v f inb w L h]
  by_cases hj : j' = j
  · subst hj; rw [if_pos rfl]; exact VecWindow.window_put_same _ _ _ _ _
  · rw [if_neg hj]
    refine VecWindow.window_put_of_disjoint _ _ _ _ _ _ _ (0 : Fin 2) ?_
    have : j'.val ≠ j.val := fun h => hj (Fin.ext h)
    show 256 * j'.val + 256 ≤ 256 * j.val ∨ 256 * j.val + 256 ≤ 256 * j'.val
    omega

/-- The same for the squares of the scratch buffers. -/
theorem tileS_writes (v : View sg κ sp S2x16x256x256 e) (f : v.ty.Contents Val) (h h' : Fin 2) (j j' : Fin 16) {off : Fin 4 → ℕ}
    (inb : ∀ a, off a + S1x1x256x256.size a ≤ S2x16x256x256.size a) (ho : off = ![h.val, j.val, 0, 0]) (w : S1x1x256x256.Idx → Val e)
    (L : List (View.Piece Val S2x16x256x256 e)) :
    tileS (v.read Val (v.writes Val f (⟨Rect.unit (s := S2x16x256x256) off S1x1x256x256.size inb, w⟩ :: L))) h' j'
      = if h' = h ∧ j' = j then w else tileS (v.read Val (v.writes Val f L)) h' j' := by
  rw [View.read_writes_cons_put v f inb w L ho]
  by_cases hj : h' = h ∧ j' = j
  · obtain ⟨rfl, rfl⟩ := hj; rw [if_pos ⟨rfl, rfl⟩]; exact VecWindow.window_put_same _ _ _ _ _
  · rw [if_neg hj]
    by_cases hh : h' = h
    · have : j'.val ≠ j.val := fun e => hj ⟨hh, Fin.ext e⟩
      refine VecWindow.window_put_of_disjoint _ _ _ _ _ _ _ (1 : Fin 4) ?_
      show j'.val + 1 ≤ j.val ∨ j.val + 1 ≤ j'.val
      omega
    · have : h'.val ≠ h.val := fun e => hh (Fin.ext e)
      refine VecWindow.window_put_of_disjoint _ _ _ _ _ _ _ (0 : Fin 4) ?_
      show h'.val + 1 ≤ h.val ∨ h.val + 1 ≤ h'.val
      omega

end Tiles

end Cert.FoxKernelIdeal.Run

end
-- ==== Proof.FoxState.lean ====
/- What the loops over the key tiles of the fox backward pass leave, tile by tile. -/
module

public import proofs.«01_k».proof.Proof.Gen.FoxKernelIdeal.Frame
public import proofs.«01_k».proof.Proof.Gen.FoxKernelIdeal.Loops
public import proofs.«01_k».proof.Proof.FoxTile

@[expose] public section

set_option maxRecDepth 16384

noncomputable section

namespace Cert.FoxKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxKernelIdeal.Gen

variable {F : FTy → Type} [FloatOps F] [Named F]

local notation "𝕄" => MT nD τ sig Unit (Elt F) ℕ (UR sig nD τ) ℕ

/-- Tile `j mod 16`: every index below is less than 16. -/
def t16 (j : ℕ) : Fin 16 := ⟨j % 16, Nat.mod_lt _ (by decide)⟩

theorem t16_val (j : Fin 16) : t16 j.val = j := Fin.ext (Nat.mod_eq_of_lt j.isLt)

theorem val_t16 {n : ℕ} (h : n < 16) : (t16 n).val = n := Nat.mod_eq_of_lt h

theorem lt16 (k : Fin k0_t1_loop.trips) : k.val < 16 := trips1 ▸ k.isLt

/-- The sums down the columns of `p · dp` over the tiles before `n`, for the two heads. -/
def dsum (P0 P1 D0 D1 : ℕ → FVec F S256x256 .f32) (init : FVec F S1x256 .f32 × FVec F S1x256 .f32) : ℕ → FVec F S1x256 .f32 × FVec F S1x256 .f32
  | 0 => init
  | n + 1 => (k0_pay48 (dsum P0 P1 D0 D1 init n).1 (P0 n) (D0 n), k0_pay49 (dsum P0 P1 D0 D1 init n).2 (P1 n) (D1 n))

/-- The products of the key tiles before `n` with the differences `ds`, for the two heads. -/
def qsum (v13 : IVec S128x256 1) (K A : ℕ → FVec F S128x256 .bf16) (E0 E1 : ℕ → FVec F S256x256 .f32)
    (init : FVec F S128x256 .f32 × FVec F S128x256 .f32) : ℕ → FVec F S128x256 .f32 × FVec F S128x256 .f32
  | 0 => init
  | n + 1 => (k0_pay72 v13 (qsum v13 K A E0 E1 init n).1 (E0 n) (K n) (A n), k0_pay73 v13 (qsum v13 K A E0 E1 init n).2 (E1 n) (K n) (A n))

/-- A loop that stores tile `n` as a function of what it finds there: the tiles after one more trip. -/
theorem tile_step {Val : EltTy → Type} {e : EltTy} {sp : Space} {κ : Kind} (v : View sig κ sp S4096x128 e) (G : v.ty.Contents Val) {n : ℕ} (hn : n < 16)
    (L : List (View.Piece Val S4096x128 e)) {off : Fin 2 → ℕ} (inb : ∀ a, off a + S256x128.size a ≤ S4096x128.size a) (h : off = ![256 * (t16 n).val, 0])
    (W : ℕ → (S256x128.Idx → Val e) → S256x128.Idx → Val e) (w : S256x128.Idx → Val e)
    (ih : ∀ j : Fin 16, tile (v.read Val (v.writes Val G L)) j = if j.val < n then W j (tile (v.read Val G) j) else tile (v.read Val G) j)
    (hw : w = W n (tile (v.read Val (v.writes Val G L)) (t16 n))) (j : Fin 16) :
    tile (v.read Val (v.writes Val G (⟨Rect.unit (s := S4096x128) off S256x128.size inb, w⟩ :: L))) j
      = if j.val < n + 1 then W j (tile (v.read Val G) j) else tile (v.read Val G) j := by
  rw [tile_writes v G (t16 n) j inb h w L]
  by_cases hj : j = t16 n
  · subst hj
    rw [if_pos rfl, if_pos (by rw [val_t16 hn]; omega), hw, ih, if_neg (by rw [val_t16 hn]; omega), val_t16 hn]
  · have : j.val ≠ n := fun e => hj (by rw [← e, t16_val])
    rw [if_neg hj, ih]
    by_cases h' : j.val < n
    · rw [if_pos h', if_pos (by omega)]
    · rw [if_neg h', if_neg (by omega)]

set_option maxHeartbeats 1000000 in
/-- After `n` trips of the first loop: the sums carried, the tiles of `dv`, and the squares kept in the two scratch buffers. -/
theorem t2_state (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (v10 : IVec S256x128 1) (v16 : IVec S256x256 1) (k : Fin k0_t1_loop.trips) (arg17 : BitVec 32) (v26 : FVec F S256x128 .bf16) (v27 : FVec F S256x128 .bf16) (v32 : FVec F S256x128 .bf16) (v35 : FVec F S256x128 .bf16) (v46 : FVec F S1x256 .f32) (v54 : FVec F S1x256 .f32) (v55 : FVec F S1x256 .f32) (c0_i32_25 : BitVec 32) (v59 : BitVec 32) (X2 : BufTy.Contents (Elt F) arg2.view.ty) (X4 : BufTy.Contents (Elt F) arg4.view.ty) (X7 : BufTy.Contents (Elt F) arg7.view.ty) (G12 : BufTy.Contents (Elt F) arg12.view.ty) (G15 : BufTy.Contents (Elt F) arg15.view.ty) (G16 : BufTy.Contents (Elt F) arg16.view.ty)
    (init : FVec F S1x256 .f32 × FVec F S1x256 .f32) (P0 P1 D0 D1 : ℕ → FVec F S256x256 .f32)
    (hP0 : ∀ n < k.val, k0_pay11 v10 v26 v46 (tile (arg2.view.read (Elt F) X2) (t16 n)) (tile (arg4.view.read (Elt F) X4) (t16 n)) = P0 n)
    (hP1 : ∀ n < k.val, k0_pay12 v10 v27 v54 (tile (arg2.view.read (Elt F) X2) (t16 n)) (tile (arg4.view.read (Elt F) X4) (t16 n)) = P1 n)
    (hD0 : ∀ n < k.val, k0_pay13 v32 (tile (arg7.view.read (Elt F) X7) (t16 n)) = D0 n)
    (hD1 : ∀ n < k.val, k0_pay14 v35 (tile (arg7.view.read (Elt F) X7) (t16 n)) = D1 n)
    (n : ℕ) (hn : n ≤ k.val) (s) (hs : s = st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v16 k arg17 v26 v27 v32 v35 v46 v54 v55 c0_i32_25 v59 X2 X4 X7 G12 G15 G16 init n) :
    s.1 = dsum P0 P1 D0 D1 init n
    ∧ (∀ j : Fin 16, tile (arg12.view.read (Elt F) (arg12.view.writes (Elt F) G12 s.2.1)) j
        = if j.val < n then k0_pay47 v32 v35 (P0 j) (P1 j) (tile (arg12.view.read (Elt F) G12) j) else tile (arg12.view.read (Elt F) G12) j)
    ∧ (∀ j : Fin 16, j.val < n → tileS (arg15.view.read (Elt F) (arg15.view.writes (Elt F) G15 s.2.2.1)) 0 j = k0_pay46 (P0 j)
        ∧ tileS (arg15.view.read (Elt F) (arg15.view.writes (Elt F) G15 s.2.2.1)) 1 j = k0_pay46 (P1 j)
        ∧ tileS (arg16.view.read (Elt F) (arg16.view.writes (Elt F) G16 s.2.2.2)) 0 j = k0_pay46 (D0 j)
        ∧ tileS (arg16.view.read (Elt F) (arg16.view.writes (Elt F) G16 s.2.2.2)) 1 j = k0_pay46 (D1 j)) := by
  induction n generalizing s with
  | zero =>
    subst hs
    exact ⟨rfl, fun j => (if_neg (Nat.not_lt_zero _)).symm, fun j h => absurd h (Nat.not_lt_zero _)⟩
  | succ n ih =>
    have hk : n < (k0_t2_loop k).trips := by rw [trips2]; omega
    have hn16 : n < 16 := by have := lt16 k; omega
    rw [show n + 1 = (⟨n, hk⟩ : Fin (k0_t2_loop k).trips).val + 1 from rfl, st_k0_t2_succ] at hs
    obtain ⟨ih1, ih12, ihS⟩ := ih (by omega) _ rfl
    dsimp only at hs
    generalize st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v16 k arg17 v26 v27 v32 v35 v46 v54 v55 c0_i32_25 v59 X2 X4 X7 G12 G15 G16 init n = s0 at hs ih1 ih12 ihS
    unfold tripR_k0_t2 trip_k0_t2 at hs
    dsimp only [List.cons_append, List.nil_append] at hs
    subst hs
    have e3 : k0_off3 k ⟨n, hk⟩ = ![256 * (t16 n).val, 0] := by rw [off3, val_t16 hn16]
    have e4 : k0_off4 k ⟨n, hk⟩ = ![(0 : Fin 2).val, (t16 n).val, 0, 0] := by rw [off4, val_t16 hn16]; rfl
    have e5 : k0_off5 k ⟨n, hk⟩ = ![(1 : Fin 2).val, (t16 n).val, 0, 0] := by rw [off5, val_t16 hn16]; rfl
    have h0 : trip_k0_t2.sl.v159 arg2 arg4 v10 k v26 v46 X2 X4 ⟨n, hk⟩ = P0 n := by
      rw [← hP0 n (by omega), ← readAt_tile arg2.view X2 (t16 n) (k0_off3_inb k ⟨n, hk⟩) e3, ← readAt_tile arg4.view X4 (t16 n) (k0_off3_inb k ⟨n, hk⟩) e3]; rfl
    have h1 : trip_k0_t2.sl.v162 arg2 arg4 v10 k v27 v54 X2 X4 ⟨n, hk⟩ = P1 n := by
      rw [← hP1 n (by omega), ← readAt_tile arg2.view X2 (t16 n) (k0_off3_inb k ⟨n, hk⟩) e3, ← readAt_tile arg4.view X4 (t16 n) (k0_off3_inb k ⟨n, hk⟩) e3]; rfl
    have h2 : trip_k0_t2.sl.v163 arg7 k v32 X7 ⟨n, hk⟩ = D0 n := by
      rw [← hD0 n (by omega), ← readAt_tile arg7.view X7 (t16 n) (k0_off3_inb k ⟨n, hk⟩) e3]; rfl
    have h3 : trip_k0_t2.sl.v164 arg7 k v35 X7 ⟨n, hk⟩ = D1 n := by
      rw [← hD1 n (by omega), ← readAt_tile arg7.view X7 (t16 n) (k0_off3_inb k ⟨n, hk⟩) e3]; rfl
    have h4 : trip_k0_t2.sl.v168 arg2 arg4 v10 k v26 v46 X2 X4 ⟨n, hk⟩ = k0_pay46 (P0 n) := by rw [← h0]; rfl
    have h5 : trip_k0_t2.sl.v172 arg2 arg4 v10 k v27 v54 X2 X4 ⟨n, hk⟩ = k0_pay46 (P1 n) := by rw [← h1]; rfl
    have h6 : trip_k0_t2.sl.v176 arg7 k v32 X7 ⟨n, hk⟩ = k0_pay46 (D0 n) := by rw [← h2]; rfl
    rw [h0, h1, h2, h3, h4, h5, h6]
    refine ⟨by rw [ih1]; rfl, fun j => ?_, fun j hj => ?_⟩
    · exact tile_step arg12.view G12 hn16 _ _ e3 (fun j x => k0_pay47 v32 v35 (P0 j) (P1 j) x) _ ih12
        (congrArg _ (readAt_tile arg12.view _ (t16 n) (k0_off3_inb k ⟨n, hk⟩) e3)) j
    · by_cases h : j = t16 n
      · subst h
        rw [val_t16 hn16]
        refine ⟨?_, ?_, ?_, ?_⟩
        · refine (tileS_writes arg15.view G15 1 0 (t16 n) (t16 n) _ e5 _ _).trans ?_
          rw [if_neg (fun h => absurd h.1 (by decide))]
          exact (tileS_writes arg15.view G15 0 0 (t16 n) (t16 n) _ e4 _ _).trans (if_pos ⟨rfl, rfl⟩)
        · exact (tileS_writes arg15.view G15 1 1 (t16 n) (t16 n) _ e5 _ _).trans (if_pos ⟨rfl, rfl⟩)
        · refine (tileS_writes arg16.view G16 1 0 (t16 n) (t16 n) _ e5 _ _).trans ?_
          rw [if_neg (fun h => absurd h.1 (by decide))]
          exact (tileS_writes arg16.view G16 0 0 (t16 n) (t16 n) _ e4 _ _).trans (if_pos ⟨rfl, rfl⟩)
        · exact (tileS_writes arg16.view G16 1 1 (t16 n) (t16 n) _ e5 _ _).trans (if_pos ⟨rfl, rfl⟩)
      · have : j.val ≠ n := fun e => h (by rw [← e, t16_val])
        obtain ⟨a, b, d, e⟩ := ihS j (by omega)
        have skip15 : ∀ h', tileS (arg15.view.read (Elt F) (arg15.view.writes (Elt F) G15 (_ :: _ :: s0.2.2.1))) h' j = tileS (arg15.view.read (Elt F) (arg15.view.writes (Elt F) G15 s0.2.2.1)) h' j := fun h' =>
          ((tileS_writes arg15.view G15 1 h' (t16 n) j (k0_off5_inb k ⟨n, hk⟩) e5 (k0_pay46 (P1 n)) _).trans (if_neg (fun q => h q.2))).trans
            ((tileS_writes arg15.view G15 0 h' (t16 n) j (k0_off4_inb k ⟨n, hk⟩) e4 (k0_pay46 (P0 n)) _).trans (if_neg (fun q => h q.2)))
        have skip16 : ∀ h', tileS (arg16.view.read (Elt F) (arg16.view.writes (Elt F) G16 (_ :: _ :: s0.2.2.2))) h' j = tileS (arg16.view.read (Elt F) (arg16.view.writes (Elt F) G16 s0.2.2.2)) h' j := fun h' =>
          ((tileS_writes arg16.view G16 1 h' (t16 n) j (k0_off5_inb k ⟨n, hk⟩) e5 (k0_pay46 (D1 n)) _).trans (if_neg (fun q => h q.2))).trans
            ((tileS_writes arg16.view G16 0 h' (t16 n) j (k0_off4_inb k ⟨n, hk⟩) e4 (k0_pay46 (D0 n)) _).trans (if_neg (fun q => h q.2)))
        exact ⟨(skip15 0).trans a, (skip15 1).trans b, (skip16 0).trans d, (skip16 1).trans e⟩

set_option maxHeartbeats 1000000 in
/-- After `n` trips of the second loop: the products carried, and the tiles of `dk`, `dc` of the even head and `dc` of the odd head. -/
theorem t4_state (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (v10 : IVec S256x128 1) (v13 : IVec S128x256 1) (k : Fin k0_t1_loop.trips) (arg17 : BitVec 32) (v26 : FVec F S256x128 .bf16) (v27 : FVec F S256x128 .bf16) (v32 : FVec F S256x128 .bf16) (v35 : FVec F S256x128 .bf16) (v62_0 : FVec F S1x256 .f32) (v62_1 : FVec F S1x256 .f32) (v64 : BitVec 32) (v86 : FVec F S256x256 .f32) (v89 : FVec F S256x256 .f32) (v90 : FVec F S256x256 .f32) (v91 : FVec F S256x256 .f32) (v99 : FVec F S1x1x256x256 .f32) (X5 : BufTy.Contents (Elt F) arg5.view.ty) (X6 : BufTy.Contents (Elt F) arg6.view.ty) (X15 : BufTy.Contents (Elt F) arg15.view.ty) (X16 : BufTy.Contents (Elt F) arg16.view.ty) (G11 : BufTy.Contents (Elt F) arg11.view.ty) (G13 : BufTy.Contents (Elt F) arg13.view.ty) (G14 : BufTy.Contents (Elt F) arg14.view.ty)
    (init : FVec F S128x256 .f32 × FVec F S128x256 .f32) (K A : ℕ → FVec F S128x256 .bf16) (Q0 Q1 E0 E1 : ℕ → FVec F S1x1x256x256 .f32)
    (hK : ∀ n ≤ k.val, tileT (arg5.view.read (Elt F) X5) (t16 n) = K n) (hA : ∀ n ≤ k.val, tileT (arg6.view.read (Elt F) X6) (t16 n) = A n)
    (hQ0 : ∀ n ≤ k.val, tileS (arg15.view.read (Elt F) X15) 0 (t16 n) = Q0 n) (hQ1 : ∀ n ≤ k.val, tileS (arg15.view.read (Elt F) X15) 1 (t16 n) = Q1 n)
    (hE0 : ∀ n ≤ k.val, tileS (arg16.view.read (Elt F) X16) 0 (t16 n) = E0 n) (hE1 : ∀ n ≤ k.val, tileS (arg16.view.read (Elt F) X16) 1 (t16 n) = E1 n)
    (d0 d1 : FVec F S1x256 .f32) (hd0 : k0_pay66 v62_0 v86 v90 = d0) (hd1 : k0_pay67 v62_1 v89 v91 = d1)
    (n : ℕ) (hn : n ≤ k.val + 1) (s) (hs : s = st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v13 k arg17 v26 v27 v32 v35 v62_0 v62_1 v64 v86 v89 v90 v91 v99 X5 X6 X15 X16 G11 G13 G14 init n) :
    s.1 = qsum v13 K A (fun j => k0_pay28 d0 (Q0 j) (E0 j)) (fun j => k0_pay29 d1 (Q1 j) (E1 j)) init n
    ∧ (∀ j : Fin 16, tile (arg11.view.read (Elt F) (arg11.view.writes (Elt F) G11 s.2.1)) j
        = if j.val < n then k0_pay30 v10 v26 v27 d0 d1 (Q0 j) (Q1 j) (E0 j) (E1 j) (tile (arg11.view.read (Elt F) G11) j) else tile (arg11.view.read (Elt F) G11) j)
    ∧ (∀ j : Fin 16, tile (arg13.view.read (Elt F) (arg13.view.writes (Elt F) G13 s.2.2.1)) j
        = if j.val < n then k0_pay31 d0 (Q0 j) (E0 j) (tile (arg13.view.read (Elt F) G13) j) else tile (arg13.view.read (Elt F) G13) j)
    ∧ (∀ j : Fin 16, tile (arg14.view.read (Elt F) (arg14.view.writes (Elt F) G14 s.2.2.2)) j
        = if j.val < n then k0_pay69 (k0_pay29 d1 (Q1 j) (E1 j)) (tile (arg14.view.read (Elt F) G14) j) else tile (arg14.view.read (Elt F) G14) j) := by
  induction n generalizing s with
  | zero =>
    subst hs
    exact ⟨rfl, fun j => (if_neg (Nat.not_lt_zero _)).symm, fun j => (if_neg (Nat.not_lt_zero _)).symm, fun j => (if_neg (Nat.not_lt_zero _)).symm⟩
  | succ n ih =>
    have hk : n < (k0_t4_loop k).trips := by rw [trips4]; omega
    have hn16 : n < 16 := by have := lt16 k; omega
    rw [show n + 1 = (⟨n, hk⟩ : Fin (k0_t4_loop k).trips).val + 1 from rfl, st_k0_t4_succ] at hs
    obtain ⟨ih1, ih11, ih13, ih14⟩ := ih (by omega) _ rfl
    dsimp only at hs
    generalize st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v13 k arg17 v26 v27 v32 v35 v62_0 v62_1 v64 v86 v89 v90 v91 v99 X5 X6 X15 X16 G11 G13 G14 init n = s0 at hs ih1 ih11 ih13 ih14
    unfold tripR_k0_t4 trip_k0_t4 at hs
    dsimp only [List.cons_append, List.nil_append] at hs
    subst hs
    have e11 : k0_off11 k ⟨n, hk⟩ = ![(0 : Fin 2).val, (t16 n).val, 0, 0] := by rw [off11, val_t16 hn16]; rfl
    have e12 : k0_off12 k ⟨n, hk⟩ = ![(1 : Fin 2).val, (t16 n).val, 0, 0] := by rw [off12, val_t16 hn16]; rfl
    have e13 : k0_off13 k ⟨n, hk⟩ = ![256 * (t16 n).val, 0] := by rw [off13, val_t16 hn16]
    have e14 : k0_off14 k ⟨n, hk⟩ = ![0, 256 * (t16 n).val] := by rw [off14, val_t16 hn16]
    have q0 := (readAt_tileS arg15.view X15 0 (t16 n) (k0_off11_inb k ⟨n, hk⟩) e11).trans (hQ0 n (by omega))
    have q1 := (readAt_tileS arg15.view X15 1 (t16 n) (k0_off12_inb k ⟨n, hk⟩) e12).trans (hQ1 n (by omega))
    have f0 := (readAt_tileS arg16.view X16 0 (t16 n) (k0_off11_inb k ⟨n, hk⟩) e11).trans (hE0 n (by omega))
    have f1 := (readAt_tileS arg16.view X16 1 (t16 n) (k0_off12_inb k ⟨n, hk⟩) e12).trans (hE1 n (by omega))
    have a5 := (readAt_tileT arg5.view X5 (t16 n) (k0_off14_inb k ⟨n, hk⟩) e14).trans (hK n (by omega))
    have a6 := (readAt_tileT arg6.view X6 (t16 n) (k0_off14_inb k ⟨n, hk⟩) e14).trans (hA n (by omega))
    have h0 : trip_k0_t4.sl.v153 arg15 arg16 k v62_0 v86 v90 X15 X16 ⟨n, hk⟩ = k0_pay28 d0 (Q0 n) (E0 n) := by
      rw [← hd0, ← q0, ← f0]; rfl
    have h1 : trip_k0_t4.sl.v159 arg15 arg16 k v62_1 v89 v91 X15 X16 ⟨n, hk⟩ = k0_pay29 d1 (Q1 n) (E1 n) := by
      rw [← hd1, ← q1, ← f1]; rfl
    have h2 : ∀ g, trip_k0_t4.sl.v168 arg11 arg15 arg16 v10 k v26 v27 v62_0 v62_1 v86 v89 v90 v91 X15 X16 ⟨n, hk⟩ g
        = k0_pay30 v10 v26 v27 d0 d1 (Q0 n) (Q1 n) (E0 n) (E1 n) (tile (arg11.view.read (Elt F) g) (t16 n)) := fun g => by
      rw [← hd0, ← hd1, ← q0, ← f0, ← q1, ← f1, ← readAt_tile arg11.view g (t16 n) (k0_off13_inb k ⟨n, hk⟩) e13]; rfl
    have h3 : ∀ g, trip_k0_t4.sl.v177 arg13 arg15 arg16 k v62_0 v86 v90 X15 X16 ⟨n, hk⟩ g
        = k0_pay31 d0 (Q0 n) (E0 n) (tile (arg13.view.read (Elt F) g) (t16 n)) := fun g => by
      rw [← hd0, ← q0, ← f0, ← readAt_tile arg13.view g (t16 n) (k0_off13_inb k ⟨n, hk⟩) e13]; rfl
    rw [h0, h1, h2, h3]
    refine ⟨?_, ?_, ?_, ?_⟩
    · show (_, _) = (_, _)
      rw [← ih1, ← a5, ← a6]
    · exact tile_step arg11.view G11 hn16 _ _ e13 (fun j x => k0_pay30 v10 v26 v27 d0 d1 (Q0 j) (Q1 j) (E0 j) (E1 j) x) _ ih11 rfl
    · exact tile_step arg13.view G13 hn16 _ _ e13 (fun j x => k0_pay31 d0 (Q0 j) (E0 j) x) _ ih13 rfl
    · exact tile_step arg14.view G14 hn16 _ _ e13 (fun j x => k0_pay69 (k0_pay29 d1 (Q1 j) (E1 j)) x) _ ih14
        (congrArg _ (readAt_tile arg14.view _ (t16 n) (k0_off13_inb k ⟨n, hk⟩) e13))

end Cert.FoxKernelIdeal.Run

end
-- ==== Proof.FoxOuter.lean ====
/- The fox backward pass, block by block: what each tile of its outputs holds after the outer loop. -/
module

public import proofs.«01_k».proof.Proof.Gen.FoxKernelIdeal.Frame
public import proofs.«01_k».proof.Proof.Gen.FoxKernelIdeal.Loops
public import proofs.«01_k».proof.Proof.FoxTrip
public import proofs.«01_k».proof.Proof.FoxState

@[expose] public section

set_option maxRecDepth 16384

noncomputable section

namespace Cert.FoxKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxKernelIdeal.Gen

variable {F : FTy → Type} [FloatOps F] [Named F]

local notation "𝕄" => MT nD τ sig Unit (Elt F) ℕ (UR sig nD τ) ℕ

/-- The blocks one pair of heads is computed from. -/
structure Blk (F : FTy → Type) where
  x1 : FVec F S4096x128 .bf16
  x2 : FVec F S4096x128 .bf16
  x3 : FVec F S4096x128 .bf16
  x4 : FVec F S4096x128 .bf16
  x5 : FVec F S128x4096 .bf16
  x6 : FVec F S128x4096 .bf16
  x7 : FVec F S4096x128 .bf16
  x8 : FVec F S16x4096 .f32
  x9 : FVec F S4096x128 .f32
  a0 : BitVec 32

namespace Blk
variable (B : Blk F)

/-- The query tile and the output-gradient tile of each head, and the row of log-sums of each head. -/
def qa (k : ℕ) : FVec F S256x128 .bf16 := k0_pay38 k0_pay5 (tile B.x1 (t16 k)) (tile B.x3 (t16 k))
def qb (k : ℕ) : FVec F S256x128 .bf16 := k0_pay39 k0_pay5 (tile B.x1 (t16 k)) (tile B.x3 (t16 k))
def ga (k : ℕ) : FVec F S256x128 .bf16 := k0_pay40 k0_pay5 (tile B.x9 (t16 k))
def gb (k : ℕ) : FVec F S256x128 .bf16 := k0_pay41 k0_pay5 (tile B.x9 (t16 k))
def la (k : ℕ) : FVec F S1x256 .f32 := k0_pay43 B.a0 (tileR B.x8 (t16 k))
def lb (k : ℕ) : FVec F S1x256 .f32 := k0_pay44 B.a0 (tileR B.x8 (t16 k))

/-- The weights of query tile `k` on key tile `j`, keys down the columns. -/
def P0 (k j : ℕ) : FVec F S256x256 .f32 :=
  if j < k then k0_pay11 k0_pay5 (B.qa k) (B.la k) (tile B.x2 (t16 j)) (tile B.x4 (t16 j))
  else k0_pay57 k0_pay5 k0_pay7 (B.qa k) (B.la k) (tile B.x2 (t16 j)) (tile B.x4 (t16 j))
def P1 (k j : ℕ) : FVec F S256x256 .f32 :=
  if j < k then k0_pay12 k0_pay5 (B.qb k) (B.lb k) (tile B.x2 (t16 j)) (tile B.x4 (t16 j))
  else k0_pay58 k0_pay5 k0_pay7 (B.qb k) (B.lb k) (tile B.x2 (t16 j)) (tile B.x4 (t16 j))

/-- The products of the output gradient with the value tile. -/
def D0 (k j : ℕ) : FVec F S256x256 .f32 := k0_pay13 (B.ga k) (tile B.x7 (t16 j))
def D1 (k j : ℕ) : FVec F S256x256 .f32 := k0_pay14 (B.gb k) (tile B.x7 (t16 j))

/-- The sums of `p · dp` over the key tiles up to `k`. -/
def ds (k : ℕ) : FVec F S1x256 .f32 × FVec F S1x256 .f32 := dsum (B.P0 k) (B.P1 k) (B.D0 k) (B.D1 k) (k0_pay45, k0_pay45) (k + 1)

/-- The score gradients `p · (dp - d)`. -/
def E0 (k j : ℕ) : FVec F S256x256 .f32 := k0_pay28 (B.ds k).1 (k0_pay46 (B.P0 k j)) (k0_pay46 (B.D0 k j))
def E1 (k j : ℕ) : FVec F S256x256 .f32 := k0_pay29 (B.ds k).2 (k0_pay46 (B.P1 k j)) (k0_pay46 (B.D1 k j))

/-- What one query tile adds to the tiles of `dk`, `dv` and the two `dc`. -/
def dkStep (k j : ℕ) (x : FVec F S256x128 .f32) : FVec F S256x128 .f32 :=
  k0_pay30 k0_pay5 (B.qa k) (B.qb k) (B.ds k).1 (B.ds k).2 (k0_pay46 (B.P0 k j)) (k0_pay46 (B.P1 k j)) (k0_pay46 (B.D0 k j)) (k0_pay46 (B.D1 k j)) x
def dvStep (k j : ℕ) (x : FVec F S256x128 .f32) : FVec F S256x128 .f32 := k0_pay47 (B.ga k) (B.gb k) (B.P0 k j) (B.P1 k j) x
def c0Step (k j : ℕ) (x : FVec F S256x128 .f32) : FVec F S256x128 .f32 := k0_pay31 (B.ds k).1 (k0_pay46 (B.P0 k j)) (k0_pay46 (B.D0 k j)) x
def c1Step (k j : ℕ) (x : FVec F S256x128 .f32) : FVec F S256x128 .f32 := k0_pay69 (B.E1 k j) x

/-- The tile of `dq`. -/
def dqT (k : ℕ) : FVec F S256x128 .f32 :=
  k0_pay79 k0_pay6
    (qsum k0_pay6 (fun j => tileT B.x5 (t16 j)) (fun j => tileT B.x6 (t16 j)) (B.E0 k) (B.E1 k) (k0_pay68, k0_pay68) (k + 1)).1
    (qsum k0_pay6 (fun j => tileT B.x5 (t16 j)) (fun j => tileT B.x6 (t16 j)) (B.E0 k) (B.E1 k) (k0_pay68, k0_pay68) (k + 1)).2

end Blk

/-- The squares of a scratch buffer up to the diagonal one, after the two diagonal squares are stored. -/
theorem tileS_diag {Val : EltTy → Type} {e : EltTy} {sp : Space} {κ : Kind} (v : View sig κ sp S2x16x256x256 e) (f : v.ty.Contents Val) {k : ℕ} (hk : k < 16)
    (L : List (View.Piece Val S2x16x256x256 e)) {o0 o1 : Fin 4 → ℕ} (i0 : ∀ a, o0 a + S1x1x256x256.size a ≤ S2x16x256x256.size a)
    (i1 : ∀ a, o1 a + S1x1x256x256.size a ≤ S2x16x256x256.size a) (h0 : o0 = ![(0 : Fin 2).val, (t16 k).val, 0, 0]) (h1 : o1 = ![(1 : Fin 2).val, (t16 k).val, 0, 0])
    (A0 A1 : ℕ → S1x1x256x256.Idx → Val e)
    (ih : ∀ j : Fin 16, j.val < k → tileS (v.read Val (v.writes Val f L)) 0 j = A0 j ∧ tileS (v.read Val (v.writes Val f L)) 1 j = A1 j) (n : ℕ) (hn : n ≤ k) :
    tileS (v.read Val (v.writes Val f (⟨Rect.unit (s := S2x16x256x256) o1 S1x1x256x256.size i1, A1 k⟩ :: ⟨Rect.unit (s := S2x16x256x256) o0 S1x1x256x256.size i0, A0 k⟩ :: L))) 0 (t16 n) = A0 n
    ∧ tileS (v.read Val (v.writes Val f (⟨Rect.unit (s := S2x16x256x256) o1 S1x1x256x256.size i1, A1 k⟩ :: ⟨Rect.unit (s := S2x16x256x256) o0 S1x1x256x256.size i0, A0 k⟩ :: L))) 1 (t16 n) = A1 n := by
  rw [tileS_writes v f 1 0 (t16 k) (t16 n) i1 h1 (A1 k), tileS_writes v f 1 1 (t16 k) (t16 n) i1 h1 (A1 k), tileS_writes v f 0 0 (t16 k) (t16 n) i0 h0 (A0 k),
    tileS_writes v f 0 1 (t16 k) (t16 n) i0 h0 (A0 k), if_neg (fun q => absurd q.1 (by decide)), if_neg (c := (1 : Fin 2) = 0 ∧ _) (fun q => absurd q.1 (by decide))]
  by_cases h : n = k
  · subst h; exact ⟨if_pos ⟨rfl, rfl⟩, if_pos ⟨rfl, rfl⟩⟩
  · have hne : t16 n ≠ t16 k := fun e => h (by rw [← val_t16 (show n < 16 by omega), e, val_t16 hk])
    obtain ⟨a, b⟩ := ih (t16 n) (by rw [val_t16 (show n < 16 by omega)]; omega)
    rw [if_neg (fun q => hne q.2), if_neg (fun q => hne q.2), a, b, val_t16 (show n < 16 by omega)]
    exact ⟨rfl, rfl⟩

set_option maxHeartbeats 4000000 in
/-- What one trip of the outer loop does to the tiles of the outputs. -/
theorem trip_tiles (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (B : Blk F)
    (hB : B = ⟨arg1.view.read (Elt F) X1, arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9, arg0⟩)
    (t) (ht : t = trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k) :
    (∀ j : Fin 16, tile (arg10.view.read (Elt F) (t.1 f10 f11 f12 f13 f14 f15 f16)) j = if j.val = k.val then B.dqT k else tile (arg10.view.read (Elt F) f10) j)
    ∧ (∀ j : Fin 16, tile (arg11.view.read (Elt F) (t.2.1 f10 f11 f12 f13 f14 f15 f16)) j = if j.val < k.val + 1 then B.dkStep k j (tile (arg11.view.read (Elt F) f11) j) else tile (arg11.view.read (Elt F) f11) j)
    ∧ (∀ j : Fin 16, tile (arg12.view.read (Elt F) (t.2.2.1 f10 f11 f12 f13 f14 f15 f16)) j = if j.val < k.val + 1 then B.dvStep k j (tile (arg12.view.read (Elt F) f12) j) else tile (arg12.view.read (Elt F) f12) j)
    ∧ (∀ j : Fin 16, tile (arg13.view.read (Elt F) (t.2.2.2.1 f10 f11 f12 f13 f14 f15 f16)) j = if j.val < k.val + 1 then B.c0Step k j (tile (arg13.view.read (Elt F) f13) j) else tile (arg13.view.read (Elt F) f13) j)
    ∧ (∀ j : Fin 16, tile (arg14.view.read (Elt F) (t.2.2.2.2.1 f10 f11 f12 f13 f14 f15 f16)) j = if j.val < k.val + 1 then B.c1Step k j (tile (arg14.view.read (Elt F) f14) j) else tile (arg14.view.read (Elt F) f14) j) := by
  unfold trip at ht
  subst ht
  dsimp only
  have z2 := trips2 k
  have z3 := trips3 k
  have z4 := trips4 k
  have z5 := trips5 k
  dsimp only [k0_t2_loop, k0_t3_loop, k0_t4_loop, k0_t5_loop, Scf.Loop.trips] at z2 z3 z4 z5
  unfold trip.sl.r_13 trip.sl.r_6 trip.sl.r_7 trip.sl.v109
  rw [z2, z3, z4, z5]
  simp only [st_k0_t3.eq_1, st_k0_t5.eq_1, List.nil_append]
  have k16 := lt16 k
  have e1 : k0_off1 k = ![256 * (t16 k).val, 0] := by rw [off1, val_t16 k16]
  have e2 : k0_off2 k = ![0, 256 * (t16 k).val] := by rw [off2, val_t16 k16]
  have e9 : k0_off9 k = ![(0 : Fin 2).val, (t16 k).val, 0, 0] := by rw [off9, val_t16 k16]; rfl
  have e10 : k0_off10 k = ![(1 : Fin 2).val, (t16 k).val, 0, 0] := by rw [off10, val_t16 k16]; rfl
  have r0 : trip.sl.r arg1 arg3 X1 X3 k = B.qa k := by subst hB; unfold Blk.qa; dsimp only; rw [← readAt_tile arg1.view X1 (t16 k) (k0_off1_inb k) e1, ← readAt_tile arg3.view X3 (t16 k) (k0_off1_inb k) e1]; rfl
  have r1 : trip.sl.r_1 arg1 arg3 X1 X3 k = B.qb k := by subst hB; unfold Blk.qb; dsimp only; rw [← readAt_tile arg1.view X1 (t16 k) (k0_off1_inb k) e1, ← readAt_tile arg3.view X3 (t16 k) (k0_off1_inb k) e1]; rfl
  have r2 : trip.sl.r_2 arg9 X9 k = B.ga k := by subst hB; unfold Blk.ga; dsimp only; rw [← readAt_tile arg9.view X9 (t16 k) (k0_off1_inb k) e1]; rfl
  have r3 : trip.sl.r_3 arg9 X9 k = B.gb k := by subst hB; unfold Blk.gb; dsimp only; rw [← readAt_tile arg9.view X9 (t16 k) (k0_off1_inb k) e1]; rfl
  have r4 : trip.sl.r_4 arg8 arg0 X8 k = B.la k := by subst hB; unfold Blk.la; dsimp only; rw [← readAt_tileR arg8.view X8 (t16 k) (k0_off2_inb k) e2]; rfl
  have r5 : trip.sl.r_5 arg8 arg0 X8 k = B.lb k := by subst hB; unfold Blk.lb; dsimp only; rw [← readAt_tileR arg8.view X8 (t16 k) (k0_off2_inb k) e2]; rfl
  have r61 : k0_pay61 k0_pay5 k0_pay7 (B.qa k) (B.la k) (View.readAt (Elt F) arg2.view (Rect.unit (s := S4096x128) (k0_off1 k) S256x128.size (k0_off1_inb k)).toLoadRect X2)
      (View.readAt (Elt F) arg4.view (Rect.unit (s := S4096x128) (k0_off1 k) S256x128.size (k0_off1_inb k)).toLoadRect X4) = k0_pay46 (B.P0 k k) := by
    rw [readAt_tile arg2.view X2 (t16 k) (k0_off1_inb k) e1, readAt_tile arg4.view X4 (t16 k) (k0_off1_inb k) e1, Blk.P0, if_neg (lt_irrefl _), hB]; rfl
  have r8 : trip.sl.r_8 arg1 arg2 arg3 arg4 arg8 arg0 X1 X2 X3 X4 X8 k = B.P0 k k := by
    rw [Blk.P0, if_neg (lt_irrefl _), ← r0, ← r4, hB]; dsimp only; rw [← readAt_tile arg2.view X2 (t16 k) (k0_off1_inb k) e1, ← readAt_tile arg4.view X4 (t16 k) (k0_off1_inb k) e1]; rfl
  have r9 : trip.sl.r_9 arg1 arg2 arg3 arg4 arg8 arg0 X1 X2 X3 X4 X8 k = B.P1 k k := by
    rw [Blk.P1, if_neg (lt_irrefl _), ← r1, ← r5, hB]; dsimp only; rw [← readAt_tile arg2.view X2 (t16 k) (k0_off1_inb k) e1, ← readAt_tile arg4.view X4 (t16 k) (k0_off1_inb k) e1]; rfl
  have r12 : trip.sl.r_12 arg1 arg2 arg3 arg4 arg8 arg0 X1 X2 X3 X4 X8 k = k0_pay46 (B.P1 k k) := by rw [← r9]; rfl
  have rd0 : trip.sl.r_10 arg7 arg9 X7 X9 k = B.D0 k k := by
    rw [Blk.D0, ← r2, hB]; dsimp only; rw [← readAt_tile arg7.view X7 (t16 k) (k0_off1_inb k) e1]; rfl
  have rd1 : trip.sl.r_11 arg7 arg9 X7 X9 k = B.D1 k k := by
    rw [Blk.D1, ← r3, hB]; dsimp only; rw [← readAt_tile arg7.view X7 (t16 k) (k0_off1_inb k) e1]; rfl
  rw [show k0_pay63 (F := F) = k0_pay46 from rfl, show k0_pay64 (F := F) = k0_pay46 from rfl, show k0_pay65 (F := F) = k0_pay47 from rfl]
  simp only [r61, r8, r9, r12, rd0, rd1, r0, r1, r2, r3, r4, r5]
  obtain ⟨s1, s12, sS⟩ := t2_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k (trip.sl.arg17 k) (B.qa k) (B.qb k) (B.ga k) (B.gb k) (B.la k) (B.lb k) k0_pay45 0#32 (trip.sl.v59 k) X2 X4 X7 f12 f15 f16
    (k0_pay45, k0_pay45) (B.P0 k) (B.P1 k) (B.D0 k) (B.D1 k) (fun n h => by rw [Blk.P0, if_pos h, hB]) (fun n h => by rw [Blk.P1, if_pos h, hB]) (fun n _ => by rw [Blk.D0, hB]) (fun n _ => by rw [Blk.D1, hB])
    k.val le_rfl _ rfl
  generalize st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay7 k (trip.sl.arg17 k) (B.qa k) (B.qb k) (B.ga k) (B.gb k) (B.la k) (B.lb k) k0_pay45 0#32 (trip.sl.v59 k) X2 X4 X7 f12 f15 f16 (k0_pay45, k0_pay45) k.val = s2 at s1 s12 sS ⊢
  have q15 := tileS_diag arg15.view f15 k16 s2.2.2.1 (k0_off9_inb k) (k0_off10_inb k) e9 e10 (fun j => k0_pay46 (B.P0 k j)) (fun j => k0_pay46 (B.P1 k j)) fun j h => ⟨(sS j h).1, (sS j h).2.1⟩
  have q16 := tileS_diag arg16.view f16 k16 s2.2.2.2 (k0_off9_inb k) (k0_off10_inb k) e9 e10 (fun j => k0_pay46 (B.D0 k j)) (fun j => k0_pay46 (B.D1 k j)) fun j h => ⟨(sS j h).2.2.1, (sS j h).2.2.2⟩
  generalize arg15.view.writes (Elt F) f15 (⟨Rect.unit (s := S2x16x256x256) (k0_off10 k) S1x1x256x256.size (k0_off10_inb k), k0_pay46 (B.P1 k k)⟩ :: ⟨Rect.unit (s := S2x16x256x256) (k0_off9 k) S1x1x256x256.size (k0_off9_inb k), k0_pay46 (B.P0 k k)⟩ :: s2.2.2.1) = X15 at q15 ⊢
  generalize arg16.view.writes (Elt F) f16 (⟨Rect.unit (s := S2x16x256x256) (k0_off10 k) S1x1x256x256.size (k0_off10_inb k), k0_pay46 (B.D1 k k)⟩ :: ⟨Rect.unit (s := S2x16x256x256) (k0_off9 k) S1x1x256x256.size (k0_off9_inb k), k0_pay46 (B.D0 k k)⟩ :: s2.2.2.2) = X16 at q16 ⊢
  obtain ⟨u1, u11, u13, u14⟩ := t4_state Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k (trip.sl.arg17 k) (B.qa k) (B.qb k) (B.ga k) (B.gb k) s2.1.1 s2.1.2 (trip.sl.v63 k) (B.P0 k k) (B.P1 k k) (B.D0 k k) (B.D1 k k) (k0_pay46 (B.P1 k k)) X5 X6 X15 X16 f11 f13 f14 (k0_pay68, k0_pay68)
    (fun j => tileT B.x5 (t16 j)) (fun j => tileT B.x6 (t16 j)) (fun j => k0_pay46 (B.P0 k j)) (fun j => k0_pay46 (B.P1 k j)) (fun j => k0_pay46 (B.D0 k j)) (fun j => k0_pay46 (B.D1 k j))
    (fun n _ => by rw [hB]) (fun n _ => by rw [hB]) (fun n h => (q15 n h).1) (fun n h => (q15 n h).2) (fun n h => (q16 n h).1) (fun n h => (q16 n h).2) (B.ds k).1 (B.ds k).2 (by rw [s1]; rfl) (by rw [s1]; rfl)
    (k.val + 1) le_rfl _ rfl
  generalize st_k0_t4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay5 k0_pay6 k (trip.sl.arg17 k) (B.qa k) (B.qb k) (B.ga k) (B.gb k) s2.1.1 s2.1.2 (trip.sl.v63 k) (B.P0 k k) (B.P1 k k) (B.D0 k k) (B.D1 k k) (k0_pay46 (B.P1 k k)) X5 X6 X15 X16 f11 f13 f14 (k0_pay68, k0_pay68) (k.val + 1) = s4 at u1 u11 u13 u14 ⊢
  refine ⟨fun j => ?_, u11, fun j => ?_, u13, u14⟩
  · refine (tile_writes arg10.view f10 (t16 k) j _ e1 _ _).trans
      ((congrArg (fun z => if j = t16 k then k0_pay79 k0_pay6 z.1 z.2 else tile (View.read (Elt F) arg10.view f10) j) u1).trans ?_)
    by_cases h : j = t16 k
    · rw [if_pos h, if_pos (by rw [h, val_t16 k16])]; rfl
    · rw [if_neg h, if_neg (fun e => h (by rw [← e, t16_val]))]
  · exact tile_step arg12.view f12 k16 _ _ e1 (fun j x => B.dvStep k j x) _ s12 (congrArg _ (readAt_tile arg12.view _ (t16 k) (k0_off1_inb k) e1)) j

end Cert.FoxKernelIdeal.Run

end
-- ==== Proof.FoxRun.lean ====
/- The kernel body: what its five outputs hold when it ends. -/
module

public import proofs.«01_k».proof.Proof.Gen.FoxKernelIdeal.Frame
public import proofs.«01_k».proof.Proof.Gen.FoxKernelIdeal.Loops
public import proofs.«01_k».proof.Proof.FoxOuter
public import Idealize.ShloMosaic.Lib.Pipeline.ValueKit

@[expose] public section

set_option maxRecDepth 16384

noncomputable section

namespace Cert.FoxKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxKernelIdeal.Gen

variable {F : FTy → Type} [FloatOps F] [Named F]

local notation "𝕄" => MT nD τ sig Unit (Elt F) ℕ (UR sig nD τ) ℕ

/-- What a tile holds before query tile `k`: it starts as the tile of `z`; a query tile at or after `j` takes a step. -/
def Blk.acc (z : FVec F S4096x128 .f32) (step : ℕ → ℕ → FVec F S256x128 .f32 → FVec F S256x128 .f32) (j : Fin 16) : ℕ → FVec F S256x128 .f32
  | 0 => tile z j
  | k + 1 => if j.val < k + 1 then step k j.val (acc z step j k) else acc z step j k

/-- The array whose sixteen tiles of rows are given. -/
def untile (g : Fin 16 → FVec F S256x128 .f32) : FVec F S4096x128 .f32 := fun y =>
  g ⟨(y 0 : Fin 4096).val / 256, by have : (y 0).val < 4096 := (y 0).isLt; omega⟩ (ix2 (⟨(y 0 : Fin 4096).val % 256, Nat.mod_lt _ (by decide)⟩ : Fin 256) (y 1 : Fin 128))

/-- An array with given tiles is the array put together from them. -/
theorem eq_untile (x : FVec F S4096x128 .f32) (g : Fin 16 → FVec F S256x128 .f32) (h : ∀ j, tile x j = g j) : x = untile g := by
  funext y
  unfold untile
  rw [← h]
  refine congrArg x (funext fun a => ?_)
  fin_cases a
  · apply Fin.ext
    rw [Rect.emb_apply]
    show (y 0).val = 256 * ((y 0).val / 256) + 1 * ((y 0).val % 256)
    omega
  · apply Fin.ext
    rw [Rect.emb_apply]
    show (y 1).val = 0 + 1 * (y 1).val
    omega

/-- The five results of the block: each array put together from its tiles after the last query tile. -/
def Blk.dq (B : Blk F) : FVec F S4096x128 .f32 := untile fun j => B.dqT j.val
def Blk.dk (B : Blk F) : FVec F S4096x128 .f32 := untile fun j => Blk.acc k0_pay1 B.dkStep j 16
def Blk.dv (B : Blk F) : FVec F S4096x128 .f32 := untile fun j => Blk.acc k0_pay2 B.dvStep j 16
def Blk.dc0 (B : Blk F) : FVec F S4096x128 .f32 := untile fun j => Blk.acc k0_pay3 B.c0Step j 16
def Blk.dc1 (B : Blk F) : FVec F S4096x128 .f32 := untile fun j => Blk.acc k0_pay4 B.c1Step j 16

/-- The contents of the five outputs and the two scratch buffers after one trip of the outer loop. -/
@[irreducible] def tripAll (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) (prev :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty ) :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty  :=
  ((trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).1 prev.1 prev.2.1 prev.2.2.1 prev.2.2.2.1 prev.2.2.2.2.1 prev.2.2.2.2.2.1 prev.2.2.2.2.2.2, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.1 prev.1 prev.2.1 prev.2.2.1 prev.2.2.2.1 prev.2.2.2.2.1 prev.2.2.2.2.2.1 prev.2.2.2.2.2.2, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.1 prev.1 prev.2.1 prev.2.2.1 prev.2.2.2.1 prev.2.2.2.2.1 prev.2.2.2.2.2.1 prev.2.2.2.2.2.2, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.1 prev.1 prev.2.1 prev.2.2.1 prev.2.2.2.1 prev.2.2.2.2.1 prev.2.2.2.2.2.1 prev.2.2.2.2.2.2, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.2.1 prev.1 prev.2.1 prev.2.2.1 prev.2.2.2.1 prev.2.2.2.2.1 prev.2.2.2.2.2.1 prev.2.2.2.2.2.2, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.2.2.1 prev.1 prev.2.1 prev.2.2.1 prev.2.2.2.1 prev.2.2.2.2.1 prev.2.2.2.2.2.1 prev.2.2.2.2.2.2, (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.2.2.2.1 prev.1 prev.2.1 prev.2.2.1 prev.2.2.2.1 prev.2.2.2.2.1 prev.2.2.2.2.2.1 prev.2.2.2.2.2.2)

set_option maxHeartbeats 2000000 in
/-- One trip of the outer loop takes the buffers to those contents. -/
theorem tripAll_wp (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) (E : Set ℕ) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (q :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty )
    (hq : q = tripAll c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k (f10, f11, f12, f13, f14, f15, f16)) :
    Trip (F := F) c arg1 arg2 arg3 arg4 arg5 arg6 arg7 arg8 arg9 arg10 arg11 arg12 arg13 arg14 arg15 arg16 X1 X2 X3 X4 X5 X6 X7 X8 X9 f10 f11 f12 f13 f14 f15 f16
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 k ())
          (fun _ => Trip (F := F) c arg1 arg2 arg3 arg4 arg5 arg6 arg7 arg8 arg9 arg10 arg11 arg12 arg13 arg14 arg15 arg16 X1 X2 X3 X4 X5 X6 X7 X8 X9 (q.1) (q.2.1) (q.2.2.1) (q.2.2.2.1) (q.2.2.2.2.1) (q.2.2.2.2.2.1) (q.2.2.2.2.2.2)) := by
  subst hq
  unfold tripAll
  exact (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k).2.2.2.2.2.2.2 E f10 f11 f12 f13 f14 f15 f16

set_option maxHeartbeats 2000000 in
/-- What one trip of the outer loop does to the tiles of the outputs. -/
theorem tripAll_tiles (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) (p :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty ) (B : Blk F)
    (hB : B = ⟨arg1.view.read (Elt F) X1, arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9, arg0⟩) (q :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty ) (hq : q = tripAll c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k p) :
    (∀ j : Fin 16, tile (arg10.view.read (Elt F)  (q.1)) j = if j.val = k.val then B.dqT k else tile (arg10.view.read (Elt F)  p.1) j)
    ∧ (∀ j : Fin 16, tile (arg11.view.read (Elt F)  (q.2.1)) j = if j.val < k.val + 1 then B.dkStep k j (tile (arg11.view.read (Elt F)  p.2.1) j) else tile (arg11.view.read (Elt F)  p.2.1) j)
    ∧ (∀ j : Fin 16, tile (arg12.view.read (Elt F)  (q.2.2.1)) j = if j.val < k.val + 1 then B.dvStep k j (tile (arg12.view.read (Elt F)  p.2.2.1) j) else tile (arg12.view.read (Elt F)  p.2.2.1) j)
    ∧ (∀ j : Fin 16, tile (arg13.view.read (Elt F)  (q.2.2.2.1)) j = if j.val < k.val + 1 then B.c0Step k j (tile (arg13.view.read (Elt F)  p.2.2.2.1) j) else tile (arg13.view.read (Elt F)  p.2.2.2.1) j)
    ∧ (∀ j : Fin 16, tile (arg14.view.read (Elt F)  (q.2.2.2.2.1)) j = if j.val < k.val + 1 then B.c1Step k j (tile (arg14.view.read (Elt F)  p.2.2.2.2.1) j) else tile (arg14.view.read (Elt F)  p.2.2.2.2.1) j) := by
  subst hq
  unfold tripAll
  exact trip_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k p.1 p.2.1 p.2.2.1 p.2.2.2.1 p.2.2.2.2.1 p.2.2.2.2.2.1 p.2.2.2.2.2.2 B hB _ rfl

/-- The contents after trip `k`; past the last trip, as they were. -/
@[irreducible] def stStep (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : ℕ) (prev :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty ) :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty  :=
  if h : k < k0_t1_loop.trips then tripAll c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 ⟨k, h⟩ prev else prev

/-- Those contents before trip `k`, from `G·` at the loop's entry. -/
def st (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) : ℕ →  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty
  | 0 => (G10, G11, G12, G13, G14, G15, G16)
  | k + 1 => stStep c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k (st c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k)

/-- The state after trip `k` is the trip's contents at the state before it. -/
theorem st_succ (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (k : Fin k0_t1_loop.trips) :
    st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 (k.val + 1) = tripAll c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k (st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val) := by
  rw [st.eq_2]
  unfold stStep
  exact dif_pos k.isLt

/-- The outputs' tiles before trip `n`. -/
theorem st_tiles (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (B : Blk F)
    (hB : B = ⟨arg1.view.read (Elt F) X1, arg2.view.read (Elt F) X2, arg3.view.read (Elt F) X3, arg4.view.read (Elt F) X4, arg5.view.read (Elt F) X5, arg6.view.read (Elt F) X6, arg7.view.read (Elt F) X7, arg8.view.read (Elt F) X8, arg9.view.read (Elt F) X9, arg0⟩)
    (z11 : arg11.view.read (Elt F) G11 = k0_pay1) (z12 : arg12.view.read (Elt F) G12 = k0_pay2) (z13 : arg13.view.read (Elt F) G13 = k0_pay3) (z14 : arg14.view.read (Elt F) G14 = k0_pay4)
    (n : ℕ) (hn : n ≤ 16) (s :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty ) (hs : s = st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 n) :
    (∀ j : Fin 16, j.val < n → tile (arg10.view.read (Elt F)  s.1) j = B.dqT j.val)
    ∧ (∀ j : Fin 16, tile (arg11.view.read (Elt F)  s.2.1) j = Blk.acc k0_pay1 B.dkStep j n)
    ∧ (∀ j : Fin 16, tile (arg12.view.read (Elt F)  s.2.2.1) j = Blk.acc k0_pay2 B.dvStep j n)
    ∧ (∀ j : Fin 16, tile (arg13.view.read (Elt F)  s.2.2.2.1) j = Blk.acc k0_pay3 B.c0Step j n)
    ∧ (∀ j : Fin 16, tile (arg14.view.read (Elt F)  s.2.2.2.2.1) j = Blk.acc k0_pay4 B.c1Step j n) := by
  induction n generalizing s with
  | zero =>
    rw [st.eq_1] at hs
    subst hs
    dsimp only
    refine ⟨fun j h => absurd h (Nat.not_lt_zero _), fun j => ?_, fun j => ?_, fun j => ?_, fun j => ?_⟩
    · rw [z11]; rfl
    · rw [z12]; rfl
    · rw [z13]; rfl
    · rw [z14]; rfl
  | succ k ih =>
    obtain ⟨a10, a11, a12, a13, a14⟩ := ih (by omega) _ rfl
    have hk : k < k0_t1_loop.trips := by rw [trips1]; omega
    obtain ⟨b10, b11, b12, b13, b14⟩ := tripAll_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 ⟨k, hk⟩ _ B hB s (hs.trans (st_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 ⟨k, hk⟩))
    refine ⟨fun j h => (b10 j).trans ?_, fun j => (b11 j).trans ?_, fun j => (b12 j).trans ?_, fun j => (b13 j).trans ?_, fun j => (b14 j).trans ?_⟩
    · by_cases e : j.val = k
      · rw [if_pos e, e]
      · rw [if_neg e]; exact a10 j (by omega)
    · rw [a11 j]; rfl
    · rw [a12 j]; rfl
    · rw [a13 j]; rfl
    · rw [a14 j]; rfl

/-- The outer loop followed by a continuation: the outputs and scratch buffers go from `G·` to the state after sixteen trips. -/
theorem loop_bind (c : Dev nD) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (arg0 : BitVec 32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty)
    {β : Type} {kk : PUnit → Prog (TpuEff nD τ sig (Elt F) Λ₀ .tc) β} {Q : β → sProp 𝕄} (s :  BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty ) (hs : s = st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 16) :
    Trip (F := F) c arg1 arg2 arg3 arg4 arg5 arg6 arg7 arg8 arg9 arg10 arg11 arg12 arg13 arg14 arg15 arg16 X1 X2 X3 X4 X5 X6 X7 X8 X9 G10 G11 G12 G13 G14 G15 G16 ⊢ iprop((∀ acc : PUnit, Trip (F := F) c arg1 arg2 arg3 arg4 arg5 arg6 arg7 arg8 arg9 arg10 arg11 arg12 arg13 arg14 arg15 arg16 X1 X2 X3 X4 X5 X6 X7 X8 X9 (s.1) (s.2.1) (s.2.2.1) (s.2.2.2.1) (s.2.2.2.2.1) (s.2.2.2.2.2.1) (s.2.2.2.2.2.2) -∗ wp frame (wpE (defs₀ (F := F)) Variants.none (c : Thread nD τ) none) E (kk acc) Q)
      -∗ wp frame (wpE (defs₀ (F := F)) Variants.none (c : Thread nD τ) none) E (Scf.Loop.for k0_t1_loop k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0) >>= kk) Q) := by
  have h := Scf.wp_for_bind (Fr := frame) (wpE := wpE (defs₀ (F := F)) Variants.none (c : Thread nD τ) none) (Es := E) k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0)
    (fun k _ => Trip (F := F) c arg1 arg2 arg3 arg4 arg5 arg6 arg7 arg8 arg9 arg10 arg11 arg12 arg13 arg14 arg15 arg16 X1 X2 X3 X4 X5 X6 X7 X8 X9 ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.2.2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.2.2.2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k).2.2.2.2.2.2))
    (fun k acc => tripAll_wp (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 k E ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val).1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val).2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val).2.2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val).2.2.2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val).2.2.2.2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val).2.2.2.2.2.1) ((st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k.val).2.2.2.2.2.2) _ (st_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg0 X1 X2 X3 X4 X5 X6 X7 X8 X9 G10 G11 G12 G13 G14 G15 G16 k)) (kk := kk) (Q := Q)
  rw [show Scf.trips k0_t1_loop.lb k0_t1_loop.ub k0_t1_loop.st = 16 from trips1, ← hs] at h
  exact h

end Cert.FoxKernelIdeal.Run

end
-- ==== Proof.FoxBody.lean ====
/- The fox backward kernel's body. -/
module

public import proofs.«01_k».proof.Proof.Gen.FoxKernelIdeal.Frame
public import proofs.«01_k».proof.Proof.Gen.FoxKernelIdeal.Loops
public import proofs.«01_k».proof.Proof.FoxRun
public import Idealize.ShloMosaic.Lib.Claim

@[expose] public section

set_option maxRecDepth 16384

noncomputable section

namespace Cert.FoxKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxKernelIdeal.Gen

variable {F : FTy → Type} [FloatOps F] [Named F]

local notation "𝕄" => MT nD τ sig Unit (Elt F) ℕ (UR sig nD τ) ℕ

set_option maxHeartbeats 4000000 in
/-- The kernel body on nine input blocks: it leaves them as they were and the five outputs at the block's results. -/
theorem kernel_run (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S128x4096 .bf16) (harg6 : arg6.IsWhole) (arg7 : Memref sig .tc .vmem S4096x128 .bf16) (harg7 : arg7.IsWhole) (arg8 : Memref sig .tc .vmem S16x4096 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S2x16x256x256 .f32) (harg15 : arg15.IsWhole) (arg16 : Memref sig .tc .vmem S2x16x256x256 .f32) (harg16 : arg16.IsWhole) (x1 : FVec F S4096x128 .bf16) (x2 : FVec F S4096x128 .bf16) (x3 : FVec F S4096x128 .bf16) (x4 : FVec F S4096x128 .bf16) (x5 : FVec F S128x4096 .bf16) (x6 : FVec F S128x4096 .bf16) (x7 : FVec F S4096x128 .bf16) (x8 : FVec F S16x4096 .f32) (x9 : FVec F S4096x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (Blk.dq ⟨x1, x2, x3, x4, x5, x6, x7, x8, x9, BitVec.ofNat 32 (i 0).val⟩) ∗ owns (c : Thread nD τ) arg11 fullShare (Blk.dk ⟨x1, x2, x3, x4, x5, x6, x7, x8, x9, BitVec.ofNat 32 (i 0).val⟩) ∗ owns (c : Thread nD τ) arg12 fullShare (Blk.dv ⟨x1, x2, x3, x4, x5, x6, x7, x8, x9, BitVec.ofNat 32 (i 0).val⟩) ∗ owns (c : Thread nD τ) arg13 fullShare (Blk.dc0 ⟨x1, x2, x3, x4, x5, x6, x7, x8, x9, BitVec.ofNat 32 (i 0).val⟩) ∗ owns (c : Thread nD τ) arg14 fullShare (Blk.dc1 ⟨x1, x2, x3, x4, x5, x6, x7, x8, x9, BitVec.ofNat 32 (i 0).val⟩) ∗ (∃ d, owns (c : Thread nD τ) arg15 fullShare d) ∗ (∃ d, owns (c : Thread nD τ) arg16 fullShare d)) -∗ K ⟨⟩))
    ⊢ wp frame (wpE (defs₀ (F := F)) Variants.none c none) E (cc0_fox_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_fox_bwd_eq_skeleton]; unfold cc0_fox_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec
  generalize hG11 : arg11.view.writes (Elt F) arg11.view.junk kernel_run.sl.H11_1 = G11
  generalize hG12 : arg12.view.writes (Elt F) arg12.view.junk kernel_run.sl.H12_1 = G12
  generalize hG13 : arg13.view.writes (Elt F) arg13.view.junk kernel_run.sl.H13_1 = G13
  generalize hG14 : arg14.view.writes (Elt F) arg14.view.junk kernel_run.sl.H14_1 = G14
  have z11 : arg11.view.read (Elt F) G11 = k0_pay1 := by rw [← hG11]; exact View.read_writes_full ..
  have z12 : arg12.view.read (Elt F) G12 = k0_pay2 := by rw [← hG12]; exact View.read_writes_full ..
  have z13 : arg13.view.read (Elt F) G13 = k0_pay3 := by rw [← hG13]; exact View.read_writes_full ..
  have z14 : arg14.view.read (Elt F) G14 = k0_pay4 := by rw [← hG14]; exact View.read_writes_full ..
  generalize hs : st (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (harg1.unread x1) (harg2.unread x2) (harg3.unread x3) (harg4.unread x4) (harg5.unread x5) (harg6.unread x6) (harg7.unread x7) (harg8.unread x8) (harg9.unread x9) f10 G11 G12 G13 G14 f15 f16 16 = s
  obtain ⟨q10, q11, q12, q13, q14⟩ := st_tiles c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (harg1.unread x1) (harg2.unread x2) (harg3.unread x3) (harg4.unread x4) (harg5.unread x5) (harg6.unread x6) (harg7.unread x7) (harg8.unread x8) (harg9.unread x9) f10 G11 G12 G13 G14 f15 f16
    ⟨x1, x2, x3, x4, x5, x6, x7, x8, x9, BitVec.ofNat 32 (i 0).val⟩ (by rw [hf1, hf2, hf3, hf4, hf5, hf6, hf7, hf8, hf9]) z11 z12 z13 z14 16 le_rfl s hs.symm
  iapply (loop_bind c E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 0).val) (harg1.unread x1) (harg2.unread x2) (harg3.unread x3) (harg4.unread x4) (harg5.unread x5) (harg6.unread x6) (harg7.unread x7) (harg8.unread x8) (harg9.unread x9) f10 G11 G12 G13 G14 f15 f16 s hs.symm) $$ [H1 H2 H3 H4 H5 H6 H7 H8 H9 H10 H11 H12 H13 H14 H15 H16]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  iintro %acc ⟨H1, H2, H3, H4, H5, H6, H7, H8, H9, H10, H11, H12, H13, H14, H15, H16⟩
  sl_step
  iapply Hk
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    · ipureintro; exact hf7
    iexact H7
  isplitl [H8]
  · iexists _; isplitr
    · ipureintro; exact hf8
    iexact H8
  isplitl [H9]
  · iexists _; isplitr
    · ipureintro; exact hf9
    iexact H9
  isplitl [H10]
  · iexists _; isplitr; swap
    · iexact H10
    ipureintro; exact eq_untile _ _ fun j => q10 j j.isLt
  isplitl [H11]
  · iexists _; isplitr; swap
    · iexact H11
    ipureintro; exact eq_untile _ _ fun j => q11 j
  isplitl [H12]
  · iexists _; isplitr; swap
    · iexact H12
    ipureintro; exact eq_untile _ _ fun j => q12 j
  isplitl [H13]
  · iexists _; isplitr; swap
    · iexact H13
    ipureintro; exact eq_untile _ _ fun j => q13 j
  isplitl [H14]
  · iexists _; isplitr; swap
    · iexact H14
    ipureintro; exact eq_untile _ _ fun j => q14 j
  isplitl [H15]
  · iexists _; iexists _; isplitr; swap
    · iexact H15
    ipureintro; exact rfl
  iexists _; iexists _; isplitr; swap
  · iexact H16
  ipureintro; exact rfl

end Cert.FoxKernelIdeal.Run

end
-- ==== Proof.FoxFrame.lean ====
/- The fox backward kernel's launch and frame. -/
module

public import proofs.«01_k».proof.Proof.Gen.FoxKernelIdeal.Frame
public import proofs.«01_k».proof.Proof.Gen.FoxKernelIdeal.Loops
public import proofs.«01_k».proof.Proof.FoxBody
public import Idealize.ShloMosaic.Lib.Claim

@[expose] public section

set_option maxRecDepth 16384

noncomputable section

namespace Cert.FoxKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxKernelIdeal.Gen

variable {F : FTy → Type} [FloatOps F] [Named F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The nine input blocks of grid point `t`, with the number of the pair of heads. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, BitVec.ofNat 32 ((grid0.coords t) 0).val⟩

/-- The pipeline's proof data: the arrays as the region finds them; after a point the inputs hold their blocks and the outputs the block's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (blkAt m c t).dq
    | ⟨10, _⟩ => (blkAt m c t).dk
    | ⟨11, _⟩ => (blkAt m c t).dv
    | ⟨12, _⟩ => (blkAt m c t).dc0
    | ⟨13, _⟩ => (blkAt m c t).dc1
  Φ _ := Pipeline.ΦA spec0 c
  q _ := fullShare
  owed _ := 0

/-- The arrays of the proof data are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (blkAt m c t).dq := by dsimp only [dats]
theorem after_10 (c : Dev nD) (t : Fin cfg0.N) : (dats m 0 c).after 10 t = (blkAt m c t).dk := by dsimp only [dats]
theorem after_11 (c : Dev nD) (t : Fin cfg0.N) : (dats m 0 c).after 11 t = (blkAt m c t).dv := by dsimp only [dats]
theorem after_12 (c : Dev nD) (t : Fin cfg0.N) : (dats m 0 c).after 12 t = (blkAt m c t).dc0 := by dsimp only [dats]
theorem after_13 (c : Dev nD) (t : Fin cfg0.N) : (dats m 0 c).after 13 t = (blkAt m c t).dc1 := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_11 : ∀ t : Fin cfg0.N, cfg0.idle 11 (grid0.coords t) = false := fun _ => rfl
theorem live_12 : ∀ t : Fin cfg0.N, cfg0.idle 12 (grid0.coords t) = false := fun _ => rfl
theorem live_13 : ∀ t : Fin cfg0.N, cfg0.idle 13 (grid0.coords t) = false := fun _ => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- A whole buffer held at some contents is the buffer owned at some contents. -/
theorem scratch_owned (c : Dev nD) (b : Ref sig (c : Thread nD τ).2.kind) :
    (iprop(∃ f : Buf (Elt F) ((c : Thread nD τ).loc b), ((c : Thread nD τ).loc b) ↦{fullShare} f) : sProp 𝕄)
      = iprop(∃ d, owns (c : Thread nD τ) (Memref.whole b) fullShare d) := by
  simp only [owns_whole]

set_option maxHeartbeats 4000000 in
/-- The body at any grid point: the inputs' staging buffers hold their blocks, the scratch buffers come out of the scoped rest and go back to it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  rw [show (dats m 0 c).leavesExact 0 t = owns (c : Thread nD τ) (st0_0 t) fullShare ((dats m 0 c).after 0 t) from by unfold Dat.leavesExact; rw [live_0 t], after_0]
  rw [show (dats m 0 c).leavesExact 1 t = owns (c : Thread nD τ) (st0_1 t) fullShare ((dats m 0 c).after 1 t) from by unfold Dat.leavesExact; rw [live_1 t], after_1]
  rw [show (dats m 0 c).leavesExact 2 t = owns (c : Thread nD τ) (st0_2 t) fullShare ((dats m 0 c).after 2 t) from by unfold Dat.leavesExact; rw [live_2 t], after_2]
  rw [show (dats m 0 c).leavesExact 3 t = owns (c : Thread nD τ) (st0_3 t) fullShare ((dats m 0 c).after 3 t) from by unfold Dat.leavesExact; rw [live_3 t], after_3]
  rw [show (dats m 0 c).leavesExact 4 t = owns (c : Thread nD τ) (st0_4 t) fullShare ((dats m 0 c).after 4 t) from by unfold Dat.leavesExact; rw [live_4 t], after_4]
  rw [show (dats m 0 c).leavesExact 5 t = owns (c : Thread nD τ) (st0_5 t) fullShare ((dats m 0 c).after 5 t) from by unfold Dat.leavesExact; rw [live_5 t], after_5]
  rw [show (dats m 0 c).leavesExact 6 t = owns (c : Thread nD τ) (st0_6 t) fullShare ((dats m 0 c).after 6 t) from by unfold Dat.leavesExact; rw [live_6 t], after_6]
  rw [show (dats m 0 c).leavesExact 7 t = owns (c : Thread nD τ) (st0_7 t) fullShare ((dats m 0 c).after 7 t) from by unfold Dat.leavesExact; rw [live_7 t], after_7]
  rw [show (dats m 0 c).leavesExact 8 t = owns (c : Thread nD τ) (st0_8 t) fullShare ((dats m 0 c).after 8 t) from by unfold Dat.leavesExact; rw [live_8 t], after_8]
  rw [show (dats m 0 c).leavesExact 9 t = owns (c : Thread nD τ) (st0_9 t) fullShare ((dats m 0 c).after 9 t) from by unfold Dat.leavesExact; rw [live_9 t], after_9]
  rw [show (dats m 0 c).leavesExact 10 t = owns (c : Thread nD τ) (st0_10 t) fullShare ((dats m 0 c).after 10 t) from by unfold Dat.leavesExact; rw [live_10 t], after_10]
  rw [show (dats m 0 c).leavesExact 11 t = owns (c : Thread nD τ) (st0_11 t) fullShare ((dats m 0 c).after 11 t) from by unfold Dat.leavesExact; rw [live_11 t], after_11]
  rw [show (dats m 0 c).leavesExact 12 t = owns (c : Thread nD τ) (st0_12 t) fullShare ((dats m 0 c).after 12 t) from by unfold Dat.leavesExact; rw [live_12 t], after_12]
  rw [show (dats m 0 c).leavesExact 13 t = owns (c : Thread nD τ) (st0_13 t) fullShare ((dats m 0 c).after 13 t) from by unfold Dat.leavesExact; rw [live_13 t], after_13]
  unfold Pipeline.ΦA
  rw [scopedRest0_eq, scratch_owned c cc0_scratch0, scratch_owned c cc0_scratch1]
  unfold blkAt
  iintro ⟨⟨⟨HS15, HS16⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (kernel_run (F := F) c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [HS15]; · iexact HS15
  isplitl [HS16]; · iexact HS16
  iintro ⟨H0, H1, H2, H3, H4, H5, H6, H7, H8, H9, H10, H11, H12, H13, HS15, HS16⟩
  isplitl [HS15 HS16 HP]
  · isplitl [HS15 HS16]
    · isplitl [HS15]
      · iexact HS15
      iexact HS16
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the kernel's program ends, with the pipeline's arrays at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.FoxKernelIdeal.Run

end
-- ==== Proof.FoxBits.lean ====
/- The frame of the fox backward kernel's own program, carried over from the idealized program's. -/
module

public import proofs.«01_k».proof.Defs
public import proofs.«01_k».proof.Proof.FoxFrame
public import proofs.«01_k».proof.Proof.Gen.FoxKernel.Frame

@[expose] public section

set_option maxRecDepth 100000

noncomputable section

namespace Cert.FoxKernelIdeal.Run

open Idealize.ShloMosaic Idealize.SL.Sem Cert.FoxKernelIdeal

/-- At the machine's own floats a named constant is the bits it was printed with. -/
@[reducible] def bitsNamed : Named Bits where
  named _ _ {φ} b := Scalar.ofBits φ b

/-- The kernel's frame is the idealized program's, read at the machine's own floats: the two programs differ only in that the
mask is named in one of them. -/
theorem frame_statement : Cert.quiescent_FoxKernel = (letI := bitsNamed
    ∀ (m : (ℓ : Loc nD τ sig) → Buf (Elt Bits) ℓ) (g : Dev nD → PrngReg), True →
      θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0)) := by
  sl_kernel_rfl

/-- Every run of the kernel's program ends with its arguments as they were and every semaphore counter at zero. -/
theorem frame_bits : Cert.quiescent_FoxKernel :=
  frame_statement.mpr fun m g _ => letI := bitsNamed; frame (F := Bits) m g

end Cert.FoxKernelIdeal.Run

end
-- ==== Proof.FoxReal.lean ====
/-
  The attention with decay and its gradient over the reals: what both programs of the fox call compute once their
  arguments are finite, and the few facts about the extended reals that lead from one to the other.
-/
module

public import Idealize.ShloMosaic.PureOps.Ideal
public import Idealize.ShloMosaic.Lib.Pipeline.ValueKit
public import Mathlib.Analysis.SpecialFunctions.Log.Basic

@[expose] public section

noncomputable section

namespace Cert.FoxMath

open Idealize.ShloMosaic

/-! ## Extended reals -/

/-- A finite sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The product of two reals, in the extended reals. -/
theorem coe_mul (x y : ℝ) : (x : EReal) * (y : EReal) = ((x * y : ℝ) : EReal) := (EReal.coe_mul x y).symm

/-- A sum of products of reals, in the extended reals. -/
theorem coe_dot {ι : Type} [Fintype ι] (f g : ι → ℝ) : ∑ i, ((f i : ℝ) : EReal) * ((g i : ℝ) : EReal) = ((∑ i, f i * g i : ℝ) : EReal) := by
  simp only [coe_mul, coe_sum]

/-- The quotient of two reals by a divisor that is not zero. -/
theorem coe_div (x y : ℝ) (h : y ≠ 0) : Ideal.div (x : EReal) (y : EReal) = ((x / y : ℝ) : EReal) := by
  rw [Ideal.div_coe h, coe_mul, mul_one_div]

/-- The largest of `-∞` and finitely many reals and `-∞`s, at least one of them real, is real. The two maxima are given as
    any operations with the maximum's values. -/
theorem fold_max_real {n : ℕ} (m m' : EReal → EReal → EReal) [Std.Commutative m'] [Std.Associative m'] (b : EReal) (f : Fin n → EReal)
    (i : Fin n) (hb : b = ⊥) (hm : ∀ x y, m x y = max x y) (hm' : ∀ x y, m' x y = max x y) (hf : ∀ i, f i ≠ ⊤) (hi : f i ≠ ⊥) :
    ∃ t : ℝ, m b (Finset.fold m' b f Finset.univ) = (t : EReal) := by
  have hmm : m' = max := funext fun x => funext fun y => hm' x y
  subst hmm
  have e : Finset.fold max b f Finset.univ = Finset.univ.sup f := by rw [hb]; rfl
  rw [hm, e, hb]
  obtain ⟨j, _, hj⟩ := Finset.exists_mem_eq_sup Finset.univ ⟨i, Finset.mem_univ i⟩ f
  have h1 : Finset.univ.sup f ≠ ⊤ := by rw [hj]; exact hf j
  have h2 : Finset.univ.sup f ≠ ⊥ := fun h => hi (le_bot_iff.1 (h ▸ Finset.le_sup (f := f) (Finset.mem_univ i)))
  exact ⟨(Finset.univ.sup f).toReal, by rw [EReal.coe_toReal h1 h2]; simp⟩

/-! ## The attention and its gradient -/

/-- The arguments: queries (already scaled), keys, values, the cotangent of the output, and the cumulated decay. -/
structure Args where
  q : Fin 16 → Fin 4096 → Fin 64 → ℝ
  k : Fin 16 → Fin 4096 → Fin 64 → ℝ
  v : Fin 16 → Fin 4096 → Fin 64 → ℝ
  g : Fin 16 → Fin 4096 → Fin 64 → ℝ
  c : Fin 16 → Fin 4096 → ℝ

namespace Args

variable (A : Args) (h : Fin 16) (i j : Fin 4096)

/-- The score of key `j` for query `i`. -/
def S : ℝ := ∑ d, A.q h i d * A.k h j d + A.c h i - A.c h j

/-- Its exponential, zero for a key after the query. -/
def e : ℝ := if j.val ≤ i.val then Real.exp (A.S h i j) else 0

/-- The sum of the exponentials over the keys. -/
def Z : ℝ := ∑ j, A.e h i j

/-- The probability of key `j` for query `i`. -/
def W : ℝ := A.e h i j / A.Z h i

/-- The cotangent of the probability. -/
def DP : ℝ := ∑ d, A.g h i d * A.v h j d

/-- The mean of the cotangents under the probabilities. -/
def D : ℝ := ∑ j, A.W h i j * A.DP h i j

/-- The cotangent of the score. -/
def DS : ℝ := A.W h i j * (A.DP h i j - A.D h i)

/-- The cotangent of the queries. -/
def dq (d : Fin 64) : ℝ := ∑ x, A.DS h i x * A.k h x d

/-- The cotangent of the keys. -/
def dk (d : Fin 64) : ℝ := ∑ x, A.DS h x j * A.q h x d

/-- The cotangent of the values. -/
def dv (d : Fin 64) : ℝ := ∑ x, A.W h x j * A.g h x d

/-- The sum of the cotangents of the scores over the queries of one lane, `i ≡ l mod 128`. -/
def dc (l : Fin 128) : ℝ := ∑ a : Fin 32, A.DS h ⟨a.val * 128 + l.val, by omega⟩ j

/-- Each exponential is at least zero. -/
theorem e_nonneg : 0 ≤ A.e h i j := by
  unfold e
  split_ifs
  · exact (Real.exp_pos _).le
  · exact le_rfl

/-- The sum of the exponentials is positive: the query's own key is among them. -/
theorem Z_pos : 0 < A.Z h i := by
  refine Finset.sum_pos' (fun j _ => A.e_nonneg h i j) ⟨i, Finset.mem_univ i, ?_⟩
  unfold e
  rw [if_pos le_rfl]
  exact Real.exp_pos _

/-- A key after the query has probability zero. -/
theorem W_zero (hij : ¬ j.val ≤ i.val) : A.W h i j = 0 := by
  unfold W e
  rw [if_neg hij, zero_div]

/-- A key after the query has a score with cotangent zero. -/
theorem DS_zero (hij : ¬ j.val ≤ i.val) : A.DS h i j = 0 := by
  unfold DS
  rw [A.W_zero h i j hij, zero_mul]

/-- The exponential of a score less any `t`, zero for a key after the query. -/
def ex (t : ℝ) : ℝ := if j.val ≤ i.val then Real.exp (A.S h i j - t) else 0

/-- It is the exponential times that of `-t`. -/
theorem ex_eq (t : ℝ) : A.ex h i j t = A.e h i j * Real.exp (-t) := by
  unfold ex e
  split_ifs
  · rw [sub_eq_add_neg, Real.exp_add]
  · rw [zero_mul]

/-- So is the sum. -/
theorem sum_ex (t : ℝ) : ∑ j, A.ex h i j t = A.Z h i * Real.exp (-t) := by
  simp only [ex_eq, ← Finset.sum_mul]
  rfl

/-- The sum less `t` is positive too. -/
theorem sum_ex_pos (t : ℝ) : 0 < ∑ j, A.ex h i j t := by
  rw [sum_ex]
  exact mul_pos (A.Z_pos h i) (Real.exp_pos _)

/-- The probability does not depend on `t`. -/
theorem prob_eq (t : ℝ) : A.ex h i j t / ∑ j, A.ex h i j t = A.W h i j := by
  rw [sum_ex, ex_eq, W, mul_div_mul_right _ _ (Real.exp_pos _).ne']

/-- The logarithm of the sum of the exponentials, on top of `t`, is that without `t`. -/
theorem lse_eq (t : ℝ) : t + Real.log (∑ j, A.ex h i j t) = Real.log (A.Z h i) := by
  rw [sum_ex, Real.log_mul (A.Z_pos h i).ne' (Real.exp_pos _).ne', Real.log_exp]
  ring

/-- The exponential of a score less that logarithm is the probability. -/
theorem exp_lse (hij : j.val ≤ i.val) : Real.exp (A.S h i j - Real.log (A.Z h i)) = A.W h i j := by
  rw [Real.exp_sub, Real.exp_log (A.Z_pos h i), W, e, if_pos hij]

/-- The softmax's gradient as the reverse pass writes it is the cotangent of the score. -/
theorem ds_eq (t : ℝ) : (A.DP h i j / (∑ j, A.ex h i j t)
      + -∑ x, A.DP h i x * (1 / ((∑ j, A.ex h i j t) * ∑ j, A.ex h i j t)) * A.ex h i x t) * A.ex h i j t = A.DS h i j := by
  have hs := (A.sum_ex_pos h i t).ne'
  have e1 : ∑ x, A.DP h i x * (1 / ((∑ j, A.ex h i j t) * ∑ j, A.ex h i j t)) * A.ex h i x t
      = A.D h i / ∑ j, A.ex h i j t := by
    rw [D, Finset.sum_div]
    refine Finset.sum_congr rfl fun x _ => ?_
    rw [← A.prob_eq h i x t]
    field_simp
  rw [e1, DS, ← A.prob_eq h i j t]
  field_simp
  ring

/-- The columns that carry a query's cumulated decay: the decay, two zeros (its rounding remainders, zero over the reals),
    three ones, zeros. -/
def auxq (d : Fin 64) : ℝ := if d.val < 3 then (if d.val < 1 then A.c h i else 0) else if d.val < 6 then 1 else 0

/-- The columns that carry a key's: three ones, the decay negated, zeros. -/
def auxk (d : Fin 64) : ℝ := if d.val < 3 then 1 else if d.val < 6 then (if d.val < 4 then -A.c h i else 0) else 0

/-- Their product is the decay from the key to the query. -/
theorem aux_dot : ∑ d, A.auxq h i d * A.auxk h j d = A.c h i - A.c h j := by
  have e (d : Fin 64) : A.auxq h i d * A.auxk h j d = (if d = 0 then A.c h i else 0) + if d = 3 then -A.c h j else 0 := by
    have h0 : d = 0 ↔ d.val = 0 := Fin.ext_iff
    have h3 : d = 3 ↔ d.val = 3 := Fin.ext_iff
    simp only [auxq, auxk, h0, h3]
    split_ifs <;> first | omega | ring
  simp only [e, Finset.sum_add_distrib, Finset.sum_ite_eq', Finset.mem_univ, if_true]
  ring

/-- The arrays hold these reals: queries, keys, values, the cumulated decay, and the cotangent in the right half of the
    last array, head by head. -/
structure Is (A : Args) (a0 a1 a2 : FVec Ideal ⟨3, ![16, 4096, 64]⟩ .f32) (a3 : FVec Ideal ⟨2, ![16, 4096]⟩ .f32)
    (a4 : FVec Ideal ⟨2, ![4096, 2048]⟩ .f32) : Prop where
  q : ∀ h i d, a0 (ix3 h i d) = (A.q h i d : EReal)
  k : ∀ h i d, a1 (ix3 h i d) = (A.k h i d : EReal)
  v : ∀ h i d, a2 (ix3 h i d) = (A.v h i d : EReal)
  c : ∀ h i, a3 (ix2 h i) = (A.c h i : EReal)
  g : ∀ (h : Fin 16) (i : Fin 4096) (d : Fin 64), a4 (ix2 i ⟨1024 + (h.val * 64 + d.val), by omega⟩) = (A.g h i d : EReal)

end Args

end Cert.FoxMath

end
-- ==== Proof.FoxRef.lean ====
module

public import Idealize.ShloMosaic.Lib.Claim
public import Idealize.ShloMosaic.Lib.Pipeline.ValueKit
public import Idealize.ShloMosaic.Lib.WordCmp
public import proofs.«01_k».proof.Proof.Gen.FoxReferenceIdeal.Run
public import proofs.«01_k».proof.Proof.Consts
public import proofs.«01_k».proof.Proof.FoxReal

@[expose] public section

set_option maxRecDepth 16384

noncomputable section

namespace Cert.FoxReferenceIdeal.Value

open Idealize.ShloMosaic Idealize.ShloMosaic.Ideal Idealize.SL.Sem Cert.FoxReferenceIdeal Cert.FoxReferenceIdeal.Gen

/-- Whether the key is not after the query. -/
def causal : IVec S16x4096x4096 1 :=
  broadcastInDim S16x4096x4096 ![1, 2] bcast_S4096x4096_S16x4096x4096_1_2 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))

/-- The products of query and key, with the query's cumulated decay. -/
def cqadd (a0 : FVec Ideal S16x4096x64 .f32) (a1 : FVec Ideal S16x4096x64 .f32) (a3 : FVec Ideal S16x4096 .f32) : FVec Ideal S16x4096x4096 .f32 :=
  addf (Host.dotGeneral dot_S16x4096x64_S16x4096x64_S16x4096x4096_2_2_1_1_0_0 none a0 a1) (broadcastInDim S16x4096x4096 ![0, 1, 2] bcast_S16x4096x1_S16x4096x4096_0_1_2 (broadcastInDim S16x4096x1 ![0, 1] bcast_S16x4096_S16x4096x1_0_1 a3))

/-- The scores before the mask. -/
def logits (a0 : FVec Ideal S16x4096x64 .f32) (a1 : FVec Ideal S16x4096x64 .f32) (a3 : FVec Ideal S16x4096 .f32) : FVec Ideal S16x4096x4096 .f32 :=
  shapeCast _ (subf (shapeCast _ (cqadd a0 a1 a3) shapeCasts_S16x4096x4096_S16x32x128x4096) (broadcastInDim S16x32x128x4096 ![0, 1, 2, 3] bcast_S16x1x128x4096_S16x32x128x4096_0_1_2_3 (broadcastInDim S16x1x128x4096 ![0, 2, 3] bcast_S16x128x4096_S16x1x128x4096_0_2_3 (broadcastInDim S16x128x4096 ![0, 1, 2] bcast_S16x1x4096_S16x128x4096_0_1_2 (broadcastInDim S16x1x4096 ![0, 2] bcast_S16x4096_S16x1x4096_0_2 a3))))) shapeCasts_S16x32x128x4096_S16x4096x4096

/-- The scores, `-∞` after the query. -/
def masked (a0 : FVec Ideal S16x4096x64 .f32) (a1 : FVec Ideal S16x4096x64 .f32) (a3 : FVec Ideal S16x4096 .f32) : FVec Ideal S16x4096x4096 .f32 :=
  select causal (logits a0 a1 a3) (broadcastInDim S16x4096x4096 ![] bcast_S_S16x4096x4096 (id (constant S_ .f32 0xFF800000#32)))

/-- Each query's largest score. -/
def top (a0 : FVec Ideal S16x4096x64 .f32) (a1 : FVec Ideal S16x4096x64 .f32) (a3 : FVec Ideal S16x4096 .f32) : FVec Ideal S16x4096 .f32 :=
  maximumf (broadcastInDim S16x4096 ![] bcast_S_S16x4096 (constant S_ .f32 0xFF800000#32)) (Host.reduce FloatOps.maximumf (masked a0 a1 a3) (constant S_ .f32 0xFF800000#32) reducesTo_S16x4096x4096_S16x4096_d2 h_S_)

/-- The exponentials. -/
def ex (a0 : FVec Ideal S16x4096x64 .f32) (a1 : FVec Ideal S16x4096x64 .f32) (a3 : FVec Ideal S16x4096 .f32) : FVec Ideal S16x4096x4096 .f32 :=
  Host.exp (subf (masked a0 a1 a3) (broadcastInDim S16x4096x4096 ![0, 1, 2] bcast_S16x4096x1_S16x4096x4096_0_1_2 (broadcastInDim S16x4096x1 ![0, 1] bcast_S16x4096_S16x4096x1_0_1 (top a0 a1 a3))))

/-- Their sum over the keys. -/
def total (a0 : FVec Ideal S16x4096x64 .f32) (a1 : FVec Ideal S16x4096x64 .f32) (a3 : FVec Ideal S16x4096 .f32) : FVec Ideal S16x4096x1 .f32 :=
  broadcastInDim S16x4096x1 ![0, 1] bcast_S16x4096_S16x4096x1_0_1 (Host.reduceAdd (ex a0 a1 a3) (constant S_ .f32 0x00000000#32) reducesTo_S16x4096x4096_S16x4096_d2 h_S_)

/-- The cotangent of the attention's output, head by head. -/
def ct (a4 : FVec Ideal S4096x2048 .f32) : FVec Ideal S16x4096x64 .f32 :=
  transpose S16x4096x64 [1, 0, 2] (shapeCast _ (extractStridedSlice S4096x1024 ![0, 1024] a4 slices_S4096x2048_S4096x1024_0_1024) shapeCasts_S4096x1024_S4096x16x64) transposes_S4096x16x64_S16x4096x64_1_0_2

/-- The cotangent of the probabilities. -/
def dp (a2 : FVec Ideal S16x4096x64 .f32) (a4 : FVec Ideal S4096x2048 .f32) : FVec Ideal S16x4096x4096 .f32 :=
  Host.dotGeneral dot_S16x4096x64_S16x4096x64_S16x4096x4096_2_2_1_1_0_0 none (ct a4) a2

/-- Minus the sum over the keys of cotangent times probability, over the total once more. -/
def dot (a0 : FVec Ideal S16x4096x64 .f32) (a1 : FVec Ideal S16x4096x64 .f32) (a2 : FVec Ideal S16x4096x64 .f32) (a3 : FVec Ideal S16x4096 .f32) (a4 : FVec Ideal S4096x2048 .f32) : FVec Ideal S16x4096x1 .f32 :=
  Host.negf (shapeCast _ (Host.reduceAdd (mulf (mulf (dp a2 a4) (broadcastInDim S16x4096x4096 ![0, 1, 2] bcast_S16x4096x1_S16x4096x4096_0_1_2 (Host.divf (broadcastInDim S16x4096x1 ![] bcast_S_S16x4096x1 (constant S_ .f32 0x3F800000#32)) (mulf (total a0 a1 a3) (total a0 a1 a3))))) (ex a0 a1 a3)) (constant S_ .f32 0x00000000#32) reducesTo_S16x4096x4096_S16x4096_d2 h_S_) shapeCasts_S16x4096_S16x4096x1)

/-- The cotangent of the scores. -/
def ds (a0 : FVec Ideal S16x4096x64 .f32) (a1 : FVec Ideal S16x4096x64 .f32) (a2 : FVec Ideal S16x4096x64 .f32) (a3 : FVec Ideal S16x4096 .f32) (a4 : FVec Ideal S4096x2048 .f32) : FVec Ideal S16x4096x4096 .f32 :=
  select causal (mulf (addf (Host.divf (dp a2 a4) (broadcastInDim S16x4096x4096 ![0, 1, 2] bcast_S16x4096x1_S16x4096x4096_0_1_2 (total a0 a1 a3))) (broadcastInDim S16x4096x4096 ![0, 1] bcast_S16x4096_S16x4096x4096_0_1 (Host.reduceAdd (dot a0 a1 a2 a3 a4) (constant S_ .f32 0x00000000#32) reducesTo_S16x4096x1_S16x4096_d2 h_S_))) (ex a0 a1 a3)) (broadcastInDim S16x4096x4096 ![] bcast_S_S16x4096x4096 (constant S_ .f32 0x00000000#32))

/-- The probabilities. -/
def prob (a0 : FVec Ideal S16x4096x64 .f32) (a1 : FVec Ideal S16x4096x64 .f32) (a3 : FVec Ideal S16x4096 .f32) : FVec Ideal S16x4096x4096 .f32 :=
  Host.divf (ex a0 a1 a3) (broadcastInDim S16x4096x4096 ![0, 1, 2] bcast_S16x4096x1_S16x4096x4096_0_1_2 (total a0 a1 a3))

/-- The cotangent of the keys' cumulated decay, lane by lane. -/
def dlane (a0 : FVec Ideal S16x4096x64 .f32) (a1 : FVec Ideal S16x4096x64 .f32) (a2 : FVec Ideal S16x4096x64 .f32) (a3 : FVec Ideal S16x4096 .f32) (a4 : FVec Ideal S4096x2048 .f32) : FVec Ideal S4096x8x2x128 .f32 :=
  Host.negf (shapeCast _ (transpose S4096x16x128 [2, 0, 1] (Host.reduceAdd (shapeCast _ (Host.reduceAdd (Host.negf (shapeCast _ (ds a0 a1 a2 a3 a4) shapeCasts_S16x4096x4096_S16x32x128x4096)) (constant S_ .f32 0x00000000#32) reducesTo_S16x32x128x4096_S16x128x4096_d1 h_S_) shapeCasts_S16x128x4096_S16x1x128x4096) (constant S_ .f32 0x00000000#32) reducesTo_S16x1x128x4096_S16x128x4096_d1 h_S_) transposes_S16x128x4096_S4096x16x128_2_0_1) shapeCasts_S4096x16x128_S4096x8x2x128)

/-- The reference's result 0. -/
def out0 (a0 : FVec Ideal S16x4096x64 .f32) (a1 : FVec Ideal S16x4096x64 .f32) (a2 : FVec Ideal S16x4096x64 .f32) (a3 : FVec Ideal S16x4096 .f32) (a4 : FVec Ideal S4096x2048 .f32) : FVec Ideal S4096x1024 .f32 :=
  shapeCast _ (transpose S4096x16x64 [1, 0, 2] (Host.dotGeneral dot_S16x4096x4096_S16x4096x64_S16x4096x64_2_1_1_2_0_0 none (shapeCast _ (shapeCast _ (ds a0 a1 a2 a3 a4) shapeCasts_S16x4096x4096_S16x32x128x4096) shapeCasts_S16x32x128x4096_S16x4096x4096) a1) transposes_S16x4096x64_S4096x16x64_1_0_2) shapeCasts_S4096x16x64_S4096x1024

/-- The reference's result 1. -/
def out1 (a0 : FVec Ideal S16x4096x64 .f32) (a1 : FVec Ideal S16x4096x64 .f32) (a2 : FVec Ideal S16x4096x64 .f32) (a3 : FVec Ideal S16x4096 .f32) (a4 : FVec Ideal S4096x2048 .f32) : FVec Ideal S4096x1024 .f32 :=
  shapeCast _ (transpose S4096x16x64 [1, 0, 2] (Host.dotGeneral dot_S16x4096x4096_S16x4096x64_S16x4096x64_1_1_2_2_0_0 none (shapeCast _ (shapeCast _ (ds a0 a1 a2 a3 a4) shapeCasts_S16x4096x4096_S16x32x128x4096) shapeCasts_S16x32x128x4096_S16x4096x4096) a0) transposes_S16x4096x64_S4096x16x64_1_0_2) shapeCasts_S4096x16x64_S4096x1024

/-- The reference's result 2. -/
def out2 (a0 : FVec Ideal S16x4096x64 .f32) (a1 : FVec Ideal S16x4096x64 .f32) (a3 : FVec Ideal S16x4096 .f32) (a4 : FVec Ideal S4096x2048 .f32) : FVec Ideal S4096x1024 .f32 :=
  shapeCast _ (transpose S4096x16x64 [1, 0, 2] (transpose S16x4096x64 [0, 2, 1] (Host.dotGeneral dot_S16x4096x64_S16x4096x4096_S16x64x4096_1_1_2_2_0_0 none (ct a4) (prob a0 a1 a3)) transposes_S16x64x4096_S16x4096x64_0_2_1) transposes_S16x4096x64_S4096x16x64_1_0_2) shapeCasts_S4096x16x64_S4096x1024

/-- The reference's result 3. -/
def out3 (a0 : FVec Ideal S16x4096x64 .f32) (a1 : FVec Ideal S16x4096x64 .f32) (a2 : FVec Ideal S16x4096x64 .f32) (a3 : FVec Ideal S16x4096 .f32) (a4 : FVec Ideal S4096x2048 .f32) : FVec Ideal S4096x1024 .f32 :=
  shapeCast _ (shapeCast _ (extractStridedSlice S4096x8x1x128 ![0, 0, 0, 0] (dlane a0 a1 a2 a3 a4) slices_S4096x8x2x128_S4096x8x1x128_0_0_0_0) shapeCasts_S4096x8x1x128_S4096x8x128) shapeCasts_S4096x8x128_S4096x1024

/-- The reference's result 4. -/
def out4 (a0 : FVec Ideal S16x4096x64 .f32) (a1 : FVec Ideal S16x4096x64 .f32) (a2 : FVec Ideal S16x4096x64 .f32) (a3 : FVec Ideal S16x4096 .f32) (a4 : FVec Ideal S4096x2048 .f32) : FVec Ideal S4096x1024 .f32 :=
  shapeCast _ (shapeCast _ (extractStridedSlice S4096x8x1x128 ![0, 0, 1, 0] (dlane a0 a1 a2 a3 a4) slices_S4096x8x2x128_S4096x8x1x128_0_0_1_0) shapeCasts_S4096x8x1x128_S4096x8x128) shapeCasts_S4096x8x128_S4096x1024

/-! ## Reading the larger reductions at an index -/

/-- The sum over the queries of one lane, negated term by term. -/
theorem laneSum_apply (x : FVec Ideal S16x4096x4096 .f32) (h : Fin 16) (l : Fin 128) (j : Fin 4096) :
    (Host.reduceAdd (Host.negf (shapeCast _ x shapeCasts_S16x4096x4096_S16x32x128x4096)) (constant (F := Ideal) S_ .f32 0x00000000#32)
        reducesTo_S16x32x128x4096_S16x128x4096_d1 h_S_) (ix3 h l j)
      = ∑ a : Fin 32, -x (ix3 h ⟨a.val * 128 + l.val, by omega⟩ j) := by
  pointwise

/-- The lane sums, brought into the order of the results and negated. -/
theorem laneOut_apply (x : FVec Ideal S16x128x4096 .f32) (p : Fin 8) (s : Fin 2) (l : Fin 128) (j : Fin 4096) :
    (Host.negf (shapeCast _ (transpose S4096x16x128 [2, 0, 1] (Host.reduceAdd (shapeCast _ x shapeCasts_S16x128x4096_S16x1x128x4096)
        (constant (F := Ideal) S_ .f32 0x00000000#32) reducesTo_S16x1x128x4096_S16x128x4096_d1 h_S_)
        transposes_S16x128x4096_S4096x16x128_2_0_1) shapeCasts_S4096x16x128_S4096x8x2x128)) (ix4 j p s l)
      = -∑ _a : Fin 1, x (ix3 ⟨p.val * 2 + s.val, by omega⟩ l j) := by
  pointwise

/-! ## The stages at an index, over the reals -/

/-- The word of `-∞`. -/
theorem ofBits_bot : ofBits FTy.f32 4286578688#32 = (⊥ : EReal) := by
  simp [Ideal.ofBits, Ideal.ieee]

/-- The larger of `-∞` and the largest entry along the keys is real, when no entry is `+∞` and one is real. -/
theorem reduceMax_real (x : FVec Ideal S16x4096x4096 .f32) (h : Fin 16) (i j : Fin 4096)
    (hx : ∀ j, x (ix3 h i j) ≠ (⊤ : EReal)) (hj : x (ix3 h i j) ≠ (⊥ : EReal)) :
    ∃ t : ℝ, max ⊥ (Host.reduce FloatOps.maximumf x (constant (F := Ideal) S_ .f32 0xFF800000#32)
      reducesTo_S16x4096x4096_S16x4096_d2 h_S_ (ix2 h i)) = (t : EReal) := by
  pointwise
  exact FoxMath.fold_max_real _ _ _ _ j ofBits_bot (fun _ _ => rfl) (fun _ _ => rfl) hx hj

/-- The larger of two arrays' entries, the first `-∞`. -/
theorem max_real {s : Shape} (x y : FVec Ideal s .f32) (i : s.Idx) (hx : x i = (⊥ : EReal)) (hy : ∃ t : ℝ, max ⊥ (y i) = (t : EReal)) :
    ∃ t : ℝ, maximumf x y i = (t : EReal) := by
  obtain ⟨t, ht⟩ := hy
  exact ⟨t, by rw [maximumf_apply, hx]; exact ht⟩

section
variable {A : FoxMath.Args} {a0 a1 a2 : FVec Ideal S16x4096x64 .f32} {a3 : FVec Ideal S16x4096 .f32} {a4 : FVec Ideal S4096x2048 .f32}
variable (H : A.Is a0 a1 a2 a3 a4)
include H

/-- The scores before the mask. -/
theorem logits_apply (h : Fin 16) (i j : Fin 4096) : logits a0 a1 a3 (ix3 h i j) = ((A.S h i j : ℝ) : EReal) := by
  have e : logits a0 a1 a3 (ix3 h i j) = ∑ x, a0 (ix3 h i x) * a1 (ix3 h j x) + a3 (ix2 h i) - a3 (ix2 h j) := by
    pointwise [logits]
    pointwise [cqadd]
  rw [e]
  simp only [H.q, H.k, H.c, FoxMath.coe_dot]
  rfl

omit H in
/-- The mask. -/
theorem causal_apply (h : Fin 16) (i j : Fin 4096) : causal (ix3 h i j) = BitVec.ofBool (decide (j.val ≤ i.val)) := by
  have e : causal (ix3 h i j) = IntOp.cmpi .sge (BitVec.ofNat 32 i.val) (BitVec.ofNat 32 j.val) := by
    pointwise [causal]
  rw [e]
  simp (disch := omega) only [hlo_ix]

/-- The scores. -/
theorem masked_apply (h : Fin 16) (i j : Fin 4096) :
    masked a0 a1 a3 (ix3 h i j) = if j.val ≤ i.val then ((A.S h i j : ℝ) : EReal) else ⊥ := by
  have e : masked a0 a1 a3 (ix3 h i j)
      = Scalar.select (causal (ix3 h i j)) (logits a0 a1 a3 (ix3 h i j)) (ofBits FTy.f32 4286578688#32) := by
    pointwise [masked]
    rfl
  rw [e, causal_apply, logits_apply H, ofBits_bot]
  simp (disch := omega) only [hlo_ix]

/-- Each query's largest score is real. -/
theorem top_apply (h : Fin 16) (i : Fin 4096) : ∃ t : ℝ, top a0 a1 a3 (ix2 h i) = (t : EReal) := by
  unfold top
  refine max_real _ _ _ ?_ (reduceMax_real (masked a0 a1 a3) h i i (fun x => by rw [masked_apply H]; split_ifs <;> simp)
    (by rw [masked_apply H, if_pos le_rfl]; simp))
  pointwise
  exact ofBits_bot

/-- The exponentials. -/
theorem ex_apply {h : Fin 16} {i : Fin 4096} {t : ℝ} (ht : top a0 a1 a3 (ix2 h i) = (t : EReal)) (j : Fin 4096) :
    ex a0 a1 a3 (ix3 h i j) = ((A.ex h i j t : ℝ) : EReal) := by
  have e : ex a0 a1 a3 (ix3 h i j) = Ideal.exp (masked a0 a1 a3 (ix3 h i j) - top a0 a1 a3 (ix2 h i)) := by
    pointwise [ex]
  rw [e, masked_apply H, ht, FoxMath.Args.ex]
  split_ifs
  · rw [← EReal.coe_sub]; rfl
  · rfl

/-- Their sum. -/
theorem total_apply {h : Fin 16} {i : Fin 4096} {t : ℝ} (ht : top a0 a1 a3 (ix2 h i) = (t : EReal)) :
    total a0 a1 a3 (ix3 h i 0) = ((∑ j, A.ex h i j t : ℝ) : EReal) := by
  have e : total a0 a1 a3 (ix3 h i 0) = ∑ x, ex a0 a1 a3 (ix3 h i x) := by
    pointwise [total]
  rw [e]
  simp only [ex_apply H ht, FoxMath.coe_sum]

/-- The cotangent of the output. -/
theorem ct_apply (h : Fin 16) (i : Fin 4096) (d : Fin 64) : ct a4 (ix3 h i d) = ((A.g h i d : ℝ) : EReal) := by
  have e : ct a4 (ix3 h i d) = a4 (ix2 i ⟨1024 + (h.val * 64 + d.val), by omega⟩) := by
    pointwise [ct]
  rw [e, H.g]

/-- The cotangent of the probabilities. -/
theorem dp_apply (h : Fin 16) (i j : Fin 4096) : dp a2 a4 (ix3 h i j) = ((A.DP h i j : ℝ) : EReal) := by
  have e : dp a2 a4 (ix3 h i j) = ∑ d, ct a4 (ix3 h i d) * a2 (ix3 h j d) := by
    pointwise [dp]
  rw [e]
  simp only [ct_apply H, H.v, FoxMath.coe_dot]
  rfl

/-- The probabilities. -/
theorem prob_apply (h : Fin 16) (i j : Fin 4096) : prob a0 a1 a3 (ix3 h i j) = ((A.W h i j : ℝ) : EReal) := by
  obtain ⟨t, ht⟩ := top_apply H h i
  have e : prob a0 a1 a3 (ix3 h i j) = Ideal.div (ex a0 a1 a3 (ix3 h i j)) (total a0 a1 a3 (ix3 h i 0)) := by
    pointwise [prob]
  rw [e, ex_apply H ht, total_apply H ht, FoxMath.coe_div _ _ (A.sum_ex_pos h i t).ne', A.prob_eq]

/-- The cotangent of the scores. -/
theorem ds_apply (h : Fin 16) (i j : Fin 4096) : ds a0 a1 a2 a3 a4 (ix3 h i j) = ((A.DS h i j : ℝ) : EReal) := by
  obtain ⟨t, ht⟩ := top_apply H h i
  have e1 : dot a0 a1 a2 a3 a4 (ix3 h i 0) = -∑ x, dp a2 a4 (ix3 h i x)
      * Ideal.div 1 (total a0 a1 a3 (ix3 h i 0) * total a0 a1 a3 (ix3 h i 0)) * ex a0 a1 a3 (ix3 h i x) := by
    pointwise [dot]
  have e2 : ds a0 a1 a2 a3 a4 (ix3 h i j) = Scalar.select (causal (ix3 h i j))
      ((Ideal.div (dp a2 a4 (ix3 h i j)) (total a0 a1 a3 (ix3 h i 0)) + ∑ _x : Fin 1, dot a0 a1 a2 a3 a4 (ix3 h i 0)) * ex a0 a1 a3 (ix3 h i j)) 0 := by
    pointwise [ds]
    simp only [Fin.isValue, Finset.univ_unique, Fin.default_eq_zero, Finset.sum_singleton]
  have hs := (A.sum_ex_pos h i t).ne'
  have one : (1 : EReal) = ((1 : ℝ) : EReal) := rfl
  rw [e2, e1, causal_apply]
  simp (disch := omega) only [hlo_ix]
  simp only [dp_apply H, ex_apply H ht, total_apply H ht, FoxMath.coe_mul, one, FoxMath.coe_div _ _ hs,
    FoxMath.coe_div _ _ (mul_ne_zero hs hs), FoxMath.coe_sum, Finset.univ_unique, Finset.sum_singleton, ← EReal.coe_neg, ← EReal.coe_add,
    A.ds_eq]
  split_ifs with hij
  · rfl
  · rw [A.DS_zero h i j hij]; rfl

/-- Result 0 is the cotangent of the queries. -/
theorem out0_apply (i : Fin 4096) (p : Fin 1024) : out0 a0 a1 a2 a3 a4 (ix2 i p)
    = ((A.dq ⟨p.val / 64, by omega⟩ i ⟨p.val % 64, by omega⟩ : ℝ) : EReal) := by
  have e : out0 a0 a1 a2 a3 a4 (ix2 i p) = ∑ x, ds a0 a1 a2 a3 a4 (ix3 ⟨p.val / 64, by omega⟩ i x)
      * a1 (ix3 ⟨p.val / 64, by omega⟩ x ⟨p.val % 64, by omega⟩) := by
    pointwise [out0]
  rw [e]
  simp only [ds_apply H, H.k, FoxMath.coe_dot]
  rfl

/-- Result 1 is the cotangent of the keys. -/
theorem out1_apply (j : Fin 4096) (p : Fin 1024) : out1 a0 a1 a2 a3 a4 (ix2 j p)
    = ((A.dk ⟨p.val / 64, by omega⟩ j ⟨p.val % 64, by omega⟩ : ℝ) : EReal) := by
  have e : out1 a0 a1 a2 a3 a4 (ix2 j p) = ∑ x, ds a0 a1 a2 a3 a4 (ix3 ⟨p.val / 64, by omega⟩ x j)
      * a0 (ix3 ⟨p.val / 64, by omega⟩ x ⟨p.val % 64, by omega⟩) := by
    pointwise [out1]
  rw [e]
  simp only [ds_apply H, H.q, FoxMath.coe_dot]
  rfl

/-- Result 2 is the cotangent of the values. -/
theorem out2_apply (j : Fin 4096) (p : Fin 1024) : out2 a0 a1 a3 a4 (ix2 j p)
    = ((A.dv ⟨p.val / 64, by omega⟩ j ⟨p.val % 64, by omega⟩ : ℝ) : EReal) := by
  have e : out2 a0 a1 a3 a4 (ix2 j p) = ∑ x, ct a4 (ix3 ⟨p.val / 64, by omega⟩ x ⟨p.val % 64, by omega⟩)
      * prob a0 a1 a3 (ix3 ⟨p.val / 64, by omega⟩ x j) := by
    pointwise [out2]
  rw [e]
  simp only [ct_apply H, prob_apply H, FoxMath.coe_dot, FoxMath.Args.dv, mul_comm]

/-- The lanes of the cotangent of the keys' cumulated decay. -/
theorem dlane_apply (j : Fin 4096) (p : Fin 8) (s : Fin 2) (l : Fin 128) : dlane a0 a1 a2 a3 a4 (ix4 j p s l)
    = ((A.dc ⟨p.val * 2 + s.val, by omega⟩ j l : ℝ) : EReal) := by
  unfold dlane
  rw [laneOut_apply, laneSum_apply]
  simp only [ds_apply H, ← EReal.coe_neg, FoxMath.coe_sum, Finset.univ_unique, Finset.sum_singleton]
  rw [Finset.sum_neg_distrib, neg_neg]
  rfl

/-- Result 3 is those lanes for the first head of each pair. -/
theorem out3_apply (j : Fin 4096) (p : Fin 1024) : out3 a0 a1 a2 a3 a4 (ix2 j p)
    = ((A.dc ⟨p.val / 128 * 2, by omega⟩ j ⟨p.val % 128, by omega⟩ : ℝ) : EReal) := by
  have e : out3 a0 a1 a2 a3 a4 (ix2 j p) = dlane a0 a1 a2 a3 a4 (ix4 j ⟨p.val / 128, by omega⟩ 0 ⟨p.val % 128, by omega⟩) := by
    pointwise [out3]
  rw [e, dlane_apply H]
  rfl

/-- Result 4 is those lanes for the second head of each pair. -/
theorem out4_apply (j : Fin 4096) (p : Fin 1024) : out4 a0 a1 a2 a3 a4 (ix2 j p)
    = ((A.dc ⟨p.val / 128 * 2 + 1, by omega⟩ j ⟨p.val % 128, by omega⟩ : ℝ) : EReal) := by
  have e : out4 a0 a1 a2 a3 a4 (ix2 j p) = dlane a0 a1 a2 a3 a4 (ix4 j ⟨p.val / 128, by omega⟩ 1 ⟨p.val % 128, by omega⟩) := by
    pointwise [out4]
  rw [e, dlane_apply H]
  rfl

end

end Cert.FoxReferenceIdeal.Value

end
-- ==== Proof.FoxHost.lean ====
/-
  What the fox kernel's host code hands to its call, over the reals: the rounded arguments head by head, the columns that carry
  the cumulated decay, and each query's logarithm of the sum of the exponentials.
-/
module

public import Idealize.ShloMosaic.Lib.Claim
public import Idealize.ShloMosaic.Lib.Pipeline.ValueKit
public import Idealize.ShloMosaic.Lib.WordCmp
public import proofs.«01_k».proof.Proof.Gen.FoxKernelIdeal.Frame
public import proofs.«01_k».proof.Proof.FoxRef
public import proofs.«01_k».proof.Proof.FoxFrame

@[expose] public section

set_option maxRecDepth 16384

noncomputable section

namespace Cert.FoxKernelIdeal.Value

open Idealize.ShloMosaic Idealize.ShloMosaic.Ideal Idealize.SL.Sem Cert.FoxKernelIdeal Cert.FoxKernelIdeal.Gen

/-! ## The host's arrays as functions of the arguments -/

/-- An array head by head as columns, rounded. -/
def flat (x : FVec Ideal S16x4096x64 .f32) : FVec Ideal S4096x1024 .bf16 :=
  truncf .bf16 (shapeCast S4096x1024 (transpose S4096x16x64 [1, 0, 2] x transposes_S16x4096x64_S4096x16x64_1_0_2)
    shapeCasts_S4096x16x64_S4096x1024) bitsLt_bf16_f32

/-- The same with the heads of each pair swapped. -/
def beside (x : FVec Ideal S16x4096x64 .f32) : FVec Ideal S4096x1024 .bf16 :=
  flat (shapeCast S16x4096x64 (Host.reverse [1] (shapeCast S8x2x4096x64 x shapeCasts_S16x4096x64_S8x2x4096x64))
    shapeCasts_S8x2x4096x64_S16x4096x64)

/-- The cumulated decay and the remainders of rounding it once and twice, in three columns. -/
def pieces (x : FVec Ideal S16x4096 .f32) : FVec Ideal S16x4096x3 .f32 :=
  let hi : FVec Ideal S16x4096 .bf16 := truncf .bf16 x bitsLt_bf16_f32
  let r1 : FVec Ideal S16x4096 .f32 := subf x (extf .f32 hi bitsLt_bf16_f32)
  let mid : FVec Ideal S16x4096 .bf16 := truncf .bf16 r1 bitsLt_bf16_f32
  let lo : FVec Ideal S16x4096 .bf16 := truncf .bf16 (subf r1 (extf .f32 mid bitsLt_bf16_f32)) bitsLt_bf16_f32
  let out (y : FVec Ideal S16x4096 .bf16) : FVec Ideal S16x4096x1 .f32 :=
    broadcastInDim S16x4096x1 ![0, 1] bcast_S16x4096_S16x4096x1_0_1 (extf .f32 y bitsLt_bf16_f32)
  concatenate S16x4096x3 2 [⟨S16x4096x1, out hi⟩, ⟨S16x4096x1, out mid⟩, ⟨S16x4096x1, out lo⟩]
    concatenates_S16x4096x1_S16x4096x1_S16x4096x1_S16x4096x3_d2

/-- Two triples of columns and 58 columns of zeros. -/
def cat (x y : FVec Ideal S16x4096x3 .f32) : FVec Ideal S16x4096x64 .f32 :=
  concatenate S16x4096x64 2 [⟨S16x4096x3, x⟩, ⟨S16x4096x3, y⟩,
    ⟨S16x4096x58, broadcastInDim S16x4096x58 ![] bcast_S_S16x4096x58 (constant (F := Ideal) S_ .f32 0x00000000#32)⟩]
    concatenates_S16x4096x3_S16x4096x3_S16x4096x58_S16x4096x64_d2

/-- Three columns of ones. -/
def ones : FVec Ideal S16x4096x3 .f32 :=
  broadcastInDim S16x4096x3 ![] bcast_S_S16x4096x3 (constant (F := Ideal) S_ .f32 0x3F800000#32)

/-- The scores before the mask. -/
def hLogits (a0 a1 : FVec Ideal S16x4096x64 .f32) (a3 : FVec Ideal S16x4096 .f32) : FVec Ideal S16x4096x4096 .f32 :=
  subf (addf (Host.dotGeneral dot_S16x4096x64_S16x4096x64_S16x4096x4096_2_2_1_1_0_0 none a0 a1)
      (broadcastInDim S16x4096x4096 ![0, 1, 2] bcast_S16x4096x1_S16x4096x4096_0_1_2
        (broadcastInDim S16x4096x1 ![0, 1] bcast_S16x4096_S16x4096x1_0_1 a3)))
    (broadcastInDim S16x4096x4096 ![0, 1, 2] bcast_S16x1x4096_S16x4096x4096_0_1_2
      (broadcastInDim S16x1x4096 ![0, 2] bcast_S16x4096_S16x1x4096_0_2 a3))

/-- The scores, `-∞` after the query. -/
def hMasked (x : FVec Ideal S16x4096x4096 .f32) : FVec Ideal S16x4096x4096 .f32 :=
  select Cert.FoxReferenceIdeal.Value.causal x (broadcastInDim S16x4096x4096 ![] bcast_S_S16x4096x4096 (id (constant (F := Ideal) S_ .f32 0xFF800000#32)))

/-- Each query's largest entry. -/
def hTop (x : FVec Ideal S16x4096x4096 .f32) : FVec Ideal S16x4096 .f32 :=
  Host.reduce FloatOps.maximumf x (constant (F := Ideal) S_ .f32 0xFF800000#32) reducesTo_S16x4096x4096_S16x4096_d2 h_S_

/-- The exponentials of the entries less that largest. -/
def hEx (x : FVec Ideal S16x4096x4096 .f32) (t : FVec Ideal S16x4096 .f32) : FVec Ideal S16x4096x4096 .f32 :=
  Host.exp (subf x (broadcastInDim S16x4096x4096 ![0, 1, 2] bcast_S16x4096x1_S16x4096x4096_0_1_2
    (broadcastInDim S16x4096x1 ![0, 1] bcast_S16x4096_S16x4096x1_0_1 t)))

/-- The largest entry and the logarithm of the sum of those exponentials. -/
def hLse (x : FVec Ideal S16x4096x4096 .f32) : FVec Ideal S16x4096 .f32 :=
  addf (hTop x) (Host.log (Host.reduceAdd (hEx x (hTop x)) (constant (F := Ideal) S_ .f32 0x00000000#32)
    reducesTo_S16x4096x4096_S16x4096_d2 h_S_))

section
variable (m : (ℓ : Loc nD τ sig) → Buf (Elt Ideal) ℓ) (c : Dev nD)

theorem V_56 : V m c main_v56 = flat (m (c.tc.loc main_arg0)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_59 : V m c main_v59 = flat (m (c.tc.loc main_arg1)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_62 : V m c main_v62 = flat (m (c.tc.loc main_arg2)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_63 : V m c main_v63 = transpose S1024x4096 [1, 0] (flat (m (c.tc.loc main_arg1))) transposes_S4096x1024_S1024x4096_1_0 := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_45 : V m c main_v45 = beside (cat (pieces (m (c.tc.loc main_arg3))) ones) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_53 : V m c main_v53 = beside (cat ones (Host.negf (pieces (m (c.tc.loc main_arg3))))) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_64 : V m c main_v64 = transpose S1024x4096 [1, 0] (beside (cat ones (Host.negf (pieces (m (c.tc.loc main_arg3)))))) transposes_S4096x1024_S1024x4096_1_0 := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_22 : V m c main_v22 = hLse (hMasked (hLogits (m (c.tc.loc main_arg0)) (m (c.tc.loc main_arg1)) (m (c.tc.loc main_arg3)))) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end

/-! ## Those arrays at an index -/

theorem flat_apply (x : FVec Ideal S16x4096x64 .f32) (i : Fin 4096) (p : Fin 1024) :
    flat x (ix2 i p) = x (ix3 ⟨p.val / 64, by omega⟩ i ⟨p.val % 64, by omega⟩) := by
  pointwise [flat]

theorem beside_apply (x : FVec Ideal S16x4096x64 .f32) (i : Fin 4096) (p : Fin 1024) :
    beside x (ix2 i p) = x (ix3 ⟨p.val / 128 * 2 + (1 - p.val / 64 % 2), by omega⟩ i ⟨p.val % 64, by omega⟩) := by
  unfold beside
  rw [flat_apply]
  pointwise
  simp only [List.mem_singleton, zero_ne_one, if_false, if_true, OfNat.ofNat_ne_one, Fin.rev]
  refine congrArg (fun h => x (ix3 h i _)) (Fin.ext ?_)
  show p.val / 64 / 2 * 2 + (2 - (p.val / 64 % 2 + 1)) = p.val / 128 * 2 + (1 - p.val / 64 % 2)
  omega

theorem pieces_apply (x : FVec Ideal S16x4096 .f32) (h : Fin 16) (i : Fin 4096) (p : Fin 3) : pieces x (ix3 h i p)
    = if p.val < 1 then x (ix2 h i) else if p.val - 1 < 1 then x (ix2 h i) - x (ix2 h i)
      else x (ix2 h i) - x (ix2 h i) - (x (ix2 h i) - x (ix2 h i)) := by
  pointwise [pieces]
  simp only [dite_eq_ite]

theorem cat_apply (x y : FVec Ideal S16x4096x3 .f32) (h : Fin 16) (i : Fin 4096) (p : Fin 64) : cat x y (ix3 h i p)
    = if h0 : p.val < 3 then x (ix3 h i ⟨p.val, h0⟩) else if h1 : p.val - 3 < 3 then y (ix3 h i ⟨p.val - 3, h1⟩) else (0 : EReal) := by
  pointwise [cat]

theorem ones_apply (h : Fin 16) (i : Fin 4096) (p : Fin 3) : ones (ix3 h i p) = (1 : EReal) := by
  pointwise [ones]

section
variable {A : FoxMath.Args} {a0 a1 a2 : FVec Ideal S16x4096x64 .f32} {a3 : FVec Ideal S16x4096 .f32} {a4 : FVec Ideal S4096x2048 .f32}
variable (H : A.Is a0 a1 a2 a3 a4)
include H

theorem pieces_real (h : Fin 16) (i : Fin 4096) (p : Fin 3) : pieces a3 (ix3 h i p) = ((if p.val < 1 then A.c h i else 0 : ℝ) : EReal) := by
  rw [pieces_apply, H.c]
  simp only [← EReal.coe_sub, sub_self]
  split_ifs <;> rfl

/-- The columns beside the queries. -/
theorem auxq_apply (h : Fin 16) (i : Fin 4096) (d : Fin 64) : cat (pieces a3) ones (ix3 h i d) = ((A.auxq h i d : ℝ) : EReal) := by
  rw [cat_apply, FoxMath.Args.auxq]
  simp only [pieces_real H, ones_apply]
  split_ifs <;> first | omega | rfl

/-- The columns beside the keys. -/
theorem auxk_apply (h : Fin 16) (i : Fin 4096) (d : Fin 64) :
    cat ones (Host.negf (pieces a3)) (ix3 h i d) = ((A.auxk h i d : ℝ) : EReal) := by
  rw [cat_apply, FoxMath.Args.auxk]
  have e (p : Fin 3) : Host.negf (pieces a3) (ix3 h i p) = ((-(if p.val < 1 then A.c h i else 0) : ℝ) : EReal) := by
    rw [EReal.coe_neg, ← pieces_real H]
    pointwise
  simp only [e, ones_apply]
  split_ifs <;> first | omega | rfl | exact congrArg _ neg_zero

theorem hLogits_apply (h : Fin 16) (i j : Fin 4096) : hLogits a0 a1 a3 (ix3 h i j) = ((A.S h i j : ℝ) : EReal) := by
  have e : hLogits a0 a1 a3 (ix3 h i j) = ∑ x, a0 (ix3 h i x) * a1 (ix3 h j x) + a3 (ix2 h i) - a3 (ix2 h j) := by
    pointwise [hLogits]
  rw [e]
  simp only [H.q, H.k, H.c, FoxMath.coe_dot]
  rfl

theorem hMasked_apply (h : Fin 16) (i j : Fin 4096) :
    hMasked (hLogits a0 a1 a3) (ix3 h i j) = if j.val ≤ i.val then ((A.S h i j : ℝ) : EReal) else ⊥ := by
  have e (x : FVec Ideal S16x4096x4096 .f32) : hMasked x (ix3 h i j)
      = Scalar.select (Cert.FoxReferenceIdeal.Value.causal (ix3 h i j)) (x (ix3 h i j)) (ofBits FTy.f32 4286578688#32) := by
    pointwise [hMasked]
    rfl
  rw [e, Cert.FoxReferenceIdeal.Value.causal_apply, hLogits_apply H, Cert.FoxReferenceIdeal.Value.ofBits_bot]
  simp (disch := omega) only [hlo_ix]

/-- The logarithm of the sum of the exponentials of the scores. -/
theorem hLse_apply (h : Fin 16) (i : Fin 4096) : hLse (hMasked (hLogits a0 a1 a3)) (ix2 h i) = ((Real.log (A.Z h i) : ℝ) : EReal) := by
  obtain ⟨t, ht⟩ : ∃ t : ℝ, hTop (hMasked (hLogits a0 a1 a3)) (ix2 h i) = (t : EReal) := by
    obtain ⟨t, ht⟩ := Cert.FoxReferenceIdeal.Value.reduceMax_real (hMasked (hLogits a0 a1 a3)) h i i
      (fun x => by rw [hMasked_apply H]; split_ifs <;> simp) (by rw [hMasked_apply H, if_pos le_rfl]; simp)
    exact ⟨t, (max_eq_right bot_le).symm.trans ht⟩
  have e (x : FVec Ideal S16x4096x4096 .f32) (y : FVec Ideal S16x4096 .f32) :
      addf y (Host.log (Host.reduceAdd (hEx x y) (constant (F := Ideal) S_ .f32 0x00000000#32) reducesTo_S16x4096x4096_S16x4096_d2 h_S_)) (ix2 h i)
        = y (ix2 h i) + Ideal.log (∑ j, Ideal.exp (x (ix3 h i j) - y (ix2 h i))) := by
    pointwise [hEx]
  have ex (j : Fin 4096) : Ideal.exp (hMasked (hLogits a0 a1 a3) (ix3 h i j) - (t : EReal)) = ((A.ex h i j t : ℝ) : EReal) := by
    rw [hMasked_apply H, FoxMath.Args.ex]
    split_ifs
    · rw [← EReal.coe_sub]; rfl
    · rfl
  unfold hLse
  rw [e, ht]
  simp only [ex, FoxMath.coe_sum]
  rw [Ideal.log_coe, if_neg (not_le.2 (A.sum_ex_pos h i t)), ← EReal.coe_add, A.lse_eq]

end

/-! ## The blocks of one grid point -/

/-- The head whose numbers column `q` of pair `p` holds, the other head of the pair, and the place in the head. -/
def hd (p : Fin 8) (q : Fin 128) : Fin 16 := ⟨p.val * 2 + q.val / 64, by omega⟩
@[inherit_doc hd] def other (p : Fin 8) (q : Fin 128) : Fin 16 := ⟨p.val * 2 + (1 - q.val / 64), by omega⟩
@[inherit_doc hd] def dim (q : Fin 128) : Fin 64 := ⟨q.val % 64, by omega⟩

/-- What the blocks of pair `p` hold. -/
structure BlkIs (A : FoxMath.Args) (p : Fin 8) (B : Run.Blk Ideal) : Prop where
  x1 : ∀ r q, B.x1 (ix2 r q) = ((A.q (hd p q) r (dim q) : ℝ) : EReal)
  x2 : ∀ r q, B.x2 (ix2 r q) = ((A.k (hd p q) r (dim q) : ℝ) : EReal)
  x3 : ∀ r q, B.x3 (ix2 r q) = ((A.auxq (other p q) r (dim q) : ℝ) : EReal)
  x4 : ∀ r q, B.x4 (ix2 r q) = ((A.auxk (other p q) r (dim q) : ℝ) : EReal)
  x5 : ∀ q r, B.x5 (ix2 q r) = ((A.k (hd p q) r (dim q) : ℝ) : EReal)
  x6 : ∀ q r, B.x6 (ix2 q r) = ((A.auxk (other p q) r (dim q) : ℝ) : EReal)
  x7 : ∀ r q, B.x7 (ix2 r q) = ((A.v (hd p q) r (dim q) : ℝ) : EReal)
  x8 : ∀ h r, B.x8 (ix2 h r) = ((Real.log (A.Z h r) : ℝ) : EReal)
  x9 : ∀ r q, B.x9 (ix2 r q) = ((A.g (hd p q) r (dim q) : ℝ) : EReal)
  a0 : B.a0 = BitVec.ofNat 32 p.val

/-- The block each window reads or writes at a grid point. -/
theorem idx : ∀ t : Fin cfg0.N, win0_0.index t = ![0, t.val] ∧ win0_1.index t = ![0, t.val] ∧ win0_2.index t = ![0, t.val]
    ∧ win0_3.index t = ![0, t.val] ∧ win0_4.index t = ![t.val, 0] ∧ win0_5.index t = ![t.val, 0] ∧ win0_6.index t = ![0, t.val]
    ∧ win0_7.index t = ![0, 0] ∧ win0_8.index t = ![0, 8 + t.val] ∧ win0_9.index t = ![0, t.val] ∧ win0_10.index t = ![0, t.val]
    ∧ win0_11.index t = ![0, t.val] ∧ win0_12.index t = ![0, t.val] ∧ win0_13.index t = ![0, t.val]
    ∧ ((grid0.coords t) 0).val = t.val :=
  (by decide +kernel : ∀ t : Fin grid0.N, _)

section
variable (m : (ℓ : Loc nD τ sig) → Buf (Elt Ideal) ℓ) (c : Dev nD) {A : FoxMath.Args}

theorem N_0 : cfg0.N = 8 := rfl

theorem lt8 (t : Fin cfg0.N) : t.val < 8 := t.isLt

/-! Reading a block of each operand. -/

theorem read_0 (t : Fin cfg0.N) (X : Buf (Elt Ideal) ((c.tc : Thread nD τ).loc main_v56)) (r : Fin 4096) (q : Fin 128) :
    ((cfg0.win 0).blk t).view.read (Elt Ideal) X (ix2 r q) = X (ix2 r ⟨128 * t.val + q.val, by have := lt8 t; omega⟩) := by
  obtain ⟨i0, i1, i2, i3, i4, i5, i6, i7, i8, -, -, -, -, -, ic⟩ := idx t
  blk_simp [i0]
  blk_ext [i0]

theorem read_1 (t : Fin cfg0.N) (X : Buf (Elt Ideal) ((c.tc : Thread nD τ).loc main_v59)) (r : Fin 4096) (q : Fin 128) :
    ((cfg0.win 1).blk t).view.read (Elt Ideal) X (ix2 r q) = X (ix2 r ⟨128 * t.val + q.val, by have := lt8 t; omega⟩) := by
  obtain ⟨i0, i1, i2, i3, i4, i5, i6, i7, i8, -, -, -, -, -, ic⟩ := idx t
  blk_simp [i1]
  blk_ext [i1]

theorem read_2 (t : Fin cfg0.N) (X : Buf (Elt Ideal) ((c.tc : Thread nD τ).loc main_v45)) (r : Fin 4096) (q : Fin 128) :
    ((cfg0.win 2).blk t).view.read (Elt Ideal) X (ix2 r q) = X (ix2 r ⟨128 * t.val + q.val, by have := lt8 t; omega⟩) := by
  obtain ⟨i0, i1, i2, i3, i4, i5, i6, i7, i8, -, -, -, -, -, ic⟩ := idx t
  blk_simp [i2]
  blk_ext [i2]

theorem read_3 (t : Fin cfg0.N) (X : Buf (Elt Ideal) ((c.tc : Thread nD τ).loc main_v53)) (r : Fin 4096) (q : Fin 128) :
    ((cfg0.win 3).blk t).view.read (Elt Ideal) X (ix2 r q) = X (ix2 r ⟨128 * t.val + q.val, by have := lt8 t; omega⟩) := by
  obtain ⟨i0, i1, i2, i3, i4, i5, i6, i7, i8, -, -, -, -, -, ic⟩ := idx t
  blk_simp [i3]
  blk_ext [i3]

theorem read_4 (t : Fin cfg0.N) (X : Buf (Elt Ideal) ((c.tc : Thread nD τ).loc main_v63)) (q : Fin 128) (r : Fin 4096) :
    ((cfg0.win 4).blk t).view.read (Elt Ideal) X (ix2 q r) = X (ix2 ⟨128 * t.val + q.val, by have := lt8 t; omega⟩ r) := by
  obtain ⟨i0, i1, i2, i3, i4, i5, i6, i7, i8, -, -, -, -, -, ic⟩ := idx t
  blk_simp [i4]
  blk_ext [i4]

theorem read_5 (t : Fin cfg0.N) (X : Buf (Elt Ideal) ((c.tc : Thread nD τ).loc main_v64)) (q : Fin 128) (r : Fin 4096) :
    ((cfg0.win 5).blk t).view.read (Elt Ideal) X (ix2 q r) = X (ix2 ⟨128 * t.val + q.val, by have := lt8 t; omega⟩ r) := by
  obtain ⟨i0, i1, i2, i3, i4, i5, i6, i7, i8, -, -, -, -, -, ic⟩ := idx t
  blk_simp [i5]
  blk_ext [i5]

theorem read_6 (t : Fin cfg0.N) (X : Buf (Elt Ideal) ((c.tc : Thread nD τ).loc main_v62)) (r : Fin 4096) (q : Fin 128) :
    ((cfg0.win 6).blk t).view.read (Elt Ideal) X (ix2 r q) = X (ix2 r ⟨128 * t.val + q.val, by have := lt8 t; omega⟩) := by
  obtain ⟨i0, i1, i2, i3, i4, i5, i6, i7, i8, -, -, -, -, -, ic⟩ := idx t
  blk_simp [i6]
  blk_ext [i6]

theorem read_7 (t : Fin cfg0.N) (X : Buf (Elt Ideal) ((c.tc : Thread nD τ).loc main_v22)) (h : Fin 16) (r : Fin 4096) :
    ((cfg0.win 7).blk t).view.read (Elt Ideal) X (ix2 h r) = X (ix2 h r) := by
  obtain ⟨i0, i1, i2, i3, i4, i5, i6, i7, i8, -, -, -, -, -, ic⟩ := idx t
  blk_simp [i7]
  blk_ext [i7]

theorem read_8 (t : Fin cfg0.N) (X : Buf (Elt Ideal) ((c.tc : Thread nD τ).loc main_arg4)) (r : Fin 4096) (q : Fin 128) :
    ((cfg0.win 8).blk t).view.read (Elt Ideal) X (ix2 r q) = X (ix2 r ⟨1024 + (128 * t.val + q.val), by have := lt8 t; omega⟩) := by
  obtain ⟨i0, i1, i2, i3, i4, i5, i6, i7, i8, -, -, -, -, -, ic⟩ := idx t
  blk_simp [i8]
  blk_ext [i8]

theorem blk_0 (t : Fin cfg0.N) (r : Fin 4096) (q : Fin 128) : iblk m c 0 t (ix2 r q) = V m c main_v56 (ix2 r ⟨128 * t.val + q.val, by have := lt8 t; omega⟩) := by
  unfold iblk
  exact read_0 c t (V m c (Pipeline.arrRef spec0 0)) r q

theorem blk_1 (t : Fin cfg0.N) (r : Fin 4096) (q : Fin 128) : iblk m c 1 t (ix2 r q) = V m c main_v59 (ix2 r ⟨128 * t.val + q.val, by have := lt8 t; omega⟩) := by
  unfold iblk
  exact read_1 c t (V m c (Pipeline.arrRef spec0 1)) r q

theorem blk_2 (t : Fin cfg0.N) (r : Fin 4096) (q : Fin 128) : iblk m c 2 t (ix2 r q) = V m c main_v45 (ix2 r ⟨128 * t.val + q.val, by have := lt8 t; omega⟩) := by
  unfold iblk
  exact read_2 c t (V m c (Pipeline.arrRef spec0 2)) r q

theorem blk_3 (t : Fin cfg0.N) (r : Fin 4096) (q : Fin 128) : iblk m c 3 t (ix2 r q) = V m c main_v53 (ix2 r ⟨128 * t.val + q.val, by have := lt8 t; omega⟩) := by
  unfold iblk
  exact read_3 c t (V m c (Pipeline.arrRef spec0 3)) r q

theorem blk_4 (t : Fin cfg0.N) (q : Fin 128) (r : Fin 4096) : iblk m c 4 t (ix2 q r) = V m c main_v63 (ix2 ⟨128 * t.val + q.val, by have := lt8 t; omega⟩ r) := by
  unfold iblk
  exact read_4 c t (V m c (Pipeline.arrRef spec0 4)) q r

theorem blk_5 (t : Fin cfg0.N) (q : Fin 128) (r : Fin 4096) : iblk m c 5 t (ix2 q r) = V m c main_v64 (ix2 ⟨128 * t.val + q.val, by have := lt8 t; omega⟩ r) := by
  unfold iblk
  exact read_5 c t (V m c (Pipeline.arrRef spec0 5)) q r

theorem blk_6 (t : Fin cfg0.N) (r : Fin 4096) (q : Fin 128) : iblk m c 6 t (ix2 r q) = V m c main_v62 (ix2 r ⟨128 * t.val + q.val, by have := lt8 t; omega⟩) := by
  unfold iblk
  exact read_6 c t (V m c (Pipeline.arrRef spec0 6)) r q

theorem blk_7 (t : Fin cfg0.N) (h : Fin 16) (r : Fin 4096) : iblk m c 7 t (ix2 h r) = V m c main_v22 (ix2 h r) := by
  unfold iblk
  exact read_7 c t (V m c (Pipeline.arrRef spec0 7)) h r

theorem blk_8 (t : Fin cfg0.N) (r : Fin 4096) (q : Fin 128) : iblk m c 8 t (ix2 r q) = V m c main_arg4 (ix2 r ⟨1024 + (128 * t.val + q.val), by have := lt8 t; omega⟩) := by
  unfold iblk
  exact read_8 c t (V m c (Pipeline.arrRef spec0 8)) r q

set_option maxHeartbeats 2000000 in
/-- The blocks of grid point `t` hold pair `t`'s numbers. -/
theorem blk_is (H : A.Is (m (c.tc.loc main_arg0)) (m (c.tc.loc main_arg1)) (m (c.tc.loc main_arg2)) (m (c.tc.loc main_arg3)) (m (c.tc.loc main_arg4)))
    (t : Fin cfg0.N) : BlkIs A (t.cast N_0) (Run.blkAt m c t) := by
  obtain ⟨i0, i1, i2, i3, i4, i5, i6, i7, i8, -, -, -, -, -, ic⟩ := idx t
  have ht : t.val < 8 := t.isLt
  have hhd (q : Fin 128) (h : (128 * t.val + q.val) / 64 < 16) : (⟨(128 * t.val + q.val) / 64, h⟩ : Fin 16) = hd (t.cast N_0) q :=
    Fin.ext (by show (128 * t.val + q.val) / 64 = t.val * 2 + q.val / 64; omega)
  have hot (q : Fin 128) (h : (128 * t.val + q.val) / 128 * 2 + (1 - (128 * t.val + q.val) / 64 % 2) < 16) :
      (⟨(128 * t.val + q.val) / 128 * 2 + (1 - (128 * t.val + q.val) / 64 % 2), h⟩ : Fin 16) = other (t.cast N_0) q :=
    Fin.ext (by show (128 * t.val + q.val) / 128 * 2 + (1 - (128 * t.val + q.val) / 64 % 2) = t.val * 2 + (1 - q.val / 64); omega)
  have hdm (q : Fin 128) (h : (128 * t.val + q.val) % 64 < 64) : (⟨(128 * t.val + q.val) % 64, h⟩ : Fin 64) = dim q :=
    Fin.ext (by show (128 * t.val + q.val) % 64 = q.val % 64; omega)
  have tr (x : FVec Ideal S4096x1024 .bf16) (p : Fin 1024) (i : Fin 4096) :
      transpose S1024x4096 [1, 0] x transposes_S4096x1024_S1024x4096_1_0 (ix2 p i) = x (ix2 i p) := by pointwise
  constructor
  · intro r q
    refine (blk_0 m c t r q).trans ?_
    rw [V_56, flat_apply, H.q, hhd, hdm]
  · intro r q
    refine (blk_1 m c t r q).trans ?_
    rw [V_59, flat_apply, H.k, hhd, hdm]
  · intro r q
    refine (blk_2 m c t r q).trans ?_
    rw [V_45, beside_apply, auxq_apply H, hot, hdm]
  · intro r q
    refine (blk_3 m c t r q).trans ?_
    rw [V_53, beside_apply, auxk_apply H, hot, hdm]
  · intro q r
    refine (blk_4 m c t q r).trans ?_
    rw [V_63, tr, flat_apply, H.k, hhd, hdm]
  · intro q r
    refine (blk_5 m c t q r).trans ?_
    rw [V_64, tr, beside_apply, auxk_apply H, hot, hdm]
  · intro r q
    refine (blk_6 m c t r q).trans ?_
    rw [V_62, flat_apply, H.v, hhd, hdm]
  · intro h r
    refine (blk_7 m c t h r).trans ?_
    rw [V_22, hLse_apply H]
  · intro r q
    refine (blk_8 m c t r q).trans ?_
    rw [V_main_arg4, ← H.g]
    exact congrArg (fun p => m (c.tc.loc main_arg4) (ix2 r p)) (Fin.ext (by show 1024 + (128 * t.val + q.val) = 1024 + ((t.val * 2 + q.val / 64) * 64 + q.val % 64); omega))
  · show BitVec.ofNat 32 ((grid0.coords t) 0).val = _
    rw [ic]
    rfl

end

end Cert.FoxKernelIdeal.Value

end
-- ==== Proof.FoxPay.lean ====
/-
  What the fox kernel's arithmetic computes on one pair of tiles, entry by entry over the extended reals, for arrays given by variables.
-/
module

public import Idealize.ShloMosaic.Lib.Claim
public import Idealize.ShloMosaic.Lib.Pipeline.ValueKit
public import Idealize.ShloMosaic.Lib.WordCmp
public import proofs.«01_k».proof.Proof.FoxHost

@[expose] public section

set_option maxRecDepth 16384

noncomputable section

namespace Cert.FoxKernelIdeal.Value

open Idealize.ShloMosaic Idealize.ShloMosaic.Ideal Idealize.SL.Sem Cert.FoxKernelIdeal Cert.FoxKernelIdeal.Gen

/-! ## Selections by index -/

/-- The first in the lower half of the lanes, the second in the upper half. -/
def mix (l : Fin 128) (x y : EReal) : EReal := if l.val < 64 then x else y

/-- A choice by the half of the lanes. -/
theorem sel_lane (l : Fin 128) (x y : EReal) : Scalar.select (IntOp.cmpi .slt (BitVec.ofNat 32 l.val) 64#32) x y = mix l x y := by
  have := l.isLt
  unfold mix
  simp (disch := omega) only [hlo_ix]

/-- A choice by the order of a query and a key of one tile. -/
theorem sel_causal (c r : Fin 256) (x y : EReal) :
    Scalar.select (IntOp.cmpi .sge (BitVec.ofNat 32 c.val) (BitVec.ofNat 32 r.val)) x y = if r.val ≤ c.val then x else y := by
  have := c.isLt; have := r.isLt
  simp (disch := omega) only [hlo_ix]

/-- The mask's constant is minus infinity. -/
theorem mask_bot : (Named.named κ "mask" 0xF149F2CA#32 : Ideal .f32) = (⊥ : EReal) := rfl

/-- Row `r` of tile `j`. -/
def row (j : Fin 16) (r : Fin 256) : Fin 4096 := ⟨256 * j.val + r.val, by omega⟩

variable {α : Type}

theorem tile_apply (X : S4096x128.Idx → α) (j : Fin 16) (r : Fin 256) (l : Fin 128) : Run.tile X j (ix2 r l) = X (ix2 (row j r) l) := by
  unfold Run.tile VecWindow.window
  refine congrArg X (funext fun a => ?_)
  fin_cases a <;> apply Fin.ext <;> rw [Rect.emb_apply]
  · show 256 * j.val + 1 * r.val = 256 * j.val + r.val
    omega
  · show 0 + 1 * l.val = l.val
    omega

theorem tileT_apply (X : S128x4096.Idx → α) (j : Fin 16) (r : Fin 256) (l : Fin 128) : Run.tileT X j (ix2 l r) = X (ix2 l (row j r)) := by
  unfold Run.tileT VecWindow.window
  refine congrArg X (funext fun a => ?_)
  fin_cases a <;> apply Fin.ext <;> rw [Rect.emb_apply]
  · show 0 + 1 * l.val = l.val
    omega
  · show 256 * j.val + 1 * r.val = 256 * j.val + r.val
    omega

theorem tileR_apply (X : S16x4096.Idx → α) (j : Fin 16) (r : Fin 256) (h : Fin 16) : Run.tileR X j (ix2 h r) = X (ix2 h (row j r)) := by
  unfold Run.tileR VecWindow.window
  refine congrArg X (funext fun a => ?_)
  fin_cases a <;> apply Fin.ext <;> rw [Rect.emb_apply]
  · show 0 + 1 * h.val = h.val
    omega
  · show 256 * j.val + 1 * r.val = 256 * j.val + r.val
    omega

/-! ## The query tile's own arrays -/

variable (x y q k g h : FVec Ideal S256x128 .bf16) (d e : FVec Ideal S1x256 .f32) (P Q D E : FVec Ideal S256x256 .f32)
  (c r : Fin 256) (l : Fin 128)

theorem pay38_apply : (k0_pay38 k0_pay5 x y : FVec Ideal _ _) (ix2 c l) = mix l (x (ix2 c l)) (y (ix2 c l)) := by
  pointwise [k0_pay38, k0_pay36, k0_pay37, k0_pay5]
  exact sel_lane _ _ _

theorem pay39_apply : (k0_pay39 k0_pay5 x y : FVec Ideal _ _) (ix2 c l) = mix l (y (ix2 c l)) (x (ix2 c l)) := by
  pointwise [k0_pay39, k0_pay36, k0_pay37, k0_pay5]
  exact sel_lane _ _ _

theorem pay40_apply (x : FVec Ideal S256x128 .f32) : (k0_pay40 k0_pay5 x : FVec Ideal _ _) (ix2 c l) = mix l (x (ix2 c l)) (0) := by
  pointwise [k0_pay40, k0_pay5]
  exact sel_lane _ _ _

theorem pay41_apply (x : FVec Ideal S256x128 .f32) : (k0_pay41 k0_pay5 x : FVec Ideal _ _) (ix2 c l) = mix l (0) (x (ix2 c l)) := by
  pointwise [k0_pay41, k0_pay5]
  exact sel_lane _ _ _

theorem twice : ∀ p : Fin 8, Scalar.muli 2#32 (BitVec.ofNat 32 p.val) = BitVec.ofNat 32 (p.val * 2) := by decide

theorem twice_succ : ∀ p : Fin 8, Scalar.addi (Scalar.muli 2#32 (BitVec.ofNat 32 p.val)) 1#32 = BitVec.ofNat 32 (p.val * 2 + 1) := by decide

/-- The sum over the rows picks the row of the pair's first head. -/
theorem pay43_apply (p : Fin 8) (X : FVec Ideal S16x256 .f32) :
    (k0_pay43 (BitVec.ofNat 32 p.val) X : FVec Ideal _ _) (ix2 0 c) = X (ix2 ⟨p.val * 2, by omega⟩ c) := by
  pointwise [k0_pay43, k0_pay42]
  have hp := p.isLt
  rw [twice, Finset.sum_eq_single (⟨p.val * 2, by omega⟩ : Fin 16)]
  · simp (disch := omega) only [hlo_ix]
  · intro b _ hb
    have hb' : b.val ≠ p.val * 2 := fun e => hb (Fin.ext e)
    have := b.isLt
    simp (disch := omega) only [hlo_ix]
    rw [if_neg hb']
  · intro hn
    exact absurd (Finset.mem_univ _) hn

/-- The sum over the rows picks the row of the pair's second head. -/
theorem pay44_apply (p : Fin 8) (X : FVec Ideal S16x256 .f32) :
    (k0_pay44 (BitVec.ofNat 32 p.val) X : FVec Ideal _ _) (ix2 0 c) = X (ix2 ⟨p.val * 2 + 1, by omega⟩ c) := by
  pointwise [k0_pay44, k0_pay42]
  have hp := p.isLt
  rw [twice_succ, Finset.sum_eq_single (⟨p.val * 2 + 1, by omega⟩ : Fin 16)]
  · simp (disch := omega) only [hlo_ix]
  · intro b _ hb
    have hb' : b.val ≠ p.val * 2 + 1 := fun e => hb (Fin.ext e)
    have := b.isLt
    simp (disch := omega) only [hlo_ix]
    rw [if_neg hb']
  · intro hn
    exact absurd (Finset.mem_univ _) hn

/-! ## The weights of a pair of tiles -/

theorem pay11_apply : k0_pay11 k0_pay5 q d k x (ix2 r c)
    = Ideal.exp ((∑ l : Fin 128, mix l (k (ix2 r l)) (x (ix2 r l)) * q (ix2 c l)) - d (ix2 0 c)) := by
  pointwise [k0_pay11, k0_pay9, k0_pay10, k0_pay5]
  simp only [sel_lane]

theorem pay12_apply : k0_pay12 k0_pay5 q d k x (ix2 r c)
    = Ideal.exp ((∑ l : Fin 128, mix l (x (ix2 r l)) (k (ix2 r l)) * q (ix2 c l)) - d (ix2 0 c)) := by
  pointwise [k0_pay12, k0_pay9, k0_pay10, k0_pay5]
  simp only [sel_lane]

theorem pay57_apply : k0_pay57 k0_pay5 k0_pay7 q d k x (ix2 r c)
    = Ideal.exp ((if r.val ≤ c.val then ∑ l : Fin 128, mix l (k (ix2 r l)) (x (ix2 r l)) * q (ix2 c l) else ⊥) - d (ix2 0 c)) := by
  pointwise [k0_pay57, k0_pay55, k0_pay56, k0_pay5, k0_pay7]
  simp only [sel_lane, sel_causal, mask_bot]

theorem pay58_apply : k0_pay58 k0_pay5 k0_pay7 q d k x (ix2 r c)
    = Ideal.exp ((if r.val ≤ c.val then ∑ l : Fin 128, mix l (x (ix2 r l)) (k (ix2 r l)) * q (ix2 c l) else ⊥) - d (ix2 0 c)) := by
  pointwise [k0_pay58, k0_pay55, k0_pay56, k0_pay5, k0_pay7]
  simp only [sel_lane, sel_causal, mask_bot]

theorem pay13_apply : k0_pay13 g x (ix2 r c) = ∑ l : Fin 128, x (ix2 r l) * g (ix2 c l) := by
  pointwise [k0_pay13, k0_pay8]

theorem pay14_apply : k0_pay14 g x (ix2 r c) = ∑ l : Fin 128, x (ix2 r l) * g (ix2 c l) := by
  pointwise [k0_pay14, k0_pay8]

/-! ## The gradients of a pair of tiles -/

theorem pay28_apply : k0_pay28 d (k0_pay46 P) (k0_pay46 D) (ix2 r c) = P (ix2 r c) * (D (ix2 r c) - d (ix2 0 c)) := by
  pointwise [k0_pay28, k0_pay46]

theorem pay29_apply : k0_pay29 d (k0_pay46 P) (k0_pay46 D) (ix2 r c) = P (ix2 r c) * (D (ix2 r c) - d (ix2 0 c)) := by
  pointwise [k0_pay29, k0_pay46]

theorem pay45_apply : (k0_pay45 : FVec Ideal _ _) (ix2 0 c) = 0 := by
  pointwise [k0_pay45]

theorem pay48_apply : k0_pay48 d P D (ix2 0 c) = d (ix2 0 c) + ∑ r, P (ix2 r c) * D (ix2 r c) := by
  pointwise [k0_pay48]

theorem pay49_apply : k0_pay49 d P D (ix2 0 c) = d (ix2 0 c) + ∑ r, P (ix2 r c) * D (ix2 r c) := by
  pointwise [k0_pay49]

theorem pay47_apply (z : FVec Ideal S256x128 .f32) : k0_pay47 g h P Q z (ix2 r l)
    = z (ix2 r l) + (∑ c, P (ix2 r c) * g (ix2 c l) + ∑ c, Q (ix2 r c) * h (ix2 c l)) := by
  pointwise [k0_pay47]

theorem pay30_apply (z : FVec Ideal S256x128 .f32) : k0_pay30 k0_pay5 g h d e (k0_pay46 P) (k0_pay46 Q) (k0_pay46 D) (k0_pay46 E) z (ix2 r l)
    = z (ix2 r l) + mix l (∑ c, k0_pay28 d (k0_pay46 P) (k0_pay46 D) (ix2 r c) * g (ix2 c l))
        (∑ c, k0_pay29 e (k0_pay46 Q) (k0_pay46 E) (ix2 r c) * h (ix2 c l)) := by
  simp only [pay28_apply, pay29_apply]
  pointwise [k0_pay30, k0_pay28, k0_pay29, k0_pay5, k0_pay46]
  rw [sel_lane]

/-- The two lanes of a tile of queries that a lane of 128 gathers. -/
def lane (l : Fin 128) : Fin 256 := ⟨l.val, by omega⟩
@[inherit_doc lane] def lane' (l : Fin 128) : Fin 256 := ⟨128 + l.val, by omega⟩

theorem pay31_apply (z : FVec Ideal S256x128 .f32) : k0_pay31 d (k0_pay46 P) (k0_pay46 D) z (ix2 r l)
    = z (ix2 r l) + (k0_pay28 d (k0_pay46 P) (k0_pay46 D) (ix2 r (lane l)) + k0_pay28 d (k0_pay46 P) (k0_pay46 D) (ix2 r (lane' l))) := by
  simp only [pay28_apply]
  pointwise [k0_pay31, k0_pay28, k0_pay46]
  rfl

theorem pay69_apply (z : FVec Ideal S256x128 .f32) : k0_pay69 E z (ix2 r l) = z (ix2 r l) + (E (ix2 r (lane l)) + E (ix2 r (lane' l))) := by
  pointwise [k0_pay69]
  rfl

theorem pay68_apply : (k0_pay68 : FVec Ideal _ _) (ix2 l c) = 0 := by
  pointwise [k0_pay68]

theorem pay72_apply (z : FVec Ideal S128x256 .f32) (k x : FVec Ideal S128x256 .bf16) : k0_pay72 k0_pay6 z E k x (ix2 l c)
    = z (ix2 l c) + ∑ r, mix l (k (ix2 l r)) (x (ix2 l r)) * E (ix2 r c) := by
  pointwise [k0_pay72, k0_pay70, k0_pay71, k0_pay6]
  simp only [sel_lane]

theorem pay73_apply (z : FVec Ideal S128x256 .f32) (k x : FVec Ideal S128x256 .bf16) : k0_pay73 k0_pay6 z E k x (ix2 l c)
    = z (ix2 l c) + ∑ r, mix l (x (ix2 l r)) (k (ix2 l r)) * E (ix2 r c) := by
  pointwise [k0_pay73, k0_pay70, k0_pay71, k0_pay6]
  simp only [sel_lane]

theorem pay79_apply (x y : FVec Ideal S128x256 .f32) : k0_pay79 k0_pay6 x y (ix2 c l) = mix l (x (ix2 l c)) (y (ix2 l c)) := by
  pointwise [k0_pay79, k0_pay6]
  exact sel_lane _ _ _

/-- The four accumulators start from zero. -/
theorem zeros (i : Fin 4096) : (k0_pay1 : FVec Ideal _ _) (ix2 i l) = 0 ∧ (k0_pay2 : FVec Ideal _ _) (ix2 i l) = 0
    ∧ (k0_pay3 : FVec Ideal _ _) (ix2 i l) = 0 ∧ (k0_pay4 : FVec Ideal _ _) (ix2 i l) = 0 := by
  refine ⟨?_, ?_, ?_, ?_⟩
  · pointwise [k0_pay1]
  · pointwise [k0_pay2]
  · pointwise [k0_pay3]
  · pointwise [k0_pay4]

end Cert.FoxKernelIdeal.Value
-- ==== Proof.FoxValue.lean ====
/-
  What each tile of the fox kernel holds, over the reals: the weights of the attention, their gradients, and the five results of one
  pair of heads.
-/
module

public import Idealize.ShloMosaic.Lib.Claim
public import Idealize.ShloMosaic.Lib.Pipeline.ValueKit
public import Idealize.ShloMosaic.Lib.WordCmp
public import proofs.«01_k».proof.Proof.FoxPay

@[expose] public section

set_option maxRecDepth 16384

noncomputable section

namespace Cert.FoxKernelIdeal.Value

open Idealize.ShloMosaic Idealize.ShloMosaic.Ideal Idealize.SL.Sem Cert.FoxKernelIdeal Cert.FoxKernelIdeal.Gen

open FoxMath

/-! ## Sums over halves, tiles and lanes -/

/-- The same choice of reals. -/
def rmix (u v : Fin 64 → ℝ) (l : Fin 128) : ℝ := if l.val < 64 then u (dim l) else v (dim l)

theorem mix_coe (u v : Fin 64 → ℝ) (l : Fin 128) (x y : EReal) (hx : l.val < 64 → x = ((u (dim l) : ℝ) : EReal)) (hy : ¬ l.val < 64 → y = ((v (dim l) : ℝ) : EReal)) :
    mix l x y = ((rmix u v l : ℝ) : EReal) := by
  unfold mix rmix
  split
  · exact hx ‹_›
  · exact hy ‹_›

/-- A sum over the lanes, one half at a time. -/
theorem sum_rmix (u v u' v' : Fin 64 → ℝ) : ∑ l, rmix u v l * rmix u' v' l = ∑ d, u d * u' d + ∑ d, v d * v' d := by
  rw [Fin.sum_univ_add (a := 64) (b := 64)]
  refine congrArg₂ _ (Finset.sum_congr rfl fun d _ => ?_) (Finset.sum_congr rfl fun d _ => ?_)
  · have e : dim (Fin.castAdd 64 d) = d := Fin.ext (Nat.mod_eq_of_lt d.isLt)
    have h : (Fin.castAdd 64 d).val < 64 := d.isLt
    simp only [rmix, if_pos h, e]
  · have e : dim (Fin.natAdd 64 d) = d := Fin.ext (by show (64 + d.val) % 64 = d.val; omega)
    have h : ¬ (Fin.natAdd 64 d).val < 64 := by show ¬ 64 + d.val < 64; omega
    simp only [rmix, if_neg h, e]

/-- A sum over the queries or keys, tile by tile. -/
theorem sum_tiles (f : Fin 4096 → ℝ) : ∑ x, f x = ∑ j : Fin 16, ∑ r, f (row j r) := by
  rw [← Equiv.sum_comp (finProdFinEquiv : Fin 16 × Fin 256 ≃ Fin 4096), Fintype.sum_prod_type]
  refine Finset.sum_congr rfl fun j _ => Finset.sum_congr rfl fun r _ => congrArg f (Fin.ext ?_)
  exact Nat.add_comm _ _

/-- The same over the tiles before `n`, where the terms of the others vanish. -/
theorem sum_tiles_before (f : Fin 4096 → ℝ) (n : ℕ) (hn : n ≤ 16) (h : ∀ (j : Fin 16) r, n ≤ j.val → f (row j r) = 0) :
    ∑ j ∈ Finset.range n, ∑ r, f (row (Run.t16 j) r) = ∑ x, f x := by
  rw [sum_tiles]
  refine (Finset.sum_subset (Finset.range_mono hn) fun j hj hj' => ?_).trans ?_
  · have h16 := Finset.mem_range.1 hj
    refine Finset.sum_eq_zero fun r _ => h _ r ?_
    rw [Run.val_t16 h16]
    simpa using hj'
  · rw [Finset.sum_range]
    simp only [Run.t16_val]

/-- The queries of one lane of 128: two of every tile. -/
theorem sum_lanes (f : Fin 4096 → ℝ) (l : Fin 128) :
    ∑ k ∈ Finset.range 16, (f (row (Run.t16 k) (lane l)) + f (row (Run.t16 k) (lane' l))) = ∑ a : Fin 32, f ⟨a.val * 128 + l.val, by omega⟩ := by
  rw [← Equiv.sum_comp (finProdFinEquiv : Fin 16 × Fin 2 ≃ Fin 32), Fintype.sum_prod_type, Finset.sum_range]
  refine Finset.sum_congr rfl fun k _ => ?_
  rw [Fin.sum_univ_two, Run.t16_val]
  refine congrArg₂ _ (congrArg f (Fin.ext ?_)) (congrArg f (Fin.ext ?_))
  · show 256 * k.val + l.val = (0 + 2 * k.val) * 128 + l.val
    omega
  · show 256 * k.val + (128 + l.val) = (1 + 2 * k.val) * 128 + l.val
    omega

/-! ## The tiles of one pair of heads -/

variable {A : FoxMath.Args} {p : Fin 8} {B : Run.Blk Ideal} (H : BlkIs A p B)

/-- The two heads of a pair. -/
def h0 (p : Fin 8) : Fin 16 := ⟨p.val * 2, by omega⟩
@[inherit_doc h0] def h1 (p : Fin 8) : Fin 16 := ⟨p.val * 2 + 1, by omega⟩

theorem hd_lo {l : Fin 128} (h : l.val < 64) : hd p l = h0 p := Fin.ext (by show p.val * 2 + l.val / 64 = p.val * 2; omega)
theorem hd_hi {l : Fin 128} (h : ¬ l.val < 64) : hd p l = h1 p := Fin.ext (by show p.val * 2 + l.val / 64 = p.val * 2 + 1; omega)
theorem other_lo {l : Fin 128} (h : l.val < 64) : other p l = h1 p := Fin.ext (by show p.val * 2 + (1 - l.val / 64) = p.val * 2 + 1; omega)
theorem other_hi {l : Fin 128} (h : ¬ l.val < 64) : other p l = h0 p := Fin.ext (by show p.val * 2 + (1 - l.val / 64) = p.val * 2; omega)

variable (k j : ℕ) (c r : Fin 256) (l : Fin 128)

include H

theorem qa_apply : B.qa k (ix2 c l) = ((rmix (A.q (h0 p) (row (Run.t16 k) c)) (A.auxq (h0 p) (row (Run.t16 k) c)) l : ℝ) : EReal) := by
  unfold Run.Blk.qa
  rw [pay38_apply, tile_apply, tile_apply, H.x1, H.x3]
  exact mix_coe _ _ _ _ _ (fun h => by rw [hd_lo h]) (fun h => by rw [other_hi h])

theorem qb_apply : B.qb k (ix2 c l) = ((rmix (A.auxq (h1 p) (row (Run.t16 k) c)) (A.q (h1 p) (row (Run.t16 k) c)) l : ℝ) : EReal) := by
  unfold Run.Blk.qb
  rw [pay39_apply, tile_apply, tile_apply, H.x1, H.x3]
  exact mix_coe _ _ _ _ _ (fun h => by rw [other_lo h]) (fun h => by rw [hd_hi h])

theorem ga_apply : B.ga k (ix2 c l) = ((rmix (A.g (h0 p) (row (Run.t16 k) c)) (fun _ => 0) l : ℝ) : EReal) := by
  unfold Run.Blk.ga
  rw [pay40_apply, tile_apply, H.x9]
  exact mix_coe _ _ _ _ _ (fun h => by rw [hd_lo h]) (fun _ => rfl)

theorem gb_apply : B.gb k (ix2 c l) = ((rmix (fun _ => 0) (A.g (h1 p) (row (Run.t16 k) c)) l : ℝ) : EReal) := by
  unfold Run.Blk.gb
  rw [pay41_apply, tile_apply, H.x9]
  exact mix_coe _ _ _ _ _ (fun _ => rfl) (fun h => by rw [hd_hi h])

theorem la_apply : B.la k (ix2 0 c) = ((Real.log (A.Z (h0 p) (row (Run.t16 k) c)) : ℝ) : EReal) := by
  unfold Run.Blk.la
  rw [H.a0, pay43_apply, tileR_apply, H.x8]
  rfl

theorem lb_apply : B.lb k (ix2 0 c) = ((Real.log (A.Z (h1 p) (row (Run.t16 k) c)) : ℝ) : EReal) := by
  unfold Run.Blk.lb
  rw [H.a0, pay44_apply, tileR_apply, H.x8]
  rfl

omit H in
/-- The exponential of a score less the logarithm of the sum is the weight. -/
theorem weight (h : Fin 16) (i j : Fin 4096) (hij : j.val ≤ i.val) (s : EReal) (hs : s = ((A.S h i j : ℝ) : EReal)) :
    Ideal.exp (s - ((Real.log (A.Z h i) : ℝ) : EReal)) = ((A.W h i j : ℝ) : EReal) := by
  rw [hs, ← EReal.coe_sub, ← A.exp_lse h i j hij]
  rfl

/-- The scores of a pair of tiles, for the two heads. -/
theorem score0 : (∑ l : Fin 128, mix l (Run.tile B.x2 (Run.t16 j) (ix2 r l)) (Run.tile B.x4 (Run.t16 j) (ix2 r l)) * B.qa k (ix2 c l))
    = ((A.S (h0 p) (row (Run.t16 k) c) (row (Run.t16 j) r) : ℝ) : EReal) := by
  have e (l : Fin 128) : mix l (Run.tile B.x2 (Run.t16 j) (ix2 r l)) (Run.tile B.x4 (Run.t16 j) (ix2 r l))
      = ((rmix (A.k (h0 p) (row (Run.t16 j) r)) (A.auxk (h0 p) (row (Run.t16 j) r)) l : ℝ) : EReal) := by
    rw [tile_apply, tile_apply, H.x2, H.x4]
    exact mix_coe _ _ _ _ _ (fun h => by rw [hd_lo h]) (fun h => by rw [other_hi h])
  simp only [e, qa_apply H, coe_dot, sum_rmix]
  refine congrArg _ ?_
  rw [FoxMath.Args.S, add_sub_assoc, ← A.aux_dot]
  exact congrArg₂ _ (Finset.sum_congr rfl fun _ _ => mul_comm _ _) (Finset.sum_congr rfl fun _ _ => mul_comm _ _)

@[inherit_doc score0] theorem score1 : (∑ l : Fin 128, mix l (Run.tile B.x4 (Run.t16 j) (ix2 r l)) (Run.tile B.x2 (Run.t16 j) (ix2 r l)) * B.qb k (ix2 c l))
    = ((A.S (h1 p) (row (Run.t16 k) c) (row (Run.t16 j) r) : ℝ) : EReal) := by
  have e (l : Fin 128) : mix l (Run.tile B.x4 (Run.t16 j) (ix2 r l)) (Run.tile B.x2 (Run.t16 j) (ix2 r l))
      = ((rmix (A.auxk (h1 p) (row (Run.t16 j) r)) (A.k (h1 p) (row (Run.t16 j) r)) l : ℝ) : EReal) := by
    rw [tile_apply, tile_apply, H.x2, H.x4]
    exact mix_coe _ _ _ _ _ (fun h => by rw [other_lo h]) (fun h => by rw [hd_hi h])
  simp only [e, qb_apply H, coe_dot, sum_rmix]
  refine congrArg _ ?_
  rw [FoxMath.Args.S, add_sub_assoc, ← A.aux_dot, add_comm]
  exact congrArg₂ _ (Finset.sum_congr rfl fun _ _ => mul_comm _ _) (Finset.sum_congr rfl fun _ _ => mul_comm _ _)

omit H in
/-- The masked weights of a tile on the diagonal. -/
theorem weight_diag (h : Fin 16) (i j : Fin 4096) (P : Prop) [Decidable P] (hP : P ↔ j.val ≤ i.val) (s : EReal) (hs : s = ((A.S h i j : ℝ) : EReal)) :
    Ideal.exp ((if P then s else ⊥) - ((Real.log (A.Z h i) : ℝ) : EReal)) = ((A.W h i j : ℝ) : EReal) := by
  by_cases hp : P
  · rw [if_pos hp, weight h i j (hP.1 hp) s hs]
  · rw [if_neg hp, A.W_zero h i j (fun hc => hp (hP.2 hc)), EReal.bot_sub]
    rfl

/-- The weights of a pair of tiles whose keys do not all come after the queries. -/
theorem P0_apply (hk : k < 16) (hj : j ≤ k) : B.P0 k j (ix2 r c) = ((A.W (h0 p) (row (Run.t16 k) c) (row (Run.t16 j) r) : ℝ) : EReal) := by
  have ek := Run.val_t16 hk
  have ej := Run.val_t16 (show j < 16 by omega)
  unfold Run.Blk.P0
  split
  · rw [pay11_apply, la_apply H]
    exact weight _ _ _ (by show 256 * (Run.t16 j).val + r.val ≤ 256 * (Run.t16 k).val + c.val; omega) _ (score0 H k j c r)
  · rw [pay57_apply, la_apply H]
    exact weight_diag _ _ _ _ (by show _ ↔ 256 * (Run.t16 j).val + r.val ≤ 256 * (Run.t16 k).val + c.val; omega) _ (score0 H k j c r)

@[inherit_doc P0_apply] theorem P1_apply (hk : k < 16) (hj : j ≤ k) : B.P1 k j (ix2 r c) = ((A.W (h1 p) (row (Run.t16 k) c) (row (Run.t16 j) r) : ℝ) : EReal) := by
  have ek := Run.val_t16 hk
  have ej := Run.val_t16 (show j < 16 by omega)
  unfold Run.Blk.P1
  split
  · rw [pay12_apply, lb_apply H]
    exact weight _ _ _ (by show 256 * (Run.t16 j).val + r.val ≤ 256 * (Run.t16 k).val + c.val; omega) _ (score1 H k j c r)
  · rw [pay58_apply, lb_apply H]
    exact weight_diag _ _ _ _ (by show _ ↔ 256 * (Run.t16 j).val + r.val ≤ 256 * (Run.t16 k).val + c.val; omega) _ (score1 H k j c r)

/-- The weights' cotangents. -/
theorem D0_apply : B.D0 k j (ix2 r c) = ((A.DP (h0 p) (row (Run.t16 k) c) (row (Run.t16 j) r) : ℝ) : EReal) := by
  unfold Run.Blk.D0
  rw [pay13_apply]
  have e (l : Fin 128) : Run.tile B.x7 (Run.t16 j) (ix2 r l)
      = ((rmix (A.v (h0 p) (row (Run.t16 j) r)) (A.v (h1 p) (row (Run.t16 j) r)) l : ℝ) : EReal) := by
    rw [tile_apply, H.x7]
    unfold rmix
    split
    · rw [hd_lo ‹_›]
    · rw [hd_hi ‹_›]
  simp only [e, ga_apply H, coe_dot, sum_rmix, mul_zero, Finset.sum_const_zero, add_zero]
  exact congrArg _ (Finset.sum_congr rfl fun _ _ => mul_comm _ _)

@[inherit_doc D0_apply] theorem D1_apply : B.D1 k j (ix2 r c) = ((A.DP (h1 p) (row (Run.t16 k) c) (row (Run.t16 j) r) : ℝ) : EReal) := by
  unfold Run.Blk.D1
  rw [pay14_apply]
  have e (l : Fin 128) : Run.tile B.x7 (Run.t16 j) (ix2 r l)
      = ((rmix (A.v (h0 p) (row (Run.t16 j) r)) (A.v (h1 p) (row (Run.t16 j) r)) l : ℝ) : EReal) := by
    rw [tile_apply, H.x7]
    unfold rmix
    split
    · rw [hd_lo ‹_›]
    · rw [hd_hi ‹_›]
  simp only [e, gb_apply H, coe_dot, sum_rmix, mul_zero, Finset.sum_const_zero, zero_add]
  exact congrArg _ (Finset.sum_congr rfl fun _ _ => mul_comm _ _)

omit H in
/-- The sums of weights times cotangents over the keys. -/
theorem dsum_apply (P0 P1 D0 D1 : ℕ → FVec Ideal S256x256 .f32) (f0 f1 : ℕ → Fin 256 → ℝ) (n : ℕ)
    (e0 : ∀ j < n, ∀ r, P0 j (ix2 r c) * D0 j (ix2 r c) = ((f0 j r : ℝ) : EReal)) (e1 : ∀ j < n, ∀ r, P1 j (ix2 r c) * D1 j (ix2 r c) = ((f1 j r : ℝ) : EReal)) :
    (Run.dsum P0 P1 D0 D1 (k0_pay45, k0_pay45) n).1 (ix2 0 c) = ((∑ j ∈ Finset.range n, ∑ r, f0 j r : ℝ) : EReal)
      ∧ (Run.dsum P0 P1 D0 D1 (k0_pay45, k0_pay45) n).2 (ix2 0 c) = ((∑ j ∈ Finset.range n, ∑ r, f1 j r : ℝ) : EReal) := by
  induction n with
  | zero =>
    simp only [Run.dsum, pay45_apply, Finset.range_zero, Finset.sum_empty]
    exact ⟨rfl, rfl⟩
  | succ n ih =>
    obtain ⟨i0, i1⟩ := ih (fun j hj => e0 j (by omega)) (fun j hj => e1 j (by omega))
    simp only [Run.dsum, pay48_apply, pay49_apply, i0, i1, e0 n (by omega), e1 n (by omega), coe_sum, ← EReal.coe_add, Finset.sum_range_succ]
    trivial

theorem ds_apply (hk : k < 16) : (B.ds k).1 (ix2 0 c) = ((A.D (h0 p) (row (Run.t16 k) c) : ℝ) : EReal)
    ∧ (B.ds k).2 (ix2 0 c) = ((A.D (h1 p) (row (Run.t16 k) c) : ℝ) : EReal) := by
  unfold Run.Blk.ds
  have ek := Run.val_t16 hk
  have z (h : Fin 16) (j : Fin 16) (r : Fin 256) (hj : k + 1 ≤ j.val) :
      A.W h (row (Run.t16 k) c) (row j r) * A.DP h (row (Run.t16 k) c) (row j r) = 0 := by
    rw [A.W_zero, zero_mul]
    show ¬ 256 * j.val + r.val ≤ 256 * (Run.t16 k).val + c.val
    omega
  obtain ⟨e0, e1⟩ := dsum_apply c (B.P0 k) (B.P1 k) (B.D0 k) (B.D1 k)
    (fun j r => A.W (h0 p) (row (Run.t16 k) c) (row (Run.t16 j) r) * A.DP (h0 p) (row (Run.t16 k) c) (row (Run.t16 j) r))
    (fun j r => A.W (h1 p) (row (Run.t16 k) c) (row (Run.t16 j) r) * A.DP (h1 p) (row (Run.t16 k) c) (row (Run.t16 j) r)) (k + 1)
    (fun j hj r => by rw [P0_apply H k j c r hk (by omega), D0_apply H, coe_mul]) (fun j hj r => by rw [P1_apply H k j c r hk (by omega), D1_apply H, coe_mul])
  rw [e0, e1, sum_tiles_before (fun x => A.W (h0 p) (row (Run.t16 k) c) x * A.DP (h0 p) (row (Run.t16 k) c) x) (k + 1) (by omega) (z _),
    sum_tiles_before (fun x => A.W (h1 p) (row (Run.t16 k) c) x * A.DP (h1 p) (row (Run.t16 k) c) x) (k + 1) (by omega) (z _)]
  exact ⟨rfl, rfl⟩

/-- The scores' cotangents on a pair of tiles. -/
theorem E0_apply (hk : k < 16) (hj : j ≤ k) : B.E0 k j (ix2 r c) = ((A.DS (h0 p) (row (Run.t16 k) c) (row (Run.t16 j) r) : ℝ) : EReal) := by
  unfold Run.Blk.E0
  rw [pay28_apply, P0_apply H k j c r hk hj, D0_apply H, (ds_apply H k c hk).1, ← EReal.coe_sub, coe_mul]
  rfl

@[inherit_doc E0_apply] theorem E1_apply (hk : k < 16) (hj : j ≤ k) : B.E1 k j (ix2 r c) = ((A.DS (h1 p) (row (Run.t16 k) c) (row (Run.t16 j) r) : ℝ) : EReal) := by
  unfold Run.Blk.E1
  rw [pay29_apply, P1_apply H k j c r hk hj, D1_apply H, (ds_apply H k c hk).2, ← EReal.coe_sub, coe_mul]
  rfl

/-! ## The queries' gradient -/

omit H in
theorem qsum_apply (K X : ℕ → FVec Ideal S128x256 .bf16) (E0 E1 : ℕ → FVec Ideal S256x256 .f32) (f0 f1 : ℕ → Fin 256 → ℝ) (n : ℕ)
    (e0 : l.val < 64 → ∀ j < n, ∀ r, K j (ix2 l r) * E0 j (ix2 r c) = ((f0 j r : ℝ) : EReal))
    (e1 : ¬ l.val < 64 → ∀ j < n, ∀ r, K j (ix2 l r) * E1 j (ix2 r c) = ((f1 j r : ℝ) : EReal)) :
    (l.val < 64 → (Run.qsum k0_pay6 K X E0 E1 (k0_pay68, k0_pay68) n).1 (ix2 l c) = ((∑ j ∈ Finset.range n, ∑ r, f0 j r : ℝ) : EReal))
      ∧ (¬ l.val < 64 → (Run.qsum k0_pay6 K X E0 E1 (k0_pay68, k0_pay68) n).2 (ix2 l c) = ((∑ j ∈ Finset.range n, ∑ r, f1 j r : ℝ) : EReal)) := by
  induction n with
  | zero =>
    simp only [Run.qsum, pay68_apply, Finset.range_zero, Finset.sum_empty]
    exact ⟨fun _ => rfl, fun _ => rfl⟩
  | succ n ih =>
    obtain ⟨i0, i1⟩ := ih (fun h j hj => e0 h j (by omega)) (fun h j hj => e1 h j (by omega))
    constructor <;> intro h
    · simp only [Run.qsum, pay72_apply, mix, if_pos h, i0 h, e0 h n (by omega), coe_sum, ← EReal.coe_add, Finset.sum_range_succ]
    · simp only [Run.qsum, pay73_apply, mix, if_neg h, i1 h, e1 h n (by omega), coe_sum, ← EReal.coe_add, Finset.sum_range_succ]

theorem dqT_apply (hk : k < 16) : B.dqT k (ix2 c l) = ((A.dq (hd p l) (row (Run.t16 k) c) (dim l) : ℝ) : EReal) := by
  unfold Run.Blk.dqT
  have ek := Run.val_t16 hk
  have z (h : Fin 16) (j : Fin 16) (r : Fin 256) (hj : k + 1 ≤ j.val) :
      A.DS h (row (Run.t16 k) c) (row j r) * A.k h (row j r) (dim l) = 0 := by
    rw [A.DS_zero, zero_mul]
    show ¬ 256 * j.val + r.val ≤ 256 * (Run.t16 k).val + c.val
    omega
  obtain ⟨e0, e1⟩ := qsum_apply c l (fun j => Run.tileT B.x5 (Run.t16 j)) (fun j => Run.tileT B.x6 (Run.t16 j)) (B.E0 k) (B.E1 k)
    (fun j r => A.DS (h0 p) (row (Run.t16 k) c) (row (Run.t16 j) r) * A.k (h0 p) (row (Run.t16 j) r) (dim l))
    (fun j r => A.DS (h1 p) (row (Run.t16 k) c) (row (Run.t16 j) r) * A.k (h1 p) (row (Run.t16 j) r) (dim l)) (k + 1)
    (fun h j hj r => by
      show Run.tileT B.x5 (Run.t16 j) (ix2 l r) * _ = _
      rw [tileT_apply, H.x5, E0_apply H k j c r hk (by omega), coe_mul, mul_comm, hd_lo h])
    (fun h j hj r => by
      show Run.tileT B.x5 (Run.t16 j) (ix2 l r) * _ = _
      rw [tileT_apply, H.x5, E1_apply H k j c r hk (by omega), coe_mul, mul_comm, hd_hi h])
  rw [pay79_apply]
  unfold mix
  split
  · rw [e0 ‹_›, hd_lo ‹_›, sum_tiles_before (fun x => A.DS (h0 p) (row (Run.t16 k) c) x * A.k (h0 p) x (dim l)) (k + 1) (by omega) (z _)]
    rfl
  · rw [e1 ‹_›, hd_hi ‹_›, sum_tiles_before (fun x => A.DS (h1 p) (row (Run.t16 k) c) x * A.k (h1 p) x (dim l)) (k + 1) (by omega) (z _)]
    rfl

/-! ## The accumulated gradients -/

omit H in
/-- What a tile holds after the query tiles before `n`: the sum of what each adds. -/
theorem acc_apply (z : FVec Ideal S4096x128 .f32) (step : ℕ → ℕ → FVec Ideal S256x128 .f32 → FVec Ideal S256x128 .f32) (j : Fin 16) (f : ℕ → ℝ)
    (hz : ∀ i, z (ix2 i l) = 0) (hs : ∀ k < 16, j.val ≤ k → ∀ x, step k j.val x (ix2 r l) = x (ix2 r l) + ((f k : ℝ) : EReal)) (h0 : ∀ k < j.val, f k = 0)
    (n : ℕ) (hn : n ≤ 16) : Run.Blk.acc z step j n (ix2 r l) = ((∑ k ∈ Finset.range n, f k : ℝ) : EReal) := by
  induction n with
  | zero =>
    simp only [Run.Blk.acc, tile_apply, hz, Finset.range_zero, Finset.sum_empty]
    rfl
  | succ n ih =>
    rw [Finset.sum_range_succ, EReal.coe_add, ← ih (by omega)]
    show (if j.val < n + 1 then step n j.val (Run.Blk.acc z step j n) else Run.Blk.acc z step j n) (ix2 r l) = _
    split
    · exact hs n (by omega) (by omega) _
    · rw [h0 n (by omega), EReal.coe_zero, add_zero]

omit H in
theorem untile_apply (g : Fin 16 → FVec Ideal S256x128 .f32) (f : Fin 4096 → EReal) (h : ∀ j r, g j (ix2 r l) = f (row j r)) (i : Fin 4096) :
    Run.untile g (ix2 i l) = f i := by
  unfold Run.untile
  refine (h _ _).trans (congrArg f (Fin.ext ?_))
  show 256 * (i.val / 256) + i.val % 256 = i.val
  omega

omit H in
/-- The same over all query tiles, for what a tile adds query by query. -/
theorem acc_sum (z : FVec Ideal S4096x128 .f32) (step : ℕ → ℕ → FVec Ideal S256x128 .f32 → FVec Ideal S256x128 .f32) (f : Fin 4096 → Fin 4096 → ℝ)
    (hz : ∀ i, z (ix2 i l) = 0) (hs : ∀ k < 16, ∀ j : Fin 16, j.val ≤ k → ∀ r x, step k j.val x (ix2 r l)
      = x (ix2 r l) + ((∑ c, f (row (Run.t16 k) c) (row j r) : ℝ) : EReal))
    (h0 : ∀ i j : Fin 4096, ¬ j.val ≤ i.val → f i j = 0) (i : Fin 4096) :
    Run.untile (fun j => Run.Blk.acc z step j 16) (ix2 i l) = ((∑ x, f x i : ℝ) : EReal) := by
  refine untile_apply l _ (fun i => ((∑ x, f x i : ℝ) : EReal)) (fun j r => ?_) i
  rw [acc_apply r l z step j (fun k => ∑ c, f (row (Run.t16 k) c) (row j r)) hz (fun k hk hj x => hs k hk j hj r x)
    (fun k hk => Finset.sum_eq_zero fun c _ => h0 _ _ ?_) 16 le_rfl, sum_tiles_before (fun x => f x (row j r)) 16 le_rfl fun j' r hj => absurd j'.isLt (by omega)]
  have ek := Run.val_t16 (show k < 16 by omega)
  show ¬ 256 * j.val + r.val ≤ 256 * (Run.t16 k).val + c.val
  omega

theorem dq_apply (i : Fin 4096) : B.dq (ix2 i l) = ((A.dq (hd p l) i (dim l) : ℝ) : EReal) := by
  unfold Run.Blk.dq
  refine untile_apply l _ (fun i => ((A.dq (hd p l) i (dim l) : ℝ) : EReal)) (fun j r => ?_) i
  rw [dqT_apply H j.val r l j.isLt, Run.t16_val]

theorem dk_apply (i : Fin 4096) : B.dk (ix2 i l) = ((A.dk (hd p l) i (dim l) : ℝ) : EReal) := by
  unfold Run.Blk.dk
  refine acc_sum l _ _ (fun x j => A.DS (hd p l) x j * A.q (hd p l) x (dim l)) (fun i => (zeros l i).1) (fun k hk j hj r x => ?_)
    (fun i j h => by rw [A.DS_zero _ _ _ h, zero_mul]) i
  unfold Run.Blk.dkStep
  rw [pay30_apply]
  have e0 := fun c => E0_apply H k j.val c r hk hj
  have e1 := fun c => E1_apply H k j.val c r hk hj
  unfold Run.Blk.E0 at e0
  unfold Run.Blk.E1 at e1
  simp only [e0, e1, qa_apply H, qb_apply H, coe_dot, Run.t16_val]
  refine congrArg _ ?_
  unfold mix rmix
  split
  · rw [hd_lo ‹_›]
  · rw [hd_hi ‹_›]

theorem dv_apply (i : Fin 4096) : B.dv (ix2 i l) = ((A.dv (hd p l) i (dim l) : ℝ) : EReal) := by
  unfold Run.Blk.dv
  refine acc_sum l _ _ (fun x j => A.W (hd p l) x j * A.g (hd p l) x (dim l)) (fun i => (zeros l i).2.1) (fun k hk j hj r x => ?_)
    (fun i j h => by rw [A.W_zero _ _ _ h, zero_mul]) i
  unfold Run.Blk.dvStep
  rw [pay47_apply]
  simp only [fun c => P0_apply H k j.val c r hk hj, fun c => P1_apply H k j.val c r hk hj, ga_apply H, gb_apply H, coe_dot, Run.t16_val, ← EReal.coe_add]
  refine congrArg _ (congrArg _ ?_)
  unfold rmix
  split
  · simp only [hd_lo ‹_›, mul_zero, Finset.sum_const_zero, add_zero]
  · simp only [hd_hi ‹_›, mul_zero, Finset.sum_const_zero, zero_add]

omit H in
/-- A lane of the decay's cotangent: the sum over the queries of that lane. -/
theorem lanes_apply (h : Fin 16) (z : FVec Ideal S4096x128 .f32) (step : ℕ → ℕ → FVec Ideal S256x128 .f32 → FVec Ideal S256x128 .f32)
    (hz : ∀ i, z (ix2 i l) = 0) (hs : ∀ k < 16, ∀ j : Fin 16, j.val ≤ k → ∀ r x, step k j.val x (ix2 r l)
      = x (ix2 r l) + (((A.DS h (row (Run.t16 k) (lane l)) (row j r) : ℝ) : EReal) + ((A.DS h (row (Run.t16 k) (lane' l)) (row j r) : ℝ) : EReal)))
    (i : Fin 4096) : Run.untile (fun j => Run.Blk.acc z step j 16) (ix2 i l) = ((A.dc h i l : ℝ) : EReal) := by
  refine untile_apply l _ (fun i => ((A.dc h i l : ℝ) : EReal)) (fun j r => ?_) i
  rw [acc_apply r l z step j (fun k => A.DS h (row (Run.t16 k) (lane l)) (row j r) + A.DS h (row (Run.t16 k) (lane' l)) (row j r)) hz
    (fun k hk hj x => by rw [EReal.coe_add]; exact hs k hk j hj r x) (fun k hk => ?_) 16 le_rfl, sum_lanes (fun x => A.DS h x (row j r)) l]
  · rfl
  · have ek := Run.val_t16 (show k < 16 by omega)
    rw [A.DS_zero, A.DS_zero, add_zero]
    · show ¬ 256 * j.val + r.val ≤ 256 * (Run.t16 k).val + (128 + l.val)
      omega
    · show ¬ 256 * j.val + r.val ≤ 256 * (Run.t16 k).val + l.val
      omega

theorem dc0_apply (i : Fin 4096) : B.dc0 (ix2 i l) = ((A.dc (h0 p) i l : ℝ) : EReal) := by
  unfold Run.Blk.dc0
  refine lanes_apply l (h0 p) _ _ (fun i => (zeros l i).2.2.1) (fun k hk j hj r x => ?_) i
  unfold Run.Blk.c0Step
  rw [pay31_apply]
  have e0 := fun c => E0_apply H k j.val c r hk hj
  unfold Run.Blk.E0 at e0
  rw [e0, e0, Run.t16_val]

theorem dc1_apply (i : Fin 4096) : B.dc1 (ix2 i l) = ((A.dc (h1 p) i l : ℝ) : EReal) := by
  unfold Run.Blk.dc1
  refine lanes_apply l (h1 p) _ _ (fun i => (zeros l i).2.2.2) (fun k hk j hj r x => ?_) i
  unfold Run.Blk.c1Step
  rw [pay69_apply, E1_apply H k j.val _ r hk hj, E1_apply H k j.val _ r hk hj, Run.t16_val]

end Cert.FoxKernelIdeal.Value
-- ==== Proof.Finite.lean ====
/- A test that an array's entries are finite, read over the extended reals. -/
module

public import Idealize.ShloMosaic.Lib.Claim
public import Idealize.ShloMosaic.Lib.Pipeline.ValueKit

@[expose] public section

noncomputable section

namespace Cert.Finite

open Idealize.ShloMosaic Idealize.ShloMosaic.Ideal

/-- A value whose absolute value is less than infinity is a real. -/
theorem real_of_lt (x : Ideal .f32) (h : FloatOps.cmpf .olt (FloatOps.hostAbsf x) (FloatOps.ofBits (F := Ideal) .f32 0x7F800000#32) = 1#1) :
    (x : EReal) = ((x : EReal).toReal : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine (EReal.coe_toReal ?_ ?_).symm
  · intro e
    rw [e] at h'
    simp [Ideal.cmp] at h'
  · intro e
    rw [e] at h'
    simp [Ideal.cmp] at h'

/-- The same of a whole array whose test is all ones. -/
theorem real_of_ones {s : Shape} (b : Shape.BroadcastsInDim ⟨0, ![]⟩ s (![] : Fin 0 → Fin s.rank)) (x : FVec Ideal s .f32)
    (h : cmpf .olt (Host.absf x) (broadcastInDim s ![] b (constant (F := Ideal) ⟨0, ![]⟩ .f32 0x7F800000#32)) = fun _ => 1#1) (i : s.Idx) :
    (x i : EReal) = ((x i : EReal).toReal : EReal) :=
  real_of_lt _ (congrFun h i)

end Cert.Finite

end
-- ==== Proof.FoxClaim.lean ====
/- The fox kernel against its reference: on finite arguments the five results are the same over the reals. -/
module

public import Idealize.ShloMosaic.Lib.Claim
public import Idealize.ShloMosaic.Lib.Pipeline.ValueKit
public import Idealize.ShloMosaic.Lib.WordCmp
public import proofs.«01_k».proof.Proof.FoxValue
public import proofs.«01_k».proof.Defs
public import proofs.«01_k».proof.Proof.Finite
public import proofs.«01_k».proof.Proof.FoxBits

@[expose] public section

set_option maxRecDepth 16384

noncomputable section

namespace Cert.FoxKernelIdeal.Value

open Idealize.ShloMosaic Idealize.ShloMosaic.Ideal Idealize.SL.Sem Cert.FoxKernelIdeal Cert.FoxKernelIdeal.Gen

open Cert.FoxReferenceIdeal.Value (out0 out1 out2 out3 out4 out0_apply out1_apply out2_apply out3_apply out4_apply)

variable (m : (ℓ : Loc nD τ sig) → Buf (Elt Ideal) ℓ) (c : Dev nD)

/-- The arguments on a device. -/
abbrev arg0 : FVec Ideal S16x4096x64 .f32 := m ((c.tc : Thread nD τ).loc main_arg0)
@[inherit_doc arg0] abbrev arg1 : FVec Ideal S16x4096x64 .f32 := m ((c.tc : Thread nD τ).loc main_arg1)
@[inherit_doc arg0] abbrev arg2 : FVec Ideal S16x4096x64 .f32 := m ((c.tc : Thread nD τ).loc main_arg2)
@[inherit_doc arg0] abbrev arg3 : FVec Ideal S16x4096 .f32 := m ((c.tc : Thread nD τ).loc main_arg3)
@[inherit_doc arg0] abbrev arg4 : FVec Ideal S4096x2048 .f32 := m ((c.tc : Thread nD τ).loc main_arg4)

/-- Arguments that pass the finiteness test are real. -/
theorem args_real [hPre : Cert.Pre_finite_foxb.Facts] (hpre : Cert.Pre_FoxKernelIdeal_finite_foxb m) :
    ∃ A : FoxMath.Args, A.Is (arg0 m c) (arg1 m c) (arg2 m c) (arg3 m c) (arg4 m c) := by
  obtain ⟨p0, p1, p2, p3, p4⟩ := hpre c
  refine ⟨⟨fun h i d => (arg0 m c (ix3 h i d) : EReal).toReal, fun h i d => (arg1 m c (ix3 h i d) : EReal).toReal, fun h i d => (arg2 m c (ix3 h i d) : EReal).toReal,
    fun h i d => (arg4 m c (ix2 i ⟨1024 + (h.val * 64 + d.val), by omega⟩) : EReal).toReal, fun h i => (arg3 m c (ix2 h i) : EReal).toReal⟩, ⟨?_, ?_, ?_, ?_, ?_⟩⟩
  · exact fun h i d => Finite.real_of_ones _ (arg0 m c) p0 _
  · exact fun h i d => Finite.real_of_ones _ (arg1 m c) p1 _
  · exact fun h i d => Finite.real_of_ones _ (arg2 m c) p2 _
  · exact fun h i => Finite.real_of_ones _ (arg3 m c) p3 _
  · intro h i d
    have e := Finite.real_of_ones _ _ p4 (ix2 i (⟨h.val * 64 + d.val, by omega⟩ : Fin 1024))
    have r : extractStridedSlice S4096x1024 ![0, 1024] (arg4 m c) hPre.slices_S4096x2048_S4096x1024_0_1024 (ix2 i (⟨h.val * 64 + d.val, by omega⟩ : Fin 1024))
        = arg4 m c (ix2 i ⟨1024 + (h.val * 64 + d.val), by omega⟩) := by
      pointwise
    exact (congrArg (fun x : EReal => x = (x.toReal : EReal)) r).mp e

variable {A : FoxMath.Args} (H : A.Is (arg0 m c) (arg1 m c) (arg2 m c) (arg3 m c) (arg4 m c))

/-- An array of 128 columns is the part of an array of 1024 at column `128 t`. -/
theorem at_block (g : FVec Ideal S4096x128 .f32) (f : FVec Ideal S4096x1024 .f32) (t : ℕ) (ht : t < 8)
    (e : ∀ (i : Fin 4096) (l : Fin 128), g (ix2 i l) = f (ix2 i ⟨128 * t + l.val, by omega⟩)) (y : S4096x128.Idx) (z : S4096x1024.Idx)
    (z0 : (z 0).val = (y 0).val) (z1 : (z 1).val = 128 * t + (y 1).val) : g y = f z := by
  have hy : y = ix2 (y 0 : Fin 4096) (y 1 : Fin 128) := by
    funext a
    fin_cases a <;> rfl
  have hz : z = ix2 (y 0 : Fin 4096) (⟨128 * t + (y 1 : Fin 128).val, by have : (y 1).val < 128 := (y 1).isLt; omega⟩ : Fin 1024) := by
    funext a
    fin_cases a
    · exact Fin.ext z0
    · exact Fin.ext z1
  exact (congrArg g hy).trans ((e _ _).trans (congrArg f hz.symm))

include H

/-- The gradient of the queries. -/
theorem final_9 : (Run.dats m 0 c).arrAt 9 cfg0.N = out0 (arg0 m c) (arg1 m c) (arg2 m c) (arg3 m c) (arg4 m c) := by
  refine (Run.dats m 0 c).arrAt_eq_of_covers 9 _ (by decide +kernel) fun t hf y => ?_
  obtain ⟨-, -, -, -, -, -, -, -, -, i9, i10, i11, i12, i13, -⟩ := idx t
  have ht := lt8 t
  have B := blk_is m c H t
  blk_simp
  rw [Run.after_9]
  refine at_block _ _ t.val ht (fun i l => ?_) y _ (by blk_simp [i9]; try omega) (by blk_simp [i9]; try omega)
  refine (dq_apply B l i).trans ((out0_apply H i _).trans ?_).symm
  refine congrArg (fun x : ℝ => (x : EReal)) (congr (congr (congr rfl (Fin.ext ?_)) rfl) (Fin.ext ?_))
  · show (128 * t.val + l.val) / 64 = t.val * 2 + l.val / 64
    omega
  · show (128 * t.val + l.val) % 64 = l.val % 64
    omega

/-- The gradient of the keys. -/
theorem final_10 : (Run.dats m 0 c).arrAt 10 cfg0.N = out1 (arg0 m c) (arg1 m c) (arg2 m c) (arg3 m c) (arg4 m c) := by
  refine (Run.dats m 0 c).arrAt_eq_of_covers 10 _ (by decide +kernel) fun t hf y => ?_
  obtain ⟨-, -, -, -, -, -, -, -, -, i9, i10, i11, i12, i13, -⟩ := idx t
  have ht := lt8 t
  have B := blk_is m c H t
  blk_simp
  rw [Run.after_10]
  refine at_block _ _ t.val ht (fun i l => ?_) y _ (by blk_simp [i10]; try omega) (by blk_simp [i10]; try omega)
  refine (dk_apply B l i).trans ((out1_apply H i _).trans ?_).symm
  refine congrArg (fun x : ℝ => (x : EReal)) (congr (congr (congr rfl (Fin.ext ?_)) rfl) (Fin.ext ?_))
  · show (128 * t.val + l.val) / 64 = t.val * 2 + l.val / 64
    omega
  · show (128 * t.val + l.val) % 64 = l.val % 64
    omega

/-- The gradient of the values. -/
theorem final_11 : (Run.dats m 0 c).arrAt 11 cfg0.N = out2 (arg0 m c) (arg1 m c) (arg3 m c) (arg4 m c) := by
  refine (Run.dats m 0 c).arrAt_eq_of_covers 11 _ (by decide +kernel) fun t hf y => ?_
  obtain ⟨-, -, -, -, -, -, -, -, -, i9, i10, i11, i12, i13, -⟩ := idx t
  have ht := lt8 t
  have B := blk_is m c H t
  blk_simp
  rw [Run.after_11]
  refine at_block _ _ t.val ht (fun i l => ?_) y _ (by blk_simp [i11]; try omega) (by blk_simp [i11]; try omega)
  refine (dv_apply B l i).trans ((out2_apply H i _).trans ?_).symm
  refine congrArg (fun x : ℝ => (x : EReal)) (congr (congr (congr rfl (Fin.ext ?_)) rfl) (Fin.ext ?_))
  · show (128 * t.val + l.val) / 64 = t.val * 2 + l.val / 64
    omega
  · show (128 * t.val + l.val) % 64 = l.val % 64
    omega

/-- The lanes of the decay's gradient, of the even heads. -/
theorem final_12 : (Run.dats m 0 c).arrAt 12 cfg0.N = out3 (arg0 m c) (arg1 m c) (arg2 m c) (arg3 m c) (arg4 m c) := by
  refine (Run.dats m 0 c).arrAt_eq_of_covers 12 _ (by decide +kernel) fun t hf y => ?_
  obtain ⟨-, -, -, -, -, -, -, -, -, i9, i10, i11, i12, i13, -⟩ := idx t
  have ht := lt8 t
  have B := blk_is m c H t
  blk_simp
  rw [Run.after_12]
  refine at_block _ _ t.val ht (fun i l => ?_) y _ (by blk_simp [i12]; try omega) (by blk_simp [i12]; try omega)
  refine (dc0_apply B l i).trans ((out3_apply H i _).trans ?_).symm
  refine congrArg (fun x : ℝ => (x : EReal)) (congr (congr (congr rfl (Fin.ext ?_)) rfl) (Fin.ext ?_))
  · show (128 * t.val + l.val) / 128 * 2 = t.val * 2
    omega
  · show (128 * t.val + l.val) % 128 = l.val
    omega

/-- The lanes of the decay's gradient, of the odd heads. -/
theorem final_13 : (Run.dats m 0 c).arrAt 13 cfg0.N = out4 (arg0 m c) (arg1 m c) (arg2 m c) (arg3 m c) (arg4 m c) := by
  refine (Run.dats m 0 c).arrAt_eq_of_covers 13 _ (by decide +kernel) fun t hf y => ?_
  obtain ⟨-, -, -, -, -, -, -, -, -, i9, i10, i11, i12, i13, -⟩ := idx t
  have ht := lt8 t
  have B := blk_is m c H t
  blk_simp
  rw [Run.after_13]
  refine at_block _ _ t.val ht (fun i l => ?_) y _ (by blk_simp [i13]; try omega) (by blk_simp [i13]; try omega)
  refine (dc1_apply B l i).trans ((out4_apply H i _).trans ?_).symm
  refine congrArg (fun x : ℝ => (x : EReal)) (congr (congr (congr rfl (Fin.ext ?_)) rfl) (Fin.ext ?_))
  · show (128 * t.val + l.val) / 128 * 2 + 1 = t.val * 2 + 1
    omega
  · show (128 * t.val + l.val) % 128 = l.val
    omega

omit H in
/-- The kernel's run with its results named. -/
theorem run_blocks (ρ : Dev nD → PrngReg) : θ_run defs (onTc (τ := τ) (main (F := Ideal))) ⟨m, fun _ => 0, ρ⟩ fun r => ∀ c : Dev nD,
      r.2.mem ((c.tc : Thread nD τ).loc main_v65_0) = (Run.dats m 0 c).arrAt 9 cfg0.N
      ∧ r.2.mem ((c.tc : Thread nD τ).loc main_v65_1) = (Run.dats m 0 c).arrAt 10 cfg0.N
      ∧ r.2.mem ((c.tc : Thread nD τ).loc main_v65_2) = (Run.dats m 0 c).arrAt 11 cfg0.N
      ∧ r.2.mem ((c.tc : Thread nD τ).loc main_v65_3) = (Run.dats m 0 c).arrAt 12 cfg0.N
      ∧ r.2.mem ((c.tc : Thread nD τ).loc main_v65_4) = (Run.dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 9, (h.1 c).1 10, (h.1 c).1 11, (h.1 c).1 12, (h.1 c).1 13, h.2.1 c⟩)
    (θ_run_and (Run.run_main m ρ) (Run.frame m ρ))

omit m c H in
/-- The reference leaves its arguments as they were. -/
theorem reference_frame : Cert.quiescent_FoxReferenceIdeal := fun m ρ _ =>
  (θ_run Cert.FoxReferenceIdeal.defs _ _).mono (fun r h => ⟨fun c => (h c).2.2.2.2.2, sem_eq_zero_of_no_sems (by decide) r.2⟩)
    (Cert.FoxReferenceIdeal.Value.run (F := Ideal) m ρ)

section reference

variable (m' : (ℓ : Loc Cert.FoxReferenceIdeal.nD Cert.FoxReferenceIdeal.τ Cert.FoxReferenceIdeal.sig) → Buf (Elt Ideal) ℓ) (c : Dev Cert.FoxReferenceIdeal.nD)
  {a0 a1 a2 : FVec Ideal S16x4096x64 .f32} {a3 : FVec Ideal S16x4096 .f32} {a4 : FVec Ideal S4096x2048 .f32}
  (e0 : m' ((c.tc : Thread Cert.FoxReferenceIdeal.nD Cert.FoxReferenceIdeal.τ).loc Cert.FoxReferenceIdeal.main_arg0) = a0)
  (e1 : m' ((c.tc : Thread Cert.FoxReferenceIdeal.nD Cert.FoxReferenceIdeal.τ).loc Cert.FoxReferenceIdeal.main_arg1) = a1)
  (e2 : m' ((c.tc : Thread Cert.FoxReferenceIdeal.nD Cert.FoxReferenceIdeal.τ).loc Cert.FoxReferenceIdeal.main_arg2) = a2)
  (e3 : m' ((c.tc : Thread Cert.FoxReferenceIdeal.nD Cert.FoxReferenceIdeal.τ).loc Cert.FoxReferenceIdeal.main_arg3) = a3)
  (e4 : m' ((c.tc : Thread Cert.FoxReferenceIdeal.nD Cert.FoxReferenceIdeal.τ).loc Cert.FoxReferenceIdeal.main_arg4) = a4)

omit H in
include e0 e1 e2 e3 e4 in
/-- Result 0 of the reference as a function of its arguments. -/
theorem result_0 : Cert.FoxReferenceIdeal.Value.res_main_v84 m' c = out0 a0 a1 a2 a3 a4 := by
  subst e0 e1 e2 e3 e4
  rfl

omit H in
include e0 e1 e2 e3 e4 in
/-- Result 1 of the reference as a function of its arguments. -/
theorem result_1 : Cert.FoxReferenceIdeal.Value.res_main_v86 m' c = out1 a0 a1 a2 a3 a4 := by
  subst e0 e1 e2 e3 e4
  rfl

omit H in
include e0 e1 e3 e4 in
/-- Result 2 of the reference as a function of its arguments. -/
theorem result_2 : Cert.FoxReferenceIdeal.Value.res_main_v88 m' c = out2 a0 a1 a3 a4 := by
  subst e0 e1 e3 e4
  rfl

omit H in
include e0 e1 e2 e3 e4 in
/-- Result 3 of the reference as a function of its arguments. -/
theorem result_3 : Cert.FoxReferenceIdeal.Value.res_main_v91 m' c = out3 a0 a1 a2 a3 a4 := by
  subst e0 e1 e2 e3 e4
  rfl

omit H in
include e0 e1 e2 e3 e4 in
/-- Result 4 of the reference as a function of its arguments. -/
theorem result_4 : Cert.FoxReferenceIdeal.Value.res_main_v94 m' c = out4 a0 a1 a2 a3 a4 := by
  subst e0 e1 e2 e3 e4
  rfl

end reference

omit m c A H in
/-- The fox kernel and its reference, run on the same finite arguments, leave the same five results over the real numbers. -/
theorem algebraic [Cert.Pre_finite_foxb.Facts] : Cert.algebraic_FoxKernelIdeal_FoxReferenceIdeal_pre_finite_foxb := by
  intro m g m' g' hpre hagree
  refine ⟨_, _, _, _, _, run_blocks m g, (θ_run Cert.FoxReferenceIdeal.defs _ _).mono (fun r h c => ?_) (Cert.FoxReferenceIdeal.Value.run (F := Ideal) m' g')⟩
  obtain ⟨r0, r1, r2, r3, r4, h⟩ := h c
  obtain ⟨e0, e1, e2, e3, e4⟩ := hagree c
  obtain ⟨A, H⟩ := args_real m c hpre
  exact ⟨r0.trans ((result_0 m' c e0 e1 e2 e3 e4).trans (final_9 m c H).symm), r1.trans ((result_1 m' c e0 e1 e2 e3 e4).trans (final_10 m c H).symm), r2.trans ((result_2 m' c e0 e1 e3 e4).trans (final_11 m c H).symm),
    r3.trans ((result_3 m' c e0 e1 e2 e3 e4).trans (final_12 m c H).symm), r4.trans ((result_4 m' c e0 e1 e2 e3 e4).trans (final_13 m c H).symm), h⟩

end Cert.FoxKernelIdeal.Value

end
-- ==== Proof.FwdTrip.lean ====
/- One pass of the outer loop of the fox forward kernel. -/
module

public import proofs.«01_k».proof.Proof.Gen.FoxFwdKernelIdeal.Frame
public import proofs.«01_k».proof.Proof.Gen.FoxFwdKernelIdeal.Loops

@[expose] public section

set_option maxRecDepth 16384

noncomputable section

namespace Cert.FoxFwdKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxFwdKernelIdeal.Gen

variable {F : FTy → Type} [FloatOps F] [Named F]

local notation "𝕄" => MT nD τ sig Unit (Elt F) ℕ (UR sig nD τ) ℕ

/-- The buffers one pass of the outer loop touches: the five inputs at `X·` and the three outputs at `f·`. -/
abbrev Trip (c : Dev nD) (arg1 : Memref sig .tc .vmem S4096x128 .bf16) (arg2 : Memref sig .tc .vmem S4096x128 .bf16) (arg3 : Memref sig .tc .vmem S4096x128 .bf16) (arg4 : Memref sig .tc .vmem S4096x128 .bf16) (arg5 : Memref sig .tc .vmem S128x4096 .bf16) (arg6 : Memref sig .tc .vmem S4096x128 .bf16) (arg7 : Memref sig .tc .vmem S128x4096 .bf16) (arg8 : Memref sig .tc .vmem S16x4096 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (f6 : BufTy.Contents (Elt F) arg6.view.ty) (f7 : BufTy.Contents (Elt F) arg7.view.ty) (f8 : BufTy.Contents (Elt F) arg8.view.ty) : sProp 𝕄 :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

set_option maxHeartbeats 4000000 in
/-- One pass of the outer loop, from what the buffers hold to what it leaves in its three outputs. -/
@[irreducible] def trip (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) :
    Σ' (C6 : BufTy.Contents (Elt F) arg6.view.ty → BufTy.Contents (Elt F) arg6.view.ty) (C7 : BufTy.Contents (Elt F) arg7.view.ty → BufTy.Contents (Elt F) arg7.view.ty), { C8 : BufTy.Contents (Elt F) arg8.view.ty → BufTy.Contents (Elt F) arg8.view.ty // ∀ (E : Set ℕ) (f6 : BufTy.Contents (Elt F) arg6.view.ty) (f7 : BufTy.Contents (Elt F) arg7.view.ty) (f8 : BufTy.Contents (Elt F) arg8.view.ty),
      Trip (F := F) c arg1 arg2 arg3 arg4 arg5 arg6 arg7 arg8 X1 X2 X3 X4 X5 f6 f7 f8
      ⊢ wp frame (wpE (defs₀ (F := F)) Variants.none (c : Thread nD τ) none) E (k0_t1_body (F := F) i arg1 harg1 arg2 harg2 arg3 harg3 arg4 harg4 arg5 harg5 arg6 harg6 arg7 harg7 arg8 harg8 k ())
          (fun _ => Trip (F := F) c arg1 arg2 arg3 arg4 arg5 arg6 arg7 arg8 X1 X2 X3 X4 X5 (C6 f6) (C7 f7) (C8 f8)) } := by
  refine ⟨?_, ?_, ?_, fun E f6 f7 f8 => ?run⟩
  case run =>
    unfold k0_t1_body
    simp only [k0_part3_eq_skeleton, k0_part4_eq_skeleton]
    iintro ⟨HR1, HR2, HR3, HR4, HR5, HW6, HW7, HW8⟩
    sl_exec
    sl_step
    sl_close

end Cert.FoxFwdKernelIdeal.Run

end
-- ==== Proof.FwdState.lean ====
/- The tiles of the fox forward kernel: what its loop over the key tiles carries, and what one pass over a query tile leaves. -/
module

public import proofs.«01_k».proof.Proof.Gen.FoxFwdKernelIdeal.Frame
public import proofs.«01_k».proof.Proof.Gen.FoxFwdKernelIdeal.Loops
public import proofs.«01_k».proof.Proof.FoxState
public import proofs.«01_k».proof.Proof.FwdTrip

@[expose] public section

set_option maxRecDepth 16384

noncomputable section

namespace Cert.FoxFwdKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxFwdKernelIdeal.Gen

variable {F : FTy → Type} [FloatOps F] [Named F]

local notation "𝕄" => MT nD τ sig Unit (Elt F) ℕ (UR sig nD τ) ℕ

open Cert.FoxKernelIdeal.Run (tile tileT tileR t16 t16_val val_t16 readAt_tile readAt_tileT readAt_tileR tile_writes)

/-! ## Trip counts and offsets in closed form -/

theorem trips1 : k0_t1_loop.trips = 16 := by decide +kernel
theorem trips2 : ∀ k : Fin k0_t1_loop.trips, (k0_t2_loop k).trips = k.val := by decide +kernel
theorem trips3 : ∀ k : Fin k0_t1_loop.trips, (k0_t3_loop k).trips = 0 := by decide +kernel
theorem off1 : ∀ k : Fin k0_t1_loop.trips, k0_off1 k = ![256 * k.val, 0] := by decide +kernel
theorem off2 : ∀ (k : Fin k0_t1_loop.trips) (j : Fin (k0_t2_loop k).trips), k0_off2 k j = ![256 * (j.val + 1), 0] := by decide +kernel
theorem off3 : ∀ (k : Fin k0_t1_loop.trips) (j : Fin (k0_t2_loop k).trips), k0_off3 k j = ![0, 256 * j.val] := by decide +kernel
theorem off6 : ∀ k : Fin k0_t1_loop.trips, k0_off6 k = ![0, 256 * k.val] := by decide +kernel
theorem off7 : ∀ k : Fin k0_t1_loop.trips, k0_off7 k = ![0, 256 * k.val] := by decide +kernel

theorem lt16 (k : Fin k0_t1_loop.trips) : k.val < 16 := trips1 ▸ k.isLt

/-! ## A tile of columns after a store of one -/

section Tiles

variable {sg : RefSig} {Val : EltTy → Type} {e : EltTy} {sp : Space} {κ : Kind}

/-- A tile of columns after a store of one: the payload where it is the tile stored, else what was there. -/
theorem tileT_writes (v : View sg κ sp S128x4096 e) (f : v.ty.Contents Val) (j j' : Fin 16) {off : Fin 2 → ℕ}
    (inb : ∀ a, off a + S128x256.size a ≤ S128x4096.size a) (h : off = ![0, 256 * j.val]) (w : S128x256.Idx → Val e) (L : List (View.Piece Val S128x4096 e)) :
    tileT (v.read Val (v.writes Val f (⟨Rect.unit (s := S128x4096) off S128x256.size inb, w⟩ :: L))) j' = if j' = j then w else tileT (v.read Val (v.writes Val f L)) j' := by
  rw [View.read_writes_cons_put v f inb w L h]
  by_cases hj : j' = j
  · subst hj; rw [if_pos rfl]; exact VecWindow.window_put_same _ _ _ _ _
  · rw [if_neg hj]
    refine VecWindow.window_put_of_disjoint _ _ _ _ _ _ _ (1 : Fin 2) ?_
    have : j'.val ≠ j.val := fun h => hj (Fin.ext h)
    show 256 * j'.val + 256 ≤ 256 * j.val ∨ 256 * j.val + 256 ≤ 256 * j'.val
    omega

/-- The same for the sixteen rows of the log-sums. -/
theorem tileR_writes (v : View sg κ sp S16x4096 e) (f : v.ty.Contents Val) (j j' : Fin 16) {off : Fin 2 → ℕ}
    (inb : ∀ a, off a + S16x256.size a ≤ S16x4096.size a) (h : off = ![0, 256 * j.val]) (w : S16x256.Idx → Val e) (L : List (View.Piece Val S16x4096 e)) :
    tileR (v.read Val (v.writes Val f (⟨Rect.unit (s := S16x4096) off S16x256.size inb, w⟩ :: L))) j' = if j' = j then w else tileR (v.read Val (v.writes Val f L)) j' := by
  rw [View.read_writes_cons_put v f inb w L h]
  by_cases hj : j' = j
  · subst hj; rw [if_pos rfl]; exact VecWindow.window_put_same _ _ _ _ _
  · rw [if_neg hj]
    refine VecWindow.window_put_of_disjoint _ _ _ _ _ _ _ (1 : Fin 2) ?_
    have : j'.val ≠ j.val := fun h => hj (Fin.ext h)
    show 256 * j'.val + 256 ≤ 256 * j.val ∨ 256 * j.val + 256 ≤ 256 * j'.val
    omega

end Tiles

/-! ## What the loop over the key tiles carries -/

/-- The carried values: for each head the running maximum and sum, the weighted sum of the values, and for each head the scores of the next key tile. -/
abbrev Car (F : FTy → Type) := FVec F S1x256 .f32 × FVec F S1x256 .f32 × FVec F S1x256 .f32 × FVec F S1x256 .f32 × FVec F S128x256 .f32 × FVec F S256x256 .f32 × FVec F S256x256 .f32

/-- One step over a key tile: `V` the tile of values, `s0`, `s1` the scores of the next tile. -/
def carStep (v8 : IVec S128x256 1) (V : FVec F S128x256 .bf16) (s0 s1 : FVec F S256x256 .f32) (x : Car F) : Car F :=
  (k0_pay13 x.1 x.2.2.2.2.2.1, k0_pay19 x.1 x.2.1 x.2.2.2.2.2.1, k0_pay14 x.2.2.1 x.2.2.2.2.2.2, k0_pay20 x.2.2.1 x.2.2.2.1 x.2.2.2.2.2.2,
   k0_pay49 v8 x.2.2.2.2.1 (k0_pay12 V) (k0_pay17 x.1 x.2.2.2.2.2.1) (k0_pay18 x.2.2.1 x.2.2.2.2.2.2) (k0_pay21 v8 x.1 x.2.2.1 x.2.2.2.2.2.1 x.2.2.2.2.2.2), s0, s1)

/-- The carried values before key tile `n`. -/
def car (v8 : IVec S128x256 1) (V : ℕ → FVec F S128x256 .bf16) (S0 S1 : ℕ → FVec F S256x256 .f32) (init : Car F) : ℕ → Car F
  | 0 => init
  | n + 1 => carStep v8 (V n) (S0 (n + 1)) (S1 (n + 1)) (car v8 V S0 S1 init n)

/-- The loop's own state is the carried values. -/
theorem t2_state (𝒱 : Variants) (c : Dev nD) (bd : Option 𝒱.V) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (v5 : IVec S256x128 1) (v8 : IVec S128x256 1) (v11 : IVec S256x256 1) (c0 c1 : BitVec 32) (k : Fin k0_t1_loop.trips) (v16 v19 : Vec F S256x128 .bf16) (X2 : BufTy.Contents (Elt F) arg2.view.ty) (X4 : BufTy.Contents (Elt F) arg4.view.ty) (X5 : BufTy.Contents (Elt F) arg5.view.ty)
    (init : Car F) (V : ℕ → FVec F S128x256 .bf16) (S0 S1 : ℕ → FVec F S256x256 .f32)
    (hV : ∀ n < k.val, tileT (arg5.view.read (Elt F) X5) (t16 n) = V n)
    (h0 : ∀ n ≤ k.val, k0_pay10 v5 (k0_pay38 v5 v16 v19) (tile (arg2.view.read (Elt F) X2) (t16 n)) (tile (arg4.view.read (Elt F) X4) (t16 n)) = S0 n)
    (h1 : ∀ n ≤ k.val, k0_pay11 v5 (k0_pay39 v5 v16 v19) (tile (arg2.view.read (Elt F) X2) (t16 n)) (tile (arg4.view.read (Elt F) X4) (t16 n)) = S1 n)
    (n : ℕ) (hn : n ≤ k.val) :
    st_k0_t2 (F := F) 𝒱 c bd i arg1 harg1 arg2 harg2 arg3 harg3 arg4 harg4 arg5 harg5 arg6 harg6 arg7 harg7 arg8 harg8 v5 v8 v11 c0 c1 k v16 v19 X2 X4 X5 init n = car v8 V S0 S1 init n := by
  induction n with
  | zero => rfl
  | succ n ih =>
    have hk : n < (k0_t2_loop k).trips := by rw [trips2]; omega
    have k16 := lt16 k
    have hn16 : n < 16 := by omega
    have hn17 : n + 1 < 16 := by omega
    have e2 : k0_off2 k ⟨n, hk⟩ = ![256 * (t16 (n + 1)).val, 0] := by rw [off2, val_t16 hn17]
    have e3 : k0_off3 k ⟨n, hk⟩ = ![0, 256 * (t16 n).val] := by rw [off3, val_t16 hn16]
    refine (st_k0_t2_succ (F := F) 𝒱 c bd i arg1 harg1 arg2 harg2 arg3 harg3 arg4 harg4 arg5 harg5 arg6 harg6 arg7 harg7 arg8 harg8 v5 v8 v11 c0 c1 k v16 v19 X2 X4 X5 init ⟨n, hk⟩).trans ?_
    dsimp only
    rw [ih (by omega), car, ← hV n (by omega), ← h0 (n + 1) hn, ← h1 (n + 1) hn, ← readAt_tile arg2.view X2 (t16 (n + 1)) (k0_off2_inb k ⟨n, hk⟩) e2, ← readAt_tile arg4.view X4 (t16 (n + 1)) (k0_off2_inb k ⟨n, hk⟩) e2, ← readAt_tileT arg5.view X5 (t16 n) (k0_off3_inb k ⟨n, hk⟩) e3]
    unfold tripR_k0_t2 trip_k0_t2
    rfl

/-! ## One pass over a query tile -/

/-- The five inputs of a grid point, and the point. -/
structure Blk (F : FTy → Type) where
  x1 : FVec F S4096x128 .bf16
  x2 : FVec F S4096x128 .bf16
  x3 : FVec F S4096x128 .bf16
  x4 : FVec F S4096x128 .bf16
  x5 : FVec F S128x4096 .bf16
  i : grid0.Coords

namespace Blk

variable (B : Blk F)

/-- The scores of query tile `k` against key tile `j`, for the two heads. -/
def S0 (k j : ℕ) : FVec F S256x256 .f32 := k0_pay10 k0_pay2 (k0_pay38 k0_pay2 (tile B.x1 (t16 k)) (tile B.x3 (t16 k))) (tile B.x2 (t16 j)) (tile B.x4 (t16 j))
def S1 (k j : ℕ) : FVec F S256x256 .f32 := k0_pay11 k0_pay2 (k0_pay39 k0_pay2 (tile B.x1 (t16 k)) (tile B.x3 (t16 k))) (tile B.x2 (t16 j)) (tile B.x4 (t16 j))

/-- The carried values of query tile `k` before key tile `n`. -/
def C (k n : ℕ) : Car F :=
  car k0_pay3 (fun j => tileT B.x5 (t16 j)) (B.S0 k) (B.S1 k) (k0_pay40, k0_pay41, k0_pay42, k0_pay43, k0_pay44, B.S0 k 0, B.S1 k 0) n

/-- The diagonal scores with the mask applied. -/
def M0 (k : ℕ) : FVec F S256x256 .f32 := k0_pay51 k0_pay4 (B.C k k).2.2.2.2.2.1
def M1 (k : ℕ) : FVec F S256x256 .f32 := k0_pay52 k0_pay4 (B.C k k).2.2.2.2.2.2

/-- The tile of the output, a column a query. -/
def out (k : ℕ) : FVec F S128x256 .f32 :=
  k0_pay61 k0_pay3 (B.C k k).1 (B.C k k).2.1 (B.C k k).2.2.1 (B.C k k).2.2.2.1 (B.C k k).2.2.2.2.1 (B.M0 k) (B.M1 k) (tileT B.x5 (t16 k))

/-- What the pass puts into the log-sums. -/
def lse (k : ℕ) (old : FVec F S16x256 .f32) : FVec F S16x256 .f32 :=
  k0_pay7 B.i (k0_pay53 (B.C k k).1 (B.M0 k)) (k0_pay54 (B.C k k).2.2.1 (B.M1 k)) (k0_pay59 (B.C k k).1 (B.C k k).2.1 (B.M0 k)) (k0_pay60 (B.C k k).2.2.1 (B.C k k).2.2.2.1 (B.M1 k)) old

end Blk

set_option maxHeartbeats 4000000 in
/-- What one pass of the outer loop does to the tiles of the outputs. -/
theorem trip_tiles (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : Fin k0_t1_loop.trips) (f6 : BufTy.Contents (Elt F) arg6.view.ty) (f7 : BufTy.Contents (Elt F) arg7.view.ty) (f8 : BufTy.Contents (Elt F) arg8.view.ty) (B : Blk F)
    (hB : B = ⟨arg1.view.read (Elt F) X1, arg2.view.read (Elt F) X2, arg3.view.read (Elt F) X3, arg4.view.read (Elt F) X4, arg5.view.read (Elt F) X5, i⟩)
    (t) (ht : t = trip (F := F) c i arg1 harg1 arg2 harg2 arg3 harg3 arg4 harg4 arg5 harg5 arg6 harg6 arg7 harg7 arg8 harg8 X1 X2 X3 X4 X5 k) :
    (∀ j : Fin 16, tile (arg6.view.read (Elt F) (t.1 f6)) j = if j = t16 k then k0_pay6 (B.out k) else tile (arg6.view.read (Elt F) f6) j)
    ∧ (∀ j : Fin 16, tileT (arg7.view.read (Elt F) (t.2.1 f7)) j = if j = t16 k then k0_pay5 (B.out k) else tileT (arg7.view.read (Elt F) f7) j)
    ∧ (∀ j : Fin 16, tileR (arg8.view.read (Elt F) (t.2.2.1 f8)) j = if j = t16 k then B.lse k (tileR (arg8.view.read (Elt F) f8) j) else tileR (arg8.view.read (Elt F) f8) j) := by
  unfold trip at ht
  subst ht
  dsimp only
  have k16 := lt16 k
  have e1 : k0_off1 k = ![256 * (t16 k).val, 0] := by rw [off1, val_t16 k16]
  have e6 : k0_off6 k = ![0, 256 * (t16 k).val] := by rw [off6, val_t16 k16]
  have e7 : k0_off7 k = ![0, 256 * (t16 k).val] := by rw [off7, val_t16 k16]
  have z2 : Scf.trips (k0_t2_loop k).lb (k0_t2_loop k).ub (k0_t2_loop k).st = k.val := trips2 k
  have z3 : Scf.trips (k0_t3_loop k).lb (k0_t3_loop k).ub (k0_t3_loop k).st = 0 := trips3 k
  have g1 := readAt_tile arg1.view X1 (t16 k) (k0_off1_inb k) e1
  have g3 := readAt_tile arg3.view X3 (t16 k) (k0_off1_inb k) e1
  have g2 := readAt_tile arg2.view X2 (t16 0) inb_S4096x128_S256x128_0_0 rfl
  have g4 := readAt_tile arg4.view X4 (t16 0) inb_S4096x128_S256x128_0_0 rfl
  have g5 := readAt_tileT arg5.view X5 (t16 k) (k0_off6_inb k) e6
  have I : ((k0_pay40 (F := F), k0_pay41 (F := F), k0_pay42 (F := F), k0_pay43 (F := F), k0_pay44 (F := F), k0_pay47 k0_pay2 (View.readAt (Elt F) arg1.view (Rect.unit (s := S4096x128) (k0_off1 k) S256x128.size (k0_off1_inb k)).toLoadRect X1) (View.readAt (Elt F) arg3.view (Rect.unit (s := S4096x128) (k0_off1 k) S256x128.size (k0_off1_inb k)).toLoadRect X3) (View.readAt (Elt F) arg2.view (Rect.unit (s := S4096x128) ![0, 0] S256x128.size inb_S4096x128_S256x128_0_0).toLoadRect X2) (View.readAt (Elt F) arg4.view (Rect.unit (s := S4096x128) ![0, 0] S256x128.size inb_S4096x128_S256x128_0_0).toLoadRect X4), k0_pay48 k0_pay2 (View.readAt (Elt F) arg1.view (Rect.unit (s := S4096x128) (k0_off1 k) S256x128.size (k0_off1_inb k)).toLoadRect X1) (View.readAt (Elt F) arg3.view (Rect.unit (s := S4096x128) (k0_off1 k) S256x128.size (k0_off1_inb k)).toLoadRect X3) (View.readAt (Elt F) arg2.view (Rect.unit (s := S4096x128) ![0, 0] S256x128.size inb_S4096x128_S256x128_0_0).toLoadRect X2) (View.readAt (Elt F) arg4.view (Rect.unit (s := S4096x128) ![0, 0] S256x128.size inb_S4096x128_S256x128_0_0).toLoadRect X4)) : Car F)
      = (k0_pay40, k0_pay41, k0_pay42, k0_pay43, k0_pay44, B.S0 k 0, B.S1 k 0) := by
    rw [g1, g2, g3, g4, hB]; rfl
  have T := (t2_state (F := F) Variants.none c none i arg1 harg1 arg2 harg2 arg3 harg3 arg4 harg4 arg5 harg5 arg6 harg6 arg7 harg7 arg8 harg8 k0_pay2 k0_pay3 k0_pay4 0#32 1#32 k (View.readAt (Elt F) arg1.view (Rect.unit (s := S4096x128) (k0_off1 k) S256x128.size (k0_off1_inb k)).toLoadRect X1) (View.readAt (Elt F) arg3.view (Rect.unit (s := S4096x128) (k0_off1 k) S256x128.size (k0_off1_inb k)).toLoadRect X3) X2 X4 X5 _ (fun j => tileT B.x5 (t16 j)) (B.S0 k) (B.S1 k)
    (fun n _ => by rw [hB]) (fun n _ => by rw [g1, g3, hB]; rfl) (fun n _ => by rw [g1, g3, hB]; rfl) k.val le_rfl).trans (congrArg (fun z => car k0_pay3 (fun j => tileT B.x5 (t16 j)) (B.S0 k) (B.S1 k) z k.val) I)
  change _ = B.C k k at T
  have r0 : trip.sl.r c i arg1 harg1 arg2 harg2 arg3 harg3 arg4 harg4 arg5 harg5 arg6 harg6 arg7 harg7 arg8 harg8 X1 X2 X3 X4 X5 k = (B.C k k).1 := by
    unfold trip.sl.r
    rw [z3, z2]
    exact congrArg (fun z : Car F => z.1) T
  have r1 : trip.sl.r_1 c i arg1 harg1 arg2 harg2 arg3 harg3 arg4 harg4 arg5 harg5 arg6 harg6 arg7 harg7 arg8 harg8 X1 X2 X3 X4 X5 k = (B.C k k).2.1 := by
    unfold trip.sl.r_1
    rw [z3, z2]
    exact congrArg (fun z : Car F => z.2.1) T
  have r2 : trip.sl.r_2 c i arg1 harg1 arg2 harg2 arg3 harg3 arg4 harg4 arg5 harg5 arg6 harg6 arg7 harg7 arg8 harg8 X1 X2 X3 X4 X5 k = (B.C k k).2.2.1 := by
    unfold trip.sl.r_2
    rw [z3, z2]
    exact congrArg (fun z : Car F => z.2.2.1) T
  have r3 : trip.sl.r_3 c i arg1 harg1 arg2 harg2 arg3 harg3 arg4 harg4 arg5 harg5 arg6 harg6 arg7 harg7 arg8 harg8 X1 X2 X3 X4 X5 k = (B.C k k).2.2.2.1 := by
    unfold trip.sl.r_3
    rw [z3, z2]
    exact congrArg (fun z : Car F => z.2.2.2.1) T
  have r4 : trip.sl.r_4 c i arg1 harg1 arg2 harg2 arg3 harg3 arg4 harg4 arg5 harg5 arg6 harg6 arg7 harg7 arg8 harg8 X1 X2 X3 X4 X5 k = (B.C k k).2.2.2.2.1 := by
    unfold trip.sl.r_4
    rw [z3, z2]
    exact congrArg (fun z : Car F => z.2.2.2.2.1) T
  have r5 : trip.sl.r_5 c i arg1 harg1 arg2 harg2 arg3 harg3 arg4 harg4 arg5 harg5 arg6 harg6 arg7 harg7 arg8 harg8 X1 X2 X3 X4 X5 k = B.M0 k := by
    unfold trip.sl.r_5
    rw [z3, z2]
    exact congrArg (fun z : Car F => k0_pay51 k0_pay4 z.2.2.2.2.2.1) T
  have r6 : trip.sl.r_6 c i arg1 harg1 arg2 harg2 arg3 harg3 arg4 harg4 arg5 harg5 arg6 harg6 arg7 harg7 arg8 harg8 X1 X2 X3 X4 X5 k = B.M1 k := by
    unfold trip.sl.r_6
    rw [z3, z2]
    exact congrArg (fun z : Car F => k0_pay52 k0_pay4 z.2.2.2.2.2.2) T
  have o : trip.sl.r_11 c i arg1 harg1 arg2 harg2 arg3 harg3 arg4 harg4 arg5 harg5 arg6 harg6 arg7 harg7 arg8 harg8 X1 X2 X3 X4 X5 k = B.out k := by
    unfold trip.sl.r_11
    rw [r0, r1, r2, r3, r4, r5, r6, g5, Blk.out, hB]
  have l0 : trip.sl.r_7 c i arg1 harg1 arg2 harg2 arg3 harg3 arg4 harg4 arg5 harg5 arg6 harg6 arg7 harg7 arg8 harg8 X1 X2 X3 X4 X5 k = k0_pay53 (B.C k k).1 (B.M0 k) := by unfold trip.sl.r_7; rw [r0, r5]
  have l1 : trip.sl.r_8 c i arg1 harg1 arg2 harg2 arg3 harg3 arg4 harg4 arg5 harg5 arg6 harg6 arg7 harg7 arg8 harg8 X1 X2 X3 X4 X5 k = k0_pay54 (B.C k k).2.2.1 (B.M1 k) := by unfold trip.sl.r_8; rw [r2, r6]
  have l2 : trip.sl.r_9 c i arg1 harg1 arg2 harg2 arg3 harg3 arg4 harg4 arg5 harg5 arg6 harg6 arg7 harg7 arg8 harg8 X1 X2 X3 X4 X5 k = k0_pay59 (B.C k k).1 (B.C k k).2.1 (B.M0 k) := by unfold trip.sl.r_9; rw [r0, r1, r5]
  have l3 : trip.sl.r_10 c i arg1 harg1 arg2 harg2 arg3 harg3 arg4 harg4 arg5 harg5 arg6 harg6 arg7 harg7 arg8 harg8 X1 X2 X3 X4 X5 k = k0_pay60 (B.C k k).2.2.1 (B.C k k).2.2.2.1 (B.M1 k) := by unfold trip.sl.r_10; rw [r2, r3, r6]
  have g8 := readAt_tileR arg8.view f8 (t16 k) (k0_off7_inb k) e7
  refine ⟨fun j => ?_, fun j => ?_, fun j => ?_⟩
  · exact (tile_writes arg6.view f6 (t16 k) j _ e1 _ _).trans (congrArg (fun z => if j = t16 k then k0_pay6 z else tile (View.read (Elt F) arg6.view f6) j) o)
  · exact (tileT_writes arg7.view f7 (t16 k) j _ e6 _ _).trans (congrArg (fun z => if j = t16 k then k0_pay5 z else tileT (View.read (Elt F) arg7.view f7) j) o)
  · refine (tileR_writes arg8.view f8 (t16 k) j _ e7 _ _).trans ?_
    by_cases h : j = t16 k
    · rw [if_pos h, if_pos h, l0, l1, l2, l3, h, Blk.lse, ← g8, hB]
    · rw [if_neg h, if_neg h]; rfl

end Cert.FoxFwdKernelIdeal.Run

end
-- ==== Proof.FwdRun.lean ====
/- The outer loop of the fox forward kernel: its three outputs after the sixteen query tiles. -/
module

public import proofs.«01_k».proof.Proof.Gen.FoxFwdKernelIdeal.Frame
public import proofs.«01_k».proof.Proof.Gen.FoxFwdKernelIdeal.Loops
public import proofs.«01_k».proof.Proof.FwdState
public import Idealize.ShloMosaic.Lib.Pipeline.ValueKit

@[expose] public section

set_option maxRecDepth 16384

noncomputable section

namespace Cert.FoxFwdKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxFwdKernelIdeal.Gen

variable {F : FTy → Type} [FloatOps F] [Named F]

local notation "𝕄" => MT nD τ sig Unit (Elt F) ℕ (UR sig nD τ) ℕ

open Cert.FoxKernelIdeal.Run (tile tileT tileR t16 t16_val val_t16)

/-- The array whose sixteen tiles of rows are given. -/
def untile {α : Type} (g : Fin 16 → S256x128.Idx → α) : S4096x128.Idx → α := fun y =>
  g ⟨(y 0 : Fin 4096).val / 256, by have : (y 0).val < 4096 := (y 0).isLt; omega⟩ (ix2 (⟨(y 0 : Fin 4096).val % 256, Nat.mod_lt _ (by decide)⟩ : Fin 256) (y 1 : Fin 128))

/-- The array whose sixteen tiles of columns are given, of 128 rows, -/
def untileT {α : Type} (g : Fin 16 → S128x256.Idx → α) : S128x4096.Idx → α := fun y =>
  g ⟨(y 1 : Fin 4096).val / 256, by have : (y 1).val < 4096 := (y 1).isLt; omega⟩ (ix2 (y 0 : Fin 128) (⟨(y 1 : Fin 4096).val % 256, Nat.mod_lt _ (by decide)⟩ : Fin 256))

/-- and of sixteen. -/
def untileR {α : Type} (g : Fin 16 → S16x256.Idx → α) : S16x4096.Idx → α := fun y =>
  g ⟨(y 1 : Fin 4096).val / 256, by have : (y 1).val < 4096 := (y 1).isLt; omega⟩ (ix2 (y 0 : Fin 16) (⟨(y 1 : Fin 4096).val % 256, Nat.mod_lt _ (by decide)⟩ : Fin 256))

/-- An array with given tiles is the array put together from them. -/
theorem eq_untile {α : Type} (x : S4096x128.Idx → α) (g : Fin 16 → S256x128.Idx → α) (h : ∀ j, tile x j = g j) : x = untile g := by
  funext y
  unfold untile
  rw [← h]
  refine congrArg x (funext fun a => ?_)
  fin_cases a
  · apply Fin.ext
    rw [Rect.emb_apply]
    show (y 0).val = 256 * ((y 0).val / 256) + 1 * ((y 0).val % 256)
    omega
  · apply Fin.ext
    rw [Rect.emb_apply]
    show (y 1).val = 0 + 1 * (y 1).val
    omega

theorem eq_untileT {α : Type} (x : S128x4096.Idx → α) (g : Fin 16 → S128x256.Idx → α) (h : ∀ j, tileT x j = g j) : x = untileT g := by
  funext y
  unfold untileT
  rw [← h]
  refine congrArg x (funext fun a => ?_)
  fin_cases a
  · apply Fin.ext
    rw [Rect.emb_apply]
    show (y 0).val = 0 + 1 * (y 0).val
    omega
  · apply Fin.ext
    rw [Rect.emb_apply]
    show (y 1).val = 256 * ((y 1).val / 256) + 1 * ((y 1).val % 256)
    omega

theorem eq_untileR {α : Type} (x : S16x4096.Idx → α) (g : Fin 16 → S16x256.Idx → α) (h : ∀ j, tileR x j = g j) : x = untileR g := by
  funext y
  unfold untileR
  rw [← h]
  refine congrArg x (funext fun a => ?_)
  fin_cases a
  · apply Fin.ext
    rw [Rect.emb_apply]
    show (y 0).val = 0 + 1 * (y 0).val
    omega
  · apply Fin.ext
    rw [Rect.emb_apply]
    show (y 1).val = 256 * ((y 1).val / 256) + 1 * ((y 1).val % 256)
    omega

/-- The three results of a grid point: the output, the output transposed, and the log-sums with this point's two rows put in. -/
def Blk.o (B : Blk F) : FVec F S4096x128 .bf16 := untile fun j => k0_pay6 (B.out j.val)
def Blk.ot (B : Blk F) : FVec F S128x4096 .bf16 := untileT fun j => k0_pay5 (B.out j.val)
def Blk.lses (B : Blk F) (old : FVec F S16x4096 .f32) : FVec F S16x4096 .f32 := untileR fun j => B.lse j.val (tileR old j)

/-- The contents of the three outputs after one pass of the outer loop; past the last pass, as they were. -/
@[irreducible] def stStep (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (k : ℕ) (p : BufTy.Contents (Elt F) arg6.view.ty × BufTy.Contents (Elt F) arg7.view.ty × BufTy.Contents (Elt F) arg8.view.ty) : BufTy.Contents (Elt F) arg6.view.ty × BufTy.Contents (Elt F) arg7.view.ty × BufTy.Contents (Elt F) arg8.view.ty :=
  if h : k < k0_t1_loop.trips then ((trip (F := F) c i arg1 harg1 arg2 harg2 arg3 harg3 arg4 harg4 arg5 harg5 arg6 harg6 arg7 harg7 arg8 harg8 X1 X2 X3 X4 X5 ⟨k, h⟩).1 p.1, (trip (F := F) c i arg1 harg1 arg2 harg2 arg3 harg3 arg4 harg4 arg5 harg5 arg6 harg6 arg7 harg7 arg8 harg8 X1 X2 X3 X4 X5 ⟨k, h⟩).2.1 p.2.1, (trip (F := F) c i arg1 harg1 arg2 harg2 arg3 harg3 arg4 harg4 arg5 harg5 arg6 harg6 arg7 harg7 arg8 harg8 X1 X2 X3 X4 X5 ⟨k, h⟩).2.2.1 p.2.2) else p

/-- Those contents before pass `k`, from `G·` at the loop's entry. -/
def st (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) : ℕ → BufTy.Contents (Elt F) arg6.view.ty × BufTy.Contents (Elt F) arg7.view.ty × BufTy.Contents (Elt F) arg8.view.ty
  | 0 => (G6, G7, G8)
  | k + 1 => stStep c i arg1 harg1 arg2 harg2 arg3 harg3 arg4 harg4 arg5 harg5 arg6 harg6 arg7 harg7 arg8 harg8 X1 X2 X3 X4 X5 k (st c i arg1 harg1 arg2 harg2 arg3 harg3 arg4 harg4 arg5 harg5 arg6 harg6 arg7 harg7 arg8 harg8 X1 X2 X3 X4 X5 G6 G7 G8 k)

/-- The state after pass `k` is the pass's contents at the state before it. -/
theorem st_succ (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) (k : Fin k0_t1_loop.trips) (p) (hp : p = st (F := F) c i arg1 harg1 arg2 harg2 arg3 harg3 arg4 harg4 arg5 harg5 arg6 harg6 arg7 harg7 arg8 harg8 X1 X2 X3 X4 X5 G6 G7 G8 k.val) :
    st (F := F) c i arg1 harg1 arg2 harg2 arg3 harg3 arg4 harg4 arg5 harg5 arg6 harg6 arg7 harg7 arg8 harg8 X1 X2 X3 X4 X5 G6 G7 G8 (k.val + 1) = ((trip (F := F) c i arg1 harg1 arg2 harg2 arg3 harg3 arg4 harg4 arg5 harg5 arg6 harg6 arg7 harg7 arg8 harg8 X1 X2 X3 X4 X5 k).1 p.1, (trip (F := F) c i arg1 harg1 arg2 harg2 arg3 harg3 arg4 harg4 arg5 harg5 arg6 harg6 arg7 harg7 arg8 harg8 X1 X2 X3 X4 X5 k).2.1 p.2.1, (trip (F := F) c i arg1 harg1 arg2 harg2 arg3 harg3 arg4 harg4 arg5 harg5 arg6 harg6 arg7 harg7 arg8 harg8 X1 X2 X3 X4 X5 k).2.2.1 p.2.2) := by
  rw [st.eq_2, ← hp]
  unfold stStep
  exact dif_pos k.isLt

/-- The outputs' tiles before pass `n`. -/
theorem st_tiles (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty) (B : Blk F) (hB : B = ⟨arg1.view.read (Elt F) X1, arg2.view.read (Elt F) X2, arg3.view.read (Elt F) X3, arg4.view.read (Elt F) X4, arg5.view.read (Elt F) X5, i⟩)
    (n : ℕ) (hn : n ≤ 16) (s : BufTy.Contents (Elt F) arg6.view.ty × BufTy.Contents (Elt F) arg7.view.ty × BufTy.Contents (Elt F) arg8.view.ty) (hs : s = st (F := F) c i arg1 harg1 arg2 harg2 arg3 harg3 arg4 harg4 arg5 harg5 arg6 harg6 arg7 harg7 arg8 harg8 X1 X2 X3 X4 X5 G6 G7 G8 n) :
    (∀ j : Fin 16, j.val < n → tile (arg6.view.read (Elt F) s.1) j = k0_pay6 (B.out j.val))
    ∧ (∀ j : Fin 16, j.val < n → tileT (arg7.view.read (Elt F) s.2.1) j = k0_pay5 (B.out j.val))
    ∧ (∀ j : Fin 16, tileR (arg8.view.read (Elt F) s.2.2) j = if j.val < n then B.lse j.val (tileR (arg8.view.read (Elt F) G8) j) else tileR (arg8.view.read (Elt F) G8) j) := by
  induction n generalizing s with
  | zero =>
    rw [st.eq_1] at hs
    subst hs
    exact ⟨fun j h => absurd h (Nat.not_lt_zero _), fun j h => absurd h (Nat.not_lt_zero _), fun j => (if_neg (Nat.not_lt_zero _)).symm⟩
  | succ k ih =>
    obtain ⟨a6, a7, a8⟩ := ih (by omega) _ rfl
    have hk : k < k0_t1_loop.trips := by rw [trips1]; omega
    have hk16 : k < 16 := by omega
    rw [st_succ c i arg1 harg1 arg2 harg2 arg3 harg3 arg4 harg4 arg5 harg5 arg6 harg6 arg7 harg7 arg8 harg8 X1 X2 X3 X4 X5 G6 G7 G8 ⟨k, hk⟩ _ rfl] at hs
    dsimp only at hs
    generalize st (F := F) c i arg1 harg1 arg2 harg2 arg3 harg3 arg4 harg4 arg5 harg5 arg6 harg6 arg7 harg7 arg8 harg8 X1 X2 X3 X4 X5 G6 G7 G8 k = p at hs a6 a7 a8
    obtain ⟨b6, b7, b8⟩ := trip_tiles c i arg1 harg1 arg2 harg2 arg3 harg3 arg4 harg4 arg5 harg5 arg6 harg6 arg7 harg7 arg8 harg8 X1 X2 X3 X4 X5 ⟨k, hk⟩ p.1 p.2.1 p.2.2 B hB _ rfl
    dsimp only at b6 b7 b8
    subst hs
    refine ⟨fun j h => (b6 j).trans ?_, fun j h => (b7 j).trans ?_, fun j => (b8 j).trans ?_⟩
    · by_cases e : j = t16 k
      · rw [if_pos e, e, val_t16 hk16]
      · have : j.val ≠ k := fun q => e (by rw [← q, t16_val])
        rw [if_neg e]; exact a6 j (by omega)
    · by_cases e : j = t16 k
      · rw [if_pos e, e, val_t16 hk16]
      · have : j.val ≠ k := fun q => e (by rw [← q, t16_val])
        rw [if_neg e]; exact a7 j (by omega)
    · rw [a8 j]
      by_cases e : j = t16 k
      · have : j.val = k := by rw [e, val_t16 hk16]
        rw [if_pos e, if_neg (by omega), if_pos (by omega), this]
      · have : j.val ≠ k := fun q => e (by rw [← q, t16_val])
        rw [if_neg e]
        by_cases h : j.val < k
        · rw [if_pos h, if_pos (by omega)]
        · rw [if_neg h, if_neg (by omega)]

/-- The outer loop followed by a continuation: the outputs go from `G·` to the state after sixteen passes. -/
theorem loop_bind (c : Dev nD) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (G6 : BufTy.Contents (Elt F) arg6.view.ty) (G7 : BufTy.Contents (Elt F) arg7.view.ty) (G8 : BufTy.Contents (Elt F) arg8.view.ty)
    {β : Type} {kk : PUnit → Prog (TpuEff nD τ sig (Elt F) Λ₀ .tc) β} {Q : β → sProp 𝕄} (s : BufTy.Contents (Elt F) arg6.view.ty × BufTy.Contents (Elt F) arg7.view.ty × BufTy.Contents (Elt F) arg8.view.ty) (hs : s = st (F := F) c i arg1 harg1 arg2 harg2 arg3 harg3 arg4 harg4 arg5 harg5 arg6 harg6 arg7 harg7 arg8 harg8 X1 X2 X3 X4 X5 G6 G7 G8 16) :
    Trip (F := F) c arg1 arg2 arg3 arg4 arg5 arg6 arg7 arg8 X1 X2 X3 X4 X5 G6 G7 G8 ⊢ iprop((∀ acc : PUnit, Trip (F := F) c arg1 arg2 arg3 arg4 arg5 arg6 arg7 arg8 X1 X2 X3 X4 X5 s.1 s.2.1 s.2.2 -∗ wp frame (wpE (defs₀ (F := F)) Variants.none (c : Thread nD τ) none) E (kk acc) Q)
      -∗ wp frame (wpE (defs₀ (F := F)) Variants.none (c : Thread nD τ) none) E (Scf.Loop.for k0_t1_loop k0_t1_ok () (k0_t1_body (F := F) i arg1 harg1 arg2 harg2 arg3 harg3 arg4 harg4 arg5 harg5 arg6 harg6 arg7 harg7 arg8 harg8) >>= kk) Q) := by
  have h := Scf.wp_for_bind (Fr := frame) (wpE := wpE (defs₀ (F := F)) Variants.none (c : Thread nD τ) none) (Es := E) k0_t1_loop.lb k0_t1_loop.ub k0_t1_loop.st k0_t1_ok () (k0_t1_body (F := F) i arg1 harg1 arg2 harg2 arg3 harg3 arg4 harg4 arg5 harg5 arg6 harg6 arg7 harg7 arg8 harg8)
    (fun k _ => Trip (F := F) c arg1 arg2 arg3 arg4 arg5 arg6 arg7 arg8 X1 X2 X3 X4 X5 (st (F := F) c i arg1 harg1 arg2 harg2 arg3 harg3 arg4 harg4 arg5 harg5 arg6 harg6 arg7 harg7 arg8 harg8 X1 X2 X3 X4 X5 G6 G7 G8 k).1 (st (F := F) c i arg1 harg1 arg2 harg2 arg3 harg3 arg4 harg4 arg5 harg5 arg6 harg6 arg7 harg7 arg8 harg8 X1 X2 X3 X4 X5 G6 G7 G8 k).2.1 (st (F := F) c i arg1 harg1 arg2 harg2 arg3 harg3 arg4 harg4 arg5 harg5 arg6 harg6 arg7 harg7 arg8 harg8 X1 X2 X3 X4 X5 G6 G7 G8 k).2.2)
    (fun k acc => by
      rw [st_succ c i arg1 harg1 arg2 harg2 arg3 harg3 arg4 harg4 arg5 harg5 arg6 harg6 arg7 harg7 arg8 harg8 X1 X2 X3 X4 X5 G6 G7 G8 k _ rfl]
      exact (trip (F := F) c i arg1 harg1 arg2 harg2 arg3 harg3 arg4 harg4 arg5 harg5 arg6 harg6 arg7 harg7 arg8 harg8 X1 X2 X3 X4 X5 k).2.2.2 E _ _ _) (kk := kk) (Q := Q)
  rw [show Scf.trips k0_t1_loop.lb k0_t1_loop.ub k0_t1_loop.st = 16 from trips1, ← hs] at h
  exact h

end Cert.FoxFwdKernelIdeal.Run

end
-- ==== Proof.FwdBody.lean ====
/- The body of the fox forward kernel: what its three outputs hold when it ends. -/
module

public import proofs.«01_k».proof.Proof.FwdRun

@[expose] public section

set_option maxRecDepth 16384

noncomputable section

namespace Cert.FoxFwdKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxFwdKernelIdeal.Gen

variable {F : FTy → Type} [FloatOps F] [Named F]

local notation "𝕄" => MT nD τ sig Unit (Elt F) ℕ (UR sig nD τ) ℕ

open Cert.FoxKernelIdeal.Run (tileR)

set_option maxHeartbeats 4000000 in
/-- The outer loop on five input blocks, with `z` in the log-sums: it leaves the inputs as they were and the three outputs at the point's results. -/
theorem loop_run (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (x1 : FVec F S4096x128 .bf16) (x2 : FVec F S4096x128 .bf16) (x3 : FVec F S4096x128 .bf16) (x4 : FVec F S4096x128 .bf16) (x5 : FVec F S128x4096 .bf16) (z : FVec F S16x4096 .f32) (G6 : BufTy.Contents (Elt F) arg6.view.ty) (G7 : BufTy.Contents (Elt F) arg7.view.ty) (G8 : BufTy.Contents (Elt F) arg8.view.ty) (hz : arg8.view.read (Elt F) G8 = z) (E : Set ℕ) (K : PUnit → sProp 𝕄) :
    iprop(Trip (F := F) c arg1 arg2 arg3 arg4 arg5 arg6 arg7 arg8 (harg1.unread x1) (harg2.unread x2) (harg3.unread x3) (harg4.unread x4) (harg5.unread x5) G6 G7 G8 ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (Blk.o ⟨x1, x2, x3, x4, x5, i⟩) ∗ owns (c : Thread nD τ) arg7 fullShare (Blk.ot ⟨x1, x2, x3, x4, x5, i⟩) ∗ owns (c : Thread nD τ) arg8 fullShare (Blk.lses ⟨x1, x2, x3, x4, x5, i⟩ z)) -∗ K ⟨⟩))
    ⊢ wp frame (wpE (defs₀ (F := F)) Variants.none c none) E (Scf.Loop.for k0_t1_loop k0_t1_ok () (k0_t1_body (F := F) i arg1 harg1 arg2 harg2 arg3 harg3 arg4 harg4 arg5 harg5 arg6 harg6 arg7 harg7 arg8 harg8) >>= fun _ => pure ⟨⟩) K := by
  generalize hs : st (F := F) c i arg1 harg1 arg2 harg2 arg3 harg3 arg4 harg4 arg5 harg5 arg6 harg6 arg7 harg7 arg8 harg8 (harg1.unread x1) (harg2.unread x2) (harg3.unread x3) (harg4.unread x4) (harg5.unread x5) G6 G7 G8 16 = s
  obtain ⟨q6, q7, q8⟩ := st_tiles c i arg1 harg1 arg2 harg2 arg3 harg3 arg4 harg4 arg5 harg5 arg6 harg6 arg7 harg7 arg8 harg8 (harg1.unread x1) (harg2.unread x2) (harg3.unread x3) (harg4.unread x4) (harg5.unread x5) G6 G7 G8 ⟨x1, x2, x3, x4, x5, i⟩ (by simp only [Memref.IsWhole.read_unread]) 16 le_rfl s hs.symm
  unfold owns
  iintro ⟨H, Hk⟩
  iapply (loop_bind c E i arg1 harg1 arg2 harg2 arg3 harg3 arg4 harg4 arg5 harg5 arg6 harg6 arg7 harg7 arg8 harg8 (harg1.unread x1) (harg2.unread x2) (harg3.unread x3) (harg4.unread x4) (harg5.unread x5) G6 G7 G8 s hs.symm) $$ H
  iintro %acc ⟨H1, H2, H3, H4, H5, H6, H7, H8⟩
  sl_step
  iapply Hk
  isplitl [H1]
  · iexists _; isplitr; swap
    · iexact H1
    ipureintro; exact harg1.read_unread (Val := Elt F) _
  isplitl [H2]
  · iexists _; isplitr; swap
    · iexact H2
    ipureintro; exact harg2.read_unread (Val := Elt F) _
  isplitl [H3]
  · iexists _; isplitr; swap
    · iexact H3
    ipureintro; exact harg3.read_unread (Val := Elt F) _
  isplitl [H4]
  · iexists _; isplitr; swap
    · iexact H4
    ipureintro; exact harg4.read_unread (Val := Elt F) _
  isplitl [H5]
  · iexists _; isplitr; swap
    · iexact H5
    ipureintro; exact harg5.read_unread (Val := Elt F) _
  isplitl [H6]
  · iexists _; isplitr; swap
    · iexact H6
    ipureintro; exact eq_untile _ _ fun j => q6 j j.isLt
  isplitl [H7]
  · iexists _; isplitr; swap
    · iexact H7
    ipureintro; exact eq_untileT _ _ fun j => q7 j j.isLt
  iexists _; isplitr; swap
  · iexact H8
  ipureintro; exact eq_untileR _ _ fun j => by rw [q8 j, if_pos j.isLt, hz]

/-- The first grid point is where the body's test holds. -/
theorem first (i : grid0.Coords) : Scalar.cmpi .ne (Scalar.extui (Scalar.cmpi .eq (BitVec.ofNat 32 (i 0).val) 0#32)) 0#32 = (1#1 : BitVec 1) ↔ (i 0).val = 0 := by
  have h : ∀ n : Fin 8, Scalar.cmpi .ne (Scalar.extui (Scalar.cmpi .eq (BitVec.ofNat 32 n.val) 0#32) : BitVec 32) 0#32 = (1#1 : BitVec 1) ↔ n.val = 0 := by decide +kernel
  exact h (i 0)

set_option maxHeartbeats 4000000 in
/-- The kernel body on five input blocks and the log-sums of the points before: it leaves the inputs as they were and the three outputs at the
point's results, the log-sums cleared at the first point. -/
theorem kernel_run (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S128x4096 .bf16) (harg5 : arg5.IsWhole) (arg6 : Memref sig .tc .vmem S4096x128 .bf16) (harg6 : arg6.IsWhole) (arg7 : Memref sig .tc .vmem S128x4096 .bf16) (harg7 : arg7.IsWhole) (arg8 : Memref sig .tc .vmem S16x4096 .f32) (harg8 : arg8.IsWhole) (x1 : FVec F S4096x128 .bf16) (x2 : FVec F S4096x128 .bf16) (x3 : FVec F S4096x128 .bf16) (x4 : FVec F S4096x128 .bf16) (x5 : FVec F S128x4096 .bf16) (x8 z : FVec F S16x4096 .f32) (hz : z = if (i 0).val = 0 then k0_pay1 else x8) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare x8
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (Blk.o ⟨x1, x2, x3, x4, x5, i⟩) ∗ owns (c : Thread nD τ) arg7 fullShare (Blk.ot ⟨x1, x2, x3, x4, x5, i⟩) ∗ owns (c : Thread nD τ) arg8 fullShare (Blk.lses ⟨x1, x2, x3, x4, x5, i⟩ z)) -∗ K ⟨⟩))
    ⊢ wp frame (wpE (defs₀ (F := F)) Variants.none c none) E (cc0_fox_fwd i arg1 harg1 arg2 harg2 arg3 harg3 arg4 harg4 arg5 harg5 arg6 harg6 arg7 harg7 arg8 harg8) K := by
  simp only [cc0_fox_fwd_eq_skeleton]; unfold cc0_fox_fwd_skel
  dsimp only
  by_cases h : (i 0).val = 0
  · rw [dif_pos ((first i).mpr h)]
    rw [if_pos h] at hz
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg1.eq_unread hf1
    obtain rfl := harg2.eq_unread hf2
    obtain rfl := harg3.eq_unread hf3
    obtain rfl := harg4.eq_unread hf4
    obtain rfl := harg5.eq_unread hf5
    sl_exec
    generalize hG : arg8.view.writes (Elt F) arg8.view.junk kernel_run.sl.H8_1 = G8
    have zG : arg8.view.read (Elt F) G8 = z := by rw [← hG, hz]; exact View.read_writes_full ..
    iapply (loop_run c i arg1 harg1 arg2 harg2 arg3 harg3 arg4 harg4 arg5 harg5 arg6 harg6 arg7 harg7 arg8 harg8 x1 x2 x3 x4 x5 z f6 f7 G8 zG E K)
    isplitr [Hk]; swap; · unfold owns; iexact Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dif_neg (fun q => h ((first i).mp q))]
    rw [if_neg h] at hz
    subst z
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
    obtain rfl := harg1.eq_unread hf1
    obtain rfl := harg2.eq_unread hf2
    obtain rfl := harg3.eq_unread hf3
    obtain rfl := harg4.eq_unread hf4
    obtain rfl := harg5.eq_unread hf5
    sl_exec
    iapply (loop_run c i arg1 harg1 arg2 harg2 arg3 harg3 arg4 harg4 arg5 harg5 arg6 harg6 arg7 harg7 arg8 harg8 x1 x2 x3 x4 x5 x8 f6 f7 f8 hf8 E K)
    isplitr [Hk]; swap; · unfold owns; iexact Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.FoxFwdKernelIdeal.Run

end
-- ==== Proof.FwdFrame.lean ====
/- The frame of the fox forward kernel: its run, through the pipeline over the eight pairs of heads. -/
module

public import proofs.«01_k».proof.Proof.Gen.FoxFwdKernelIdeal.Frame
public import proofs.«01_k».proof.Proof.FwdBody
public import Idealize.ShloMosaic.Lib.Pipeline.TableIdle

@[expose] public section

set_option maxRecDepth 16384

noncomputable section

namespace Cert.FoxFwdKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FoxFwdKernelIdeal.Gen

variable {F : FTy → Type} [FloatOps F] [Named F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The five input blocks of grid point `t`, with the point. -/
def blkAt (c : Dev nD) (t : Fin cfg0.N) : Blk F :=
  ⟨iblk m c 0 t, iblk m c 1 t, iblk m c 2 t, iblk m c 3 t, iblk m c 4 t, grid0.coords t⟩

/-- The log-sums before grid point `n`: clear before the first, and each point puts its two rows in. -/
def lsesBefore (c : Dev nD) : ℕ → FVec F S16x4096 .f32
  | 0 => k0_pay1
  | n + 1 => if h : n < cfg0.N then (blkAt m c ⟨n, h⟩).lses (lsesBefore c n) else lsesBefore c n

/-- The pipeline's proof data: the arrays as the region finds them; after a point the inputs hold their blocks and the outputs the point's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (blkAt m c t).o
    | ⟨6, _⟩ => (blkAt m c t).ot
    | ⟨7, _⟩ => (blkAt m c t).lses (lsesBefore m c t.val)
  Φ _ := Pipeline.ΦA spec0 c
  q _ := fullShare
  owed _ := 0

/-- The arrays of the proof data are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (blkAt m c t).o := by dsimp only [dats]
theorem after_6 (c : Dev nD) (t : Fin cfg0.N) : (dats m 0 c).after 6 t = (blkAt m c t).ot := by dsimp only [dats]
theorem after_7 (c : Dev nD) (t : Fin cfg0.N) : (dats m 0 c).after 7 t = (blkAt m c t).lses (lsesBefore m c t.val) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl

/-- The buffer of the log-sums is never fresh after the first point. -/
theorem not_fresh (n : ℕ) (h : n + 1 < cfg0.N) : cfg0.fresh 7 (n + 1) = false := by
  have h8 : n + 1 < 8 := lt_of_lt_of_eq h N_0
  have hn : n < cfg0.N := by omega
  unfold Pipeline.Cfg.fresh
  rw [dif_pos hn, live_7 ⟨n, hn⟩]
  have : ¬ (cfg0.win 7).flush ⟨n, hn⟩ = true := fun e => by have := (flush0_7 ⟨n, hn⟩).mp e; simp only at this; omega
  simp [this]

/-- The log-sums a point starts from, cleared at the first point, are those before it. -/
theorem before_7 (c : Dev nD) (t : Fin cfg0.N) (d) :
    lsesBefore m c t.val = if ((grid0.coords t) 0).val = 0 then k0_pay1 else (dats m 0 c).before 7 t d := by
  have ht : t.val < 8 := lt_of_lt_of_eq t.isLt N_0
  have hc : ((grid0.coords t) 0).val = t.val := (by decide +kernel : ∀ t : Fin grid0.N, ((grid0.coords t) 0).val = t.val) t
  rw [hc]
  obtain ⟨n, hn⟩ := t
  cases n with
  | zero => rfl
  | succ n =>
    rw [if_neg (Nat.succ_ne_zero n), Dat.before_out_traj _ 7 rfl (fun _ _ => rfl) (fun t _ hi => absurd ((live_7 t).symm.trans hi) Bool.false_ne_true) (n + 1) ⟨n + 1, hn⟩ rfl d,
      if_neg (by rw [not_fresh n hn]; exact Bool.false_ne_true), after_7]
    have hn' : n < cfg0.N := by omega
    exact dif_pos hn'

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The body at any grid point: the inputs' staging buffers hold their blocks, the log-sums' buffer what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  rw [show (dats m 0 c).leavesExact 0 t = owns (c : Thread nD τ) (st0_0 t) fullShare ((dats m 0 c).after 0 t) from by unfold Dat.leavesExact; rw [live_0 t], after_0]
  rw [show (dats m 0 c).leavesExact 1 t = owns (c : Thread nD τ) (st0_1 t) fullShare ((dats m 0 c).after 1 t) from by unfold Dat.leavesExact; rw [live_1 t], after_1]
  rw [show (dats m 0 c).leavesExact 2 t = owns (c : Thread nD τ) (st0_2 t) fullShare ((dats m 0 c).after 2 t) from by unfold Dat.leavesExact; rw [live_2 t], after_2]
  rw [show (dats m 0 c).leavesExact 3 t = owns (c : Thread nD τ) (st0_3 t) fullShare ((dats m 0 c).after 3 t) from by unfold Dat.leavesExact; rw [live_3 t], after_3]
  rw [show (dats m 0 c).leavesExact 4 t = owns (c : Thread nD τ) (st0_4 t) fullShare ((dats m 0 c).after 4 t) from by unfold Dat.leavesExact; rw [live_4 t], after_4]
  rw [show (dats m 0 c).leavesExact 5 t = owns (c : Thread nD τ) (st0_5 t) fullShare ((dats m 0 c).after 5 t) from by unfold Dat.leavesExact; rw [live_5 t], after_5]
  rw [show (dats m 0 c).leavesExact 6 t = owns (c : Thread nD τ) (st0_6 t) fullShare ((dats m 0 c).after 6 t) from by unfold Dat.leavesExact; rw [live_6 t], after_6]
  rw [show (dats m 0 c).leavesExact 7 t = owns (c : Thread nD τ) (st0_7 t) fullShare ((dats m 0 c).after 7 t) from by unfold Dat.leavesExact; rw [live_7 t], after_7]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  have hz := before_7 m c t d7
  generalize (dats m 0 c).before 7 t d7 = x8 at hz
  generalize lsesBefore m c t.val = z at hz
  unfold blkAt
  iapply (kernel_run (F := F) c (grid0.coords t) _ _ _ _ _ _ _ _ _ _ _ _ _ _ _ _ (iblk m c 0 t) (iblk m c 1 t) (iblk m c 2 t) (iblk m c 3 t) (iblk m c 4 t) x8 z hz Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run of the kernel's program ends, with the pipeline's arrays at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FoxFwdKernelIdeal.Run

end
-- ==== Proof.FwdBits.lean ====
/- The frame of the fox forward kernel's own program, carried over from the idealized program's. -/
module

public import proofs.«01_k».proof.Defs
public import proofs.«01_k».proof.Proof.FwdFrame
public import proofs.«01_k».proof.Proof.Gen.FoxFwdKernel.Frame

@[expose] public section

set_option maxRecDepth 100000

noncomputable section

namespace Cert.FoxFwdKernelIdeal.Run

open Idealize.ShloMosaic Idealize.SL.Sem Cert.FoxFwdKernelIdeal

/-- At the machine's own floats a named constant is the bits it was printed with. -/
@[reducible] def bitsNamed : Named Bits where
  named _ _ {φ} b := Scalar.ofBits φ b

/-- The kernel's frame is the idealized program's, read at the machine's own floats: the two programs differ only in that the
mask is named in one of them. -/
theorem frame_statement : Cert.quiescent_FoxFwdKernel = (letI := bitsNamed
    ∀ (m : (ℓ : Loc nD τ sig) → Buf (Elt Bits) ℓ) (g : Dev nD → PrngReg), True →
      θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0)) := by
  sl_kernel_rfl

/-- Every run of the kernel's program ends with its arguments as they were and every semaphore counter at zero. -/
theorem frame_bits : Cert.quiescent_FoxFwdKernel :=
  frame_statement.mpr fun m g _ => letI := bitsNamed; frame (F := Bits) m g

end Cert.FoxFwdKernelIdeal.Run

end
-- ==== Proof.FwdHost.lean ====
/-
  What the forward fox kernel's host code hands to its call, over the reals, and its reference's results.
-/
module

public import Idealize.ShloMosaic.Lib.Claim
public import Idealize.ShloMosaic.Lib.Pipeline.ValueKit
public import Idealize.ShloMosaic.Lib.WordCmp
public import proofs.«01_k».proof.Proof.Gen.FoxFwdKernelIdeal.Frame
public import proofs.«01_k».proof.Proof.FoxHost
public import proofs.«01_k».proof.Proof.FwdFrame

@[expose] public section

set_option maxRecDepth 16384

noncomputable section

namespace Cert.FoxFwdKernelIdeal.Value

open Idealize.ShloMosaic Idealize.ShloMosaic.Ideal Idealize.SL.Sem Cert.FoxFwdKernelIdeal Cert.FoxFwdKernelIdeal.Gen

open Cert.FoxKernelIdeal.Value (flat beside cat pieces ones flat_apply beside_apply auxq_apply auxk_apply hd other dim)

section
variable (m : (ℓ : Loc nD τ sig) → Buf (Elt Ideal) ℓ) (c : Dev nD)

/-- The call's queries. -/
theorem V_33 : V m c main_v33 = flat (m (c.tc.loc main_arg0)) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

/-- The call's keys. -/
theorem V_36 : V m c main_v36 = flat (m (c.tc.loc main_arg1)) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

/-- The call's columns beside the queries. -/
theorem V_22 : V m c main_v22 = beside (cat (pieces (m (c.tc.loc main_arg3))) ones) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

/-- The call's columns beside the keys. -/
theorem V_30 : V m c main_v30 = beside (cat ones (Host.negf (pieces (m (c.tc.loc main_arg3))))) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

/-- The call's values, transposed. -/
theorem V_40 : V m c main_v40 = transpose S1024x4096 [1, 0] (flat (m (c.tc.loc main_arg2))) transposes_S4096x1024_S1024x4096_1_0 := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end

/-! ## The blocks of one grid point -/

/-- What the blocks of pair `p` hold. -/
structure BlkIs (A : FoxMath.Args) (p : Fin 8) (B : Run.Blk Ideal) : Prop where
  x1 : ∀ r q, B.x1 (ix2 r q) = ((A.q (hd p q) r (dim q) : ℝ) : EReal)
  x2 : ∀ r q, B.x2 (ix2 r q) = ((A.k (hd p q) r (dim q) : ℝ) : EReal)
  x3 : ∀ r q, B.x3 (ix2 r q) = ((A.auxq (other p q) r (dim q) : ℝ) : EReal)
  x4 : ∀ r q, B.x4 (ix2 r q) = ((A.auxk (other p q) r (dim q) : ℝ) : EReal)
  x5 : ∀ q r, B.x5 (ix2 q r) = ((A.v (hd p q) r (dim q) : ℝ) : EReal)
  i : (B.i 0).val = p.val

/-- The block each window reads or writes at a grid point. -/
theorem idx : ∀ t : Fin cfg0.N, win0_0.index t = ![0, t.val] ∧ win0_1.index t = ![0, t.val] ∧ win0_2.index t = ![0, t.val]
    ∧ win0_3.index t = ![0, t.val] ∧ win0_4.index t = ![t.val, 0] ∧ win0_5.index t = ![0, t.val] ∧ win0_6.index t = ![t.val, 0]
    ∧ win0_7.index t = ![0, 0] ∧ ((grid0.coords t) 0).val = t.val :=
  (by decide +kernel : ∀ t : Fin grid0.N, _)

section
variable (m : (ℓ : Loc nD τ sig) → Buf (Elt Ideal) ℓ) (c : Dev nD) {A : FoxMath.Args}

theorem N_0 : cfg0.N = 8 := rfl

theorem lt8 (t : Fin cfg0.N) : t.val < 8 := t.isLt

/-! Reading a block of each operand. -/

theorem read_0 (t : Fin cfg0.N) (X : Buf (Elt Ideal) ((c.tc : Thread nD τ).loc main_v33)) (r : Fin 4096) (q : Fin 128) :
    ((cfg0.win 0).blk t).view.read (Elt Ideal) X (ix2 r q) = X (ix2 r ⟨128 * t.val + q.val, by have := lt8 t; omega⟩) := by
  obtain ⟨i0, i1, i2, i3, i4, -, -, -, -⟩ := idx t
  blk_simp [i0]
  blk_ext [i0]

theorem blk_0 (t : Fin cfg0.N) (r : Fin 4096) (q : Fin 128) : iblk m c 0 t (ix2 r q) = V m c main_v33 (ix2 r ⟨128 * t.val + q.val, by have := lt8 t; omega⟩) := by
  unfold iblk
  exact read_0 c t (V m c (Pipeline.arrRef spec0 0)) r q

theorem read_1 (t : Fin cfg0.N) (X : Buf (Elt Ideal) ((c.tc : Thread nD τ).loc main_v36)) (r : Fin 4096) (q : Fin 128) :
    ((cfg0.win 1).blk t).view.read (Elt Ideal) X (ix2 r q) = X (ix2 r ⟨128 * t.val + q.val, by have := lt8 t; omega⟩) := by
  obtain ⟨i0, i1, i2, i3, i4, -, -, -, -⟩ := idx t
  blk_simp [i1]
  blk_ext [i1]

theorem blk_1 (t : Fin cfg0.N) (r : Fin 4096) (q : Fin 128) : iblk m c 1 t (ix2 r q) = V m c main_v36 (ix2 r ⟨128 * t.val + q.val, by have := lt8 t; omega⟩) := by
  unfold iblk
  exact read_1 c t (V m c (Pipeline.arrRef spec0 1)) r q

theorem read_2 (t : Fin cfg0.N) (X : Buf (Elt Ideal) ((c.tc : Thread nD τ).loc main_v22)) (r : Fin 4096) (q : Fin 128) :
    ((cfg0.win 2).blk t).view.read (Elt Ideal) X (ix2 r q) = X (ix2 r ⟨128 * t.val + q.val, by have := lt8 t; omega⟩) := by
  obtain ⟨i0, i1, i2, i3, i4, -, -, -, -⟩ := idx t
  blk_simp [i2]
  blk_ext [i2]

theorem blk_2 (t : Fin cfg0.N) (r : Fin 4096) (q : Fin 128) : iblk m c 2 t (ix2 r q) = V m c main_v22 (ix2 r ⟨128 * t.val + q.val, by have := lt8 t; omega⟩) := by
  unfold iblk
  exact read_2 c t (V m c (Pipeline.arrRef spec0 2)) r q

theorem read_3 (t : Fin cfg0.N) (X : Buf (Elt Ideal) ((c.tc : Thread nD τ).loc main_v30)) (r : Fin 4096) (q : Fin 128) :
    ((cfg0.win 3).blk t).view.read (Elt Ideal) X (ix2 r q) = X (ix2 r ⟨128 * t.val + q.val, by have := lt8 t; omega⟩) := by
  obtain ⟨i0, i1, i2, i3, i4, -, -, -, -⟩ := idx t
  blk_simp [i3]
  blk_ext [i3]

theorem blk_3 (t : Fin cfg0.N) (r : Fin 4096) (q : Fin 128) : iblk m c 3 t (ix2 r q) = V m c main_v30 (ix2 r ⟨128 * t.val + q.val, by have := lt8 t; omega⟩) := by
  unfold iblk
  exact read_3 c t (V m c (Pipeline.arrRef spec0 3)) r q

theorem read_4 (t : Fin cfg0.N) (X : Buf (Elt Ideal) ((c.tc : Thread nD τ).loc main_v40)) (q : Fin 128) (r : Fin 4096) :
    ((cfg0.win 4).blk t).view.read (Elt Ideal) X (ix2 q r) = X (ix2 ⟨128 * t.val + q.val, by have := lt8 t; omega⟩ r) := by
  obtain ⟨i0, i1, i2, i3, i4, -, -, -, -⟩ := idx t
  blk_simp [i4]
  blk_ext [i4]

theorem blk_4 (t : Fin cfg0.N) (q : Fin 128) (r : Fin 4096) : iblk m c 4 t (ix2 q r) = V m c main_v40 (ix2 ⟨128 * t.val + q.val, by have := lt8 t; omega⟩ r) := by
  unfold iblk
  exact read_4 c t (V m c (Pipeline.arrRef spec0 4)) q r

set_option maxHeartbeats 2000000 in
/-- The blocks of grid point `t` hold pair `t`'s numbers. -/
theorem blk_is {a4 : FVec Ideal ⟨2, ![4096, 2048]⟩ .f32}
    (H : A.Is (m (c.tc.loc main_arg0)) (m (c.tc.loc main_arg1)) (m (c.tc.loc main_arg2)) (m (c.tc.loc main_arg3)) a4)
    (t : Fin cfg0.N) : BlkIs A (t.cast N_0) (Run.blkAt m c t) := by
  obtain ⟨-, -, -, -, -, -, -, -, ic⟩ := idx t
  have ht : t.val < 8 := t.isLt
  have hhd (q : Fin 128) (h : (128 * t.val + q.val) / 64 < 16) : (⟨(128 * t.val + q.val) / 64, h⟩ : Fin 16) = hd (t.cast N_0) q :=
    Fin.ext (by show (128 * t.val + q.val) / 64 = t.val * 2 + q.val / 64; omega)
  have hot (q : Fin 128) (h : (128 * t.val + q.val) / 128 * 2 + (1 - (128 * t.val + q.val) / 64 % 2) < 16) :
      (⟨(128 * t.val + q.val) / 128 * 2 + (1 - (128 * t.val + q.val) / 64 % 2), h⟩ : Fin 16) = other (t.cast N_0) q :=
    Fin.ext (by show (128 * t.val + q.val) / 128 * 2 + (1 - (128 * t.val + q.val) / 64 % 2) = t.val * 2 + (1 - q.val / 64); omega)
  have hdm (q : Fin 128) (h : (128 * t.val + q.val) % 64 < 64) : (⟨(128 * t.val + q.val) % 64, h⟩ : Fin 64) = dim q :=
    Fin.ext (by show (128 * t.val + q.val) % 64 = q.val % 64; omega)
  have tr (x : FVec Ideal S4096x1024 .bf16) (p : Fin 1024) (i : Fin 4096) :
      transpose S1024x4096 [1, 0] x transposes_S4096x1024_S1024x4096_1_0 (ix2 p i) = x (ix2 i p) := by pointwise
  constructor
  · intro r q
    refine (blk_0 m c t r q).trans ?_
    rw [V_33, flat_apply, H.q, hhd, hdm]
  · intro r q
    refine (blk_1 m c t r q).trans ?_
    rw [V_36, flat_apply, H.k, hhd, hdm]
  · intro r q
    refine (blk_2 m c t r q).trans ?_
    rw [V_22, beside_apply, auxq_apply H, hot, hdm]
  · intro r q
    refine (blk_3 m c t r q).trans ?_
    rw [V_30, beside_apply, auxk_apply H, hot, hdm]
  · intro q r
    refine (blk_4 m c t q r).trans ?_
    rw [V_40, tr, flat_apply, H.v, hhd, hdm]
  · exact ic

end

end Cert.FoxFwdKernelIdeal.Value

end
-- ==== Proof.FwdPay.lean ====
/-
  What the forward fox kernel's arithmetic computes on one pair of tiles, entry by entry over the extended reals, for arrays given
  by variables.
-/
module

public import Idealize.ShloMosaic.Lib.Claim
public import Idealize.ShloMosaic.Lib.Pipeline.ValueKit
public import Idealize.ShloMosaic.Lib.WordCmp
public import proofs.«01_k».proof.Proof.FoxValue
public import proofs.«01_k».proof.Proof.FwdHost

@[expose] public section

set_option maxRecDepth 16384

noncomputable section

namespace Cert.FoxFwdKernelIdeal.Value

open Idealize.ShloMosaic Idealize.ShloMosaic.Ideal Idealize.SL.Sem Cert.FoxFwdKernelIdeal Cert.FoxFwdKernelIdeal.Gen

open Cert.FoxKernelIdeal.Value (mix sel_lane sel_causal twice twice_succ)

/-- The mask's constant is minus infinity. -/
theorem mask_bot : (Named.named κ "mask" 0xF149F2CA#32 : Ideal .f32) = (⊥ : EReal) := rfl

variable (q k x : FVec Ideal S256x128 .bf16) (m m' d e n n' : FVec Ideal S1x256 .f32) (P Q : FVec Ideal S256x256 .f32)
  (v : FVec Ideal S128x256 .bf16) (z w : FVec Ideal S128x256 .f32) (c r : Fin 256) (l : Fin 128)

/-! ## Scores -/

theorem pay38_apply : (k0_pay38 k0_pay2 q x : FVec Ideal _ _) (ix2 c l) = mix l (q (ix2 c l)) (x (ix2 c l)) := by
  pointwise [k0_pay38, k0_pay36, k0_pay37, k0_pay2]
  exact sel_lane _ _ _

theorem pay39_apply : (k0_pay39 k0_pay2 q x : FVec Ideal _ _) (ix2 c l) = mix l (x (ix2 c l)) (q (ix2 c l)) := by
  pointwise [k0_pay39, k0_pay36, k0_pay37, k0_pay2]
  exact sel_lane _ _ _

theorem pay10_apply : (k0_pay10 k0_pay2 q k x : FVec Ideal _ _) (ix2 r c) = ∑ l : Fin 128, mix l (k (ix2 r l)) (x (ix2 r l)) * q (ix2 c l) := by
  pointwise [k0_pay10, k0_pay8, k0_pay9, k0_pay2]
  simp only [sel_lane]

theorem pay11_apply : (k0_pay11 k0_pay2 q k x : FVec Ideal _ _) (ix2 r c) = ∑ l : Fin 128, mix l (x (ix2 r l)) (k (ix2 r l)) * q (ix2 c l) := by
  pointwise [k0_pay11, k0_pay8, k0_pay9, k0_pay2]
  simp only [sel_lane]

theorem pay51_apply : (k0_pay51 k0_pay4 P : FVec Ideal _ _) (ix2 r c) = if r.val ≤ c.val then P (ix2 r c) else (⊥ : EReal) := by
  have e : (k0_pay51 k0_pay4 P : FVec Ideal _ _) (ix2 r c)
      = Scalar.select (IntOp.cmpi .sge (BitVec.ofNat 32 c.val) (BitVec.ofNat 32 r.val)) (P (ix2 r c)) (Named.named κ "mask" 0xF149F2CA#32 : Ideal .f32) := by
    pointwise [k0_pay51, k0_pay4]
  rw [e]
  exact sel_causal _ _ _ _

theorem pay52_apply : (k0_pay52 k0_pay4 P : FVec Ideal _ _) (ix2 r c) = if r.val ≤ c.val then P (ix2 r c) else (⊥ : EReal) := by
  exact pay51_apply P c r

/-! ## The running maximum -/

/-- The larger of an entry that is not `+∞` and a column's largest entry is real, when no entry of the column is `+∞` and one is real. -/
theorem pay13_real (hm : m (ix2 0 c) ≠ (⊤ : EReal)) (hP : ∀ r, P (ix2 r c) ≠ (⊤ : EReal)) (hr : P (ix2 r c) ≠ (⊥ : EReal)) :
    ∃ t : ℝ, k0_pay13 m P (ix2 0 c) = (t : EReal) := by
  obtain ⟨t, ht⟩ : ∃ t : ℝ, max ⊥ (multiReduction .maximumf [0] S256 P 0xFF800000#32 reduces_S256x256_S256 (.inl rfl) rfl (ix1 c)) = (t : EReal) := by
    pointwise
    exact FoxMath.fold_max_real _ _ _ _ r Cert.FoxReferenceIdeal.Value.ofBits_bot (fun _ _ => rfl) (fun _ _ => rfl) hP hr
  have e : k0_pay13 m P (ix2 0 c) = max (m (ix2 0 c)) (multiReduction .maximumf [0] S256 P 0xFF800000#32 reduces_S256x256_S256 (.inl rfl) rfl (ix1 c)) := by
    unfold k0_pay13
    rw [maximumf_apply]
    refine congrArg₂ max rfl ?_
    generalize multiReduction .maximumf [0] S256 P 0xFF800000#32 reduces_S256x256_S256 (.inl rfl) rfl = y
    pointwise
  rw [max_eq_right bot_le] at ht
  rw [e, ht]
  induction hx : (m (ix2 0 c) : EReal) using EReal.rec with
  | bot => exact ⟨t, max_eq_right bot_le⟩
  | top => exact absurd hx hm
  | coe a => exact ⟨max a t, (EReal.coe_strictMono.monotone.map_max).symm⟩

theorem pay15_apply : k0_pay15 m P (ix2 0 c) = Ideal.exp (m (ix2 0 c) - k0_pay13 m P (ix2 0 c)) := by
  unfold k0_pay15
  generalize k0_pay13 m P = y
  pointwise

theorem pay17_apply : k0_pay17 m P (ix2 r c) = Ideal.exp (P (ix2 r c) - k0_pay13 m P (ix2 0 c)) := by
  unfold k0_pay17
  generalize k0_pay13 m P = y
  pointwise

theorem pay19_apply : k0_pay19 m d P (ix2 0 c) = k0_pay15 m P (ix2 0 c) * d (ix2 0 c) + ∑ r, k0_pay17 m P (ix2 r c) := by
  unfold k0_pay19
  generalize k0_pay15 m P = y
  generalize k0_pay17 m P = x
  pointwise

/-! ## The running sums -/

/-- A choice by the half of the rows of a pair of rows spread over them. -/
theorem pay21_apply : k0_pay21 k0_pay3 m m' P Q (ix2 l c) = mix l (k0_pay15 m P (ix2 0 c)) (k0_pay16 m' Q (ix2 0 c)) := by
  unfold k0_pay21
  generalize k0_pay15 m P = y
  generalize k0_pay16 m' Q = x
  pointwise [k0_pay3]
  exact sel_lane _ _ _

theorem pay49_apply : k0_pay49 k0_pay3 z v P Q w (ix2 l c)
    = w (ix2 l c) * z (ix2 l c) + ∑ r, mix l (v (ix2 l r) * P (ix2 r c)) 0 + ∑ r, mix l 0 (v (ix2 l r) * Q (ix2 r c)) := by
  pointwise [k0_pay49, k0_pay3]
  simp only [sel_lane]

/-- The quotient, the divisor chosen by the half of the rows. -/
theorem quot_apply : divf z (select k0_pay3 (broadcastTo S128x256 (shapeCast S1x256 d shapeCasts_S1x256_S1x256) broadcasts_S1x256_S128x256)
      (broadcastTo S128x256 (shapeCast S1x256 e shapeCasts_S1x256_S1x256) broadcasts_S1x256_S128x256)) (ix2 l c)
    = Ideal.div (z (ix2 l c)) (mix l (d (ix2 0 c)) (e (ix2 0 c))) := by
  pointwise [k0_pay3]
  rw [sel_lane]

/-- The last step divides the sum by the total. -/
theorem pay61_eq : k0_pay61 k0_pay3 m d m' e z P Q v
    = divf (k0_pay49 k0_pay3 z (k0_pay12 v) (k0_pay17 m P) (k0_pay18 m' Q) (k0_pay21 k0_pay3 m m' P Q))
        (select k0_pay3 (broadcastTo S128x256 (shapeCast S1x256 (k0_pay19 m d P) shapeCasts_S1x256_S1x256) broadcasts_S1x256_S128x256)
          (broadcastTo S128x256 (shapeCast S1x256 (k0_pay20 m' e Q) shapeCasts_S1x256_S1x256) broadcasts_S1x256_S128x256)) := rfl

theorem pay12_apply : k0_pay12 v (ix2 l c) = v (ix2 l c) := by
  pointwise [k0_pay12]

/-! ## The start and the results -/

theorem pay40_apply : (k0_pay40 : FVec Ideal _ _) (ix2 0 c) = (⊥ : EReal) := by
  have e : (k0_pay40 : FVec Ideal _ _) (ix2 0 c) = (Named.named κ "mask" 0xF149F2CA#32 : Ideal .f32) := by
    pointwise [k0_pay40]
  rw [e, mask_bot]

theorem pay41_apply : (k0_pay41 : FVec Ideal _ _) (ix2 0 c) = (0 : EReal) := by
  pointwise [k0_pay41]

theorem pay44_apply : (k0_pay44 : FVec Ideal _ _) (ix2 l c) = (0 : EReal) := by
  pointwise [k0_pay44]

theorem pay5_apply : k0_pay5 z (ix2 l c) = z (ix2 l c) := by
  pointwise [k0_pay5]

theorem pay6_apply : k0_pay6 z (ix2 c l) = z (ix2 l c) := by
  pointwise [k0_pay6]

/-- The rows of the pair take the maximum plus the logarithm of the sum; the others stay. -/
theorem pay7_apply (i : grid0.Coords) (p : Fin 8) (hi : (i 0).val = p.val) (old : FVec Ideal S16x256 .f32) (h : Fin 16) :
    k0_pay7 i m m' d e old (ix2 h c) = if h.val = p.val * 2 then m (ix2 0 c) + Ideal.log (d (ix2 0 c))
      else if h.val = p.val * 2 + 1 then m' (ix2 0 c) + Ideal.log (e (ix2 0 c)) else old (ix2 h c) := by
  have e : k0_pay7 i m m' d e old (ix2 h c)
      = Scalar.select (IntOp.cmpi .eq (BitVec.ofNat 32 h.val) (Scalar.muli 2#32 (BitVec.ofNat 32 (i 0).val))) (m (ix2 0 c) + Ideal.log (d (ix2 0 c)))
        (Scalar.select (IntOp.cmpi .eq (BitVec.ofNat 32 h.val) (Scalar.addi (Scalar.muli 2#32 (BitVec.ofNat 32 (i 0).val)) 1#32))
          (m' (ix2 0 c) + Ideal.log (e (ix2 0 c))) (old (ix2 h c))) := by
    pointwise [k0_pay7]
  rw [e, hi, twice_succ, twice]
  have := p.isLt
  have := h.isLt
  simp (disch := omega) only [hlo_ix]

end Cert.FoxFwdKernelIdeal.Value

end
-- ==== Proof.FwdValue.lean ====
/-
  What each tile of the forward fox kernel holds, over the reals: the running maximum and sums of the attention, the attention's
  output, and the logarithm of each query's sum of exponentials.
-/
module

public import Idealize.ShloMosaic.Lib.Claim
public import Idealize.ShloMosaic.Lib.Pipeline.ValueKit
public import Idealize.ShloMosaic.Lib.WordCmp
public import proofs.«01_k».proof.Proof.FwdPay

@[expose] public section

set_option maxRecDepth 16384

noncomputable section

namespace Cert.FoxFwdKernelIdeal.Value

open Idealize.ShloMosaic Idealize.ShloMosaic.Ideal Idealize.SL.Sem Cert.FoxFwdKernelIdeal Cert.FoxFwdKernelIdeal.Gen

open FoxMath
open Cert.FoxKernelIdeal.Run (tile tileT tileR t16 t16_val val_t16)
open Cert.FoxKernelIdeal.Value (mix row tile_apply tileT_apply tileR_apply rmix mix_coe sum_rmix sum_tiles_before h0 h1 hd_lo hd_hi other_lo other_hi hd other dim)

/-! ## The sums of a query over the tiles of keys so far -/

section
variable (A : FoxMath.Args) (h : Fin 16) (i : Fin 4096) (w : Fin 4096 → ℝ)

/-- The sum over the keys of the tiles before `n` of the exponentials less `t`, each times a number. -/
def part (t : ℝ) (n : ℕ) : ℝ := ∑ j ∈ Finset.range n, ∑ r, A.ex h i (row (t16 j) r) t * w (row (t16 j) r)

theorem part_shift (t t' : ℝ) (n : ℕ) : Real.exp (t - t') * part A h i w t n = part A h i w t' n := by
  unfold part
  rw [Finset.mul_sum]
  refine Finset.sum_congr rfl fun j _ => ?_
  rw [Finset.mul_sum]
  refine Finset.sum_congr rfl fun r _ => ?_
  rw [A.ex_eq, A.ex_eq, sub_eq_add_neg, Real.exp_add, Real.exp_neg t]
  have := Real.exp_ne_zero t
  field_simp

/-- Past the tile of the query's own key the sum is over all keys. -/
theorem part_all (t : ℝ) (k : ℕ) (hk : k < 16) (c : Fin 256) (hi : i = row (t16 k) c) : part A h i w t (k + 1) = ∑ x, A.ex h i x t * w x := by
  refine sum_tiles_before (fun x => A.ex h i x t * w x) (k + 1) (by omega) fun j r hj => ?_
  have ek := val_t16 hk
  have : ¬ (row j r).val ≤ i.val := by
    rw [hi]
    show ¬ 256 * j.val + r.val ≤ 256 * (t16 k).val + c.val
    omega
  simp only [Args.ex, if_neg this, zero_mul]

/-- `a` is the sum so far for the running maximum `m`: scaled to any `t` it is the sum less `t`. -/
def Soft (n : ℕ) (m a : EReal) : Prop := ∀ t : ℝ, Ideal.exp (m - (t : EReal)) * a = ((part A h i w t n : ℝ) : EReal)

variable {A h i w}

theorem Soft.start : Soft A h i w 0 ⊥ 0 := fun t => by
  rw [mul_zero]
  rfl

theorem Soft.real (t : ℝ) (n : ℕ) : Soft A h i w n (t : EReal) ((part A h i w t n : ℝ) : EReal) := fun t' => by
  rw [← EReal.coe_sub, ← part_shift A h i w t t' n]
  exact coe_mul _ _

/-- Scaling the sum to a new maximum and adding the terms of the next tile. -/
theorem Soft.step {n : ℕ} {m a : EReal} (s : Soft A h i w n m a) (t : ℝ) (f : Fin 256 → EReal)
    (hf : ∀ r, f r = ((A.ex h i (row (t16 n) r) t * w (row (t16 n) r) : ℝ) : EReal)) :
    Ideal.exp (m - (t : EReal)) * a + ∑ r, f r = ((part A h i w t (n + 1) : ℝ) : EReal) := by
  rw [s t]
  simp only [hf, coe_sum, ← EReal.coe_add]
  refine congrArg _ ?_
  unfold part
  rw [Finset.sum_range_succ]

end

/-! ## One column of one pair of tiles -/

variable {A : FoxMath.Args} {h : Fin 16} {i : Fin 4096} {n : ℕ} {c : Fin 256}

/-- Column `c` holds the scores of query `i` against the keys of tile `n`, `-∞` for the keys after the query. -/
def Scores (A : FoxMath.Args) (h : Fin 16) (i : Fin 4096) (n : ℕ) (c : Fin 256) (P : FVec Ideal S256x256 .f32) : Prop :=
  (row (t16 n) 0).val ≤ i.val ∧ ∀ r, P (ix2 r c) = if (row (t16 n) r).val ≤ i.val then ((A.S h i (row (t16 n) r) : ℝ) : EReal) else ⊥

theorem Scores.exp {P : FVec Ideal S256x256 .f32} (s : Scores A h i n c P) (r : Fin 256) (t : ℝ) :
    Ideal.exp (P (ix2 r c) - (t : EReal)) = ((A.ex h i (row (t16 n) r) t : ℝ) : EReal) := by
  rw [s.2, Args.ex]
  split_ifs
  · rw [← EReal.coe_sub]; rfl
  · rfl

/-- The running maximum after the tile is real. -/
theorem Scores.top {P : FVec Ideal S256x256 .f32} (s : Scores A h i n c P) (m : FVec Ideal S1x256 .f32) (hm : m (ix2 0 c) ≠ (⊤ : EReal)) :
    ∃ t : ℝ, k0_pay13 m P (ix2 0 c) = (t : EReal) := by
  refine pay13_real m P c 0 hm (fun r => ?_) ?_
  · rw [s.2]
    split_ifs
    · exact EReal.coe_ne_top _
    · exact bot_ne_top
  · rw [s.2, if_pos s.1]
    exact EReal.coe_ne_bot _

/-- The running sum after the tile. -/
theorem total_step {P : FVec Ideal S256x256 .f32} (s : Scores A h i n c P) (m d : FVec Ideal S1x256 .f32) {t : ℝ}
    (ht : k0_pay13 m P (ix2 0 c) = (t : EReal)) (hd : Soft A h i (fun _ => 1) n (m (ix2 0 c)) (d (ix2 0 c))) :
    k0_pay19 m d P (ix2 0 c) = ((part A h i (fun _ => 1) t (n + 1) : ℝ) : EReal) := by
  rw [pay19_apply, pay15_apply, ht]
  refine hd.step t _ fun r => ?_
  rw [pay17_apply, ht, s.exp, mul_one]

/-- The running weighted sum after the tile, in a row of either half. -/
theorem acc_step {p : Fin 8} {P Q : FVec Ideal S256x256 .f32} (s : Scores A (h0 p) i n c P) (s' : Scores A (h1 p) i n c Q)
    (m m' : FVec Ideal S1x256 .f32) {t t' : ℝ} (ht : k0_pay13 m P (ix2 0 c) = (t : EReal)) (ht' : k0_pay14 m' Q (ix2 0 c) = (t' : EReal))
    (l : Fin 128) (w : Fin 4096 → ℝ) (v : FVec Ideal S128x256 .bf16) (hv : ∀ r, v (ix2 l r) = ((w (row (t16 n) r) : ℝ) : EReal))
    (z : FVec Ideal S128x256 .f32) (hz : Soft A (hd p l) i w n (mix l (m (ix2 0 c)) (m' (ix2 0 c))) (z (ix2 l c))) :
    k0_pay49 k0_pay3 z (k0_pay12 v) (k0_pay17 m P) (k0_pay18 m' Q) (k0_pay21 k0_pay3 m m' P Q) (ix2 l c)
      = ((part A (hd p l) i w (if l.val < 64 then t else t') (n + 1) : ℝ) : EReal) := by
  have e0 (r : Fin 256) : k0_pay17 m P (ix2 r c) = ((A.ex (h0 p) i (row (t16 n) r) t : ℝ) : EReal) := by rw [pay17_apply, ht, s.exp]
  have e1 (r : Fin 256) : k0_pay18 m' Q (ix2 r c) = ((A.ex (h1 p) i (row (t16 n) r) t' : ℝ) : EReal) := by
    refine (pay17_apply m' Q c r).trans ?_
    rw [show k0_pay13 m' Q (ix2 0 c) = (t' : EReal) from ht', s'.exp]
  have a0 : k0_pay15 m P (ix2 0 c) = Ideal.exp (m (ix2 0 c) - (t : EReal)) := by rw [pay15_apply, ht]
  have a1 : k0_pay16 m' Q (ix2 0 c) = Ideal.exp (m' (ix2 0 c) - (t' : EReal)) := by
    refine (pay15_apply m' Q c).trans ?_
    rw [show k0_pay13 m' Q (ix2 0 c) = (t' : EReal) from ht']
  rw [pay49_apply, pay21_apply]
  simp only [pay12_apply, e0, e1, a0, a1, hv, coe_mul]
  by_cases hl : l.val < 64
  · rw [hd_lo hl] at hz ⊢
    simp only [mix, if_pos hl, Finset.sum_const_zero, add_zero] at hz ⊢
    exact hz.step t _ fun r => by rw [mul_comm]
  · rw [hd_hi hl] at hz ⊢
    simp only [mix, if_neg hl, Finset.sum_const_zero, add_zero] at hz ⊢
    exact hz.step t' _ fun r => by rw [mul_comm]

/-! ## The tiles of one pair of heads -/

variable {p : Fin 8} {B : Run.Blk Ideal} (H : BlkIs A p B) (k j : ℕ) (r : Fin 256) (l : Fin 128)

include H

/-- The scores of a pair of tiles, for the two heads. -/
theorem S0_apply : B.S0 k j (ix2 r c) = ((A.S (h0 p) (row (t16 k) c) (row (t16 j) r) : ℝ) : EReal) := by
  have q (l : Fin 128) : (k0_pay38 k0_pay2 (tile B.x1 (t16 k)) (tile B.x3 (t16 k)) : FVec Ideal _ _) (ix2 c l)
      = ((rmix (A.q (h0 p) (row (t16 k) c)) (A.auxq (h0 p) (row (t16 k) c)) l : ℝ) : EReal) := by
    rw [pay38_apply, tile_apply, tile_apply, H.x1, H.x3]
    exact mix_coe _ _ _ _ _ (fun h => by rw [hd_lo h]) (fun h => by rw [other_hi h])
  have e (l : Fin 128) : mix l (tile B.x2 (t16 j) (ix2 r l)) (tile B.x4 (t16 j) (ix2 r l))
      = ((rmix (A.k (h0 p) (row (t16 j) r)) (A.auxk (h0 p) (row (t16 j) r)) l : ℝ) : EReal) := by
    rw [tile_apply, tile_apply, H.x2, H.x4]
    exact mix_coe _ _ _ _ _ (fun h => by rw [hd_lo h]) (fun h => by rw [other_hi h])
  unfold Run.Blk.S0
  rw [pay10_apply]
  simp only [e, q, coe_dot, sum_rmix]
  refine congrArg _ ?_
  rw [FoxMath.Args.S, add_sub_assoc, ← A.aux_dot]
  exact congrArg₂ _ (Finset.sum_congr rfl fun _ _ => mul_comm _ _) (Finset.sum_congr rfl fun _ _ => mul_comm _ _)

@[inherit_doc S0_apply] theorem S1_apply : B.S1 k j (ix2 r c) = ((A.S (h1 p) (row (t16 k) c) (row (t16 j) r) : ℝ) : EReal) := by
  have q (l : Fin 128) : (k0_pay39 k0_pay2 (tile B.x1 (t16 k)) (tile B.x3 (t16 k)) : FVec Ideal _ _) (ix2 c l)
      = ((rmix (A.auxq (h1 p) (row (t16 k) c)) (A.q (h1 p) (row (t16 k) c)) l : ℝ) : EReal) := by
    rw [pay39_apply, tile_apply, tile_apply, H.x1, H.x3]
    exact mix_coe _ _ _ _ _ (fun h => by rw [other_lo h]) (fun h => by rw [hd_hi h])
  have e (l : Fin 128) : mix l (tile B.x4 (t16 j) (ix2 r l)) (tile B.x2 (t16 j) (ix2 r l))
      = ((rmix (A.auxk (h1 p) (row (t16 j) r)) (A.k (h1 p) (row (t16 j) r)) l : ℝ) : EReal) := by
    rw [tile_apply, tile_apply, H.x2, H.x4]
    exact mix_coe _ _ _ _ _ (fun h => by rw [other_lo h]) (fun h => by rw [hd_hi h])
  unfold Run.Blk.S1
  rw [pay11_apply]
  simp only [e, q, coe_dot, sum_rmix]
  refine congrArg _ ?_
  rw [FoxMath.Args.S, add_sub_assoc, ← A.aux_dot, add_comm]
  exact congrArg₂ _ (Finset.sum_congr rfl fun _ _ => mul_comm _ _) (Finset.sum_congr rfl fun _ _ => mul_comm _ _)

omit H in
/-- The scores carried to a tile are that tile's. -/
theorem C_scores : ∀ n : ℕ, (B.C k n).2.2.2.2.2.1 = B.S0 k n ∧ (B.C k n).2.2.2.2.2.2 = B.S1 k n
  | 0 => ⟨rfl, rfl⟩
  | _ + 1 => ⟨rfl, rfl⟩

/-- The scores of a tile before the query's own are all counted. -/
theorem scores_before (hk : k < 16) (hj : j < k) :
    Scores A (h0 p) (row (t16 k) c) j c (B.S0 k j) ∧ Scores A (h1 p) (row (t16 k) c) j c (B.S1 k j) := by
  have ek := val_t16 hk
  have ej := val_t16 (show j < 16 by omega)
  have le (r : Fin 256) : (row (t16 j) r).val ≤ (row (t16 k) c).val := by
    show 256 * (t16 j).val + r.val ≤ 256 * (t16 k).val + c.val
    omega
  exact ⟨⟨le 0, fun r => by rw [if_pos (le r), S0_apply H]⟩, ⟨le 0, fun r => by rw [if_pos (le r), S1_apply H]⟩⟩

/-- The scores of the query's own tile are masked. -/
theorem scores_diag : Scores A (h0 p) (row (t16 k) c) k c (B.M0 k) ∧ Scores A (h1 p) (row (t16 k) c) k c (B.M1 k) := by
  have le (r : Fin 256) : (row (t16 k) r).val ≤ (row (t16 k) c).val ↔ r.val ≤ c.val := by
    show 256 * (t16 k).val + r.val ≤ 256 * (t16 k).val + c.val ↔ _
    omega
  refine ⟨⟨(le 0).2 (Nat.zero_le _), fun r => ?_⟩, ⟨(le 0).2 (Nat.zero_le _), fun r => ?_⟩⟩
  · unfold Run.Blk.M0
    rw [pay51_apply, (C_scores k k).1, S0_apply H]
    simp only [le]
  · unfold Run.Blk.M1
    rw [pay52_apply, (C_scores k k).2, S1_apply H]
    simp only [le]

/-- The values of a tile. -/
theorem v_apply : tileT B.x5 (t16 j) (ix2 l r) = ((A.v (hd p l) (row (t16 j) r) (dim l) : ℝ) : EReal) := by
  rw [tileT_apply, H.x5]

/-- The maximum and the sums carried to key tile `n`. -/
structure Carried (A : FoxMath.Args) (p : Fin 8) (i : Fin 4096) (c : Fin 256) (n : ℕ) (x : Run.Car Ideal) : Prop where
  m0 : x.1 (ix2 0 c) ≠ (⊤ : EReal)
  m1 : x.2.2.1 (ix2 0 c) ≠ (⊤ : EReal)
  l0 : Soft A (h0 p) i (fun _ => 1) n (x.1 (ix2 0 c)) (x.2.1 (ix2 0 c))
  l1 : Soft A (h1 p) i (fun _ => 1) n (x.2.2.1 (ix2 0 c)) (x.2.2.2.1 (ix2 0 c))
  acc : ∀ l : Fin 128, Soft A (hd p l) i (fun j => A.v (hd p l) j (dim l)) n (mix l (x.1 (ix2 0 c)) (x.2.2.1 (ix2 0 c))) (x.2.2.2.2.1 (ix2 l c))

theorem carried (hk : k < 16) : ∀ n ≤ k, Carried A p (row (t16 k) c) c n (B.C k n)
  | 0, _ => by
    have b : (k0_pay40 : FVec Ideal _ _) (ix2 0 c) = (⊥ : EReal) := pay40_apply c
    have z : (k0_pay41 : FVec Ideal _ _) (ix2 0 c) = (0 : EReal) := pay41_apply c
    refine ⟨?_, ?_, ?_, ?_, fun l => ?_⟩
    · show (k0_pay40 : FVec Ideal _ _) (ix2 0 c) ≠ (⊤ : EReal)
      rw [b]; exact bot_ne_top
    · show (k0_pay40 : FVec Ideal _ _) (ix2 0 c) ≠ (⊤ : EReal)
      rw [b]; exact bot_ne_top
    · show Soft _ _ _ _ _ ((k0_pay40 : FVec Ideal _ _) (ix2 0 c)) ((k0_pay41 : FVec Ideal _ _) (ix2 0 c))
      rw [b, z]; exact Soft.start
    · show Soft _ _ _ _ _ ((k0_pay40 : FVec Ideal _ _) (ix2 0 c)) ((k0_pay41 : FVec Ideal _ _) (ix2 0 c))
      rw [b, z]; exact Soft.start
    · show Soft _ _ _ _ _ (mix l ((k0_pay40 : FVec Ideal _ _) (ix2 0 c)) ((k0_pay40 : FVec Ideal _ _) (ix2 0 c))) ((k0_pay44 : FVec Ideal _ _) (ix2 l c))
      rw [b, pay44_apply, show mix l ⊥ ⊥ = ⊥ from ite_self _]; exact Soft.start
  | n + 1, hn => by
    have I := carried hk n (by omega)
    obtain ⟨s0, s1⟩ := scores_before (c := c) H k n hk (by omega)
    obtain ⟨c0, c1⟩ := C_scores (B := B) k n
    rw [← c0] at s0
    rw [← c1] at s1
    have X : B.C k (n + 1) = Run.carStep k0_pay3 (tileT B.x5 (t16 n)) (B.S0 k (n + 1)) (B.S1 k (n + 1)) (B.C k n) := rfl
    rw [X]
    generalize B.C k n = x at I s0 s1
    obtain ⟨t0, e0⟩ := s0.top _ I.m0
    obtain ⟨t1, e1⟩ := s1.top _ I.m1
    have e1' : k0_pay14 x.2.2.1 x.2.2.2.2.2.2 (ix2 0 c) = (t1 : EReal) := e1
    unfold Run.carStep
    refine ⟨?_, ?_, ?_, ?_, fun l => ?_⟩ <;> dsimp only
    · rw [e0]; exact EReal.coe_ne_top _
    · rw [e1']; exact EReal.coe_ne_top _
    · rw [e0, total_step s0 _ _ e0 I.l0]; exact Soft.real _ _
    · rw [e1', show k0_pay20 x.2.2.1 x.2.2.2.1 x.2.2.2.2.2.2 (ix2 0 c) = _ from total_step s1 _ _ e1 I.l1]; exact Soft.real _ _
    · rw [e0, e1', acc_step s0 s1 _ _ e0 e1' l _ _ (fun r => v_apply H n r l) _ (I.acc l)]
      have : mix l (t0 : EReal) (t1 : EReal) = ((if l.val < 64 then t0 else t1 : ℝ) : EReal) := by unfold mix; split_ifs <;> rfl
      rw [this]
      exact Soft.real _ _

/-! ## The results -/

/-- The last step's maximum and total. -/
theorem last (hk : k < 16) : ∃ t0 t1 : ℝ, k0_pay13 (B.C k k).1 (B.M0 k) (ix2 0 c) = (t0 : EReal) ∧ k0_pay13 (B.C k k).2.2.1 (B.M1 k) (ix2 0 c) = (t1 : EReal)
    ∧ k0_pay19 (B.C k k).1 (B.C k k).2.1 (B.M0 k) (ix2 0 c) = ((∑ x, A.ex (h0 p) (row (t16 k) c) x t0 : ℝ) : EReal)
    ∧ k0_pay19 (B.C k k).2.2.1 (B.C k k).2.2.2.1 (B.M1 k) (ix2 0 c) = ((∑ x, A.ex (h1 p) (row (t16 k) c) x t1 : ℝ) : EReal) := by
  have I := carried (c := c) H k hk k le_rfl
  obtain ⟨s0, s1⟩ := scores_diag (c := c) H k
  obtain ⟨t0, e0⟩ := s0.top _ I.m0
  obtain ⟨t1, e1⟩ := s1.top _ I.m1
  refine ⟨t0, t1, e0, e1, ?_, ?_⟩
  · rw [total_step s0 _ _ e0 I.l0, part_all A (h0 p) _ _ t0 k hk c rfl]
    simp only [mul_one]
  · rw [total_step s1 _ _ e1 I.l1, part_all A (h1 p) _ _ t1 k hk c rfl]
    simp only [mul_one]

/-- The attention's output: the values weighted by the probabilities. -/
theorem out_apply (hk : k < 16) : B.out k (ix2 l c) = ((∑ x, A.W (hd p l) (row (t16 k) c) x * A.v (hd p l) x (dim l) : ℝ) : EReal) := by
  have I := carried (c := c) H k hk k le_rfl
  obtain ⟨s0, s1⟩ := scores_diag (c := c) H k
  obtain ⟨t0, t1, e0, e1, z0, z1⟩ := last (c := c) H k hk
  unfold Run.Blk.out
  rw [pay61_eq, quot_apply, z0, show k0_pay20 (B.C k k).2.2.1 (B.C k k).2.2.2.1 (B.M1 k) (ix2 0 c) = _ from z1,
    acc_step s0 s1 _ _ e0 e1 l _ _ (fun r => v_apply H k r l) _ (I.acc l), part_all A (hd p l) _ _ _ k hk c rfl]
  have fin (h : Fin 16) (t : ℝ) : Ideal.div ((∑ x, A.ex h (row (t16 k) c) x t * A.v h x (dim l) : ℝ) : EReal) ((∑ x, A.ex h (row (t16 k) c) x t : ℝ) : EReal)
      = ((∑ x, A.W h (row (t16 k) c) x * A.v h x (dim l) : ℝ) : EReal) := by
    rw [coe_div _ _ (A.sum_ex_pos h _ t).ne', Finset.sum_div]
    refine congrArg _ (Finset.sum_congr rfl fun x _ => ?_)
    rw [← A.prob_eq h _ x t]
    ring
  by_cases hl : l.val < 64
  · rw [hd_lo hl]
    simp only [mix, if_pos hl]
    exact fin _ _
  · rw [hd_hi hl]
    simp only [mix, if_neg hl]
    exact fin _ _

/-- The rows of the log-sums: the pair's two hold the logarithm of the sum of the exponentials, the others stay. -/
theorem lse_apply (hk : k < 16) (old : FVec Ideal S16x256 .f32) (h : Fin 16) : B.lse k old (ix2 h c)
    = if h.val / 2 = p.val then ((Real.log (A.Z h (row (t16 k) c)) : ℝ) : EReal) else old (ix2 h c) := by
  obtain ⟨t0, t1, e0, e1, z0, z1⟩ := last (c := c) H k hk
  have fin (h : Fin 16) (t : ℝ) : (t : EReal) + Ideal.log ((∑ x, A.ex h (row (t16 k) c) x t : ℝ) : EReal) = ((Real.log (A.Z h (row (t16 k) c)) : ℝ) : EReal) := by
    rw [Ideal.log_coe, if_neg (not_le.2 (A.sum_ex_pos h _ t)), ← EReal.coe_add, A.lse_eq]
  unfold Run.Blk.lse
  rw [pay7_apply _ _ _ _ _ B.i p H.i, show k0_pay53 (B.C k k).1 (B.M0 k) (ix2 0 c) = _ from e0, show k0_pay54 (B.C k k).2.2.1 (B.M1 k) (ix2 0 c) = _ from e1,
    show k0_pay59 (B.C k k).1 (B.C k k).2.1 (B.M0 k) (ix2 0 c) = _ from z0, show k0_pay60 (B.C k k).2.2.1 (B.C k k).2.2.2.1 (B.M1 k) (ix2 0 c) = _ from z1,
    fin, fin]
  by_cases g0 : h.val = p.val * 2
  · rw [if_pos g0, if_pos (by omega), show h0 p = h from Fin.ext g0.symm]
  · by_cases g1 : h.val = p.val * 2 + 1
    · rw [if_neg g0, if_pos g1, if_pos (by omega), show h1 p = h from Fin.ext g1.symm]
    · rw [if_neg g0, if_neg g1, if_neg (by omega)]

end Cert.FoxFwdKernelIdeal.Value

end
-- ==== Proof.FwdRef.lean ====
/-
  The forward fox kernel's reference, over the reals: the attention's output, the same transposed, and the logarithm of each query's
  sum of exponentials.
-/
module

public import Idealize.ShloMosaic.Lib.Claim
public import Idealize.ShloMosaic.Lib.Pipeline.ValueKit
public import Idealize.ShloMosaic.Lib.WordCmp
public import proofs.«01_k».proof.Proof.Gen.FoxFwdReferenceIdeal.Run
public import proofs.«01_k».proof.Proof.FoxHost

@[expose] public section

set_option maxRecDepth 16384

noncomputable section

namespace Cert.FoxFwdReferenceIdeal.Value

open Idealize.ShloMosaic Idealize.ShloMosaic.Ideal Idealize.SL.Sem Cert.FoxFwdReferenceIdeal Cert.FoxFwdReferenceIdeal.Gen

open Cert.FoxKernelIdeal.Value (hLogits hMasked hTop hEx hLse hMasked_apply hLse_apply)

/-- Each query's largest entry, once more against `-∞`. -/
def top (x : FVec Ideal S16x4096x4096 .f32) : FVec Ideal S16x4096 .f32 :=
  maximumf (broadcastInDim S16x4096 ![] bcast_S_S16x4096 (constant S_ .f32 0xFF800000#32)) (hTop x)

/-- The sum of the exponentials. -/
def total (x : FVec Ideal S16x4096x4096 .f32) : FVec Ideal S16x4096x1 .f32 :=
  broadcastInDim S16x4096x1 ![0, 1] bcast_S16x4096_S16x4096x1_0_1 (Host.reduceAdd (hEx x (top x)) (constant S_ .f32 0x00000000#32) reducesTo_S16x4096x4096_S16x4096_d2 h_S_)

/-- The probabilities. -/
def prob (x : FVec Ideal S16x4096x4096 .f32) : FVec Ideal S16x4096x4096 .f32 :=
  Host.divf (hEx x (top x)) (broadcastInDim S16x4096x4096 ![0, 1, 2] bcast_S16x4096x1_S16x4096x4096_0_1_2 (total x))

/-- The reference's result 0. -/
def out0 (a0 a1 a2 : FVec Ideal S16x4096x64 .f32) (a3 : FVec Ideal S16x4096 .f32) : FVec Ideal S4096x1024 .bf16 :=
  truncf .bf16 (shapeCast _ (transpose S4096x16x64 [1, 0, 2] (Host.dotGeneral dot_S16x4096x4096_S16x4096x64_S16x4096x64_2_1_1_2_0_0 none
    (prob (hMasked (hLogits a0 a1 a3))) a2) transposes_S16x4096x64_S4096x16x64_1_0_2) shapeCasts_S4096x16x64_S4096x1024) bitsLt_bf16_f32

/-- The reference's result 1. -/
def out1 (a0 a1 a2 : FVec Ideal S16x4096x64 .f32) (a3 : FVec Ideal S16x4096 .f32) : FVec Ideal S1024x4096 .bf16 :=
  transpose S1024x4096 [1, 0] (out0 a0 a1 a2 a3) transposes_S4096x1024_S1024x4096_1_0

/-- The reference's result 2. -/
def out2 (a0 a1 : FVec Ideal S16x4096x64 .f32) (a3 : FVec Ideal S16x4096 .f32) : FVec Ideal S16x4096 .f32 :=
  hLse (hMasked (hLogits a0 a1 a3))

section
variable {A : FoxMath.Args} {a0 a1 a2 : FVec Ideal S16x4096x64 .f32} {a3 : FVec Ideal S16x4096 .f32} {a4 : FVec Ideal ⟨2, ![4096, 2048]⟩ .f32}
variable (H : A.Is a0 a1 a2 a3 a4)
include H

/-- Each query's largest score is real. -/
theorem top_apply (h : Fin 16) (i : Fin 4096) : ∃ t : ℝ, top (hMasked (hLogits a0 a1 a3)) (ix2 h i) = (t : EReal) := by
  unfold top
  refine Cert.FoxReferenceIdeal.Value.max_real _ _ _ ?_ ?_
  · pointwise
    exact Cert.FoxReferenceIdeal.Value.ofBits_bot
  · exact Cert.FoxReferenceIdeal.Value.reduceMax_real (hMasked (hLogits a0 a1 a3)) h i i
      (fun x => by rw [hMasked_apply H]; split_ifs <;> simp) (by rw [hMasked_apply H, if_pos le_rfl]; simp)

omit H in
theorem hEx_apply (x : FVec Ideal S16x4096x4096 .f32) (y : FVec Ideal S16x4096 .f32) (h : Fin 16) (i j : Fin 4096) :
    hEx x y (ix3 h i j) = Ideal.exp (x (ix3 h i j) - y (ix2 h i)) := by
  pointwise [hEx]

/-- The exponentials. -/
theorem ex_apply {h : Fin 16} {i : Fin 4096} {t : ℝ} (ht : top (hMasked (hLogits a0 a1 a3)) (ix2 h i) = (t : EReal)) (j : Fin 4096) :
    hEx (hMasked (hLogits a0 a1 a3)) (top (hMasked (hLogits a0 a1 a3))) (ix3 h i j) = ((A.ex h i j t : ℝ) : EReal) := by
  rw [hEx_apply, hMasked_apply H, ht, FoxMath.Args.ex]
  split_ifs
  · rw [← EReal.coe_sub]; rfl
  · rfl

/-- The probabilities. -/
theorem prob_apply (h : Fin 16) (i j : Fin 4096) : prob (hMasked (hLogits a0 a1 a3)) (ix3 h i j) = ((A.W h i j : ℝ) : EReal) := by
  obtain ⟨t, ht⟩ := top_apply H h i
  have e (x y : FVec Ideal S16x4096x4096 .f32) : Host.divf x (broadcastInDim S16x4096x4096 ![0, 1, 2] bcast_S16x4096x1_S16x4096x4096_0_1_2
      (broadcastInDim S16x4096x1 ![0, 1] bcast_S16x4096_S16x4096x1_0_1 (Host.reduceAdd y (constant S_ .f32 0x00000000#32) reducesTo_S16x4096x4096_S16x4096_d2 h_S_))) (ix3 h i j)
      = Ideal.div (x (ix3 h i j)) (∑ j, y (ix3 h i j)) := by
    pointwise
  unfold prob total
  rw [e]
  simp only [ex_apply H ht, FoxMath.coe_sum]
  rw [FoxMath.coe_div _ _ (A.sum_ex_pos h i t).ne', A.prob_eq]

/-- Result 0 holds the values weighted by the probabilities. -/
theorem out0_apply (i : Fin 4096) (p : Fin 1024) : out0 a0 a1 a2 a3 (ix2 i p)
    = ((∑ x, A.W ⟨p.val / 64, by omega⟩ i x * A.v ⟨p.val / 64, by omega⟩ x ⟨p.val % 64, by omega⟩ : ℝ) : EReal) := by
  have e (y : FVec Ideal S16x4096x4096 .f32) : truncf .bf16 (shapeCast S4096x1024 (transpose S4096x16x64 [1, 0, 2] (Host.dotGeneral dot_S16x4096x4096_S16x4096x64_S16x4096x64_2_1_1_2_0_0 none
      y a2) transposes_S16x4096x64_S4096x16x64_1_0_2) shapeCasts_S4096x16x64_S4096x1024) bitsLt_bf16_f32 (ix2 i p)
      = ∑ x, y (ix3 ⟨p.val / 64, by omega⟩ i x) * a2 (ix3 ⟨p.val / 64, by omega⟩ x ⟨p.val % 64, by omega⟩) := by
    pointwise
  unfold out0
  rw [e]
  simp only [prob_apply H, H.v, FoxMath.coe_dot]

/-- Result 1 holds result 0 transposed. -/
theorem out1_apply (i : Fin 4096) (p : Fin 1024) : out1 a0 a1 a2 a3 (ix2 p i)
    = ((∑ x, A.W ⟨p.val / 64, by omega⟩ i x * A.v ⟨p.val / 64, by omega⟩ x ⟨p.val % 64, by omega⟩ : ℝ) : EReal) := by
  rw [← out0_apply H]
  unfold out1
  generalize out0 a0 a1 a2 a3 = y
  pointwise

/-- Result 2 holds the logarithms of the sums of the exponentials. -/
theorem out2_apply (h : Fin 16) (i : Fin 4096) : out2 a0 a1 a3 (ix2 h i) = ((Real.log (A.Z h i) : ℝ) : EReal) := hLse_apply H h i

end

/-! ## The results of a run -/

variable (m' : (ℓ : Loc nD τ sig) → Buf (Elt Ideal) ℓ) (c : Dev nD)
  {a0 a1 a2 : FVec Ideal S16x4096x64 .f32} {a3 : FVec Ideal S16x4096 .f32}
  (e0 : m' ((c.tc : Thread nD τ).loc main_arg0) = a0) (e1 : m' ((c.tc : Thread nD τ).loc main_arg1) = a1)
  (e2 : m' ((c.tc : Thread nD τ).loc main_arg2) = a2) (e3 : m' ((c.tc : Thread nD τ).loc main_arg3) = a3)

include e0 e1 e2 e3 in
theorem result_0 : res_main_v29 m' c = out0 a0 a1 a2 a3 := by
  subst e0 e1 e2 e3
  rfl

include e0 e1 e2 e3 in
theorem result_1 : res_main_v31 m' c = out1 a0 a1 a2 a3 := by
  subst e0 e1 e2 e3
  rfl

end Cert.FoxFwdReferenceIdeal.Value

end
-- ==== Proof.FwdClaim.lean ====
/- The forward fox kernel against its reference: on finite arguments the three results are the same over the reals. -/
module

public import Idealize.ShloMosaic.Lib.Claim
public import Idealize.ShloMosaic.Lib.Pipeline.ValueKit
public import Idealize.ShloMosaic.Lib.WordCmp
public import proofs.«01_k».proof.Proof.FwdValue
public import proofs.«01_k».proof.Proof.FwdRef
public import proofs.«01_k».proof.Defs
public import proofs.«01_k».proof.Proof.Finite
public import proofs.«01_k».proof.Proof.FoxClaim

@[expose] public section

set_option maxRecDepth 16384

noncomputable section

namespace Cert.FoxFwdKernelIdeal.Value

open Idealize.ShloMosaic Idealize.ShloMosaic.Ideal Idealize.SL.Sem Cert.FoxFwdKernelIdeal Cert.FoxFwdKernelIdeal.Gen

open Cert.FoxFwdReferenceIdeal.Value (out0 out1 out2 out0_apply out1_apply out2_apply result_0 result_1)
open Cert.FoxKernelIdeal.Value (row hd dim)
open Cert.FoxKernelIdeal.Run (t16 t16_val)

/-! ## The results of one pair of heads, row by row -/

section
variable {A : FoxMath.Args} {p : Fin 8} {B : Run.Blk Ideal} (H : BlkIs A p B) (i : Fin 4096) (l : Fin 128)
include H

/-- A query is a row of its tile. -/
theorem row_of (q : (i.val / 256) < 16) (r : i.val % 256 < 256) : row (t16 (⟨i.val / 256, q⟩ : Fin 16).val) ⟨i.val % 256, r⟩ = i := by
  rw [t16_val]
  exact Fin.ext (by show 256 * (i.val / 256) + i.val % 256 = i.val; omega)

theorem o_apply : B.o (ix2 i l) = ((∑ x, A.W (hd p l) i x * A.v (hd p l) x (dim l) : ℝ) : EReal) := by
  have hq : i.val / 256 < 16 := by omega
  have hr : i.val % 256 < 256 := by omega
  show k0_pay6 (B.out (i.val / 256)) (ix2 (⟨i.val % 256, hr⟩ : Fin 256) l) = _
  rw [pay6_apply, out_apply H _ _ hq, show row (t16 (i.val / 256)) ⟨i.val % 256, hr⟩ = i from row_of H i hq hr]

theorem ot_apply : B.ot (ix2 l i) = ((∑ x, A.W (hd p l) i x * A.v (hd p l) x (dim l) : ℝ) : EReal) := by
  have hq : i.val / 256 < 16 := by omega
  have hr : i.val % 256 < 256 := by omega
  show k0_pay5 (B.out (i.val / 256)) (ix2 l (⟨i.val % 256, hr⟩ : Fin 256)) = _
  rw [pay5_apply, out_apply H _ _ hq, show row (t16 (i.val / 256)) ⟨i.val % 256, hr⟩ = i from row_of H i hq hr]

theorem lses_apply (old : FVec Ideal S16x4096 .f32) (h : Fin 16) :
    B.lses old (ix2 h i) = if h.val / 2 = p.val then ((Real.log (A.Z h i) : ℝ) : EReal) else old (ix2 h i) := by
  have hq : i.val / 256 < 16 := by omega
  have hr : i.val % 256 < 256 := by omega
  have e := row_of H i hq hr
  show B.lse (i.val / 256) (Cert.FoxKernelIdeal.Run.tileR old ⟨i.val / 256, hq⟩) (ix2 h (⟨i.val % 256, hr⟩ : Fin 256)) = _
  rw [lse_apply H _ hq, Cert.FoxKernelIdeal.Value.tileR_apply, show row (t16 (i.val / 256)) ⟨i.val % 256, hr⟩ = i from e]
  rw [t16_val] at e
  rw [e]

end

variable (m : (ℓ : Loc nD τ sig) → Buf (Elt Ideal) ℓ) (c : Dev nD)

/-- The arguments on a device. -/
abbrev arg0 : FVec Ideal S16x4096x64 .f32 := m ((c.tc : Thread nD τ).loc main_arg0)
@[inherit_doc arg0] abbrev arg1 : FVec Ideal S16x4096x64 .f32 := m ((c.tc : Thread nD τ).loc main_arg1)
@[inherit_doc arg0] abbrev arg2 : FVec Ideal S16x4096x64 .f32 := m ((c.tc : Thread nD τ).loc main_arg2)
@[inherit_doc arg0] abbrev arg3 : FVec Ideal S16x4096 .f32 := m ((c.tc : Thread nD τ).loc main_arg3)

/-- The place of the cotangent, which the forward pass has none of. -/
def arg4 : FVec Ideal ⟨2, ![4096, 2048]⟩ .f32 := fun _ => (0 : EReal)

/-- Arguments that pass the finiteness test are real. -/
theorem args_real [Cert.Pre_finite_foxf.Facts] (hpre : Cert.Pre_FoxFwdKernelIdeal_finite_foxf m) :
    ∃ A : FoxMath.Args, A.Is (arg0 m c) (arg1 m c) (arg2 m c) (arg3 m c) arg4 := by
  obtain ⟨p0, p1, p2, p3⟩ := hpre c
  exact ⟨⟨fun h i d => (arg0 m c (ix3 h i d) : EReal).toReal, fun h i d => (arg1 m c (ix3 h i d) : EReal).toReal, fun h i d => (arg2 m c (ix3 h i d) : EReal).toReal,
    fun _ _ _ => 0, fun h i => (arg3 m c (ix2 h i) : EReal).toReal⟩,
    ⟨fun h i d => Finite.real_of_ones _ (arg0 m c) p0 _, fun h i d => Finite.real_of_ones _ (arg1 m c) p1 _,
      fun h i d => Finite.real_of_ones _ (arg2 m c) p2 _, fun h i => Finite.real_of_ones _ (arg3 m c) p3 _, fun _ _ _ => rfl⟩⟩

variable {A : FoxMath.Args} (H : A.Is (arg0 m c) (arg1 m c) (arg2 m c) (arg3 m c) arg4)

/-- An array of 128 columns is the part of an array of 1024 at column `128 t`. -/
theorem at_block (g : FVec Ideal S4096x128 .bf16) (f : FVec Ideal S4096x1024 .bf16) (t : ℕ) (ht : t < 8)
    (e : ∀ (i : Fin 4096) (l : Fin 128), g (ix2 i l) = f (ix2 i ⟨128 * t + l.val, by omega⟩)) (y : S4096x128.Idx) (z : S4096x1024.Idx)
    (z0 : (z 0).val = (y 0).val) (z1 : (z 1).val = 128 * t + (y 1).val) : g y = f z :=
  Cert.FoxKernelIdeal.Value.at_block g f t ht e y z z0 z1

/-- An array of 128 rows is the part of an array of 1024 at row `128 t`. -/
theorem at_rows (g : FVec Ideal S128x4096 .bf16) (f : FVec Ideal S1024x4096 .bf16) (t : ℕ) (ht : t < 8)
    (e : ∀ (i : Fin 4096) (l : Fin 128), g (ix2 l i) = f (ix2 ⟨128 * t + l.val, by omega⟩ i)) (y : S128x4096.Idx) (z : S1024x4096.Idx)
    (z0 : (z 0).val = 128 * t + (y 0).val) (z1 : (z 1).val = (y 1).val) : g y = f z := by
  have hy : y = ix2 (y 0 : Fin 128) (y 1 : Fin 4096) := by
    funext a
    fin_cases a <;> rfl
  have hz : z = ix2 (⟨128 * t + (y 0 : Fin 128).val, by have : (y 0).val < 128 := (y 0).isLt; omega⟩ : Fin 1024) (y 1 : Fin 4096) := by
    funext a
    fin_cases a
    · exact Fin.ext z0
    · exact Fin.ext z1
  exact (congrArg g hy).trans ((e _ _).trans (congrArg f hz.symm))

include H

/-- The attention's output. -/
theorem final_5 : (Run.dats m 0 c).arrAt 5 cfg0.N = out0 (arg0 m c) (arg1 m c) (arg2 m c) (arg3 m c) := by
  refine (Run.dats m 0 c).arrAt_eq_of_covers 5 _ (by decide +kernel) fun t hf y => ?_
  obtain ⟨-, -, -, -, -, i5, -, -, -⟩ := idx t
  have ht := lt8 t
  have B := blk_is m c H t
  blk_simp
  rw [Run.after_5]
  refine at_block _ _ t.val ht (fun i l => ?_) y _ (by blk_simp [i5]; try omega) (by blk_simp [i5]; try omega)
  refine (o_apply B i l).trans ((out0_apply H i _).trans ?_).symm
  have e0 (q : (128 * t.val + l.val) / 64 < 16) : (⟨(128 * t.val + l.val) / 64, q⟩ : Fin 16) = hd (t.cast N_0) l :=
    Fin.ext (by show (128 * t.val + l.val) / 64 = t.val * 2 + l.val / 64; omega)
  have e1 (q : (128 * t.val + l.val) % 64 < 64) : (⟨(128 * t.val + l.val) % 64, q⟩ : Fin 64) = dim l :=
    Fin.ext (by show (128 * t.val + l.val) % 64 = l.val % 64; omega)
  rw [e0, e1]

/-- The same transposed. -/
theorem final_6 : (Run.dats m 0 c).arrAt 6 cfg0.N = out1 (arg0 m c) (arg1 m c) (arg2 m c) (arg3 m c) := by
  refine (Run.dats m 0 c).arrAt_eq_of_covers 6 _ (by decide +kernel) fun t hf y => ?_
  obtain ⟨-, -, -, -, -, -, i6, -, -⟩ := idx t
  have ht := lt8 t
  have B := blk_is m c H t
  blk_simp
  rw [Run.after_6]
  refine at_rows _ _ t.val ht (fun i l => ?_) y _ (by blk_simp [i6]; try omega) (by blk_simp [i6]; try omega)
  refine (ot_apply B i l).trans ((out1_apply H i _).trans ?_).symm
  have e0 (q : (128 * t.val + l.val) / 64 < 16) : (⟨(128 * t.val + l.val) / 64, q⟩ : Fin 16) = hd (t.cast N_0) l :=
    Fin.ext (by show (128 * t.val + l.val) / 64 = t.val * 2 + l.val / 64; omega)
  have e1 (q : (128 * t.val + l.val) % 64 < 64) : (⟨(128 * t.val + l.val) % 64, q⟩ : Fin 64) = dim l :=
    Fin.ext (by show (128 * t.val + l.val) % 64 = l.val % 64; omega)
  rw [e0, e1]

/-- Before grid point `n` the rows of the pairs before `n` hold their logarithms. -/
theorem before (n : ℕ) (hn : n ≤ 8) (h : Fin 16) (i : Fin 4096) (hh : h.val / 2 < n) :
    Run.lsesBefore m c n (ix2 h i) = ((Real.log (A.Z h i) : ℝ) : EReal) := by
  induction n with
  | zero => omega
  | succ n ih =>
    have hN : n < cfg0.N := lt_of_lt_of_eq (show n < 8 by omega) N_0.symm
    unfold Run.lsesBefore
    rw [dif_pos hN, lses_apply (blk_is m c H ⟨n, hN⟩), show (Fin.cast N_0 ⟨n, hN⟩).val = n from rfl]
    by_cases e : h.val / 2 = n
    · rw [if_pos e]
    · rw [if_neg e, ih (by omega) (by omega)]

/-- The last grid point. -/
def tLast : Fin cfg0.N := ⟨7, by decide⟩

/-- The logarithms of the sums of the exponentials. -/
theorem final_7 : (Run.dats m 0 c).arrAt 7 cfg0.N = out2 (arg0 m c) (arg1 m c) (arg3 m c) := by
  refine (Run.dats m 0 c).arrAt_eq_of_after_last 7 tLast (by decide +kernel) _ fun y => ?_
  have e : (Run.dats m 0 c).after 7 tLast = Run.lsesBefore m c 8 := by
    rw [Run.after_7]
    rfl
  have hy : y = ix2 (y 0 : Fin 16) (y 1 : Fin 4096) := by
    funext a
    fin_cases a <;> rfl
  blk_simp
  rw [e]
  exact (congrArg (Run.lsesBefore m c 8) hy).trans ((before m c H 8 le_rfl _ _ (by have : (y 0).val < 16 := (y 0).isLt; omega)).trans
    ((out2_apply H _ _).symm.trans (congrArg (out2 (arg0 m c) (arg1 m c) (arg3 m c)) hy.symm)))

omit H in
/-- The kernel's run with its results named. -/
theorem run_blocks (ρ : Dev nD → PrngReg) : θ_run defs (onTc (τ := τ) (main (F := Ideal))) ⟨m, fun _ => 0, ρ⟩ fun r => ∀ c : Dev nD,
      r.2.mem ((c.tc : Thread nD τ).loc main_v41_0) = (Run.dats m 0 c).arrAt 5 cfg0.N
      ∧ r.2.mem ((c.tc : Thread nD τ).loc main_v41_1) = (Run.dats m 0 c).arrAt 6 cfg0.N
      ∧ r.2.mem ((c.tc : Thread nD τ).loc main_v41_2) = (Run.dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 5, (h.1 c).1 6, (h.1 c).1 7, h.2.1 c⟩)
    (θ_run_and (Run.run_main m ρ) (Run.frame m ρ))

omit m c H in
/-- The reference leaves its arguments as they were. -/
theorem reference_frame : Cert.quiescent_FoxFwdReferenceIdeal := fun m ρ _ =>
  (θ_run Cert.FoxFwdReferenceIdeal.defs _ _).mono (fun r h => ⟨fun c => (h c).2.2.2, sem_eq_zero_of_no_sems (by decide) r.2⟩)
    (Cert.FoxFwdReferenceIdeal.Value.run (F := Ideal) m ρ)

section
variable (m' : (ℓ : Loc Cert.FoxFwdReferenceIdeal.nD Cert.FoxFwdReferenceIdeal.τ Cert.FoxFwdReferenceIdeal.sig) → Buf (Elt Ideal) ℓ) (c : Dev Cert.FoxFwdReferenceIdeal.nD)

omit m c A H in
/-- The kernel and its reference, run on the same finite arguments, leave the same three results over the real numbers. -/
theorem algebraic [Cert.Pre_finite_foxf.Facts] : Cert.algebraic_FoxFwdKernelIdeal_FoxFwdReferenceIdeal_pre_finite_foxf := by
  intro m g m' g' hpre hagree
  refine ⟨_, _, _, run_blocks m g, (θ_run Cert.FoxFwdReferenceIdeal.defs _ _).mono (fun r h c => ?_) (Cert.FoxFwdReferenceIdeal.Value.run (F := Ideal) m' g')⟩
  obtain ⟨r0, r1, r2, h⟩ := h c
  obtain ⟨e0, e1, e2, e3⟩ := hagree c
  obtain ⟨A, H⟩ := args_real m c hpre
  refine ⟨r0.trans ((result_0 m' c e0 e1 e2 e3).trans (final_5 m c H).symm), r1.trans ((result_1 m' c e0 e1 e2 e3).trans (final_6 m c H).symm),
    r2.trans (Eq.trans ?_ (final_7 m c H).symm), h⟩
  rw [e0, e1, e3]
  rfl

end

end Cert.FoxFwdKernelIdeal.Value

end
-- ==== Proof.NormReal.lean ====
/- The gradient of a root-mean-square norm along one row of 1024 entries: two forms of it, equal on real entries. -/
module

public import proofs.«01_k».proof.Proof.FoxReal
public import proofs.«01_k».proof.Proof.Consts

@[expose] public section

noncomputable section

namespace Cert.NormMath

open Idealize.ShloMosaic Idealize.ShloMosaic.Ideal
open scoped BigOperators

/-- A row's mean square, with the small constant added. -/
def ms (x : Fin 1024 → EReal) : EReal := Ideal.div (∑ k, x k * x k) (Ideal.ofBits .f32 0x44800000#32) + Ideal.ofBits .f32 0x358637BD#32

/-- The reciprocal of its root. -/
def rstd (x : Fin 1024 → EReal) : EReal := Ideal.rsqrt (ms x)

/-- The norm's gradient by its argument in a few operations: `g` is the cotangent, `w` the norm's weight. -/
def short (x g w : Fin 1024 → EReal) (k : Fin 1024) : EReal :=
  rstd x * (g k * w k - x k * rstd x * Ideal.div (∑ j, g j * w j * (x j * rstd x)) (Ideal.ofBits .f32 0x44800000#32))

/-- The mean square's cotangent, divided by the row's length. -/
def shared (x g w : Fin 1024 → EReal) : EReal :=
  Ideal.div ((∑ j, x j * (g j * w j)) * (Ideal.ofBits .f32 0xBF000000#32 * Ideal.div (rstd x) (ms x))) (Ideal.ofBits .f32 0x44800000#32)

/-- The norm's gradient by its argument as the rules of differentiation write it. -/
def long (x g w : Fin 1024 → EReal) (k : Fin 1024) : EReal :=
  g k * w k * rstd x + x k * shared x g w + shared x g w * x k

/-- On real rows the mean square is a positive real and the reciprocal of its root a real. -/
theorem exists_ms (x : Fin 1024 → ℝ) : ∃ v : ℝ, 0 < v ∧ ms (fun k => (x k : EReal)) = (v : EReal) ∧ rstd (fun k => (x k : EReal)) = (((Real.sqrt v)⁻¹ : ℝ) : EReal) := by
  obtain ⟨e, he, e1⟩ := Consts.ofBits_eps
  have h0 : 0 ≤ ∑ k, x k * x k := Finset.sum_nonneg fun k _ => mul_self_nonneg _
  have hv : 0 < (∑ k, x k * x k) / 1024 + e := by positivity
  have hm : ms (fun k => (x k : EReal)) = (((∑ k, x k * x k) / 1024 + e : ℝ) : EReal) := by
    unfold ms
    rw [FoxMath.coe_dot, Consts.ofBits_1024, FoxMath.coe_div _ _ (by norm_num), e1, ← EReal.coe_add]
  refine ⟨_, hv, hm, ?_⟩
  unfold rstd
  rw [hm, Ideal.rsqrt_coe, if_neg hv.le.not_gt, if_neg hv.ne']

/-- The two forms are equal on real rows. -/
theorem short_eq (x g w : Fin 1024 → EReal) (hx : ∀ k, x k = ((x k).toReal : EReal)) (hg : ∀ k, g k = ((g k).toReal : EReal))
    (hw : ∀ k, w k = ((w k).toReal : EReal)) (k : Fin 1024) : short x g w k = long x g w k := by
  obtain ⟨a, rfl⟩ : ∃ a : Fin 1024 → ℝ, x = fun k => (a k : EReal) := ⟨_, funext hx⟩
  obtain ⟨b, rfl⟩ : ∃ a : Fin 1024 → ℝ, g = fun k => (a k : EReal) := ⟨_, funext hg⟩
  obtain ⟨d, rfl⟩ : ∃ a : Fin 1024 → ℝ, w = fun k => (a k : EReal) := ⟨_, funext hw⟩
  obtain ⟨v, hv, hm, hr⟩ := exists_ms a
  unfold short long shared
  rw [hr, hm]
  simp only [Consts.ofBits_1024, Consts.ofBits_neg_half, FoxMath.coe_mul, FoxMath.coe_sum, FoxMath.coe_div _ _ hv.ne', FoxMath.coe_div _ _ (show (1024 : ℝ) ≠ 0 by norm_num),
    ← EReal.coe_add, ← EReal.coe_sub]
  rw [EReal.coe_eq_coe_iff]
  have hs : Real.sqrt v ≠ 0 := (Real.sqrt_pos.2 hv).ne'
  have e1 : ∑ j, b j * d j * (a j * (Real.sqrt v)⁻¹) = (∑ j, a j * (b j * d j)) * (Real.sqrt v)⁻¹ := by
    rw [Finset.sum_mul]
    exact Finset.sum_congr rfl fun j _ => by ring
  have e2 : (Real.sqrt v)⁻¹ / v = (Real.sqrt v)⁻¹ * ((Real.sqrt v)⁻¹ * (Real.sqrt v)⁻¹) := by
    rw [← mul_inv (Real.sqrt v) (Real.sqrt v), Real.mul_self_sqrt hv.le, div_eq_mul_inv]
  rw [e1, e2]
  ring

/-- A sum of products of real entries is real. -/
theorem dot_real {n : ℕ} (f g : Fin n → EReal) (hf : ∀ k, f k = ((f k).toReal : EReal)) (hg : ∀ k, g k = ((g k).toReal : EReal)) :
    (∑ k, f k * g k) = ((∑ k, f k * g k).toReal : EReal) := by
  have e : ∑ k, f k * g k = ((∑ k, (f k).toReal * (g k).toReal : ℝ) : EReal) :=
    (Finset.sum_congr rfl fun k _ => congrArg₂ (· * ·) (hf k) (hg k)).trans (FoxMath.coe_dot _ _)
  rw [e, EReal.toReal_coe]

end Cert.NormMath

end
-- ==== Proof.NormValue.lean ====
/- What the norm's gradient kernel leaves in its three results at the real numbers. -/
module

public import proofs.«01_k».proof.Proof.Gen.NormKernelIdeal.Frame
public import proofs.«01_k».proof.Proof.NormReal
public import Idealize.ShloMosaic.Lib.Pipeline.Value
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.NormKernelIdeal.Value

open Cert.NormKernelIdeal Cert.NormKernelIdeal.Gen

/-! ## The body's payloads, entry by entry -/

section
variable (x g res : FVec Ideal S256x1024 .f32) (w : FVec Ideal S1x1024 .f32) (b : FVec Ideal S2048x1024 .bf16) (v0 old : FVec Ideal S1x1024 .f32)
  (r : Fin 256) (k : Fin 1024)

/-- The reciprocal of the root of a row's mean square. -/
theorem pay8_apply : (k0_pay8 (k0_pay7 x) : FVec Ideal _ _) (ix2 r (0 : Fin 1)) = NormMath.rstd fun k => x (ix2 r k) := by
  pointwise [k0_pay8, k0_pay7]
  rfl

/-- A normalised entry. -/
theorem pay9_apply : (k0_pay9 x (k0_pay7 x) : FVec Ideal _ _) (ix2 r k) = x (ix2 r k) * NormMath.rstd fun k => x (ix2 r k) := by
  pointwise [k0_pay9, k0_pay8, k0_pay7]
  rfl

/-- The first result's entry: the residual and the norm's gradient. -/
theorem pay10_apply : (k0_pay10 x g (k0_pay7 x) w res : FVec Ideal _ _) (ix2 r k) = res (ix2 r k)
    + NormMath.short (fun k => x (ix2 r k)) (fun k => g (ix2 r k)) (fun k => w (ix2 (0 : Fin 1) k)) k := by
  pointwise [k0_pay10, k0_pay9, k0_pay8, k0_pay7]
  rfl

/-- A half's part of the weight's gradient, added to what came before. -/
theorem pay12_apply : (k0_pay12 v0 x g (k0_pay7 x) : FVec Ideal _ _) (ix2 (0 : Fin 1) k) = v0 (ix2 (0 : Fin 1) k)
    + ∑ r : Fin 256, g (ix2 r k) * (x (ix2 r k) * NormMath.rstd fun k => x (ix2 r k)) := by
  pointwise [k0_pay12, k0_pay9, k0_pay8, k0_pay7]
  rfl

/-- An entry of the product: a row of the first result with a row of the other operand. -/
theorem pay11_apply (n : Fin 2048) : (k0_pay11 x g (k0_pay7 x) w res b : FVec Ideal _ _) (ix2 r n)
    = ∑ k : Fin 1024, (k0_pay10 x g (k0_pay7 x) w res : FVec Ideal _ _) (ix2 r k) * b (ix2 n k) := by
  unfold k0_pay11
  generalize k0_pay10 x g (k0_pay7 x) w res = y
  pointwise

/-- The cotangent before the norm: a row of four shards' columns with a row of the weight's four shards. -/
theorem pay6_apply (a0 a1 a2 a3 : FVec Ideal S1x256x1408 .bf16) (b0 b1 b2 b3 : FVec Ideal S1x1024x1408 .bf16) :
    (k0_pay6 a0 b0 a1 b1 a2 b2 a3 b3 : FVec Ideal _ _) (ix2 r k)
    = (∑ j : Fin 1408, a0 (ix3 (0 : Fin 1) r j) * b0 (ix3 (0 : Fin 1) k j)) + (∑ j : Fin 1408, a1 (ix3 (0 : Fin 1) r j) * b1 (ix3 (0 : Fin 1) k j))
      + (∑ j : Fin 1408, a2 (ix3 (0 : Fin 1) r j) * b2 (ix3 (0 : Fin 1) k j)) + (∑ j : Fin 1408, a3 (ix3 (0 : Fin 1) r j) * b3 (ix3 (0 : Fin 1) k j)) := by
  pointwise [k0_pay6]

/-- The second half's cotangent is formed as the first half's. -/
theorem pay14_eq (a0 a1 a2 a3 : FVec Ideal S1x256x1408 .bf16) (b0 b1 b2 b3 : FVec Ideal S1x1024x1408 .bf16) :
    (k0_pay14 (k0_pay13 a0) b0 a1 b1 a2 b2 a3 b3 : FVec Ideal _ _) = k0_pay6 a0 b0 a1 b1 a2 b2 a3 b3 := rfl

/-- The second half's entry of the first result is formed as the first half's. -/
theorem pay1_eq : (k0_pay1 g (k0_pay15 x) (k0_pay16 x) w res : FVec Ideal _ _) = k0_pay10 x g (k0_pay7 x) w res := rfl

/-- The second half's product is formed as the first half's. -/
theorem pay2_eq : (k0_pay2 g (k0_pay15 x) (k0_pay16 x) w res b : FVec Ideal _ _) = k0_pay11 x g (k0_pay7 x) w res b := rfl

/-- A later grid point adds its part to what it found. -/
theorem pay4_apply (v93 : FVec Ideal S256x1024 .f32) (j : S1x1024.Idx) : (k0_pay4 v0 g v93 old : FVec Ideal _ _) j = old j + (k0_pay3 v0 g v93 : FVec Ideal _ _) j := by
  unfold k0_pay4
  generalize k0_pay3 v0 g v93 = y
  pointwise

/-- The second half's part of the weight's gradient is formed as the first half's. -/
theorem pay3_eq : (k0_pay3 v0 g (k0_pay16 x) : FVec Ideal _ _) = k0_pay12 v0 x g (k0_pay7 x) := rfl

end

variable (m : (ℓ : Loc nD τ sig) → Buf (Elt Ideal) ℓ) (c : Dev nD)

/-- The block each window reads or writes at a grid point. -/
theorem idx : ∀ t : Fin cfg0.N, win0_0.index t = ![0, t.val, 0] ∧ win0_1.index t = ![0, 0, 0] ∧ win0_2.index t = ![t.val, 0] ∧ win0_3.index t = ![0, 0]
    ∧ win0_4.index t = ![t.val, 0] ∧ win0_5.index t = ![0, 0] ∧ win0_6.index t = ![t.val, 0] ∧ win0_7.index t = ![0, 0] ∧ win0_8.index t = ![t.val, 0] :=
  (by decide +kernel : ∀ t : Fin grid0.N, _)

/-- The arguments on a device. -/
abbrev arg0 : FVec Ideal S4096x5632 .f32 := m ((c.tc : Thread nD τ).loc main_arg0)
@[inherit_doc arg0] abbrev arg1 : FVec Ideal S1x1024x5632 .f32 := m ((c.tc : Thread nD τ).loc main_arg1)
@[inherit_doc arg0] abbrev arg2 : FVec Ideal S4096x1024 .f32 := m ((c.tc : Thread nD τ).loc main_arg2)
@[inherit_doc arg0] abbrev arg3 : FVec Ideal S1x1024 .f32 := m ((c.tc : Thread nD τ).loc main_arg3)
@[inherit_doc arg0] abbrev arg4 : FVec Ideal S4096x1024 .f32 := m ((c.tc : Thread nD τ).loc main_arg4)
@[inherit_doc arg0] abbrev arg5 : FVec Ideal S1x2048x1024 .f32 := m ((c.tc : Thread nD τ).loc main_arg5)

/-! ## The blocks of a grid point, entry by entry -/

theorem blk_0 (t : Fin cfg0.N) (a : Fin 2) (r : Fin 512) (j : Fin 2816) :
    (iblk m c 0 t : FVec Ideal S2x512x2816 .bf16) (ix3 a r j) = arg0 m c (ix2 ⟨512 * t.val + r.val, by have := lt_of_lt_of_eq t.isLt N_0; omega⟩ ⟨2816 * a.val + j.val, by omega⟩) := by
  obtain ⟨i0, -, -, -, -, -, -, -, -⟩ := idx t
  have ht : t.val < 8 := lt_of_lt_of_eq t.isLt N_0
  blk_simp [iblk, V, i0]
  entry_read
  pointwise
  have e0 : ((((View.whole main_v5).slice (win0_0.rect t)).emb (ix3 a r j) 0 : Fin _) : ℕ) = a.val := by blk_simp [i0]; try omega
  split_ifs with h
  all_goals
    rw [e0] at h
    blk_ext [i0]

theorem blk_1 (t : Fin cfg0.N) (a : Fin 4) (k : Fin 1024) (j : Fin 1408) :
    (iblk m c 1 t : FVec Ideal S4x1024x1408 .bf16) (ix3 a k j) = arg1 m c (ix3 (0 : Fin 1) k ⟨1408 * a.val + j.val, by omega⟩) := by
  obtain ⟨-, i1, -, -, -, -, -, -, -⟩ := idx t
  blk_simp [iblk, V, i1]
  entry_read
  pointwise
  blk_ext [i1]

theorem blk_2 (t : Fin cfg0.N) (r : Fin 512) (k : Fin 1024) :
    (iblk m c 2 t : FVec Ideal S512x1024 .f32) (ix2 r k) = arg2 m c (ix2 ⟨512 * t.val + r.val, by have := lt_of_lt_of_eq t.isLt N_0; omega⟩ k) := by
  obtain ⟨-, -, i2, -, -, -, -, -, -⟩ := idx t
  blk_simp [iblk, V, i2]
  blk_ext [i2]

theorem blk_3 (t : Fin cfg0.N) (k : Fin 1024) : (iblk m c 3 t : FVec Ideal S1x1024 .f32) (ix2 (0 : Fin 1) k) = arg3 m c (ix2 (0 : Fin 1) k) := by
  obtain ⟨-, -, -, i3, -, -, -, -, -⟩ := idx t
  blk_simp [iblk, V, i3]
  blk_ext [i3]

theorem blk_4 (t : Fin cfg0.N) (r : Fin 512) (k : Fin 1024) :
    (iblk m c 4 t : FVec Ideal S512x1024 .f32) (ix2 r k) = arg4 m c (ix2 ⟨512 * t.val + r.val, by have := lt_of_lt_of_eq t.isLt N_0; omega⟩ k) := by
  obtain ⟨-, -, -, -, i4, -, -, -, -⟩ := idx t
  blk_simp [iblk, V, i4]
  blk_ext [i4]

theorem blk_5 (t : Fin cfg0.N) (n : Fin 2048) (k : Fin 1024) :
    (iblk m c 5 t : FVec Ideal S2048x1024 .bf16) (ix2 n k) = arg5 m c (ix3 (0 : Fin 1) n k) := by
  obtain ⟨-, -, -, -, -, i5, -, -, -⟩ := idx t
  blk_simp [iblk, V, i5]
  entry_read
  pointwise
  blk_ext [i5]

/-! ## The two halves of a grid point's rows -/

/-- A half's rows of a block of rows. -/
theorem ld_rows (x : S512x1024.Idx → Elt Ideal .f32) (o : ℕ) (hb) (r : Fin 256) (k : Fin 1024) (ho : o + r.val < 512) :
    View.ld (Val := Elt Ideal) x (Rect.unit (s := S512x1024) ![o, 0] ![256, 1024] hb) (ix2 r k) = x (ix2 ⟨o + r.val, ho⟩ k) :=
  View.ld_unit_apply_of _ _ _ _ _ _ fun a => by fin_cases a <;> simp [ix2]

/-- A half's rows of a shard's columns of the cotangent. -/
theorem ld_cols (x : S2x512x2816.Idx → Elt Ideal .bf16) (a o q : ℕ) (hb) (r : Fin 256) (j : Fin 1408) (ha : a < 2) (ho : o + r.val < 512) (hq : q + j.val < 2816) :
    View.ld (Val := Elt Ideal) x (Rect.unit (s := S2x512x2816) ![a, o, q] ![1, 256, 1408] hb) (ix3 (0 : Fin 1) r j) = x (ix3 ⟨a, ha⟩ ⟨o + r.val, ho⟩ ⟨q + j.val, hq⟩) :=
  View.ld_unit_apply_of _ _ _ _ _ _ fun a => by fin_cases a <;> simp [ix3]

/-- A shard of the weight. -/
theorem ld_shard (x : S4x1024x1408.Idx → Elt Ideal .bf16) (a : ℕ) (hb) (k : Fin 1024) (j : Fin 1408) (ha : a < 4) :
    View.ld (Val := Elt Ideal) x (Rect.unit (s := S4x1024x1408) ![a, 0, 0] ![1, 1024, 1408] hb) (ix3 (0 : Fin 1) k j) = x (ix3 ⟨a, ha⟩ k j) :=
  View.ld_unit_apply_of _ _ _ _ _ _ fun a => by fin_cases a <;> simp [ix3]

/-- The cotangent before the norm. -/
def G (i : Fin 4096) (k : Fin 1024) : EReal := ∑ j : Fin 5632, arg0 m c (ix2 i j) * arg1 m c (ix3 (0 : Fin 1) k j)

/-- A row of the norm's argument. -/
def X (i : Fin 4096) (k : Fin 1024) : EReal := arg2 m c (ix2 i k)

/-- An entry of the first result. -/
def D (i : Fin 4096) (k : Fin 1024) : EReal := arg4 m c (ix2 i k) + NormMath.short (X m c i) (G m c i) (fun k => arg3 m c (ix2 (0 : Fin 1) k)) k

/-- An entry of the third result. -/
def P (i : Fin 4096) (n : Fin 2048) : EReal := ∑ k : Fin 1024, D m c i k * arg5 m c (ix3 (0 : Fin 1) n k)

/-- A row's part of the weight's gradient. -/
def E (i : Fin 4096) (k : Fin 1024) : EReal := G m c i k * (X m c i k * NormMath.rstd (X m c i))

/-- The 5632 columns, shard by shard. -/
theorem G_shards (i : Fin 4096) (k : Fin 1024) (f : Fin 4 → Fin 1408 → EReal)
    (h : ∀ a j, f a j = arg0 m c (ix2 i ⟨1408 * a.val + j.val, by omega⟩) * arg1 m c (ix3 (0 : Fin 1) k ⟨1408 * a.val + j.val, by omega⟩)) :
    (∑ j, f 0 j) + (∑ j, f 1 j) + (∑ j, f 2 j) + (∑ j, f 3 j) = G m c i k := by
  rw [← Fin.sum_univ_four (fun a => ∑ j, f a j)]
  unfold G
  refine Fin.sum_mul_add_congr fun a j hl => (h a j).trans ?_
  have e (q : 1408 * a.val + j.val < 5632) : (⟨1408 * a.val + j.val, q⟩ : Fin 5632) = ⟨a.val * 1408 + j.val, hl⟩ := Fin.ext (by show 1408 * a.val + j.val = a.val * 1408 + j.val; omega)
  rw [e]

/-- A half of a grid point's rows: the norm's argument, the cotangent before the norm and the residual, at rows `i`. -/
structure HalfIs (i : Fin 256 → Fin 4096) (x g res : FVec Ideal S256x1024 .f32) : Prop where
  x : ∀ r k, x (ix2 r k) = X m c (i r) k
  g : ∀ r k, g (ix2 r k) = G m c (i r) k
  res : ∀ r k, res (ix2 r k) = arg4 m c (ix2 (i r) k)

section
variable {m c}
variable {i : Fin 256 → Fin 4096} {x g res : FVec Ideal S256x1024 .f32} (H : HalfIs m c i x g res) (w : FVec Ideal S1x1024 .f32) (hw : ∀ k, w (ix2 (0 : Fin 1) k) = arg3 m c (ix2 (0 : Fin 1) k))
  (b : FVec Ideal S2048x1024 .bf16) (hb : ∀ n k, b (ix2 n k) = arg5 m c (ix3 (0 : Fin 1) n k)) (v0 : FVec Ideal S1x1024 .f32) (r : Fin 256) (k : Fin 1024)
include H

theorem HalfIs.rowX : (fun k => x (ix2 r k)) = X m c (i r) := funext fun k => H.x r k

include hw in
theorem HalfIs.dx : (k0_pay10 x g (k0_pay7 x) w res : FVec Ideal _ _) (ix2 r k) = D m c (i r) k := by
  rw [pay10_apply, H.rowX, H.res, funext fun k => H.g r k, funext hw]
  rfl

include hw hb in
theorem HalfIs.prod (n : Fin 2048) : (k0_pay11 x g (k0_pay7 x) w res b : FVec Ideal _ _) (ix2 r n) = P m c (i r) n :=
  (pay11_apply x g res w b r n).trans (Finset.sum_congr rfl fun k _ => congrArg₂ (· * ·) (H.dx w hw r k) (hb n k))

theorem HalfIs.dw : (k0_pay12 v0 x g (k0_pay7 x) : FVec Ideal _ _) (ix2 (0 : Fin 1) k) = v0 (ix2 (0 : Fin 1) k) + ∑ r, E m c (i r) k :=
  (pay12_apply x g v0 k).trans (congrArg (v0 (ix2 (0 : Fin 1) k) + ·) (Finset.sum_congr rfl fun r _ => congrArg₂ (· * ·) (H.g r k)
    (congrArg₂ (· * ·) (H.x r k) (congrArg NormMath.rstd (H.rowX r)))))

end

/-- Row `r` of the half that starts at row `o` of grid point `t`. -/
def rowAt (t : Fin cfg0.N) (o : ℕ) (ho : o + 256 ≤ 512) (r : Fin 256) : Fin 4096 := ⟨512 * t.val + (o + r.val), by have := lt_of_lt_of_eq t.isLt N_0; omega⟩

/-- A half's loads hold the arguments' rows. -/
theorem half (t : Fin cfg0.N) (o : ℕ) (ho : o + 256 ≤ 512) (h1 h2 h3 h4 h5 h6 h7 h8 h9 h10) :
    HalfIs m c (rowAt t o ho) (View.ld (iblk m c 2 t) (Rect.unit (s := S512x1024) ![o, 0] ![256, 1024] h9))
      (k0_pay6 (View.ld (iblk m c 0 t) (Rect.unit (s := S2x512x2816) ![0, o, 0] ![1, 256, 1408] h1))
        (View.ld (iblk m c 1 t) (Rect.unit (s := S4x1024x1408) ![0, 0, 0] ![1, 1024, 1408] h2))
        (View.ld (iblk m c 0 t) (Rect.unit (s := S2x512x2816) ![0, o, 1408] ![1, 256, 1408] h3))
        (View.ld (iblk m c 1 t) (Rect.unit (s := S4x1024x1408) ![1, 0, 0] ![1, 1024, 1408] h4))
        (View.ld (iblk m c 0 t) (Rect.unit (s := S2x512x2816) ![1, o, 0] ![1, 256, 1408] h5))
        (View.ld (iblk m c 1 t) (Rect.unit (s := S4x1024x1408) ![2, 0, 0] ![1, 1024, 1408] h6))
        (View.ld (iblk m c 0 t) (Rect.unit (s := S2x512x2816) ![1, o, 1408] ![1, 256, 1408] h7))
        (View.ld (iblk m c 1 t) (Rect.unit (s := S4x1024x1408) ![3, 0, 0] ![1, 1024, 1408] h8)))
      (View.ld (iblk m c 4 t) (Rect.unit (s := S512x1024) ![o, 0] ![256, 1024] h10)) := by
  refine ⟨fun r k => ?_, fun r k => ?_, fun r k => ?_⟩
  · exact (ld_rows _ o _ r k (by omega)).trans (blk_2 m c t _ k)
  · rw [pay6_apply]
    refine Eq.trans ?_ (G_shards m c (rowAt t o ho r) k (fun a j => arg0 m c (ix2 (rowAt t o ho r) ⟨1408 * a.val + j.val, by omega⟩) * arg1 m c (ix3 (0 : Fin 1) k ⟨1408 * a.val + j.val, by omega⟩)) fun a j => rfl)
    refine congrArg₂ (· + ·) (congrArg₂ (· + ·) (congrArg₂ (· + ·) ?_ ?_) ?_) ?_ <;> refine Finset.sum_congr rfl fun j _ => congrArg₂ (· * ·) ?_ ?_
    · exact (ld_cols _ 0 o 0 _ r j (by omega) (by omega) (by omega)).trans ((blk_0 m c t _ _ _).trans (congrArg (arg0 m c) (congrArg₂ ix2 rfl (Fin.ext (by simp)))))
    · exact (ld_shard _ 0 _ k j (by omega)).trans (blk_1 m c t _ k j)
    · exact (ld_cols _ 0 o 1408 _ r j (by omega) (by omega) (by omega)).trans ((blk_0 m c t _ _ _).trans (congrArg (arg0 m c) (congrArg₂ ix2 rfl (Fin.ext (by simp)))))
    · exact (ld_shard _ 1 _ k j (by omega)).trans (blk_1 m c t _ k j)
    · exact (ld_cols _ 1 o 0 _ r j (by omega) (by omega) (by omega)).trans ((blk_0 m c t _ _ _).trans (congrArg (arg0 m c) (congrArg₂ ix2 rfl (Fin.ext (by simp)))))
    · exact (ld_shard _ 2 _ k j (by omega)).trans (blk_1 m c t _ k j)
    · exact (ld_cols _ 1 o 1408 _ r j (by omega) (by omega) (by omega)).trans ((blk_0 m c t _ _ _).trans (congrArg (arg0 m c) (congrArg₂ ix2 rfl (Fin.ext (by simp; omega)))))
    · exact (ld_shard _ 3 _ k j (by omega)).trans (blk_1 m c t _ k j)
  · exact (ld_rows _ o _ r k (by omega)).trans (blk_4 m c t _ k)

/-! ## The three results -/

theorem emb_6 (t : Fin cfg0.N) (y : ((cfg0.win 6).xblock (cfg0.grid.coords t)).Idx) :
    ((((cfg0.win 6).blk t).view.emb y 0 : Fin _) : ℕ) = t.val * 512 + (y 0 : ℕ) ∧ ((((cfg0.win 6).blk t).view.emb y 1 : Fin _) : ℕ) = (y 1 : ℕ) := by
  obtain ⟨-, -, -, -, -, -, i6, -, -⟩ := idx t
  constructor <;> blk_simp [i6] <;> try omega

theorem emb_8 (t : Fin cfg0.N) (y : ((cfg0.win 8).xblock (cfg0.grid.coords t)).Idx) :
    ((((cfg0.win 8).blk t).view.emb y 0 : Fin _) : ℕ) = t.val * 512 + (y 0 : ℕ) ∧ ((((cfg0.win 8).blk t).view.emb y 1 : Fin _) : ℕ) = (y 1 : ℕ) := by
  obtain ⟨-, -, -, -, -, -, -, -, i8⟩ := idx t
  constructor <;> blk_simp [i8] <;> try omega

/-- A value at a half's row is the value at the array's row. -/
theorem at_row {n : ℕ} (f : Fin 4096 → Fin n → EReal) (g : (⟨2, ![256, n]⟩ : Shape).Idx → EReal) (t : Fin cfg0.N) (o : ℕ) (ho : o + 256 ≤ 512)
    (h : ∀ (r : Fin 256) (k : Fin n), g (ix2 r k) = f (rowAt t o ho r) k) (x : (⟨2, ![256, n]⟩ : Shape).Idx) (z : (⟨2, ![4096, n]⟩ : Shape).Idx)
    (z0 : (z 0).val = t.val * 512 + (o + (x 0).val)) (z1 : (z 1).val = (x 1).val) : g x = f (z 0) (z 1) := by
  have hx : x = ix2 (x 0 : Fin 256) (x 1 : Fin n) := by
    funext a
    fin_cases a <;> rfl
  refine (congrArg g hx).trans ((h _ _).trans ?_)
  exact congrArg₂ f (Fin.ext ((Nat.add_right_cancel_iff.2 (Nat.mul_comm 512 t.val)).trans z0.symm)) (Fin.ext z1.symm)

theorem point_6 (t : Fin cfg0.N) (y : S512x1024.Idx) :
    (outsAt0 m c t.val t.isLt).1 y = D m c (((cfg0.win 6).blk t).view.emb y 0) (((cfg0.win 6).blk t).view.emb y 1) := by
  have ht : t.val < 8 := lt_of_lt_of_eq t.isLt N_0
  obtain ⟨e0, e1⟩ := emb_6 t y
  by_cases h : t.val % 8 = 0
  on_goal 1 => rw [outsAt0_A m c t h (by omega)]
  on_goal 2 => rw [outsAt0_B m c t h (by omega)]
  all_goals
    frame_out
    canon_tiles x h
    · exact at_row (D m c) _ t 256 (by omega) (fun r k => (half m c t 256 (by omega) _ _ _ _ _ _ _ _ _ _).dx _ (blk_3 m c t) r k) x _ (e0.trans (by rw [h0])) (e1.trans h1)
    · exact at_row (D m c) _ t 0 (by omega) (fun r k => (half m c t 0 (by omega) _ _ _ _ _ _ _ _ _ _).dx _ (blk_3 m c t) r k) x _ (e0.trans (by rw [h0, Nat.zero_add])) (e1.trans h1)

theorem point_8 (t : Fin cfg0.N) (y : S512x2048.Idx) :
    (outsAt0 m c t.val t.isLt).2.2 y = P m c (((cfg0.win 8).blk t).view.emb y 0) (((cfg0.win 8).blk t).view.emb y 1) := by
  have ht : t.val < 8 := lt_of_lt_of_eq t.isLt N_0
  obtain ⟨e0, e1⟩ := emb_8 t y
  by_cases h : t.val % 8 = 0
  on_goal 1 => rw [outsAt0_A m c t h (by omega)]
  on_goal 2 => rw [outsAt0_B m c t h (by omega)]
  all_goals
    frame_out
    canon_tiles x h
    · exact at_row (P m c) _ t 256 (by omega) (fun r k => (half m c t 256 (by omega) _ _ _ _ _ _ _ _ _ _).prod _ (blk_3 m c t) _ (blk_5 m c t) r k) x _ (e0.trans (by rw [h0])) (e1.trans h1)
    · exact at_row (P m c) _ t 0 (by omega) (fun r k => (half m c t 0 (by omega) _ _ _ _ _ _ _ _ _ _).prod _ (blk_3 m c t) _ (blk_5 m c t) r k) x _ (e0.trans (by rw [h0, Nat.zero_add])) (e1.trans h1)

/-- The first result: the residual and the norm's gradient. -/
theorem final_6 : (dats m 0 c).arrAt 6 cfg0.N = fun y : S4096x1024.Idx => D m c (y 0) (y 1) := by
  refine (dats m 0 c).arrAt_eq_of_covers 6 _ (by decide +kernel) fun t hf y => ?_
  blk_simp; rw [after0_6]
  exact point_6 m c t y

/-- The third result: the product of the first with the other operand. -/
theorem final_8 : (dats m 0 c).arrAt 8 cfg0.N = fun y : S4096x2048.Idx => P m c (y 0) (y 1) := by
  refine (dats m 0 c).arrAt_eq_of_covers 8 _ (by decide +kernel) fun t hf y => ?_
  blk_simp; rw [after0_8]
  exact point_8 m c t y

/-- A grid point's part of the weight's gradient. -/
def part (t : Fin cfg0.N) (k : Fin 1024) : EReal :=
  ∑ r : Fin 512, E m c ⟨t.val * 512 + r.val, by have := lt_of_lt_of_eq t.isLt N_0; omega⟩ k

/-- A point's part, formed in two halves of 256 rows. -/
theorem part_halves (t : Fin cfg0.N) (k : Fin 1024) :
    (∑ r, E m c (rowAt t 0 (by omega) r) k) + (∑ r, E m c (rowAt t 256 (by omega) r) k) = part m c t k := by
  have hs : part m c t k = ∑ r : Fin (256 + 256), E m c ⟨t.val * 512 + r.val, by have := lt_of_lt_of_eq t.isLt N_0; omega⟩ k := rfl
  rw [hs, Fin.sum_univ_add]
  refine congrArg₂ (· + ·) (Finset.sum_congr rfl fun r _ => congrArg (E m c · k) (Fin.ext ?_)) (Finset.sum_congr rfl fun r _ => congrArg (E m c · k) (Fin.ext ?_))
  · show 512 * t.val + (0 + r.val) = t.val * 512 + r.val
    omega
  · show 512 * t.val + (256 + r.val) = t.val * 512 + (256 + r.val)
    omega

/-- The part that a point's two halves form from zero. -/
theorem both (t : Fin cfg0.N) (k : Fin 1024) {x g res x' g' res' : FVec Ideal S256x1024 .f32} (H : HalfIs m c (rowAt t 0 (by omega)) x g res)
    (H' : HalfIs m c (rowAt t 256 (by omega)) x' g' res') :
    (k0_pay12 (k0_pay12 k0_pay5 x g (k0_pay7 x)) x' g' (k0_pay7 x') : FVec Ideal _ _) (ix2 (0 : Fin 1) k) = part m c t k := by
  rw [H'.dw, H.dw, show (k0_pay5 : FVec Ideal _ _) (ix2 (0 : Fin 1) k) = 0 by pointwise [k0_pay5], zero_add]
  exact part_halves m c t k

theorem row0 (j : S1x1024.Idx) : j = ix2 (0 : Fin 1) (j 1 : Fin 1024) := by
  funext a
  fin_cases a
  · exact Subsingleton.elim (α := Fin 1) _ _
  · rfl

/-- The first point leaves its part. -/
theorem step_A (t : Fin cfg0.N) (h : t.val % 8 = 0) (j : S1x1024.Idx) : (outsAt0 m c t.val t.isLt).2.1 j = part m c t (j 1) := by
  have ht : t.val < 8 := lt_of_lt_of_eq t.isLt N_0
  rw [outsAt0_A m c t h (by omega)]; frame_out
  exact (congrArg _ (row0 j)).trans (both m c t (j 1) (half m c t 0 (by omega) _ _ _ _ _ _ _ _ _ inb_S512x1024_S256x1024_0_0) (half m c t 256 (by omega) _ _ _ _ _ _ _ _ _ inb_S512x1024_S256x1024_256_0))

/-- Every later point adds its part to what the point before it left. -/
theorem step_B (t : Fin cfg0.N) (h : ¬ t.val % 8 = 0) (j : S1x1024.Idx) :
    (outsAt0 m c t.val t.isLt).2.1 j = (outsAt0 m c (t.val - 1) (Nat.lt_of_le_of_lt (Nat.sub_le _ _) t.isLt)).2.1 j + part m c t (j 1) := by
  have ht : t.val < 8 := lt_of_lt_of_eq t.isLt N_0
  rw [outsAt0_B m c t h (by omega)]; frame_out
  exact (pay4_apply _ _ _ _ j).trans (congrArg₂ (· + ·) rfl
    ((congrArg _ (row0 j)).trans (both m c t (j 1) (half m c t 0 (by omega) _ _ _ _ _ _ _ _ _ inb_S512x1024_S256x1024_0_0) (half m c t 256 (by omega) _ _ _ _ _ _ _ _ _ inb_S512x1024_S256x1024_256_0))))

/-- The last grid point. -/
def tLast : Fin cfg0.N := ⟨7, by decide⟩

/-- The second result: the weight's gradient. -/
theorem final_7 : (dats m 0 c).arrAt 7 cfg0.N = fun j : S1x1024.Idx => ∑ i, E m c i (j 1) := by
  refine (dats m 0 c).arrAt_eq_of_after_last 7 tLast (by decide +kernel) _ fun j => ?_
  blk_simp
  rw [after0_7, Pipeline.eq_sum_fin_of_reset_step_apply_last (fun n h => (outsAt0 m c n h).2.1) 8 (fun _ => 0) (fun t j => part m c t (j 1))
    (fun t h j => (step_A m c t h j).trans (zero_add _).symm) (step_B m c)
    (le_of_eq N_0) tLast rfl j, zero_add]
  unfold part
  refine Fin.sum_mul_add_congr fun t r h => ?_
  rfl

end Cert.NormKernelIdeal.Value

end
-- ==== Proof.NormClaim.lean ====
/- The norm's gradient kernel against its reference: on finite arguments the three results are the same over the reals. -/
module

public import Idealize.ShloMosaic.Lib.Claim
public import Idealize.ShloMosaic.Lib.Pipeline.ValueKit
public import proofs.«01_k».proof.Proof.Gen.NormKernelIdeal.Value
public import proofs.«01_k».proof.Proof.Gen.NormReferenceIdeal.Run
public import proofs.«01_k».proof.Proof.NormValue
public import proofs.«01_k».proof.Proof.Finite
public import proofs.«01_k».proof.Defs

@[expose] public section

set_option maxRecDepth 16384

noncomputable section

open Idealize.ShloMosaic Idealize.ShloMosaic.TcCoe Idealize.SL.Sem
open scoped BigOperators

namespace Cert.NormReferenceIdeal.Value

open Cert.NormReferenceIdeal Cert.NormReferenceIdeal.Gen

/-! ## The reference's results, entry by entry -/

section
variable (a0 : FVec Ideal S4096x5632 .f32) (a1 : FVec Ideal S1x1024x5632 .f32) (a2 : FVec Ideal S4096x1024 .f32) (a3 : FVec Ideal S1x1024 .f32)
  (a4 : FVec Ideal S4096x1024 .f32) (a5 : FVec Ideal S1x2048x1024 .f32)

/-- The cotangent before the norm. -/
def ct : FVec Ideal S4096x1024 .f32 := Host.dotGeneral dot_S4096x5632_S1024x5632_S4096x1024_1_1_0_0_n_n none a0 (shapeCast _ a1 shapeCasts_S1x1024x5632_S1024x5632)

/-- The mean square of each row, with the small constant. -/
def msq : FVec Ideal S4096x1 .f32 := addf (Host.divf (broadcastInDim S4096x1 ![0] bcast_S4096_S4096x1_0 (Host.reduceAdd (mulf a2 a2) (constant S_ .f32 0x00000000#32) reducesTo_S4096x1024_S4096_d1 h_S_))
  (broadcastInDim S4096x1 ![] bcast_S_S4096x1 (constant S_ .f32 0x44800000#32))) (broadcastInDim S4096x1 ![] bcast_S_S4096x1 (constant S_ .f32 0x358637BD#32))

/-- The weight, spread over the rows. -/
def wide : FVec Ideal S4096x1024 .f32 := broadcastInDim S4096x1024 ![0, 1] bcast_S1x1024_S4096x1024_0_1 (broadcastInDim S1x1024 ![1] bcast_S1024_S1x1024_1 (shapeCast _ a3 shapeCasts_S1x1024_S1024))

/-- The mean square's cotangent, divided by the row's length. -/
def shared (v : FVec Ideal S4096x1 .f32) (gw : FVec Ideal S4096x1024 .f32) : FVec Ideal S4096x1024 .f32 :=
  broadcastInDim S4096x1024 ![0] bcast_S4096_S4096x1024_0 (Host.reduceAdd (Host.divf (mulf (shapeCast _ (Host.reduceAdd (mulf a2 gw) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt v) v)))
    (broadcastInDim S4096x1 ![] bcast_S_S4096x1 (constant S_ .f32 0x44800000#32))) (constant S_ .f32 0x00000000#32) reducesTo_S4096x1_S4096_d1 h_S_)

/-- The norm's gradient. -/
def dnorm (v : FVec Ideal S4096x1 .f32) (gw sh : FVec Ideal S4096x1024 .f32) : FVec Ideal S4096x1024 .f32 :=
  addf (addf (mulf gw (broadcastInDim S4096x1024 ![0, 1] bcast_S4096x1_S4096x1024_0_1 (Host.rsqrt v))) (mulf a2 sh)) (mulf sh a2)

/-- The first result. -/
def out0 : FVec Ideal S4096x1024 .f32 :=
  addf a4 (dnorm a2 (msq a2) (mulf (ct a0 a1) (wide a3)) (shared a2 (msq a2) (mulf (ct a0 a1) (wide a3))))

/-- The third result, from the first. -/
def prod (d : FVec Ideal S4096x1024 .f32) : FVec Ideal S4096x2048 .f32 :=
  Host.dotGeneral dot_S4096x1024_S1024x2048_S4096x2048_1_0_0_1_n_n none d (transpose S1024x2048 [1, 0] (shapeCast _ a5 shapeCasts_S1x2048x1024_S2048x1024) transposes_S2048x1024_S1024x2048_1_0)

/-- The second result, from the mean squares and the cotangent. -/
def dw (v : FVec Ideal S4096x1 .f32) (g : FVec Ideal S4096x1024 .f32) : FVec Ideal S1x1024 .f32 :=
  broadcastInDim S1x1024 ![1] bcast_S1024_S1x1024_1 (Host.reduceAdd (shapeCast _ (Host.reduceAdd (mulf (mulf a2 (broadcastInDim S4096x1024 ![0, 1] bcast_S4096x1_S4096x1024_0_1 (Host.rsqrt v))) g)
    (constant S_ .f32 0x00000000#32) reducesTo_S4096x1024_S1024_d0 h_S_) shapeCasts_S1024_S1x1024) (constant S_ .f32 0x00000000#32) reducesTo_S1x1024_S1024_d0 h_S_)

variable (i : Fin 4096) (k : Fin 1024)

theorem ct_apply : ct a0 a1 (ix2 i k) = ∑ j : Fin 5632, a0 (ix2 i j) * a1 (ix3 (0 : Fin 1) k j) := by
  pointwise [ct]

theorem msq_apply : msq a2 (ix2 i (0 : Fin 1)) = NormMath.ms fun k => a2 (ix2 i k) := by
  pointwise [msq]
  rfl

theorem wide_apply : wide a3 (ix2 i k) = a3 (ix2 (0 : Fin 1) k) := by
  pointwise [wide]

theorem shared_apply (v : FVec Ideal S4096x1 .f32) (gw : FVec Ideal S4096x1024 .f32) : shared a2 v gw (ix2 i k)
    = Ideal.div ((∑ j, a2 (ix2 i j) * gw (ix2 i j)) * (Ideal.ofBits .f32 0xBF000000#32 * Ideal.div (Ideal.rsqrt (v (ix2 i (0 : Fin 1)))) (v (ix2 i (0 : Fin 1))))) (Ideal.ofBits .f32 0x44800000#32) := by
  pointwise [shared]
  exact Fin.sum_univ_one _

theorem dnorm_apply (v : FVec Ideal S4096x1 .f32) (gw sh : FVec Ideal S4096x1024 .f32) : dnorm a2 v gw sh (ix2 i k)
    = gw (ix2 i k) * Ideal.rsqrt (v (ix2 i (0 : Fin 1))) + a2 (ix2 i k) * sh (ix2 i k) + sh (ix2 i k) * a2 (ix2 i k) := by
  pointwise [dnorm]

theorem prod_apply (d : FVec Ideal S4096x1024 .f32) (n : Fin 2048) : prod a5 d (ix2 i n) = ∑ k : Fin 1024, d (ix2 i k) * a5 (ix3 (0 : Fin 1) n k) := by
  pointwise [prod]

theorem dw_apply (v : FVec Ideal S4096x1 .f32) (g : FVec Ideal S4096x1024 .f32) :
    dw a2 v g (ix2 (0 : Fin 1) k) = ∑ i : Fin 4096, a2 (ix2 i k) * Ideal.rsqrt (v (ix2 i (0 : Fin 1))) * g (ix2 i k) := by
  pointwise [dw]
  exact Fin.sum_univ_one _

/-- The first result's entry. -/
theorem out0_apply : out0 a0 a1 a2 a3 a4 (ix2 i k) = a4 (ix2 i k)
    + NormMath.long (fun k => a2 (ix2 i k)) (fun k => ct a0 a1 (ix2 i k)) (fun k => a3 (ix2 (0 : Fin 1) k)) k := by
  unfold out0
  generalize hgw : (mulf (ct a0 a1) (wide a3) : FVec Ideal _ _) = gw
  have e : ∀ i k, gw (ix2 i k) = ct a0 a1 (ix2 i k) * a3 (ix2 (0 : Fin 1) k) := fun i k => by
    rw [← hgw, ← wide_apply a3 i k]
    rfl
  show a4 (ix2 i k) + dnorm a2 (msq a2) gw (shared a2 (msq a2) gw) (ix2 i k) = _
  rw [dnorm_apply, shared_apply, msq_apply, e, Finset.sum_congr rfl fun j _ => congrArg (a2 (ix2 i j) * ·) (e i j)]
  rfl

end

section
variable (m : (ℓ : Loc nD τ sig) → Buf (Elt Ideal) ℓ) (c : Dev nD) {a0 : FVec Ideal S4096x5632 .f32} {a1 : FVec Ideal S1x1024x5632 .f32} {a2 : FVec Ideal S4096x1024 .f32} {a3 : FVec Ideal S1x1024 .f32}
  {a4 : FVec Ideal S4096x1024 .f32} {a5 : FVec Ideal S1x2048x1024 .f32}

theorem result_0 (e0 : m ((c.tc : Thread nD τ).loc main_arg0) = a0) (e1 : m ((c.tc : Thread nD τ).loc main_arg1) = a1) (e2 : m ((c.tc : Thread nD τ).loc main_arg2) = a2)
    (e3 : m ((c.tc : Thread nD τ).loc main_arg3) = a3) (e4 : m ((c.tc : Thread nD τ).loc main_arg4) = a4) : res_main_v41 m c = out0 a0 a1 a2 a3 a4 := by
  subst e0 e1 e2 e3 e4
  rfl

theorem result_2 (e5 : m ((c.tc : Thread nD τ).loc main_arg5) = a5) : res_main_v44 m c = prod a5 (res_main_v41 m c) := by
  subst e5
  rfl

end

end Cert.NormReferenceIdeal.Value

namespace Cert.NormKernelIdeal.Value

open Cert.NormKernelIdeal Cert.NormKernelIdeal.Gen Cert.NormReferenceIdeal.Value

/-! ## The claim -/

section
variable (m : (ℓ : Loc nD τ sig) → Buf (Elt Ideal) ℓ) (c : Dev nD)

/-- The arguments' entries that the norm's gradient reads are real. -/
structure Real : Prop where
  a0 : ∀ i, (arg0 m c i : EReal) = ((arg0 m c i : EReal).toReal : EReal)
  a1 : ∀ i, (arg1 m c i : EReal) = ((arg1 m c i : EReal).toReal : EReal)
  a2 : ∀ i, (arg2 m c i : EReal) = ((arg2 m c i : EReal).toReal : EReal)
  a3 : ∀ i, (arg3 m c i : EReal) = ((arg3 m c i : EReal).toReal : EReal)

theorem real_of_pre [Cert.Pre_finite_norm2.Facts] (hpre : Cert.Pre_NormKernelIdeal_finite_norm2 m) : Real m c := by
  obtain ⟨p0, p1, p2, p3⟩ := hpre c
  exact ⟨Finite.real_of_ones _ (arg0 m c) p0, Finite.real_of_ones _ (arg1 m c) p1, Finite.real_of_ones _ (arg2 m c) p2, Finite.real_of_ones _ (arg3 m c) p3⟩

/-- The cotangent before the norm is the reference's. -/
theorem G_ct (i : Fin 4096) (k : Fin 1024) : G m c i k = ct (arg0 m c) (arg1 m c) (ix2 i k) := (ct_apply _ _ i k).symm

/-- A row's part of the weight's gradient is the reference's. -/
theorem E_dw (i : Fin 4096) (k : Fin 1024) :
    E m c i k = arg2 m c (ix2 i k) * Ideal.rsqrt (msq (arg2 m c) (ix2 i (0 : Fin 1))) * ct (arg0 m c) (arg1 m c) (ix2 i k) := by
  unfold E
  rw [msq_apply, G_ct, mul_comm]
  rfl

variable {m c} (H : Real m c)
include H

/-- The first result's entry is the reference's. -/
theorem D_out0 (i : Fin 4096) (k : Fin 1024) : D m c i k = out0 (arg0 m c) (arg1 m c) (arg2 m c) (arg3 m c) (arg4 m c) (ix2 i k) := by
  rw [out0_apply]
  unfold D
  rw [NormMath.short_eq (X m c i) (G m c i) (fun k => arg3 m c (ix2 (0 : Fin 1) k)) (fun k => H.a2 _) (fun k => NormMath.dot_real _ _ (fun j => H.a0 _) (fun j => H.a1 _)) (fun k => H.a3 _), funext (G_ct m c i)]
  rfl

theorem first : (dats m 0 c).arrAt 6 cfg0.N = out0 (arg0 m c) (arg1 m c) (arg2 m c) (arg3 m c) (arg4 m c) := by
  rw [final_6]
  funext y
  have hy : y = ix2 (y 0 : Fin 4096) (y 1 : Fin 1024) := by
    funext a
    fin_cases a <;> rfl
  exact (D_out0 H _ _).trans (congrArg (out0 (arg0 m c) (arg1 m c) (arg2 m c) (arg3 m c) (arg4 m c)) hy.symm)

theorem third : (dats m 0 c).arrAt 8 cfg0.N = prod (arg5 m c) (out0 (arg0 m c) (arg1 m c) (arg2 m c) (arg3 m c) (arg4 m c)) := by
  rw [final_8]
  funext y
  have hy : y = ix2 (y 0 : Fin 4096) (y 1 : Fin 2048) := by
    funext a
    fin_cases a <;> rfl
  refine Eq.trans ?_ ((prod_apply (arg5 m c) (y 0) (out0 (arg0 m c) (arg1 m c) (arg2 m c) (arg3 m c) (arg4 m c)) (y 1)).symm.trans (congrArg (prod (arg5 m c) (out0 (arg0 m c) (arg1 m c) (arg2 m c) (arg3 m c) (arg4 m c))) hy.symm))
  exact Finset.sum_congr rfl fun k _ => congrArg (· * arg5 m c (ix3 (0 : Fin 1) (y 1) k)) (D_out0 H _ k)

omit H in
theorem second : (dats m 0 c).arrAt 7 cfg0.N = dw (arg2 m c) (msq (arg2 m c)) (ct (arg0 m c) (arg1 m c)) := by
  rw [final_7]
  funext j
  have hj : j = ix2 (0 : Fin 1) (j 1 : Fin 1024) := by
    funext a
    fin_cases a
    · exact Fin.ext (by have : (j 0).val < 1 := (j 0).isLt; show (j 0).val = 0; omega)
    · rfl
  refine Eq.trans ?_ ((dw_apply (arg2 m c) (j 1) (msq (arg2 m c)) (ct (arg0 m c) (arg1 m c))).symm.trans (congrArg (dw (arg2 m c) (msq (arg2 m c)) (ct (arg0 m c) (arg1 m c))) hj.symm))
  exact Finset.sum_congr rfl fun i _ => E_dw m c i (j 1)

end

/-- The reference leaves its arguments as they were. -/
theorem reference_frame : Cert.quiescent_NormReferenceIdeal := fun m ρ _ =>
  (θ_run Cert.NormReferenceIdeal.defs _ _).mono (fun r h => ⟨fun c => (h c).2.2.2, sem_eq_zero_of_no_sems (by decide) r.2⟩)
    (Cert.NormReferenceIdeal.Value.run (F := Ideal) m ρ)

/-- The kernel and its reference, run on the same finite arguments, leave the same three results over the real numbers. -/
theorem algebraic [Cert.Pre_finite_norm2.Facts] : Cert.algebraic_NormKernelIdeal_NormReferenceIdeal_pre_finite_norm2 := by
  intro m g m' g' hpre hagree
  refine ⟨_, _, _, run_blocks m g, (θ_run Cert.NormReferenceIdeal.defs _ _).mono (fun r h c => ?_) (Cert.NormReferenceIdeal.Value.run (F := Ideal) m' g')⟩
  obtain ⟨r0, r1, r2, h⟩ := h c
  obtain ⟨e0, e1, e2, e3, e4, e5⟩ := hagree c
  have H := real_of_pre m c hpre
  have d := result_0 m' c e0 e1 e2 e3 e4
  refine ⟨r0.trans (d.trans (first H).symm), r1.trans (Eq.trans ?_ (second (m := m) (c := c)).symm),
    r2.trans ((result_2 m' c e5).trans ((congrArg (prod _) d).trans (third H).symm)), h⟩
  rw [e0, e1, e2]
  rfl

end Cert.NormKernelIdeal.Value

end
-- ==== Proof.NormInValue.lean ====
/- What the first norm's gradient kernel leaves in its two results at the real numbers. -/
module

public import proofs.«01_k».proof.Proof.Gen.NormInKernelIdeal.Frame
public import proofs.«01_k».proof.Proof.NormReal
public import Idealize.ShloMosaic.Lib.Pipeline.Value
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.NormInKernelIdeal.Value

open Cert.NormInKernelIdeal Cert.NormInKernelIdeal.Gen

/-! ## The body's payloads, entry by entry -/

section
variable (x res : FVec Ideal S256x1024 .f32) (w : FVec Ideal S1x1024 .f32) (a : FVec Ideal S256x5760 .bf16) (b : FVec Ideal S1024x5760 .bf16) (v0 old : FVec Ideal S1x1024 .f32)
  (r : Fin 256) (k : Fin 1024)

/-- The cotangent before the norm: a row of the columns with a row of the weight. -/
theorem pay2_apply : (k0_pay2 (F := Ideal) a b : FVec Ideal _ _) (ix2 r k) = ∑ j : Fin 5760, a (ix2 r j) * b (ix2 k j) := by
  pointwise [k0_pay2]

/-- The first result's entry: the residual and the norm's gradient. -/
theorem pay5_apply : (k0_pay5 a b x w res : FVec Ideal _ _) (ix2 r k) = res (ix2 r k)
    + NormMath.short (fun k => x (ix2 r k)) (fun k => (k0_pay2 (F := Ideal) a b : FVec Ideal _ _) (ix2 r k)) (fun k => w (ix2 (0 : Fin 1) k)) k := by
  unfold k0_pay5
  generalize k0_pay2 (F := Ideal) a b = g
  pointwise [k0_pay4, k0_pay3]
  rfl

/-- The first half's part of the weight's gradient. -/
theorem pay6_apply : (k0_pay6 a b x : FVec Ideal _ _) (ix2 (0 : Fin 1) k)
    = ∑ r : Fin 256, (k0_pay2 (F := Ideal) a b : FVec Ideal _ _) (ix2 r k) * (x (ix2 r k) * NormMath.rstd fun k => x (ix2 r k)) := by
  unfold k0_pay6
  generalize k0_pay2 (F := Ideal) a b = g
  pointwise [k0_pay4, k0_pay3]
  rfl

/-- The second half's entry of the first result is formed as the first half's. -/
theorem pay10_eq : (k0_pay10 a b x w res : FVec Ideal _ _) = k0_pay5 a b x w res := rfl

/-- The second half's part, added to the first's. -/
theorem pay11_apply : (k0_pay11 v0 a b x : FVec Ideal _ _) (ix2 (0 : Fin 1) k) = v0 (ix2 (0 : Fin 1) k)
    + ∑ r : Fin 256, (k0_pay2 (F := Ideal) a b : FVec Ideal _ _) (ix2 r k) * (x (ix2 r k) * NormMath.rstd fun k => x (ix2 r k)) := by
  unfold k0_pay11
  rw [show (k0_pay7 (F := Ideal) a b : FVec Ideal _ _) = k0_pay2 (F := Ideal) a b from rfl]
  generalize k0_pay2 (F := Ideal) a b = g
  pointwise [k0_pay9, k0_pay8]
  rfl

/-- A later grid point adds its part to what it found. -/
theorem pay1_apply (j : S1x1024.Idx) : (k0_pay1 v0 old : FVec Ideal _ _) j = old j + v0 j := by
  pointwise [k0_pay1]

end

variable (m : (ℓ : Loc nD τ sig) → Buf (Elt Ideal) ℓ) (c : Dev nD)

/-- The block each window reads or writes at a grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The arguments on a device. -/
abbrev arg0 : FVec Ideal S4096x5664 .f32 := m ((c.tc : Thread nD τ).loc main_arg0)
@[inherit_doc arg0] abbrev arg1 : FVec Ideal S1x1024x5664 .f32 := m ((c.tc : Thread nD τ).loc main_arg1)
@[inherit_doc arg0] abbrev arg2 : FVec Ideal S4096x1024 .f32 := m ((c.tc : Thread nD τ).loc main_arg2)
@[inherit_doc arg0] abbrev arg3 : FVec Ideal S1x1024 .f32 := m ((c.tc : Thread nD τ).loc main_arg3)
@[inherit_doc arg0] abbrev arg4 : FVec Ideal S4096x1024 .f32 := m ((c.tc : Thread nD τ).loc main_arg4)

/-! ## The order of the columns -/

/-- The kernel reads the columns in another order: which of the 5664 columns stands at column `j`. -/
def order : Fin 5664 ≃ Fin 5664 where
  toFun j := ⟨if j.val < 2048 then j.val else if j.val < 5120 then j.val + 528 else if j.val < 5648 then j.val - 3072 else j.val, by split_ifs <;> omega⟩
  invFun j := ⟨if j.val < 2048 then j.val else if j.val < 2576 then j.val + 3072 else if j.val < 5648 then j.val - 528 else j.val, by split_ifs <;> omega⟩
  left_inv j := Fin.ext (by simp only; split_ifs <;> omega)
  right_inv j := Fin.ext (by simp only; split_ifs <;> omega)

/-- A row in the kernel's order, with zeros after it. -/
def padded (f : Fin 5664 → EReal) (j : Fin 5760) : EReal := if h : j.val < 5664 then f (order ⟨j.val, h⟩) else 0

/-- The product of two rows does not depend on the order. -/
theorem padded_dot (f g : Fin 5664 → EReal) : ∑ j, padded f j * padded g j = ∑ j, f j * g j := by
  rw [← Equiv.sum_comp order]
  refine (Fin.sum_univ_add (a := 5664) (b := 96) fun j : Fin 5760 => padded f j * padded g j).trans ?_
  rw [Finset.sum_eq_zero fun (j : Fin 96) _ => ?_, add_zero]
  · refine Finset.sum_congr rfl fun j _ => ?_
    unfold padded
    rw [dif_pos (show (Fin.castAdd 96 j).val < 5664 from j.isLt), dif_pos (show (Fin.castAdd 96 j).val < 5664 from j.isLt)]
    rfl
  · unfold padded
    rw [dif_neg (by simp), dif_neg (by simp), zero_mul]

/-- The same, piece by piece. -/
theorem padded_pieces (f : Fin 5664 → EReal) (j : Fin 5760) :
    (if h : j.val < 2048 then f ⟨j.val, by omega⟩
    else if h : j.val - 2048 < 3072 then f ⟨2576 + (j.val - 2048), by omega⟩
    else if h : j.val - 2048 - 3072 < 512 then f ⟨2048 + (j.val - 2048 - 3072), by omega⟩
    else if h : j.val - 2048 - 3072 - 512 < 16 then f ⟨2560 + (j.val - 2048 - 3072 - 512), by omega⟩
    else if h : j.val - 2048 - 3072 - 512 - 16 < 16 then f ⟨5648 + (j.val - 2048 - 3072 - 512 - 16), by omega⟩ else 0) = padded f j := by
  unfold padded
  by_cases hj : j.val < 5664
  · rw [dif_pos hj]
    have e : (order ⟨j.val, hj⟩).val = if j.val < 2048 then j.val else if j.val < 5120 then j.val + 528 else if j.val < 5648 then j.val - 3072 else j.val := rfl
    split_ifs <;> first | omega | exact congrArg f (Fin.ext (by rw [e]; split_ifs <;> dsimp only <;> omega))
  · rw [dif_neg hj]
    split_ifs <;> first | omega | rfl

/-- The host's rearranged columns of the cotangent. -/
def colsA (a : FVec Ideal S4096x5664 .f32) : FVec Ideal S4096x5760 .bf16 :=
  truncf .bf16 (concatenate S4096x5760 1 [⟨S4096x2048, extractStridedSlice S4096x2048 ![0, 0] a slices_S4096x5664_S4096x2048_0_0⟩,
    ⟨S4096x3072, extractStridedSlice S4096x3072 ![0, 2576] a slices_S4096x5664_S4096x3072_0_2576⟩,
    ⟨S4096x512, extractStridedSlice S4096x512 ![0, 2048] a slices_S4096x5664_S4096x512_0_2048⟩,
    ⟨S4096x16, extractStridedSlice S4096x16 ![0, 2560] a slices_S4096x5664_S4096x16_0_2560⟩,
    ⟨S4096x16, extractStridedSlice S4096x16 ![0, 5648] a slices_S4096x5664_S4096x16_0_5648⟩,
    ⟨S4096x96, broadcastInDim S4096x96 ![] bcast_S_S4096x96 (constant (F := Ideal) S_ .f32 0x00000000#32)⟩]
    concatenates_S4096x2048_S4096x3072_S4096x512_S4096x16_S4096x16_S4096x96_S4096x5760_d1) bitsLt_bf16_f32

/-- The host's rearranged columns of the weight. -/
def colsB (b : FVec Ideal S1024x5664 .bf16) : FVec Ideal S1024x5760 .bf16 :=
  concatenate S1024x5760 1 [⟨S1024x2048, extractStridedSlice S1024x2048 ![0, 0] b slices_S1024x5664_S1024x2048_0_0⟩,
    ⟨S1024x3072, extractStridedSlice S1024x3072 ![0, 2576] b slices_S1024x5664_S1024x3072_0_2576⟩,
    ⟨S1024x512, extractStridedSlice S1024x512 ![0, 2048] b slices_S1024x5664_S1024x512_0_2048⟩,
    ⟨S1024x16, extractStridedSlice S1024x16 ![0, 2560] b slices_S1024x5664_S1024x16_0_2560⟩,
    ⟨S1024x16, extractStridedSlice S1024x16 ![0, 5648] b slices_S1024x5664_S1024x16_0_5648⟩,
    ⟨S1024x96, broadcastInDim S1024x96 ![] bcast_S_S1024x96 (constant (F := Ideal) S_ .bf16 0x0000#16)⟩]
    concatenates_S1024x2048_S1024x3072_S1024x512_S1024x16_S1024x16_S1024x96_S1024x5760_d1

theorem colsA_apply (a : FVec Ideal S4096x5664 .f32) (i : Fin 4096) (j : Fin 5760) : colsA a (ix2 i j) = padded (fun j => a (ix2 i j)) j := by
  refine Eq.trans ?_ (padded_pieces (fun j => a (ix2 i j)) j)
  pointwise [colsA]

theorem colsB_apply (b : FVec Ideal S1024x5664 .bf16) (k : Fin 1024) (j : Fin 5760) : colsB b (ix2 k j) = padded (fun j => b (ix2 k j)) j := by
  refine Eq.trans ?_ (padded_pieces (fun j => b (ix2 k j)) j)
  pointwise [colsB]

theorem V_16 : V m c main_v16 = colsA (arg0 m c) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_8 : V m c main_v8 = colsB (truncf .bf16 (shapeCast _ (arg1 m c) shapeCasts_S1x1024x5664_S1024x5664) bitsLt_bf16_f32) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

/-! ## The blocks of a grid point, entry by entry -/

theorem blk_0 (t : Fin cfg0.N) (r : Fin 512) (j : Fin 5760) :
    (iblk m c 0 t : FVec Ideal S512x5760 .bf16) (ix2 r j) = padded (fun j => arg0 m c (ix2 ⟨512 * t.val + r.val, by have := lt_of_lt_of_eq t.isLt N_0; omega⟩ j)) j := by
  obtain ⟨i0, -, -, -, -, -, -⟩ := idx t
  refine Eq.trans ?_ (colsA_apply (arg0 m c) ⟨512 * t.val + r.val, by have := lt_of_lt_of_eq t.isLt N_0; omega⟩ j)
  rw [← V_16]
  unfold iblk
  generalize V m c main_v16 = v
  blk_simp [i0]
  blk_ext [i0]

theorem blk_1 (t : Fin cfg0.N) (k : Fin 1024) (j : Fin 5760) :
    (iblk m c 1 t : FVec Ideal S1024x5760 .bf16) (ix2 k j) = padded (fun j => arg1 m c (ix3 (0 : Fin 1) k j)) j := by
  obtain ⟨-, i1, -, -, -, -, -⟩ := idx t
  refine Eq.trans ?_ ((colsB_apply (truncf .bf16 (shapeCast _ (arg1 m c) shapeCasts_S1x1024x5664_S1024x5664) bitsLt_bf16_f32) k j).trans (congrArg (padded · j) (funext fun j => by pointwise)))
  rw [← V_8]
  unfold iblk
  generalize V m c main_v8 = v
  blk_simp [i1]
  blk_ext [i1]

theorem blk_2 (t : Fin cfg0.N) (r : Fin 512) (k : Fin 1024) :
    (iblk m c 2 t : FVec Ideal S512x1024 .f32) (ix2 r k) = arg2 m c (ix2 ⟨512 * t.val + r.val, by have := lt_of_lt_of_eq t.isLt N_0; omega⟩ k) := by
  obtain ⟨-, -, i2, -, -, -, -⟩ := idx t
  blk_simp [iblk, V, i2]
  blk_ext [i2]

theorem blk_3 (t : Fin cfg0.N) (k : Fin 1024) : (iblk m c 3 t : FVec Ideal S1x1024 .f32) (ix2 (0 : Fin 1) k) = arg3 m c (ix2 (0 : Fin 1) k) := by
  obtain ⟨-, -, -, i3, -, -, -⟩ := idx t
  blk_simp [iblk, V, i3]
  blk_ext [i3]

theorem blk_4 (t : Fin cfg0.N) (r : Fin 512) (k : Fin 1024) :
    (iblk m c 4 t : FVec Ideal S512x1024 .f32) (ix2 r k) = arg4 m c (ix2 ⟨512 * t.val + r.val, by have := lt_of_lt_of_eq t.isLt N_0; omega⟩ k) := by
  obtain ⟨-, -, -, -, i4, -, -⟩ := idx t
  blk_simp [iblk, V, i4]
  blk_ext [i4]

/-! ## The two halves of a grid point's rows -/

/-- A half's rows of a block of rows. -/
theorem ld_rows (x : S512x1024.Idx → Elt Ideal .f32) (o : ℕ) (hb) (r : Fin 256) (k : Fin 1024) (ho : o + r.val < 512) :
    View.ld (Val := Elt Ideal) x (Rect.unit (s := S512x1024) ![o, 0] ![256, 1024] hb) (ix2 r k) = x (ix2 ⟨o + r.val, ho⟩ k) :=
  View.ld_unit_apply_of _ _ _ _ _ _ fun a => by fin_cases a <;> simp [ix2]

/-- A half's rows of the cotangent's columns. -/
theorem ld_cols (x : S512x5760.Idx → Elt Ideal .bf16) (o : ℕ) (hb) (r : Fin 256) (j : Fin 5760) (ho : o + r.val < 512) :
    View.ld (Val := Elt Ideal) x (Rect.unit (s := S512x5760) ![o, 0] ![256, 5760] hb) (ix2 r j) = x (ix2 ⟨o + r.val, ho⟩ j) :=
  View.ld_unit_apply_of _ _ _ _ _ _ fun a => by fin_cases a <;> simp [ix2]

/-- The cotangent before the norm. -/
def G (i : Fin 4096) (k : Fin 1024) : EReal := ∑ j : Fin 5664, arg0 m c (ix2 i j) * arg1 m c (ix3 (0 : Fin 1) k j)

/-- A row of the norm's argument. -/
def X (i : Fin 4096) (k : Fin 1024) : EReal := arg2 m c (ix2 i k)

/-- An entry of the first result. -/
def D (i : Fin 4096) (k : Fin 1024) : EReal := arg4 m c (ix2 i k) + NormMath.short (X m c i) (G m c i) (fun k => arg3 m c (ix2 (0 : Fin 1) k)) k

/-- A row's part of the weight's gradient. -/
def E (i : Fin 4096) (k : Fin 1024) : EReal := G m c i k * (X m c i k * NormMath.rstd (X m c i))

/-- A half of a grid point's rows: the columns of the cotangent, the norm's argument and the residual, at rows `i`. -/
structure HalfIs (i : Fin 256 → Fin 4096) (a : FVec Ideal S256x5760 .bf16) (x res : FVec Ideal S256x1024 .f32) : Prop where
  a : ∀ r j, a (ix2 r j) = padded (fun j => arg0 m c (ix2 (i r) j)) j
  x : ∀ r k, x (ix2 r k) = X m c (i r) k
  res : ∀ r k, res (ix2 r k) = arg4 m c (ix2 (i r) k)

section
variable {m c}
variable {i : Fin 256 → Fin 4096} {a : FVec Ideal S256x5760 .bf16} {x res : FVec Ideal S256x1024 .f32} (H : HalfIs m c i a x res) (w : FVec Ideal S1x1024 .f32) (hw : ∀ k, w (ix2 (0 : Fin 1) k) = arg3 m c (ix2 (0 : Fin 1) k))
  (b : FVec Ideal S1024x5760 .bf16) (hb : ∀ k j, b (ix2 k j) = padded (fun j => arg1 m c (ix3 (0 : Fin 1) k j)) j) (v0 : FVec Ideal S1x1024 .f32) (r : Fin 256) (k : Fin 1024)
include H

theorem HalfIs.rowX : (fun k => x (ix2 r k)) = X m c (i r) := funext fun k => H.x r k

include hb in
theorem HalfIs.g : (k0_pay2 a b : FVec Ideal _ _) (ix2 r k) = G m c (i r) k :=
  (pay2_apply a b r k).trans ((Finset.sum_congr rfl fun j _ => congrArg₂ (· * ·) (H.a r j) (hb k j)).trans (padded_dot _ _))

include hw hb in
theorem HalfIs.dx : (k0_pay5 a b x w res : FVec Ideal _ _) (ix2 r k) = D m c (i r) k := by
  rw [pay5_apply, H.rowX, H.res, funext fun k => H.g b hb r k, funext hw]
  rfl

include hb in
theorem HalfIs.row : ∑ r : Fin 256, (k0_pay2 a b : FVec Ideal _ _) (ix2 r k) * (x (ix2 r k) * NormMath.rstd fun k => x (ix2 r k)) = ∑ r, E m c (i r) k :=
  Finset.sum_congr rfl fun r _ => congrArg₂ (· * ·) (H.g b hb r k) (congrArg₂ (· * ·) (H.x r k) (congrArg NormMath.rstd (H.rowX r)))

end

/-- Row `r` of the half that starts at row `o` of grid point `t`. -/
def rowAt (t : Fin cfg0.N) (o : ℕ) (ho : o + 256 ≤ 512) (r : Fin 256) : Fin 4096 := ⟨512 * t.val + (o + r.val), by have := lt_of_lt_of_eq t.isLt N_0; omega⟩

/-- A half's loads hold the arguments' rows. -/
theorem half (t : Fin cfg0.N) (o : ℕ) (ho : o + 256 ≤ 512) (h1 h2 h3) :
    HalfIs m c (rowAt t o ho) (View.ld (iblk m c 0 t) (Rect.unit (s := S512x5760) ![o, 0] ![256, 5760] h1))
      (View.ld (iblk m c 2 t) (Rect.unit (s := S512x1024) ![o, 0] ![256, 1024] h2)) (View.ld (iblk m c 4 t) (Rect.unit (s := S512x1024) ![o, 0] ![256, 1024] h3)) :=
  ⟨fun r j => (ld_cols _ o _ r j (by omega)).trans (blk_0 m c t _ j), fun r k => (ld_rows _ o _ r k (by omega)).trans (blk_2 m c t _ k),
    fun r k => (ld_rows _ o _ r k (by omega)).trans (blk_4 m c t _ k)⟩

/-! ## The two results -/

theorem emb_5 (t : Fin cfg0.N) (y : ((cfg0.win 5).xblock (cfg0.grid.coords t)).Idx) :
    ((((cfg0.win 5).blk t).view.emb y 0 : Fin _) : ℕ) = t.val * 512 + (y 0 : ℕ) ∧ ((((cfg0.win 5).blk t).view.emb y 1 : Fin _) : ℕ) = (y 1 : ℕ) := by
  obtain ⟨-, -, -, -, -, i5, -⟩ := idx t
  constructor <;> blk_simp [i5] <;> try omega

/-- A value at a half's row is the value at the array's row. -/
theorem at_row {n : ℕ} (f : Fin 4096 → Fin n → EReal) (g : (⟨2, ![256, n]⟩ : Shape).Idx → EReal) (t : Fin cfg0.N) (o : ℕ) (ho : o + 256 ≤ 512)
    (h : ∀ (r : Fin 256) (k : Fin n), g (ix2 r k) = f (rowAt t o ho r) k) (x : (⟨2, ![256, n]⟩ : Shape).Idx) (z : (⟨2, ![4096, n]⟩ : Shape).Idx)
    (z0 : (z 0).val = t.val * 512 + (o + (x 0).val)) (z1 : (z 1).val = (x 1).val) : g x = f (z 0) (z 1) := by
  have hx : x = ix2 (x 0 : Fin 256) (x 1 : Fin n) := by
    funext a
    fin_cases a <;> rfl
  refine (congrArg g hx).trans ((h _ _).trans ?_)
  exact congrArg₂ f (Fin.ext ((Nat.add_right_cancel_iff.2 (Nat.mul_comm 512 t.val)).trans z0.symm)) (Fin.ext z1.symm)

theorem point_5 (t : Fin cfg0.N) (y : S512x1024.Idx) :
    (outsAt0 m c t.val t.isLt).1 y = D m c (((cfg0.win 5).blk t).view.emb y 0) (((cfg0.win 5).blk t).view.emb y 1) := by
  have ht : t.val < 8 := lt_of_lt_of_eq t.isLt N_0
  obtain ⟨e0, e1⟩ := emb_5 t y
  by_cases h : t.val % 8 = 0
  on_goal 1 => rw [outsAt0_A m c t h (by omega)]
  on_goal 2 => rw [outsAt0_B m c t h (by omega)]
  all_goals
    frame_out
    canon_tiles x h
    · exact at_row (D m c) _ t 256 (by omega) (fun r k => (half m c t 256 (by omega) _ _ _).dx _ (blk_3 m c t) _ (blk_1 m c t) r k) x _ (e0.trans (by rw [h0])) (e1.trans h1)
    · exact at_row (D m c) _ t 0 (by omega) (fun r k => (half m c t 0 (by omega) _ _ _).dx _ (blk_3 m c t) _ (blk_1 m c t) r k) x _ (e0.trans (by rw [h0, Nat.zero_add])) (e1.trans h1)

/-- The first result: the residual and the norm's gradient. -/
theorem final_5 : (dats m 0 c).arrAt 5 cfg0.N = fun y : S4096x1024.Idx => D m c (y 0) (y 1) := by
  refine (dats m 0 c).arrAt_eq_of_covers 5 _ (by decide +kernel) fun t hf y => ?_
  blk_simp; rw [after0_5]
  exact point_5 m c t y

/-- A grid point's part of the weight's gradient. -/
def part (t : Fin cfg0.N) (k : Fin 1024) : EReal :=
  ∑ r : Fin 512, E m c ⟨t.val * 512 + r.val, by have := lt_of_lt_of_eq t.isLt N_0; omega⟩ k

/-- A point's part, formed in two halves of 256 rows. -/
theorem part_halves (t : Fin cfg0.N) (k : Fin 1024) :
    (∑ r, E m c (rowAt t 0 (by omega) r) k) + (∑ r, E m c (rowAt t 256 (by omega) r) k) = part m c t k := by
  have hs : part m c t k = ∑ r : Fin (256 + 256), E m c ⟨t.val * 512 + r.val, by have := lt_of_lt_of_eq t.isLt N_0; omega⟩ k := rfl
  rw [hs, Fin.sum_univ_add]
  refine congrArg₂ (· + ·) (Finset.sum_congr rfl fun r _ => congrArg (E m c · k) (Fin.ext ?_)) (Finset.sum_congr rfl fun r _ => congrArg (E m c · k) (Fin.ext ?_))
  · show 512 * t.val + (0 + r.val) = t.val * 512 + r.val
    omega
  · show 512 * t.val + (256 + r.val) = t.val * 512 + (256 + r.val)
    omega

theorem row0 (j : S1x1024.Idx) : j = ix2 (0 : Fin 1) (j 1 : Fin 1024) := by
  funext a
  fin_cases a
  · exact Subsingleton.elim (α := Fin 1) _ _
  · rfl

/-- The part that a point's two halves form. -/
theorem both (t : Fin cfg0.N) (k : Fin 1024) {a a' : FVec Ideal S256x5760 .bf16} {x res x' res' : FVec Ideal S256x1024 .f32} (H : HalfIs m c (rowAt t 0 (by omega)) a x res)
    (H' : HalfIs m c (rowAt t 256 (by omega)) a' x' res') :
    (k0_pay11 (k0_pay6 a (iblk m c 1 t) x) a' (iblk m c 1 t) x' : FVec Ideal _ _) (ix2 (0 : Fin 1) k) = part m c t k := by
  rw [pay11_apply, pay6_apply, H.row _ (blk_1 m c t), H'.row _ (blk_1 m c t)]
  exact part_halves m c t k

/-- The first point leaves its part. -/
theorem step_A (t : Fin cfg0.N) (h : t.val % 8 = 0) (j : S1x1024.Idx) : (outsAt0 m c t.val t.isLt).2 j = part m c t (j 1) := by
  have ht : t.val < 8 := lt_of_lt_of_eq t.isLt N_0
  rw [outsAt0_A m c t h (by omega)]; frame_out
  exact (congrArg _ (row0 j)).trans (both m c t (j 1) (half m c t 0 (by omega) _ _ inb_S512x1024_S256x1024_0_0) (half m c t 256 (by omega) _ _ inb_S512x1024_S256x1024_256_0))

/-- Every later point adds its part to what the point before it left. -/
theorem step_B (t : Fin cfg0.N) (h : ¬ t.val % 8 = 0) (j : S1x1024.Idx) :
    (outsAt0 m c t.val t.isLt).2 j = (outsAt0 m c (t.val - 1) (Nat.lt_of_le_of_lt (Nat.sub_le _ _) t.isLt)).2 j + part m c t (j 1) := by
  have ht : t.val < 8 := lt_of_lt_of_eq t.isLt N_0
  rw [outsAt0_B m c t h (by omega)]; frame_out
  exact (pay1_apply _ _ j).trans (congrArg₂ (· + ·) rfl
    ((congrArg _ (row0 j)).trans (both m c t (j 1) (half m c t 0 (by omega) _ _ inb_S512x1024_S256x1024_0_0) (half m c t 256 (by omega) _ _ inb_S512x1024_S256x1024_256_0))))

/-- The last grid point. -/
def tLast : Fin cfg0.N := ⟨7, by decide⟩

/-- The second result: the weight's gradient. -/
theorem final_6 : (dats m 0 c).arrAt 6 cfg0.N = fun j : S1x1024.Idx => ∑ i, E m c i (j 1) := by
  refine (dats m 0 c).arrAt_eq_of_after_last 6 tLast (by decide +kernel) _ fun j => ?_
  blk_simp
  rw [after0_6, Pipeline.eq_sum_fin_of_reset_step_apply_last (fun n h => (outsAt0 m c n h).2) 8 (fun _ => 0) (fun t j => part m c t (j 1))
    (fun t h j => (step_A m c t h j).trans (zero_add _).symm) (step_B m c)
    (le_of_eq N_0) tLast rfl j, zero_add]
  unfold part
  refine Fin.sum_mul_add_congr fun t r h => ?_
  rfl

end Cert.NormInKernelIdeal.Value

end
-- ==== Proof.NormInClaim.lean ====
/- The first norm's gradient kernel against its reference: on finite arguments the two results are the same over the reals. -/
module

public import Idealize.ShloMosaic.Lib.Claim
public import Idealize.ShloMosaic.Lib.Pipeline.ValueKit
public import proofs.«01_k».proof.Proof.Gen.NormInKernelIdeal.Value
public import proofs.«01_k».proof.Proof.Gen.NormInReferenceIdeal.Run
public import proofs.«01_k».proof.Proof.NormInValue
public import proofs.«01_k».proof.Proof.Finite
public import proofs.«01_k».proof.Defs

@[expose] public section

set_option maxRecDepth 16384

noncomputable section

open Idealize.ShloMosaic Idealize.ShloMosaic.TcCoe Idealize.SL.Sem
open scoped BigOperators

namespace Cert.NormInReferenceIdeal.Value

open Cert.NormInReferenceIdeal Cert.NormInReferenceIdeal.Gen

/-! ## The reference's results, entry by entry -/

section
variable (a0 : FVec Ideal S4096x5664 .f32) (a1 : FVec Ideal S1x1024x5664 .f32) (a2 : FVec Ideal S4096x1024 .f32) (a3 : FVec Ideal S1x1024 .f32)
  (a4 : FVec Ideal S4096x1024 .f32)

/-- The cotangent before the norm. -/
def ct : FVec Ideal S4096x1024 .f32 := Host.dotGeneral dot_S4096x5664_S1024x5664_S4096x1024_1_1_0_0_n_n none a0 (shapeCast _ a1 shapeCasts_S1x1024x5664_S1024x5664)

/-- The mean square of each row, with the small constant. -/
def msq : FVec Ideal S4096x1 .f32 := addf (Host.divf (broadcastInDim S4096x1 ![0] bcast_S4096_S4096x1_0 (Host.reduceAdd (mulf a2 a2) (constant S_ .f32 0x00000000#32) reducesTo_S4096x1024_S4096_d1 h_S_))
  (broadcastInDim S4096x1 ![] bcast_S_S4096x1 (constant S_ .f32 0x44800000#32))) (broadcastInDim S4096x1 ![] bcast_S_S4096x1 (constant S_ .f32 0x358637BD#32))

/-- The weight, spread over the rows. -/
def wide : FVec Ideal S4096x1024 .f32 := broadcastInDim S4096x1024 ![0, 1] bcast_S1x1024_S4096x1024_0_1 (broadcastInDim S1x1024 ![1] bcast_S1024_S1x1024_1 (shapeCast _ a3 shapeCasts_S1x1024_S1024))

/-- The mean square's cotangent, divided by the row's length. -/
def shared (v : FVec Ideal S4096x1 .f32) (gw : FVec Ideal S4096x1024 .f32) : FVec Ideal S4096x1024 .f32 :=
  broadcastInDim S4096x1024 ![0] bcast_S4096_S4096x1024_0 (Host.reduceAdd (Host.divf (mulf (shapeCast _ (Host.reduceAdd (mulf a2 gw) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt v) v)))
    (broadcastInDim S4096x1 ![] bcast_S_S4096x1 (constant S_ .f32 0x44800000#32))) (constant S_ .f32 0x00000000#32) reducesTo_S4096x1_S4096_d1 h_S_)

/-- The norm's gradient. -/
def dnorm (v : FVec Ideal S4096x1 .f32) (gw sh : FVec Ideal S4096x1024 .f32) : FVec Ideal S4096x1024 .f32 :=
  addf (addf (mulf gw (broadcastInDim S4096x1024 ![0, 1] bcast_S4096x1_S4096x1024_0_1 (Host.rsqrt v))) (mulf a2 sh)) (mulf sh a2)

/-- The first result. -/
def out0 : FVec Ideal S4096x1024 .f32 :=
  addf a4 (dnorm a2 (msq a2) (mulf (ct a0 a1) (wide a3)) (shared a2 (msq a2) (mulf (ct a0 a1) (wide a3))))

/-- The second result, from the mean squares and the cotangent. -/
def dw (v : FVec Ideal S4096x1 .f32) (g : FVec Ideal S4096x1024 .f32) : FVec Ideal S1x1024 .f32 :=
  broadcastInDim S1x1024 ![1] bcast_S1024_S1x1024_1 (Host.reduceAdd (shapeCast _ (Host.reduceAdd (mulf (mulf a2 (broadcastInDim S4096x1024 ![0, 1] bcast_S4096x1_S4096x1024_0_1 (Host.rsqrt v))) g)
    (constant S_ .f32 0x00000000#32) reducesTo_S4096x1024_S1024_d0 h_S_) shapeCasts_S1024_S1x1024) (constant S_ .f32 0x00000000#32) reducesTo_S1x1024_S1024_d0 h_S_)

variable (i : Fin 4096) (k : Fin 1024)

theorem ct_apply : ct a0 a1 (ix2 i k) = ∑ j : Fin 5664, a0 (ix2 i j) * a1 (ix3 (0 : Fin 1) k j) := by
  pointwise [ct]

theorem msq_apply : msq a2 (ix2 i (0 : Fin 1)) = NormMath.ms fun k => a2 (ix2 i k) := by
  pointwise [msq]
  rfl

theorem wide_apply : wide a3 (ix2 i k) = a3 (ix2 (0 : Fin 1) k) := by
  pointwise [wide]

theorem shared_apply (v : FVec Ideal S4096x1 .f32) (gw : FVec Ideal S4096x1024 .f32) : shared a2 v gw (ix2 i k)
    = Ideal.div ((∑ j, a2 (ix2 i j) * gw (ix2 i j)) * (Ideal.ofBits .f32 0xBF000000#32 * Ideal.div (Ideal.rsqrt (v (ix2 i (0 : Fin 1)))) (v (ix2 i (0 : Fin 1))))) (Ideal.ofBits .f32 0x44800000#32) := by
  pointwise [shared]
  exact Fin.sum_univ_one _

theorem dnorm_apply (v : FVec Ideal S4096x1 .f32) (gw sh : FVec Ideal S4096x1024 .f32) : dnorm a2 v gw sh (ix2 i k)
    = gw (ix2 i k) * Ideal.rsqrt (v (ix2 i (0 : Fin 1))) + a2 (ix2 i k) * sh (ix2 i k) + sh (ix2 i k) * a2 (ix2 i k) := by
  pointwise [dnorm]

theorem dw_apply (v : FVec Ideal S4096x1 .f32) (g : FVec Ideal S4096x1024 .f32) :
    dw a2 v g (ix2 (0 : Fin 1) k) = ∑ i : Fin 4096, a2 (ix2 i k) * Ideal.rsqrt (v (ix2 i (0 : Fin 1))) * g (ix2 i k) := by
  pointwise [dw]
  exact Fin.sum_univ_one _

/-- The first result's entry. -/
theorem out0_apply : out0 a0 a1 a2 a3 a4 (ix2 i k) = a4 (ix2 i k)
    + NormMath.long (fun k => a2 (ix2 i k)) (fun k => ct a0 a1 (ix2 i k)) (fun k => a3 (ix2 (0 : Fin 1) k)) k := by
  unfold out0
  generalize hgw : (mulf (ct a0 a1) (wide a3) : FVec Ideal _ _) = gw
  have e : ∀ i k, gw (ix2 i k) = ct a0 a1 (ix2 i k) * a3 (ix2 (0 : Fin 1) k) := fun i k => by
    rw [← hgw, ← wide_apply a3 i k]
    rfl
  show a4 (ix2 i k) + dnorm a2 (msq a2) gw (shared a2 (msq a2) gw) (ix2 i k) = _
  rw [dnorm_apply, shared_apply, msq_apply, e, Finset.sum_congr rfl fun j _ => congrArg (a2 (ix2 i j) * ·) (e i j)]
  rfl

end

section
variable (m : (ℓ : Loc nD τ sig) → Buf (Elt Ideal) ℓ) (c : Dev nD) {a0 : FVec Ideal S4096x5664 .f32} {a1 : FVec Ideal S1x1024x5664 .f32} {a2 : FVec Ideal S4096x1024 .f32} {a3 : FVec Ideal S1x1024 .f32}
  {a4 : FVec Ideal S4096x1024 .f32}

theorem result_0 (e0 : m ((c.tc : Thread nD τ).loc main_arg0) = a0) (e1 : m ((c.tc : Thread nD τ).loc main_arg1) = a1) (e2 : m ((c.tc : Thread nD τ).loc main_arg2) = a2)
    (e3 : m ((c.tc : Thread nD τ).loc main_arg3) = a3) (e4 : m ((c.tc : Thread nD τ).loc main_arg4) = a4) : res_main_v41 m c = out0 a0 a1 a2 a3 a4 := by
  subst e0 e1 e2 e3 e4
  rfl

end

end Cert.NormInReferenceIdeal.Value

namespace Cert.NormInKernelIdeal.Value

open Cert.NormInKernelIdeal Cert.NormInKernelIdeal.Gen Cert.NormInReferenceIdeal.Value

/-! ## The claim -/

section
variable (m : (ℓ : Loc nD τ sig) → Buf (Elt Ideal) ℓ) (c : Dev nD)

/-- The arguments' entries that the norm's gradient reads are real. -/
structure Real : Prop where
  a0 : ∀ i, (arg0 m c i : EReal) = ((arg0 m c i : EReal).toReal : EReal)
  a1 : ∀ i, (arg1 m c i : EReal) = ((arg1 m c i : EReal).toReal : EReal)
  a2 : ∀ i, (arg2 m c i : EReal) = ((arg2 m c i : EReal).toReal : EReal)
  a3 : ∀ i, (arg3 m c i : EReal) = ((arg3 m c i : EReal).toReal : EReal)

theorem real_of_pre [Cert.Pre_finite_norm1.Facts] (hpre : Cert.Pre_NormInKernelIdeal_finite_norm1 m) : Real m c := by
  obtain ⟨p0, p1, p2, p3⟩ := hpre c
  exact ⟨Finite.real_of_ones _ (arg0 m c) p0, Finite.real_of_ones _ (arg1 m c) p1, Finite.real_of_ones _ (arg2 m c) p2, Finite.real_of_ones _ (arg3 m c) p3⟩

/-- The cotangent before the norm is the reference's. -/
theorem G_ct (i : Fin 4096) (k : Fin 1024) : G m c i k = ct (arg0 m c) (arg1 m c) (ix2 i k) := (ct_apply _ _ i k).symm

/-- A row's part of the weight's gradient is the reference's. -/
theorem E_dw (i : Fin 4096) (k : Fin 1024) :
    E m c i k = arg2 m c (ix2 i k) * Ideal.rsqrt (msq (arg2 m c) (ix2 i (0 : Fin 1))) * ct (arg0 m c) (arg1 m c) (ix2 i k) := by
  unfold E
  rw [msq_apply, G_ct, mul_comm]
  rfl

variable {m c} (H : Real m c)
include H

/-- The first result's entry is the reference's. -/
theorem D_out0 (i : Fin 4096) (k : Fin 1024) : D m c i k = out0 (arg0 m c) (arg1 m c) (arg2 m c) (arg3 m c) (arg4 m c) (ix2 i k) := by
  rw [out0_apply]
  unfold D
  rw [NormMath.short_eq (X m c i) (G m c i) (fun k => arg3 m c (ix2 (0 : Fin 1) k)) (fun k => H.a2 _) (fun k => NormMath.dot_real _ _ (fun j => H.a0 _) (fun j => H.a1 _)) (fun k => H.a3 _), funext (G_ct m c i)]
  rfl

theorem first : (dats m 0 c).arrAt 5 cfg0.N = out0 (arg0 m c) (arg1 m c) (arg2 m c) (arg3 m c) (arg4 m c) := by
  rw [final_5]
  funext y
  have hy : y = ix2 (y 0 : Fin 4096) (y 1 : Fin 1024) := by
    funext a
    fin_cases a <;> rfl
  exact (D_out0 H _ _).trans (congrArg (out0 (arg0 m c) (arg1 m c) (arg2 m c) (arg3 m c) (arg4 m c)) hy.symm)

omit H in
theorem second : (dats m 0 c).arrAt 6 cfg0.N = dw (arg2 m c) (msq (arg2 m c)) (ct (arg0 m c) (arg1 m c)) := by
  rw [final_6]
  funext j
  have hj : j = ix2 (0 : Fin 1) (j 1 : Fin 1024) := by
    funext a
    fin_cases a
    · exact Fin.ext (by have : (j 0).val < 1 := (j 0).isLt; show (j 0).val = 0; omega)
    · rfl
  refine Eq.trans ?_ ((dw_apply (arg2 m c) (j 1) (msq (arg2 m c)) (ct (arg0 m c) (arg1 m c))).symm.trans (congrArg (dw (arg2 m c) (msq (arg2 m c)) (ct (arg0 m c) (arg1 m c))) hj.symm))
  exact Finset.sum_congr rfl fun i _ => E_dw m c i (j 1)

end

/-- The reference leaves its arguments as they were. -/
theorem reference_frame : Cert.quiescent_NormInReferenceIdeal := fun m ρ _ =>
  (θ_run Cert.NormInReferenceIdeal.defs _ _).mono (fun r h => ⟨fun c => (h c).2.2, sem_eq_zero_of_no_sems (by decide) r.2⟩)
    (Cert.NormInReferenceIdeal.Value.run (F := Ideal) m ρ)

/-- The kernel and its reference, run on the same finite arguments, leave the same two results over the real numbers. -/
theorem algebraic [Cert.Pre_finite_norm1.Facts] : Cert.algebraic_NormInKernelIdeal_NormInReferenceIdeal_pre_finite_norm1 := by
  intro m g m' g' hpre hagree
  refine ⟨_, _, run_blocks m g, (θ_run Cert.NormInReferenceIdeal.defs _ _).mono (fun r h c => ?_) (Cert.NormInReferenceIdeal.Value.run (F := Ideal) m' g')⟩
  obtain ⟨r0, r1, h⟩ := h c
  obtain ⟨e0, e1, e2, e3, e4⟩ := hagree c
  have H := real_of_pre m c hpre
  have d := result_0 m' c e0 e1 e2 e3 e4
  refine ⟨r0.trans (d.trans (first H).symm), r1.trans (Eq.trans ?_ (second (m := m) (c := c)).symm), h⟩
  rw [e0, e1, e2]
  rfl

end Cert.NormInKernelIdeal.Value

end
-- ==== Proof.Rows.lean ====
/- Rows of an array of 4096 that a grid of eight points handles 512 at a time, each point in two halves of 256. -/
module

public import proofs.«01_k».proof.Proof.NormReal
public import Idealize.ShloMosaic.Lib.Pipeline.ValueKit

@[expose] public section

noncomputable section

namespace Cert.Rows

open Idealize.ShloMosaic

/-- Row `r` of the half that starts at row `o` of grid point `t`. -/
def row (t : ℕ) (ht : t < 8) (o : ℕ) (ho : o + 256 ≤ 512) (r : Fin 256) : Fin 4096 := ⟨512 * t + (o + r.val), by omega⟩

/-- A value at a row of a half is the value at the array's row. -/
theorem at_row {n : ℕ} (f : Fin 4096 → Fin n → EReal) (g : (⟨2, ![256, n]⟩ : Shape).Idx → EReal) (t : ℕ) (ht : t < 8) (o : ℕ) (ho : o + 256 ≤ 512)
    (h : ∀ (r : Fin 256) (k : Fin n), g (ix2 r k) = f (row t ht o ho r) k) (x : (⟨2, ![256, n]⟩ : Shape).Idx) (z : (⟨2, ![4096, n]⟩ : Shape).Idx)
    (z0 : (z 0).val = 512 * t + (o + (x 0).val)) (z1 : (z 1).val = (x 1).val) : g x = f (z 0) (z 1) := by
  have hx : x = ix2 (x 0 : Fin 256) (x 1 : Fin n) := by
    funext a
    fin_cases a <;> rfl
  exact (congrArg g hx).trans ((h _ _).trans (congrArg₂ f (Fin.ext z0.symm) (Fin.ext z1.symm)))

/-- The same with rows and columns exchanged. -/
theorem at_col {n : ℕ} (f : Fin 4096 → Fin n → EReal) (g : (⟨2, ![n, 256]⟩ : Shape).Idx → EReal) (t : ℕ) (ht : t < 8) (o : ℕ) (ho : o + 256 ≤ 512)
    (h : ∀ (r : Fin 256) (k : Fin n), g (ix2 k r) = f (row t ht o ho r) k) (x : (⟨2, ![n, 256]⟩ : Shape).Idx) (z : (⟨2, ![n, 4096]⟩ : Shape).Idx)
    (z0 : (z 0).val = (x 0).val) (z1 : (z 1).val = 512 * t + (o + (x 1).val)) : g x = f (z 1) (z 0) := by
  have hx : x = ix2 (x 0 : Fin n) (x 1 : Fin 256) := by
    funext a
    fin_cases a <;> rfl
  exact (congrArg g hx).trans ((h _ _).trans (congrArg₂ f (Fin.ext z1.symm) (Fin.ext z0.symm)))

/-- The norm of a row: each entry over the root of the mean square, times the weight. -/
def norm (x w : Fin 1024 → EReal) (k : Fin 1024) : EReal := x k * NormMath.rstd x * w k

end Cert.Rows

end
-- ==== Proof.OutProjValue.lean ====
/- What the output projection's kernel leaves in its three results at the real numbers. -/
module

public import proofs.«01_k».proof.Proof.Gen.OutProjKernelIdeal.Frame
public import proofs.«01_k».proof.Proof.Rows
public import Idealize.ShloMosaic.Lib.Pipeline.Value
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.OutProjKernelIdeal.Value

open Cert.OutProjKernelIdeal Cert.OutProjKernelIdeal.Gen

/-! ## The body's payloads, entry by entry -/

section
variable (x : FVec Ideal S256x1024 .f32) (ys yf : FVec Ideal S256x1024 .bf16) (wt wb : FVec Ideal S1024x1024 .bf16) (nw : FVec Ideal S1x1024 .f32) (r : Fin 256) (k : Fin 1024)

/-- The residual row with the two products. -/
theorem pay5_apply : (k0_pay5 (F := Ideal) x ys wt yf wb : FVec Ideal _ _) (ix2 r k)
    = x (ix2 r k) + (∑ j : Fin 1024, ys (ix2 r j) * wt (ix2 j k)) + ∑ j : Fin 1024, yf (ix2 r j) * wb (ix2 j k) := by
  pointwise [k0_pay5]

/-- Its norm. -/
theorem pay6_apply : (k0_pay6 (F := Ideal) x ys wt yf wb nw : FVec Ideal _ _) (ix2 r k)
    = Rows.norm (fun k => (k0_pay5 (F := Ideal) x ys wt yf wb : FVec Ideal _ _) (ix2 r k)) (fun k => nw (ix2 (0 : Fin 1) k)) k := by
  unfold k0_pay6
  generalize k0_pay5 (F := Ideal) x ys wt yf wb = g
  pointwise
  rfl

/-- The norm's rows as columns. -/
theorem pay8_apply : (k0_pay8 (F := Ideal) x ys wt yf wb nw : FVec Ideal _ _) (ix2 k r) = (k0_pay6 (F := Ideal) x ys wt yf wb nw : FVec Ideal _ _) (ix2 r k) := by
  unfold k0_pay8
  generalize k0_pay6 (F := Ideal) x ys wt yf wb nw = g
  pointwise

end

variable (m : (ℓ : Loc nD τ sig) → Buf (Elt Ideal) ℓ) (c : Dev nD)

/-- The block each window reads or writes at a grid point. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![t.val, 0] ∧ win0_6.index t = ![t.val, 0] ∧ win0_7.index t = ![0, t.val] :=
  (by decide +kernel : ∀ t : Fin grid0.N, _)

/-- The arguments on a device. -/
abbrev arg0 : FVec Ideal S4096x1024 .f32 := m ((c.tc : Thread nD τ).loc main_arg0)
@[inherit_doc arg0] abbrev arg1 : FVec Ideal S4096x1024 .f32 := m ((c.tc : Thread nD τ).loc main_arg1)
@[inherit_doc arg0] abbrev arg2 : FVec Ideal S1x2048x1024 .f32 := m ((c.tc : Thread nD τ).loc main_arg2)
@[inherit_doc arg0] abbrev arg3 : FVec Ideal S4096x1024 .f32 := m ((c.tc : Thread nD τ).loc main_arg3)
@[inherit_doc arg0] abbrev arg4 : FVec Ideal S1x1024 .f32 := m ((c.tc : Thread nD τ).loc main_arg4)

/-! ## The blocks of a grid point, entry by entry -/

theorem lt8 (t : Fin cfg0.N) : t.val < 8 := lt_of_lt_of_eq t.isLt N_0

theorem blk_0 (t : Fin cfg0.N) (r : Fin 512) (k : Fin 1024) :
    (iblk m c 0 t : FVec Ideal S512x1024 .bf16) (ix2 r k) = arg0 m c (ix2 ⟨512 * t.val + r.val, by have := lt8 t; omega⟩ k) := by
  obtain ⟨i0, -, -, -, -, -, -, -⟩ := idx t
  blk_simp [iblk, V, i0]
  entry_read
  pointwise
  blk_ext [i0]

theorem blk_1 (t : Fin cfg0.N) (r : Fin 512) (k : Fin 1024) :
    (iblk m c 1 t : FVec Ideal S512x1024 .bf16) (ix2 r k) = arg1 m c (ix2 ⟨512 * t.val + r.val, by have := lt8 t; omega⟩ k) := by
  obtain ⟨-, i1, -, -, -, -, -, -⟩ := idx t
  blk_simp [iblk, V, i1]
  entry_read
  pointwise
  blk_ext [i1]

theorem blk_2 (t : Fin cfg0.N) (j : Fin 2048) (k : Fin 1024) : (iblk m c 2 t : FVec Ideal S2048x1024 .bf16) (ix2 j k) = arg2 m c (ix3 (0 : Fin 1) j k) := by
  obtain ⟨-, -, i2, -, -, -, -, -⟩ := idx t
  blk_simp [iblk, V, i2]
  entry_read
  pointwise
  blk_ext [i2]

theorem blk_3 (t : Fin cfg0.N) (r : Fin 512) (k : Fin 1024) :
    (iblk m c 3 t : FVec Ideal S512x1024 .f32) (ix2 r k) = arg3 m c (ix2 ⟨512 * t.val + r.val, by have := lt8 t; omega⟩ k) := by
  obtain ⟨-, -, -, i3, -, -, -, -⟩ := idx t
  blk_simp [iblk, V, i3]
  blk_ext [i3]

theorem blk_4 (t : Fin cfg0.N) (k : Fin 1024) : (iblk m c 4 t : FVec Ideal S1x1024 .f32) (ix2 (0 : Fin 1) k) = arg4 m c (ix2 (0 : Fin 1) k) := by
  obtain ⟨-, -, -, -, i4, -, -, -⟩ := idx t
  blk_simp [iblk, V, i4]
  blk_ext [i4]

/-! ## The two halves of a grid point's rows -/

/-- A half's rows of a block of rows. -/
theorem ld_rows {e : EltTy} (x : S512x1024.Idx → Elt Ideal e) (o : ℕ) (hb) (r : Fin 256) (k : Fin 1024) (ho : o + r.val < 512) :
    View.ld (Val := Elt Ideal) x (Rect.unit (s := S512x1024) ![o, 0] ![256, 1024] hb) (ix2 r k) = x (ix2 ⟨o + r.val, ho⟩ k) :=
  View.ld_unit_apply_of _ _ _ _ _ _ fun a => by fin_cases a <;> simp [ix2]

/-- A half of the weight's rows. -/
theorem ld_weight (x : S2048x1024.Idx → Elt Ideal .bf16) (o : ℕ) (hb) (j k : Fin 1024) (ho : o + j.val < 2048) :
    View.ld (Val := Elt Ideal) x (Rect.unit (s := S2048x1024) ![o, 0] ![1024, 1024] hb) (ix2 j k) = x (ix2 ⟨o + j.val, ho⟩ k) :=
  View.ld_unit_apply_of _ _ _ _ _ _ fun a => by fin_cases a <;> simp [ix2]

/-- An entry of the first result: the residual with the projection of both halves of the mixture. -/
def X (i : Fin 4096) (k : Fin 1024) : EReal :=
  arg3 m c (ix2 i k) + (∑ j : Fin 1024, arg0 m c (ix2 i j) * arg2 m c (ix3 (0 : Fin 1) (Fin.castAdd 1024 j : Fin 2048) k))
    + ∑ j : Fin 1024, arg1 m c (ix2 i j) * arg2 m c (ix3 (0 : Fin 1) (Fin.natAdd 1024 j : Fin 2048) k)

/-- An entry of the second result: the norm of that row. -/
def H (i : Fin 4096) (k : Fin 1024) : EReal := Rows.norm (X m c i) (fun k => arg4 m c (ix2 (0 : Fin 1) k)) k

section
variable (t : Fin cfg0.N) (o : ℕ) (ho : o + 256 ≤ 512) (h1 h2 h3 h4 h5) (nw : FVec Ideal S1x1024 .f32) (hw : ∀ k, nw (ix2 (0 : Fin 1) k) = arg4 m c (ix2 (0 : Fin 1) k)) (r : Fin 256) (k : Fin 1024)

/-- A half's sums are the rows of the first result. -/
theorem half_x : (k0_pay5 (F := Ideal) (View.ld (iblk m c 3 t) (Rect.unit (s := S512x1024) ![o, 0] ![256, 1024] h1)) (View.ld (iblk m c 0 t) (Rect.unit (s := S512x1024) ![o, 0] ![256, 1024] h2))
      (View.ld (iblk m c 2 t) (Rect.unit (s := S2048x1024) ![0, 0] ![1024, 1024] h3)) (View.ld (iblk m c 1 t) (Rect.unit (s := S512x1024) ![o, 0] ![256, 1024] h4))
      (View.ld (iblk m c 2 t) (Rect.unit (s := S2048x1024) ![1024, 0] ![1024, 1024] h5)) : FVec Ideal _ _) (ix2 r k) = X m c (Rows.row t.val (lt8 t) o ho r) k := by
  refine (pay5_apply _ _ _ _ _ r k).trans (congrArg₂ (· + ·) (congrArg₂ (· + ·) ?_ (Finset.sum_congr rfl fun j _ => congrArg₂ (· * ·) ?_ ?_))
    (Finset.sum_congr rfl fun j _ => congrArg₂ (· * ·) ?_ ?_))
  · exact (ld_rows _ o _ r k (by omega)).trans (blk_3 m c t _ k)
  · exact (ld_rows _ o _ r j (by omega)).trans (blk_0 m c t _ j)
  · exact (ld_weight _ 0 _ j k (by omega)).trans ((blk_2 m c t _ k).trans (congrArg (fun i : Fin 2048 => arg2 m c (ix3 (0 : Fin 1) i k)) (Fin.ext (Nat.zero_add _))))
  · exact (ld_rows _ o _ r j (by omega)).trans (blk_1 m c t _ j)
  · exact (ld_weight _ 1024 _ j k (by omega)).trans (blk_2 m c t _ k)

include hw in
/-- A half's norms are the rows of the second result. -/
theorem half_h : (k0_pay6 (F := Ideal) (View.ld (iblk m c 3 t) (Rect.unit (s := S512x1024) ![o, 0] ![256, 1024] h1)) (View.ld (iblk m c 0 t) (Rect.unit (s := S512x1024) ![o, 0] ![256, 1024] h2))
      (View.ld (iblk m c 2 t) (Rect.unit (s := S2048x1024) ![0, 0] ![1024, 1024] h3)) (View.ld (iblk m c 1 t) (Rect.unit (s := S512x1024) ![o, 0] ![256, 1024] h4))
      (View.ld (iblk m c 2 t) (Rect.unit (s := S2048x1024) ![1024, 0] ![1024, 1024] h5)) nw : FVec Ideal _ _) (ix2 r k) = H m c (Rows.row t.val (lt8 t) o ho r) k := by
  rw [pay6_apply, funext fun k => half_x m c t o ho h1 h2 h3 h4 h5 r k, funext hw]
  rfl

end

/-! ## The three results -/

theorem emb (t : Fin cfg0.N) :
    (∀ y : ((cfg0.win 5).xblock (cfg0.grid.coords t)).Idx, ((((cfg0.win 5).blk t).view.emb y 0 : Fin _) : ℕ) = 512 * t.val + (y 0 : ℕ) ∧ ((((cfg0.win 5).blk t).view.emb y 1 : Fin _) : ℕ) = (y 1 : ℕ))
    ∧ (∀ y : ((cfg0.win 6).xblock (cfg0.grid.coords t)).Idx, ((((cfg0.win 6).blk t).view.emb y 0 : Fin _) : ℕ) = 512 * t.val + (y 0 : ℕ) ∧ ((((cfg0.win 6).blk t).view.emb y 1 : Fin _) : ℕ) = (y 1 : ℕ))
    ∧ (∀ y : ((cfg0.win 7).xblock (cfg0.grid.coords t)).Idx, ((((cfg0.win 7).blk t).view.emb y 0 : Fin _) : ℕ) = (y 0 : ℕ) ∧ ((((cfg0.win 7).blk t).view.emb y 1 : Fin _) : ℕ) = 512 * t.val + (y 1 : ℕ)) := by
  obtain ⟨-, -, -, -, -, i5, i6, i7⟩ := idx t
  refine ⟨fun y => ⟨?_, ?_⟩, fun y => ⟨?_, ?_⟩, fun y => ⟨?_, ?_⟩⟩ <;> blk_simp [i5, i6, i7] <;> try omega

theorem point_5 (t : Fin cfg0.N) (y : S512x1024.Idx) : out0_5 (iblk m c 0 t) (iblk m c 1 t) (iblk m c 2 t) (iblk m c 3 t) (iblk m c 4 t) y
    = X m c (((cfg0.win 5).blk t).view.emb y 0) (((cfg0.win 5).blk t).view.emb y 1) := by
  obtain ⟨e0, e1⟩ := (emb t).1 y
  frame_out
  canon_tiles x h
  · exact Rows.at_row (X m c) _ t.val (lt8 t) 256 (by omega) (half_x m c t 256 (by omega) _ _ _ _ _) x _ (e0.trans (by rw [h0])) (e1.trans h1)
  · exact Rows.at_row (X m c) _ t.val (lt8 t) 0 (by omega) (half_x m c t 0 (by omega) _ _ _ _ _) x _ (e0.trans (by rw [h0, Nat.zero_add])) (e1.trans h1)

theorem point_6 (t : Fin cfg0.N) (y : S512x1024.Idx) : out0_6 (iblk m c 0 t) (iblk m c 1 t) (iblk m c 2 t) (iblk m c 3 t) (iblk m c 4 t) y
    = H m c (((cfg0.win 6).blk t).view.emb y 0) (((cfg0.win 6).blk t).view.emb y 1) := by
  obtain ⟨e0, e1⟩ := (emb t).2.1 y
  frame_out
  canon_tiles x h
  · exact Rows.at_row (H m c) _ t.val (lt8 t) 256 (by omega) (half_h m c t 256 (by omega) _ _ _ _ _ _ (blk_4 m c t)) x _ (e0.trans (by rw [h0])) (e1.trans h1)
  · exact Rows.at_row (H m c) _ t.val (lt8 t) 0 (by omega) (half_h m c t 0 (by omega) _ _ _ _ _ _ (blk_4 m c t)) x _ (e0.trans (by rw [h0, Nat.zero_add])) (e1.trans h1)

theorem point_7 (t : Fin cfg0.N) (y : S1024x512.Idx) : out0_7 (iblk m c 0 t) (iblk m c 1 t) (iblk m c 2 t) (iblk m c 3 t) (iblk m c 4 t) y
    = H m c (((cfg0.win 7).blk t).view.emb y 1) (((cfg0.win 7).blk t).view.emb y 0) := by
  obtain ⟨e0, e1⟩ := (emb t).2.2 y
  frame_out
  canon_tiles x h
  · exact Rows.at_col (H m c) _ t.val (lt8 t) 256 (by omega) (fun r k => (pay8_apply _ _ _ _ _ _ r k).trans (half_h m c t 256 (by omega) _ _ _ _ _ _ (blk_4 m c t) r k)) x _ (e0.trans h0) (e1.trans (by rw [h1]))
  · exact Rows.at_col (H m c) _ t.val (lt8 t) 0 (by omega) (fun r k => (pay8_apply _ _ _ _ _ _ r k).trans (half_h m c t 0 (by omega) _ _ _ _ _ _ (blk_4 m c t) r k)) x _ (e0.trans h0) (e1.trans (by rw [h1, Nat.zero_add]))

/-- The first result: the residual rows with the projection. -/
theorem final_5 : (dats m 0 c).arrAt 5 cfg0.N = fun y : S4096x1024.Idx => X m c (y 0) (y 1) := by
  refine (dats m 0 c).arrAt_eq_of_covers 5 _ (by decide +kernel) fun t hf y => ?_
  blk_simp; rw [after0_5]
  exact point_5 m c t y

/-- The second result: their norms. -/
theorem final_6 : (dats m 0 c).arrAt 6 cfg0.N = fun y : S4096x1024.Idx => H m c (y 0) (y 1) := by
  refine (dats m 0 c).arrAt_eq_of_covers 6 _ (by decide +kernel) fun t hf y => ?_
  blk_simp; rw [after0_6]
  exact point_6 m c t y

/-- The third result: the norms with rows and columns exchanged. -/
theorem final_7 : (dats m 0 c).arrAt 7 cfg0.N = fun y : S1024x4096.Idx => H m c (y 1) (y 0) := by
  refine (dats m 0 c).arrAt_eq_of_covers 7 _ (by decide +kernel) fun t hf y => ?_
  blk_simp; rw [after0_7]
  exact point_7 m c t y

end Cert.OutProjKernelIdeal.Value

end
-- ==== Proof.OutProjClaim.lean ====
/- The output projection's kernel against its reference: the three results are the same over the reals. -/
module

public import Idealize.ShloMosaic.Lib.Claim
public import Idealize.ShloMosaic.Lib.Pipeline.ValueKit
public import proofs.«01_k».proof.Proof.Gen.OutProjKernelIdeal.Value
public import proofs.«01_k».proof.Proof.Gen.OutProjReferenceIdeal.Run
public import proofs.«01_k».proof.Proof.OutProjValue
public import proofs.«01_k».proof.Defs

@[expose] public section

set_option maxRecDepth 16384

noncomputable section

open Idealize.ShloMosaic Idealize.ShloMosaic.TcCoe Idealize.SL.Sem
open scoped BigOperators

namespace Cert.OutProjReferenceIdeal.Value

open Cert.OutProjReferenceIdeal Cert.OutProjReferenceIdeal.Gen

/-! ## The reference's results, entry by entry -/

section
variable (a0 a1 : FVec Ideal S4096x1024 .f32) (a2 : FVec Ideal S1x2048x1024 .f32) (a3 x : FVec Ideal S4096x1024 .f32) (a4 : FVec Ideal S1x1024 .f32)

/-- The first result: the residual with the projection of the mixture. -/
def x1 : FVec Ideal S4096x1024 .f32 :=
  addf a3 (Host.dotGeneral dot_S4096x2048_S2048x1024_S4096x1024_1_0_0_1_n_n none
    (concatenate S4096x2048 1 [⟨S4096x1024, a0⟩, ⟨S4096x1024, a1⟩] concatenates_S4096x1024_S4096x1024_S4096x2048_d1) (shapeCast _ a2 shapeCasts_S1x2048x1024_S2048x1024))

/-- The norm of each row. -/
def normed : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0
      (Host.reduceAdd (mulf x x) (constant S_ .f32 0x00000000#32) reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 (shapeCast _ a4 shapeCasts_S1x1024_S1024)))

/-- The second result. -/
def h1 : FVec Ideal S4096x1024 .bf16 := truncf .bf16 (normed x a4) bitsLt_bf16_f32

/-- The third result. -/
def ht : FVec Ideal S1024x4096 .bf16 := transpose S1024x4096 [1, 0] (h1 x a4) transposes_S4096x1024_S1024x4096_1_0

variable (i : Fin 4096) (k : Fin 1024)

theorem x1_apply : x1 a0 a1 a2 a3 (ix2 i k) = a3 (ix2 i k) + ((∑ j : Fin 1024, a0 (ix2 i j) * a2 (ix3 (0 : Fin 1) (Fin.castAdd 1024 j : Fin 2048) k))
    + ∑ j : Fin 1024, a1 (ix2 i j) * a2 (ix3 (0 : Fin 1) (Fin.natAdd 1024 j : Fin 2048) k)) := by
  pointwise [x1]
  rfl

theorem normed_apply : normed x a4 (ix2 i k) = Rows.norm (fun k => x (ix2 i k)) (fun k => a4 (ix2 (0 : Fin 1) k)) k := by
  pointwise [normed]
  rfl

theorem h1_apply : h1 x a4 (ix2 i k) = Rows.norm (fun k => x (ix2 i k)) (fun k => a4 (ix2 (0 : Fin 1) k)) k := normed_apply x a4 i k

theorem ht_apply : ht x a4 (ix2 k i) = Rows.norm (fun k => x (ix2 i k)) (fun k => a4 (ix2 (0 : Fin 1) k)) k := by
  refine Eq.trans ?_ (h1_apply x a4 i k)
  unfold ht
  generalize h1 x a4 = g
  pointwise

end

end Cert.OutProjReferenceIdeal.Value

namespace Cert.OutProjKernelIdeal.Value

open Cert.OutProjKernelIdeal Cert.OutProjKernelIdeal.Gen Cert.OutProjReferenceIdeal.Value

/-! ## The claim -/

section
variable (m : (ℓ : Loc nD τ sig) → Buf (Elt Ideal) ℓ) (c : Dev nD)

/-- The reference's first result of the kernel's arguments. -/
abbrev ref : FVec Ideal S4096x1024 .f32 := x1 (arg0 m c) (arg1 m c) (arg2 m c) (arg3 m c)

theorem X_ref (i : Fin 4096) (k : Fin 1024) : X m c i k = ref m c (ix2 i k) :=
   (add_assoc _ _ _).trans (x1_apply (arg0 m c) (arg1 m c) (arg2 m c) (arg3 m c) i k).symm

theorem H_ref (i : Fin 4096) (k : Fin 1024) : H m c i k = Rows.norm (fun k => ref m c (ix2 i k)) (fun k => arg4 m c (ix2 (0 : Fin 1) k)) k := by
  rw [← funext (X_ref m c i)]
  rfl

theorem first : (dats m 0 c).arrAt 5 cfg0.N = ref m c := by
  rw [final_5]
  funext y
  have hy : y = ix2 (y 0 : Fin 4096) (y 1 : Fin 1024) := by
    funext a
    fin_cases a <;> rfl
  exact (X_ref m c _ _).trans (congrArg (ref m c) hy.symm)

theorem second : (dats m 0 c).arrAt 6 cfg0.N = h1 (ref m c) (arg4 m c) := by
  rw [final_6]
  funext y
  have hy : y = ix2 (y 0 : Fin 4096) (y 1 : Fin 1024) := by
    funext a
    fin_cases a <;> rfl
  exact (H_ref m c _ _).trans ((h1_apply (ref m c) (arg4 m c) _ _).symm.trans (congrArg (h1 (ref m c) (arg4 m c)) hy.symm))

theorem third : (dats m 0 c).arrAt 7 cfg0.N = ht (ref m c) (arg4 m c) := by
  rw [final_7]
  funext y
  have hy : y = ix2 (y 0 : Fin 1024) (y 1 : Fin 4096) := by
    funext a
    fin_cases a <;> rfl
  exact (H_ref m c _ _).trans ((ht_apply (ref m c) (arg4 m c) _ _).symm.trans (congrArg (ht (ref m c) (arg4 m c)) hy.symm))

end

/-- The reference leaves its arguments as they were. -/
theorem reference_frame : Cert.quiescent_OutProjReferenceIdeal := fun m ρ _ =>
  (θ_run Cert.OutProjReferenceIdeal.defs _ _).mono (fun r h => ⟨fun c => (h c).2.2.2, sem_eq_zero_of_no_sems (by decide) r.2⟩)
    (Cert.OutProjReferenceIdeal.Value.run (F := Ideal) m ρ)

/-- The kernel and its reference, run on the same arguments, leave the same three results over the real numbers. -/
theorem algebraic : Cert.algebraic_OutProjKernelIdeal_OutProjReferenceIdeal := by
  intro m g m' g' _ hagree
  refine ⟨_, _, _, run_blocks m g, (θ_run Cert.OutProjReferenceIdeal.defs _ _).mono (fun r h c => ?_) (Cert.OutProjReferenceIdeal.Value.run (F := Ideal) m' g')⟩
  obtain ⟨r0, r1, r2, h⟩ := h c
  obtain ⟨e0, e1, e2, e3, e4⟩ := hagree c
  rw [e0, e1, e2, e3] at r0
  rw [e0, e1, e2, e3, e4] at r1 r2
  exact ⟨r0.trans (first m c).symm, r1.trans (second m c).symm, r2.trans (third m c).symm, h⟩

end Cert.OutProjKernelIdeal.Value

end
-- ==== Proof.InProjValue.lean ====
/- What the input projection's kernel leaves in its two results at the real numbers. -/
module

public import proofs.«01_k».proof.Proof.Gen.InProjKernelIdeal.Frame
public import proofs.«01_k».proof.Proof.NormInValue
public import proofs.«01_k».proof.Proof.Rows

@[expose] public section

set_option maxRecDepth 16384

noncomputable section

open Idealize.ShloMosaic Idealize.ShloMosaic.TcCoe Idealize.SL.Sem
open Idealize.ShloMosaic.Pipeline (Dat)
open scoped BigOperators

namespace Cert.InProjKernelIdeal.Value

open Cert.InProjKernelIdeal Cert.InProjKernelIdeal.Gen
open Cert.NormInKernelIdeal.Value (padded colsB colsB_apply)

/-! ## The body's payloads, entry by entry -/

section
variable (x h : FVec Ideal S256x1024 .f32) (w : FVec Ideal S1x1024 .f32) (b : FVec Ideal S1024x5760 .bf16) (r : Fin 256) (k : Fin 1024) (j : Fin 5760)

/-- The norm of the first half's rows, -/
theorem pay3_apply : (k0_pay3 (F := Ideal) x w : FVec Ideal _ _) (ix2 r k) = Rows.norm (fun k => x (ix2 r k)) (fun k => w (ix2 (0 : Fin 1) k)) k := by
  pointwise [k0_pay3]
  rfl

/-- and of the second half's. -/
theorem pay6_apply : (k0_pay6 (F := Ideal) x w : FVec Ideal _ _) (ix2 r k) = Rows.norm (fun k => x (ix2 r k)) (fun k => w (ix2 (0 : Fin 1) k)) k := by
  pointwise [k0_pay6]
  rfl

/-- A half's norms as columns, -/
theorem pay1_apply : (k0_pay1 (F := Ideal) h : FVec Ideal _ _) (ix2 k r) = h (ix2 r k) := by
  pointwise [k0_pay1]

/-- and their product with the weight. -/
theorem pay2_apply : (k0_pay2 (F := Ideal) h b : FVec Ideal _ _) (ix2 r j) = ∑ k : Fin 1024, h (ix2 r k) * b (ix2 k j) := by
  pointwise [k0_pay2]

end

variable (m : (ℓ : Loc nD τ sig) → Buf (Elt Ideal) ℓ) (c : Dev nD)

/-- The block each window reads or writes at a grid point. -/
theorem idx : ∀ t : Fin cfg0.N, win0_0.index t = ![t.val, 0] ∧ win0_1.index t = ![0, 0] ∧ win0_2.index t = ![0, 0] ∧ win0_3.index t = ![t.val, 0] ∧ win0_4.index t = ![0, t.val] :=
  (by decide +kernel : ∀ t : Fin grid0.N, _)

/-- The arguments on a device. -/
abbrev arg0 : FVec Ideal S4096x1024 .f32 := m ((c.tc : Thread nD τ).loc main_arg0)
@[inherit_doc arg0] abbrev arg1 : FVec Ideal S1x1024 .f32 := m ((c.tc : Thread nD τ).loc main_arg1)
@[inherit_doc arg0] abbrev arg2 : FVec Ideal S1x1024x5664 .f32 := m ((c.tc : Thread nD τ).loc main_arg2)

/-- The weight that the host prepares: its columns in the kernel's order, with zeros after them. -/
theorem V_8 : V m c main_v8 = colsB (truncf .bf16 (shapeCast _ (arg2 m c) shapeCasts_S1x1024x5664_S1024x5664) bitsLt_bf16_f32) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

/-! ## The blocks of a grid point, entry by entry -/

theorem lt8 (t : Fin cfg0.N) : t.val < 8 := lt_of_lt_of_eq t.isLt N_0

theorem blk_0 (t : Fin cfg0.N) (r : Fin 512) (k : Fin 1024) :
    (iblk m c 0 t : FVec Ideal S512x1024 .f32) (ix2 r k) = arg0 m c (ix2 ⟨512 * t.val + r.val, by have := lt8 t; omega⟩ k) := by
  obtain ⟨i0, -, -, -, -⟩ := idx t
  blk_simp [iblk, V, i0]
  blk_ext [i0]

theorem blk_1 (t : Fin cfg0.N) (k : Fin 1024) : (iblk m c 1 t : FVec Ideal S1x1024 .f32) (ix2 (0 : Fin 1) k) = arg1 m c (ix2 (0 : Fin 1) k) := by
  obtain ⟨-, i1, -, -, -⟩ := idx t
  blk_simp [iblk, V, i1]
  blk_ext [i1]

theorem blk_2 (t : Fin cfg0.N) (k : Fin 1024) (j : Fin 5760) :
    (iblk m c 2 t : FVec Ideal S1024x5760 .bf16) (ix2 k j) = padded (fun j => arg2 m c (ix3 (0 : Fin 1) k j)) j := by
  obtain ⟨-, -, i2, -, -⟩ := idx t
  refine Eq.trans ?_ ((colsB_apply (truncf .bf16 (shapeCast _ (arg2 m c) shapeCasts_S1x1024x5664_S1024x5664) bitsLt_bf16_f32) k j).trans (congrArg (padded · j) (funext fun j => by pointwise)))
  refine Eq.trans ?_ (congrFun (V_8 m c) (ix2 k j))
  unfold iblk
  generalize V m c main_v8 = v
  blk_simp [i2]
  blk_ext [i2]

/-! ## The two halves of a grid point's rows -/

/-- A half's rows of a block of rows. -/
theorem ld_rows (x : S512x1024.Idx → Elt Ideal .f32) (o : ℕ) (hb) (r : Fin 256) (k : Fin 1024) (ho : o + r.val < 512) :
    View.ld (Val := Elt Ideal) x (Rect.unit (s := S512x1024) ![o, 0] ![256, 1024] hb) (ix2 r k) = x (ix2 ⟨o + r.val, ho⟩ k) :=
  View.ld_unit_apply_of _ _ _ _ _ _ fun a => by fin_cases a <;> simp [ix2]

/-- An entry of the norm. -/
def H (i : Fin 4096) (k : Fin 1024) : EReal := Rows.norm (fun k => arg0 m c (ix2 i k)) (fun k => arg1 m c (ix2 (0 : Fin 1) k)) k

/-- An entry of the projection, in the order of the weight's columns. -/
def P (i : Fin 4096) (j : Fin 5760) : EReal := padded (fun j => ∑ k : Fin 1024, H m c i k * arg2 m c (ix3 (0 : Fin 1) k j)) j

/-- A sum of products with columns in the kernel's order. -/
theorem padded_sum (h : Fin 1024 → EReal) (w : Fin 1024 → Fin 5664 → EReal) (j : Fin 5760) : ∑ k, h k * padded (w k) j = padded (fun j => ∑ k, h k * w k j) j := by
  unfold padded
  split_ifs
  · rfl
  · exact Finset.sum_eq_zero fun k _ => mul_zero _

section
variable (t : Fin cfg0.N) (o : ℕ) (ho : o + 256 ≤ 512) (h1) (w : FVec Ideal S1x1024 .f32) (hw : ∀ k, w (ix2 (0 : Fin 1) k) = arg1 m c (ix2 (0 : Fin 1) k)) (r : Fin 256) (k : Fin 1024) (j : Fin 5760)

include hw in
/-- A half's norms are the array's. -/
theorem half_h : Rows.norm (fun k => (View.ld (iblk m c 0 t) (Rect.unit (s := S512x1024) ![o, 0] ![256, 1024] h1) : FVec Ideal S256x1024 .f32) (ix2 r k)) (fun k => w (ix2 (0 : Fin 1) k)) k
    = H m c (Rows.row t.val (lt8 t) o ho r) k := by
  rw [funext fun k => (ld_rows (iblk m c 0 t) o h1 r k (by omega)).trans (blk_0 m c t _ k), funext hw]
  rfl

/-- A half's products are the array's. -/
theorem half_p (h : FVec Ideal S256x1024 .f32) (hh : ∀ r k, h (ix2 r k) = H m c (Rows.row t.val (lt8 t) o ho r) k) (b : FVec Ideal S1024x5760 .bf16)
    (hb : ∀ k j, b (ix2 k j) = padded (fun j => arg2 m c (ix3 (0 : Fin 1) k j)) j) :
    (k0_pay2 (F := Ideal) h b : FVec Ideal _ _) (ix2 r j) = P m c (Rows.row t.val (lt8 t) o ho r) j :=
  (pay2_apply h b r j).trans ((Finset.sum_congr rfl fun k _ => congrArg₂ (· * ·) (hh r k) (hb k j)).trans (padded_sum _ _ j))

end

/-! ## The two results -/

theorem emb (t : Fin cfg0.N) :
    (∀ y : ((cfg0.win 3).xblock (cfg0.grid.coords t)).Idx, ((((cfg0.win 3).blk t).view.emb y 0 : Fin _) : ℕ) = 512 * t.val + (y 0 : ℕ) ∧ ((((cfg0.win 3).blk t).view.emb y 1 : Fin _) : ℕ) = (y 1 : ℕ))
    ∧ (∀ y : ((cfg0.win 4).xblock (cfg0.grid.coords t)).Idx, ((((cfg0.win 4).blk t).view.emb y 0 : Fin _) : ℕ) = (y 0 : ℕ) ∧ ((((cfg0.win 4).blk t).view.emb y 1 : Fin _) : ℕ) = 512 * t.val + (y 1 : ℕ)) := by
  obtain ⟨-, -, -, i3, i4⟩ := idx t
  refine ⟨fun y => ⟨?_, ?_⟩, fun y => ⟨?_, ?_⟩⟩ <;> blk_simp [i3, i4] <;> try omega

/-- The second half's norms are the array's. -/
theorem second_half (t : Fin cfg0.N) (r : Fin 256) (k : Fin 1024) :
    (k0_pay7 (F := Ideal) (iblk m c 0 t) (iblk m c 1 t) (iblk m c 2 t) : FVec Ideal _ _) (ix2 r k) = H m c (Rows.row t.val (lt8 t) 256 (by omega) r) k := by
  unfold k0_pay7
  refine (pay6_apply _ _ r k).trans (half_h m c t 256 (by omega) _ _ (fun k => Eq.trans ?_ (blk_1 m c t k)) r k)
  exact View.ld_unit_apply_of _ _ _ _ _ _ fun a => by fin_cases a <;> simp [ix2]

/-- The first half's norms are the array's. -/
theorem first_half (t : Fin cfg0.N) (r : Fin 256) (k : Fin 1024) :
    (k0_pay3 (F := Ideal) (View.ld (iblk m c 0 t) r0_0) (iblk m c 1 t) : FVec Ideal _ _) (ix2 r k) = H m c (Rows.row t.val (lt8 t) 0 (by omega) r) k :=
  (pay3_apply _ _ r k).trans (half_h m c t 0 (by omega) _ _ (blk_1 m c t) r k)

theorem point_3 (t : Fin cfg0.N) (y : S512x5760.Idx) : out0_3 (iblk m c 0 t) (iblk m c 1 t) (iblk m c 2 t) y
    = P m c (((cfg0.win 3).blk t).view.emb y 0) (((cfg0.win 3).blk t).view.emb y 1) := by
  obtain ⟨e0, e1⟩ := (emb t).1 y
  frame_out
  canon_tiles x h
  · have hh := second_half m c t
    generalize k0_pay7 (F := Ideal) (iblk m c 0 t) (iblk m c 1 t) (iblk m c 2 t) = v at hh ⊢
    exact Rows.at_row (P m c) _ t.val (lt8 t) 256 (by omega) (fun r j => half_p m c t 256 (by omega) r j v hh _ (blk_2 m c t)) x _ (e0.trans (by rw [h0])) (e1.trans h1)
  · have hh := first_half m c t
    show (k0_pay2 (F := Ideal) (k0_pay3 (F := Ideal) (View.ld (iblk m c 0 t) r0_0) (iblk m c 1 t)) (iblk m c 2 t) : FVec Ideal _ _) x = _
    generalize k0_pay3 (F := Ideal) (View.ld (iblk m c 0 t) r0_0) (iblk m c 1 t) = v at hh ⊢
    exact Rows.at_row (P m c) _ t.val (lt8 t) 0 (by omega) (fun r j => half_p m c t 0 (by omega) r j v hh _ (blk_2 m c t)) x _ (e0.trans (by rw [h0, Nat.zero_add])) (e1.trans h1)

theorem point_4 (t : Fin cfg0.N) (y : S1024x512.Idx) : out0_4 (iblk m c 0 t) (iblk m c 1 t) (iblk m c 2 t) y
    = H m c (((cfg0.win 4).blk t).view.emb y 1) (((cfg0.win 4).blk t).view.emb y 0) := by
  obtain ⟨e0, e1⟩ := (emb t).2 y
  frame_out
  canon_tiles x h
  · have hh := second_half m c t
    generalize k0_pay7 (F := Ideal) (iblk m c 0 t) (iblk m c 1 t) (iblk m c 2 t) = v at hh ⊢
    exact Rows.at_col (H m c) _ t.val (lt8 t) 256 (by omega) (fun r k => (pay1_apply v r k).trans (hh r k)) x _ (e0.trans h0) (e1.trans (by rw [h1]))
  · have hh := first_half m c t
    show (k0_pay1 (F := Ideal) (k0_pay3 (F := Ideal) (View.ld (iblk m c 0 t) r0_0) (iblk m c 1 t)) : FVec Ideal _ _) x = _
    generalize k0_pay3 (F := Ideal) (View.ld (iblk m c 0 t) r0_0) (iblk m c 1 t) = v at hh ⊢
    exact Rows.at_col (H m c) _ t.val (lt8 t) 0 (by omega) (fun r k => (pay1_apply v r k).trans (hh r k)) x _ (e0.trans h0) (e1.trans (by rw [h1, Nat.zero_add]))

/-- The first result: the projection of the norm. -/
theorem final_3 : (dats m 0 c).arrAt 3 cfg0.N = fun y : S4096x5760.Idx => P m c (y 0) (y 1) := by
  refine (dats m 0 c).arrAt_eq_of_covers 3 _ (by decide +kernel) fun t hf y => ?_
  blk_simp; rw [after0_3]
  exact point_3 m c t y

/-- The second result: the norm with rows and columns exchanged. -/
theorem final_4 : (dats m 0 c).arrAt 4 cfg0.N = fun y : S1024x4096.Idx => H m c (y 1) (y 0) := by
  refine (dats m 0 c).arrAt_eq_of_covers 4 _ (by decide +kernel) fun t hf y => ?_
  blk_simp; rw [after0_4]
  exact point_4 m c t y

end Cert.InProjKernelIdeal.Value

end
-- ==== Proof.InProjClaim.lean ====
/- The input projection's kernel against its reference: the two results are the same over the reals. -/
module

public import Idealize.ShloMosaic.Lib.Claim
public import Idealize.ShloMosaic.Lib.Pipeline.ValueKit
public import proofs.«01_k».proof.Proof.Gen.InProjKernelIdeal.Value
public import proofs.«01_k».proof.Proof.Gen.InProjReferenceIdeal.Run
public import proofs.«01_k».proof.Proof.InProjValue
public import proofs.«01_k».proof.Defs

@[expose] public section

set_option maxRecDepth 16384

noncomputable section

open Idealize.ShloMosaic Idealize.ShloMosaic.TcCoe Idealize.SL.Sem
open scoped BigOperators

namespace Cert.InProjReferenceIdeal.Value

open Cert.InProjReferenceIdeal Cert.InProjReferenceIdeal.Gen
open Cert.NormInKernelIdeal.Value (padded colsA colsA_apply)

/-! ## The reference's results, entry by entry -/

section
variable (a0 : FVec Ideal S4096x1024 .f32) (a1 : FVec Ideal S1x1024 .f32) (a2 : FVec Ideal S1x1024x5664 .f32)

/-- The norm of each row. -/
def normed : FVec Ideal S4096x1024 .f32 :=
  mulf (mulf a0 (broadcastInDim S4096x1024 ![0, 1] bcast_S4096x1_S4096x1024_0_1 (Host.rsqrt (addf (Host.divf (broadcastInDim S4096x1 ![0] bcast_S4096_S4096x1_0
      (Host.reduceAdd (mulf a0 a0) (constant S_ .f32 0x00000000#32) reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 (shapeCast _ a1 shapeCasts_S1x1024_S1024)))

/-- The projection, before its columns are laid out. -/
def proj : FVec Ideal S4096x5664 .f32 := Host.dotGeneral dot_S4096x1024_S1024x5664_S4096x5664_1_0_0_1_n_n none (normed a0 a1) (shapeCast _ a2 shapeCasts_S1x1024x5664_S1024x5664)

/-- The first result: the projection's columns laid out. -/
def out0 : FVec Ideal S4096x5760 .f32 := (colsA (proj a0 a1 a2) : S4096x5760.Idx → EReal)

/-- The second result: the norm with rows and columns exchanged. -/
def out1 : FVec Ideal S1024x4096 .bf16 := truncf .bf16 (transpose S1024x4096 [1, 0] (normed a0 a1) transposes_S4096x1024_S1024x4096_1_0) bitsLt_bf16_f32

variable (i : Fin 4096) (k : Fin 1024)

theorem normed_apply : normed a0 a1 (ix2 i k) = Rows.norm (fun k => a0 (ix2 i k)) (fun k => a1 (ix2 (0 : Fin 1) k)) k := by
  pointwise [normed]
  rfl

theorem proj_apply (j : Fin 5664) : proj a0 a1 a2 (ix2 i j) = ∑ k : Fin 1024, normed a0 a1 (ix2 i k) * a2 (ix3 (0 : Fin 1) k j) := by
  unfold proj
  generalize normed a0 a1 = h
  pointwise

theorem out0_apply (j : Fin 5760) : out0 a0 a1 a2 (ix2 i j) = padded (fun j => ∑ k : Fin 1024, normed a0 a1 (ix2 i k) * a2 (ix3 (0 : Fin 1) k j)) j :=
  (colsA_apply (proj a0 a1 a2) i j).trans (congrArg (padded · j) (funext (proj_apply a0 a1 a2 i)))

theorem out1_apply : out1 a0 a1 (ix2 k i) = normed a0 a1 (ix2 i k) := by
  unfold out1
  generalize normed a0 a1 = h
  pointwise

end

section
variable (m : (ℓ : Loc nD τ sig) → Buf (Elt Ideal) ℓ) (c : Dev nD) {a0 : FVec Ideal S4096x1024 .f32} {a1 : FVec Ideal S1x1024 .f32} {a2 : FVec Ideal S1x1024x5664 .f32}

theorem result_0 (e0 : m ((c.tc : Thread nD τ).loc main_arg0) = a0) (e1 : m ((c.tc : Thread nD τ).loc main_arg1) = a1) (e2 : m ((c.tc : Thread nD τ).loc main_arg2) = a2) :
    res_main_v22 m c = out0 a0 a1 a2 := by
  subst e0 e1 e2
  rfl

end

end Cert.InProjReferenceIdeal.Value

namespace Cert.InProjKernelIdeal.Value

open Cert.InProjKernelIdeal Cert.InProjKernelIdeal.Gen Cert.InProjReferenceIdeal.Value

/-! ## The claim -/

section
variable (m : (ℓ : Loc nD τ sig) → Buf (Elt Ideal) ℓ) (c : Dev nD)

theorem H_ref (i : Fin 4096) (k : Fin 1024) : H m c i k = normed (arg0 m c) (arg1 m c) (ix2 i k) := (normed_apply _ _ i k).symm

theorem P_ref (i : Fin 4096) (j : Fin 5760) : P m c i j = out0 (arg0 m c) (arg1 m c) (arg2 m c) (ix2 i j) :=
  (congrArg (NormInKernelIdeal.Value.padded · j) (funext fun j => Finset.sum_congr rfl fun k _ => congrArg (· * _) (H_ref m c i k))).trans (out0_apply _ _ _ i j).symm

theorem first : (dats m 0 c).arrAt 3 cfg0.N = out0 (arg0 m c) (arg1 m c) (arg2 m c) := by
  rw [final_3]
  funext y
  have hy : y = ix2 (y 0 : Fin 4096) (y 1 : Fin 5760) := by
    funext a
    fin_cases a <;> rfl
  exact (P_ref m c _ _).trans (congrArg (out0 (arg0 m c) (arg1 m c) (arg2 m c)) hy.symm)

theorem second : (dats m 0 c).arrAt 4 cfg0.N = out1 (arg0 m c) (arg1 m c) := by
  rw [final_4]
  funext y
  have hy : y = ix2 (y 0 : Fin 1024) (y 1 : Fin 4096) := by
    funext a
    fin_cases a <;> rfl
  exact (H_ref m c _ _).trans ((out1_apply (arg0 m c) (arg1 m c) _ _).symm.trans (congrArg (out1 (arg0 m c) (arg1 m c)) hy.symm))

end

/-- The reference leaves its arguments as they were. -/
theorem reference_frame : Cert.quiescent_InProjReferenceIdeal := fun m ρ _ =>
  (θ_run Cert.InProjReferenceIdeal.defs _ _).mono (fun r h => ⟨fun c => (h c).2.2, sem_eq_zero_of_no_sems (by decide) r.2⟩)
    (Cert.InProjReferenceIdeal.Value.run (F := Ideal) m ρ)

/-- The kernel and its reference, run on the same arguments, leave the same two results over the real numbers. -/
theorem algebraic : Cert.algebraic_InProjKernelIdeal_InProjReferenceIdeal := by
  intro m g m' g' _ hagree
  refine ⟨_, _, run_blocks m g, (θ_run Cert.InProjReferenceIdeal.defs _ _).mono (fun r h c => ?_) (Cert.InProjReferenceIdeal.Value.run (F := Ideal) m' g')⟩
  obtain ⟨r0, r1, h⟩ := h c
  obtain ⟨e0, e1, e2⟩ := hagree c
  rw [e0, e1] at r1
  exact ⟨r0.trans ((result_0 m' c e0 e1 e2).trans (first m c).symm), r1.trans (second m c).symm, h⟩

end Cert.InProjKernelIdeal.Value

end
-- ==== Proof.FfnMath.lean ====
/- The gradient of the gate and the short convolution, one column at a time, as a function of the row.
   Rows are counted from 8: row `n` of a padded column is row `n - 8` of the array, and 0 outside it. -/
module

public import proofs.«01_k».proof.Proof.FoxReal
public import Idealize.ShloMosaic.Lib.Pipeline.ValueKit

@[expose] public section

noncomputable section

open scoped BigOperators

namespace Cert.FfnMath

open Idealize.ShloMosaic

/-- A column with zeros before and after it. -/
def padded (f : Fin 4096 → EReal) (n : ℕ) : EReal := if h : 8 ≤ n ∧ n < 4104 then f ⟨n - 8, by omega⟩ else 0

/-- Inside the array a padded column is the column. -/
theorem padded_in (f : Fin 4096 → EReal) (n : ℕ) (h : 8 ≤ n ∧ n < 4104) : padded f n = f ⟨n - 8, by omega⟩ := dif_pos h

/-- Outside the array a padded column is zero. -/
theorem padded_out (f : Fin 4096 → EReal) (n : ℕ) (h : ¬ (8 ≤ n ∧ n < 4104)) : padded f n = 0 := dif_neg h

/-- The convolution of three taps with a column, and the bias. -/
def conv (H : ℕ → EReal) (w : Fin 3 → EReal) (b : EReal) (n : ℕ) : EReal := w 2 * H n + w 0 * H (n - 2) + w 1 * H (n - 1) + b

/-- The logistic function. -/
def logi (x : EReal) : EReal := Ideal.div 1 (1 + Ideal.exp (0 - x))

/-- The gradient at the gate's convolution: `a` the incoming gradient, `g` the gate, `v` the other factor. -/
def dgate (a g v : EReal) : EReal := a * v * (logi g * (1 + g * (1 - logi g)))

/-- The gradient at the other factor's convolution. -/
def dval (a g : EReal) : EReal := a * (g * logi g)

/-- The gradient at the convolution's input. -/
def back (d : ℕ → EReal) (w : Fin 3 → EReal) (n : ℕ) : EReal := w 2 * d n + w 0 * d (n + 2) + w 1 * d (n + 1)

/-- What a row adds to the taps' gradient: rows 0, 1, 2 are the three taps, row 3 the bias, the rest is zero. -/
def tap (u : ℕ) (d H : ℕ → EReal) (n : ℕ) : EReal :=
  if u = 0 then d n * H (n - 2) else if u = 1 then d n * H (n - 1) else if u = 2 then d n * H n else if u = 3 then d n else 0

section
variable (h : Fin 4096 → Fin 5632 → EReal) (w : Fin 3 → Fin 5632 → EReal) (b : Fin 5632 → EReal) (a : Fin 4096 → Fin 2816 → EReal)

/-- A column of the first half, or of the second. -/
def col (p : Fin 2) (q : Fin 2816) : Fin 5632 := ⟨2816 * p.val + q.val, by omega⟩

/-- The convolution's padded input at a column. -/
def inp (s : Fin 5632) : ℕ → EReal := padded fun R => h R s

/-- The convolution at a column. -/
def cv (s : Fin 5632) (n : ℕ) : EReal := conv (inp h s) (fun j => w j s) (b s) n

/-- The gradient at the convolution's output: in the gate's columns for `p = 0`, in the other factor's for `p = 1`. -/
def grad (p : Fin 2) (q : Fin 2816) (n : ℕ) : EReal :=
  if p.val = 0 then dgate (padded (fun R => a R q) n) (cv h w b (col 0 q) n) (cv h w b (col 1 q) n)
  else dval (padded (fun R => a R q) n) (cv h w b (col 0 q) n)

/-- The first result: the gradient at the convolution's input. -/
def dh (p : Fin 2) (R : Fin 4096) (q : Fin 2816) : EReal := back (grad h w b a p q) (fun j => w j (col p q)) (8 + R.val)

/-- The other two results: the gradients of the taps and the bias. -/
def dw (p : Fin 2) (u : ℕ) (q : Fin 2816) : EReal := ∑ R : Fin 4096, tap u (grad h w b a p q) (inp h (col p q)) (8 + R.val)

/-- Outside the array there is no gradient. -/
theorem grad_out (p : Fin 2) (q : Fin 2816) (n : ℕ) (hn : ¬ (8 ≤ n ∧ n < 4104)) : grad h w b a p q n = 0 := by
  unfold grad dgate dval
  rw [padded_out _ n hn]
  split_ifs <;> simp only [zero_mul]

/-- Inside the array the incoming gradient is the array's row. -/
theorem padded_row (f : Fin 4096 → EReal) (R : Fin 4096) : padded f (8 + R.val) = f R :=
  (padded_in f _ (by omega)).trans (congrArg f (Fin.ext (by dsimp only; omega)))

end

/-! ## Real entries -/

/-- A value that is a real number. -/
def IsReal (x : EReal) : Prop := ∃ r : ℝ, x = r

theorem IsReal.mul {x y : EReal} : IsReal x → IsReal y → IsReal (x * y) := by
  rintro ⟨r, rfl⟩ ⟨s, rfl⟩
  exact ⟨r * s, FoxMath.coe_mul r s⟩

theorem IsReal.add {x y : EReal} : IsReal x → IsReal y → IsReal (x + y) := by
  rintro ⟨r, rfl⟩ ⟨s, rfl⟩
  exact ⟨r + s, (EReal.coe_add r s).symm⟩

theorem IsReal.logi {x : EReal} : IsReal x → IsReal (logi x) := by
  rintro ⟨r, rfl⟩
  unfold FfnMath.logi
  refine ⟨1 / (1 + Real.exp (0 - r)), ?_⟩
  have e : (1 : EReal) + Ideal.exp (0 - (r : EReal)) = ((1 + Real.exp (0 - r) : ℝ) : EReal) := by
    rw [EReal.coe_add, EReal.coe_one, ← Ideal.exp_coe, EReal.coe_sub, EReal.coe_zero]
  rw [e]
  exact FoxMath.coe_div 1 _ (by positivity)

theorem padded_real {f : Fin 4096 → EReal} (hf : ∀ R, IsReal (f R)) (n : ℕ) : IsReal (padded f n) := by
  by_cases hn : 8 ≤ n ∧ n < 4104
  · rw [padded_in f n hn]
    exact hf _
  · rw [padded_out f n hn]
    exact ⟨0, EReal.coe_zero.symm⟩

theorem conv_real {H : ℕ → EReal} {w : Fin 3 → EReal} {b : EReal} (hH : ∀ n, IsReal (H n)) (hw : ∀ j, IsReal (w j)) (hb : IsReal b) (n : ℕ) : IsReal (conv H w b n) :=
  ((((hw 2).mul (hH _)).add ((hw 0).mul (hH _))).add ((hw 1).mul (hH _))).add hb

/-- The gate's gradient, written as the two parts of the product rule. -/
theorem dgate_eq {a g v : EReal} (ha : IsReal a) (hg : IsReal g) (hv : IsReal v) :
    dgate a g v = a * v * logi g + g * (a * v) * (logi g * (1 - logi g)) := by
  unfold dgate
  have hs := hg.logi
  revert hs
  generalize logi g = s
  rintro ⟨s, rfl⟩
  obtain ⟨a, rfl⟩ := ha
  obtain ⟨g, rfl⟩ := hg
  obtain ⟨v, rfl⟩ := hv
  rw [← EReal.coe_one]
  simp only [← EReal.coe_mul, ← EReal.coe_add, ← EReal.coe_sub]
  exact congrArg _ (by ring)

end Cert.FfnMath

end
-- ==== Proof.FfnPay.lean ====
/- The payloads of the gate's and short convolution's gradient kernel, entry by entry over the real numbers. -/
module

public import proofs.«01_k».proof.Proof.FfnMath
public import proofs.«01_k».proof.Proof.Gen.FfnKernelIdeal.Frame
public import Idealize.ShloMosaic.Lib.Pipeline.Value
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.FfnKernelIdeal.Value

open Cert.FfnKernelIdeal Cert.FfnKernelIdeal.Gen Cert.FfnMath

section
variable (i : grid0.Coords) (p n : FVec Ideal S1x8x256 .f32) (x : FVec Ideal S1x1024x256 .f32) (w8 : FVec Ideal S8x256 .f32) (b w : FVec Ideal S1x256 .f32)
  (da : FVec Ideal S1024x256 .f32) (dn : FVec Ideal S8x256 .f32) (X X1 X2 s f a : FVec Ideal S1040x256 .f32) (e : Fin 1040) (r : Fin 1024) (k : Fin 256) (u : Fin 8)

/-- The rows of a tile with eight rows before and after it, at an entry. -/
theorem pay3_apply : (k0_pay3 (F := Ideal) i p x n : FVec Ideal _ _) (ix2 e k) =
    if h : e.val < 8 then Scalar.select (Scalar.cmpi CmpIPredicate.eq (BitVec.ofNat 32 (i 1).val) 0#32) 0 (p (ix3 (0 : Fin 1) ⟨e.val, h⟩ k))
    else if h : e.val - 8 < 1024 then x (ix3 (0 : Fin 1) ⟨e.val - 8, h⟩ k) else n (ix3 (0 : Fin 1) ⟨e.val - 8 - 1024, by omega⟩ k) := by
  pointwise [k0_pay3]

/-- The second half's rows likewise. -/
theorem pay6_eq : k0_pay6 (F := Ideal) i p x n = k0_pay3 (F := Ideal) i p x n := rfl

/-- The rows moved down by one. -/
theorem pay4_apply (he : 2 ≤ e.val) : (k0_pay4 (F := Ideal) i p x n : FVec Ideal _ _) (ix2 e k) = (k0_pay3 (F := Ideal) i p x n : FVec Ideal _ _) (ix2 ⟨e.val - 1, by omega⟩ k) := by
  unfold k0_pay4
  generalize k0_pay3 (F := Ideal) i p x n = g
  pointwise
  exact congrArg (fun z => g (ix2 z k)) (Fin.ext (by dsimp only; omega))

/-- The rows moved down by two. -/
theorem pay5_apply (he : 2 ≤ e.val) : (k0_pay5 (F := Ideal) i p x n : FVec Ideal _ _) (ix2 e k) = (k0_pay3 (F := Ideal) i p x n : FVec Ideal _ _) (ix2 ⟨e.val - 2, by omega⟩ k) := by
  unfold k0_pay5
  generalize k0_pay3 (F := Ideal) i p x n = g
  pointwise
  exact congrArg (fun z => g (ix2 z k)) (Fin.ext (by dsimp only; omega))

theorem pay7_eq : k0_pay7 (F := Ideal) i p x n = k0_pay4 (F := Ideal) i p x n := rfl
theorem pay8_eq : k0_pay8 (F := Ideal) i p x n = k0_pay5 (F := Ideal) i p x n := rfl

theorem pay9_apply : (k0_pay9 (F := Ideal) w8 : FVec Ideal _ _) (ix2 u k) = w8 (ix2 u k) := by
  pointwise [k0_pay9]

theorem pay10_apply : (k0_pay10 (F := Ideal) i p x n w8 : FVec Ideal _ _) (ix2 e k) = w8 (ix2 (2 : Fin 8) k) * (k0_pay3 (F := Ideal) i p x n : FVec Ideal _ _) (ix2 e k) := by
  unfold k0_pay10
  generalize k0_pay3 (F := Ideal) i p x n = g
  pointwise
  exact congrArg (· * _) (pay9_apply w8 k 2)

theorem pay11_apply : (k0_pay11 (F := Ideal) w8 : FVec Ideal _ _) (ix2 (0 : Fin 1) k) = w8 (ix2 (0 : Fin 8) k) := by
  pointwise [k0_pay11]
  exact pay9_apply w8 k 0

theorem pay12_apply : (k0_pay12 (F := Ideal) X1 X2 w8 X w b : FVec Ideal _ _) (ix2 e k) = X (ix2 e k) + w (ix2 (0 : Fin 1) k) * X2 (ix2 e k) + w8 (ix2 (1 : Fin 8) k) * X1 (ix2 e k) + b (ix2 (0 : Fin 1) k) := by
  pointwise [k0_pay12]

theorem pay13_apply : (k0_pay13 (F := Ideal) X X1 X2 w8 b : FVec Ideal _ _) (ix2 e k)
    = w8 (ix2 (2 : Fin 8) k) * X (ix2 e k) + w8 (ix2 (0 : Fin 8) k) * X2 (ix2 e k) + w8 (ix2 (1 : Fin 8) k) * X1 (ix2 e k) + b (ix2 (0 : Fin 1) k) := by
  pointwise [k0_pay13]

theorem pay14_apply (v : BitVec 1) : (k0_pay14 (F := Ideal) v da dn : FVec Ideal _ _) (ix2 e k) =
    if h : e.val < 8 then 0 else if h : e.val - 8 < 1024 then da (ix2 ⟨e.val - 8, h⟩ k) else Scalar.select v 0 (dn (ix2 ⟨e.val - 8 - 1024, by omega⟩ k)) := by
  pointwise [k0_pay14]

theorem pay15_apply : (k0_pay15 (F := Ideal) X1 X2 w8 X w b : FVec Ideal _ _) (ix2 e k) = logi ((k0_pay12 (F := Ideal) X1 X2 w8 X w b : FVec Ideal _ _) (ix2 e k)) := by
  unfold k0_pay15 logi
  generalize k0_pay12 (F := Ideal) X1 X2 w8 X w b = g
  pointwise

theorem pay16_apply : (k0_pay16 (F := Ideal) X1 X2 w8 X w b : FVec Ideal _ _) (ix2 e k)
    = (k0_pay12 (F := Ideal) X1 X2 w8 X w b : FVec Ideal _ _) (ix2 e k) * (k0_pay15 (F := Ideal) X1 X2 w8 X w b : FVec Ideal _ _) (ix2 e k) := by
  unfold k0_pay16
  generalize k0_pay12 (F := Ideal) X1 X2 w8 X w b = g
  generalize k0_pay15 (F := Ideal) X1 X2 w8 X w b = g'
  pointwise

theorem pay17_apply : (k0_pay17 (F := Ideal) X1 X2 w8 X w b : FVec Ideal _ _) (ix2 e k)
    = 1 + (k0_pay12 (F := Ideal) X1 X2 w8 X w b : FVec Ideal _ _) (ix2 e k) * (1 - (k0_pay15 (F := Ideal) X1 X2 w8 X w b : FVec Ideal _ _) (ix2 e k)) := by
  unfold k0_pay17
  generalize k0_pay12 (F := Ideal) X1 X2 w8 X w b = g
  generalize k0_pay15 (F := Ideal) X1 X2 w8 X w b = g'
  pointwise

theorem pay18_apply : (k0_pay18 (F := Ideal) X a s f : FVec Ideal _ _) (ix2 e k) = a (ix2 e k) * X (ix2 e k) * (s (ix2 e k) * f (ix2 e k)) := by
  pointwise [k0_pay18]

theorem pay19_apply : (k0_pay19 (F := Ideal) a s : FVec Ideal _ _) (ix2 e k) = a (ix2 e k) * s (ix2 e k) := by
  pointwise [k0_pay19]

/-- A tile's rows of the gradient at the convolution's input, from the gradient at its output. -/
def backAt (d : FVec Ideal S1040x256 .f32) : EReal :=
  w8 (ix2 (2 : Fin 8) k) * d (ix2 ⟨8 + r.val, by omega⟩ k) + w8 (ix2 (0 : Fin 8) k) * d (ix2 ⟨8 + r.val + 2, by omega⟩ k) + w8 (ix2 (1 : Fin 8) k) * d (ix2 ⟨8 + r.val + 1, by omega⟩ k)

theorem pay20_apply : (k0_pay20 (F := Ideal) X a s f w8 : FVec Ideal _ _) (ix3 (0 : Fin 1) r k) = backAt w8 r k (k0_pay18 (F := Ideal) X a s f) := by
  unfold k0_pay20 backAt
  generalize k0_pay18 (F := Ideal) X a s f = g
  pointwise
  refine congrArg₂ (fun y z => _ + w8 (ix2 (0 : Fin 8) k) * g (ix2 y k) + w8 (ix2 (1 : Fin 8) k) * g (ix2 z k)) (Fin.ext ?_) (Fin.ext ?_) <;> (dsimp only; omega)

theorem pay21_apply : (k0_pay21 (F := Ideal) a s w8 : FVec Ideal _ _) (ix3 (0 : Fin 1) r k) = backAt w8 r k (k0_pay19 (F := Ideal) a s) := by
  unfold k0_pay21 backAt
  generalize k0_pay19 (F := Ideal) a s = g
  pointwise
  refine congrArg₂ (fun y z => _ + w8 (ix2 (0 : Fin 8) k) * g (ix2 y k) + w8 (ix2 (1 : Fin 8) k) * g (ix2 z k)) (Fin.ext ?_) (Fin.ext ?_) <;> (dsimp only; omega)

/-- One of eight sums by the row's number. -/
theorem pick (A0 A1 A2 A3 : EReal) : Scalar.select (IntOp.cmpi CmpIPredicate.eq (BitVec.ofNat 32 u.val) 0#32) A0 0
    + Scalar.select (IntOp.cmpi CmpIPredicate.eq (BitVec.ofNat 32 u.val) 1#32) A1 0
    + Scalar.select (IntOp.cmpi CmpIPredicate.eq (BitVec.ofNat 32 u.val) 2#32) A2 0
    + Scalar.select (IntOp.cmpi CmpIPredicate.eq (BitVec.ofNat 32 u.val) 3#32) A3 0
    = if u.val = 0 then A0 else if u.val = 1 then A1 else if u.val = 2 then A2 else if u.val = 3 then A3 else 0 := by
  fin_cases u <;> simp [Scalar.select, IntOp.cmpi]

/-- What a tile's row adds to the taps' gradient. -/
def tapAt (y : Fin 1024) : EReal :=
  if u.val = 0 then a (ix2 ⟨8 + y.val, by omega⟩ k) * X2 (ix2 ⟨8 + y.val, by omega⟩ k) else if u.val = 1 then a (ix2 ⟨8 + y.val, by omega⟩ k) * X1 (ix2 ⟨8 + y.val, by omega⟩ k)
  else if u.val = 2 then a (ix2 ⟨8 + y.val, by omega⟩ k) * X (ix2 ⟨8 + y.val, by omega⟩ k) else if u.val = 3 then a (ix2 ⟨8 + y.val, by omega⟩ k) else 0

theorem pay22_apply : (k0_pay22 (F := Ideal) X X1 X2 a : FVec Ideal _ _) (ix2 u k) = ∑ y, tapAt X X1 X2 a k u y := by
  unfold tapAt
  refine Eq.trans (b := _) ?_ ((pick u (∑ y : Fin 1024, a (ix2 ⟨8 + y.val, by omega⟩ k) * X2 (ix2 ⟨8 + y.val, by omega⟩ k)) (∑ y : Fin 1024, a (ix2 ⟨8 + y.val, by omega⟩ k) * X1 (ix2 ⟨8 + y.val, by omega⟩ k))
    (∑ y : Fin 1024, a (ix2 ⟨8 + y.val, by omega⟩ k) * X (ix2 ⟨8 + y.val, by omega⟩ k)) (∑ y : Fin 1024, a (ix2 ⟨8 + y.val, by omega⟩ k))).trans ?_)
  · pointwise [k0_pay22]
  · split_ifs <;> first | rfl | exact Finset.sum_const_zero.symm

theorem pay25_apply : (k0_pay25 (F := Ideal) X X1 (k0_pay23 (F := Ideal) a) (k0_pay24 (F := Ideal) X2) : FVec Ideal _ _) (ix2 u k) = ∑ y, tapAt X X1 X2 a k u y := by
  unfold tapAt
  refine Eq.trans (b := _) ?_ ((pick u (∑ y : Fin 1024, a (ix2 ⟨8 + y.val, by omega⟩ k) * X2 (ix2 ⟨8 + y.val, by omega⟩ k)) (∑ y : Fin 1024, a (ix2 ⟨8 + y.val, by omega⟩ k) * X1 (ix2 ⟨8 + y.val, by omega⟩ k))
    (∑ y : Fin 1024, a (ix2 ⟨8 + y.val, by omega⟩ k) * X (ix2 ⟨8 + y.val, by omega⟩ k)) (∑ y : Fin 1024, a (ix2 ⟨8 + y.val, by omega⟩ k))).trans ?_)
  · pointwise [k0_pay25, k0_pay23, k0_pay24]
  · split_ifs <;> first | rfl | exact Finset.sum_const_zero.symm

theorem pay1_apply (o z : FVec Ideal S8x256 .f32) (y : S8x256.Idx) : (k0_pay1 (F := Ideal) z o : FVec Ideal _ _) y = o y + z y := by
  pointwise [k0_pay1]

theorem pay2_apply (o z : FVec Ideal S8x256 .f32) (y : S8x256.Idx) : (k0_pay2 (F := Ideal) z o : FVec Ideal _ _) y = o y + z y := by
  pointwise [k0_pay2]
end

end Cert.FfnKernelIdeal.Value

end
-- ==== Proof.FfnValue.lean ====
/- The gate's and short convolution's gradient kernel over the real numbers: what its results hold at the end, in terms of its arguments.
   A grid point is a tile of 1024 rows and 256 columns of each half; the taps' gradients add up over the four tiles of a column. -/
module

public import proofs.«01_k».proof.Proof.FfnPay

@[expose] public section

set_option maxRecDepth 16384

noncomputable section

open Idealize.ShloMosaic Idealize.ShloMosaic.TcCoe Idealize.SL.Sem
open Idealize.ShloMosaic.Pipeline (Dat)
open scoped BigOperators

namespace Cert.FfnKernelIdeal.Value

open Cert.FfnKernelIdeal Cert.FfnKernelIdeal.Gen Cert.FfnMath

variable (m : (ℓ : Loc nD τ sig) → Buf (Elt Ideal) ℓ) (c : Dev nD)

/-- The arguments: the convolution's input, its taps, its bias and the incoming gradient. -/
abbrev arg0 : FVec Ideal S4096x5632 .f32 := m ((c.tc : Thread nD τ).loc main_arg0)
@[inherit_doc arg0] abbrev arg1 : FVec Ideal S1x3x5632 .f32 := m ((c.tc : Thread nD τ).loc main_arg1)
@[inherit_doc arg0] abbrev arg2 : FVec Ideal S1x5632 .f32 := m ((c.tc : Thread nD τ).loc main_arg2)
@[inherit_doc arg0] abbrev arg3 : FVec Ideal S4096x2816 .f32 := m ((c.tc : Thread nD τ).loc main_arg3)

/-- The arguments as functions of row and column. -/
def h (R : Fin 4096) (s : Fin 5632) : EReal := arg0 m c (ix2 R s)
@[inherit_doc h] def w (j : Fin 3) (s : Fin 5632) : EReal := arg1 m c (ix3 (0 : Fin 1) j s)
@[inherit_doc h] def b (s : Fin 5632) : EReal := arg2 m c (ix2 (0 : Fin 1) s)
@[inherit_doc h] def a (R : Fin 4096) (q : Fin 2816) : EReal := arg3 m c (ix2 R q)

/-- The block each window reads or writes at a grid point. -/
theorem idx : ∀ t : Fin cfg0.N, win0_0.index t = ![0, t.val % 4, t.val / 4] ∧ win0_1.index t = ![1, t.val % 4, t.val / 4]
    ∧ win0_2.index t = ![0, 128 * (t.val % 4) - 1, t.val / 4] ∧ win0_3.index t = ![1, 128 * (t.val % 4) - 1, t.val / 4]
    ∧ win0_4.index t = ![0, min (128 * (t.val % 4 + 1)) 511, t.val / 4] ∧ win0_5.index t = ![1, min (128 * (t.val % 4 + 1)) 511, t.val / 4]
    ∧ win0_6.index t = ![t.val % 4, t.val / 4] ∧ win0_7.index t = ![min (128 * (t.val % 4 + 1)) 511, t.val / 4]
    ∧ win0_8.index t = ![0, t.val / 4] ∧ win0_9.index t = ![0, t.val / 4 + 11] ∧ win0_10.index t = ![0, t.val / 4] ∧ win0_11.index t = ![0, t.val / 4 + 11]
    ∧ win0_12.index t = ![0, t.val % 4, t.val / 4] ∧ win0_13.index t = ![0, t.val / 4] ∧ win0_14.index t = ![0, t.val / 4] :=
  (by decide +kernel : ∀ t : Fin grid0.N, _)

theorem lt44 (t : Fin cfg0.N) : t.val < 44 := lt_of_lt_of_eq t.isLt N_0

/-- The second grid coordinate is the tile's number in its column. -/
theorem coord : ∀ t : Fin cfg0.N, ((grid0.coords t) 1).val = t.val % 4 := (by decide +kernel : ∀ t : Fin grid0.N, _)

/-! ## What the host prepares -/

/-- The two halves of the convolution's input, one after the other. -/
def stack (x : FVec Ideal S4096x5632 .f32) : FVec Ideal S2x4096x2816 .f32 :=
  concatenate S2x4096x2816 0 [⟨S1x4096x2816, broadcastInDim S1x4096x2816 ![1, 2] bcast_S4096x2816_S1x4096x2816_1_2 (extractStridedSlice S4096x2816 ![0, 0] x slices_S4096x5632_S4096x2816_0_0)⟩,
    ⟨S1x4096x2816, broadcastInDim S1x4096x2816 ![1, 2] bcast_S4096x2816_S1x4096x2816_1_2 (extractStridedSlice S4096x2816 ![0, 2816] x slices_S4096x5632_S4096x2816_0_2816)⟩] concatenates_S1x4096x2816_S1x4096x2816_S2x4096x2816_d0

theorem stack_apply (x : FVec Ideal S4096x5632 .f32) (p : Fin 2) (R : Fin 4096) (q : Fin 2816) : stack x (ix3 p R q) = x (ix2 R (col p q)) := by
  fin_cases p
  · pointwise [stack]
    exact congrArg (fun z => x (ix2 R z)) (Fin.ext (by dsimp only [col]; omega))
  · pointwise [stack]
    exact congrArg (fun z => x (ix2 R z)) (Fin.ext (by dsimp only [col]; omega))

theorem V_4 : V m c main_v4 = stack (arg0 m c) := by
  unfold V
  simp only [hostOps0, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

/-- The taps with five rows of zeros after them. -/
def taps (x : FVec Ideal S1x3x5632 .f32) : FVec Ideal S8x5632 .f32 :=
  pad S8x5632 ![0, 0] ![5, 0] ![0, 0] (shapeCast S3x5632 x shapeCasts_S1x3x5632_S3x5632) (sitofp .f32 (constantI S_ 32 0#32)) pads_S3x5632_S8x5632_050_000 h_S_

theorem taps_apply (x : FVec Ideal S1x3x5632 .f32) (j : Fin 3) (s : Fin 5632) : taps x (ix2 ⟨j.val, by omega⟩ s) = x (ix3 (0 : Fin 1) j s) := by
  pointwise [taps]

theorem V_6 : V m c main_v6 = taps (arg1 m c) := by
  unfold V
  simp only [hostOps0, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

/-! ## The blocks a grid point reads -/

section
variable (t : Fin cfg0.N) (k : Fin 256)

/-- The column of a half that a tile's column is. -/
def cq : Fin 2816 := ⟨256 * (t.val / 4) + k.val, by have := lt44 t; omega⟩

theorem blk_0 (r : Fin 1024) : (iblk m c 0 t : FVec Ideal S1x1024x256 .f32) (ix3 (0 : Fin 1) r k) = h m c ⟨1024 * (t.val % 4) + r.val, by omega⟩ (col 0 (cq t k)) := by
  obtain ⟨i0, -⟩ := idx t
  refine Eq.trans ?_ (stack_apply (arg0 m c) 0 ⟨1024 * (t.val % 4) + r.val, by omega⟩ (cq t k))
  refine Eq.trans ?_ (congrFun (V_4 m c) _)
  unfold iblk
  generalize V m c main_v4 = v
  blk_simp [i0]
  blk_ext [i0, cq]

theorem blk_1 (r : Fin 1024) : (iblk m c 1 t : FVec Ideal S1x1024x256 .f32) (ix3 (0 : Fin 1) r k) = h m c ⟨1024 * (t.val % 4) + r.val, by omega⟩ (col 1 (cq t k)) := by
  obtain ⟨-, i0, -⟩ := idx t
  refine Eq.trans ?_ (stack_apply (arg0 m c) 1 ⟨1024 * (t.val % 4) + r.val, by omega⟩ (cq t k))
  refine Eq.trans ?_ (congrFun (V_4 m c) _)
  unfold iblk
  generalize V m c main_v4 = v
  blk_simp [i0]
  blk_ext [i0, cq]

theorem blk_2 (r : Fin 8) (h4 : t.val % 4 ≠ 0) : (iblk m c 2 t : FVec Ideal S1x8x256 .f32) (ix3 (0 : Fin 1) r k) = h m c ⟨1024 * (t.val % 4) + r.val - 8, by omega⟩ (col 0 (cq t k)) := by
  obtain ⟨-, -, i0, -⟩ := idx t
  refine Eq.trans ?_ (stack_apply (arg0 m c) 0 ⟨1024 * (t.val % 4) + r.val - 8, by omega⟩ (cq t k))
  refine Eq.trans ?_ (congrFun (V_4 m c) _)
  unfold iblk
  generalize V m c main_v4 = v
  blk_simp [i0]
  blk_ext [i0, cq]

theorem blk_3 (r : Fin 8) (h4 : t.val % 4 ≠ 0) : (iblk m c 3 t : FVec Ideal S1x8x256 .f32) (ix3 (0 : Fin 1) r k) = h m c ⟨1024 * (t.val % 4) + r.val - 8, by omega⟩ (col 1 (cq t k)) := by
  obtain ⟨-, -, -, i0, -⟩ := idx t
  refine Eq.trans ?_ (stack_apply (arg0 m c) 1 ⟨1024 * (t.val % 4) + r.val - 8, by omega⟩ (cq t k))
  refine Eq.trans ?_ (congrFun (V_4 m c) _)
  unfold iblk
  generalize V m c main_v4 = v
  blk_simp [i0]
  blk_ext [i0, cq]

theorem blk_4 (r : Fin 8) (h4 : t.val % 4 ≠ 3) : (iblk m c 4 t : FVec Ideal S1x8x256 .f32) (ix3 (0 : Fin 1) r k) = h m c ⟨1024 * (t.val % 4) + 1024 + r.val, by omega⟩ (col 0 (cq t k)) := by
  obtain ⟨-, -, -, -, i0, -⟩ := idx t
  refine Eq.trans ?_ (stack_apply (arg0 m c) 0 ⟨1024 * (t.val % 4) + 1024 + r.val, by omega⟩ (cq t k))
  refine Eq.trans ?_ (congrFun (V_4 m c) _)
  unfold iblk
  generalize V m c main_v4 = v
  blk_simp [i0]
  blk_ext [i0, cq]

theorem blk_5 (r : Fin 8) (h4 : t.val % 4 ≠ 3) : (iblk m c 5 t : FVec Ideal S1x8x256 .f32) (ix3 (0 : Fin 1) r k) = h m c ⟨1024 * (t.val % 4) + 1024 + r.val, by omega⟩ (col 1 (cq t k)) := by
  obtain ⟨-, -, -, -, -, i0, -⟩ := idx t
  refine Eq.trans ?_ (stack_apply (arg0 m c) 1 ⟨1024 * (t.val % 4) + 1024 + r.val, by omega⟩ (cq t k))
  refine Eq.trans ?_ (congrFun (V_4 m c) _)
  unfold iblk
  generalize V m c main_v4 = v
  blk_simp [i0]
  blk_ext [i0, cq]

theorem blk_6 (r : Fin 1024) : (iblk m c 6 t : FVec Ideal S1024x256 .f32) (ix2 r k) = a m c ⟨1024 * (t.val % 4) + r.val, by omega⟩ (cq t k) := by
  obtain ⟨-, -, -, -, -, -, i0, -⟩ := idx t
  unfold a
  blk_simp [iblk, V, i0]
  blk_ext [i0, cq]

theorem blk_7 (r : Fin 8) (h4 : t.val % 4 ≠ 3) : (iblk m c 7 t : FVec Ideal S8x256 .f32) (ix2 r k) = a m c ⟨1024 * (t.val % 4) + 1024 + r.val, by omega⟩ (cq t k) := by
  obtain ⟨-, -, -, -, -, -, -, i0, -⟩ := idx t
  unfold a
  blk_simp [iblk, V, i0]
  blk_ext [i0, cq]

theorem blk_8 (j : Fin 3) : (iblk m c 8 t : FVec Ideal S8x256 .f32) (ix2 ⟨j.val, by omega⟩ k) = w m c j (col 0 (cq t k)) := by
  obtain ⟨-, -, -, -, -, -, -, -, i0, -⟩ := idx t
  refine Eq.trans ?_ (taps_apply (arg1 m c) j (col 0 (cq t k)))
  refine Eq.trans ?_ (congrFun (V_6 m c) _)
  unfold iblk
  generalize V m c main_v6 = v
  blk_simp [i0]
  blk_ext [i0, cq, col]

theorem blk_9 (j : Fin 3) : (iblk m c 9 t : FVec Ideal S8x256 .f32) (ix2 ⟨j.val, by omega⟩ k) = w m c j (col 1 (cq t k)) := by
  obtain ⟨-, -, -, -, -, -, -, -, -, i0, -⟩ := idx t
  refine Eq.trans ?_ (taps_apply (arg1 m c) j (col 1 (cq t k)))
  refine Eq.trans ?_ (congrFun (V_6 m c) _)
  unfold iblk
  generalize V m c main_v6 = v
  blk_simp [i0]
  blk_ext [i0, cq, col]

theorem blk_10 : (iblk m c 10 t : FVec Ideal S1x256 .f32) (ix2 (0 : Fin 1) k) = b m c (col 0 (cq t k)) := by
  obtain ⟨-, -, -, -, -, -, -, -, -, -, i0, -⟩ := idx t
  unfold b
  blk_simp [iblk, V, i0]
  blk_ext [i0, cq, col]

theorem blk_11 : (iblk m c 11 t : FVec Ideal S1x256 .f32) (ix2 (0 : Fin 1) k) = b m c (col 1 (cq t k)) := by
  obtain ⟨-, -, -, -, -, -, -, -, -, -, -, i0, -⟩ := idx t
  unfold b
  blk_simp [iblk, V, i0]
  blk_ext [i0, cq, col]

/-! ## A tile's rows -/

/-- Whether a tile is its column's first, and whether it is the last. -/
theorem first : ∀ t : Fin cfg0.N, Scalar.cmpi CmpIPredicate.eq (BitVec.ofNat 32 ((grid0.coords t) 1).val) 0#32 = if t.val % 4 = 0 then 1#1 else 0#1 :=
  (by decide +kernel : ∀ t : Fin grid0.N, _)
@[inherit_doc first] theorem last : ∀ t : Fin cfg0.N, Scalar.cmpi CmpIPredicate.eq (BitVec.ofNat 32 ((grid0.coords t) 1).val) 3#32 = if t.val % 4 = 3 then 1#1 else 0#1 :=
  (by decide +kernel : ∀ t : Fin grid0.N, _)

/-- A tile's rows with the eight before and the eight after them are the padded column's rows, as far as the array goes. -/
theorem ext_apply (s : Fin 5632) {p n : FVec Ideal S1x8x256 .f32} {x : FVec Ideal S1x1024x256 .f32}
    (hp : ∀ (r : Fin 8) (h4 : t.val % 4 ≠ 0), p (ix3 (0 : Fin 1) r k) = h m c ⟨1024 * (t.val % 4) + r.val - 8, by omega⟩ s)
    (hx : ∀ r : Fin 1024, x (ix3 (0 : Fin 1) r k) = h m c ⟨1024 * (t.val % 4) + r.val, by omega⟩ s)
    (hn : ∀ (r : Fin 8) (h4 : t.val % 4 ≠ 3), n (ix3 (0 : Fin 1) r k) = h m c ⟨1024 * (t.val % 4) + 1024 + r.val, by omega⟩ s)
    (e : Fin 1040) (he : 1024 * (t.val % 4) + e.val < 4104) :
    (k0_pay3 (F := Ideal) (grid0.coords t) p x n : FVec Ideal _ _) (ix2 e k) = inp (h m c) s (1024 * (t.val % 4) + e.val) := by
  rw [pay3_apply, first]
  unfold inp
  by_cases e8 : e.val < 8
  · rw [dif_pos e8]
    by_cases h4 : t.val % 4 = 0
    · rw [if_pos h4, padded_out _ _ (by omega)]
      rfl
    · rw [if_neg h4, padded_in _ _ (by omega)]
      exact hp ⟨e.val, e8⟩ h4
  · rw [dif_neg e8, padded_in _ _ (by omega)]
    by_cases e1 : e.val - 8 < 1024
    · rw [dif_pos e1, hx]
      exact congrArg (h m c · s) (Fin.ext (by dsimp only; omega))
    · rw [dif_neg e1, hn _ (by omega)]
      exact congrArg (h m c · s) (Fin.ext (by dsimp only; omega))

/-- The tile's rows of the first half and of the second, in place and moved down by one and by two. -/
abbrev gX : FVec Ideal S1040x256 .f32 := k0_pay3 (grid0.coords t) (iblk m c 2 t) (iblk m c 0 t) (iblk m c 4 t)
@[inherit_doc gX] abbrev gX1 : FVec Ideal S1040x256 .f32 := k0_pay4 (grid0.coords t) (iblk m c 2 t) (iblk m c 0 t) (iblk m c 4 t)
@[inherit_doc gX] abbrev gX2 : FVec Ideal S1040x256 .f32 := k0_pay5 (grid0.coords t) (iblk m c 2 t) (iblk m c 0 t) (iblk m c 4 t)
@[inherit_doc gX] abbrev vX : FVec Ideal S1040x256 .f32 := k0_pay6 (grid0.coords t) (iblk m c 3 t) (iblk m c 1 t) (iblk m c 5 t)
@[inherit_doc gX] abbrev vX1 : FVec Ideal S1040x256 .f32 := k0_pay7 (grid0.coords t) (iblk m c 3 t) (iblk m c 1 t) (iblk m c 5 t)
@[inherit_doc gX] abbrev vX2 : FVec Ideal S1040x256 .f32 := k0_pay8 (grid0.coords t) (iblk m c 3 t) (iblk m c 1 t) (iblk m c 5 t)

/-- Arrays that are a tile's rows of the padded column `s`, in place and moved down by one and by two. -/
structure Rows (s : Fin 5632) (X X1 X2 : FVec Ideal S1040x256 .f32) : Prop where
  here : ∀ e : Fin 1040, 1024 * (t.val % 4) + e.val < 4104 → X (ix2 e k) = inp (h m c) s (1024 * (t.val % 4) + e.val)
  one : ∀ e : Fin 1040, 2 ≤ e.val → 1024 * (t.val % 4) + e.val < 4104 → X1 (ix2 e k) = inp (h m c) s (1024 * (t.val % 4) + e.val - 1)
  two : ∀ e : Fin 1040, 2 ≤ e.val → 1024 * (t.val % 4) + e.val < 4104 → X2 (ix2 e k) = inp (h m c) s (1024 * (t.val % 4) + e.val - 2)

theorem rows_of (s : Fin 5632) {p n : FVec Ideal S1x8x256 .f32} {x : FVec Ideal S1x1024x256 .f32}
    (H : ∀ e : Fin 1040, 1024 * (t.val % 4) + e.val < 4104 → (k0_pay3 (F := Ideal) (grid0.coords t) p x n : FVec Ideal _ _) (ix2 e k) = inp (h m c) s (1024 * (t.val % 4) + e.val)) :
    Rows m c t k s (k0_pay3 (F := Ideal) (grid0.coords t) p x n) (k0_pay4 (F := Ideal) (grid0.coords t) p x n) (k0_pay5 (F := Ideal) (grid0.coords t) p x n) :=
  ⟨H, fun e e2 he => (pay4_apply _ p n x e k e2).trans ((H _ (by dsimp only; omega)).trans (congrArg _ (by dsimp only; omega))),
    fun e e2 he => (pay5_apply _ p n x e k e2).trans ((H _ (by dsimp only; omega)).trans (congrArg _ (by dsimp only; omega)))⟩

theorem gate_rows : Rows m c t k (col 0 (cq t k)) (gX m c t) (gX1 m c t) (gX2 m c t) :=
  rows_of m c t k _ (ext_apply m c t k _ (blk_2 m c t k) (blk_0 m c t k) (blk_4 m c t k))

theorem val_rows : Rows m c t k (col 1 (cq t k)) (vX m c t) (vX1 m c t) (vX2 m c t) :=
  rows_of m c t k _ (ext_apply m c t k _ (blk_3 m c t k) (blk_1 m c t k) (blk_5 m c t k))

/-- The incoming gradient's rows, likewise, with zeros past the array's end. -/
theorem da_apply (e : Fin 1040) (e8 : 8 ≤ e.val) :
    (k0_pay14 (F := Ideal) (Scalar.cmpi CmpIPredicate.eq (BitVec.ofNat 32 ((grid0.coords t) 1).val) 3#32) (iblk m c 6 t) (iblk m c 7 t) : FVec Ideal _ _) (ix2 e k)
      = padded (fun R => a m c R (cq t k)) (1024 * (t.val % 4) + e.val) := by
  rw [pay14_apply, last, dif_neg (by omega)]
  by_cases e1 : e.val - 8 < 1024
  · rw [dif_pos e1, padded_in _ _ (by omega), blk_6]
    exact congrArg (a m c · (cq t k)) (Fin.ext (by dsimp only; omega))
  · rw [dif_neg e1]
    by_cases h4 : t.val % 4 = 3
    · rw [if_pos h4, padded_out _ _ (by omega)]
      rfl
    · rw [if_neg h4, padded_in _ _ (by omega)]
      refine (blk_7 m c t k _ h4).trans (congrArg (a m c · (cq t k)) (Fin.ext (by dsimp only; omega)))

/-- The gate's convolution, its logistic function, its product with that, and the factor of the gate's gradient. -/
abbrev gC : FVec Ideal S1040x256 .f32 := k0_pay12 (gX1 m c t) (gX2 m c t) (k0_pay9 (iblk m c 8 t))
  (k0_pay10 (grid0.coords t) (iblk m c 2 t) (iblk m c 0 t) (iblk m c 4 t) (iblk m c 8 t)) (k0_pay11 (iblk m c 8 t)) (iblk m c 10 t)
@[inherit_doc gC] abbrev gS : FVec Ideal S1040x256 .f32 := k0_pay15 (gX1 m c t) (gX2 m c t) (k0_pay9 (iblk m c 8 t))
  (k0_pay10 (grid0.coords t) (iblk m c 2 t) (iblk m c 0 t) (iblk m c 4 t) (iblk m c 8 t)) (k0_pay11 (iblk m c 8 t)) (iblk m c 10 t)
@[inherit_doc gC] abbrev gP : FVec Ideal S1040x256 .f32 := k0_pay16 (gX1 m c t) (gX2 m c t) (k0_pay9 (iblk m c 8 t))
  (k0_pay10 (grid0.coords t) (iblk m c 2 t) (iblk m c 0 t) (iblk m c 4 t) (iblk m c 8 t)) (k0_pay11 (iblk m c 8 t)) (iblk m c 10 t)
@[inherit_doc gC] abbrev gD : FVec Ideal S1040x256 .f32 := k0_pay17 (gX1 m c t) (gX2 m c t) (k0_pay9 (iblk m c 8 t))
  (k0_pay10 (grid0.coords t) (iblk m c 2 t) (iblk m c 0 t) (iblk m c 4 t) (iblk m c 8 t)) (k0_pay11 (iblk m c 8 t)) (iblk m c 10 t)

/-- The second half's convolution. -/
abbrev vC : FVec Ideal S1040x256 .f32 := k0_pay13 (vX m c t) (vX1 m c t) (vX2 m c t) (iblk m c 9 t) (iblk m c 11 t)

/-- The incoming gradient with the rows around the tile. -/
abbrev dA : FVec Ideal S1040x256 .f32 := k0_pay14 (Scalar.cmpi CmpIPredicate.eq (BitVec.ofNat 32 ((grid0.coords t) 1).val) 3#32) (iblk m c 6 t) (iblk m c 7 t)

/-- The gradients at the two halves' convolutions. -/
abbrev dG : FVec Ideal S1040x256 .f32 := k0_pay18 (vC m c t) (dA m c t) (gS m c t) (gD m c t)
@[inherit_doc dG] abbrev dV : FVec Ideal S1040x256 .f32 := k0_pay19 (dA m c t) (gP m c t)

theorem gate_apply (e : Fin 1040) (e2 : 2 ≤ e.val) (he : 1024 * (t.val % 4) + e.val < 4104) :
    gC m c t (ix2 e k) = cv (h m c) (w m c) (b m c) (col 0 (cq t k)) (1024 * (t.val % 4) + e.val) := by
  have H := gate_rows m c t k
  unfold gX gX1 gX2 at H
  unfold gC gX1 gX2
  have w0 : (iblk m c 8 t : FVec Ideal S8x256 .f32) (ix2 (0 : Fin 8) k) = _ := blk_8 m c t k 0
  have w1 : (iblk m c 8 t : FVec Ideal S8x256 .f32) (ix2 (1 : Fin 8) k) = _ := blk_8 m c t k 1
  have w2 : (iblk m c 8 t : FVec Ideal S8x256 .f32) (ix2 (2 : Fin 8) k) = _ := blk_8 m c t k 2
  rw [pay12_apply, pay10_apply, pay11_apply, pay9_apply, w0, w1, w2, blk_10, H.here e he, H.one e e2 he, H.two e e2 he]
  rfl

theorem val_apply (e : Fin 1040) (e2 : 2 ≤ e.val) (he : 1024 * (t.val % 4) + e.val < 4104) :
    vC m c t (ix2 e k) = cv (h m c) (w m c) (b m c) (col 1 (cq t k)) (1024 * (t.val % 4) + e.val) := by
  have H := val_rows m c t k
  unfold vC
  have w0 : (iblk m c 9 t : FVec Ideal S8x256 .f32) (ix2 (0 : Fin 8) k) = _ := blk_9 m c t k 0
  have w1 : (iblk m c 9 t : FVec Ideal S8x256 .f32) (ix2 (1 : Fin 8) k) = _ := blk_9 m c t k 1
  have w2 : (iblk m c 9 t : FVec Ideal S8x256 .f32) (ix2 (2 : Fin 8) k) = _ := blk_9 m c t k 2
  rw [pay13_apply, w0, w1, w2, blk_11, H.here e he, H.one e e2 he, H.two e e2 he]
  rfl

/-- The gradient at one half's convolution at row `n`. -/
abbrev gr (p : Fin 2) : ℕ → EReal := grad (h m c) (w m c) (b m c) (a m c) p (cq t k)

/-- The gate's convolution at a row, named. -/
abbrev cg (e : Fin 1040) : EReal := cv (h m c) (w m c) (b m c) (col 0 (cq t k)) (1024 * (t.val % 4) + e.val)

theorem gS_apply (e : Fin 1040) (e2 : 2 ≤ e.val) (he : 1024 * (t.val % 4) + e.val < 4104) : gS m c t (ix2 e k) = logi (cg m c t k e) :=
  (pay15_apply _ _ _ _ _ _ e k).trans (congrArg logi (gate_apply m c t k e e2 he))

theorem gD_apply (e : Fin 1040) (e2 : 2 ≤ e.val) (he : 1024 * (t.val % 4) + e.val < 4104) : gD m c t (ix2 e k) = 1 + cg m c t k e * (1 - logi (cg m c t k e)) :=
  (pay17_apply _ _ _ _ _ _ e k).trans (congrArg₂ (fun x y => 1 + x * (1 - y)) (gate_apply m c t k e e2 he) (gS_apply m c t k e e2 he))

theorem gP_apply (e : Fin 1040) (e2 : 2 ≤ e.val) (he : 1024 * (t.val % 4) + e.val < 4104) : gP m c t (ix2 e k) = cg m c t k e * logi (cg m c t k e) :=
  (pay16_apply _ _ _ _ _ _ e k).trans (congrArg₂ (· * ·) (gate_apply m c t k e e2 he) (gS_apply m c t k e e2 he))

theorem dG_apply (e : Fin 1040) (e8 : 8 ≤ e.val) : dG m c t (ix2 e k) = gr m c t k 0 (1024 * (t.val % 4) + e.val) := by
  refine (pay18_apply _ _ _ _ e k).trans ((congrArg (fun x => x * _ * _) (da_apply m c t k e e8)).trans ?_)
  by_cases he : 1024 * (t.val % 4) + e.val < 4104
  · exact congrArg₂ (· * ·) (congrArg (_ * ·) (val_apply m c t k e (by omega) he)) (congrArg₂ (· * ·) (gS_apply m c t k e (by omega) he) (gD_apply m c t k e (by omega) he))
  · rw [padded_out _ _ (by omega), zero_mul, zero_mul]
    exact (grad_out _ _ _ _ _ _ _ (by omega)).symm

theorem dV_apply (e : Fin 1040) (e8 : 8 ≤ e.val) : dV m c t (ix2 e k) = gr m c t k 1 (1024 * (t.val % 4) + e.val) := by
  refine (pay19_apply _ _ e k).trans ((congrArg (fun x => x * _) (da_apply m c t k e e8)).trans ?_)
  by_cases he : 1024 * (t.val % 4) + e.val < 4104
  · exact congrArg (_ * ·) (gP_apply m c t k e (by omega) he)
  · rw [padded_out _ _ (by omega), zero_mul]
    exact (grad_out _ _ _ _ _ _ _ (by omega)).symm

/-! ## What a tile leaves -/

/-- The first result's rows of a tile. -/
theorem back_apply (p : Fin 2) (r : Fin 1024) {d : FVec Ideal S1040x256 .f32} {w8 : FVec Ideal S8x256 .f32}
    (hd : ∀ e : Fin 1040, 8 ≤ e.val → d (ix2 e k) = gr m c t k p (1024 * (t.val % 4) + e.val))
    (hw : ∀ j : Fin 3, w8 (ix2 ⟨j.val, by omega⟩ k) = w m c j (col p (cq t k))) :
    backAt w8 r k d = dh (h m c) (w m c) (b m c) (a m c) p ⟨1024 * (t.val % 4) + r.val, by omega⟩ (cq t k) := by
  have w0 : w8 (ix2 (0 : Fin 8) k) = _ := hw 0
  have w1 : w8 (ix2 (1 : Fin 8) k) = _ := hw 1
  have w2 : w8 (ix2 (2 : Fin 8) k) = _ := hw 2
  have en : ∀ o, 1024 * (t.val % 4) + (8 + r.val + o) = 8 + (1024 * (t.val % 4) + r.val) + o := fun o => by omega
  unfold backAt dh back
  rw [hd _ (by dsimp only; omega), hd _ (by dsimp only; omega), hd _ (by dsimp only; omega), w0, w1, w2]
  exact congrArg₂ (· + ·) (congrArg₂ (· + ·) (congrArg (_ * gr m c t k p ·) (en 0)) (congrArg (_ * gr m c t k p ·) (en 2))) (congrArg (_ * gr m c t k p ·) (en 1))

/-- A tile's part of the taps' gradient. -/
def part (p : Fin 2) (u : ℕ) : EReal := ∑ y : Fin 1024, tap u (gr m c t k p) (inp (h m c) (col p (cq t k))) (8 + (1024 * (t.val % 4) + y.val))

theorem tap_apply (p : Fin 2) (u : Fin 8) {d X X1 X2 : FVec Ideal S1040x256 .f32} (hd : ∀ e : Fin 1040, 8 ≤ e.val → d (ix2 e k) = gr m c t k p (1024 * (t.val % 4) + e.val))
    (H : Rows m c t k (col p (cq t k)) X X1 X2) : ∑ y, tapAt X X1 X2 d k u y = part m c t k p u.val := by
  refine Finset.sum_congr rfl fun y _ => ?_
  have en : 1024 * (t.val % 4) + (8 + y.val) = 8 + (1024 * (t.val % 4) + y.val) := by omega
  have l : 1024 * (t.val % 4) + (8 + y.val) < 4104 := by omega
  unfold tapAt tap
  rw [hd _ (by dsimp only; omega), H.here _ l, H.one _ (by dsimp only; omega) l, H.two _ (by dsimp only; omega) l]
  dsimp only
  rw [en]

/-- A block of the first result is a tile of one half's rows and columns. -/
theorem emb_12 (y : ((cfg0.win 12).xblock (cfg0.grid.coords t)).Idx) : (((cfg0.win 12).blk t).view.emb y 0).val = (y 0).val ∧ (((cfg0.win 12).blk t).view.emb y 1).val = 1024 * (t.val % 4) + (y 1).val
    ∧ (((cfg0.win 12).blk t).view.emb y 2).val = 256 * (t.val / 4) + (y 2).val := by
  obtain ⟨-, -, -, -, -, -, -, -, -, -, -, -, i0, -⟩ := idx t
  refine ⟨?_, ?_, ?_⟩ <;> blk_simp [i0] <;> try omega

/-- A value at an entry of a tile is the value at the array's entry. -/
theorem at_tile (p : Fin 2) (g : FVec Ideal S1x1024x256 .f32) (f : Fin 2 → Fin 4096 → Fin 2816 → EReal)
    (hg : ∀ (r : Fin 1024) (k : Fin 256), g (ix3 (0 : Fin 1) r k) = f p ⟨1024 * (t.val % 4) + r.val, by omega⟩ (cq t k)) (y : S1x1024x256.Idx) (z : S2x4096x2816.Idx)
    (z0 : (z 0).val = p.val) (z1 : (z 1).val = 1024 * (t.val % 4) + (y 1).val) (z2 : (z 2).val = 256 * (t.val / 4) + (y 2).val) : g y = f (z 0) (z 1) (z 2) := by
  have hy : y = ix3 (0 : Fin 1) (y 1 : Fin 1024) (y 2 : Fin 256) := by
    funext x
    fin_cases x
    · exact Subsingleton.elim (α := Fin 1) _ _
    · rfl
    · rfl
  refine (congrArg g hy).trans ((hg _ _).trans ?_)
  rw [show z 0 = p from Fin.ext z0]
  exact congrArg₂ (f p) (Fin.ext z1.symm) (Fin.ext z2.symm)

theorem point_12 (y : S2x1024x256.Idx) : (outsAt0 m c t.val t.isLt).1 y
    = dh (h m c) (w m c) (b m c) (a m c) (((cfg0.win 12).blk t).view.emb y 0) (((cfg0.win 12).blk t).view.emb y 1) (((cfg0.win 12).blk t).view.emb y 2) := by
  obtain ⟨e0, e1, e2⟩ := emb_12 t y
  by_cases h4 : t.val % 4 = 0
  on_goal 1 => rw [outsAt0_A m c t h4 (by omega)]
  on_goal 2 => rw [outsAt0_B m c t h4 (by omega)]
  all_goals
    frame_out
    canon_tiles x hx
    · refine at_tile t 1 _ (dh (h m c) (w m c) (b m c) (a m c)) (fun r k => ?_) x _ (e0.trans (by have := (x 0).isLt; omega)) (e1.trans (by rw [hx1])) (e2.trans (by rw [hx2]))
      exact (pay21_apply _ _ _ r k).trans (back_apply m c t k 1 r (dV_apply m c t k) (blk_9 m c t k))
    · refine at_tile t 0 _ (dh (h m c) (w m c) (b m c) (a m c)) (fun r k => ?_) x _ (e0.trans (by have := (x 0).isLt; omega)) (e1.trans (by rw [hx1])) (e2.trans (by rw [hx2]))
      exact (pay20_apply _ _ _ _ _ r k).trans (back_apply m c t k 0 r (dG_apply m c t k) (blk_8 m c t k))

theorem split8 (y : S8x256.Idx) : y = ix2 (y 0 : Fin 8) (y 1 : Fin 256) := by
  funext x
  fin_cases x <;> rfl

/-- The first tile of a column leaves its part of the taps' gradient, in both halves. -/
theorem step_A_13 (h4 : t.val % 4 = 0) (y : S8x256.Idx) : (outsAt0 m c t.val t.isLt).2.1 y = part m c t (y 1) 0 (y 0).val := by
  rw [outsAt0_A m c t h4 (by omega)]; frame_out
  exact (congrArg _ (split8 y)).trans ((pay22_apply _ _ _ _ (y 1 : Fin 256) (y 0 : Fin 8)).trans (tap_apply m c t (y 1) 0 (y 0) (dG_apply m c t (y 1)) (gate_rows m c t (y 1))))

@[inherit_doc step_A_13] theorem step_A_14 (h4 : t.val % 4 = 0) (y : S8x256.Idx) : (outsAt0 m c t.val t.isLt).2.2 y = part m c t (y 1) 1 (y 0).val := by
  rw [outsAt0_A m c t h4 (by omega)]; frame_out
  exact (congrArg _ (split8 y)).trans ((pay25_apply _ _ _ _ (y 1 : Fin 256) (y 0 : Fin 8)).trans (tap_apply m c t (y 1) 1 (y 0) (dV_apply m c t (y 1)) (val_rows m c t (y 1))))

/-- Every later tile adds its part. -/
theorem step_B_13 (h4 : ¬ t.val % 4 = 0) (y : S8x256.Idx) :
    (outsAt0 m c t.val t.isLt).2.1 y = (outsAt0 m c (t.val - 1) (Nat.lt_of_le_of_lt (Nat.sub_le _ _) t.isLt)).2.1 y + part m c t (y 1) 0 (y 0).val := by
  rw [outsAt0_B m c t h4 (by omega)]; frame_out
  exact (pay1_apply _ _ y).trans (congrArg (_ + ·)
    ((congrArg _ (split8 y)).trans ((pay22_apply _ _ _ _ (y 1 : Fin 256) (y 0 : Fin 8)).trans (tap_apply m c t (y 1) 0 (y 0) (dG_apply m c t (y 1)) (gate_rows m c t (y 1))))))

@[inherit_doc step_B_13] theorem step_B_14 (h4 : ¬ t.val % 4 = 0) (y : S8x256.Idx) :
    (outsAt0 m c t.val t.isLt).2.2 y = (outsAt0 m c (t.val - 1) (Nat.lt_of_le_of_lt (Nat.sub_le _ _) t.isLt)).2.2 y + part m c t (y 1) 1 (y 0).val := by
  rw [outsAt0_B m c t h4 (by omega)]; frame_out
  exact (pay2_apply _ _ y).trans (congrArg (_ + ·)
    ((congrArg _ (split8 y)).trans ((pay25_apply _ _ _ _ (y 1 : Fin 256) (y 0 : Fin 8)).trans (tap_apply m c t (y 1) 1 (y 0) (dV_apply m c t (y 1)) (val_rows m c t (y 1))))))

/-- The parts of a column's four tiles are the whole gradient. -/
theorem parts (p : Fin 2) (u : ℕ) : ∑ s : Fin 4, part m c ⟨4 * (t.val / 4) + s.val, lt_of_lt_of_eq (by have := lt44 t; omega) N_0.symm⟩ k p u
    = dw (h m c) (w m c) (b m c) (a m c) p u (cq t k) := by
  have hq : ∀ s : Fin 4, cq ⟨4 * (t.val / 4) + s.val, lt_of_lt_of_eq (by have := lt44 t; omega) N_0.symm⟩ k = cq t k := fun s => Fin.ext (by dsimp only [cq]; omega)
  unfold part dw gr
  simp only [hq]
  refine Fin.sum_mul_add_congr fun s r hr => ?_
  have hs : 8 + (1024 * ((4 * (t.val / 4) + s.val) % 4) + r.val) = 8 + (s.val * 1024 + r.val) := by omega
  exact congrArg _ hs

end

/-! ## The results -/

/-- The first result: the gradient at the convolution's input, both halves. -/
theorem final_12 : (dats m 0 c).arrAt 12 cfg0.N = fun y : S2x4096x2816.Idx => dh (h m c) (w m c) (b m c) (a m c) (y 0) (y 1) (y 2) := by
  refine (dats m 0 c).arrAt_eq_of_covers 12 _ (by decide +kernel) fun t hf y => ?_
  blk_simp; rw [after0_12]
  exact point_12 m c t y

/-- A column's last tile writes its taps' gradients back. -/
theorem flush : ∀ t : Fin cfg0.N, (win0_13.flush t = true → t.val % 4 = 3) ∧ (win0_14.flush t = true → t.val % 4 = 3) :=
  (by decide +kernel : ∀ t : Fin grid0.N, _)

/-- The second result: the gradient of the gate's taps and bias. -/
theorem final_13 : (dats m 0 c).arrAt 13 cfg0.N = fun y : S8x2816.Idx => dw (h m c) (w m c) (b m c) (a m c) 0 (y 0).val (y 1) := by
  refine (dats m 0 c).arrAt_eq_of_covers 13 _ (by decide +kernel) fun t hf y => ?_
  have h3 := (flush t).1 hf
  obtain ⟨-, -, -, -, -, -, -, -, -, -, -, -, -, i0, -⟩ := idx t
  blk_simp
  rw [after0_13, Pipeline.eq_sum_fin_of_reset_step_apply_of_flush (fun n h => (outsAt0 m c n h).2.1) 4 (fun _ => 0) (fun t y => part m c t (y 1) 0 (y 0).val)
    (fun t h y => (step_A_13 m c t h y).trans (zero_add _).symm) (step_B_13 m c) t h3 y, zero_add]
  refine (parts m c t (y 1) 0 (y 0).val).trans (congrArg₂ (dw (h m c) (w m c) (b m c) (a m c) 0) ?_ (Fin.ext ?_))
  · rw [i0]
    exact (Nat.zero_add _).symm
  · blk_simp [i0, cq]
    exact congrArg (· + _) (Nat.mul_comm _ _)

/-- The third result: the gradient of the other half's taps and bias. -/
theorem final_14 : (dats m 0 c).arrAt 14 cfg0.N = fun y : S8x2816.Idx => dw (h m c) (w m c) (b m c) (a m c) 1 (y 0).val (y 1) := by
  refine (dats m 0 c).arrAt_eq_of_covers 14 _ (by decide +kernel) fun t hf y => ?_
  have h3 := (flush t).2 hf
  obtain ⟨-, -, -, -, -, -, -, -, -, -, -, -, -, -, i0⟩ := idx t
  blk_simp
  rw [after0_14, Pipeline.eq_sum_fin_of_reset_step_apply_of_flush (fun n h => (outsAt0 m c n h).2.2) 4 (fun _ => 0) (fun t y => part m c t (y 1) 1 (y 0).val)
    (fun t h y => (step_A_14 m c t h y).trans (zero_add _).symm) (step_B_14 m c) t h3 y, zero_add]
  refine (parts m c t (y 1) 1 (y 0).val).trans (congrArg₂ (dw (h m c) (w m c) (b m c) (a m c) 1) ?_ (Fin.ext ?_))
  · rw [i0]
    exact (Nat.zero_add _).symm
  · blk_simp [i0, cq]
    exact congrArg (· + _) (Nat.mul_comm _ _)

end Cert.FfnKernelIdeal.Value

end
-- ==== Proof.FfnRef.lean ====
/- The reference of the gate's and short convolution's gradient over the real numbers, entry by entry. -/
module

public import proofs.«01_k».proof.Proof.FfnMath
public import proofs.«01_k».proof.Proof.Gen.FfnReferenceIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo
open scoped BigOperators

namespace Cert.FfnReferenceIdeal.Value

open Cert.FfnReferenceIdeal Cert.FfnReferenceIdeal.Gen Cert.FfnMath

variable (V0 : Valuation τ sig (Elt Ideal))

/-- The arguments as functions of row and column. -/
def h (R : Fin 4096) (s : Fin 5632) : EReal := (V0 (Proc.devRef .tc main_arg0) : FVec Ideal S4096x5632 .f32) (ix2 R s)
@[inherit_doc h] def w (j : Fin 3) (s : Fin 5632) : EReal := (V0 (Proc.devRef .tc main_arg1) : FVec Ideal S1x3x5632 .f32) (ix3 (0 : Fin 1) j s)
@[inherit_doc h] def b (s : Fin 5632) : EReal := (V0 (Proc.devRef .tc main_arg2) : FVec Ideal S1x5632 .f32) (ix2 (0 : Fin 1) s)
@[inherit_doc h] def a (R : Fin 4096) (q : Fin 2816) : EReal := (V0 (Proc.devRef .tc main_arg3) : FVec Ideal S4096x2816 .f32) (ix2 R q)

variable (R : Fin 4096) (s : Fin 5632) (q : Fin 2816)

theorem v1_apply (r : Fin 4098) : (res_main_v1 V0 : FVec Ideal S4098x5632 .f32) (ix2 r s) = inp (h V0) s (r.val + 6) := by
  unfold res_main_v1 inp h
  generalize (V0 (Proc.devRef .tc main_arg0) : FVec Ideal S4096x5632 .f32) = x
  pointwise
  by_cases r2 : r.val < 2
  · rw [dif_pos r2, padded_out _ _ (by omega)]
  · rw [dif_neg r2, padded_in _ _ (by omega)]
    exact congrArg (fun z => x (ix2 z s)) (Fin.ext (by dsimp only; omega))

theorem v5_apply : (res_main_v5 V0 : FVec Ideal S4096x5632 .f32) (ix2 R s) = inp (h V0) s (8 + R.val - 2) := by
  refine Eq.trans ?_ ((v1_apply V0 s ⟨R.val, by omega⟩).trans (congrArg _ (by dsimp only; omega)))
  unfold res_main_v5
  generalize (res_main_v1 V0 : FVec Ideal S4098x5632 .f32) = x
  pointwise

theorem v13_apply : (res_main_v13 V0 : FVec Ideal S4096x5632 .f32) (ix2 R s) = inp (h V0) s (8 + R.val - 1) := by
  refine Eq.trans ?_ ((v1_apply V0 s ⟨1 + R.val, by omega⟩).trans (congrArg _ (by dsimp only; omega)))
  unfold res_main_v13
  generalize (res_main_v1 V0 : FVec Ideal S4098x5632 .f32) = x
  pointwise

theorem v20_apply : (res_main_v20 V0 : FVec Ideal S4096x5632 .f32) (ix2 R s) = inp (h V0) s (8 + R.val) := by
  refine Eq.trans ?_ ((v1_apply V0 s ⟨2 + R.val, by omega⟩).trans (congrArg _ (by dsimp only; omega)))
  unfold res_main_v20
  generalize (res_main_v1 V0 : FVec Ideal S4098x5632 .f32) = x
  pointwise

theorem v6_apply : (res_main_v6 V0 : FVec Ideal S1x5632 .f32) (ix2 (0 : Fin 1) s) = w V0 0 s := by
  unfold res_main_v6 w
  generalize (V0 (Proc.devRef .tc main_arg1) : FVec Ideal S1x3x5632 .f32) = x
  pointwise

theorem v14_apply : (res_main_v14 V0 : FVec Ideal S1x5632 .f32) (ix2 (0 : Fin 1) s) = w V0 1 s := by
  unfold res_main_v14 w
  generalize (V0 (Proc.devRef .tc main_arg1) : FVec Ideal S1x3x5632 .f32) = x
  pointwise

theorem v21_apply : (res_main_v21 V0 : FVec Ideal S1x5632 .f32) (ix2 (0 : Fin 1) s) = w V0 2 s := by
  unfold res_main_v21 w
  generalize (V0 (Proc.devRef .tc main_arg1) : FVec Ideal S1x3x5632 .f32) = x
  pointwise

/-- The convolution. -/
theorem v28_apply : (res_main_v28 V0 : FVec Ideal S4096x5632 .f32) (ix2 R s) = cv (h V0) (w V0) (b V0) s (8 + R.val) := by
  have e0 := v5_apply V0 R s
  have e1 := v13_apply V0 R s
  have e2 := v20_apply V0 R s
  have f0 := v6_apply V0 s
  have f1 := v14_apply V0 s
  have f2 := v21_apply V0 s
  unfold cv conv b
  dsimp only
  rw [← e0, ← e1, ← e2, ← f0, ← f1, ← f2]
  unfold res_main_v28
  generalize (V0 (Proc.devRef .tc main_arg2) : FVec Ideal S1x5632 .f32) = x
  generalize (res_main_v5 V0 : FVec Ideal S4096x5632 .f32) = x0
  generalize (res_main_v13 V0 : FVec Ideal S4096x5632 .f32) = x1
  generalize (res_main_v20 V0 : FVec Ideal S4096x5632 .f32) = x2
  generalize (res_main_v6 V0 : FVec Ideal S1x5632 .f32) = y0
  generalize (res_main_v14 V0 : FVec Ideal S1x5632 .f32) = y1
  generalize (res_main_v21 V0 : FVec Ideal S1x5632 .f32) = y2
  pointwise
  exact congrArg (· + _) ((add_comm _ _).trans (add_assoc _ _ _).symm)

theorem v29_apply : (res_main_v29 V0 : FVec Ideal S4096x2816 .f32) (ix2 R q) = cv (h V0) (w V0) (b V0) (col 0 q) (8 + R.val) := by
  rw [← v28_apply]
  unfold res_main_v29
  generalize (res_main_v28 V0 : FVec Ideal S4096x5632 .f32) = x
  pointwise
  exact congrArg (fun z => x (ix2 R z)) (Fin.ext (by dsimp only [col]; omega))

theorem v30_apply : (res_main_v30 V0 : FVec Ideal S4096x2816 .f32) (ix2 R q) = cv (h V0) (w V0) (b V0) (col 1 q) (8 + R.val) := by
  rw [← v28_apply]
  unfold res_main_v30
  generalize (res_main_v28 V0 : FVec Ideal S4096x5632 .f32) = x
  pointwise
  exact congrArg (fun z => x (ix2 R z)) (Fin.ext (by dsimp only [col]; omega))

theorem v31_2_apply : (res_main_v31_2 V0 : FVec Ideal S4096x2816 .f32) (ix2 R q) = logi (cv (h V0) (w V0) (b V0) (col 0 q) (8 + R.val)) := by
  rw [← v29_apply]
  unfold res_main_v31_2 logi
  generalize (res_main_v29 V0 : FVec Ideal S4096x2816 .f32) = x
  pointwise
  rw [zero_sub]

theorem v31_0_apply : (res_main_v31_0 V0 : FVec Ideal S4096x2816 .f32) (ix2 R q)
    = cv (h V0) (w V0) (b V0) (col 0 q) (8 + R.val) * logi (cv (h V0) (w V0) (b V0) (col 0 q) (8 + R.val)) := by
  rw [← v31_2_apply, ← v29_apply]
  rfl

/-- The gradient at a column of the first half, as the reference adds it up. -/
theorem v36_left (z : Fin 5632) (hz : z.val < 2816) {g v l : EReal} (eg : (res_main_v29 V0 : FVec Ideal S4096x2816 .f32) (ix2 R ⟨z.val, hz⟩) = g)
    (ev : (res_main_v30 V0 : FVec Ideal S4096x2816 .f32) (ix2 R ⟨z.val, hz⟩) = v) (el : (res_main_v31_2 V0 : FVec Ideal S4096x2816 .f32) (ix2 R ⟨z.val, hz⟩) = l) :
    (res_main_v36 V0 : FVec Ideal S4096x5632 .f32) (ix2 R z) = a V0 R ⟨z.val, hz⟩ * v * l + g * (a V0 R ⟨z.val, hz⟩ * v) * (l * (1 - l)) := by
  subst eg ev el
  unfold res_main_v36 res_main_v34 a
  generalize (V0 (Proc.devRef .tc main_arg3) : FVec Ideal S4096x2816 .f32) = x
  generalize (res_main_v29 V0 : FVec Ideal S4096x2816 .f32) = y0
  generalize (res_main_v30 V0 : FVec Ideal S4096x2816 .f32) = y1
  generalize (res_main_v31_2 V0 : FVec Ideal S4096x2816 .f32) = y2
  generalize (res_main_v31_0 V0 : FVec Ideal S4096x2816 .f32) = y3
  pointwise
  rw [dif_pos hz]

/-- The same at a column of the second half. -/
theorem v36_right (z : Fin 5632) (hz : ¬ z.val < 2816) {y : EReal} (ey : (res_main_v31_0 V0 : FVec Ideal S4096x2816 .f32) (ix2 R ⟨z.val - 2816, by omega⟩) = y) :
    (res_main_v36 V0 : FVec Ideal S4096x5632 .f32) (ix2 R z) = y * a V0 R ⟨z.val - 2816, by omega⟩ := by
  subst ey
  unfold res_main_v36 res_main_v34 a
  generalize (V0 (Proc.devRef .tc main_arg3) : FVec Ideal S4096x2816 .f32) = x
  generalize (res_main_v29 V0 : FVec Ideal S4096x2816 .f32) = y0
  generalize (res_main_v30 V0 : FVec Ideal S4096x2816 .f32) = y1
  generalize (res_main_v31_2 V0 : FVec Ideal S4096x2816 .f32) = y2
  generalize (res_main_v31_0 V0 : FVec Ideal S4096x2816 .f32) = y3
  pointwise
  rw [dif_neg hz]

/-- The arguments' entries are real. -/
structure Real : Prop where
  h : ∀ R s, IsReal (h V0 R s)
  w : ∀ j s, IsReal (w V0 j s)
  b : ∀ s, IsReal (b V0 s)
  a : ∀ R q, IsReal (a V0 R q)

variable {V0} (H : Real V0)
include H

theorem cv_real (n : ℕ) : IsReal (cv (h V0) (w V0) (b V0) s n) :=
  conv_real (padded_real fun R => H.h R s) (fun j => H.w j s) (H.b s) n

/-- The gradient at the convolution's output. -/
theorem v36_apply (p : Fin 2) : (res_main_v36 V0 : FVec Ideal S4096x5632 .f32) (ix2 R (col p q)) = grad (h V0) (w V0) (b V0) (a V0) p q (8 + R.val) := by
  by_cases hp : p.val = 0
  · have hq : (⟨(col p q).val, by dsimp only [col]; omega⟩ : Fin 2816) = q := Fin.ext (by dsimp only [col]; omega)
    rw [v36_left V0 R (col p q) (by dsimp only [col]; omega) (v29_apply V0 R _) (v30_apply V0 R _) (v31_2_apply V0 R _), hq]
    unfold grad
    rw [if_pos hp, padded_row, dgate_eq (H.a R q) (cv_real _ H _) (cv_real _ H _)]
  · have hq : (⟨(col p q).val - 2816, by dsimp only [col]; omega⟩ : Fin 2816) = q := Fin.ext (by dsimp only [col]; omega)
    rw [v36_right V0 R (col p q) (by dsimp only [col]; omega) (v31_0_apply V0 R _), hq]
    unfold grad dval
    rw [if_neg hp, padded_row, mul_comm]

/-- The gradient at the convolution's input. -/
theorem v73_apply (p : Fin 2) : (res_main_v73 V0 : FVec Ideal S4096x5632 .f32) (ix2 R (col p q)) = dh (h V0) (w V0) (b V0) (a V0) p R q := by
  have f0 := v6_apply V0 (col p q)
  have f1 := v14_apply V0 (col p q)
  have f2 := v21_apply V0 (col p q)
  have hd := fun R => v36_apply R q H p
  have ho := fun n hn => grad_out (h V0) (w V0) (b V0) (a V0) p q n hn
  unfold dh back
  revert hd ho
  dsimp only
  rw [← f0, ← f1, ← f2]
  generalize grad (h V0) (w V0) (b V0) (a V0) p q = gr
  generalize col p q = s
  unfold res_main_v73 res_main_v68
  generalize (res_main_v6 V0 : FVec Ideal S1x5632 .f32) = y0
  generalize (res_main_v14 V0 : FVec Ideal S1x5632 .f32) = y1
  generalize (res_main_v21 V0 : FVec Ideal S1x5632 .f32) = y2
  generalize (res_main_v36 V0 : FVec Ideal S4096x5632 .f32) = d
  intro hd ho
  pointwise
  rw [hd R, add_assoc, add_assoc]
  refine congrArg (_ + ·) ((add_comm _ _).trans (congrArg₂ (· + ·) ?_ ?_))
  · split_ifs with h1
    · rw [hd]
      exact congrArg (fun n => _ * gr n) (by dsimp only; omega)
    · rw [ho _ (by omega), mul_zero]
  · split_ifs with h1
    · rw [hd]
      exact congrArg (fun n => _ * gr n) (by dsimp only; omega)
    · rw [ho _ (by omega), mul_zero]

/-- The gradients of the taps and the bias. -/
theorem v76_apply (p : Fin 2) (u : Fin 8) : (res_main_v76 V0 : FVec Ideal S8x5632 .f32) (ix2 u (col p q)) = dw (h V0) (w V0) (b V0) (a V0) p u.val q := by
  have e0 := fun R => v5_apply V0 R (col p q)
  have e1 := fun R => v13_apply V0 R (col p q)
  have e2 := fun R => v20_apply V0 R (col p q)
  have hd := fun R => v36_apply R q H p
  unfold dw tap
  simp only [← e0, ← e1, ← e2, ← hd]
  generalize col p q = s
  unfold res_main_v76
  generalize (res_main_v5 V0 : FVec Ideal S4096x5632 .f32) = x0
  generalize (res_main_v13 V0 : FVec Ideal S4096x5632 .f32) = x1
  generalize (res_main_v20 V0 : FVec Ideal S4096x5632 .f32) = x2
  generalize (res_main_v36 V0 : FVec Ideal S4096x5632 .f32) = d
  clear e0 e1 e2 hd
  fin_cases u <;> pointwise <;> simp [Fin.sum_univ_one]

end Cert.FfnReferenceIdeal.Value

end
-- ==== Proof.FfnClaim.lean ====
/- The gate's and short convolution's gradient: the kernel and its reference leave the same results over the real numbers. -/
module

public import proofs.«01_k».proof.Proof.FfnValue
public import proofs.«01_k».proof.Proof.FfnRef
public import proofs.«01_k».proof.Proof.Finite
public import proofs.«01_k».proof.Proof.Gen.FfnKernelIdeal.Value
public import proofs.«01_k».proof.Defs

@[expose] public section

set_option maxRecDepth 16384

noncomputable section

open Idealize.ShloMosaic Idealize.ShloMosaic.TcCoe Idealize.SL.Sem Idealize.ShloMosaic.StableHlo

namespace Cert.FfnReferenceIdeal.Value

open Cert.FfnReferenceIdeal Cert.FfnReferenceIdeal.Gen Cert.FfnMath

/-- The two halves of the columns, one after the other. -/
def halves (x : FVec Ideal S4096x5632 .f32) : FVec Ideal S2x4096x2816 .bf16 :=
  truncf .bf16 (concatenate S2x4096x2816 0 [⟨S1x4096x2816, broadcastInDim S1x4096x2816 ![1, 2] bcast_S4096x2816_S1x4096x2816_1_2 (extractStridedSlice S4096x2816 ![0, 0] x slices_S4096x5632_S4096x2816_0_0)⟩,
    ⟨S1x4096x2816, broadcastInDim S1x4096x2816 ![1, 2] bcast_S4096x2816_S1x4096x2816_1_2 (extractStridedSlice S4096x2816 ![0, 2816] x slices_S4096x5632_S4096x2816_0_2816)⟩] concatenates_S1x4096x2816_S1x4096x2816_S2x4096x2816_d0) bitsLt_bf16_f32

theorem halves_apply (x : FVec Ideal S4096x5632 .f32) (p : Fin 2) (R : Fin 4096) (q : Fin 2816) : (halves x : FVec Ideal _ _) (ix3 p R q) = x (ix2 R (col p q)) := by
  fin_cases p
  · pointwise [halves]
    exact congrArg (fun z => x (ix2 R z)) (Fin.ext (by dsimp only [col]; omega))
  · pointwise [halves]
    exact congrArg (fun z => x (ix2 R z)) (Fin.ext (by dsimp only [col]; omega))

theorem left_apply (x : FVec Ideal S8x5632 .f32) (u : Fin 8) (q : Fin 2816) : (extractStridedSlice S8x2816 ![0, 0] x slices_S8x5632_S8x2816_0_0 : FVec Ideal _ _) (ix2 u q) = x (ix2 u (col 0 q)) := by
  pointwise
  exact congrArg (fun z => x (ix2 u z)) (Fin.ext (by dsimp only [col]; omega))

theorem right_apply (x : FVec Ideal S8x5632 .f32) (u : Fin 8) (q : Fin 2816) : (extractStridedSlice S8x2816 ![0, 2816] x slices_S8x5632_S8x2816_0_2816 : FVec Ideal _ _) (ix2 u q) = x (ix2 u (col 1 q)) := by
  pointwise
  exact congrArg (fun z => x (ix2 u z)) (Fin.ext (by dsimp only [col]; omega))

end Cert.FfnReferenceIdeal.Value

namespace Cert.FfnKernelIdeal.Value

open Cert.FfnKernelIdeal Cert.FfnKernelIdeal.Gen Cert.FfnMath

/-- The reference leaves its arguments as they were. -/
theorem reference_frame : Cert.quiescent_FfnReferenceIdeal := fun m ρ _ =>
  (θ_run Cert.FfnReferenceIdeal.defs _ _).mono (fun r h => ⟨fun c => (h c).2.2.2, sem_eq_zero_of_no_sems (by decide) r.2⟩)
    (Cert.FfnReferenceIdeal.Value.run (F := Ideal) m ρ)

/-- An entry whose value is its own real part is real. -/
theorem isReal {x : EReal} (hx : x = (x.toReal : EReal)) : IsReal x := ⟨_, hx⟩

/-- The kernel and its reference, run on the same finite arguments, leave the same three results over the real numbers. -/
theorem algebraic [Cert.Pre_finite_ffn.Facts] : Cert.algebraic_FfnKernelIdeal_FfnReferenceIdeal_pre_finite_ffn := by
  intro m g m' g' hpre hagree
  refine ⟨_, _, _, run_blocks m g, (θ_run Cert.FfnReferenceIdeal.defs _ _).mono (fun r hrun c => ?_) (Cert.FfnReferenceIdeal.Value.run (F := Ideal) m' g')⟩
  obtain ⟨r0, r1, r2, hr⟩ := hrun c
  obtain ⟨e0, e1, e2, e3⟩ := hagree c
  obtain ⟨p0, p1, p2, p3⟩ := hpre c
  have a0 : Cert.FfnReferenceIdeal.Value.h (launchContents m' c) = h m c := funext fun R => funext fun s => congrFun e0 (ix2 R s)
  have a1 : Cert.FfnReferenceIdeal.Value.w (launchContents m' c) = w m c := funext fun j => funext fun s => congrFun e1 (ix3 (0 : Fin 1) j s)
  have a2 : Cert.FfnReferenceIdeal.Value.b (launchContents m' c) = b m c := funext fun s => congrFun e2 (ix2 (0 : Fin 1) s)
  have a3 : Cert.FfnReferenceIdeal.Value.a (launchContents m' c) = a m c := funext fun R => funext fun q => congrFun e3 (ix2 R q)
  have H : Cert.FfnReferenceIdeal.Value.Real (launchContents m' c) := by
    constructor
    · rw [a0]; exact fun R s => isReal (Finite.real_of_ones _ (arg0 m c) p0 _)
    · rw [a1]; exact fun j s => isReal (Finite.real_of_ones _ (arg1 m c) p1 _)
    · rw [a2]; exact fun s => isReal (Finite.real_of_ones _ (arg2 m c) p2 _)
    · rw [a3]; exact fun R q => isReal (Finite.real_of_ones _ (arg3 m c) p3 _)
  have d := fun p R q => Cert.FfnReferenceIdeal.Value.v73_apply R q H p
  have t := fun p u q => Cert.FfnReferenceIdeal.Value.v76_apply q H p u
  rw [a0, a1, a2, a3] at d t
  refine ⟨r0.trans ?_, r1.trans ?_, r2.trans ?_, hr⟩
  · rw [final_12]
    funext y
    have hy : y = ix3 (y 0 : Fin 2) (y 1 : Fin 4096) (y 2 : Fin 2816) := by
      funext x
      fin_cases x <;> rfl
    exact (congrArg _ hy).trans ((Cert.FfnReferenceIdeal.Value.halves_apply _ (y 0) (y 1) (y 2)).trans (d (y 0) (y 1) (y 2)))
  · rw [final_13]
    funext y
    have hy : y = ix2 (y 0 : Fin 8) (y 1 : Fin 2816) := by
      funext x
      fin_cases x <;> rfl
    exact (congrArg _ hy).trans ((Cert.FfnReferenceIdeal.Value.left_apply _ (y 0) (y 1)).trans (t 0 (y 0) (y 1)))
  · rw [final_14]
    funext y
    have hy : y = ix2 (y 0 : Fin 8) (y 1 : Fin 2816) := by
      funext x
      fin_cases x <;> rfl
    exact (congrArg _ hy).trans ((Cert.FfnReferenceIdeal.Value.right_apply _ (y 0) (y 1)).trans (t 1 (y 0) (y 1)))

end Cert.FfnKernelIdeal.Value

end
-- ==== Proof.UpBody.lean ====
/- The forward kernel of the gated convolution: its body, its launch and its frame. The last eight rows of a tile's products are
   carried in a scratch buffer to the next tile of the same columns. -/
module

public import proofs.«01_k».proof.Proof.Gen.UpFfnKernelIdeal.Frame
public import proofs.«01_k».proof.Proof.Gen.UpFfnKernelIdeal.Skeleton
public import Idealize.ShloMosaic.Lib.Claim
public import Idealize.ShloMosaic.Lib.WritesUnit

@[expose] public section

set_option maxRecDepth 16384

noncomputable section

namespace Cert.UpFfnKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpFfnKernelIdeal.Gen

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

/-! ## The results of one grid point -/

/-- The rectangles the body reads and writes: the halves of the rows, whole blocks, the quarters of the products, -/
abbrev rowsLo : Rect S512x1024 := Rect.unit (s := S512x1024) ![0, 0] S256x1024.size inb_S512x1024_S256x1024_0_0
@[inherit_doc rowsLo] abbrev rowsHi : Rect S512x1024 := Rect.unit (s := S512x1024) ![256, 0] S256x1024.size inb_S512x1024_S256x1024_256_0
@[inherit_doc rowsLo] abbrev shard : Rect S1x1024x1408 := Rect.unit (s := S1x1024x1408) ![0, 0, 0] S1x1024x1408.size inb_S1x1024x1408_S1x1024x1408_0_0_0
@[inherit_doc rowsLo] abbrev tapsAll : Rect S8x1408 := Rect.unit (s := S8x1408) ![0, 0] S8x1408.size inb_S8x1408_S8x1408_0_0
@[inherit_doc rowsLo] abbrev biasAll : Rect S1x1408 := Rect.unit (s := S1x1408) ![0, 0] S1x1408.size inb_S1x1408_S1x1408_0_0
@[inherit_doc rowsLo] abbrev u00 : Rect S2x512x1408 := Rect.unit (s := S2x512x1408) ![0, 0, 0] S1x256x1408.size inb_S2x512x1408_S1x256x1408_0_0_0
@[inherit_doc rowsLo] abbrev u10 : Rect S2x512x1408 := Rect.unit (s := S2x512x1408) ![1, 0, 0] S1x256x1408.size inb_S2x512x1408_S1x256x1408_1_0_0
@[inherit_doc rowsLo] abbrev u01 : Rect S2x512x1408 := Rect.unit (s := S2x512x1408) ![0, 256, 0] S1x256x1408.size inb_S2x512x1408_S1x256x1408_0_256_0
@[inherit_doc rowsLo] abbrev u11 : Rect S2x512x1408 := Rect.unit (s := S2x512x1408) ![1, 256, 0] S1x256x1408.size inb_S2x512x1408_S1x256x1408_1_256_0
@[inherit_doc rowsLo] abbrev actLo : Rect S512x1408 := Rect.unit (s := S512x1408) ![0, 0] S256x1408.size inb_S512x1408_S256x1408_0_0
@[inherit_doc rowsLo] abbrev actHi : Rect S512x1408 := Rect.unit (s := S512x1408) ![256, 0] S256x1408.size inb_S512x1408_S256x1408_256_0
@[inherit_doc rowsLo] abbrev traLo : Rect S1408x512 := Rect.unit (s := S1408x512) ![0, 0] S1408x256.size inb_S1408x512_S1408x256_0_0
@[inherit_doc rowsLo] abbrev traHi : Rect S1408x512 := Rect.unit (s := S1408x512) ![0, 256] S1408x256.size inb_S1408x512_S1408x256_0_256

/-- and the two carried blocks of eight rows of a grid point's columns. -/
abbrev carG (i : grid0.Coords) : Rect S2x2x8x1408 := Rect.unit (s := S2x2x8x1408) (k0_off1 i) S1x1x8x1408.size (k0_off1_inb i)
@[inherit_doc carG] abbrev carV (i : grid0.Coords) : Rect S2x2x8x1408 := Rect.unit (s := S2x2x8x1408) (k0_off2 i) S1x1x8x1408.size (k0_off2_inb i)

section
variable (i : grid0.Coords) (p q : Vec F S1x1x8x1408 .f32) (x2 : Vec F S512x1024 .bf16) (x3 : Vec F S1x1024x1408 .bf16) (x4 : Vec F S1x1024x1408 .bf16) (x5 : Vec F S8x1408 .f32) (x6 : Vec F S8x1408 .f32) (x7 : Vec F S1x1408 .f32) (x8 : Vec F S1x1408 .f32)

/-- The activations of the upper and the lower half of the rows, before they are rounded, from the carried rows `p` and `q`. -/
def actA : FVec F S256x1408 .f32 :=
  k0_pay11 (k0_pay3 i q) (k0_pay6 (View.ld x2 rowsLo) (View.ld x4 shard)) (k0_pay9 i p (View.ld x2 rowsLo) (View.ld x3 shard)) (k0_pay10 i p (View.ld x2 rowsLo) (View.ld x3 shard)) 2#32 (View.ld x5 tapsAll) (View.ld x7 biasAll) (View.ld x6 tapsAll) (View.ld x8 biasAll)
@[inherit_doc actA] def actB : FVec F S256x1408 .f32 :=
  k0_pay25 (k0_pay14 (k0_pay6 (View.ld x2 rowsLo) (View.ld x4 shard))) (k0_pay17 (View.ld x2 rowsHi) (View.ld x4 shard)) (k0_pay21 (k0_pay5 (View.ld x2 rowsLo) (View.ld x3 shard)) (View.ld x2 rowsHi) (View.ld x3 shard))
    (k0_pay23 (k0_pay5 (View.ld x2 rowsLo) (View.ld x3 shard)) (View.ld x2 rowsHi) (View.ld x3 shard) (View.ld x5 tapsAll)) (k0_pay24 (View.ld x5 tapsAll)) (View.ld x7 biasAll) (View.ld x6 tapsAll) (View.ld x8 biasAll)

/-- The products, the activations and their transposes, put together from the stores, the last one first. -/
def outU : Vec F S2x512x1408 .f32 :=
  View.canon [⟨u11, k0_pay19 (View.ld x2 rowsHi) (View.ld x4 shard)⟩, ⟨u01, k0_pay18 (View.ld x2 rowsHi) (View.ld x3 shard)⟩,
    ⟨u10, k0_pay8 (View.ld x2 rowsLo) (View.ld x4 shard)⟩, ⟨u00, k0_pay7 (View.ld x2 rowsLo) (View.ld x3 shard)⟩]
@[inherit_doc outU] def outA : Vec F S512x1408 .bf16 :=
  View.canon [⟨actHi, truncf .bf16 (actB x2 x3 x4 x5 x6 x7 x8) bitsLt_bf16_f32⟩, ⟨actLo, truncf .bf16 (actA i p q x2 x3 x4 x5 x6 x7 x8) bitsLt_bf16_f32⟩]
@[inherit_doc outU] def outT : Vec F S1408x512 .bf16 :=
  View.canon [⟨traHi, k0_pay13 (actB x2 x3 x4 x5 x6 x7 x8)⟩, ⟨traLo, k0_pay13 (actA i p q x2 x3 x4 x5 x6 x7 x8)⟩]

/-- The last eight rows of the products, as the scratch buffer keeps them. -/
def tailG : Vec F S1x1x8x1408 .f32 := k0_pay1 (k0_pay28 (k0_pay16 (View.ld x2 rowsHi) (View.ld x3 shard)))
@[inherit_doc tailG] def tailV : Vec F S1x1x8x1408 .f32 := k0_pay2 (k0_pay29 (k0_pay17 (View.ld x2 rowsHi) (View.ld x4 shard)))
end

/-- The stores of each output cover it. -/
theorem coverU (p0 p1 p2 p3 : Vec F S1x256x1408 .f32) (y : S2x512x1408.Idx) :
    ∃ pc ∈ ([⟨u11, p0⟩, ⟨u01, p1⟩, ⟨u10, p2⟩, ⟨u00, p3⟩] : List (View.Piece (Elt F) S2x512x1408 .f32)), y ∈ pc.1.set :=
  View.cover_of_tiled [⟨u11, p0⟩, ⟨u01, p1⟩, ⟨u10, p2⟩, ⟨u00, p3⟩] S1x256x1408.size (by rfl) y
@[inherit_doc coverU] theorem coverA (p0 p1 : Vec F S256x1408 .bf16) (y : S512x1408.Idx) :
    ∃ pc ∈ ([⟨actHi, p0⟩, ⟨actLo, p1⟩] : List (View.Piece (Elt F) S512x1408 .bf16)), y ∈ pc.1.set :=
  View.cover_of_tiled [⟨actHi, p0⟩, ⟨actLo, p1⟩] S256x1408.size (by rfl) y
@[inherit_doc coverU] theorem coverT (p0 p1 : Vec F S1408x256 .bf16) (y : S1408x512.Idx) :
    ∃ pc ∈ ([⟨traHi, p0⟩, ⟨traLo, p1⟩] : List (View.Piece (Elt F) S1408x512 .bf16)), y ∈ pc.1.set :=
  View.cover_of_tiled [⟨traHi, p0⟩, ⟨traLo, p1⟩] S1408x256.size (by rfl) y

/-- Where the two carried blocks lie. -/
theorem off1_eq : ∀ t : Fin cfg0.N, k0_off1 (grid0.coords t) = ![0, t.val % 2, 0, 0] := (by decide +kernel : ∀ t : Fin grid0.N, _)
@[inherit_doc off1_eq] theorem off2_eq : ∀ t : Fin cfg0.N, k0_off2 (grid0.coords t) = ![1, t.val % 2, 0, 0] := (by decide +kernel : ∀ t : Fin grid0.N, _)

/-- What a point's two stores make of the scratch buffer: the two blocks hold the stored rows and the other columns' blocks are as before. -/
structure Stored (t : Fin cfg0.N) (g v : Vec F S1x1x8x1408 .f32) (S S' : Vec F S2x2x8x1408 .f32) : Prop where
  g : View.ld S' (carG (grid0.coords t)) = g
  v : View.ld S' (carV (grid0.coords t)) = v
  other : ∀ y : S2x2x8x1408.Idx, (y 1 : Fin 2).val ≠ t.val % 2 → S' y = S y

theorem stored (t : Fin cfg0.N) (arg12 : Memref sig .tc .vmem S2x2x8x1408 .f32) (f : BufTy.Contents (Elt F) arg12.view.ty) (g v : Vec F S1x1x8x1408 .f32) :
    Stored t g v (arg12.view.read (Elt F) f) (arg12.view.read (Elt F) (arg12.view.writes (Elt F) f [⟨carV (grid0.coords t), v⟩, ⟨carG (grid0.coords t), g⟩])) where
  g := by
    funext x
    refine (View.read_writes_cons_unit_of_not_mem (Val := Elt F) arg12.view f _ v _ _ (off2_eq t) (0 : Fin 4) (Or.inl ?_)).trans (View.read_writes_cons_emb (Val := Elt F) arg12.view f (carG (grid0.coords t)) g [] x)
    have h0 : (x (0 : Fin 4)).val < 1 := (x (0 : Fin 4)).isLt
    show (k0_off1 (grid0.coords t)) 0 + 1 * (x (0 : Fin 4)).val < 1
    rw [off1_eq]
    show 0 + 1 * (x (0 : Fin 4)).val < 1
    omega
  v := by
    funext x
    exact View.read_writes_cons_emb (Val := Elt F) arg12.view f (carV (grid0.coords t)) v _ x
  other y hy := by
    have e : ∀ n k : ℕ, n ≠ k → n < k ∨ k + 1 ≤ n := fun n k h => by omega
    refine (View.read_writes_cons_unit_of_not_mem (Val := Elt F) arg12.view f _ v _ y (off2_eq t) (1 : Fin 4) (e _ _ hy)).trans ?_
    exact View.read_writes_cons_unit_of_not_mem (Val := Elt F) arg12.view f _ g [] y (off1_eq t) (1 : Fin 4) (e _ _ hy)

/-! ## The body -/

set_option maxHeartbeats 4000000 in
/-- The kernel body at a grid point: it leaves its inputs as they were, the outputs at the point's results and the scratch buffer with the tile's last rows. -/
theorem kernel_run (c : Dev nD) (t : Fin cfg0.N) (arg2 : Memref sig .tc .vmem S512x1024 .bf16) (harg2 : arg2.IsWhole) (arg3 : Memref sig .tc .vmem S1x1024x1408 .bf16) (harg3 : arg3.IsWhole) (arg4 : Memref sig .tc .vmem S1x1024x1408 .bf16) (harg4 : arg4.IsWhole) (arg5 : Memref sig .tc .vmem S8x1408 .f32) (harg5 : arg5.IsWhole) (arg6 : Memref sig .tc .vmem S8x1408 .f32) (harg6 : arg6.IsWhole) (arg7 : Memref sig .tc .vmem S1x1408 .f32) (harg7 : arg7.IsWhole) (arg8 : Memref sig .tc .vmem S1x1408 .f32) (harg8 : arg8.IsWhole) (arg9 : Memref sig .tc .vmem S2x512x1408 .f32) (harg9 : arg9.IsWhole) (arg10 : Memref sig .tc .vmem S512x1408 .bf16) (harg10 : arg10.IsWhole) (arg11 : Memref sig .tc .vmem S1408x512 .bf16) (harg11 : arg11.IsWhole) (arg12 : Memref sig .tc .vmem S2x2x8x1408 .f32) (harg12 : arg12.IsWhole)
    (x2 : Vec F S512x1024 .bf16) (x3 : Vec F S1x1024x1408 .bf16) (x4 : Vec F S1x1024x1408 .bf16) (x5 : Vec F S8x1408 .f32) (x6 : Vec F S8x1408 .f32) (x7 : Vec F S1x1408 .f32) (x8 : Vec F S1x1408 .f32) (S : Vec F S2x2x8x1408 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare S
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outU x2 x3 x4)
          ∗ owns (c : Thread nD τ) arg10 fullShare (outA (grid0.coords t) (View.ld S (carG (grid0.coords t))) (View.ld S (carV (grid0.coords t))) x2 x3 x4 x5 x6 x7 x8)
          ∗ owns (c : Thread nD τ) arg11 fullShare (outT (grid0.coords t) (View.ld S (carG (grid0.coords t))) (View.ld S (carV (grid0.coords t))) x2 x3 x4 x5 x6 x7 x8)
          ∗ (∃ S', ⌜Stored t (tailG x2 x3) (tailV x2 x4) S S'⌝ ∗ owns (c : Thread nD τ) arg12 fullShare S')) -∗ K ⟨⟩))
    ⊢ wp frame (wpE (defs₀ (F := F)) Variants.none c none) E (cc0_up_ffn_fwd (grid0.coords t) arg2 harg2 arg3 harg3 arg4 harg4 arg5 harg5 arg6 harg6 arg7 harg7 arg8 harg8 arg9 harg9 arg10 harg10 arg11 harg11 arg12 harg12) K := by
  simp only [cc0_up_ffn_fwd_eq_skeleton]; unfold cc0_up_ffn_fwd_skel
  simp only [k0_part1_eq_skeleton, k0_part2_eq_skeleton, k0_part3_eq_skeleton, k0_part4_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
  subst hf2 hf3 hf4 hf5 hf6 hf7 hf8 hf12
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (coverU _ _ _ _)
  isplitl [H10]
  · iexists _; isplitr
    swap; · iexact H10
    ipureintro
    exact View.read_writes_eq_canon _ _ _ (coverA _ _)
  isplitl [H11]
  · iexists _; isplitr
    swap; · iexact H11
    ipureintro
    exact View.read_writes_eq_canon _ _ _ (coverT _ _)
  iexists _; isplitr
  swap
  · iexists _; isplitr
    swap; · iexact H12
    ipureintro; rfl
  ipureintro
  exact stored t arg12 f12 _ _

end Cert.UpFfnKernelIdeal.Run

end
-- ==== Proof.UpFrame.lean ====
/- The launch of the gated convolution's forward kernel, with what its scratch buffer carries from point to point. -/
module

public import proofs.«01_k».proof.Proof.UpBody

@[expose] public section

set_option maxRecDepth 16384

noncomputable section

namespace Cert.UpFfnKernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.UpFfnKernelIdeal.Gen

variable {F : FTy → Type} [FloatOps F]

local notation "𝕄" => MT nD τ sig Unit (Elt F) ℕ (UR sig nD τ) ℕ

open Idealize.ShloMosaic.Rounds
open Idealize.ShloMosaic.Pipeline (Dat Cfg Window BodyObligation cellOf)

variable (m : (ℓ : Loc nD τ sig) → Buf (Elt F) ℓ) (ρ : Dev nD → PrngReg)

/-- The point before in the same columns. -/
def back (t : Fin cfg0.N) : Fin cfg0.N := ⟨t.val - 2, lt_of_le_of_lt (Nat.sub_le _ _) t.isLt⟩

/-- The last eight rows of a point's products, -/
def carriedG (c : Dev nD) (t : Fin cfg0.N) : Vec F S1x1x8x1408 .f32 := tailG (iblk m c 0 t) (iblk m c 1 t)
@[inherit_doc carriedG] def carriedV (c : Dev nD) (t : Fin cfg0.N) : Vec F S1x1x8x1408 .f32 := tailV (iblk m c 0 t) (iblk m c 2 t)

/-- and what the scratch buffer holds before point `n`: those rows of the last two points. -/
def Carried (c : Dev nD) (n : ℕ) (S : Vec F S2x2x8x1408 .f32) : Prop :=
  ∀ t : Fin cfg0.N, t.val < n → n ≤ t.val + 2 → View.ld S (carG (grid0.coords t)) = carriedG m c t ∧ View.ld S (carV (grid0.coords t)) = carriedV m c t

/-- A block read at the same place is the same block. -/
theorem ld_congr (S : Vec F S2x2x8x1408 .f32) {o o' : Fin 4 → ℕ} (h : o = o') (b : ∀ a, o a + S1x1x8x1408.size a ≤ S2x2x8x1408.size a) (b' : ∀ a, o' a + S1x1x8x1408.size a ≤ S2x2x8x1408.size a) :
    (View.ld S (Rect.unit (s := S2x2x8x1408) o S1x1x8x1408.size b) : Vec F S1x1x8x1408 .f32) = (View.ld S (Rect.unit (s := S2x2x8x1408) o' S1x1x8x1408.size b') : Vec F S1x1x8x1408 .f32) := by
  subst h; rfl

/-- A point's stores keep the invariant. -/
theorem Carried.step {c : Dev nD} {t : Fin cfg0.N} {S S' : Vec F S2x2x8x1408 .f32} (h : Carried m c t.val S)
    (hs : Stored t (carriedG m c t) (carriedV m c t) S S') : Carried m c (t.val + 1) S' := by
  intro t' h1 h2
  by_cases e : t' = t
  · subst e
    exact ⟨hs.g, hs.v⟩
  · have hne : t'.val ≠ t.val := fun h => e (Fin.ext h)
    obtain ⟨a, b⟩ := h t' (by omega) (by omega)
    have hp : t'.val % 2 ≠ t.val % 2 := by omega
    refine ⟨Eq.trans ?_ a, Eq.trans ?_ b⟩
    · funext x
      refine hs.other _ (ne_of_eq_of_ne ?_ hp)
      have h0 : (x (1 : Fin 4)).val < 1 := (x (1 : Fin 4)).isLt
      show (k0_off1 (grid0.coords t')) 1 + 1 * (x (1 : Fin 4)).val = t'.val % 2
      rw [off1_eq]
      show t'.val % 2 + 1 * (x (1 : Fin 4)).val = t'.val % 2
      omega
    · funext x
      refine hs.other _ (ne_of_eq_of_ne ?_ hp)
      have h0 : (x (1 : Fin 4)).val < 1 := (x (1 : Fin 4)).isLt
      show (k0_off2 (grid0.coords t')) 1 + 1 * (x (1 : Fin 4)).val = t'.val % 2
      rw [off2_eq]
      show t'.val % 2 + 1 * (x (1 : Fin 4)).val = t'.val % 2
      omega

/-- The first point of a column takes zeros for the carried rows, whatever they are. -/
theorem first : ∀ t : Fin cfg0.N, t.val < 2 → Scalar.cmpi .eq (BitVec.ofNat 32 ((grid0.coords t) 0).val) 0#32 = 1#1 := (by decide +kernel : ∀ t : Fin grid0.N, _)

theorem pay3_first (t : Fin cfg0.N) (h : t.val < 2) (q q' : Vec F S1x1x8x1408 .f32) : k0_pay3 (grid0.coords t) q = k0_pay3 (grid0.coords t) q' := by
  unfold k0_pay3
  dsimp only
  rw [first t h]
  rfl

theorem pay9_first (t : Fin cfg0.N) (h : t.val < 2) (q q' : Vec F S1x1x8x1408 .f32) (x : Vec F S256x1024 .bf16) (y : Vec F S1x1024x1408 .bf16) : k0_pay9 (grid0.coords t) q x y = k0_pay9 (grid0.coords t) q' x y := by
  unfold k0_pay9
  dsimp only
  rw [first t h]
  rfl

/-- The results of a point from what the scratch buffer holds are its results from the last rows of the point before in its columns. -/
theorem actA_carried {c : Dev nD} {t : Fin cfg0.N} {S : Vec F S2x2x8x1408 .f32} (h : Carried m c t.val S) (x2 : Vec F S512x1024 .bf16) (x3 : Vec F S1x1024x1408 .bf16) (x4 : Vec F S1x1024x1408 .bf16) (x5 : Vec F S8x1408 .f32) (x6 : Vec F S8x1408 .f32) (x7 : Vec F S1x1408 .f32) (x8 : Vec F S1x1408 .f32) :
    actA (grid0.coords t) (View.ld S (carG (grid0.coords t))) (View.ld S (carV (grid0.coords t))) x2 x3 x4 x5 x6 x7 x8 = actA (grid0.coords t) (carriedG m c (back t)) (carriedV m c (back t)) x2 x3 x4 x5 x6 x7 x8 := by
  by_cases h2 : t.val < 2
  · unfold actA k0_pay10
    rw [pay3_first t h2 _ (carriedV m c (back t)), pay9_first t h2 _ (carriedG m c (back t))]
  · have hb : (back t).val = t.val - 2 := rfl
    obtain ⟨a, b⟩ := h (back t) (by omega) (by omega)
    have hm : (back t).val % 2 = t.val % 2 := by omega
    have eg : View.ld S (carG (grid0.coords t)) = carriedG m c (back t) :=
      (ld_congr S ((off1_eq t).trans ((off1_eq (back t)).trans (by rw [hm])).symm) _ (k0_off1_inb (grid0.coords (back t)))).trans a
    have ev : View.ld S (carV (grid0.coords t)) = carriedV m c (back t) :=
      (ld_congr S ((off2_eq t).trans ((off2_eq (back t)).trans (by rw [hm])).symm) _ (k0_off2_inb (grid0.coords (back t)))).trans b
    rw [eg, ev]

/-- The pipeline's proof data: the arrays as the region finds them; after a point the inputs hold their blocks and the outputs the point's results;
the scratch buffer holds the last rows of the two points before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outU (iblk m c 0 t) (iblk m c 1 t) (iblk m c 2 t)
    | ⟨8, _⟩ => outA (grid0.coords t) (carriedG m c (back t)) (carriedV m c (back t)) (iblk m c 0 t) (iblk m c 1 t) (iblk m c 2 t) (iblk m c 3 t) (iblk m c 4 t) (iblk m c 5 t) (iblk m c 6 t)
    | ⟨9, _⟩ => outT (grid0.coords t) (carriedG m c (back t)) (carriedV m c (back t)) (iblk m c 0 t) (iblk m c 1 t) (iblk m c 2 t) (iblk m c 3 t) (iblk m c 4 t) (iblk m c 5 t) (iblk m c 6 t)
  Φ n := iprop((∃ S, ⌜Carried m c n.val S⌝ ∗ owns (c : Thread nD τ) (Memref.whole cc0_scratch0) fullShare S) ∗ ∃ r, prngReg c r)
  q w := Pipeline.shareOf spec0 w
  owed _ := 0

/-- The arrays of the proof data are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outU (iblk m c 0 t) (iblk m c 1 t) (iblk m c 2 t) := by dsimp only [dats]
theorem after_8 (c : Dev nD) (t : Fin cfg0.N) : (dats m 0 c).after 8 t = outA (grid0.coords t) (carriedG m c (back t)) (carriedV m c (back t)) (iblk m c 0 t) (iblk m c 1 t) (iblk m c 2 t) (iblk m c 3 t) (iblk m c 4 t) (iblk m c 5 t) (iblk m c 6 t) := by dsimp only [dats]
theorem after_9 (c : Dev nD) (t : Fin cfg0.N) : (dats m 0 c).after 9 t = outT (grid0.coords t) (carriedG m c (back t)) (carriedV m c (back t)) (iblk m c 0 t) (iblk m c 1 t) (iblk m c 2 t) (iblk m c 3 t) (iblk m c 4 t) (iblk m c 5 t) (iblk m c 6 t) := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.castSucc = iprop((∃ S, ⌜Carried m c t.val S⌝ ∗ owns (c : Thread nD τ) (Memref.whole cc0_scratch0) fullShare S) ∗ ∃ r, prngReg c r) from rfl,
    show (dats m 0 c).Φ t.succ = iprop((∃ S, ⌜Carried m c (t.val + 1) S⌝ ∗ owns (c : Thread nD τ) (Memref.whole cc0_scratch0) fullShare S) ∗ ∃ r, prngReg c r) from rfl,
    show (dats m 0 c).owesAt () t.succ = (dats m 0 c).owesAt () t.castSucc from rfl]
  rw [show (dats m 0 c).leavesExact 0 t = owns (c : Thread nD τ) (st0_0 t) fullShare ((dats m 0 c).after 0 t) from by unfold Dat.leavesExact; rw [live_0 t], after_0]
  rw [show (dats m 0 c).leavesExact 1 t = owns (c : Thread nD τ) (st0_1 t) fullShare ((dats m 0 c).after 1 t) from by unfold Dat.leavesExact; rw [live_1 t], after_1]
  rw [show (dats m 0 c).leavesExact 2 t = owns (c : Thread nD τ) (st0_2 t) fullShare ((dats m 0 c).after 2 t) from by unfold Dat.leavesExact; rw [live_2 t], after_2]
  rw [show (dats m 0 c).leavesExact 3 t = owns (c : Thread nD τ) (st0_3 t) fullShare ((dats m 0 c).after 3 t) from by unfold Dat.leavesExact; rw [live_3 t], after_3]
  rw [show (dats m 0 c).leavesExact 4 t = owns (c : Thread nD τ) (st0_4 t) fullShare ((dats m 0 c).after 4 t) from by unfold Dat.leavesExact; rw [live_4 t], after_4]
  rw [show (dats m 0 c).leavesExact 5 t = owns (c : Thread nD τ) (st0_5 t) fullShare ((dats m 0 c).after 5 t) from by unfold Dat.leavesExact; rw [live_5 t], after_5]
  rw [show (dats m 0 c).leavesExact 6 t = owns (c : Thread nD τ) (st0_6 t) fullShare ((dats m 0 c).after 6 t) from by unfold Dat.leavesExact; rw [live_6 t], after_6]
  rw [show (dats m 0 c).leavesExact 7 t = owns (c : Thread nD τ) (st0_7 t) fullShare ((dats m 0 c).after 7 t) from by unfold Dat.leavesExact; rw [live_7 t], after_7]
  rw [show (dats m 0 c).leavesExact 8 t = owns (c : Thread nD τ) (st0_8 t) fullShare ((dats m 0 c).after 8 t) from by unfold Dat.leavesExact; rw [live_8 t], after_8]
  rw [show (dats m 0 c).leavesExact 9 t = owns (c : Thread nD τ) (st0_9 t) fullShare ((dats m 0 c).after 9 t) from by unfold Dat.leavesExact; rw [live_9 t], after_9]
  iintro ⟨⟨⟨%S, %hS, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  unfold outA outT
  rw [← actA_carried m hS (iblk m c 0 t) (iblk m c 1 t) (iblk m c 2 t) (iblk m c 3 t) (iblk m c 4 t) (iblk m c 5 t) (iblk m c 6 t)]
  iapply (kernel_run (F := F) c t _ _ _ _ _ _ _ _ _ _ _ _ _ _ _ _ _ _ _ _ _ _ (iblk m c 0 t) (iblk m c 1 t) (iblk m c 2 t) (iblk m c 3 t) (iblk m c 4 t) (iblk m c 5 t) (iblk m c 6 t) S Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, ⟨%S', %hS', HS⟩⟩
  isplitl [HS HP]
  · isplitl [HS]
    · iexists S'; isplitr
      · ipureintro; exact hS.step m hS'
      iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the scratch buffer over at some contents, of which nothing is asked before the first point, -/
theorem scratch_in (c : Dev nD) : (Pipeline.ΦA spec0 c : sProp 𝕄) ⊢ (dats m 0 c).Φ 0 := by
  rw [show (dats m 0 c).Φ 0 = iprop((∃ S, ⌜Carried m c 0 S⌝ ∗ owns (c : Thread nD τ) (Memref.whole cc0_scratch0) fullShare S) ∗ ∃ r, prngReg c r) from rfl]
  unfold Pipeline.ΦA
  rw [scopedRest0_eq]
  simp only [owns_whole]
  iintro ⟨⟨%f, H⟩, HP⟩
  isplitl [H]
  · iexists f; isplitr
    · ipureintro; exact fun t h => absurd h (Nat.not_lt_zero _)
    iexact H
  iexact HP

/-- and takes it back at any. -/
theorem scratch_out (c : Dev nD) : (dats m 0 c).Φ (Fin.last cfg0.N) ⊢ (Pipeline.ΦA spec0 c : sProp 𝕄) := by
  rw [show (dats m 0 c).Φ (Fin.last cfg0.N) = iprop((∃ S, ⌜Carried m c cfg0.N S⌝ ∗ owns (c : Thread nD τ) (Memref.whole cc0_scratch0) fullShare S) ∗ ∃ r, prngReg c r) from rfl]
  unfold Pipeline.ΦA
  rw [scopedRest0_eq]
  simp only [owns_whole]
  iintro ⟨⟨%S, -, H⟩, HP⟩
  isplitl [H]
  · iexists S; iexact H
  iexact HP

set_option backward.isDefEq.respectTransparency.types false in
/-- Every run of the kernel's program ends, with the pipeline's arrays at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := scratch_in m) (hout := scratch_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends with the argument arrays as they were and every semaphore counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.UpFfnKernelIdeal.Run

end
-- ==== Proof.UpBits.lean ====
/- The frame of the FFN up kernel's own program, carried over from the idealized program's. -/
module

public import proofs.«01_k».proof.Defs
public import proofs.«01_k».proof.Proof.UpFrame
public import proofs.«01_k».proof.Proof.Gen.UpFfnKernel.Frame

@[expose] public section

set_option maxRecDepth 100000

noncomputable section

namespace Cert.UpFfnKernelIdeal.Run

open Idealize.ShloMosaic Idealize.SL.Sem Cert.UpFfnKernelIdeal

/-- The kernel's frame is the idealized program's, read at the machine's own floats. -/
theorem frame_statement : Cert.quiescent_UpFfnKernel = (
    ∀ (m : (ℓ : Loc nD τ sig) → Buf (Elt Bits) ℓ) (g : Dev nD → PrngReg), True →
      θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0)) := by
  sl_kernel_rfl

/-- Every run of the kernel's program ends with its arguments as they were and every semaphore counter at zero. -/
theorem frame_bits : Cert.quiescent_UpFfnKernel :=
  frame_statement.mpr fun m g _ => frame (F := Bits) m g

end Cert.UpFfnKernelIdeal.Run

end
-- ==== Proof.UpMath.lean ====
/- The first product of the gated layer and its activation, as functions of row and column. -/
module

public import proofs.«01_k».proof.Proof.FfnMath

@[expose] public section

noncomputable section

open scoped BigOperators

namespace Cert.UpMath

open Idealize.ShloMosaic Cert.FfnMath

section
variable (x : Fin 4096 → Fin 1024 → EReal) (y : Fin 1024 → Fin 5632 → EReal) (w : Fin 3 → Fin 5632 → EReal) (b : Fin 5632 → EReal)

/-- The product. -/
def prod (R : Fin 4096) (s : Fin 5632) : EReal := ∑ j : Fin 1024, x R j * y j s

/-- The activation: the gate's convolution times its logistic function times the other factor's convolution. -/
def act (R : Fin 4096) (q : Fin 2816) : EReal :=
  cv (prod x y) w b (col 0 q) (8 + R.val) * logi (cv (prod x y) w b (col 0 q) (8 + R.val)) * cv (prod x y) w b (col 1 q) (8 + R.val)

end

end Cert.UpMath

end
-- ==== Proof.UpPay.lean ====
/- The payloads of the first product and short convolution kernel, entry by entry over the real numbers. -/
module

public import proofs.«01_k».proof.Proof.UpMath
public import proofs.«01_k».proof.Proof.UpFrame
public import Idealize.ShloMosaic.Lib.Pipeline.Value
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open scoped BigOperators

namespace Cert.UpFfnKernelIdeal.Value

open Cert.UpFfnKernelIdeal Cert.UpFfnKernelIdeal.Gen Cert.FfnMath Cert.UpFfnKernelIdeal.Run

/-! ## The rectangles' entries -/

section
variable (x : FVec Ideal S512x1024 .bf16) (y : FVec Ideal S1x1024x1408 .bf16) (w : FVec Ideal S8x1408 .f32) (b : FVec Ideal S1x1408 .f32) (r : Fin 256) (j : Fin 1024) (k : Fin 1408) (u : Fin 8)

theorem lo_apply : (View.ld (Val := Elt Ideal) (e' := .bf16) x rowsLo : Vec Ideal S256x1024 .bf16) (ix2 r j) = x (ix2 ⟨r.val, by omega⟩ j) := by
  exact View.ld_unit_apply_of (Val := Elt Ideal) (e := .bf16) x _ _ _ _ _ (Fin.forall_fin_two.mpr ⟨(Nat.zero_add _).symm, (Nat.zero_add _).symm⟩)

theorem hi_apply : (View.ld (Val := Elt Ideal) (e' := .bf16) x rowsHi : Vec Ideal S256x1024 .bf16) (ix2 r j) = x (ix2 ⟨256 + r.val, by omega⟩ j) := by
  exact View.ld_unit_apply_of (Val := Elt Ideal) (e := .bf16) x _ _ _ _ _ (Fin.forall_fin_two.mpr ⟨rfl, (Nat.zero_add _).symm⟩)

theorem shard_eq : (View.ld (Val := Elt Ideal) (e' := .bf16) y shard : Vec Ideal S1x1024x1408 .bf16) = y := View.ld_unit_lit (Val := Elt Ideal) (e := .bf16) (S := S1x1024x1408) (off := ![0, 0, 0]) _ y (by decide)

theorem taps_eq : (View.ld (Val := Elt Ideal) (e' := .f32) w tapsAll : Vec Ideal S8x1408 .f32) = w := View.ld_unit_lit (Val := Elt Ideal) (e := .f32) (S := S8x1408) (off := ![0, 0]) _ w (by decide)

theorem bias_eq : (View.ld (Val := Elt Ideal) (e' := .f32) b biasAll : Vec Ideal S1x1408 .f32) = b := View.ld_unit_lit (Val := Elt Ideal) (e := .f32) (S := S1x1408) (off := ![0, 0]) _ b (by decide)

end

section
variable (i : grid0.Coords) (p : FVec Ideal S1x1x8x1408 .f32) (x : FVec Ideal S256x1024 .bf16) (y : FVec Ideal S1x1024x1408 .bf16) (g8 v8 w8 w8' : FVec Ideal S8x1408 .f32) (b b' : FVec Ideal S1x1408 .f32)
  (g v : FVec Ideal S256x1408 .f32) (X X1 X2 : FVec Ideal S264x1408 .f32) (e : Fin 264) (r : Fin 256) (k : Fin 1408) (u : Fin 8)

/-- An entry of the product. -/
theorem pay5_apply : (k0_pay5 (F := Ideal) x y : FVec Ideal _ _) (ix2 r k) = ∑ j : Fin 1024, x (ix2 r j) * y (ix3 (0 : Fin 1) j k) := by
  pointwise [k0_pay5, k0_pay4]

theorem pay6_eq : k0_pay6 (F := Ideal) x y = k0_pay5 (F := Ideal) x y := rfl
theorem pay16_eq : k0_pay16 (F := Ideal) x y = k0_pay5 (F := Ideal) x y := rfl
theorem pay17_eq : k0_pay17 (F := Ideal) x y = k0_pay5 (F := Ideal) x y := rfl

/-- The products as the kernel stores them. -/
theorem pay7_apply : (k0_pay7 (F := Ideal) x y : FVec Ideal _ _) (ix3 (0 : Fin 1) r k) = (k0_pay5 (F := Ideal) x y : FVec Ideal _ _) (ix2 r k) := by
  unfold k0_pay7
  generalize k0_pay5 (F := Ideal) x y = z
  pointwise

theorem pay8_eq : k0_pay8 (F := Ideal) x y = k0_pay7 (F := Ideal) x y := rfl
theorem pay18_eq : k0_pay18 (F := Ideal) x y = k0_pay7 (F := Ideal) x y := rfl
theorem pay19_eq : k0_pay19 (F := Ideal) x y = k0_pay7 (F := Ideal) x y := rfl

/-- The last eight rows. -/
theorem pay14_apply : (k0_pay14 (F := Ideal) g : FVec Ideal _ _) (ix2 u k) = g (ix2 ⟨248 + u.val, by omega⟩ k) := by
  pointwise [k0_pay14]

theorem tail_apply : (k0_pay1 (F := Ideal) (k0_pay28 (F := Ideal) g) : FVec Ideal _ _) (ix4 (0 : Fin 1) (0 : Fin 1) u k) = g (ix2 ⟨248 + u.val, by omega⟩ k) := by
  pointwise [k0_pay1, k0_pay28]

theorem tail_eq : (k0_pay2 (F := Ideal) (k0_pay29 (F := Ideal) g) : FVec Ideal _ _) = k0_pay1 (F := Ideal) (k0_pay28 (F := Ideal) g) := rfl

/-- The carried rows: zeros for the first tile. -/
theorem pay3_apply : (k0_pay3 (F := Ideal) i p : FVec Ideal _ _) (ix2 u k) = Scalar.select (Scalar.cmpi CmpIPredicate.eq (BitVec.ofNat 32 (i 0).val) 0#32) 0 (p (ix4 (0 : Fin 1) (0 : Fin 1) u k)) := by
  pointwise [k0_pay3]

/-- Eight rows and 256 rows after them. -/
def cat : FVec Ideal S264x1408 .f32 := concatenate S264x1408 0 [⟨S8x1408, g8⟩, ⟨S256x1408, g⟩] concatenates_S8x1408_S256x1408_S264x1408_d0

theorem cat_apply : cat g8 g (ix2 e k) = if h : e.val < 8 then g8 (ix2 ⟨e.val, h⟩ k) else g (ix2 ⟨e.val - 8, by omega⟩ k) := by
  pointwise [cat]

theorem pay9_eq : k0_pay9 (F := Ideal) i p x y = cat (k0_pay3 (F := Ideal) i p) (k0_pay5 (F := Ideal) x y) := rfl
theorem pay20_eq : k0_pay20 (F := Ideal) g x y = cat (k0_pay14 (F := Ideal) g) (k0_pay5 (F := Ideal) x y) := rfl

/-- Rows moved down by one, and by two. -/
def down1 : FVec Ideal S264x1408 .f32 := dynamicRotate 0 1#32 none X rotates_S264x1408_d0
@[inherit_doc down1] def down2 : FVec Ideal S264x1408 .f32 := dynamicRotate 0 2#32 none X rotates_S264x1408_d0

theorem down1_apply (he : 2 ≤ e.val) : down1 X (ix2 e k) = X (ix2 ⟨e.val - 1, by omega⟩ k) := by
  pointwise [down1]
  exact congrArg (fun z => X (ix2 z k)) (Fin.ext (by dsimp only; omega))

theorem down2_apply (he : 2 ≤ e.val) : down2 X (ix2 e k) = X (ix2 ⟨e.val - 2, by omega⟩ k) := by
  pointwise [down2]
  exact congrArg (fun z => X (ix2 z k)) (Fin.ext (by dsimp only; omega))

/-- A tile's row of the convolution, from its rows with eight rows before them. -/
def tconv : EReal :=
  w8 (ix2 (2 : Fin 8) k) * X (ix2 ⟨8 + r.val, by omega⟩ k) + w8 (ix2 (0 : Fin 8) k) * X (ix2 ⟨8 + r.val - 2, by omega⟩ k) + w8 (ix2 (1 : Fin 8) k) * X (ix2 ⟨8 + r.val - 1, by omega⟩ k) + b (ix2 (0 : Fin 1) k)

/-- The convolution of the rows in place and moved, in the kernel's operations. -/
def kconv : FVec Ideal S256x1408 .f32 :=
  addf (extractStridedSlice S256x1408 ![8, 0]
    (addf (addf (mulf (broadcastTo S264x1408 (extractStridedSlice S1x1408 ![2, 0] (shapeCast S8x1408 w8 shapeCasts_S8x1408_S8x1408) slices_S8x1408_o2_0_S1x1408) broadcasts_S1x1408_S264x1408) X)
        (mulf (broadcastTo S264x1408 (extractStridedSlice S1x1408 ![0, 0] (shapeCast S8x1408 w8 shapeCasts_S8x1408_S8x1408) slices_S8x1408_o0_0_S1x1408) broadcasts_S1x1408_S264x1408) X2))
      (mulf (broadcastTo S264x1408 (extractStridedSlice S1x1408 ![1, 0] (shapeCast S8x1408 w8 shapeCasts_S8x1408_S8x1408) slices_S8x1408_o1_0_S1x1408) broadcasts_S1x1408_S264x1408) X1))
    slices_S264x1408_o8_0_S256x1408) (broadcastTo S256x1408 b broadcasts_S1x1408_S256x1408)

theorem kconv_apply : kconv w8 b X (down1 X) (down2 X) (ix2 r k) = tconv w8 b X r k := by
  refine Eq.trans (b := w8 (ix2 (2 : Fin 8) k) * X (ix2 ⟨8 + r.val, by omega⟩ k) + w8 (ix2 (0 : Fin 8) k) * down2 X (ix2 ⟨8 + r.val, by omega⟩ k) + w8 (ix2 (1 : Fin 8) k) * down1 X (ix2 ⟨8 + r.val, by omega⟩ k) + b (ix2 (0 : Fin 1) k)) ?_ ?_
  · generalize down1 X = X1
    generalize down2 X = X2
    pointwise [kconv]
  · rw [down1_apply _ _ _ (by dsimp only; omega), down2_apply _ _ _ (by dsimp only; omega)]
    rfl

/-- The gate times its logistic function times the other factor, in the kernel's operations. -/
def kact : FVec Ideal S256x1408 .f32 :=
  mulf (mulf g (reciprocal true (addf (broadcast S256x1408 (Scalar.ofBits .f32 0x3F800000#32)) (exp (subf (broadcast S256x1408 (Scalar.ofBits .f32 0x00000000#32)) g))))) v

theorem kact_apply : kact g v (ix2 r k) = g (ix2 r k) * logi (g (ix2 r k)) * v (ix2 r k) := by
  unfold logi
  pointwise [kact]

theorem pay11_eq : k0_pay11 (F := Ideal) g8 g X (down1 X) 2#32 w8 b w8' b' = kact (kconv w8 b X (down1 X) (down2 X)) (kconv w8' b' (cat g8 g) (down1 (cat g8 g)) (down2 (cat g8 g))) := rfl

theorem pay25_eq : k0_pay25 (F := Ideal) g8 g (k0_pay21 (F := Ideal) v x y) (k0_pay23 (F := Ideal) v x y w8) (k0_pay24 (F := Ideal) w8) b w8' b'
    = kact (kconv w8 b (k0_pay20 (F := Ideal) v x y) (down1 (k0_pay20 (F := Ideal) v x y)) (down2 (k0_pay20 (F := Ideal) v x y))) (kconv w8' b' (cat g8 g) (down1 (cat g8 g)) (down2 (cat g8 g))) := rfl

/-- An activation's entry from the two convolutions' rows. -/
theorem act_apply (Y : FVec Ideal S264x1408 .f32) : kact (kconv w8 b X (down1 X) (down2 X)) (kconv w8' b' Y (down1 Y) (down2 Y)) (ix2 r k)
    = tconv w8 b X r k * logi (tconv w8 b X r k) * tconv w8' b' Y r k := by
  rw [kact_apply, kconv_apply, kconv_apply]

/-- The transpose as the kernel stores it. -/
theorem pay13_apply : (k0_pay13 (F := Ideal) g : FVec Ideal _ _) (ix2 k r) = g (ix2 r k) := by
  pointwise [k0_pay13]

theorem trunc_apply : (truncf .bf16 g bitsLt_bf16_f32 : FVec Ideal _ _) (ix2 r k) = g (ix2 r k) := by
  pointwise

end

end Cert.UpFfnKernelIdeal.Value

end
-- ==== Proof.UpValue.lean ====
/- The first product and short convolution kernel over the real numbers: what its results hold at the end, in terms of its arguments.
   A grid point is a tile of 512 rows and 1408 columns of each half, worked through as two halves of 256 rows. -/
module

public import proofs.«01_k».proof.Proof.UpPay

@[expose] public section

set_option maxRecDepth 16384

noncomputable section

open Idealize.ShloMosaic Idealize.ShloMosaic.TcCoe Idealize.SL.Sem
open Idealize.ShloMosaic.Pipeline (Dat)
open scoped BigOperators

namespace Cert.UpFfnKernelIdeal.Value

open Cert.UpFfnKernelIdeal Cert.UpFfnKernelIdeal.Gen Cert.FfnMath Cert.UpMath Cert.UpFfnKernelIdeal.Run

variable (m : (ℓ : Loc nD τ sig) → Buf (Elt Ideal) ℓ) (c : Dev nD)

/-- The arguments: the rows, the weights, the convolution's taps and its bias. -/
abbrev arg0 : FVec Ideal S4096x1024 .f32 := m ((c.tc : Thread nD τ).loc main_arg0)
@[inherit_doc arg0] abbrev arg1 : FVec Ideal S1x1024x5632 .f32 := m ((c.tc : Thread nD τ).loc main_arg1)
@[inherit_doc arg0] abbrev arg2 : FVec Ideal S1x3x5632 .f32 := m ((c.tc : Thread nD τ).loc main_arg2)
@[inherit_doc arg0] abbrev arg3 : FVec Ideal S1x5632 .f32 := m ((c.tc : Thread nD τ).loc main_arg3)

/-- The arguments as functions of row and column. -/
abbrev fx : Fin 4096 → Fin 1024 → EReal := fun R j => arg0 m c (ix2 R j)
@[inherit_doc fx] abbrev fy : Fin 1024 → Fin 5632 → EReal := fun j s => arg1 m c (ix3 (0 : Fin 1) j s)
@[inherit_doc fx] abbrev fw : Fin 3 → Fin 5632 → EReal := fun j s => arg2 m c (ix3 (0 : Fin 1) j s)
@[inherit_doc fx] abbrev fb : Fin 5632 → EReal := fun s => arg3 m c (ix2 (0 : Fin 1) s)

/-- The product. -/
abbrev H : Fin 4096 → Fin 5632 → EReal := prod (fx m c) (fy m c)

/-- The block each window reads or writes at a grid point. -/
theorem idx : ∀ t : Fin cfg0.N, win0_0.index t = ![t.val / 2, 0] ∧ win0_1.index t = ![t.val % 2, 0, 0] ∧ win0_2.index t = ![2 + t.val % 2, 0, 0]
    ∧ win0_3.index t = ![0, t.val % 2] ∧ win0_4.index t = ![0, 2 + t.val % 2] ∧ win0_5.index t = ![0, t.val % 2] ∧ win0_6.index t = ![0, 2 + t.val % 2]
    ∧ win0_7.index t = ![0, t.val / 2, t.val % 2] ∧ win0_8.index t = ![t.val / 2, t.val % 2] ∧ win0_9.index t = ![t.val % 2, t.val / 2] :=
  (by decide +kernel : ∀ t : Fin grid0.N, _)

theorem lt16 (t : Fin cfg0.N) : t.val < 16 := lt_of_lt_of_eq t.isLt N_0

/-! ## What the host prepares -/

/-- The weights in four blocks of columns. -/
def shards (x : FVec Ideal S1x1024x5632 .f32) : FVec Ideal S4x1024x1408 .bf16 :=
  truncf .bf16 (transpose S4x1024x1408 [1, 0, 2] (shapeCast S1024x4x1408 (shapeCast S1024x5632 x shapeCasts_S1x1024x5632_S1024x5632) shapeCasts_S1024x5632_S1024x4x1408) transposes_S1024x4x1408_S4x1024x1408_1_0_2) bitsLt_bf16_f32

theorem shards_apply (x : FVec Ideal S1x1024x5632 .f32) (n : Fin 4) (j : Fin 1024) (k : Fin 1408) : (shards x : FVec Ideal _ _) (ix3 n j k) = x (ix3 (0 : Fin 1) j ⟨1408 * n.val + k.val, by omega⟩) := by
  pointwise [shards]
  exact congrArg (fun z => x (ix3 (0 : Fin 1) j z)) (Fin.ext (by dsimp only; omega))

theorem V_3 : V m c main_v3 = shards (arg1 m c) := by
  unfold V
  simp only [hostOps0, hostOps0_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

theorem V_4 : V m c main_v4 = (truncf .bf16 (arg0 m c) bitsLt_bf16_f32 : FVec Ideal S4096x1024 .bf16) := by
  unfold V
  simp only [hostOps0, hostOps0_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp

theorem rows_apply (x : FVec Ideal S4096x1024 .f32) (R : Fin 4096) (j : Fin 1024) : (truncf .bf16 x bitsLt_bf16_f32 : FVec Ideal S4096x1024 .bf16) (ix2 R j) = x (ix2 R j) := by
  pointwise

/-- The taps with five rows of zeros after them. -/
def taps (x : FVec Ideal S1x3x5632 .f32) : FVec Ideal S8x5632 .f32 :=
  pad S8x5632 ![0, 0] ![5, 0] ![0, 0] (shapeCast S3x5632 x shapeCasts_S1x3x5632_S3x5632) (sitofp .f32 (constantI S_ 32 0#32)) pads_S3x5632_S8x5632_050_000 h_S_

theorem taps_apply (x : FVec Ideal S1x3x5632 .f32) (j : Fin 3) (s : Fin 5632) : taps x (ix2 ⟨j.val, by omega⟩ s) = x (ix3 (0 : Fin 1) j s) := by
  pointwise [taps]

theorem V_6 : V m c main_v6 = taps (arg2 m c) := by
  unfold V
  simp only [hostOps0, hostOps0_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

/-! ## The blocks a grid point reads -/

section
variable (t : Fin cfg0.N) (k : Fin 1408)

/-- The column of a half that a tile's column is. -/
def cq : Fin 2816 := ⟨1408 * (t.val % 2) + k.val, by omega⟩

theorem blk_0 (r : Fin 512) (j : Fin 1024) : (iblk m c 0 t : FVec Ideal S512x1024 .bf16) (ix2 r j) = fx m c ⟨512 * (t.val / 2) + r.val, by have := lt16 t; omega⟩ j := by
  obtain ⟨i0, -⟩ := idx t
  refine Eq.trans ?_ (rows_apply (arg0 m c) ⟨512 * (t.val / 2) + r.val, by have := lt16 t; omega⟩ j)
  refine Eq.trans ?_ (congrFun (V_4 m c) _)
  unfold iblk
  generalize V m c main_v4 = v
  blk_simp [i0]
  blk_ext [i0]

theorem blk_1 (j : Fin 1024) : (iblk m c 1 t : FVec Ideal S1x1024x1408 .bf16) (ix3 (0 : Fin 1) j k) = fy m c j (col 0 (cq t k)) := by
  obtain ⟨-, i0, -⟩ := idx t
  refine Eq.trans (b := shards (arg1 m c) (ix3 (⟨t.val % 2, by omega⟩ : Fin 4) j k)) ?_ ((shards_apply (arg1 m c) _ j k).trans (congrArg (fy m c j) (Fin.ext (by dsimp only [col, cq]; omega))))
  refine Eq.trans ?_ (congrFun (V_3 m c) _)
  unfold iblk
  generalize V m c main_v3 = v
  blk_simp [i0]
  blk_ext [i0]

theorem blk_2 (j : Fin 1024) : (iblk m c 2 t : FVec Ideal S1x1024x1408 .bf16) (ix3 (0 : Fin 1) j k) = fy m c j (col 1 (cq t k)) := by
  obtain ⟨-, -, i0, -⟩ := idx t
  refine Eq.trans (b := shards (arg1 m c) (ix3 (⟨2 + t.val % 2, by omega⟩ : Fin 4) j k)) ?_ ((shards_apply (arg1 m c) _ j k).trans (congrArg (fy m c j) (Fin.ext (by dsimp only [col, cq]; omega))))
  refine Eq.trans ?_ (congrFun (V_3 m c) _)
  unfold iblk
  generalize V m c main_v3 = v
  blk_simp [i0]
  blk_ext [i0]

theorem blk_3 (j : Fin 3) : (iblk m c 3 t : FVec Ideal S8x1408 .f32) (ix2 ⟨j.val, by omega⟩ k) = fw m c j (col 0 (cq t k)) := by
  obtain ⟨-, -, -, i0, -⟩ := idx t
  refine Eq.trans ?_ (taps_apply (arg2 m c) j (col 0 (cq t k)))
  refine Eq.trans ?_ (congrFun (V_6 m c) _)
  unfold iblk
  generalize V m c main_v6 = v
  blk_simp [i0]
  blk_ext [i0, cq, col]

theorem blk_4 (j : Fin 3) : (iblk m c 4 t : FVec Ideal S8x1408 .f32) (ix2 ⟨j.val, by omega⟩ k) = fw m c j (col 1 (cq t k)) := by
  obtain ⟨-, -, -, -, i0, -⟩ := idx t
  refine Eq.trans ?_ (taps_apply (arg2 m c) j (col 1 (cq t k)))
  refine Eq.trans ?_ (congrFun (V_6 m c) _)
  unfold iblk
  generalize V m c main_v6 = v
  blk_simp [i0]
  blk_ext [i0, cq, col]

theorem blk_5 : (iblk m c 5 t : FVec Ideal S1x1408 .f32) (ix2 (0 : Fin 1) k) = fb m c (col 0 (cq t k)) := by
  obtain ⟨-, -, -, -, -, i0, -⟩ := idx t
  unfold fb
  refine Eq.trans ?_ (congrFun (V_main_arg3 m c) _)
  unfold iblk
  generalize V m c main_arg3 = v
  blk_simp [i0]
  blk_ext [i0, cq, col]

theorem blk_6 : (iblk m c 6 t : FVec Ideal S1x1408 .f32) (ix2 (0 : Fin 1) k) = fb m c (col 1 (cq t k)) := by
  obtain ⟨-, -, -, -, -, -, i0, -⟩ := idx t
  unfold fb
  refine Eq.trans ?_ (congrFun (V_main_arg3 m c) _)
  unfold iblk
  generalize V m c main_arg3 = v
  blk_simp [i0]
  blk_ext [i0, cq, col]

/-! ## A tile's rows -/

/-- A product of the upper half of a tile's rows, and one of the lower half. -/
theorem lo_prod (p : Fin 2) {y : FVec Ideal S1x1024x1408 .bf16} (hy : ∀ j, y (ix3 (0 : Fin 1) j k) = fy m c j (col p (cq t k))) (r : Fin 256) :
    (k0_pay5 (F := Ideal) (View.ld (iblk m c 0 t) rowsLo) y : FVec Ideal _ _) (ix2 r k) = H m c ⟨512 * (t.val / 2) + r.val, by have := lt16 t; omega⟩ (col p (cq t k)) :=
  (pay5_apply _ _ r k).trans (Finset.sum_congr rfl fun j _ => congrArg₂ (· * ·) ((lo_apply (iblk m c 0 t) r j).trans (blk_0 m c t _ j)) (hy j))

@[inherit_doc lo_prod] theorem hi_prod (p : Fin 2) {y : FVec Ideal S1x1024x1408 .bf16} (hy : ∀ j, y (ix3 (0 : Fin 1) j k) = fy m c j (col p (cq t k))) (r : Fin 256) :
    (k0_pay5 (F := Ideal) (View.ld (iblk m c 0 t) rowsHi) y : FVec Ideal _ _) (ix2 r k) = H m c ⟨512 * (t.val / 2) + (256 + r.val), by have := lt16 t; omega⟩ (col p (cq t k)) :=
  (pay5_apply _ _ r k).trans (Finset.sum_congr rfl fun j _ => congrArg₂ (· * ·) ((hi_apply (iblk m c 0 t) r j).trans (blk_0 m c t _ j)) (hy j))

/-- Whether a tile is its column's first. -/
theorem first' : ∀ t : Fin cfg0.N, Scalar.cmpi CmpIPredicate.eq (BitVec.ofNat 32 ((grid0.coords t) 0).val) 0#32 = if t.val < 2 then 1#1 else 0#1 :=
  (by decide +kernel : ∀ t : Fin grid0.N, _)

/-- The upper half's rows with the carried rows before them are rows of the padded column. -/
theorem lo_rows (p : Fin 2) {y y' : FVec Ideal S1x1024x1408 .bf16} (hy : ∀ j, y (ix3 (0 : Fin 1) j k) = fy m c j (col p (cq t k)))
    (hy' : 2 ≤ t.val → ∀ j, y' (ix3 (0 : Fin 1) j k) = fy m c j (col p (cq (Run.back t) k))) (e : Fin 264) :
    cat (k0_pay3 (F := Ideal) (grid0.coords t) (k0_pay1 (F := Ideal) (k0_pay28 (F := Ideal) (k0_pay5 (F := Ideal) (View.ld (iblk m c 0 (Run.back t)) rowsHi) y')))) (k0_pay5 (F := Ideal) (View.ld (iblk m c 0 t) rowsLo) y) (ix2 e k)
      = inp (H m c) (col p (cq t k)) (512 * (t.val / 2) + e.val) := by
  have ht := lt16 t
  rw [cat_apply]
  unfold inp
  by_cases e8 : e.val < 8
  · rw [dif_pos e8, pay3_apply, first']
    by_cases h2 : t.val < 2
    · rw [if_pos h2, padded_out _ _ (by omega)]
      rfl
    · rw [if_neg h2, padded_in _ _ (by omega)]
      have hb : (Run.back t).val = t.val - 2 := rfl
      have hc : cq (Run.back t) k = cq t k := Fin.ext (by dsimp only [cq]; rw [hb]; omega)
      refine (tail_apply _ k ⟨e.val, e8⟩).trans ((hi_prod m c (Run.back t) k p (hy' (by omega)) _).trans ?_)
      rw [hc]
      exact congrArg (H m c · _) (Fin.ext (by dsimp only; rw [hb]; omega))
  · rw [dif_neg e8, padded_in _ _ (by omega), lo_prod m c t k p hy]
    exact congrArg (H m c · _) (Fin.ext (by dsimp only; omega))

/-- The lower half's rows with the upper half's last rows before them likewise. -/
theorem hi_rows (p : Fin 2) {y : FVec Ideal S1x1024x1408 .bf16} (hy : ∀ j, y (ix3 (0 : Fin 1) j k) = fy m c j (col p (cq t k))) (e : Fin 264) :
    cat (k0_pay14 (F := Ideal) (k0_pay5 (F := Ideal) (View.ld (iblk m c 0 t) rowsLo) y)) (k0_pay5 (F := Ideal) (View.ld (iblk m c 0 t) rowsHi) y) (ix2 e k)
      = inp (H m c) (col p (cq t k)) (512 * (t.val / 2) + 256 + e.val) := by
  have ht := lt16 t
  rw [cat_apply]
  unfold inp
  rw [padded_in _ _ (by omega)]
  by_cases e8 : e.val < 8
  · rw [dif_pos e8, pay14_apply, lo_prod m c t k p hy]
    exact congrArg (H m c · _) (Fin.ext (by dsimp only; omega))
  · rw [dif_neg e8, hi_prod m c t k p hy]
    exact congrArg (H m c · _) (Fin.ext (by dsimp only; omega))

/-- A row of a tile's convolution is the convolution's. -/
theorem tconv_apply (s : Fin 5632) {w8 : FVec Ideal S8x1408 .f32} {b : FVec Ideal S1x1408 .f32} {X : FVec Ideal S264x1408 .f32} (hw : ∀ j : Fin 3, w8 (ix2 ⟨j.val, by omega⟩ k) = fw m c j s)
    (hb : b (ix2 (0 : Fin 1) k) = fb m c s) (N : ℕ) (hX : ∀ e : Fin 264, X (ix2 e k) = inp (H m c) s (N + e.val)) (r : Fin 256) :
    tconv w8 b X r k = cv (H m c) (fw m c) (fb m c) s (8 + (N + r.val)) := by
  have w0 : w8 (ix2 (0 : Fin 8) k) = _ := hw 0
  have w1 : w8 (ix2 (1 : Fin 8) k) = _ := hw 1
  have w2 : w8 (ix2 (2 : Fin 8) k) = _ := hw 2
  unfold tconv cv conv
  rw [hX, hX, hX, w0, w1, w2, hb]
  exact congrArg (· + _) (congrArg₂ (· + ·) (congrArg₂ (· + ·) (congrArg (_ * inp _ s ·) (by dsimp only; omega)) (congrArg (_ * inp _ s ·) (by dsimp only; omega))) (congrArg (_ * inp _ s ·) (by dsimp only; omega)))

/-- The activations of the upper half of a tile's rows. -/
theorem actA_apply (r : Fin 256) : (actA (F := Ideal) (grid0.coords t) (carriedG m c (Run.back t)) (carriedV m c (Run.back t)) (iblk m c 0 t) (iblk m c 1 t) (iblk m c 2 t) (iblk m c 3 t) (iblk m c 4 t) (iblk m c 5 t) (iblk m c 6 t) : FVec Ideal _ _) (ix2 r k)
    = act (fx m c) (fy m c) (fw m c) (fb m c) ⟨512 * (t.val / 2) + r.val, by have := lt16 t; omega⟩ (cq t k) := by
  unfold actA carriedG carriedV tailG tailV
  rw [taps_eq (iblk m c 3 t), taps_eq (iblk m c 4 t), bias_eq (iblk m c 5 t), bias_eq (iblk m c 6 t), shard_eq (iblk m c 1 t), shard_eq (iblk m c 2 t), shard_eq (iblk m c 1 (Run.back t)), shard_eq (iblk m c 2 (Run.back t))]
  refine (act_apply (iblk m c 3 t) (iblk m c 4 t) (iblk m c 5 t) (iblk m c 6 t) _ r k _).trans ?_
  have eg := tconv_apply m c k (col 0 (cq t k)) (blk_3 m c t k) (blk_5 m c t k) (512 * (t.val / 2)) (lo_rows m c t k 0 (blk_1 m c t k) fun _ => blk_1 m c (Run.back t) k) r
  have ev := tconv_apply m c k (col 1 (cq t k)) (blk_4 m c t k) (blk_6 m c t k) (512 * (t.val / 2)) (lo_rows m c t k 1 (blk_2 m c t k) fun _ => blk_2 m c (Run.back t) k) r
  exact congrArg₂ (fun x y => x * logi x * y) eg ev

/-- The activations of the lower half. -/
theorem actB_apply (r : Fin 256) : (actB (F := Ideal) (iblk m c 0 t) (iblk m c 1 t) (iblk m c 2 t) (iblk m c 3 t) (iblk m c 4 t) (iblk m c 5 t) (iblk m c 6 t) : FVec Ideal _ _) (ix2 r k)
    = act (fx m c) (fy m c) (fw m c) (fb m c) ⟨512 * (t.val / 2) + 256 + r.val, by have := lt16 t; omega⟩ (cq t k) := by
  unfold actB
  rw [taps_eq (iblk m c 3 t), taps_eq (iblk m c 4 t), bias_eq (iblk m c 5 t), bias_eq (iblk m c 6 t), shard_eq (iblk m c 1 t), shard_eq (iblk m c 2 t)]
  refine (act_apply (iblk m c 3 t) (iblk m c 4 t) (iblk m c 5 t) (iblk m c 6 t) _ r k _).trans ?_
  have eg := tconv_apply m c k (col 0 (cq t k)) (blk_3 m c t k) (blk_5 m c t k) (512 * (t.val / 2) + 256) (hi_rows m c t k 0 (blk_1 m c t k)) r
  have ev := tconv_apply m c k (col 1 (cq t k)) (blk_4 m c t k) (blk_6 m c t k) (512 * (t.val / 2) + 256) (hi_rows m c t k 1 (blk_2 m c t k)) r
  exact congrArg₂ (fun x y => x * logi x * y) eg ev

end

/-! ## What a tile leaves -/

section
variable (t : Fin cfg0.N)

/-- Where a block of each result lies. -/
theorem emb_7 (y : ((cfg0.win 7).xblock (cfg0.grid.coords t)).Idx) : (((cfg0.win 7).blk t).view.emb y 0).val = (y 0).val ∧ (((cfg0.win 7).blk t).view.emb y 1).val = 512 * (t.val / 2) + (y 1).val
    ∧ (((cfg0.win 7).blk t).view.emb y 2).val = 1408 * (t.val % 2) + (y 2).val := by
  obtain ⟨-, -, -, -, -, -, -, i0, -⟩ := idx t
  refine ⟨?_, ?_, ?_⟩ <;> blk_simp [i0] <;> try omega

@[inherit_doc emb_7] theorem emb_8 (y : ((cfg0.win 8).xblock (cfg0.grid.coords t)).Idx) : (((cfg0.win 8).blk t).view.emb y 0).val = 512 * (t.val / 2) + (y 0).val
    ∧ (((cfg0.win 8).blk t).view.emb y 1).val = 1408 * (t.val % 2) + (y 1).val := by
  obtain ⟨-, -, -, -, -, -, -, -, i0, -⟩ := idx t
  refine ⟨?_, ?_⟩ <;> blk_simp [i0] <;> try omega

@[inherit_doc emb_7] theorem emb_9 (y : ((cfg0.win 9).xblock (cfg0.grid.coords t)).Idx) : (((cfg0.win 9).blk t).view.emb y 0).val = 1408 * (t.val % 2) + (y 0).val
    ∧ (((cfg0.win 9).blk t).view.emb y 1).val = 512 * (t.val / 2) + (y 1).val := by
  obtain ⟨-, -, -, -, -, -, -, -, -, i0⟩ := idx t
  refine ⟨?_, ?_⟩ <;> blk_simp [i0] <;> try omega

/-- A value at an entry of a stored block is the value at the array's entry: for the products, -/
theorem at_prod (p : Fin 2) (o : ℕ) (ho : o + 256 ≤ 512) (g : FVec Ideal S1x256x1408 .f32) (f : Fin 4096 → Fin 5632 → EReal)
    (hg : ∀ (r : Fin 256) (k : Fin 1408), g (ix3 (0 : Fin 1) r k) = f ⟨512 * (t.val / 2) + (o + r.val), by have := lt16 t; omega⟩ (col p (cq t k))) (y : S1x256x1408.Idx) (z : S2x4096x2816.Idx)
    (z0 : (z 0).val = p.val) (z1 : (z 1).val = 512 * (t.val / 2) + (o + (y 1).val)) (z2 : (z 2).val = 1408 * (t.val % 2) + (y 2).val) : g y = f (z 1) (col (z 0) (z 2)) := by
  have hy : y = ix3 (0 : Fin 1) (y 1 : Fin 256) (y 2 : Fin 1408) := by
    funext x
    fin_cases x
    · exact Subsingleton.elim (α := Fin 1) _ _
    · rfl
    · rfl
  refine (congrArg g hy).trans ((hg _ _).trans ?_)
  rw [show z 0 = p from Fin.ext z0]
  exact congrArg₂ (fun a b => f a (col p b)) (Fin.ext z1.symm) (Fin.ext z2.symm)

/-- for the activations, -/
theorem at_act (o : ℕ) (ho : o + 256 ≤ 512) (g : FVec Ideal S256x1408 .bf16) (f : Fin 4096 → Fin 2816 → EReal)
    (hg : ∀ (r : Fin 256) (k : Fin 1408), (g : FVec Ideal _ _) (ix2 r k) = f ⟨512 * (t.val / 2) + o + r.val, by have := lt16 t; omega⟩ (cq t k)) (y : S256x1408.Idx) (z : S4096x2816.Idx)
    (z0 : (z 0).val = 512 * (t.val / 2) + o + (y 0).val) (z1 : (z 1).val = 1408 * (t.val % 2) + (y 1).val) : g y = f (z 0) (z 1) := by
  have hy : y = ix2 (y 0 : Fin 256) (y 1 : Fin 1408) := by
    funext x
    fin_cases x <;> rfl
  refine (congrArg g hy).trans ((hg _ _).trans ?_)
  exact congrArg₂ f (Fin.ext z0.symm) (Fin.ext z1.symm)

/-- and for their transposes. -/
theorem at_tra (o : ℕ) (ho : o + 256 ≤ 512) (g : FVec Ideal S1408x256 .bf16) (f : Fin 4096 → Fin 2816 → EReal)
    (hg : ∀ (r : Fin 256) (k : Fin 1408), (g : FVec Ideal _ _) (ix2 k r) = f ⟨512 * (t.val / 2) + o + r.val, by have := lt16 t; omega⟩ (cq t k)) (y : S1408x256.Idx) (z : S2816x4096.Idx)
    (z0 : (z 0).val = 1408 * (t.val % 2) + (y 0).val) (z1 : (z 1).val = 512 * (t.val / 2) + o + (y 1).val) : g y = f (z 1) (z 0) := by
  have hy : y = ix2 (y 0 : Fin 1408) (y 1 : Fin 256) := by
    funext x
    fin_cases x <;> rfl
  refine (congrArg g hy).trans ((hg _ _).trans ?_)
  exact congrArg₂ f (Fin.ext z1.symm) (Fin.ext z0.symm)

theorem point_7 (y : S2x512x1408.Idx) : (outU (F := Ideal) (iblk m c 0 t) (iblk m c 1 t) (iblk m c 2 t) : FVec Ideal _ _) y
    = H m c (((cfg0.win 7).blk t).view.emb y 1) (col (((cfg0.win 7).blk t).view.emb y 0) (((cfg0.win 7).blk t).view.emb y 2)) := by
  obtain ⟨e0, e1, e2⟩ := emb_7 t y
  unfold outU
  rw [shard_eq (iblk m c 1 t), shard_eq (iblk m c 2 t)]
  have g11 := fun r k => (pay7_apply (View.ld (iblk m c 0 t) rowsHi) (iblk m c 2 t) r k).trans (hi_prod m c t k 1 (blk_2 m c t k) r)
  have g01 := fun r k => (pay7_apply (View.ld (iblk m c 0 t) rowsHi) (iblk m c 1 t) r k).trans (hi_prod m c t k 0 (blk_1 m c t k) r)
  have g10 := fun r k => (pay7_apply (View.ld (iblk m c 0 t) rowsLo) (iblk m c 2 t) r k).trans (lo_prod m c t k 1 (blk_2 m c t k) r)
  have g00 := fun r k => (pay7_apply (View.ld (iblk m c 0 t) rowsLo) (iblk m c 1 t) r k).trans (lo_prod m c t k 0 (blk_1 m c t k) r)
  rw [pay19_eq, pay18_eq, pay8_eq]
  revert g11 g01 g10 g00
  generalize k0_pay7 (F := Ideal) (View.ld (iblk m c 0 t) rowsHi) (iblk m c 2 t) = p11
  generalize k0_pay7 (F := Ideal) (View.ld (iblk m c 0 t) rowsHi) (iblk m c 1 t) = p01
  generalize k0_pay7 (F := Ideal) (View.ld (iblk m c 0 t) rowsLo) (iblk m c 2 t) = p10
  generalize k0_pay7 (F := Ideal) (View.ld (iblk m c 0 t) rowsLo) (iblk m c 1 t) = p00
  intro g11 g01 g10 g00
  canon_tiles x hx
  · exact at_prod t 1 256 (by omega) _ (H m c) g11 x _ (e0.trans (by have := (x 0).isLt; omega)) (e1.trans (by omega)) (e2.trans (by omega))
  · exact at_prod t 0 256 (by omega) _ (H m c) g01 x _ (e0.trans (by have := (x 0).isLt; omega)) (e1.trans (by omega)) (e2.trans (by omega))
  · exact at_prod t 1 0 (by omega) _ (H m c) (fun r k => (g10 r k).trans (congrArg (H m c · _) (Fin.ext (by dsimp only; omega)))) x _ (e0.trans (by have := (x 0).isLt; omega)) (e1.trans (by omega)) (e2.trans (by omega))
  · exact at_prod t 0 0 (by omega) _ (H m c) (fun r k => (g00 r k).trans (congrArg (H m c · _) (Fin.ext (by dsimp only; omega)))) x _ (e0.trans (by have := (x 0).isLt; omega)) (e1.trans (by omega)) (e2.trans (by omega))

theorem point_8 (y : S512x1408.Idx) : (outA (F := Ideal) (grid0.coords t) (carriedG m c (Run.back t)) (carriedV m c (Run.back t)) (iblk m c 0 t) (iblk m c 1 t) (iblk m c 2 t) (iblk m c 3 t) (iblk m c 4 t) (iblk m c 5 t) (iblk m c 6 t) : FVec Ideal _ _) y
    = act (fx m c) (fy m c) (fw m c) (fb m c) (((cfg0.win 8).blk t).view.emb y 0) (((cfg0.win 8).blk t).view.emb y 1) := by
  obtain ⟨e0, e1⟩ := emb_8 t y
  have a := fun r k => (trunc_apply _ r k).trans (actA_apply m c t k r)
  have b := fun r k => (trunc_apply _ r k).trans (actB_apply m c t k r)
  unfold outA
  revert a b
  generalize actA (F := Ideal) (grid0.coords t) (carriedG m c (Run.back t)) (carriedV m c (Run.back t)) (iblk m c 0 t) (iblk m c 1 t) (iblk m c 2 t) (iblk m c 3 t) (iblk m c 4 t) (iblk m c 5 t) (iblk m c 6 t) = pa
  generalize actB (F := Ideal) (iblk m c 0 t) (iblk m c 1 t) (iblk m c 2 t) (iblk m c 3 t) (iblk m c 4 t) (iblk m c 5 t) (iblk m c 6 t) = pb
  generalize (truncf .bf16 pa bitsLt_bf16_f32 : FVec Ideal S256x1408 .bf16) = qa
  generalize (truncf .bf16 pb bitsLt_bf16_f32 : FVec Ideal S256x1408 .bf16) = qb
  intro a b
  canon_tiles x hx
  · exact at_act t 256 (by omega) _ (act (fx m c) (fy m c) (fw m c) (fb m c)) b x _ (e0.trans (by omega)) (e1.trans (by omega))
  · exact at_act t 0 (by omega) _ (act (fx m c) (fy m c) (fw m c) (fb m c)) a x _ (e0.trans (by omega)) (e1.trans (by omega))

theorem point_9 (y : S1408x512.Idx) : (outT (F := Ideal) (grid0.coords t) (carriedG m c (Run.back t)) (carriedV m c (Run.back t)) (iblk m c 0 t) (iblk m c 1 t) (iblk m c 2 t) (iblk m c 3 t) (iblk m c 4 t) (iblk m c 5 t) (iblk m c 6 t) : FVec Ideal _ _) y
    = act (fx m c) (fy m c) (fw m c) (fb m c) (((cfg0.win 9).blk t).view.emb y 1) (((cfg0.win 9).blk t).view.emb y 0) := by
  obtain ⟨e0, e1⟩ := emb_9 t y
  have a := fun r k => (pay13_apply _ r k).trans (actA_apply m c t k r)
  have b := fun r k => (pay13_apply _ r k).trans (actB_apply m c t k r)
  unfold outT
  revert a b
  generalize k0_pay13 (F := Ideal) (actA (F := Ideal) (grid0.coords t) (carriedG m c (Run.back t)) (carriedV m c (Run.back t)) (iblk m c 0 t) (iblk m c 1 t) (iblk m c 2 t) (iblk m c 3 t) (iblk m c 4 t) (iblk m c 5 t) (iblk m c 6 t)) = qa
  generalize k0_pay13 (F := Ideal) (actB (F := Ideal) (iblk m c 0 t) (iblk m c 1 t) (iblk m c 2 t) (iblk m c 3 t) (iblk m c 4 t) (iblk m c 5 t) (iblk m c 6 t)) = qb
  intro a b
  canon_tiles x hx
  · exact at_tra t 256 (by omega) _ (act (fx m c) (fy m c) (fw m c) (fb m c)) b x _ (e0.trans (by omega)) (e1.trans (by omega))
  · exact at_tra t 0 (by omega) _ (act (fx m c) (fy m c) (fw m c) (fb m c)) a x _ (e0.trans (by omega)) (e1.trans (by omega))

end

/-! ## The results -/

/-- The first result: the product, both halves. -/
theorem final_7 : (Run.dats m 0 c).arrAt 7 cfg0.N = fun y : S2x4096x2816.Idx => H m c (y 1) (col (y 0) (y 2)) := by
  refine (Run.dats m 0 c).arrAt_eq_of_covers 7 _ (by decide +kernel) fun t hf y => ?_
  blk_simp; rw [Run.after_7]
  exact point_7 m c t y

/-- The second: the activation. -/
theorem final_8 : (Run.dats m 0 c).arrAt 8 cfg0.N = fun y : S4096x2816.Idx => act (fx m c) (fy m c) (fw m c) (fb m c) (y 0) (y 1) := by
  refine (Run.dats m 0 c).arrAt_eq_of_covers 8 _ (by decide +kernel) fun t hf y => ?_
  blk_simp; rw [Run.after_8]
  exact point_8 m c t y

/-- The third: its transpose. -/
theorem final_9 : (Run.dats m 0 c).arrAt 9 cfg0.N = fun y : S2816x4096.Idx => act (fx m c) (fy m c) (fw m c) (fb m c) (y 1) (y 0) := by
  refine (Run.dats m 0 c).arrAt_eq_of_covers 9 _ (by decide +kernel) fun t hf y => ?_
  blk_simp; rw [Run.after_9]
  exact point_9 m c t y

end Cert.UpFfnKernelIdeal.Value

end
-- ==== Proof.UpRef.lean ====
/- The reference of the first product and short convolution over the real numbers, entry by entry. -/
module

public import proofs.«01_k».proof.Proof.UpMath
public import proofs.«01_k».proof.Proof.Gen.UpFfnReferenceIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo
open scoped BigOperators

namespace Cert.UpFfnReferenceIdeal.Value

open Cert.UpFfnReferenceIdeal Cert.UpFfnReferenceIdeal.Gen Cert.FfnMath Cert.UpMath

/-- The product, in the reference's operations. -/
def hProd (a0 : FVec Ideal S4096x1024 .f32) (a1 : FVec Ideal S1x1024x5632 .f32) : FVec Ideal S4096x5632 .f32 :=
  Host.dotGeneral dot_S4096x1024_S1024x5632_S4096x5632_1_0_0_1_n_n none a0 (shapeCast _ a1 shapeCasts_S1x1024x5632_S1024x5632)

/-- The product with two rows of zeros before it. -/
def hPad (h : FVec Ideal S4096x5632 .f32) : FVec Ideal S4098x5632 .f32 :=
  concatenate S4098x5632 0 [⟨S2x5632, (broadcastInDim S2x5632 ![] bcast_S_S2x5632 (constant S_ .f32 0x00000000#32))⟩, ⟨S4096x5632, h⟩] concatenates_S2x5632_S4096x5632_S4098x5632_d0

/-- A tap, along the rows. -/
def hTap0 (a2 : FVec Ideal S1x3x5632 .f32) : FVec Ideal S4096x5632 .f32 :=
  broadcastInDim S4096x5632 ![0, 1] bcast_S1x5632_S4096x5632_0_1 (broadcastInDim S1x5632 ![1] bcast_S5632_S1x5632_1 (shapeCast _ (extractStridedSlice S1x1x5632 ![0, 0, 0] a2 slices_S1x3x5632_S1x1x5632_0_0_0) shapeCasts_S1x1x5632_S5632))
@[inherit_doc hTap0] def hTap1 (a2 : FVec Ideal S1x3x5632 .f32) : FVec Ideal S4096x5632 .f32 :=
  broadcastInDim S4096x5632 ![0, 1] bcast_S1x5632_S4096x5632_0_1 (broadcastInDim S1x5632 ![1] bcast_S5632_S1x5632_1 (shapeCast _ (extractStridedSlice S1x1x5632 ![0, 1, 0] a2 slices_S1x3x5632_S1x1x5632_0_1_0) shapeCasts_S1x1x5632_S5632))
@[inherit_doc hTap0] def hTap2 (a2 : FVec Ideal S1x3x5632 .f32) : FVec Ideal S4096x5632 .f32 :=
  broadcastInDim S4096x5632 ![0, 1] bcast_S1x5632_S4096x5632_0_1 (broadcastInDim S1x5632 ![1] bcast_S5632_S1x5632_1 (shapeCast _ (extractStridedSlice S1x1x5632 ![0, 2, 0] a2 slices_S1x3x5632_S1x1x5632_0_2_0) shapeCasts_S1x1x5632_S5632))

/-- The bias, along the rows. -/
def hBias (a3 : FVec Ideal S1x5632 .f32) : FVec Ideal S4096x5632 .f32 :=
  broadcastInDim S4096x5632 ![0, 1] bcast_S1x5632_S4096x5632_0_1 (broadcastInDim S1x5632 ![1] bcast_S5632_S1x5632_1 (shapeCast _ a3 shapeCasts_S1x5632_S5632))

/-- The convolution from the padded product, the taps and the bias. -/
def hConv (z : FVec Ideal S4098x5632 .f32) (w0 w1 w2 b : FVec Ideal S4096x5632 .f32) : FVec Ideal S4096x5632 .f32 :=
  addf (addf (addf (addf (broadcastInDim S4096x5632 ![] bcast_S_S4096x5632 (constant S_ .f32 0x00000000#32)) (mulf w0 (extractStridedSlice S4096x5632 ![0, 0] z slices_S4098x5632_S4096x5632_0_0)))
    (mulf w1 (extractStridedSlice S4096x5632 ![1, 0] z slices_S4098x5632_S4096x5632_1_0))) (mulf w2 (extractStridedSlice S4096x5632 ![2, 0] z slices_S4098x5632_S4096x5632_2_0))) b

/-- The activation from the convolution. -/
def hAct (v : FVec Ideal S4096x5632 .f32) : FVec Ideal S4096x2816 .bf16 :=
  truncf .bf16 (mulf (mulf (extractStridedSlice S4096x2816 ![0, 0] v slices_S4096x5632_S4096x2816_0_0)
    (Host.divf (broadcastInDim S4096x2816 ![] bcast_S_S4096x2816 (constant S_ .f32 0x3F800000#32)) (addf (broadcastInDim S4096x2816 ![] bcast_S_S4096x2816 (constant S_ .f32 0x3F800000#32))
      (Host.exp (Host.negf (extractStridedSlice S4096x2816 ![0, 0] v slices_S4096x5632_S4096x2816_0_0))))))
    (extractStridedSlice S4096x2816 ![0, 2816] v slices_S4096x5632_S4096x2816_0_2816)) bitsLt_bf16_f32

/-- The two halves of the columns, one after the other. -/
def halves (x : FVec Ideal S4096x5632 .f32) : FVec Ideal S2x4096x2816 .f32 :=
  concatenate S2x4096x2816 0 [⟨S1x4096x2816, broadcastInDim S1x4096x2816 ![1, 2] bcast_S4096x2816_S1x4096x2816_1_2 (extractStridedSlice S4096x2816 ![0, 0] x slices_S4096x5632_S4096x2816_0_0)⟩,
    ⟨S1x4096x2816, broadcastInDim S1x4096x2816 ![1, 2] bcast_S4096x2816_S1x4096x2816_1_2 (extractStridedSlice S4096x2816 ![0, 2816] x slices_S4096x5632_S4096x2816_0_2816)⟩] concatenates_S1x4096x2816_S1x4096x2816_S2x4096x2816_d0

section
variable (a0 : FVec Ideal S4096x1024 .f32) (a1 : FVec Ideal S1x1024x5632 .f32) (a2 : FVec Ideal S1x3x5632 .f32) (a3 : FVec Ideal S1x5632 .f32) (R : Fin 4096) (s : Fin 5632) (q : Fin 2816)

/-- The arguments as functions of row and column. -/
abbrev fx : Fin 4096 → Fin 1024 → EReal := fun R j => a0 (ix2 R j)
@[inherit_doc fx] abbrev fy : Fin 1024 → Fin 5632 → EReal := fun j s => a1 (ix3 (0 : Fin 1) j s)
@[inherit_doc fx] abbrev fw : Fin 3 → Fin 5632 → EReal := fun j s => a2 (ix3 (0 : Fin 1) j s)
@[inherit_doc fx] abbrev fb : Fin 5632 → EReal := fun s => a3 (ix2 (0 : Fin 1) s)

theorem prod_apply : hProd a0 a1 (ix2 R s) = prod (fx a0) (fy a1) R s := by
  unfold prod
  pointwise [hProd]

theorem pad_apply (r : Fin 4098) {h : FVec Ideal S4096x5632 .f32} {f : Fin 4096 → Fin 5632 → EReal} (hf : ∀ R, h (ix2 R s) = f R s) : hPad h (ix2 r s) = inp f s (r.val + 6) := by
  unfold inp
  pointwise [hPad]
  by_cases r2 : r.val < 2
  · rw [dif_pos r2, padded_out _ _ (by omega)]
  · rw [dif_neg r2, padded_in _ _ (by omega), hf]
    exact congrArg (fun z => f z s) (Fin.ext (by dsimp only; omega))

theorem tap0_apply : hTap0 a2 (ix2 R s) = fw a2 0 s := by
  pointwise [hTap0]

theorem tap1_apply : hTap1 a2 (ix2 R s) = fw a2 1 s := by
  pointwise [hTap1]

theorem tap2_apply : hTap2 a2 (ix2 R s) = fw a2 2 s := by
  pointwise [hTap2]

theorem bias_apply : hBias a3 (ix2 R s) = fb a3 s := by
  pointwise [hBias]

theorem hConv_apply (z : FVec Ideal S4098x5632 .f32) (w0 w1 w2 b : FVec Ideal S4096x5632 .f32) : hConv z w0 w1 w2 b (ix2 R s)
    = w2 (ix2 R s) * z (ix2 ⟨2 + R.val, by omega⟩ s) + w0 (ix2 R s) * z (ix2 ⟨R.val, by omega⟩ s) + w1 (ix2 R s) * z (ix2 ⟨1 + R.val, by omega⟩ s) + b (ix2 R s) := by
  pointwise [hConv]
  exact congrArg (· + _) ((add_comm _ _).trans (add_assoc _ _ _).symm)

/-- The reference's convolution. -/
abbrev conved : FVec Ideal S4096x5632 .f32 := hConv (hPad (hProd a0 a1)) (hTap0 a2) (hTap1 a2) (hTap2 a2) (hBias a3)

theorem conv_apply : conved a0 a1 a2 a3 (ix2 R s) = cv (prod (fx a0) (fy a1)) (fw a2) (fb a3) s (8 + R.val) := by
  have hp := fun r => pad_apply s r (fun R => prod_apply a0 a1 R s)
  unfold conved cv conv
  rw [hConv_apply, tap0_apply, tap1_apply, tap2_apply, bias_apply, hp, hp, hp]
  exact congrArg (· + _) (congrArg₂ (· + ·) (congrArg₂ (· + ·) (congrArg (_ * inp _ s ·) (by dsimp only; omega)) (congrArg (_ * inp _ s ·) (by dsimp only; omega))) (congrArg (_ * inp _ s ·) (by dsimp only; omega)))

theorem hAct_apply (v : FVec Ideal S4096x5632 .f32) : (hAct v : FVec Ideal _ _) (ix2 R q) = v (ix2 R (col 0 q)) * logi (v (ix2 R (col 0 q))) * v (ix2 R (col 1 q)) := by
  have e0 (z : q.val < 5632) : (⟨q.val, z⟩ : Fin 5632) = col 0 q := Fin.ext (by dsimp only [col]; omega)
  have e1 (z : 2816 + q.val < 5632) : (⟨2816 + q.val, z⟩ : Fin 5632) = col 1 q := Fin.ext (by dsimp only [col]; omega)
  unfold logi
  rw [← e0 (by omega), ← e1 (by omega)]
  pointwise [hAct]
  rw [zero_sub]

theorem halves_apply (x : FVec Ideal S4096x5632 .f32) (p : Fin 2) : halves x (ix3 p R q) = x (ix2 R (col p q)) := by
  fin_cases p
  · pointwise [halves]
    exact congrArg (fun z => x (ix2 R z)) (Fin.ext (by dsimp only [col]; omega))
  · pointwise [halves]
    exact congrArg (fun z => x (ix2 R z)) (Fin.ext (by dsimp only [col]; omega))

/-- The reference's activation. -/
theorem act_apply : (hAct (conved a0 a1 a2 a3) : FVec Ideal _ _) (ix2 R q) = act (fx a0) (fy a1) (fw a2) (fb a3) R q := by
  rw [hAct_apply, conv_apply, conv_apply]
  rfl

theorem transpose_apply (x : FVec Ideal S4096x2816 .bf16) : (transpose S2816x4096 [1, 0] x transposes_S4096x2816_S2816x4096_1_0 : FVec Ideal _ _) (ix2 q R) = x (ix2 R q) := by
  pointwise

end

variable (m : (ℓ : Loc nD τ sig) → Buf (Elt Ideal) ℓ) (c : Dev nD)

/-- The reference's second and third result in these terms. -/
theorem v34_eq : res_main_v34 m c = hAct (conved (m ((c.tc : Thread nD τ).loc main_arg0)) (m ((c.tc : Thread nD τ).loc main_arg1)) (m ((c.tc : Thread nD τ).loc main_arg2)) (m ((c.tc : Thread nD τ).loc main_arg3))) := by
  unfold res_main_v34
  rfl

theorem v40_eq : res_main_v40 m c = transpose S2816x4096 [1, 0] (hAct (conved (m ((c.tc : Thread nD τ).loc main_arg0)) (m ((c.tc : Thread nD τ).loc main_arg1)) (m ((c.tc : Thread nD τ).loc main_arg2)) (m ((c.tc : Thread nD τ).loc main_arg3)))) transposes_S4096x2816_S2816x4096_1_0 := by
  unfold res_main_v40
  rfl

end Cert.UpFfnReferenceIdeal.Value

end
-- ==== Proof.UpClaim.lean ====
/- The first product and short convolution: the kernel and its reference leave the same results over the real numbers. -/
module

public import proofs.«01_k».proof.Proof.UpValue
public import proofs.«01_k».proof.Proof.UpRef
public import proofs.«01_k».proof.Defs

@[expose] public section

set_option maxRecDepth 16384

noncomputable section

open Idealize.ShloMosaic Idealize.ShloMosaic.TcCoe Idealize.SL.Sem Idealize.ShloMosaic.StableHlo

namespace Cert.UpFfnKernelIdeal.Value

open Cert.UpFfnKernelIdeal Cert.UpFfnKernelIdeal.Gen Cert.FfnMath Cert.UpMath

/-- The kernel's run with its results named. -/
theorem run_blocks (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem ((c.tc : Thread nD τ).loc main_v7_0) = (Run.dats m 0 c).arrAt 7 cfg0.N
      ∧ r.2.mem ((c.tc : Thread nD τ).loc main_v7_1) = (Run.dats m 0 c).arrAt 8 cfg0.N
      ∧ r.2.mem ((c.tc : Thread nD τ).loc main_v7_2) = (Run.dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 7, (h.1 c).1 8, (h.1 c).1 9, h.2.1 c⟩)
    (θ_run_and (Run.run_main m ρ) (Run.frame m ρ))

/-- The reference leaves its arguments as they were. -/
theorem reference_frame : Cert.quiescent_UpFfnReferenceIdeal := fun m ρ _ =>
  (θ_run Cert.UpFfnReferenceIdeal.defs _ _).mono (fun r h => ⟨fun c => (h c).2.2.2, sem_eq_zero_of_no_sems (by decide) r.2⟩)
    (Cert.UpFfnReferenceIdeal.Value.run (F := Ideal) m ρ)

/-- The kernel and its reference, run on the same arguments, leave the same three results over the real numbers. -/
theorem algebraic : Cert.algebraic_UpFfnKernelIdeal_UpFfnReferenceIdeal := by
  intro m g m' g' _ hagree
  refine ⟨_, _, _, run_blocks m g, (θ_run Cert.UpFfnReferenceIdeal.defs _ _).mono (fun r hrun c => ?_) (Cert.UpFfnReferenceIdeal.Value.run (F := Ideal) m' g')⟩
  obtain ⟨r0, r1, r2, hr⟩ := hrun c
  obtain ⟨e0, e1, e2, e3⟩ := hagree c
  have a0 : Cert.UpFfnReferenceIdeal.Value.fx (m' ((c.tc : Thread nD τ).loc Cert.UpFfnReferenceIdeal.main_arg0)) = fx m c := funext fun R => funext fun j => congrFun e0 (ix2 R j)
  have a1 : Cert.UpFfnReferenceIdeal.Value.fy (m' ((c.tc : Thread nD τ).loc Cert.UpFfnReferenceIdeal.main_arg1)) = fy m c := funext fun j => funext fun s => congrFun e1 (ix3 (0 : Fin 1) j s)
  have a2 : Cert.UpFfnReferenceIdeal.Value.fw (m' ((c.tc : Thread nD τ).loc Cert.UpFfnReferenceIdeal.main_arg2)) = fw m c := funext fun j => funext fun s => congrFun e2 (ix3 (0 : Fin 1) j s)
  have a3 : Cert.UpFfnReferenceIdeal.Value.fb (m' ((c.tc : Thread nD τ).loc Cert.UpFfnReferenceIdeal.main_arg3)) = fb m c := funext fun s => congrFun e3 (ix2 (0 : Fin 1) s)
  have p := fun R s => Cert.UpFfnReferenceIdeal.Value.prod_apply (m' ((c.tc : Thread nD τ).loc Cert.UpFfnReferenceIdeal.main_arg0)) (m' ((c.tc : Thread nD τ).loc Cert.UpFfnReferenceIdeal.main_arg1)) R s
  have v := fun R q => Cert.UpFfnReferenceIdeal.Value.act_apply (m' ((c.tc : Thread nD τ).loc Cert.UpFfnReferenceIdeal.main_arg0)) (m' ((c.tc : Thread nD τ).loc Cert.UpFfnReferenceIdeal.main_arg1))
    (m' ((c.tc : Thread nD τ).loc Cert.UpFfnReferenceIdeal.main_arg2)) (m' ((c.tc : Thread nD τ).loc Cert.UpFfnReferenceIdeal.main_arg3)) R q
  rw [a0, a1] at p
  rw [a0, a1, a2, a3] at v
  refine ⟨r0.trans ?_, r1.trans ?_, r2.trans ?_, hr⟩
  · rw [final_7]
    funext y
    have hy : y = ix3 (y 0 : Fin 2) (y 1 : Fin 4096) (y 2 : Fin 2816) := by
      funext x
      fin_cases x <;> rfl
    exact (congrArg _ hy).trans ((Cert.UpFfnReferenceIdeal.Value.halves_apply (y 1) (y 2) (Cert.UpFfnReferenceIdeal.Value.hProd _ _) (y 0)).trans (p (y 1) (col (y 0) (y 2))))
  · rw [final_8, Cert.UpFfnReferenceIdeal.Value.v34_eq]
    funext y
    have hy : y = ix2 (y 0 : Fin 4096) (y 1 : Fin 2816) := by
      funext x
      fin_cases x <;> rfl
    exact (congrArg _ hy).trans (v (y 0) (y 1))
  · rw [final_9, Cert.UpFfnReferenceIdeal.Value.v40_eq]
    funext y
    have hy : y = ix2 (y 0 : Fin 2816) (y 1 : Fin 4096) := by
      funext x
      fin_cases x <;> rfl
    exact (congrArg _ hy).trans ((Cert.UpFfnReferenceIdeal.Value.transpose_apply (y 1) (y 0) _).trans (v (y 1) (y 0)))

end Cert.UpFfnKernelIdeal.Value

end
-- ==== Proof.PrepMath.lean ====
/- The norm of each head of a row, read off a selector of heads and spread back over the lanes. -/
module

public import Idealize.ShloMosaic.Lib.Pipeline.ValueKit
public import proofs.«01_k».proof.Proof.FoxReal
public import proofs.«01_k».proof.Proof.Consts

@[expose] public section

noncomputable section

namespace Cert.PrepMath

open Idealize.ShloMosaic Idealize.ShloMosaic.Ideal
open scoped BigOperators

/-- The length of a head. -/
theorem ofBits_64 : Ideal.ofBits .f32 0x42800000#32 = ((64 : ℝ) : EReal) := by
  simp [Ideal.ofBits, Ideal.ieee, -EReal.coe_mul]; norm_num

/-- One over the length of a head. -/
theorem ofBits_inv_64 : Ideal.ofBits .f32 0x3C800000#32 = ((1 / 64 : ℝ) : EReal) := by
  simp [Ideal.ofBits, Ideal.ieee, -EReal.coe_mul]; norm_num

/-- The mean square of a head, with the small constant added. -/
def ms (x : Fin 64 → EReal) : EReal := Ideal.div (∑ d, x d * x d) (Ideal.ofBits .f32 0x42800000#32) + Ideal.ofBits .f32 0x358637BD#32

/-- The reciprocal of its root. -/
def rstd (x : Fin 64 → EReal) : EReal := Ideal.rsqrt (ms x)

/-- The head that holds a column. -/
def hd (k : Fin 1024) : Fin 16 := ⟨k.val / 64, by omega⟩

/-- A column of a head. -/
def lane (h : Fin 16) (d : Fin 64) : Fin 1024 := ⟨64 * h.val + d.val, by omega⟩

/-- The norm of a row, head by head. -/
def norm (x : Fin 1024 → EReal) (w : Fin 64 → EReal) (k : Fin 1024) : EReal :=
  x k * rstd (fun d => x (lane (hd k) d)) * w ⟨k.val % 64, Nat.mod_lt _ (by norm_num)⟩

/-- The selector of heads: one where a lane is the head that holds a column. -/
def sel (k : Fin 1024) (l : Fin 128) : EReal := if k.val / 64 = l.val then 1 else 0

/-- The reciprocal of the root of a head's mean square, taken through the selector. -/
def ksel (x : Fin 1024 → EReal) (l : Fin 128) : EReal :=
  Ideal.rsqrt ((∑ k, x k * x k * sel k l) * Ideal.ofBits .f32 0x3C800000#32 + Ideal.ofBits .f32 0x358637BD#32)

/-- The same spread back over the columns, in two pieces. -/
def spread (x : Fin 1024 → EReal) (k : Fin 1024) : EReal :=
  (∑ l, ksel x l * sel k l) + ∑ l, (ksel x l - ksel x l) * sel k l

theorem sel_nonneg (k : Fin 1024) (l : Fin 128) : 0 ≤ sel k l := by
  unfold sel
  split_ifs
  · exact zero_le_one
  · exact le_refl _

/-- A square is not negative, at the infinities either. -/
theorem sq_nonneg (x : EReal) : 0 ≤ x * x := by
  induction x using EReal.rec with
  | bot => simp
  | top => simp
  | coe a => rw [FoxMath.coe_mul]; exact_mod_cast mul_self_nonneg a

/-- The reciprocal of the root of a mean square is a real number. -/
theorem ksel_real (x : Fin 1024 → EReal) (l : Fin 128) : ∃ r : ℝ, ksel x l = (r : EReal) := by
  obtain ⟨e, he, e1⟩ := Consts.ofBits_eps
  have h0 : 0 ≤ ∑ k, x k * x k * sel k l := Finset.sum_nonneg fun k _ => mul_nonneg (sq_nonneg _) (sel_nonneg _ _)
  unfold ksel
  rw [ofBits_inv_64, e1]
  generalize ∑ k, x k * x k * sel k l = s at h0 ⊢
  induction s using EReal.rec with
  | bot => exact absurd h0 (by simp)
  | top =>
    rw [EReal.top_mul_coe_of_pos (by norm_num), EReal.top_add_coe, Ideal.rsqrt_top]
    exact ⟨0, rfl⟩
  | coe a =>
    have ha : 0 ≤ a := by exact_mod_cast h0
    have hv : 0 < a * (1 / 64) + e := by positivity
    rw [FoxMath.coe_mul, ← EReal.coe_add, Ideal.rsqrt_coe, if_neg hv.le.not_gt, if_neg hv.ne']
    exact ⟨_, rfl⟩

/-- A sum against the selector's row picks one head. -/
theorem sum_sel (f : Fin 128 → EReal) (k : Fin 1024) : ∑ l, f l * sel k l = f ⟨k.val / 64, by omega⟩ := by
  rw [Finset.sum_eq_single (⟨k.val / 64, by omega⟩ : Fin 128)]
  · unfold sel; rw [if_pos rfl, mul_one]
  · intro l _ hl
    unfold sel
    rw [if_neg fun h => hl (Fin.ext h.symm), mul_zero]
  · exact fun h => absurd (Finset.mem_univ _) h

/-- A sum against the selector's column is the sum over the head. -/
theorem sum_head (f : Fin 1024 → EReal) (h : Fin 16) : ∑ k, f k * sel k ⟨h.val, by omega⟩ = ∑ d, f (lane h d) := by
  rw [← Equiv.sum_comp (finProdFinEquiv (m := 16) (n := 64)), Fintype.sum_prod_type, Finset.sum_eq_single h]
  · refine Finset.sum_congr rfl fun d _ => ?_
    unfold sel
    have e : (finProdFinEquiv (m := 16) (n := 64) (h, d) : Fin 1024) = lane h d := Fin.ext (Nat.add_comm _ _)
    rw [e, if_pos (show (lane h d).val / 64 = h.val by show (64 * h.val + d.val) / 64 = h.val; omega), mul_one]
  · intro g _ hg
    refine Finset.sum_eq_zero fun d _ => ?_
    unfold sel
    have e : (finProdFinEquiv (m := 16) (n := 64) (g, d) : Fin 1024) = lane g d := Fin.ext (Nat.add_comm _ _)
    rw [e, if_neg (show ¬ (lane g d).val / 64 = h.val from fun e => hg (Fin.ext (by have e : (64 * g.val + d.val) / 64 = h.val := e; omega))), mul_zero]
  · exact fun h => absurd (Finset.mem_univ _) h

/-- Through the selector and back, a column gets its own head's reciprocal root. -/
theorem spread_eq (x : Fin 1024 → EReal) (k : Fin 1024) : spread x k = rstd (fun d => x (lane (hd k) d)) := by
  unfold spread
  rw [sum_sel (fun l => ksel x l) k, Finset.sum_eq_zero fun l _ => ?_, add_zero]
  · unfold ksel rstd ms
    have e : ∑ j, x j * x j * sel j ⟨k.val / 64, by omega⟩ = ∑ d, x (lane (hd k) d) * x (lane (hd k) d) := sum_head (fun k => x k * x k) (hd k)
    rw [e, ofBits_64, ofBits_inv_64, Ideal.div_coe (by norm_num)]
  · obtain ⟨r, hr⟩ := ksel_real x l
    rw [hr, ← EReal.coe_sub, sub_self, EReal.coe_zero, zero_mul]

end Cert.PrepMath

end
-- ==== Proof.PrepHost.lean ====
/- The arrays that the host prepares for the call that prepares queries and keys, at the real numbers. -/
module

public import proofs.«01_k».proof.Proof.Gen.PrepKernelIdeal.Frame
public import proofs.«01_k».proof.Proof.NormInValue
public import proofs.«01_k».proof.Proof.PrepMath

@[expose] public section

set_option maxRecDepth 16384

noncomputable section

open Idealize.ShloMosaic Idealize.ShloMosaic.TcCoe Idealize.SL.Sem
open Idealize.ShloMosaic.Pipeline (Dat)
open scoped BigOperators

namespace Cert.PrepKernelIdeal.Value

open Cert.PrepKernelIdeal Cert.PrepKernelIdeal.Gen
open Cert.NormInKernelIdeal.Value (padded padded_pieces colsA colsA_apply)

/-- A norm weight repeated for each head. -/
def tiled (w : FVec Ideal S1x64 .f32) : FVec Ideal S1x1024 .f32 :=
  broadcastInDim S1x1024 ![1] bcast_S1024_S1x1024_1 (shapeCast _ (broadcastInDim S16x64 ![0, 1] bcast_S1x64_S16x64_0_1
    (shapeCast _ (shapeCast _ w shapeCasts_S1x64_S64) shapeCasts_S64_S1x64)) shapeCasts_S16x64_S1024)

theorem tiled_apply (w : FVec Ideal S1x64 .f32) (k : Fin 1024) : tiled w (ix2 (0 : Fin 1) k) = w (ix2 (0 : Fin 1) ⟨k.val % 64, Nat.mod_lt _ (by norm_num)⟩) := by
  pointwise [tiled]

/-- The selector: a column's head, as a row of zeros and one. -/
def selector : FVec Ideal S1024x128 .bf16 :=
  truncf .bf16 (uitofp .f32 (shapeCast _ (broadcastInDim S16x64x128 ![0, 1, 2] bcast_S16x1x128_S16x64x128_0_1_2 (cmpi .eq
    (broadcastInDim S16x1x128 ![0, 1, 2] bcast_S16x1x1_S16x1x128_0_1_2 (broadcastInDim S16x1x1 ![0] bcast_S16_S16x1x1_0 (iotaInDim S16 32 0)))
    (broadcastInDim S16x1x128 ![0, 1, 2] bcast_S1x1x128_S16x1x128_0_1_2 (broadcastInDim S1x1x128 ![2] bcast_S128_S1x1x128_2 (iotaInDim S128 32 0)))))
    shapeCasts_S16x64x128_S1024x128)) bitsLt_bf16_f32

theorem selector_apply (k : Fin 1024) (l : Fin 128) : selector (ix2 k l) = PrepMath.sel k l := by
  pointwise [selector]
  unfold PrepMath.sel
  have hk : k.val / 64 < 2 ^ 32 := by omega
  have hl : l.val < 2 ^ 32 := by omega
  by_cases h : k.val / 64 = l.val
  · rw [if_pos h, h]
    simp [IntOp.cmpi, FloatOps.uitofp]
  · have hn : ¬ BitVec.ofNat 32 (k.val / 64) = BitVec.ofNat 32 l.val := fun e => h (by
      have e' := congrArg BitVec.toNat e
      rwa [BitVec.toNat_ofNat, BitVec.toNat_ofNat, Nat.mod_eq_of_lt hk, Nat.mod_eq_of_lt hl] at e')
    rw [if_neg h]
    simp [IntOp.cmpi, FloatOps.uitofp, hn]

theorem selector_t (k : Fin 1024) (l : Fin 128) : (transpose S128x1024 [1, 0] selector transposes_S1024x128_S128x1024_1_0) (ix2 l k) = PrepMath.sel k l := by
  rw [← selector_apply]
  generalize selector = v
  pointwise

variable (m : (ℓ : Loc nD τ sig) → Buf (Elt Ideal) ℓ) (c : Dev nD)

/-- The arguments on a device. -/
abbrev arg0 : FVec Ideal S4096x5664 .f32 := m ((c.tc : Thread nD τ).loc main_arg0)
@[inherit_doc arg0] abbrev arg2 : FVec Ideal S1x64 .f32 := m ((c.tc : Thread nD τ).loc main_arg2)
@[inherit_doc arg0] abbrev arg3 : FVec Ideal S1x64 .f32 := m ((c.tc : Thread nD τ).loc main_arg3)

theorem V_6 : (V m c main_v6 : S4096x5760.Idx → EReal) = colsA (arg0 m c) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_18 : V m c main_v18 = tiled (arg2 m c) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_23 : V m c main_v23 = tiled (arg3 m c) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_34 : V m c main_v34 = selector := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_99 : V m c main_v99 = transpose S128x1024 [1, 0] selector transposes_S1024x128_S128x1024_1_0 := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end Cert.PrepKernelIdeal.Value

end
-- ==== Proof.PrepPay.lean ====
/- What the kernel that prepares queries and keys computes of one block of rows, entry by entry. -/
module

public import proofs.«01_k».proof.Proof.Gen.PrepKernelIdeal.Skeleton
public import proofs.«01_k».proof.Proof.PrepMath

@[expose] public section

set_option maxRecDepth 16384

noncomputable section

open Idealize.ShloMosaic Idealize.ShloMosaic.TcCoe Idealize.SL.Sem
open scoped BigOperators

namespace Cert.PrepKernelIdeal.Value

open Cert.PrepKernelIdeal Cert.PrepKernelIdeal.Gen

section
variable (x : FVec Ideal S256x1024 .f32) (s : FVec Ideal S1024x128 .bf16) (u : FVec Ideal S128x1024 .bf16) (w : FVec Ideal S1x1024 .f32) (r : Fin 256) (k : Fin 1024)
variable (hs : ∀ k l, s (ix2 k l) = PrepMath.sel k l) (hu : ∀ l k, u (ix2 l k) = PrepMath.sel k l)

include hs hu

/-- The scaled norms of the queries, -/
theorem pay2_apply : (k0_pay2 (F := Ideal) x s u w : FVec Ideal _ _) (ix2 r k)
    = x (ix2 r k) * PrepMath.rstd (fun d => x (ix2 r (PrepMath.lane (PrepMath.hd k) d))) * w (ix2 (0 : Fin 1) k) * Ideal.ofBits .f32 0x3E000000#32 := by
  pointwise [k0_pay2]
  simp only [hs, hu]
  exact congrArg (fun z => x (ix2 r k) * z * w (ix2 (0 : Fin 1) k) * Ideal.ofBits .f32 0x3E000000#32) (PrepMath.spread_eq (fun k => x (ix2 r k)) k)

/-- the norms of the keys, -/
theorem pay5_apply : (k0_pay5 (F := Ideal) (k0_pay3 x) (k0_pay4 x) s u w : FVec Ideal _ _) (ix2 r k)
    = x (ix2 r k) * PrepMath.rstd (fun d => x (ix2 r (PrepMath.lane (PrepMath.hd k) d))) * w (ix2 (0 : Fin 1) k) := by
  pointwise [k0_pay5, k0_pay3, k0_pay4]
  simp only [hs, hu]
  exact congrArg (fun z => x (ix2 r k) * z * w (ix2 (0 : Fin 1) k)) (PrepMath.spread_eq (fun k => x (ix2 r k)) k)

/-- the same as columns, -/
theorem pay6_apply : (k0_pay6 (F := Ideal) (k0_pay3 x) (k0_pay4 x) s u w : FVec Ideal _ _) (ix2 k r)
    = x (ix2 r k) * PrepMath.rstd (fun d => x (ix2 r (PrepMath.lane (PrepMath.hd k) d))) * w (ix2 (0 : Fin 1) k) := by
  refine Eq.trans ?_ (pay5_apply x s u w r k hs hu)
  unfold k0_pay6
  generalize k0_pay5 (F := Ideal) (k0_pay3 x) (k0_pay4 x) s u w = v
  pointwise

omit hs hu

/-- and the values, as rows -/
theorem pay7_apply : (k0_pay7 (F := Ideal) x : FVec Ideal _ _) (ix2 r k) = x (ix2 r k) := by
  pointwise [k0_pay7]

/-- and as columns. -/
theorem pay8_apply : (k0_pay8 (F := Ideal) x : FVec Ideal _ _) (ix2 k r) = x (ix2 r k) := by
  pointwise [k0_pay8]

end

end Cert.PrepKernelIdeal.Value

end
-- ==== Proof.PrepValue.lean ====
/- What the call that prepares queries and keys leaves in five of its results at the real numbers. -/
module

public import proofs.«01_k».proof.Proof.PrepHost
public import proofs.«01_k».proof.Proof.PrepPay

@[expose] public section

set_option maxRecDepth 16384

noncomputable section

open Idealize.ShloMosaic Idealize.ShloMosaic.TcCoe Idealize.SL.Sem
open Idealize.ShloMosaic.Pipeline (Dat)
open scoped BigOperators

namespace Cert.PrepKernelIdeal.Value

open Cert.PrepKernelIdeal Cert.PrepKernelIdeal.Gen
open Cert.NormInKernelIdeal.Value (padded padded_pieces colsA colsA_apply)

variable (m : (ℓ : Loc nD τ sig) → Buf (Elt Ideal) ℓ) (c : Dev nD)

/-- The block each window reads or writes at a grid point. -/
theorem idx : ∀ t : Fin cfg0.N, (win0_0.index t = ![t.val, 2] ∧ win0_1.index t = ![t.val, 3] ∧ win0_2.index t = ![t.val, 4])
    ∧ (win0_5.index t = ![0, 0] ∧ win0_6.index t = ![0, 0] ∧ win0_7.index t = ![0, 0] ∧ win0_8.index t = ![0, 0])
    ∧ (win0_13.index t = ![t.val, 0] ∧ win0_14.index t = ![t.val, 0] ∧ win0_17.index t = ![t.val, 0] ∧ win0_18.index t = ![0, t.val] ∧ win0_20.index t = ![0, t.val]) :=
  (by decide +kernel : ∀ t : Fin grid0.N, _)

theorem lt16 (t : Fin cfg0.N) : t.val < 16 := lt_of_lt_of_eq t.isLt N_0

/-- A row of a grid point in the array. -/
abbrev rowAt (t : Fin cfg0.N) (r : Fin 256) : Fin 4096 := ⟨256 * t.val + r.val, by have := lt16 t; omega⟩

/-- A column of the projection, from column `o` on. -/
def col (o : ℕ) (ho : o + 1024 ≤ 5664) (i : Fin 4096) (k : Fin 1024) : EReal := arg0 m c (ix2 i ⟨o + k.val, by omega⟩)

/-- The kernel's third, fourth and fifth blocks of 1024 columns are the projection's columns from 2576 on. -/
theorem padded_mid (f : Fin 5664 → EReal) (o : ℕ) (h1 : 2048 ≤ o) (h2 : o + 1024 ≤ 5120) (k : Fin 1024) (j : Fin 5760) (hj : j.val = o + k.val) :
    padded f j = f ⟨o + 528 + k.val, by omega⟩ := by
  rw [← padded_pieces]
  split_ifs <;> first | omega | exact congrArg f (Fin.ext (by dsimp only; omega))

/-! ## The blocks of a grid point, entry by entry -/

theorem blk_0 (t : Fin cfg0.N) (r : Fin 256) (k : Fin 1024) :
    (X0_0 m c t : FVec Ideal S256x1024 .f32) (ix2 r k) = col m c 2576 (by norm_num) (rowAt t r) k := by
  obtain ⟨⟨i0, -, -⟩, -, -⟩ := idx t
  refine Eq.trans ?_ ((colsA_apply (arg0 m c) (rowAt t r) ⟨2048 + k.val, by omega⟩).trans (padded_mid _ 2048 (by norm_num) (by norm_num) k _ rfl))
  refine Eq.trans ?_ (congrFun (V_6 m c) (ix2 (rowAt t r) ⟨2048 + k.val, by omega⟩))
  unfold X0_0 Pipeline.Window.fill
  rw [dif_pos (moved0_0 t (ix2 r k))]
  unfold iblk
  generalize V m c main_v6 = v
  blk_simp [i0]
  blk_ext [i0]

theorem blk_1 (t : Fin cfg0.N) (r : Fin 256) (k : Fin 1024) :
    (X0_1 m c t : FVec Ideal S256x1024 .f32) (ix2 r k) = col m c 3600 (by norm_num) (rowAt t r) k := by
  obtain ⟨⟨-, i0, -⟩, -, -⟩ := idx t
  refine Eq.trans ?_ ((colsA_apply (arg0 m c) (rowAt t r) ⟨3072 + k.val, by omega⟩).trans (padded_mid _ 3072 (by norm_num) (by norm_num) k _ rfl))
  refine Eq.trans ?_ (congrFun (V_6 m c) (ix2 (rowAt t r) ⟨3072 + k.val, by omega⟩))
  unfold X0_1 Pipeline.Window.fill
  rw [dif_pos (moved0_1 t (ix2 r k))]
  unfold iblk
  generalize V m c main_v6 = v
  blk_simp [i0]
  blk_ext [i0]

theorem blk_2 (t : Fin cfg0.N) (r : Fin 256) (k : Fin 1024) :
    (X0_2 m c t : FVec Ideal S256x1024 .f32) (ix2 r k) = col m c 4624 (by norm_num) (rowAt t r) k := by
  obtain ⟨⟨-, -, i0⟩, -, -⟩ := idx t
  refine Eq.trans ?_ ((colsA_apply (arg0 m c) (rowAt t r) ⟨4096 + k.val, by omega⟩).trans (padded_mid _ 4096 (by norm_num) (by norm_num) k _ rfl))
  refine Eq.trans ?_ (congrFun (V_6 m c) (ix2 (rowAt t r) ⟨4096 + k.val, by omega⟩))
  unfold X0_2 Pipeline.Window.fill
  rw [dif_pos (moved0_2 t (ix2 r k))]
  unfold iblk
  generalize V m c main_v6 = v
  blk_simp [i0]
  blk_ext [i0]

theorem blk_5 (t : Fin cfg0.N) (k : Fin 1024) :
    (iblk m c 5 t : FVec Ideal S1x1024 .f32) (ix2 (0 : Fin 1) k) = arg2 m c (ix2 (0 : Fin 1) ⟨k.val % 64, Nat.mod_lt _ (by norm_num)⟩) := by
  obtain ⟨-, ⟨i0, -, -, -⟩, -⟩ := idx t
  refine Eq.trans ?_ ((congrFun (V_18 m c) (ix2 (0 : Fin 1) k)).trans (tiled_apply (arg2 m c) k))
  unfold iblk
  generalize V m c main_v18 = v
  blk_simp [i0]
  blk_ext [i0]

theorem blk_6 (t : Fin cfg0.N) (k : Fin 1024) :
    (iblk m c 6 t : FVec Ideal S1x1024 .f32) (ix2 (0 : Fin 1) k) = arg3 m c (ix2 (0 : Fin 1) ⟨k.val % 64, Nat.mod_lt _ (by norm_num)⟩) := by
  obtain ⟨-, ⟨-, i0, -, -⟩, -⟩ := idx t
  refine Eq.trans ?_ ((congrFun (V_23 m c) (ix2 (0 : Fin 1) k)).trans (tiled_apply (arg3 m c) k))
  unfold iblk
  generalize V m c main_v23 = v
  blk_simp [i0]
  blk_ext [i0]

theorem blk_7 (t : Fin cfg0.N) (k : Fin 1024) (l : Fin 128) : (iblk m c 7 t : FVec Ideal S1024x128 .bf16) (ix2 k l) = PrepMath.sel k l := by
  obtain ⟨-, ⟨-, -, i0, -⟩, -⟩ := idx t
  refine Eq.trans ?_ ((congrFun (V_34 m c) (ix2 k l)).trans (selector_apply k l))
  unfold iblk
  generalize V m c main_v34 = v
  blk_simp [i0]
  blk_ext [i0]

theorem blk_8 (t : Fin cfg0.N) (l : Fin 128) (k : Fin 1024) : (iblk m c 8 t : FVec Ideal S128x1024 .bf16) (ix2 l k) = PrepMath.sel k l := by
  obtain ⟨-, ⟨-, -, -, i0⟩, -⟩ := idx t
  refine Eq.trans ?_ ((congrFun (V_99 m c) (ix2 l k)).trans (selector_t k l))
  unfold iblk
  generalize V m c main_v99 = v
  blk_simp [i0]
  blk_ext [i0]

/-! ## The five results -/

/-- The scaled norm of a query, -/
def Q (i : Fin 4096) (k : Fin 1024) : EReal := PrepMath.norm (col m c 2576 (by norm_num) i) (fun d => arg2 m c (ix2 (0 : Fin 1) d)) k * Ideal.ofBits .f32 0x3E000000#32

/-- the norm of a key, -/
def K (i : Fin 4096) (k : Fin 1024) : EReal := PrepMath.norm (col m c 3600 (by norm_num) i) (fun d => arg3 m c (ix2 (0 : Fin 1) d)) k

/-- and a value. -/
def W (i : Fin 4096) (k : Fin 1024) : EReal := col m c 4624 (by norm_num) i k

theorem emb (t : Fin cfg0.N) :
    ((∀ y : ((cfg0.win 13).xblock (cfg0.grid.coords t)).Idx, ((((cfg0.win 13).blk t).view.emb y 0 : Fin _) : ℕ) = 256 * t.val + (y 0 : ℕ) ∧ ((((cfg0.win 13).blk t).view.emb y 1 : Fin _) : ℕ) = (y 1 : ℕ))
    ∧ (∀ y : ((cfg0.win 14).xblock (cfg0.grid.coords t)).Idx, ((((cfg0.win 14).blk t).view.emb y 0 : Fin _) : ℕ) = 256 * t.val + (y 0 : ℕ) ∧ ((((cfg0.win 14).blk t).view.emb y 1 : Fin _) : ℕ) = (y 1 : ℕ))
    ∧ (∀ y : ((cfg0.win 17).xblock (cfg0.grid.coords t)).Idx, ((((cfg0.win 17).blk t).view.emb y 0 : Fin _) : ℕ) = 256 * t.val + (y 0 : ℕ) ∧ ((((cfg0.win 17).blk t).view.emb y 1 : Fin _) : ℕ) = (y 1 : ℕ)))
    ∧ (∀ y : ((cfg0.win 18).xblock (cfg0.grid.coords t)).Idx, ((((cfg0.win 18).blk t).view.emb y 0 : Fin _) : ℕ) = (y 0 : ℕ) ∧ ((((cfg0.win 18).blk t).view.emb y 1 : Fin _) : ℕ) = 256 * t.val + (y 1 : ℕ))
    ∧ (∀ y : ((cfg0.win 20).xblock (cfg0.grid.coords t)).Idx, ((((cfg0.win 20).blk t).view.emb y 0 : Fin _) : ℕ) = (y 0 : ℕ) ∧ ((((cfg0.win 20).blk t).view.emb y 1 : Fin _) : ℕ) = 256 * t.val + (y 1 : ℕ)) := by
  obtain ⟨-, -, i3, i4, i5, i6, i7⟩ := idx t
  refine ⟨⟨fun y => ⟨?_, ?_⟩, fun y => ⟨?_, ?_⟩, fun y => ⟨?_, ?_⟩⟩, fun y => ⟨?_, ?_⟩, fun y => ⟨?_, ?_⟩⟩ <;> blk_simp [i3, i4, i5, i6, i7] <;> try omega

/-- An entry of a block of rows is the array's. -/
theorem at_rows (f : Fin 4096 → Fin 1024 → EReal) (g : S256x1024.Idx → EReal) (t : Fin cfg0.N) (h : ∀ r k, g (ix2 r k) = f (rowAt t r) k)
    (y : S256x1024.Idx) (a : Fin 4096) (b : Fin 1024) (ha : a.val = 256 * t.val + (y 0).val) (hb : b.val = (y 1).val) : g y = f a b := by
  have hy : y = ix2 (y 0 : Fin 256) (y 1 : Fin 1024) := by
    funext a
    fin_cases a <;> rfl
  rw [hy]
  refine (h _ _).trans ?_
  exact congrArg₂ f (Fin.ext ha.symm) (Fin.ext hb.symm)

/-- An entry of a block of columns is the array's. -/
theorem at_cols (f : Fin 4096 → Fin 1024 → EReal) (g : S1024x256.Idx → EReal) (t : Fin cfg0.N) (h : ∀ r k, g (ix2 k r) = f (rowAt t r) k)
    (y : S1024x256.Idx) (a : Fin 4096) (b : Fin 1024) (ha : a.val = 256 * t.val + (y 1).val) (hb : b.val = (y 0).val) : g y = f a b := by
  have hy : y = ix2 (y 0 : Fin 1024) (y 1 : Fin 256) := by
    funext a
    fin_cases a <;> rfl
  rw [hy]
  refine (h _ _).trans ?_
  exact congrArg₂ f (Fin.ext ha.symm) (Fin.ext hb.symm)

section
variable (t : Fin cfg0.N) (r : Fin 256) (k : Fin 1024)

theorem at_q : (k0_pay2 (F := Ideal) (X0_0 m c t) (iblk m c 7 t) (iblk m c 8 t) (iblk m c 5 t) : FVec Ideal _ _) (ix2 r k) = Q m c (rowAt t r) k := by
  refine (pay2_apply (X0_0 m c t) (iblk m c 7 t) (iblk m c 8 t) (iblk m c 5 t) r k (blk_7 m c t) (blk_8 m c t)).trans ?_
  simp only [blk_0, blk_5]
  rfl

theorem at_k : (k0_pay5 (F := Ideal) (k0_pay3 (X0_1 m c t)) (k0_pay4 (X0_1 m c t)) (iblk m c 7 t) (iblk m c 8 t) (iblk m c 6 t) : FVec Ideal _ _) (ix2 r k) = K m c (rowAt t r) k := by
  refine (pay5_apply (X0_1 m c t) (iblk m c 7 t) (iblk m c 8 t) (iblk m c 6 t) r k (blk_7 m c t) (blk_8 m c t)).trans ?_
  simp only [blk_1, blk_6]
  rfl

theorem at_kt : (k0_pay6 (F := Ideal) (k0_pay3 (X0_1 m c t)) (k0_pay4 (X0_1 m c t)) (iblk m c 7 t) (iblk m c 8 t) (iblk m c 6 t) : FVec Ideal _ _) (ix2 k r) = K m c (rowAt t r) k := by
  refine (pay6_apply (X0_1 m c t) (iblk m c 7 t) (iblk m c 8 t) (iblk m c 6 t) r k (blk_7 m c t) (blk_8 m c t)).trans ?_
  simp only [blk_1, blk_6]
  rfl

theorem at_v : (k0_pay7 (F := Ideal) (X0_2 m c t) : FVec Ideal _ _) (ix2 r k) = W m c (rowAt t r) k := (pay7_apply _ r k).trans (blk_2 m c t r k)

theorem at_vt : (k0_pay8 (F := Ideal) (X0_2 m c t) : FVec Ideal _ _) (ix2 k r) = W m c (rowAt t r) k := (pay8_apply _ r k).trans (blk_2 m c t r k)

end

theorem point_13 (t : Fin cfg0.N) (y : S256x1024.Idx) :
    (outsAt0 m c t.val t.isLt).1 y = Q m c (((cfg0.win 13).blk t).view.emb y 0) (((cfg0.win 13).blk t).view.emb y 1) := by
  obtain ⟨e0, e1⟩ := (emb t).1.1 y
  refine at_rows (Q m c) _ t (fun r k => ?_) y _ _ e0 e1
  refine Eq.trans ?_ (at_q m c t r k)
  by_cases h : t.val % 16 = 0
  on_goal 1 => rw [outsAt0_A m c t h]
  on_goal 2 => rw [outsAt0_B m c t h]
  all_goals frame_out

/-- A result: the scaled norms of the queries. -/
theorem final_13 : (dats m 0 c).arrAt 13 cfg0.N = fun y : S4096x1024.Idx => Q m c (y 0) (y 1) := by
  refine (dats m 0 c).arrAt_eq_of_covers 13 _ (by decide +kernel) fun t hf y => ?_
  blk_simp; rw [after0_13]
  exact point_13 m c t y

theorem point_14 (t : Fin cfg0.N) (y : S256x1024.Idx) :
    (outsAt0 m c t.val t.isLt).2.1 y = K m c (((cfg0.win 14).blk t).view.emb y 0) (((cfg0.win 14).blk t).view.emb y 1) := by
  obtain ⟨e0, e1⟩ := (emb t).1.2.1 y
  refine at_rows (K m c) _ t (fun r k => ?_) y _ _ e0 e1
  refine Eq.trans ?_ (at_k m c t r k)
  by_cases h : t.val % 16 = 0
  on_goal 1 => rw [outsAt0_A m c t h]
  on_goal 2 => rw [outsAt0_B m c t h]
  all_goals frame_out

/-- A result: the norms of the keys. -/
theorem final_14 : (dats m 0 c).arrAt 14 cfg0.N = fun y : S4096x1024.Idx => K m c (y 0) (y 1) := by
  refine (dats m 0 c).arrAt_eq_of_covers 14 _ (by decide +kernel) fun t hf y => ?_
  blk_simp; rw [after0_14]
  exact point_14 m c t y

theorem point_17 (t : Fin cfg0.N) (y : S256x1024.Idx) :
    (outsAt0 m c t.val t.isLt).2.2.2.2.1 y = W m c (((cfg0.win 17).blk t).view.emb y 0) (((cfg0.win 17).blk t).view.emb y 1) := by
  obtain ⟨e0, e1⟩ := (emb t).1.2.2 y
  refine at_rows (W m c) _ t (fun r k => ?_) y _ _ e0 e1
  refine Eq.trans ?_ (at_v m c t r k)
  by_cases h : t.val % 16 = 0
  on_goal 1 => rw [outsAt0_A m c t h]
  on_goal 2 => rw [outsAt0_B m c t h]
  all_goals frame_out

/-- A result: the values. -/
theorem final_17 : (dats m 0 c).arrAt 17 cfg0.N = fun y : S4096x1024.Idx => W m c (y 0) (y 1) := by
  refine (dats m 0 c).arrAt_eq_of_covers 17 _ (by decide +kernel) fun t hf y => ?_
  blk_simp; rw [after0_17]
  exact point_17 m c t y

theorem point_18 (t : Fin cfg0.N) (y : S1024x256.Idx) :
    (outsAt0 m c t.val t.isLt).2.2.2.2.2.1 y = K m c (((cfg0.win 18).blk t).view.emb y 1) (((cfg0.win 18).blk t).view.emb y 0) := by
  obtain ⟨e0, e1⟩ := (emb t).2.1 y
  refine at_cols (K m c) _ t (fun r k => ?_) y _ _ e1 e0
  refine Eq.trans ?_ (at_kt m c t r k)
  by_cases h : t.val % 16 = 0
  on_goal 1 => rw [outsAt0_A m c t h]
  on_goal 2 => rw [outsAt0_B m c t h]
  all_goals frame_out

/-- A result: the norms of the keys as columns. -/
theorem final_18 : (dats m 0 c).arrAt 18 cfg0.N = fun y : S1024x4096.Idx => K m c (y 1) (y 0) := by
  refine (dats m 0 c).arrAt_eq_of_covers 18 _ (by decide +kernel) fun t hf y => ?_
  blk_simp; rw [after0_18]
  exact point_18 m c t y

theorem point_20 (t : Fin cfg0.N) (y : S1024x256.Idx) :
    (outsAt0 m c t.val t.isLt).2.2.2.2.2.2.2.1 y = W m c (((cfg0.win 20).blk t).view.emb y 1) (((cfg0.win 20).blk t).view.emb y 0) := by
  obtain ⟨e0, e1⟩ := (emb t).2.2 y
  refine at_cols (W m c) _ t (fun r k => ?_) y _ _ e1 e0
  refine Eq.trans ?_ (at_vt m c t r k)
  by_cases h : t.val % 16 = 0
  on_goal 1 => rw [outsAt0_A m c t h]
  on_goal 2 => rw [outsAt0_B m c t h]
  all_goals frame_out

/-- A result: the values as columns. -/
theorem final_20 : (dats m 0 c).arrAt 20 cfg0.N = fun y : S1024x4096.Idx => W m c (y 1) (y 0) := by
  refine (dats m 0 c).arrAt_eq_of_covers 20 _ (by decide +kernel) fun t hf y => ?_
  blk_simp; rw [after0_20]
  exact point_20 m c t y

end Cert.PrepKernelIdeal.Value

end
-- ==== Proof.PrepRef.lean ====
/- The reference of the call that prepares queries and keys: its results entry by entry. -/
module

public import Idealize.ShloMosaic.Lib.Claim
public import Idealize.ShloMosaic.Lib.Pipeline.ValueKit
public import proofs.«01_k».proof.Proof.Gen.PrepReferenceIdeal
public import proofs.«01_k».proof.Proof.PrepMath

@[expose] public section

set_option maxRecDepth 16384

noncomputable section

open Idealize.ShloMosaic Idealize.ShloMosaic.TcCoe Idealize.SL.Sem
open scoped BigOperators

namespace Cert.PrepReferenceIdeal.Value

open Cert.PrepReferenceIdeal Cert.PrepReferenceIdeal.Gen

section
variable (a0 : FVec Ideal S4096x5664 .f32) (a2 a3 : FVec Ideal S1x64 .f32)

/-- A column of the projection, from column `o` on. -/
def col (o : ℕ) (ho : o + 1024 ≤ 5664) (i : Fin 4096) (k : Fin 1024) : EReal := a0 (ix2 i ⟨o + k.val, by omega⟩)

/-- The queries head by head. -/
def queries : FVec Ideal S4096x16x64 .f32 := shapeCast _ (extractStridedSlice S4096x1024 ![0, 2576] a0 slices_S4096x5664_S4096x1024_0_2576) shapeCasts_S4096x1024_S4096x16x64

/-- The keys head by head. -/
def keys : FVec Ideal S4096x16x64 .f32 := shapeCast _ (extractStridedSlice S4096x1024 ![0, 3600] a0 slices_S4096x5664_S4096x1024_0_3600) shapeCasts_S4096x1024_S4096x16x64

/-- The norm of each head. -/
def normed (x : FVec Ideal S4096x16x64 .f32) (w : FVec Ideal S1x64 .f32) : FVec Ideal S4096x16x64 .f32 :=
  mulf (mulf x (broadcastInDim S4096x16x64 ![0, 1, 2] bcast_S4096x16x1_S4096x16x64_0_1_2 (Host.rsqrt (addf (Host.divf (broadcastInDim S4096x16x1 ![0, 1] bcast_S4096x16_S4096x16x1_0_1
      (Host.reduceAdd (mulf x x) (constant S_ .f32 0x00000000#32) reducesTo_S4096x16x64_S4096x16_d2 h_S_)) (broadcastInDim S4096x16x1 ![] bcast_S_S4096x16x1 (constant S_ .f32 0x42800000#32)))
      (broadcastInDim S4096x16x1 ![] bcast_S_S4096x16x1 (constant S_ .f32 0x358637BD#32))))))
    (broadcastInDim S4096x16x64 ![0, 1, 2] bcast_S1x1x64_S4096x16x64_0_1_2 (broadcastInDim S1x1x64 ![2] bcast_S64_S1x1x64_2 (shapeCast _ w shapeCasts_S1x64_S64)))

/-- The keys' norms as rows. -/
def flat (x : FVec Ideal S4096x16x64 .f32) : FVec Ideal S4096x1024 .f32 := shapeCast _ x shapeCasts_S4096x16x64_S4096x1024

/-- The scaled norms of the queries, -/
def out0 : FVec Ideal S4096x1024 .bf16 :=
  truncf .bf16 (flat (mulf (normed (queries a0) a2) (broadcastInDim S4096x16x64 ![] bcast_S_S4096x16x64 (constant S_ .f32 0x3E000000#32)))) bitsLt_bf16_f32

/-- the norms of the keys, -/
def out1 : FVec Ideal S4096x1024 .bf16 := truncf .bf16 (flat (normed (keys a0) a3)) bitsLt_bf16_f32

/-- the values, -/
def out2 : FVec Ideal S4096x1024 .bf16 := truncf .bf16 (extractStridedSlice S4096x1024 ![0, 4624] a0 slices_S4096x5664_S4096x1024_0_4624) bitsLt_bf16_f32

/-- the norms of the keys as columns, -/
def out3 : FVec Ideal S1024x4096 .bf16 := truncf .bf16 (transpose S1024x4096 [1, 0] (flat (normed (keys a0) a3)) transposes_S4096x1024_S1024x4096_1_0) bitsLt_bf16_f32

/-- and the values as columns. -/
def out4 : FVec Ideal S1024x4096 .bf16 :=
  truncf .bf16 (transpose S1024x4096 [1, 0] (extractStridedSlice S4096x1024 ![0, 4624] a0 slices_S4096x5664_S4096x1024_0_4624) transposes_S4096x1024_S1024x4096_1_0) bitsLt_bf16_f32

variable (i : Fin 4096) (k : Fin 1024) (h : Fin 16) (d : Fin 64)

theorem queries_apply : queries a0 (ix3 i h d) = col a0 2576 (by norm_num) i (PrepMath.lane h d) := by
  pointwise [queries]
  unfold col PrepMath.lane
  congr 2
  try (apply Fin.ext; dsimp only; omega)

theorem keys_apply : keys a0 (ix3 i h d) = col a0 3600 (by norm_num) i (PrepMath.lane h d) := by
  pointwise [keys]
  unfold col PrepMath.lane
  congr 2
  try (apply Fin.ext; dsimp only; omega)

theorem normed_apply (x : FVec Ideal S4096x16x64 .f32) (w : FVec Ideal S1x64 .f32) :
    normed x w (ix3 i h d) = x (ix3 i h d) * PrepMath.rstd (fun d => x (ix3 i h d)) * w (ix2 (0 : Fin 1) d) := by
  pointwise [normed]
  rfl

theorem flat_apply (x : FVec Ideal S4096x16x64 .f32) : flat x (ix2 i k) = x (ix3 i (PrepMath.hd k) ⟨k.val % 64, Nat.mod_lt _ (by norm_num)⟩) := by
  pointwise [flat]
  congr 2
  try (apply Fin.ext; dsimp only [PrepMath.hd]; omega)

theorem lane_hd : PrepMath.lane (PrepMath.hd k) ⟨k.val % 64, Nat.mod_lt _ (by norm_num)⟩ = k := Fin.ext (Nat.div_add_mod k.val 64)

theorem out0_apply : out0 a0 a2 (ix2 i k) = PrepMath.norm (col a0 2576 (by norm_num) i) (fun d => a2 (ix2 (0 : Fin 1) d)) k * Ideal.ofBits .f32 0x3E000000#32 := by
  refine (flat_apply i k (mulf (normed (queries a0) a2) (broadcastInDim S4096x16x64 ![] bcast_S_S4096x16x64 (constant S_ .f32 0x3E000000#32)))).trans ?_
  refine congrArg (· * Ideal.ofBits .f32 0x3E000000#32) ((normed_apply i _ _ _ _).trans ?_)
  simp only [queries_apply, lane_hd]
  rfl

theorem keyed : flat (normed (keys a0) a3) (ix2 i k) = PrepMath.norm (col a0 3600 (by norm_num) i) (fun d => a3 (ix2 (0 : Fin 1) d)) k := by
  refine (flat_apply i k (normed (keys a0) a3)).trans ((normed_apply i _ _ _ _).trans ?_)
  simp only [keys_apply, lane_hd]
  rfl

theorem out1_apply : out1 a0 a3 (ix2 i k) = PrepMath.norm (col a0 3600 (by norm_num) i) (fun d => a3 (ix2 (0 : Fin 1) d)) k := keyed a0 a3 i k

theorem out2_apply : out2 a0 (ix2 i k) = col a0 4624 (by norm_num) i k := by
  pointwise [out2]
  rfl

theorem out3_apply : out3 a0 a3 (ix2 k i) = PrepMath.norm (col a0 3600 (by norm_num) i) (fun d => a3 (ix2 (0 : Fin 1) d)) k := by
  refine Eq.trans ?_ (keyed a0 a3 i k)
  unfold out3
  generalize flat (normed (keys a0) a3) = v
  pointwise

theorem out4_apply : out4 a0 (ix2 k i) = col a0 4624 (by norm_num) i k := by
  pointwise [out4]
  rfl

end

end Cert.PrepReferenceIdeal.Value

end
-- ==== Proof.PrepClaim.lean ====
/- The call that prepares queries and keys against its reference: five results are the same over the reals. -/
module

public import Idealize.ShloMosaic.Lib.Claim
public import Idealize.ShloMosaic.Lib.Pipeline.ValueKit
public import proofs.«01_k».proof.Proof.Gen.PrepKernelIdeal.Value
public import proofs.«01_k».proof.Proof.Gen.PrepReferenceIdeal.Run
public import proofs.«01_k».proof.Proof.PrepValue
public import proofs.«01_k».proof.Proof.PrepRef
public import proofs.«01_k».proof.Defs

@[expose] public section

set_option maxRecDepth 16384

noncomputable section

open Idealize.ShloMosaic Idealize.ShloMosaic.TcCoe Idealize.SL.Sem
open scoped BigOperators

namespace Cert.PrepKernelIdeal.Value

open Cert.PrepKernelIdeal Cert.PrepKernelIdeal.Gen

variable (m : (ℓ : Loc nD τ sig) → Buf (Elt Ideal) ℓ) (c : Dev nD)

/-- The scaled norms of the queries are the reference's, -/
theorem same_0 : (dats m 0 c).arrAt 13 cfg0.N = Cert.PrepReferenceIdeal.Value.out0 (arg0 m c) (arg2 m c) := by
  refine (final_13 m c).trans (funext fun y => ?_)
  rw [show y = ix2 (y 0 : Fin 4096) (y 1 : Fin 1024) from by funext a; fin_cases a <;> rfl]
  exact (Cert.PrepReferenceIdeal.Value.out0_apply (arg0 m c) (arg2 m c) (y 0) (y 1)).symm

/-- the norms of the keys, -/
theorem same_1 : (dats m 0 c).arrAt 14 cfg0.N = Cert.PrepReferenceIdeal.Value.out1 (arg0 m c) (arg3 m c) := by
  refine (final_14 m c).trans (funext fun y => ?_)
  rw [show y = ix2 (y 0 : Fin 4096) (y 1 : Fin 1024) from by funext a; fin_cases a <;> rfl]
  exact (Cert.PrepReferenceIdeal.Value.out1_apply (arg0 m c) (arg3 m c) (y 0) (y 1)).symm

/-- the values, -/
theorem same_2 : (dats m 0 c).arrAt 17 cfg0.N = Cert.PrepReferenceIdeal.Value.out2 (arg0 m c) := by
  refine (final_17 m c).trans (funext fun y => ?_)
  rw [show y = ix2 (y 0 : Fin 4096) (y 1 : Fin 1024) from by funext a; fin_cases a <;> rfl]
  exact (Cert.PrepReferenceIdeal.Value.out2_apply (arg0 m c) (y 0) (y 1)).symm

/-- the norms of the keys as columns, -/
theorem same_3 : (dats m 0 c).arrAt 18 cfg0.N = Cert.PrepReferenceIdeal.Value.out3 (arg0 m c) (arg3 m c) := by
  refine (final_18 m c).trans (funext fun y => ?_)
  rw [show y = ix2 (y 0 : Fin 1024) (y 1 : Fin 4096) from by funext a; fin_cases a <;> rfl]
  exact (Cert.PrepReferenceIdeal.Value.out3_apply (arg0 m c) (arg3 m c) (y 1) (y 0)).symm

/-- and the values as columns. -/
theorem same_4 : (dats m 0 c).arrAt 20 cfg0.N = Cert.PrepReferenceIdeal.Value.out4 (arg0 m c) := by
  refine (final_20 m c).trans (funext fun y => ?_)
  rw [show y = ix2 (y 0 : Fin 1024) (y 1 : Fin 4096) from by funext a; fin_cases a <;> rfl]
  exact (Cert.PrepReferenceIdeal.Value.out4_apply (arg0 m c) (y 1) (y 0)).symm

/-- The reference leaves its arguments as they were. -/
theorem reference_frame : Cert.quiescent_PrepReferenceIdeal := fun m ρ _ =>
  (θ_run Cert.PrepReferenceIdeal.defs _ _).mono (fun r h => ⟨fun c => (h c).2.2.2.2.2, sem_eq_zero_of_no_sems (by decide) r.2⟩)
    (Cert.PrepReferenceIdeal.Value.run (F := Ideal) m ρ)

/-- The kernel and its reference, run on the same arguments, leave the same five results over the real numbers. -/
theorem algebraic : Cert.algebraic_PrepKernelIdeal_PrepReferenceIdeal := by
  intro m g m' g' _ hagree
  refine ⟨_, _, _, _, _, (θ_run Cert.PrepKernelIdeal.defs _ _).mono (fun r h c => ⟨(h c).1, (h c).2.1, (h c).2.2.2.2.1, (h c).2.2.2.2.2.1, (h c).2.2.2.2.2.2.2.1, (h c).2.2.2.2.2.2.2.2⟩) (run_blocks m g),
    (θ_run Cert.PrepReferenceIdeal.defs _ _).mono (fun r h c => ?_) (Cert.PrepReferenceIdeal.Value.run (F := Ideal) m' g')⟩
  obtain ⟨r0, r1, r2, r3, r4, h⟩ := h c
  obtain ⟨e0, e1, e2, e3⟩ := hagree c
  rw [e0] at r0 r1 r2 r3 r4
  rw [e2] at r0
  rw [e3] at r1 r3
  exact ⟨r0.trans (same_0 m c).symm, r1.trans (same_1 m c).symm, r2.trans (same_2 m c).symm, r3.trans (same_3 m c).symm, r4.trans (same_4 m c).symm, h⟩

end Cert.PrepKernelIdeal.Value

end
-- ==== Proof.lean ====
module

public import proofs.«01_k».proof.Defs
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.LossValue
public import proofs.«01_k».proof.Proof.Gen.FoxKernel.Frame
public import proofs.«01_k».proof.Proof.Gen.FoxKernelIdeal.Frame
public import proofs.«01_k».proof.Proof.Gen.FoxReferenceIdeal.Run
public import proofs.«01_k».proof.Proof.FoxBits
public import proofs.«01_k».proof.Proof.FoxClaim
public import proofs.«01_k».proof.Proof.Gen.FoxFwdKernel.Frame
public import proofs.«01_k».proof.Proof.Gen.FoxFwdKernelIdeal.Frame
public import proofs.«01_k».proof.Proof.Gen.FoxFwdKernelIdeal.Loops
public import proofs.«01_k».proof.Proof.Gen.FoxFwdReferenceIdeal.Run
public import proofs.«01_k».proof.Proof.FwdBits
public import proofs.«01_k».proof.Proof.FwdClaim
public import proofs.«01_k».proof.Proof.Gen.NormKernel.Frame
public import proofs.«01_k».proof.Proof.Gen.NormKernelIdeal.Frame
public import proofs.«01_k».proof.Proof.Gen.NormKernelIdeal.Value
public import proofs.«01_k».proof.Proof.Gen.NormReferenceIdeal.Run
public import proofs.«01_k».proof.Proof.NormClaim
public import proofs.«01_k».proof.Proof.Gen.NormInKernel.Frame
public import proofs.«01_k».proof.Proof.Gen.NormInKernelIdeal.Frame
public import proofs.«01_k».proof.Proof.Gen.NormInKernelIdeal.Value
public import proofs.«01_k».proof.Proof.Gen.NormInReferenceIdeal.Run
public import proofs.«01_k».proof.Proof.NormInClaim
public import proofs.«01_k».proof.Proof.Gen.OutProjKernel.Frame
public import proofs.«01_k».proof.Proof.Gen.OutProjKernelIdeal.Frame
public import proofs.«01_k».proof.Proof.Gen.OutProjKernelIdeal.Value
public import proofs.«01_k».proof.Proof.Gen.OutProjReferenceIdeal.Run
public import proofs.«01_k».proof.Proof.Gen.InProjKernel.Frame
public import proofs.«01_k».proof.Proof.Gen.InProjKernelIdeal.Frame
public import proofs.«01_k».proof.Proof.Gen.InProjKernelIdeal.Value
public import proofs.«01_k».proof.Proof.Gen.InProjReferenceIdeal.Run
public import proofs.«01_k».proof.Proof.OutProjClaim
public import proofs.«01_k».proof.Proof.InProjClaim
public import proofs.«01_k».proof.Proof.Gen.FfnKernel.Frame
public import proofs.«01_k».proof.Proof.Gen.FfnKernelIdeal.Frame
public import proofs.«01_k».proof.Proof.Gen.FfnKernelIdeal.Value
public import proofs.«01_k».proof.Proof.Gen.FfnReferenceIdeal.Run
public import proofs.«01_k».proof.Proof.FfnClaim
public import proofs.«01_k».proof.Proof.Gen.UpFfnReferenceIdeal.Run
public import proofs.«01_k».proof.Proof.Gen.UpFfnKernel.Frame
public import proofs.«01_k».proof.Proof.Gen.UpFfnKernelIdeal.Frame
public import proofs.«01_k».proof.Proof.Gen.UpFfnKernelIdeal.Skeleton
public import proofs.«01_k».proof.Proof.UpBits
public import proofs.«01_k».proof.Proof.UpClaim
public import proofs.«01_k».proof.Proof.Gen.PrepReferenceIdeal.Run
public import proofs.«01_k».proof.Proof.Gen.PrepKernel.Frame
public import proofs.«01_k».proof.Proof.Gen.PrepKernelIdeal.Frame
public import proofs.«01_k».proof.Proof.Gen.PrepKernelIdeal.Value
public import proofs.«01_k».proof.Proof.PrepClaim
public import Idealize.ShloMosaic.Adequacy
public import Idealize.ShloMosaic.Init

@[expose] public section

noncomputable section

namespace Cert.Proof

open Idealize.ShloMosaic Idealize.SL.Sem

/-- The loss kernel and its reference, run on the same arguments, leave the same two results over the real numbers. -/
theorem loss_algebraic : Cert.algebraic_LossKernelIdeal_LossReferenceIdeal := by
  intro m g m' g' _ hagree
  refine ⟨_, _, Cert.LossKernelIdeal.Value.run_blocks m g, (θ_run Cert.LossReferenceIdeal.defs _ _).mono (fun r h c => ?_) (Cert.LossReferenceIdeal.Value.run (F := Ideal) m' g')⟩
  obtain ⟨h20, h24, h⟩ := h c
  obtain ⟨e0, e1, e2, e3⟩ := hagree c
  rw [e0, e1, e2, e3] at h20 h24
  refine ⟨h20.trans (Cert.LossKernelIdeal.Value.final_4 m c).symm, h24.trans (Cert.LossKernelIdeal.Value.final_5 m c).symm, h⟩

/-- The reference leaves its arguments as they were. -/
theorem loss_reference_frame : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run (F := Ideal) m ρ)

/-- The side conditions of the finiteness test's operations. -/
theorem finite_facts : Cert.Pre_finite_foxb.Facts := by
  constructor <;> decide

/-- The side conditions of the forward call's finiteness test. -/
theorem finite_fwd_facts : Cert.Pre_finite_foxf.Facts := by
  constructor <;> decide

/-- The side conditions of `finite_norm2`'s operations. -/
theorem finite_norm2_facts : Cert.Pre_finite_norm2.Facts := by
  constructor <;> decide

/-- The side conditions of `finite_norm1`'s operations. -/
theorem finite_norm1_facts : Cert.Pre_finite_norm1.Facts := by
  constructor <;> decide

/-- The side conditions of `finite_ffn`'s operations. -/
theorem finite_ffn_facts : Cert.Pre_finite_ffn.Facts := by
  constructor <;> decide

theorem claim : Cert.Claim := ⟨Cert.LossKernel.Gen.facts, Cert.LossKernelIdeal.Gen.facts, Cert.LossReferenceIdeal.Gen.facts,
  Cert.FoxKernel.Gen.facts, Cert.FoxKernelIdeal.Gen.facts, Cert.FoxReferenceIdeal.Gen.facts,
  Cert.FoxFwdKernel.Gen.facts, Cert.FoxFwdKernelIdeal.Gen.facts, Cert.FoxFwdReferenceIdeal.Gen.facts,
  Cert.NormKernel.Gen.facts, Cert.NormKernelIdeal.Gen.facts, Cert.NormReferenceIdeal.Gen.facts,
  Cert.NormInKernel.Gen.facts, Cert.NormInKernelIdeal.Gen.facts, Cert.NormInReferenceIdeal.Gen.facts,
  Cert.OutProjKernel.Gen.facts, Cert.OutProjKernelIdeal.Gen.facts, Cert.OutProjReferenceIdeal.Gen.facts,
  Cert.InProjKernel.Gen.facts, Cert.InProjKernelIdeal.Gen.facts, Cert.InProjReferenceIdeal.Gen.facts,
  Cert.FfnKernel.Gen.facts, Cert.FfnKernelIdeal.Gen.facts, Cert.FfnReferenceIdeal.Gen.facts,
  Cert.UpFfnKernel.Gen.facts, Cert.UpFfnKernelIdeal.Gen.facts, Cert.UpFfnReferenceIdeal.Gen.facts,
  Cert.PrepKernel.Gen.facts, Cert.PrepKernelIdeal.Gen.facts, Cert.PrepReferenceIdeal.Gen.facts,
  finite_facts, finite_fwd_facts, finite_norm2_facts, finite_norm1_facts, finite_ffn_facts,
  fun m ρ _ => Cert.LossKernel.Gen.frame m ρ, fun m ρ _ => Cert.LossKernelIdeal.Gen.frame m ρ, loss_reference_frame,
  Cert.FoxKernelIdeal.Run.frame_bits, fun m ρ _ => Cert.FoxKernelIdeal.Run.frame m ρ, fun m ρ _ => Cert.FoxKernelIdeal.Run.frame m ρ,
  Cert.FoxKernelIdeal.Value.reference_frame, fun m ρ _ => Cert.FoxKernelIdeal.Value.reference_frame m ρ trivial,
  Cert.FoxFwdKernelIdeal.Run.frame_bits, fun m ρ _ => Cert.FoxFwdKernelIdeal.Run.frame m ρ, fun m ρ _ => Cert.FoxFwdKernelIdeal.Run.frame m ρ,
  Cert.FoxFwdKernelIdeal.Value.reference_frame, fun m ρ _ => Cert.FoxFwdKernelIdeal.Value.reference_frame m ρ trivial,
  fun m ρ _ => Cert.NormKernel.Gen.frame m ρ, fun m ρ _ => Cert.NormKernelIdeal.Gen.frame m ρ, fun m ρ _ => Cert.NormKernelIdeal.Gen.frame m ρ,
  Cert.NormKernelIdeal.Value.reference_frame, fun m ρ _ => Cert.NormKernelIdeal.Value.reference_frame m ρ trivial,
  fun m ρ _ => Cert.NormInKernel.Gen.frame m ρ, fun m ρ _ => Cert.NormInKernelIdeal.Gen.frame m ρ, fun m ρ _ => Cert.NormInKernelIdeal.Gen.frame m ρ,
  Cert.NormInKernelIdeal.Value.reference_frame, fun m ρ _ => Cert.NormInKernelIdeal.Value.reference_frame m ρ trivial,
  fun m ρ _ => Cert.OutProjKernel.Gen.frame m ρ, fun m ρ _ => Cert.OutProjKernelIdeal.Gen.frame m ρ, Cert.OutProjKernelIdeal.Value.reference_frame,
  fun m ρ _ => Cert.InProjKernel.Gen.frame m ρ, fun m ρ _ => Cert.InProjKernelIdeal.Gen.frame m ρ, Cert.InProjKernelIdeal.Value.reference_frame,
  fun m ρ _ => Cert.FfnKernel.Gen.frame m ρ, fun m ρ _ => Cert.FfnKernelIdeal.Gen.frame m ρ, fun m ρ _ => Cert.FfnKernelIdeal.Gen.frame m ρ,
  Cert.FfnKernelIdeal.Value.reference_frame, fun m ρ _ => Cert.FfnKernelIdeal.Value.reference_frame m ρ trivial,
  Cert.UpFfnKernelIdeal.Run.frame_bits, fun m ρ _ => Cert.UpFfnKernelIdeal.Run.frame m ρ, Cert.UpFfnKernelIdeal.Value.reference_frame,
  fun m ρ _ => Cert.PrepKernel.Gen.frame m ρ, fun m ρ _ => Cert.PrepKernelIdeal.Gen.frame m ρ, Cert.PrepKernelIdeal.Value.reference_frame,
  trivial, loss_algebraic, IdealRules.named_const.statement _ _ _ _ _ rfl, @Cert.FoxKernelIdeal.Value.algebraic finite_facts,
  IdealRules.named_const.statement _ _ _ _ _ rfl, @Cert.FoxFwdKernelIdeal.Value.algebraic finite_fwd_facts,
  trivial, @Cert.NormKernelIdeal.Value.algebraic finite_norm2_facts,
  trivial, @Cert.NormInKernelIdeal.Value.algebraic finite_norm1_facts,
  trivial, Cert.OutProjKernelIdeal.Value.algebraic,
  trivial, Cert.InProjKernelIdeal.Value.algebraic,
  trivial, @Cert.FfnKernelIdeal.Value.algebraic finite_ffn_facts,
  trivial, Cert.UpFfnKernelIdeal.Value.algebraic,
  trivial, Cert.PrepKernelIdeal.Value.algebraic⟩

end Cert.Proof

end
